-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_up [hPre_finite_up : Cert.Pre_finite_up.Facts] (m : (ℓ : Loc Cert.KernelIdeal.nD Cert.KernelIdeal.τ Cert.KernelIdeal.sig) → Buf (Elt Ideal) ℓ) : Prop :=
  ∀ c : Dev Cert.KernelIdeal.nD,
    (Cert.Pre_finite_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_up [hPre_finite_up : Cert.Pre_finite_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDxRms (m : (ℓ : Loc Cert.UpDxRms.nD Cert.UpDxRms.τ Cert.UpDxRms.sig) → Buf (Elt Bits) ℓ) : Prop :=
  True

def Pre_UpDxRmsIdeal (m : (ℓ : Loc Cert.UpDxRmsIdeal.nD Cert.UpDxRmsIdeal.τ Cert.UpDxRmsIdeal.sig) → Buf (Elt Ideal) ℓ) : Prop :=
  True

def Pre_UpDxRmsRefIdeal (m : (ℓ : Loc Cert.UpDxRmsRefIdeal.nD Cert.UpDxRmsRefIdeal.τ Cert.UpDxRmsRefIdeal.sig) → Buf (Elt Ideal) ℓ) : Prop :=
  True

def Pre_LatBwd (m : (ℓ : Loc Cert.LatBwd.nD Cert.LatBwd.τ Cert.LatBwd.sig) → Buf (Elt Bits) ℓ) : Prop :=
  True

def Pre_LatBwdIdeal (m : (ℓ : Loc Cert.LatBwdIdeal.nD Cert.LatBwdIdeal.τ Cert.LatBwdIdeal.sig) → Buf (Elt Ideal) ℓ) : Prop :=
  True

def Pre_LatBwdRefIdeal (m : (ℓ : Loc Cert.LatBwdRefIdeal.nD Cert.LatBwdRefIdeal.τ Cert.LatBwdRefIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_ODxRefIdeal (m : (ℓ : Loc Cert.ODxRefIdeal.nD Cert.ODxRefIdeal.τ Cert.ODxRefIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwRefIdeal (m : (ℓ : Loc Cert.ODwRefIdeal.nD Cert.ODwRefIdeal.τ Cert.ODwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_QUpDx (m : (ℓ : Loc Cert.QUpDx.nD Cert.QUpDx.τ Cert.QUpDx.sig) → Buf (Elt Bits) ℓ) : Prop :=
  True

def Pre_QUpDxIdeal (m : (ℓ : Loc Cert.QUpDxIdeal.nD Cert.QUpDxIdeal.τ Cert.QUpDxIdeal.sig) → Buf (Elt Ideal) ℓ) : Prop :=
  True

def Pre_QUpDxRefIdeal (m : (ℓ : Loc Cert.QUpDxRefIdeal.nD Cert.QUpDxRefIdeal.τ Cert.QUpDxRefIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwRefIdeal (m : (ℓ : Loc Cert.QUpDwRefIdeal.nD Cert.QUpDwRefIdeal.τ Cert.QUpDwRefIdeal.sig) → Buf (Elt Ideal) ℓ) : Prop :=
  True

def Pre_KvUpDx (m : (ℓ : Loc Cert.KvUpDx.nD Cert.KvUpDx.τ Cert.KvUpDx.sig) → Buf (Elt Bits) ℓ) : Prop :=
  True

def Pre_KvUpDxIdeal (m : (ℓ : Loc Cert.KvUpDxIdeal.nD Cert.KvUpDxIdeal.τ Cert.KvUpDxIdeal.sig) → Buf (Elt Ideal) ℓ) : Prop :=
  True

def Pre_KvUpDxRefIdeal (m : (ℓ : Loc Cert.KvUpDxRefIdeal.nD Cert.KvUpDxRefIdeal.τ Cert.KvUpDxRefIdeal.sig) → Buf (Elt Ideal) ℓ) : Prop :=
  True

def Pre_KvUpDw (m : (ℓ : Loc Cert.KvUpDw.nD Cert.KvUpDw.τ Cert.KvUpDw.sig) → Buf (Elt Bits) ℓ) : Prop :=
  True

def Pre_KvUpDwIdeal (m : (ℓ : Loc Cert.KvUpDwIdeal.nD Cert.KvUpDwIdeal.τ Cert.KvUpDwIdeal.sig) → Buf (Elt Ideal) ℓ) : Prop :=
  True

def Pre_KvUpDwRefIdeal (m : (ℓ : Loc Cert.KvUpDwRefIdeal.nD Cert.KvUpDwRefIdeal.τ Cert.KvUpDwRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_ORms (m : (ℓ : Loc Cert.ORms.nD Cert.ORms.τ Cert.ORms.sig) → Buf (Elt Bits) ℓ) : Prop :=
  True

def Pre_ORmsIdeal (m : (ℓ : Loc Cert.ORmsIdeal.nD Cert.ORmsIdeal.τ Cert.ORmsIdeal.sig) → Buf (Elt Ideal) ℓ) : Prop :=
  True

def Pre_ORmsRefIdeal (m : (ℓ : Loc Cert.ORmsRefIdeal.nD Cert.ORmsRefIdeal.τ Cert.ORmsRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_MemxBwd (m : (ℓ : Loc Cert.MemxBwd.nD Cert.MemxBwd.τ Cert.MemxBwd.sig) → Buf (Elt Bits) ℓ) : Prop :=
  True

def Pre_MemxBwdIdeal (m : (ℓ : Loc Cert.MemxBwdIdeal.nD Cert.MemxBwdIdeal.τ Cert.MemxBwdIdeal.sig) → Buf (Elt Ideal) ℓ) : Prop :=
  True

def Pre_MemxBwdIdeal_finite_reads [hPre_finite_reads : Cert.Pre_finite_reads.Facts] (m : (ℓ : Loc Cert.MemxBwdIdeal.nD Cert.MemxBwdIdeal.τ Cert.MemxBwdIdeal.sig) → Buf (Elt Ideal) ℓ) : Prop :=
  ∀ c : Dev Cert.MemxBwdIdeal.nD,
    (Cert.Pre_finite_reads.fn (F := Ideal) (m ((c.tc : Thread Cert.MemxBwdIdeal.nD Cert.MemxBwdIdeal.τ).loc Cert.MemxBwdIdeal.main_arg0)) (m ((c.tc : Thread Cert.MemxBwdIdeal.nD Cert.MemxBwdIdeal.τ).loc Cert.MemxBwdIdeal.main_arg1)) (m ((c.tc : Thread Cert.MemxBwdIdeal.nD Cert.MemxBwdIdeal.τ).loc Cert.MemxBwdIdeal.main_arg2)) (m ((c.tc : Thread Cert.MemxBwdIdeal.nD Cert.MemxBwdIdeal.τ).loc Cert.MemxBwdIdeal.main_arg3)) (m ((c.tc : Thread Cert.MemxBwdIdeal.nD Cert.MemxBwdIdeal.τ).loc Cert.MemxBwdIdeal.main_arg4))) = (fun _ => 1#1)

def Pre_MemxBwdRefIdeal (m : (ℓ : Loc Cert.MemxBwdRefIdeal.nD Cert.MemxBwdRefIdeal.τ Cert.MemxBwdRefIdeal.sig) → Buf (Elt Ideal) ℓ) : Prop :=
  True

def Pre_MemxBwdRefIdeal_finite_reads [hPre_finite_reads : Cert.Pre_finite_reads.Facts] (m : (ℓ : Loc Cert.MemxBwdRefIdeal.nD Cert.MemxBwdRefIdeal.τ Cert.MemxBwdRefIdeal.sig) → Buf (Elt Ideal) ℓ) : Prop :=
  ∀ c : Dev Cert.MemxBwdRefIdeal.nD,
    (Cert.Pre_finite_reads.fn (F := Ideal) (m ((c.tc : Thread Cert.MemxBwdRefIdeal.nD Cert.MemxBwdRefIdeal.τ).loc Cert.MemxBwdRefIdeal.main_arg0)) (m ((c.tc : Thread Cert.MemxBwdRefIdeal.nD Cert.MemxBwdRefIdeal.τ).loc Cert.MemxBwdRefIdeal.main_arg1)) (m ((c.tc : Thread Cert.MemxBwdRefIdeal.nD Cert.MemxBwdRefIdeal.τ).loc Cert.MemxBwdRefIdeal.main_arg2)) (m ((c.tc : Thread Cert.MemxBwdRefIdeal.nD Cert.MemxBwdRefIdeal.τ).loc Cert.MemxBwdRefIdeal.main_arg3)) (m ((c.tc : Thread Cert.MemxBwdRefIdeal.nD Cert.MemxBwdRefIdeal.τ).loc Cert.MemxBwdRefIdeal.main_arg4))) = (fun _ => 1#1)

def Pre_MemkvBwd (m : (ℓ : Loc Cert.MemkvBwd.nD Cert.MemkvBwd.τ Cert.MemkvBwd.sig) → Buf (Elt Bits) ℓ) : Prop :=
  True

def Pre_MemkvBwdIdeal (m : (ℓ : Loc Cert.MemkvBwdIdeal.nD Cert.MemkvBwdIdeal.τ Cert.MemkvBwdIdeal.sig) → Buf (Elt Ideal) ℓ) : Prop :=
  True

def Pre_MemkvBwdRefIdeal (m : (ℓ : Loc Cert.MemkvBwdRefIdeal.nD Cert.MemkvBwdRefIdeal.τ Cert.MemkvBwdRefIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwRefIdeal (m : (ℓ : Loc Cert.MemKvDwRefIdeal.nD Cert.MemKvDwRefIdeal.τ Cert.MemKvDwRefIdeal.sig) → Buf (Elt Ideal) ℓ) : Prop :=
  True

def Pre_MemKvDx (m : (ℓ : Loc Cert.MemKvDx.nD Cert.MemKvDx.τ Cert.MemKvDx.sig) → Buf (Elt Bits) ℓ) : Prop :=
  True

def Pre_MemKvDxIdeal (m : (ℓ : Loc Cert.MemKvDxIdeal.nD Cert.MemKvDxIdeal.τ Cert.MemKvDxIdeal.sig) → Buf (Elt Ideal) ℓ) : Prop :=
  True

def Pre_MemKvDxRefIdeal (m : (ℓ : Loc Cert.MemKvDxRefIdeal.nD Cert.MemKvDxRefIdeal.τ Cert.MemKvDxRefIdeal.sig) → Buf (Elt Ideal) ℓ) : Prop :=
  True

def Pre_MemGainBwd (m : (ℓ : Loc Cert.MemGainBwd.nD Cert.MemGainBwd.τ Cert.MemGainBwd.sig) → Buf (Elt Bits) ℓ) : Prop :=
  True

def Pre_MemGainBwdIdeal (m : (ℓ : Loc Cert.MemGainBwdIdeal.nD Cert.MemGainBwdIdeal.τ Cert.MemGainBwdIdeal.sig) → Buf (Elt Ideal) ℓ) : Prop :=
  True

def Pre_MemGainBwdRefIdeal (m : (ℓ : Loc Cert.MemGainBwdRefIdeal.nD Cert.MemGainBwdRefIdeal.τ Cert.MemGainBwdRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemkvPrep (m : (ℓ : Loc Cert.MemkvPrep.nD Cert.MemkvPrep.τ Cert.MemkvPrep.sig) → Buf (Elt Bits) ℓ) : Prop :=
  True

def Pre_MemkvPrepIdeal (m : (ℓ : Loc Cert.MemkvPrepIdeal.nD Cert.MemkvPrepIdeal.τ Cert.MemkvPrepIdeal.sig) → Buf (Elt Ideal) ℓ) : Prop :=
  True

def Pre_MemkvPrepRefIdeal (m : (ℓ : Loc Cert.MemkvPrepRefIdeal.nD Cert.MemkvPrepRefIdeal.τ Cert.MemkvPrepRefIdeal.sig) → Buf (Elt Ideal) ℓ) : Prop :=
  True

def Pre_MemxFwd (m : (ℓ : Loc Cert.MemxFwd.nD Cert.MemxFwd.τ Cert.MemxFwd.sig) → Buf (Elt Bits) ℓ) : Prop :=
  True

def Pre_MemxFwdIdeal (m : (ℓ : Loc Cert.MemxFwdIdeal.nD Cert.MemxFwdIdeal.τ Cert.MemxFwdIdeal.sig) → Buf (Elt Ideal) ℓ) : Prop :=
  True

def Pre_MemxFwdIdeal_finite_keys [hPre_finite_keys : Cert.Pre_finite_keys.Facts] (m : (ℓ : Loc Cert.MemxFwdIdeal.nD Cert.MemxFwdIdeal.τ Cert.MemxFwdIdeal.sig) → Buf (Elt Ideal) ℓ) : Prop :=
  ∀ c : Dev Cert.MemxFwdIdeal.nD,
    (Cert.Pre_finite_keys.fn (F := Ideal) (m ((c.tc : Thread Cert.MemxFwdIdeal.nD Cert.MemxFwdIdeal.τ).loc Cert.MemxFwdIdeal.main_arg0)) (m ((c.tc : Thread Cert.MemxFwdIdeal.nD Cert.MemxFwdIdeal.τ).loc Cert.MemxFwdIdeal.main_arg1)) (m ((c.tc : Thread Cert.MemxFwdIdeal.nD Cert.MemxFwdIdeal.τ).loc Cert.MemxFwdIdeal.main_arg2)) (m ((c.tc : Thread Cert.MemxFwdIdeal.nD Cert.MemxFwdIdeal.τ).loc Cert.MemxFwdIdeal.main_arg3))) = (fun _ => 1#1)

def Pre_MemxFwdRefIdeal (m : (ℓ : Loc Cert.MemxFwdRefIdeal.nD Cert.MemxFwdRefIdeal.τ Cert.MemxFwdRefIdeal.sig) → Buf (Elt Ideal) ℓ) : Prop :=
  True

def Pre_MemxFwdRefIdeal_finite_keys [hPre_finite_keys : Cert.Pre_finite_keys.Facts] (m : (ℓ : Loc Cert.MemxFwdRefIdeal.nD Cert.MemxFwdRefIdeal.τ Cert.MemxFwdRefIdeal.sig) → Buf (Elt Ideal) ℓ) : Prop :=
  ∀ c : Dev Cert.MemxFwdRefIdeal.nD,
    (Cert.Pre_finite_keys.fn (F := Ideal) (m ((c.tc : Thread Cert.MemxFwdRefIdeal.nD Cert.MemxFwdRefIdeal.τ).loc Cert.MemxFwdRefIdeal.main_arg0)) (m ((c.tc : Thread Cert.MemxFwdRefIdeal.nD Cert.MemxFwdRefIdeal.τ).loc Cert.MemxFwdRefIdeal.main_arg1)) (m ((c.tc : Thread Cert.MemxFwdRefIdeal.nD Cert.MemxFwdRefIdeal.τ).loc Cert.MemxFwdRefIdeal.main_arg2)) (m ((c.tc : Thread Cert.MemxFwdRefIdeal.nD Cert.MemxFwdRefIdeal.τ).loc Cert.MemxFwdRefIdeal.main_arg3))) = (fun _ => 1#1)

def Pre_LatFwd (m : (ℓ : Loc Cert.LatFwd.nD Cert.LatFwd.τ Cert.LatFwd.sig) → Buf (Elt Bits) ℓ) : Prop :=
  True

def Pre_LatFwdIdeal (m : (ℓ : Loc Cert.LatFwdIdeal.nD Cert.LatFwdIdeal.τ Cert.LatFwdIdeal.sig) → Buf (Elt Ideal) ℓ) : Prop :=
  True

def Pre_LatFwdRefIdeal (m : (ℓ : Loc Cert.LatFwdRefIdeal.nD Cert.LatFwdRefIdeal.τ Cert.LatFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_AdamwGate (m : (ℓ : Loc Cert.AdamwGate.nD Cert.AdamwGate.τ Cert.AdamwGate.sig) → Buf (Elt Bits) ℓ) : Prop :=
  True

def Pre_AdamwGateIdeal (m : (ℓ : Loc Cert.AdamwGateIdeal.nD Cert.AdamwGateIdeal.τ Cert.AdamwGateIdeal.sig) → Buf (Elt Ideal) ℓ) : Prop :=
  True

def Pre_AdamwGateRefIdeal (m : (ℓ : Loc Cert.AdamwGateRefIdeal.nD Cert.AdamwGateRefIdeal.τ Cert.AdamwGateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_up [hKernelIdeal : Cert.KernelIdeal.Facts] [hPre_finite_up : Cert.Pre_finite_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_up [hReferenceIdeal : Cert.ReferenceIdeal.Facts] [hPre_finite_up : Cert.Pre_finite_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDxRms [hUpDxRms : Cert.UpDxRms.Facts] : Prop :=
  ∀ (m : (ℓ : Loc Cert.UpDxRms.nD Cert.UpDxRms.τ Cert.UpDxRms.sig) → Buf (Elt Bits) ℓ) (g : Dev Cert.UpDxRms.nD → PrngReg), Pre_UpDxRms m →
    θ_run (Cert.UpDxRms.defs (F := Bits)) (onTc (τ := Cert.UpDxRms.τ) (Cert.UpDxRms.main (F := Bits))) ⟨m, fun _ => 0, g⟩ (fun r => (∀ c : Dev Cert.UpDxRms.nD,
      r.2.mem ((c.tc : Thread Cert.UpDxRms.nD Cert.UpDxRms.τ).loc Cert.UpDxRms.main_arg0) = m ((c.tc : Thread Cert.UpDxRms.nD Cert.UpDxRms.τ).loc Cert.UpDxRms.main_arg0)
      ∧ r.2.mem ((c.tc : Thread Cert.UpDxRms.nD Cert.UpDxRms.τ).loc Cert.UpDxRms.main_arg1) = m ((c.tc : Thread Cert.UpDxRms.nD Cert.UpDxRms.τ).loc Cert.UpDxRms.main_arg1)
      ∧ r.2.mem ((c.tc : Thread Cert.UpDxRms.nD Cert.UpDxRms.τ).loc Cert.UpDxRms.main_arg2) = m ((c.tc : Thread Cert.UpDxRms.nD Cert.UpDxRms.τ).loc Cert.UpDxRms.main_arg2)
      ∧ r.2.mem ((c.tc : Thread Cert.UpDxRms.nD Cert.UpDxRms.τ).loc Cert.UpDxRms.main_arg3) = m ((c.tc : Thread Cert.UpDxRms.nD Cert.UpDxRms.τ).loc Cert.UpDxRms.main_arg3)
      ∧ r.2.mem ((c.tc : Thread Cert.UpDxRms.nD Cert.UpDxRms.τ).loc Cert.UpDxRms.main_arg4) = m ((c.tc : Thread Cert.UpDxRms.nD Cert.UpDxRms.τ).loc Cert.UpDxRms.main_arg4)
      ∧ r.2.mem ((c.tc : Thread Cert.UpDxRms.nD Cert.UpDxRms.τ).loc Cert.UpDxRms.main_arg5) = m ((c.tc : Thread Cert.UpDxRms.nD Cert.UpDxRms.τ).loc Cert.UpDxRms.main_arg5))
      ∧ r.2.sem = fun _ => 0)

def quiescent_UpDxRmsIdeal [hUpDxRmsIdeal : Cert.UpDxRmsIdeal.Facts] : Prop :=
  ∀ (m : (ℓ : Loc Cert.UpDxRmsIdeal.nD Cert.UpDxRmsIdeal.τ Cert.UpDxRmsIdeal.sig) → Buf (Elt Ideal) ℓ) (g : Dev Cert.UpDxRmsIdeal.nD → PrngReg), Pre_UpDxRmsIdeal m →
    θ_run (Cert.UpDxRmsIdeal.defs (F := Ideal)) (onTc (τ := Cert.UpDxRmsIdeal.τ) (Cert.UpDxRmsIdeal.main (F := Ideal))) ⟨m, fun _ => 0, g⟩ (fun r => (∀ c : Dev Cert.UpDxRmsIdeal.nD,
      r.2.mem ((c.tc : Thread Cert.UpDxRmsIdeal.nD Cert.UpDxRmsIdeal.τ).loc Cert.UpDxRmsIdeal.main_arg0) = m ((c.tc : Thread Cert.UpDxRmsIdeal.nD Cert.UpDxRmsIdeal.τ).loc Cert.UpDxRmsIdeal.main_arg0)
      ∧ r.2.mem ((c.tc : Thread Cert.UpDxRmsIdeal.nD Cert.UpDxRmsIdeal.τ).loc Cert.UpDxRmsIdeal.main_arg1) = m ((c.tc : Thread Cert.UpDxRmsIdeal.nD Cert.UpDxRmsIdeal.τ).loc Cert.UpDxRmsIdeal.main_arg1)
      ∧ r.2.mem ((c.tc : Thread Cert.UpDxRmsIdeal.nD Cert.UpDxRmsIdeal.τ).loc Cert.UpDxRmsIdeal.main_arg2) = m ((c.tc : Thread Cert.UpDxRmsIdeal.nD Cert.UpDxRmsIdeal.τ).loc Cert.UpDxRmsIdeal.main_arg2)
      ∧ r.2.mem ((c.tc : Thread Cert.UpDxRmsIdeal.nD Cert.UpDxRmsIdeal.τ).loc Cert.UpDxRmsIdeal.main_arg3) = m ((c.tc : Thread Cert.UpDxRmsIdeal.nD Cert.UpDxRmsIdeal.τ).loc Cert.UpDxRmsIdeal.main_arg3)
      ∧ r.2.mem ((c.tc : Thread Cert.UpDxRmsIdeal.nD Cert.UpDxRmsIdeal.τ).loc Cert.UpDxRmsIdeal.main_arg4) = m ((c.tc : Thread Cert.UpDxRmsIdeal.nD Cert.UpDxRmsIdeal.τ).loc Cert.UpDxRmsIdeal.main_arg4)
      ∧ r.2.mem ((c.tc : Thread Cert.UpDxRmsIdeal.nD Cert.UpDxRmsIdeal.τ).loc Cert.UpDxRmsIdeal.main_arg5) = m ((c.tc : Thread Cert.UpDxRmsIdeal.nD Cert.UpDxRmsIdeal.τ).loc Cert.UpDxRmsIdeal.main_arg5))
      ∧ r.2.sem = fun _ => 0)

def quiescent_UpDxRmsRefIdeal [hUpDxRmsRefIdeal : Cert.UpDxRmsRefIdeal.Facts] : Prop :=
  ∀ (m : (ℓ : Loc Cert.UpDxRmsRefIdeal.nD Cert.UpDxRmsRefIdeal.τ Cert.UpDxRmsRefIdeal.sig) → Buf (Elt Ideal) ℓ) (g : Dev Cert.UpDxRmsRefIdeal.nD → PrngReg), Pre_UpDxRmsRefIdeal m →
    θ_run (Cert.UpDxRmsRefIdeal.defs (F := Ideal)) (onTc (τ := Cert.UpDxRmsRefIdeal.τ) (Cert.UpDxRmsRefIdeal.main (F := Ideal))) ⟨m, fun _ => 0, g⟩ (fun r => (∀ c : Dev Cert.UpDxRmsRefIdeal.nD,
      r.2.mem ((c.tc : Thread Cert.UpDxRmsRefIdeal.nD Cert.UpDxRmsRefIdeal.τ).loc Cert.UpDxRmsRefIdeal.main_arg0) = m ((c.tc : Thread Cert.UpDxRmsRefIdeal.nD Cert.UpDxRmsRefIdeal.τ).loc Cert.UpDxRmsRefIdeal.main_arg0)
      ∧ r.2.mem ((c.tc : Thread Cert.UpDxRmsRefIdeal.nD Cert.UpDxRmsRefIdeal.τ).loc Cert.UpDxRmsRefIdeal.main_arg1) = m ((c.tc : Thread Cert.UpDxRmsRefIdeal.nD Cert.UpDxRmsRefIdeal.τ).loc Cert.UpDxRmsRefIdeal.main_arg1)
      ∧ r.2.mem ((c.tc : Thread Cert.UpDxRmsRefIdeal.nD Cert.UpDxRmsRefIdeal.τ).loc Cert.UpDxRmsRefIdeal.main_arg2) = m ((c.tc : Thread Cert.UpDxRmsRefIdeal.nD Cert.UpDxRmsRefIdeal.τ).loc Cert.UpDxRmsRefIdeal.main_arg2)
      ∧ r.2.mem ((c.tc : Thread Cert.UpDxRmsRefIdeal.nD Cert.UpDxRmsRefIdeal.τ).loc Cert.UpDxRmsRefIdeal.main_arg3) = m ((c.tc : Thread Cert.UpDxRmsRefIdeal.nD Cert.UpDxRmsRefIdeal.τ).loc Cert.UpDxRmsRefIdeal.main_arg3)
      ∧ r.2.mem ((c.tc : Thread Cert.UpDxRmsRefIdeal.nD Cert.UpDxRmsRefIdeal.τ).loc Cert.UpDxRmsRefIdeal.main_arg4) = m ((c.tc : Thread Cert.UpDxRmsRefIdeal.nD Cert.UpDxRmsRefIdeal.τ).loc Cert.UpDxRmsRefIdeal.main_arg4)
      ∧ r.2.mem ((c.tc : Thread Cert.UpDxRmsRefIdeal.nD Cert.UpDxRmsRefIdeal.τ).loc Cert.UpDxRmsRefIdeal.main_arg5) = m ((c.tc : Thread Cert.UpDxRmsRefIdeal.nD Cert.UpDxRmsRefIdeal.τ).loc Cert.UpDxRmsRefIdeal.main_arg5))
      ∧ r.2.sem = fun _ => 0)

def quiescent_LatBwd [hLatBwd : Cert.LatBwd.Facts] : Prop :=
  ∀ (m : (ℓ : Loc Cert.LatBwd.nD Cert.LatBwd.τ Cert.LatBwd.sig) → Buf (Elt Bits) ℓ) (g : Dev Cert.LatBwd.nD → PrngReg), Pre_LatBwd m →
    θ_run (Cert.LatBwd.defs (F := Bits)) (onTc (τ := Cert.LatBwd.τ) (Cert.LatBwd.main (F := Bits))) ⟨m, fun _ => 0, g⟩ (fun r => (∀ c : Dev Cert.LatBwd.nD,
      r.2.mem ((c.tc : Thread Cert.LatBwd.nD Cert.LatBwd.τ).loc Cert.LatBwd.main_arg0) = m ((c.tc : Thread Cert.LatBwd.nD Cert.LatBwd.τ).loc Cert.LatBwd.main_arg0)
      ∧ r.2.mem ((c.tc : Thread Cert.LatBwd.nD Cert.LatBwd.τ).loc Cert.LatBwd.main_arg1) = m ((c.tc : Thread Cert.LatBwd.nD Cert.LatBwd.τ).loc Cert.LatBwd.main_arg1)
      ∧ r.2.mem ((c.tc : Thread Cert.LatBwd.nD Cert.LatBwd.τ).loc Cert.LatBwd.main_arg2) = m ((c.tc : Thread Cert.LatBwd.nD Cert.LatBwd.τ).loc Cert.LatBwd.main_arg2)
      ∧ r.2.mem ((c.tc : Thread Cert.LatBwd.nD Cert.LatBwd.τ).loc Cert.LatBwd.main_arg3) = m ((c.tc : Thread Cert.LatBwd.nD Cert.LatBwd.τ).loc Cert.LatBwd.main_arg3)
      ∧ r.2.mem ((c.tc : Thread Cert.LatBwd.nD Cert.LatBwd.τ).loc Cert.LatBwd.main_arg4) = m ((c.tc : Thread Cert.LatBwd.nD Cert.LatBwd.τ).loc Cert.LatBwd.main_arg4))
      ∧ r.2.sem = fun _ => 0)

def quiescent_LatBwdIdeal [hLatBwdIdeal : Cert.LatBwdIdeal.Facts] : Prop :=
  ∀ (m : (ℓ : Loc Cert.LatBwdIdeal.nD Cert.LatBwdIdeal.τ Cert.LatBwdIdeal.sig) → Buf (Elt Ideal) ℓ) (g : Dev Cert.LatBwdIdeal.nD → PrngReg), Pre_LatBwdIdeal m →
    θ_run (Cert.LatBwdIdeal.defs (F := Ideal)) (onTc (τ := Cert.LatBwdIdeal.τ) (Cert.LatBwdIdeal.main (F := Ideal))) ⟨m, fun _ => 0, g⟩ (fun r => (∀ c : Dev Cert.LatBwdIdeal.nD,
      r.2.mem ((c.tc : Thread Cert.LatBwdIdeal.nD Cert.LatBwdIdeal.τ).loc Cert.LatBwdIdeal.main_arg0) = m ((c.tc : Thread Cert.LatBwdIdeal.nD Cert.LatBwdIdeal.τ).loc Cert.LatBwdIdeal.main_arg0)
      ∧ r.2.mem ((c.tc : Thread Cert.LatBwdIdeal.nD Cert.LatBwdIdeal.τ).loc Cert.LatBwdIdeal.main_arg1) = m ((c.tc : Thread Cert.LatBwdIdeal.nD Cert.LatBwdIdeal.τ).loc Cert.LatBwdIdeal.main_arg1)
      ∧ r.2.mem ((c.tc : Thread Cert.LatBwdIdeal.nD Cert.LatBwdIdeal.τ).loc Cert.LatBwdIdeal.main_arg2) = m ((c.tc : Thread Cert.LatBwdIdeal.nD Cert.LatBwdIdeal.τ).loc Cert.LatBwdIdeal.main_arg2)
      ∧ r.2.mem ((c.tc : Thread Cert.LatBwdIdeal.nD Cert.LatBwdIdeal.τ).loc Cert.LatBwdIdeal.main_arg3) = m ((c.tc : Thread Cert.LatBwdIdeal.nD Cert.LatBwdIdeal.τ).loc Cert.LatBwdIdeal.main_arg3)
      ∧ r.2.mem ((c.tc : Thread Cert.LatBwdIdeal.nD Cert.LatBwdIdeal.τ).loc Cert.LatBwdIdeal.main_arg4) = m ((c.tc : Thread Cert.LatBwdIdeal.nD Cert.LatBwdIdeal.τ).loc Cert.LatBwdIdeal.main_arg4))
      ∧ r.2.sem = fun _ => 0)

def quiescent_LatBwdRefIdeal [hLatBwdRefIdeal : Cert.LatBwdRefIdeal.Facts] : Prop :=
  ∀ (m : (ℓ : Loc Cert.LatBwdRefIdeal.nD Cert.LatBwdRefIdeal.τ Cert.LatBwdRefIdeal.sig) → Buf (Elt Ideal) ℓ) (g : Dev Cert.LatBwdRefIdeal.nD → PrngReg), Pre_LatBwdRefIdeal m →
    θ_run (Cert.LatBwdRefIdeal.defs (F := Ideal)) (onTc (τ := Cert.LatBwdRefIdeal.τ) (Cert.LatBwdRefIdeal.main (F := Ideal))) ⟨m, fun _ => 0, g⟩ (fun r => (∀ c : Dev Cert.LatBwdRefIdeal.nD,
      r.2.mem ((c.tc : Thread Cert.LatBwdRefIdeal.nD Cert.LatBwdRefIdeal.τ).loc Cert.LatBwdRefIdeal.main_arg0) = m ((c.tc : Thread Cert.LatBwdRefIdeal.nD Cert.LatBwdRefIdeal.τ).loc Cert.LatBwdRefIdeal.main_arg0)
      ∧ r.2.mem ((c.tc : Thread Cert.LatBwdRefIdeal.nD Cert.LatBwdRefIdeal.τ).loc Cert.LatBwdRefIdeal.main_arg1) = m ((c.tc : Thread Cert.LatBwdRefIdeal.nD Cert.LatBwdRefIdeal.τ).loc Cert.LatBwdRefIdeal.main_arg1)
      ∧ r.2.mem ((c.tc : Thread Cert.LatBwdRefIdeal.nD Cert.LatBwdRefIdeal.τ).loc Cert.LatBwdRefIdeal.main_arg2) = m ((c.tc : Thread Cert.LatBwdRefIdeal.nD Cert.LatBwdRefIdeal.τ).loc Cert.LatBwdRefIdeal.main_arg2)
      ∧ r.2.mem ((c.tc : Thread Cert.LatBwdRefIdeal.nD Cert.LatBwdRefIdeal.τ).loc Cert.LatBwdRefIdeal.main_arg3) = m ((c.tc : Thread Cert.LatBwdRefIdeal.nD Cert.LatBwdRefIdeal.τ).loc Cert.LatBwdRefIdeal.main_arg3)
      ∧ r.2.mem ((c.tc : Thread Cert.LatBwdRefIdeal.nD Cert.LatBwdRefIdeal.τ).loc Cert.LatBwdRefIdeal.main_arg4) = m ((c.tc : Thread Cert.LatBwdRefIdeal.nD Cert.LatBwdRefIdeal.τ).loc Cert.LatBwdRefIdeal.main_arg4))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ r.2.sem = fun _ => 0)

def quiescent_ODxRefIdeal [hODxRefIdeal : Cert.ODxRefIdeal.Facts] : Prop :=
  ∀ (m : (ℓ : Loc Cert.ODxRefIdeal.nD Cert.ODxRefIdeal.τ Cert.ODxRefIdeal.sig) → Buf (Elt Ideal) ℓ) (g : Dev Cert.ODxRefIdeal.nD → PrngReg), Pre_ODxRefIdeal m →
    θ_run (Cert.ODxRefIdeal.defs (F := Ideal)) (onTc (τ := Cert.ODxRefIdeal.τ) (Cert.ODxRefIdeal.main (F := Ideal))) ⟨m, fun _ => 0, g⟩ (fun r => (∀ c : Dev Cert.ODxRefIdeal.nD,
      r.2.mem ((c.tc : Thread Cert.ODxRefIdeal.nD Cert.ODxRefIdeal.τ).loc Cert.ODxRefIdeal.main_arg0) = m ((c.tc : Thread Cert.ODxRefIdeal.nD Cert.ODxRefIdeal.τ).loc Cert.ODxRefIdeal.main_arg0)
      ∧ r.2.mem ((c.tc : Thread Cert.ODxRefIdeal.nD Cert.ODxRefIdeal.τ).loc Cert.ODxRefIdeal.main_arg1) = m ((c.tc : Thread Cert.ODxRefIdeal.nD Cert.ODxRefIdeal.τ).loc Cert.ODxRefIdeal.main_arg1))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ r.2.sem = fun _ => 0)

def quiescent_ODwRefIdeal [hODwRefIdeal : Cert.ODwRefIdeal.Facts] : Prop :=
  ∀ (m : (ℓ : Loc Cert.ODwRefIdeal.nD Cert.ODwRefIdeal.τ Cert.ODwRefIdeal.sig) → Buf (Elt Ideal) ℓ) (g : Dev Cert.ODwRefIdeal.nD → PrngReg), Pre_ODwRefIdeal m →
    θ_run (Cert.ODwRefIdeal.defs (F := Ideal)) (onTc (τ := Cert.ODwRefIdeal.τ) (Cert.ODwRefIdeal.main (F := Ideal))) ⟨m, fun _ => 0, g⟩ (fun r => (∀ c : Dev Cert.ODwRefIdeal.nD,
      r.2.mem ((c.tc : Thread Cert.ODwRefIdeal.nD Cert.ODwRefIdeal.τ).loc Cert.ODwRefIdeal.main_arg0) = m ((c.tc : Thread Cert.ODwRefIdeal.nD Cert.ODwRefIdeal.τ).loc Cert.ODwRefIdeal.main_arg0)
      ∧ r.2.mem ((c.tc : Thread Cert.ODwRefIdeal.nD Cert.ODwRefIdeal.τ).loc Cert.ODwRefIdeal.main_arg1) = m ((c.tc : Thread Cert.ODwRefIdeal.nD Cert.ODwRefIdeal.τ).loc Cert.ODwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_QUpDx [hQUpDx : Cert.QUpDx.Facts] : Prop :=
  ∀ (m : (ℓ : Loc Cert.QUpDx.nD Cert.QUpDx.τ Cert.QUpDx.sig) → Buf (Elt Bits) ℓ) (g : Dev Cert.QUpDx.nD → PrngReg), Pre_QUpDx m →
    θ_run (Cert.QUpDx.defs (F := Bits)) (onTc (τ := Cert.QUpDx.τ) (Cert.QUpDx.main (F := Bits))) ⟨m, fun _ => 0, g⟩ (fun r => (∀ c : Dev Cert.QUpDx.nD,
      r.2.mem ((c.tc : Thread Cert.QUpDx.nD Cert.QUpDx.τ).loc Cert.QUpDx.main_arg0) = m ((c.tc : Thread Cert.QUpDx.nD Cert.QUpDx.τ).loc Cert.QUpDx.main_arg0)
      ∧ r.2.mem ((c.tc : Thread Cert.QUpDx.nD Cert.QUpDx.τ).loc Cert.QUpDx.main_arg1) = m ((c.tc : Thread Cert.QUpDx.nD Cert.QUpDx.τ).loc Cert.QUpDx.main_arg1))
      ∧ r.2.sem = fun _ => 0)

def quiescent_QUpDxIdeal [hQUpDxIdeal : Cert.QUpDxIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg), Pre_QUpDxIdeal m →
    θ_run (Cert.QUpDxIdeal.defs (F := Ideal)) (onTc (τ := Cert.QUpDxIdeal.τ) (Cert.QUpDxIdeal.main (F := Ideal))) ⟨m, fun _ => 0, g⟩ (fun r => (∀ c : Dev Cert.QUpDxIdeal.nD,
      r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
      ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ r.2.sem = fun _ => 0)

def quiescent_QUpDxRefIdeal [hQUpDxRefIdeal : Cert.QUpDxRefIdeal.Facts] : Prop :=
  ∀ (m : (ℓ : Loc Cert.QUpDxRefIdeal.nD Cert.QUpDxRefIdeal.τ Cert.QUpDxRefIdeal.sig) → Buf (Elt Ideal) ℓ) (g : Dev Cert.QUpDxRefIdeal.nD → PrngReg), Pre_QUpDxRefIdeal m →
    θ_run (Cert.QUpDxRefIdeal.defs (F := Ideal)) (onTc (τ := Cert.QUpDxRefIdeal.τ) (Cert.QUpDxRefIdeal.main (F := Ideal))) ⟨m, fun _ => 0, g⟩ (fun r => (∀ c : Dev Cert.QUpDxRefIdeal.nD,
      r.2.mem ((c.tc : Thread Cert.QUpDxRefIdeal.nD Cert.QUpDxRefIdeal.τ).loc Cert.QUpDxRefIdeal.main_arg0) = m ((c.tc : Thread Cert.QUpDxRefIdeal.nD Cert.QUpDxRefIdeal.τ).loc Cert.QUpDxRefIdeal.main_arg0)
      ∧ r.2.mem ((c.tc : Thread Cert.QUpDxRefIdeal.nD Cert.QUpDxRefIdeal.τ).loc Cert.QUpDxRefIdeal.main_arg1) = m ((c.tc : Thread Cert.QUpDxRefIdeal.nD Cert.QUpDxRefIdeal.τ).loc Cert.QUpDxRefIdeal.main_arg1))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ r.2.sem = fun _ => 0)

def quiescent_QUpDwRefIdeal [hQUpDwRefIdeal : Cert.QUpDwRefIdeal.Facts] : Prop :=
  ∀ (m : (ℓ : Loc Cert.QUpDwRefIdeal.nD Cert.QUpDwRefIdeal.τ Cert.QUpDwRefIdeal.sig) → Buf (Elt Ideal) ℓ) (g : Dev Cert.QUpDwRefIdeal.nD → PrngReg), Pre_QUpDwRefIdeal m →
    θ_run (Cert.QUpDwRefIdeal.defs (F := Ideal)) (onTc (τ := Cert.QUpDwRefIdeal.τ) (Cert.QUpDwRefIdeal.main (F := Ideal))) ⟨m, fun _ => 0, g⟩ (fun r => (∀ c : Dev Cert.QUpDwRefIdeal.nD,
      r.2.mem ((c.tc : Thread Cert.QUpDwRefIdeal.nD Cert.QUpDwRefIdeal.τ).loc Cert.QUpDwRefIdeal.main_arg0) = m ((c.tc : Thread Cert.QUpDwRefIdeal.nD Cert.QUpDwRefIdeal.τ).loc Cert.QUpDwRefIdeal.main_arg0)
      ∧ r.2.mem ((c.tc : Thread Cert.QUpDwRefIdeal.nD Cert.QUpDwRefIdeal.τ).loc Cert.QUpDwRefIdeal.main_arg1) = m ((c.tc : Thread Cert.QUpDwRefIdeal.nD Cert.QUpDwRefIdeal.τ).loc Cert.QUpDwRefIdeal.main_arg1))
      ∧ r.2.sem = fun _ => 0)

def quiescent_KvUpDx [hKvUpDx : Cert.KvUpDx.Facts] : Prop :=
  ∀ (m : (ℓ : Loc Cert.KvUpDx.nD Cert.KvUpDx.τ Cert.KvUpDx.sig) → Buf (Elt Bits) ℓ) (g : Dev Cert.KvUpDx.nD → PrngReg), Pre_KvUpDx m →
    θ_run (Cert.KvUpDx.defs (F := Bits)) (onTc (τ := Cert.KvUpDx.τ) (Cert.KvUpDx.main (F := Bits))) ⟨m, fun _ => 0, g⟩ (fun r => (∀ c : Dev Cert.KvUpDx.nD,
      r.2.mem ((c.tc : Thread Cert.KvUpDx.nD Cert.KvUpDx.τ).loc Cert.KvUpDx.main_arg0) = m ((c.tc : Thread Cert.KvUpDx.nD Cert.KvUpDx.τ).loc Cert.KvUpDx.main_arg0)
      ∧ r.2.mem ((c.tc : Thread Cert.KvUpDx.nD Cert.KvUpDx.τ).loc Cert.KvUpDx.main_arg1) = m ((c.tc : Thread Cert.KvUpDx.nD Cert.KvUpDx.τ).loc Cert.KvUpDx.main_arg1))
      ∧ r.2.sem = fun _ => 0)

def quiescent_KvUpDxIdeal [hKvUpDxIdeal : Cert.KvUpDxIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg), Pre_KvUpDxIdeal m →
    θ_run (Cert.KvUpDxIdeal.defs (F := Ideal)) (onTc (τ := Cert.KvUpDxIdeal.τ) (Cert.KvUpDxIdeal.main (F := Ideal))) ⟨m, fun _ => 0, g⟩ (fun r => (∀ c : Dev Cert.KvUpDxIdeal.nD,
      r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
      ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ r.2.sem = fun _ => 0)

def quiescent_KvUpDxRefIdeal [hKvUpDxRefIdeal : Cert.KvUpDxRefIdeal.Facts] : Prop :=
  ∀ (m : (ℓ : Loc Cert.KvUpDxRefIdeal.nD Cert.KvUpDxRefIdeal.τ Cert.KvUpDxRefIdeal.sig) → Buf (Elt Ideal) ℓ) (g : Dev Cert.KvUpDxRefIdeal.nD → PrngReg), Pre_KvUpDxRefIdeal m →
    θ_run (Cert.KvUpDxRefIdeal.defs (F := Ideal)) (onTc (τ := Cert.KvUpDxRefIdeal.τ) (Cert.KvUpDxRefIdeal.main (F := Ideal))) ⟨m, fun _ => 0, g⟩ (fun r => (∀ c : Dev Cert.KvUpDxRefIdeal.nD,
      r.2.mem ((c.tc : Thread Cert.KvUpDxRefIdeal.nD Cert.KvUpDxRefIdeal.τ).loc Cert.KvUpDxRefIdeal.main_arg0) = m ((c.tc : Thread Cert.KvUpDxRefIdeal.nD Cert.KvUpDxRefIdeal.τ).loc Cert.KvUpDxRefIdeal.main_arg0)
      ∧ r.2.mem ((c.tc : Thread Cert.KvUpDxRefIdeal.nD Cert.KvUpDxRefIdeal.τ).loc Cert.KvUpDxRefIdeal.main_arg1) = m ((c.tc : Thread Cert.KvUpDxRefIdeal.nD Cert.KvUpDxRefIdeal.τ).loc Cert.KvUpDxRefIdeal.main_arg1))
      ∧ r.2.sem = fun _ => 0)

def quiescent_KvUpDw [hKvUpDw : Cert.KvUpDw.Facts] : Prop :=
  ∀ (m : (ℓ : Loc Cert.KvUpDw.nD Cert.KvUpDw.τ Cert.KvUpDw.sig) → Buf (Elt Bits) ℓ) (g : Dev Cert.KvUpDw.nD → PrngReg), Pre_KvUpDw m →
    θ_run (Cert.KvUpDw.defs (F := Bits)) (onTc (τ := Cert.KvUpDw.τ) (Cert.KvUpDw.main (F := Bits))) ⟨m, fun _ => 0, g⟩ (fun r => (∀ c : Dev Cert.KvUpDw.nD,
      r.2.mem ((c.tc : Thread Cert.KvUpDw.nD Cert.KvUpDw.τ).loc Cert.KvUpDw.main_arg0) = m ((c.tc : Thread Cert.KvUpDw.nD Cert.KvUpDw.τ).loc Cert.KvUpDw.main_arg0)
      ∧ r.2.mem ((c.tc : Thread Cert.KvUpDw.nD Cert.KvUpDw.τ).loc Cert.KvUpDw.main_arg1) = m ((c.tc : Thread Cert.KvUpDw.nD Cert.KvUpDw.τ).loc Cert.KvUpDw.main_arg1))
      ∧ r.2.sem = fun _ => 0)

def quiescent_KvUpDwIdeal [hKvUpDwIdeal : Cert.KvUpDwIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg), Pre_KvUpDwIdeal m →
    θ_run (Cert.KvUpDwIdeal.defs (F := Ideal)) (onTc (τ := Cert.KvUpDwIdeal.τ) (Cert.KvUpDwIdeal.main (F := Ideal))) ⟨m, fun _ => 0, g⟩ (fun r => (∀ c : Dev Cert.KvUpDwIdeal.nD,
      r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
      ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ r.2.sem = fun _ => 0)

def quiescent_KvUpDwRefIdeal [hKvUpDwRefIdeal : Cert.KvUpDwRefIdeal.Facts] : Prop :=
  ∀ (m : (ℓ : Loc Cert.KvUpDwRefIdeal.nD Cert.KvUpDwRefIdeal.τ Cert.KvUpDwRefIdeal.sig) → Buf (Elt Ideal) ℓ) (g : Dev Cert.KvUpDwRefIdeal.nD → PrngReg), Pre_KvUpDwRefIdeal m →
    θ_run (Cert.KvUpDwRefIdeal.defs (F := Ideal)) (onTc (τ := Cert.KvUpDwRefIdeal.τ) (Cert.KvUpDwRefIdeal.main (F := Ideal))) ⟨m, fun _ => 0, g⟩ (fun r => (∀ c : Dev Cert.KvUpDwRefIdeal.nD,
      r.2.mem ((c.tc : Thread Cert.KvUpDwRefIdeal.nD Cert.KvUpDwRefIdeal.τ).loc Cert.KvUpDwRefIdeal.main_arg0) = m ((c.tc : Thread Cert.KvUpDwRefIdeal.nD Cert.KvUpDwRefIdeal.τ).loc Cert.KvUpDwRefIdeal.main_arg0)
      ∧ r.2.mem ((c.tc : Thread Cert.KvUpDwRefIdeal.nD Cert.KvUpDwRefIdeal.τ).loc Cert.KvUpDwRefIdeal.main_arg1) = m ((c.tc : Thread Cert.KvUpDwRefIdeal.nD Cert.KvUpDwRefIdeal.τ).loc Cert.KvUpDwRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_ORms [hORms : Cert.ORms.Facts] : Prop :=
  ∀ (m : (ℓ : Loc Cert.ORms.nD Cert.ORms.τ Cert.ORms.sig) → Buf (Elt Bits) ℓ) (g : Dev Cert.ORms.nD → PrngReg), Pre_ORms m →
    θ_run (Cert.ORms.defs (F := Bits)) (onTc (τ := Cert.ORms.τ) (Cert.ORms.main (F := Bits))) ⟨m, fun _ => 0, g⟩ (fun r => (∀ c : Dev Cert.ORms.nD,
      r.2.mem ((c.tc : Thread Cert.ORms.nD Cert.ORms.τ).loc Cert.ORms.main_arg0) = m ((c.tc : Thread Cert.ORms.nD Cert.ORms.τ).loc Cert.ORms.main_arg0)
      ∧ r.2.mem ((c.tc : Thread Cert.ORms.nD Cert.ORms.τ).loc Cert.ORms.main_arg1) = m ((c.tc : Thread Cert.ORms.nD Cert.ORms.τ).loc Cert.ORms.main_arg1)
      ∧ r.2.mem ((c.tc : Thread Cert.ORms.nD Cert.ORms.τ).loc Cert.ORms.main_arg2) = m ((c.tc : Thread Cert.ORms.nD Cert.ORms.τ).loc Cert.ORms.main_arg2)
      ∧ r.2.mem ((c.tc : Thread Cert.ORms.nD Cert.ORms.τ).loc Cert.ORms.main_arg3) = m ((c.tc : Thread Cert.ORms.nD Cert.ORms.τ).loc Cert.ORms.main_arg3))
      ∧ r.2.sem = fun _ => 0)

def quiescent_ORmsIdeal [hORmsIdeal : Cert.ORmsIdeal.Facts] : Prop :=
  ∀ (m : (ℓ : Loc Cert.ORmsIdeal.nD Cert.ORmsIdeal.τ Cert.ORmsIdeal.sig) → Buf (Elt Ideal) ℓ) (g : Dev Cert.ORmsIdeal.nD → PrngReg), Pre_ORmsIdeal m →
    θ_run (Cert.ORmsIdeal.defs (F := Ideal)) (onTc (τ := Cert.ORmsIdeal.τ) (Cert.ORmsIdeal.main (F := Ideal))) ⟨m, fun _ => 0, g⟩ (fun r => (∀ c : Dev Cert.ORmsIdeal.nD,
      r.2.mem ((c.tc : Thread Cert.ORmsIdeal.nD Cert.ORmsIdeal.τ).loc Cert.ORmsIdeal.main_arg0) = m ((c.tc : Thread Cert.ORmsIdeal.nD Cert.ORmsIdeal.τ).loc Cert.ORmsIdeal.main_arg0)
      ∧ r.2.mem ((c.tc : Thread Cert.ORmsIdeal.nD Cert.ORmsIdeal.τ).loc Cert.ORmsIdeal.main_arg1) = m ((c.tc : Thread Cert.ORmsIdeal.nD Cert.ORmsIdeal.τ).loc Cert.ORmsIdeal.main_arg1)
      ∧ r.2.mem ((c.tc : Thread Cert.ORmsIdeal.nD Cert.ORmsIdeal.τ).loc Cert.ORmsIdeal.main_arg2) = m ((c.tc : Thread Cert.ORmsIdeal.nD Cert.ORmsIdeal.τ).loc Cert.ORmsIdeal.main_arg2)
      ∧ r.2.mem ((c.tc : Thread Cert.ORmsIdeal.nD Cert.ORmsIdeal.τ).loc Cert.ORmsIdeal.main_arg3) = m ((c.tc : Thread Cert.ORmsIdeal.nD Cert.ORmsIdeal.τ).loc Cert.ORmsIdeal.main_arg3))
      ∧ r.2.sem = fun _ => 0)

def quiescent_ORmsRefIdeal [hORmsRefIdeal : Cert.ORmsRefIdeal.Facts] : Prop :=
  ∀ (m : (ℓ : Loc Cert.ORmsRefIdeal.nD Cert.ORmsRefIdeal.τ Cert.ORmsRefIdeal.sig) → Buf (Elt Ideal) ℓ) (g : Dev Cert.ORmsRefIdeal.nD → PrngReg), Pre_ORmsRefIdeal m →
    θ_run (Cert.ORmsRefIdeal.defs (F := Ideal)) (onTc (τ := Cert.ORmsRefIdeal.τ) (Cert.ORmsRefIdeal.main (F := Ideal))) ⟨m, fun _ => 0, g⟩ (fun r => (∀ c : Dev Cert.ORmsRefIdeal.nD,
      r.2.mem ((c.tc : Thread Cert.ORmsRefIdeal.nD Cert.ORmsRefIdeal.τ).loc Cert.ORmsRefIdeal.main_arg0) = m ((c.tc : Thread Cert.ORmsRefIdeal.nD Cert.ORmsRefIdeal.τ).loc Cert.ORmsRefIdeal.main_arg0)
      ∧ r.2.mem ((c.tc : Thread Cert.ORmsRefIdeal.nD Cert.ORmsRefIdeal.τ).loc Cert.ORmsRefIdeal.main_arg1) = m ((c.tc : Thread Cert.ORmsRefIdeal.nD Cert.ORmsRefIdeal.τ).loc Cert.ORmsRefIdeal.main_arg1)
      ∧ r.2.mem ((c.tc : Thread Cert.ORmsRefIdeal.nD Cert.ORmsRefIdeal.τ).loc Cert.ORmsRefIdeal.main_arg2) = m ((c.tc : Thread Cert.ORmsRefIdeal.nD Cert.ORmsRefIdeal.τ).loc Cert.ORmsRefIdeal.main_arg2)
      ∧ r.2.mem ((c.tc : Thread Cert.ORmsRefIdeal.nD Cert.ORmsRefIdeal.τ).loc Cert.ORmsRefIdeal.main_arg3) = m ((c.tc : Thread Cert.ORmsRefIdeal.nD Cert.ORmsRefIdeal.τ).loc Cert.ORmsRefIdeal.main_arg3))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3))
      ∧ r.2.sem = fun _ => 0)

def quiescent_MemxBwd [hMemxBwd : Cert.MemxBwd.Facts] : Prop :=
  ∀ (m : (ℓ : Loc Cert.MemxBwd.nD Cert.MemxBwd.τ Cert.MemxBwd.sig) → Buf (Elt Bits) ℓ) (g : Dev Cert.MemxBwd.nD → PrngReg), Pre_MemxBwd m →
    θ_run (Cert.MemxBwd.defs (F := Bits)) (onTc (τ := Cert.MemxBwd.τ) (Cert.MemxBwd.main (F := Bits))) ⟨m, fun _ => 0, g⟩ (fun r => (∀ c : Dev Cert.MemxBwd.nD,
      r.2.mem ((c.tc : Thread Cert.MemxBwd.nD Cert.MemxBwd.τ).loc Cert.MemxBwd.main_arg0) = m ((c.tc : Thread Cert.MemxBwd.nD Cert.MemxBwd.τ).loc Cert.MemxBwd.main_arg0)
      ∧ r.2.mem ((c.tc : Thread Cert.MemxBwd.nD Cert.MemxBwd.τ).loc Cert.MemxBwd.main_arg1) = m ((c.tc : Thread Cert.MemxBwd.nD Cert.MemxBwd.τ).loc Cert.MemxBwd.main_arg1)
      ∧ r.2.mem ((c.tc : Thread Cert.MemxBwd.nD Cert.MemxBwd.τ).loc Cert.MemxBwd.main_arg2) = m ((c.tc : Thread Cert.MemxBwd.nD Cert.MemxBwd.τ).loc Cert.MemxBwd.main_arg2)
      ∧ r.2.mem ((c.tc : Thread Cert.MemxBwd.nD Cert.MemxBwd.τ).loc Cert.MemxBwd.main_arg3) = m ((c.tc : Thread Cert.MemxBwd.nD Cert.MemxBwd.τ).loc Cert.MemxBwd.main_arg3)
      ∧ r.2.mem ((c.tc : Thread Cert.MemxBwd.nD Cert.MemxBwd.τ).loc Cert.MemxBwd.main_arg4) = m ((c.tc : Thread Cert.MemxBwd.nD Cert.MemxBwd.τ).loc Cert.MemxBwd.main_arg4))
      ∧ r.2.sem = fun _ => 0)

def quiescent_MemxBwdIdeal [hMemxBwdIdeal : Cert.MemxBwdIdeal.Facts] : Prop :=
  ∀ (m : (ℓ : Loc Cert.MemxBwdIdeal.nD Cert.MemxBwdIdeal.τ Cert.MemxBwdIdeal.sig) → Buf (Elt Ideal) ℓ) (g : Dev Cert.MemxBwdIdeal.nD → PrngReg), Pre_MemxBwdIdeal m →
    θ_run (Cert.MemxBwdIdeal.defs (F := Ideal)) (onTc (τ := Cert.MemxBwdIdeal.τ) (Cert.MemxBwdIdeal.main (F := Ideal))) ⟨m, fun _ => 0, g⟩ (fun r => (∀ c : Dev Cert.MemxBwdIdeal.nD,
      r.2.mem ((c.tc : Thread Cert.MemxBwdIdeal.nD Cert.MemxBwdIdeal.τ).loc Cert.MemxBwdIdeal.main_arg0) = m ((c.tc : Thread Cert.MemxBwdIdeal.nD Cert.MemxBwdIdeal.τ).loc Cert.MemxBwdIdeal.main_arg0)
      ∧ r.2.mem ((c.tc : Thread Cert.MemxBwdIdeal.nD Cert.MemxBwdIdeal.τ).loc Cert.MemxBwdIdeal.main_arg1) = m ((c.tc : Thread Cert.MemxBwdIdeal.nD Cert.MemxBwdIdeal.τ).loc Cert.MemxBwdIdeal.main_arg1)
      ∧ r.2.mem ((c.tc : Thread Cert.MemxBwdIdeal.nD Cert.MemxBwdIdeal.τ).loc Cert.MemxBwdIdeal.main_arg2) = m ((c.tc : Thread Cert.MemxBwdIdeal.nD Cert.MemxBwdIdeal.τ).loc Cert.MemxBwdIdeal.main_arg2)
      ∧ r.2.mem ((c.tc : Thread Cert.MemxBwdIdeal.nD Cert.MemxBwdIdeal.τ).loc Cert.MemxBwdIdeal.main_arg3) = m ((c.tc : Thread Cert.MemxBwdIdeal.nD Cert.MemxBwdIdeal.τ).loc Cert.MemxBwdIdeal.main_arg3)
      ∧ r.2.mem ((c.tc : Thread Cert.MemxBwdIdeal.nD Cert.MemxBwdIdeal.τ).loc Cert.MemxBwdIdeal.main_arg4) = m ((c.tc : Thread Cert.MemxBwdIdeal.nD Cert.MemxBwdIdeal.τ).loc Cert.MemxBwdIdeal.main_arg4))
      ∧ r.2.sem = fun _ => 0)

def quiescent_MemxBwdIdeal_pre_finite_reads [hMemxBwdIdeal : Cert.MemxBwdIdeal.Facts] [hPre_finite_reads : Cert.Pre_finite_reads.Facts] : Prop :=
  ∀ (m : (ℓ : Loc Cert.MemxBwdIdeal.nD Cert.MemxBwdIdeal.τ Cert.MemxBwdIdeal.sig) → Buf (Elt Ideal) ℓ) (g : Dev Cert.MemxBwdIdeal.nD → PrngReg), Pre_MemxBwdIdeal_finite_reads m →
    θ_run (Cert.MemxBwdIdeal.defs (F := Ideal)) (onTc (τ := Cert.MemxBwdIdeal.τ) (Cert.MemxBwdIdeal.main (F := Ideal))) ⟨m, fun _ => 0, g⟩ (fun r => (∀ c : Dev Cert.MemxBwdIdeal.nD,
      r.2.mem ((c.tc : Thread Cert.MemxBwdIdeal.nD Cert.MemxBwdIdeal.τ).loc Cert.MemxBwdIdeal.main_arg0) = m ((c.tc : Thread Cert.MemxBwdIdeal.nD Cert.MemxBwdIdeal.τ).loc Cert.MemxBwdIdeal.main_arg0)
      ∧ r.2.mem ((c.tc : Thread Cert.MemxBwdIdeal.nD Cert.MemxBwdIdeal.τ).loc Cert.MemxBwdIdeal.main_arg1) = m ((c.tc : Thread Cert.MemxBwdIdeal.nD Cert.MemxBwdIdeal.τ).loc Cert.MemxBwdIdeal.main_arg1)
      ∧ r.2.mem ((c.tc : Thread Cert.MemxBwdIdeal.nD Cert.MemxBwdIdeal.τ).loc Cert.MemxBwdIdeal.main_arg2) = m ((c.tc : Thread Cert.MemxBwdIdeal.nD Cert.MemxBwdIdeal.τ).loc Cert.MemxBwdIdeal.main_arg2)
      ∧ r.2.mem ((c.tc : Thread Cert.MemxBwdIdeal.nD Cert.MemxBwdIdeal.τ).loc Cert.MemxBwdIdeal.main_arg3) = m ((c.tc : Thread Cert.MemxBwdIdeal.nD Cert.MemxBwdIdeal.τ).loc Cert.MemxBwdIdeal.main_arg3)
      ∧ r.2.mem ((c.tc : Thread Cert.MemxBwdIdeal.nD Cert.MemxBwdIdeal.τ).loc Cert.MemxBwdIdeal.main_arg4) = m ((c.tc : Thread Cert.MemxBwdIdeal.nD Cert.MemxBwdIdeal.τ).loc Cert.MemxBwdIdeal.main_arg4))
      ∧ r.2.sem = fun _ => 0)

def quiescent_MemxBwdRefIdeal [hMemxBwdRefIdeal : Cert.MemxBwdRefIdeal.Facts] : Prop :=
  ∀ (m : (ℓ : Loc Cert.MemxBwdRefIdeal.nD Cert.MemxBwdRefIdeal.τ Cert.MemxBwdRefIdeal.sig) → Buf (Elt Ideal) ℓ) (g : Dev Cert.MemxBwdRefIdeal.nD → PrngReg), Pre_MemxBwdRefIdeal m →
    θ_run (Cert.MemxBwdRefIdeal.defs (F := Ideal)) (onTc (τ := Cert.MemxBwdRefIdeal.τ) (Cert.MemxBwdRefIdeal.main (F := Ideal))) ⟨m, fun _ => 0, g⟩ (fun r => (∀ c : Dev Cert.MemxBwdRefIdeal.nD,
      r.2.mem ((c.tc : Thread Cert.MemxBwdRefIdeal.nD Cert.MemxBwdRefIdeal.τ).loc Cert.MemxBwdRefIdeal.main_arg0) = m ((c.tc : Thread Cert.MemxBwdRefIdeal.nD Cert.MemxBwdRefIdeal.τ).loc Cert.MemxBwdRefIdeal.main_arg0)
      ∧ r.2.mem ((c.tc : Thread Cert.MemxBwdRefIdeal.nD Cert.MemxBwdRefIdeal.τ).loc Cert.MemxBwdRefIdeal.main_arg1) = m ((c.tc : Thread Cert.MemxBwdRefIdeal.nD Cert.MemxBwdRefIdeal.τ).loc Cert.MemxBwdRefIdeal.main_arg1)
      ∧ r.2.mem ((c.tc : Thread Cert.MemxBwdRefIdeal.nD Cert.MemxBwdRefIdeal.τ).loc Cert.MemxBwdRefIdeal.main_arg2) = m ((c.tc : Thread Cert.MemxBwdRefIdeal.nD Cert.MemxBwdRefIdeal.τ).loc Cert.MemxBwdRefIdeal.main_arg2)
      ∧ r.2.mem ((c.tc : Thread Cert.MemxBwdRefIdeal.nD Cert.MemxBwdRefIdeal.τ).loc Cert.MemxBwdRefIdeal.main_arg3) = m ((c.tc : Thread Cert.MemxBwdRefIdeal.nD Cert.MemxBwdRefIdeal.τ).loc Cert.MemxBwdRefIdeal.main_arg3)
      ∧ r.2.mem ((c.tc : Thread Cert.MemxBwdRefIdeal.nD Cert.MemxBwdRefIdeal.τ).loc Cert.MemxBwdRefIdeal.main_arg4) = m ((c.tc : Thread Cert.MemxBwdRefIdeal.nD Cert.MemxBwdRefIdeal.τ).loc Cert.MemxBwdRefIdeal.main_arg4))
      ∧ r.2.sem = fun _ => 0)

def quiescent_MemxBwdRefIdeal_pre_finite_reads [hMemxBwdRefIdeal : Cert.MemxBwdRefIdeal.Facts] [hPre_finite_reads : Cert.Pre_finite_reads.Facts] : Prop :=
  ∀ (m : (ℓ : Loc Cert.MemxBwdRefIdeal.nD Cert.MemxBwdRefIdeal.τ Cert.MemxBwdRefIdeal.sig) → Buf (Elt Ideal) ℓ) (g : Dev Cert.MemxBwdRefIdeal.nD → PrngReg), Pre_MemxBwdRefIdeal_finite_reads m →
    θ_run (Cert.MemxBwdRefIdeal.defs (F := Ideal)) (onTc (τ := Cert.MemxBwdRefIdeal.τ) (Cert.MemxBwdRefIdeal.main (F := Ideal))) ⟨m, fun _ => 0, g⟩ (fun r => (∀ c : Dev Cert.MemxBwdRefIdeal.nD,
      r.2.mem ((c.tc : Thread Cert.MemxBwdRefIdeal.nD Cert.MemxBwdRefIdeal.τ).loc Cert.MemxBwdRefIdeal.main_arg0) = m ((c.tc : Thread Cert.MemxBwdRefIdeal.nD Cert.MemxBwdRefIdeal.τ).loc Cert.MemxBwdRefIdeal.main_arg0)
      ∧ r.2.mem ((c.tc : Thread Cert.MemxBwdRefIdeal.nD Cert.MemxBwdRefIdeal.τ).loc Cert.MemxBwdRefIdeal.main_arg1) = m ((c.tc : Thread Cert.MemxBwdRefIdeal.nD Cert.MemxBwdRefIdeal.τ).loc Cert.MemxBwdRefIdeal.main_arg1)
      ∧ r.2.mem ((c.tc : Thread Cert.MemxBwdRefIdeal.nD Cert.MemxBwdRefIdeal.τ).loc Cert.MemxBwdRefIdeal.main_arg2) = m ((c.tc : Thread Cert.MemxBwdRefIdeal.nD Cert.MemxBwdRefIdeal.τ).loc Cert.MemxBwdRefIdeal.main_arg2)
      ∧ r.2.mem ((c.tc : Thread Cert.MemxBwdRefIdeal.nD Cert.MemxBwdRefIdeal.τ).loc Cert.MemxBwdRefIdeal.main_arg3) = m ((c.tc : Thread Cert.MemxBwdRefIdeal.nD Cert.MemxBwdRefIdeal.τ).loc Cert.MemxBwdRefIdeal.main_arg3)
      ∧ r.2.mem ((c.tc : Thread Cert.MemxBwdRefIdeal.nD Cert.MemxBwdRefIdeal.τ).loc Cert.MemxBwdRefIdeal.main_arg4) = m ((c.tc : Thread Cert.MemxBwdRefIdeal.nD Cert.MemxBwdRefIdeal.τ).loc Cert.MemxBwdRefIdeal.main_arg4))
      ∧ r.2.sem = fun _ => 0)

def quiescent_MemkvBwd [hMemkvBwd : Cert.MemkvBwd.Facts] : Prop :=
  ∀ (m : (ℓ : Loc Cert.MemkvBwd.nD Cert.MemkvBwd.τ Cert.MemkvBwd.sig) → Buf (Elt Bits) ℓ) (g : Dev Cert.MemkvBwd.nD → PrngReg), Pre_MemkvBwd m →
    θ_run (Cert.MemkvBwd.defs (F := Bits)) (onTc (τ := Cert.MemkvBwd.τ) (Cert.MemkvBwd.main (F := Bits))) ⟨m, fun _ => 0, g⟩ (fun r => (∀ c : Dev Cert.MemkvBwd.nD,
      r.2.mem ((c.tc : Thread Cert.MemkvBwd.nD Cert.MemkvBwd.τ).loc Cert.MemkvBwd.main_arg0) = m ((c.tc : Thread Cert.MemkvBwd.nD Cert.MemkvBwd.τ).loc Cert.MemkvBwd.main_arg0)
      ∧ r.2.mem ((c.tc : Thread Cert.MemkvBwd.nD Cert.MemkvBwd.τ).loc Cert.MemkvBwd.main_arg1) = m ((c.tc : Thread Cert.MemkvBwd.nD Cert.MemkvBwd.τ).loc Cert.MemkvBwd.main_arg1)
      ∧ r.2.mem ((c.tc : Thread Cert.MemkvBwd.nD Cert.MemkvBwd.τ).loc Cert.MemkvBwd.main_arg2) = m ((c.tc : Thread Cert.MemkvBwd.nD Cert.MemkvBwd.τ).loc Cert.MemkvBwd.main_arg2)
      ∧ r.2.mem ((c.tc : Thread Cert.MemkvBwd.nD Cert.MemkvBwd.τ).loc Cert.MemkvBwd.main_arg3) = m ((c.tc : Thread Cert.MemkvBwd.nD Cert.MemkvBwd.τ).loc Cert.MemkvBwd.main_arg3))
      ∧ r.2.sem = fun _ => 0)

def quiescent_MemkvBwdIdeal [hMemkvBwdIdeal : Cert.MemkvBwdIdeal.Facts] : Prop :=
  ∀ (m : (ℓ : Loc Cert.MemkvBwdIdeal.nD Cert.MemkvBwdIdeal.τ Cert.MemkvBwdIdeal.sig) → Buf (Elt Ideal) ℓ) (g : Dev Cert.MemkvBwdIdeal.nD → PrngReg), Pre_MemkvBwdIdeal m →
    θ_run (Cert.MemkvBwdIdeal.defs (F := Ideal)) (onTc (τ := Cert.MemkvBwdIdeal.τ) (Cert.MemkvBwdIdeal.main (F := Ideal))) ⟨m, fun _ => 0, g⟩ (fun r => (∀ c : Dev Cert.MemkvBwdIdeal.nD,
      r.2.mem ((c.tc : Thread Cert.MemkvBwdIdeal.nD Cert.MemkvBwdIdeal.τ).loc Cert.MemkvBwdIdeal.main_arg0) = m ((c.tc : Thread Cert.MemkvBwdIdeal.nD Cert.MemkvBwdIdeal.τ).loc Cert.MemkvBwdIdeal.main_arg0)
      ∧ r.2.mem ((c.tc : Thread Cert.MemkvBwdIdeal.nD Cert.MemkvBwdIdeal.τ).loc Cert.MemkvBwdIdeal.main_arg1) = m ((c.tc : Thread Cert.MemkvBwdIdeal.nD Cert.MemkvBwdIdeal.τ).loc Cert.MemkvBwdIdeal.main_arg1)
      ∧ r.2.mem ((c.tc : Thread Cert.MemkvBwdIdeal.nD Cert.MemkvBwdIdeal.τ).loc Cert.MemkvBwdIdeal.main_arg2) = m ((c.tc : Thread Cert.MemkvBwdIdeal.nD Cert.MemkvBwdIdeal.τ).loc Cert.MemkvBwdIdeal.main_arg2)
      ∧ r.2.mem ((c.tc : Thread Cert.MemkvBwdIdeal.nD Cert.MemkvBwdIdeal.τ).loc Cert.MemkvBwdIdeal.main_arg3) = m ((c.tc : Thread Cert.MemkvBwdIdeal.nD Cert.MemkvBwdIdeal.τ).loc Cert.MemkvBwdIdeal.main_arg3))
      ∧ r.2.sem = fun _ => 0)

def quiescent_MemkvBwdRefIdeal [hMemkvBwdRefIdeal : Cert.MemkvBwdRefIdeal.Facts] : Prop :=
  ∀ (m : (ℓ : Loc Cert.MemkvBwdRefIdeal.nD Cert.MemkvBwdRefIdeal.τ Cert.MemkvBwdRefIdeal.sig) → Buf (Elt Ideal) ℓ) (g : Dev Cert.MemkvBwdRefIdeal.nD → PrngReg), Pre_MemkvBwdRefIdeal m →
    θ_run (Cert.MemkvBwdRefIdeal.defs (F := Ideal)) (onTc (τ := Cert.MemkvBwdRefIdeal.τ) (Cert.MemkvBwdRefIdeal.main (F := Ideal))) ⟨m, fun _ => 0, g⟩ (fun r => (∀ c : Dev Cert.MemkvBwdRefIdeal.nD,
      r.2.mem ((c.tc : Thread Cert.MemkvBwdRefIdeal.nD Cert.MemkvBwdRefIdeal.τ).loc Cert.MemkvBwdRefIdeal.main_arg0) = m ((c.tc : Thread Cert.MemkvBwdRefIdeal.nD Cert.MemkvBwdRefIdeal.τ).loc Cert.MemkvBwdRefIdeal.main_arg0)
      ∧ r.2.mem ((c.tc : Thread Cert.MemkvBwdRefIdeal.nD Cert.MemkvBwdRefIdeal.τ).loc Cert.MemkvBwdRefIdeal.main_arg1) = m ((c.tc : Thread Cert.MemkvBwdRefIdeal.nD Cert.MemkvBwdRefIdeal.τ).loc Cert.MemkvBwdRefIdeal.main_arg1)
      ∧ r.2.mem ((c.tc : Thread Cert.MemkvBwdRefIdeal.nD Cert.MemkvBwdRefIdeal.τ).loc Cert.MemkvBwdRefIdeal.main_arg2) = m ((c.tc : Thread Cert.MemkvBwdRefIdeal.nD Cert.MemkvBwdRefIdeal.τ).loc Cert.MemkvBwdRefIdeal.main_arg2)
      ∧ r.2.mem ((c.tc : Thread Cert.MemkvBwdRefIdeal.nD Cert.MemkvBwdRefIdeal.τ).loc Cert.MemkvBwdRefIdeal.main_arg3) = m ((c.tc : Thread Cert.MemkvBwdRefIdeal.nD Cert.MemkvBwdRefIdeal.τ).loc Cert.MemkvBwdRefIdeal.main_arg3))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ r.2.sem = fun _ => 0)

def quiescent_MemKvDwRefIdeal [hMemKvDwRefIdeal : Cert.MemKvDwRefIdeal.Facts] : Prop :=
  ∀ (m : (ℓ : Loc Cert.MemKvDwRefIdeal.nD Cert.MemKvDwRefIdeal.τ Cert.MemKvDwRefIdeal.sig) → Buf (Elt Ideal) ℓ) (g : Dev Cert.MemKvDwRefIdeal.nD → PrngReg), Pre_MemKvDwRefIdeal m →
    θ_run (Cert.MemKvDwRefIdeal.defs (F := Ideal)) (onTc (τ := Cert.MemKvDwRefIdeal.τ) (Cert.MemKvDwRefIdeal.main (F := Ideal))) ⟨m, fun _ => 0, g⟩ (fun r => (∀ c : Dev Cert.MemKvDwRefIdeal.nD,
      r.2.mem ((c.tc : Thread Cert.MemKvDwRefIdeal.nD Cert.MemKvDwRefIdeal.τ).loc Cert.MemKvDwRefIdeal.main_arg0) = m ((c.tc : Thread Cert.MemKvDwRefIdeal.nD Cert.MemKvDwRefIdeal.τ).loc Cert.MemKvDwRefIdeal.main_arg0)
      ∧ r.2.mem ((c.tc : Thread Cert.MemKvDwRefIdeal.nD Cert.MemKvDwRefIdeal.τ).loc Cert.MemKvDwRefIdeal.main_arg1) = m ((c.tc : Thread Cert.MemKvDwRefIdeal.nD Cert.MemKvDwRefIdeal.τ).loc Cert.MemKvDwRefIdeal.main_arg1))
      ∧ r.2.sem = fun _ => 0)

def quiescent_MemKvDx [hMemKvDx : Cert.MemKvDx.Facts] : Prop :=
  ∀ (m : (ℓ : Loc Cert.MemKvDx.nD Cert.MemKvDx.τ Cert.MemKvDx.sig) → Buf (Elt Bits) ℓ) (g : Dev Cert.MemKvDx.nD → PrngReg), Pre_MemKvDx m →
    θ_run (Cert.MemKvDx.defs (F := Bits)) (onTc (τ := Cert.MemKvDx.τ) (Cert.MemKvDx.main (F := Bits))) ⟨m, fun _ => 0, g⟩ (fun r => (∀ c : Dev Cert.MemKvDx.nD,
      r.2.mem ((c.tc : Thread Cert.MemKvDx.nD Cert.MemKvDx.τ).loc Cert.MemKvDx.main_arg0) = m ((c.tc : Thread Cert.MemKvDx.nD Cert.MemKvDx.τ).loc Cert.MemKvDx.main_arg0)
      ∧ r.2.mem ((c.tc : Thread Cert.MemKvDx.nD Cert.MemKvDx.τ).loc Cert.MemKvDx.main_arg1) = m ((c.tc : Thread Cert.MemKvDx.nD Cert.MemKvDx.τ).loc Cert.MemKvDx.main_arg1))
      ∧ r.2.sem = fun _ => 0)

def quiescent_MemKvDxIdeal [hMemKvDxIdeal : Cert.MemKvDxIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg), Pre_MemKvDxIdeal m →
    θ_run (Cert.MemKvDxIdeal.defs (F := Ideal)) (onTc (τ := Cert.MemKvDxIdeal.τ) (Cert.MemKvDxIdeal.main (F := Ideal))) ⟨m, fun _ => 0, g⟩ (fun r => (∀ c : Dev Cert.MemKvDxIdeal.nD,
      r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
      ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ r.2.sem = fun _ => 0)

def quiescent_MemKvDxRefIdeal [hMemKvDxRefIdeal : Cert.MemKvDxRefIdeal.Facts] : Prop :=
  ∀ (m : (ℓ : Loc Cert.MemKvDxRefIdeal.nD Cert.MemKvDxRefIdeal.τ Cert.MemKvDxRefIdeal.sig) → Buf (Elt Ideal) ℓ) (g : Dev Cert.MemKvDxRefIdeal.nD → PrngReg), Pre_MemKvDxRefIdeal m →
    θ_run (Cert.MemKvDxRefIdeal.defs (F := Ideal)) (onTc (τ := Cert.MemKvDxRefIdeal.τ) (Cert.MemKvDxRefIdeal.main (F := Ideal))) ⟨m, fun _ => 0, g⟩ (fun r => (∀ c : Dev Cert.MemKvDxRefIdeal.nD,
      r.2.mem ((c.tc : Thread Cert.MemKvDxRefIdeal.nD Cert.MemKvDxRefIdeal.τ).loc Cert.MemKvDxRefIdeal.main_arg0) = m ((c.tc : Thread Cert.MemKvDxRefIdeal.nD Cert.MemKvDxRefIdeal.τ).loc Cert.MemKvDxRefIdeal.main_arg0)
      ∧ r.2.mem ((c.tc : Thread Cert.MemKvDxRefIdeal.nD Cert.MemKvDxRefIdeal.τ).loc Cert.MemKvDxRefIdeal.main_arg1) = m ((c.tc : Thread Cert.MemKvDxRefIdeal.nD Cert.MemKvDxRefIdeal.τ).loc Cert.MemKvDxRefIdeal.main_arg1))
      ∧ r.2.sem = fun _ => 0)

def quiescent_MemGainBwd [hMemGainBwd : Cert.MemGainBwd.Facts] : Prop :=
  ∀ (m : (ℓ : Loc Cert.MemGainBwd.nD Cert.MemGainBwd.τ Cert.MemGainBwd.sig) → Buf (Elt Bits) ℓ) (g : Dev Cert.MemGainBwd.nD → PrngReg), Pre_MemGainBwd m →
    θ_run (Cert.MemGainBwd.defs (F := Bits)) (onTc (τ := Cert.MemGainBwd.τ) (Cert.MemGainBwd.main (F := Bits))) ⟨m, fun _ => 0, g⟩ (fun r => (∀ c : Dev Cert.MemGainBwd.nD,
      r.2.mem ((c.tc : Thread Cert.MemGainBwd.nD Cert.MemGainBwd.τ).loc Cert.MemGainBwd.main_arg0) = m ((c.tc : Thread Cert.MemGainBwd.nD Cert.MemGainBwd.τ).loc Cert.MemGainBwd.main_arg0)
      ∧ r.2.mem ((c.tc : Thread Cert.MemGainBwd.nD Cert.MemGainBwd.τ).loc Cert.MemGainBwd.main_arg1) = m ((c.tc : Thread Cert.MemGainBwd.nD Cert.MemGainBwd.τ).loc Cert.MemGainBwd.main_arg1))
      ∧ r.2.sem = fun _ => 0)

def quiescent_MemGainBwdIdeal [hMemGainBwdIdeal : Cert.MemGainBwdIdeal.Facts] : Prop :=
  ∀ (m : (ℓ : Loc Cert.MemGainBwdIdeal.nD Cert.MemGainBwdIdeal.τ Cert.MemGainBwdIdeal.sig) → Buf (Elt Ideal) ℓ) (g : Dev Cert.MemGainBwdIdeal.nD → PrngReg), Pre_MemGainBwdIdeal m →
    θ_run (Cert.MemGainBwdIdeal.defs (F := Ideal)) (onTc (τ := Cert.MemGainBwdIdeal.τ) (Cert.MemGainBwdIdeal.main (F := Ideal))) ⟨m, fun _ => 0, g⟩ (fun r => (∀ c : Dev Cert.MemGainBwdIdeal.nD,
      r.2.mem ((c.tc : Thread Cert.MemGainBwdIdeal.nD Cert.MemGainBwdIdeal.τ).loc Cert.MemGainBwdIdeal.main_arg0) = m ((c.tc : Thread Cert.MemGainBwdIdeal.nD Cert.MemGainBwdIdeal.τ).loc Cert.MemGainBwdIdeal.main_arg0)
      ∧ r.2.mem ((c.tc : Thread Cert.MemGainBwdIdeal.nD Cert.MemGainBwdIdeal.τ).loc Cert.MemGainBwdIdeal.main_arg1) = m ((c.tc : Thread Cert.MemGainBwdIdeal.nD Cert.MemGainBwdIdeal.τ).loc Cert.MemGainBwdIdeal.main_arg1))
      ∧ r.2.sem = fun _ => 0)

def quiescent_MemGainBwdRefIdeal [hMemGainBwdRefIdeal : Cert.MemGainBwdRefIdeal.Facts] : Prop :=
  ∀ (m : (ℓ : Loc Cert.MemGainBwdRefIdeal.nD Cert.MemGainBwdRefIdeal.τ Cert.MemGainBwdRefIdeal.sig) → Buf (Elt Ideal) ℓ) (g : Dev Cert.MemGainBwdRefIdeal.nD → PrngReg), Pre_MemGainBwdRefIdeal m →
    θ_run (Cert.MemGainBwdRefIdeal.defs (F := Ideal)) (onTc (τ := Cert.MemGainBwdRefIdeal.τ) (Cert.MemGainBwdRefIdeal.main (F := Ideal))) ⟨m, fun _ => 0, g⟩ (fun r => (∀ c : Dev Cert.MemGainBwdRefIdeal.nD,
      r.2.mem ((c.tc : Thread Cert.MemGainBwdRefIdeal.nD Cert.MemGainBwdRefIdeal.τ).loc Cert.MemGainBwdRefIdeal.main_arg0) = m ((c.tc : Thread Cert.MemGainBwdRefIdeal.nD Cert.MemGainBwdRefIdeal.τ).loc Cert.MemGainBwdRefIdeal.main_arg0)
      ∧ r.2.mem ((c.tc : Thread Cert.MemGainBwdRefIdeal.nD Cert.MemGainBwdRefIdeal.τ).loc Cert.MemGainBwdRefIdeal.main_arg1) = m ((c.tc : Thread Cert.MemGainBwdRefIdeal.nD Cert.MemGainBwdRefIdeal.τ).loc Cert.MemGainBwdRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemkvPrep [hMemkvPrep : Cert.MemkvPrep.Facts] : Prop :=
  ∀ (m : (ℓ : Loc Cert.MemkvPrep.nD Cert.MemkvPrep.τ Cert.MemkvPrep.sig) → Buf (Elt Bits) ℓ) (g : Dev Cert.MemkvPrep.nD → PrngReg), Pre_MemkvPrep m →
    θ_run (Cert.MemkvPrep.defs (F := Bits)) (onTc (τ := Cert.MemkvPrep.τ) (Cert.MemkvPrep.main (F := Bits))) ⟨m, fun _ => 0, g⟩ (fun r => (∀ c : Dev Cert.MemkvPrep.nD,
      r.2.mem ((c.tc : Thread Cert.MemkvPrep.nD Cert.MemkvPrep.τ).loc Cert.MemkvPrep.main_arg0) = m ((c.tc : Thread Cert.MemkvPrep.nD Cert.MemkvPrep.τ).loc Cert.MemkvPrep.main_arg0)
      ∧ r.2.mem ((c.tc : Thread Cert.MemkvPrep.nD Cert.MemkvPrep.τ).loc Cert.MemkvPrep.main_arg1) = m ((c.tc : Thread Cert.MemkvPrep.nD Cert.MemkvPrep.τ).loc Cert.MemkvPrep.main_arg1))
      ∧ r.2.sem = fun _ => 0)

def quiescent_MemkvPrepIdeal [hMemkvPrepIdeal : Cert.MemkvPrepIdeal.Facts] : Prop :=
  ∀ (m : (ℓ : Loc Cert.MemkvPrepIdeal.nD Cert.MemkvPrepIdeal.τ Cert.MemkvPrepIdeal.sig) → Buf (Elt Ideal) ℓ) (g : Dev Cert.MemkvPrepIdeal.nD → PrngReg), Pre_MemkvPrepIdeal m →
    θ_run (Cert.MemkvPrepIdeal.defs (F := Ideal)) (onTc (τ := Cert.MemkvPrepIdeal.τ) (Cert.MemkvPrepIdeal.main (F := Ideal))) ⟨m, fun _ => 0, g⟩ (fun r => (∀ c : Dev Cert.MemkvPrepIdeal.nD,
      r.2.mem ((c.tc : Thread Cert.MemkvPrepIdeal.nD Cert.MemkvPrepIdeal.τ).loc Cert.MemkvPrepIdeal.main_arg0) = m ((c.tc : Thread Cert.MemkvPrepIdeal.nD Cert.MemkvPrepIdeal.τ).loc Cert.MemkvPrepIdeal.main_arg0)
      ∧ r.2.mem ((c.tc : Thread Cert.MemkvPrepIdeal.nD Cert.MemkvPrepIdeal.τ).loc Cert.MemkvPrepIdeal.main_arg1) = m ((c.tc : Thread Cert.MemkvPrepIdeal.nD Cert.MemkvPrepIdeal.τ).loc Cert.MemkvPrepIdeal.main_arg1))
      ∧ r.2.sem = fun _ => 0)

def quiescent_MemkvPrepRefIdeal [hMemkvPrepRefIdeal : Cert.MemkvPrepRefIdeal.Facts] : Prop :=
  ∀ (m : (ℓ : Loc Cert.MemkvPrepRefIdeal.nD Cert.MemkvPrepRefIdeal.τ Cert.MemkvPrepRefIdeal.sig) → Buf (Elt Ideal) ℓ) (g : Dev Cert.MemkvPrepRefIdeal.nD → PrngReg), Pre_MemkvPrepRefIdeal m →
    θ_run (Cert.MemkvPrepRefIdeal.defs (F := Ideal)) (onTc (τ := Cert.MemkvPrepRefIdeal.τ) (Cert.MemkvPrepRefIdeal.main (F := Ideal))) ⟨m, fun _ => 0, g⟩ (fun r => (∀ c : Dev Cert.MemkvPrepRefIdeal.nD,
      r.2.mem ((c.tc : Thread Cert.MemkvPrepRefIdeal.nD Cert.MemkvPrepRefIdeal.τ).loc Cert.MemkvPrepRefIdeal.main_arg0) = m ((c.tc : Thread Cert.MemkvPrepRefIdeal.nD Cert.MemkvPrepRefIdeal.τ).loc Cert.MemkvPrepRefIdeal.main_arg0)
      ∧ r.2.mem ((c.tc : Thread Cert.MemkvPrepRefIdeal.nD Cert.MemkvPrepRefIdeal.τ).loc Cert.MemkvPrepRefIdeal.main_arg1) = m ((c.tc : Thread Cert.MemkvPrepRefIdeal.nD Cert.MemkvPrepRefIdeal.τ).loc Cert.MemkvPrepRefIdeal.main_arg1))
      ∧ r.2.sem = fun _ => 0)

def quiescent_MemxFwd [hMemxFwd : Cert.MemxFwd.Facts] : Prop :=
  ∀ (m : (ℓ : Loc Cert.MemxFwd.nD Cert.MemxFwd.τ Cert.MemxFwd.sig) → Buf (Elt Bits) ℓ) (g : Dev Cert.MemxFwd.nD → PrngReg), Pre_MemxFwd m →
    θ_run (Cert.MemxFwd.defs (F := Bits)) (onTc (τ := Cert.MemxFwd.τ) (Cert.MemxFwd.main (F := Bits))) ⟨m, fun _ => 0, g⟩ (fun r => (∀ c : Dev Cert.MemxFwd.nD,
      r.2.mem ((c.tc : Thread Cert.MemxFwd.nD Cert.MemxFwd.τ).loc Cert.MemxFwd.main_arg0) = m ((c.tc : Thread Cert.MemxFwd.nD Cert.MemxFwd.τ).loc Cert.MemxFwd.main_arg0)
      ∧ r.2.mem ((c.tc : Thread Cert.MemxFwd.nD Cert.MemxFwd.τ).loc Cert.MemxFwd.main_arg1) = m ((c.tc : Thread Cert.MemxFwd.nD Cert.MemxFwd.τ).loc Cert.MemxFwd.main_arg1)
      ∧ r.2.mem ((c.tc : Thread Cert.MemxFwd.nD Cert.MemxFwd.τ).loc Cert.MemxFwd.main_arg2) = m ((c.tc : Thread Cert.MemxFwd.nD Cert.MemxFwd.τ).loc Cert.MemxFwd.main_arg2)
      ∧ r.2.mem ((c.tc : Thread Cert.MemxFwd.nD Cert.MemxFwd.τ).loc Cert.MemxFwd.main_arg3) = m ((c.tc : Thread Cert.MemxFwd.nD Cert.MemxFwd.τ).loc Cert.MemxFwd.main_arg3))
      ∧ r.2.sem = fun _ => 0)

def quiescent_MemxFwdIdeal [hMemxFwdIdeal : Cert.MemxFwdIdeal.Facts] : Prop :=
  ∀ (m : (ℓ : Loc Cert.MemxFwdIdeal.nD Cert.MemxFwdIdeal.τ Cert.MemxFwdIdeal.sig) → Buf (Elt Ideal) ℓ) (g : Dev Cert.MemxFwdIdeal.nD → PrngReg), Pre_MemxFwdIdeal m →
    θ_run (Cert.MemxFwdIdeal.defs (F := Ideal)) (onTc (τ := Cert.MemxFwdIdeal.τ) (Cert.MemxFwdIdeal.main (F := Ideal))) ⟨m, fun _ => 0, g⟩ (fun r => (∀ c : Dev Cert.MemxFwdIdeal.nD,
      r.2.mem ((c.tc : Thread Cert.MemxFwdIdeal.nD Cert.MemxFwdIdeal.τ).loc Cert.MemxFwdIdeal.main_arg0) = m ((c.tc : Thread Cert.MemxFwdIdeal.nD Cert.MemxFwdIdeal.τ).loc Cert.MemxFwdIdeal.main_arg0)
      ∧ r.2.mem ((c.tc : Thread Cert.MemxFwdIdeal.nD Cert.MemxFwdIdeal.τ).loc Cert.MemxFwdIdeal.main_arg1) = m ((c.tc : Thread Cert.MemxFwdIdeal.nD Cert.MemxFwdIdeal.τ).loc Cert.MemxFwdIdeal.main_arg1)
      ∧ r.2.mem ((c.tc : Thread Cert.MemxFwdIdeal.nD Cert.MemxFwdIdeal.τ).loc Cert.MemxFwdIdeal.main_arg2) = m ((c.tc : Thread Cert.MemxFwdIdeal.nD Cert.MemxFwdIdeal.τ).loc Cert.MemxFwdIdeal.main_arg2)
      ∧ r.2.mem ((c.tc : Thread Cert.MemxFwdIdeal.nD Cert.MemxFwdIdeal.τ).loc Cert.MemxFwdIdeal.main_arg3) = m ((c.tc : Thread Cert.MemxFwdIdeal.nD Cert.MemxFwdIdeal.τ).loc Cert.MemxFwdIdeal.main_arg3))
      ∧ r.2.sem = fun _ => 0)

def quiescent_MemxFwdIdeal_pre_finite_keys [hMemxFwdIdeal : Cert.MemxFwdIdeal.Facts] [hPre_finite_keys : Cert.Pre_finite_keys.Facts] : Prop :=
  ∀ (m : (ℓ : Loc Cert.MemxFwdIdeal.nD Cert.MemxFwdIdeal.τ Cert.MemxFwdIdeal.sig) → Buf (Elt Ideal) ℓ) (g : Dev Cert.MemxFwdIdeal.nD → PrngReg), Pre_MemxFwdIdeal_finite_keys m →
    θ_run (Cert.MemxFwdIdeal.defs (F := Ideal)) (onTc (τ := Cert.MemxFwdIdeal.τ) (Cert.MemxFwdIdeal.main (F := Ideal))) ⟨m, fun _ => 0, g⟩ (fun r => (∀ c : Dev Cert.MemxFwdIdeal.nD,
      r.2.mem ((c.tc : Thread Cert.MemxFwdIdeal.nD Cert.MemxFwdIdeal.τ).loc Cert.MemxFwdIdeal.main_arg0) = m ((c.tc : Thread Cert.MemxFwdIdeal.nD Cert.MemxFwdIdeal.τ).loc Cert.MemxFwdIdeal.main_arg0)
      ∧ r.2.mem ((c.tc : Thread Cert.MemxFwdIdeal.nD Cert.MemxFwdIdeal.τ).loc Cert.MemxFwdIdeal.main_arg1) = m ((c.tc : Thread Cert.MemxFwdIdeal.nD Cert.MemxFwdIdeal.τ).loc Cert.MemxFwdIdeal.main_arg1)
      ∧ r.2.mem ((c.tc : Thread Cert.MemxFwdIdeal.nD Cert.MemxFwdIdeal.τ).loc Cert.MemxFwdIdeal.main_arg2) = m ((c.tc : Thread Cert.MemxFwdIdeal.nD Cert.MemxFwdIdeal.τ).loc Cert.MemxFwdIdeal.main_arg2)
      ∧ r.2.mem ((c.tc : Thread Cert.MemxFwdIdeal.nD Cert.MemxFwdIdeal.τ).loc Cert.MemxFwdIdeal.main_arg3) = m ((c.tc : Thread Cert.MemxFwdIdeal.nD Cert.MemxFwdIdeal.τ).loc Cert.MemxFwdIdeal.main_arg3))
      ∧ r.2.sem = fun _ => 0)

def quiescent_MemxFwdRefIdeal [hMemxFwdRefIdeal : Cert.MemxFwdRefIdeal.Facts] : Prop :=
  ∀ (m : (ℓ : Loc Cert.MemxFwdRefIdeal.nD Cert.MemxFwdRefIdeal.τ Cert.MemxFwdRefIdeal.sig) → Buf (Elt Ideal) ℓ) (g : Dev Cert.MemxFwdRefIdeal.nD → PrngReg), Pre_MemxFwdRefIdeal m →
    θ_run (Cert.MemxFwdRefIdeal.defs (F := Ideal)) (onTc (τ := Cert.MemxFwdRefIdeal.τ) (Cert.MemxFwdRefIdeal.main (F := Ideal))) ⟨m, fun _ => 0, g⟩ (fun r => (∀ c : Dev Cert.MemxFwdRefIdeal.nD,
      r.2.mem ((c.tc : Thread Cert.MemxFwdRefIdeal.nD Cert.MemxFwdRefIdeal.τ).loc Cert.MemxFwdRefIdeal.main_arg0) = m ((c.tc : Thread Cert.MemxFwdRefIdeal.nD Cert.MemxFwdRefIdeal.τ).loc Cert.MemxFwdRefIdeal.main_arg0)
      ∧ r.2.mem ((c.tc : Thread Cert.MemxFwdRefIdeal.nD Cert.MemxFwdRefIdeal.τ).loc Cert.MemxFwdRefIdeal.main_arg1) = m ((c.tc : Thread Cert.MemxFwdRefIdeal.nD Cert.MemxFwdRefIdeal.τ).loc Cert.MemxFwdRefIdeal.main_arg1)
      ∧ r.2.mem ((c.tc : Thread Cert.MemxFwdRefIdeal.nD Cert.MemxFwdRefIdeal.τ).loc Cert.MemxFwdRefIdeal.main_arg2) = m ((c.tc : Thread Cert.MemxFwdRefIdeal.nD Cert.MemxFwdRefIdeal.τ).loc Cert.MemxFwdRefIdeal.main_arg2)
      ∧ r.2.mem ((c.tc : Thread Cert.MemxFwdRefIdeal.nD Cert.MemxFwdRefIdeal.τ).loc Cert.MemxFwdRefIdeal.main_arg3) = m ((c.tc : Thread Cert.MemxFwdRefIdeal.nD Cert.MemxFwdRefIdeal.τ).loc Cert.MemxFwdRefIdeal.main_arg3))
      ∧ r.2.sem = fun _ => 0)

def quiescent_MemxFwdRefIdeal_pre_finite_keys [hMemxFwdRefIdeal : Cert.MemxFwdRefIdeal.Facts] [hPre_finite_keys : Cert.Pre_finite_keys.Facts] : Prop :=
  ∀ (m : (ℓ : Loc Cert.MemxFwdRefIdeal.nD Cert.MemxFwdRefIdeal.τ Cert.MemxFwdRefIdeal.sig) → Buf (Elt Ideal) ℓ) (g : Dev Cert.MemxFwdRefIdeal.nD → PrngReg), Pre_MemxFwdRefIdeal_finite_keys m →
    θ_run (Cert.MemxFwdRefIdeal.defs (F := Ideal)) (onTc (τ := Cert.MemxFwdRefIdeal.τ) (Cert.MemxFwdRefIdeal.main (F := Ideal))) ⟨m, fun _ => 0, g⟩ (fun r => (∀ c : Dev Cert.MemxFwdRefIdeal.nD,
      r.2.mem ((c.tc : Thread Cert.MemxFwdRefIdeal.nD Cert.MemxFwdRefIdeal.τ).loc Cert.MemxFwdRefIdeal.main_arg0) = m ((c.tc : Thread Cert.MemxFwdRefIdeal.nD Cert.MemxFwdRefIdeal.τ).loc Cert.MemxFwdRefIdeal.main_arg0)
      ∧ r.2.mem ((c.tc : Thread Cert.MemxFwdRefIdeal.nD Cert.MemxFwdRefIdeal.τ).loc Cert.MemxFwdRefIdeal.main_arg1) = m ((c.tc : Thread Cert.MemxFwdRefIdeal.nD Cert.MemxFwdRefIdeal.τ).loc Cert.MemxFwdRefIdeal.main_arg1)
      ∧ r.2.mem ((c.tc : Thread Cert.MemxFwdRefIdeal.nD Cert.MemxFwdRefIdeal.τ).loc Cert.MemxFwdRefIdeal.main_arg2) = m ((c.tc : Thread Cert.MemxFwdRefIdeal.nD Cert.MemxFwdRefIdeal.τ).loc Cert.MemxFwdRefIdeal.main_arg2)
      ∧ r.2.mem ((c.tc : Thread Cert.MemxFwdRefIdeal.nD Cert.MemxFwdRefIdeal.τ).loc Cert.MemxFwdRefIdeal.main_arg3) = m ((c.tc : Thread Cert.MemxFwdRefIdeal.nD Cert.MemxFwdRefIdeal.τ).loc Cert.MemxFwdRefIdeal.main_arg3))
      ∧ r.2.sem = fun _ => 0)

def quiescent_LatFwd [hLatFwd : Cert.LatFwd.Facts] : Prop :=
  ∀ (m : (ℓ : Loc Cert.LatFwd.nD Cert.LatFwd.τ Cert.LatFwd.sig) → Buf (Elt Bits) ℓ) (g : Dev Cert.LatFwd.nD → PrngReg), Pre_LatFwd m →
    θ_run (Cert.LatFwd.defs (F := Bits)) (onTc (τ := Cert.LatFwd.τ) (Cert.LatFwd.main (F := Bits))) ⟨m, fun _ => 0, g⟩ (fun r => (∀ c : Dev Cert.LatFwd.nD,
      r.2.mem ((c.tc : Thread Cert.LatFwd.nD Cert.LatFwd.τ).loc Cert.LatFwd.main_arg0) = m ((c.tc : Thread Cert.LatFwd.nD Cert.LatFwd.τ).loc Cert.LatFwd.main_arg0)
      ∧ r.2.mem ((c.tc : Thread Cert.LatFwd.nD Cert.LatFwd.τ).loc Cert.LatFwd.main_arg1) = m ((c.tc : Thread Cert.LatFwd.nD Cert.LatFwd.τ).loc Cert.LatFwd.main_arg1)
      ∧ r.2.mem ((c.tc : Thread Cert.LatFwd.nD Cert.LatFwd.τ).loc Cert.LatFwd.main_arg2) = m ((c.tc : Thread Cert.LatFwd.nD Cert.LatFwd.τ).loc Cert.LatFwd.main_arg2))
      ∧ r.2.sem = fun _ => 0)

def quiescent_LatFwdIdeal [hLatFwdIdeal : Cert.LatFwdIdeal.Facts] : Prop :=
  ∀ (m : (ℓ : Loc Cert.LatFwdIdeal.nD Cert.LatFwdIdeal.τ Cert.LatFwdIdeal.sig) → Buf (Elt Ideal) ℓ) (g : Dev Cert.LatFwdIdeal.nD → PrngReg), Pre_LatFwdIdeal m →
    θ_run (Cert.LatFwdIdeal.defs (F := Ideal)) (onTc (τ := Cert.LatFwdIdeal.τ) (Cert.LatFwdIdeal.main (F := Ideal))) ⟨m, fun _ => 0, g⟩ (fun r => (∀ c : Dev Cert.LatFwdIdeal.nD,
      r.2.mem ((c.tc : Thread Cert.LatFwdIdeal.nD Cert.LatFwdIdeal.τ).loc Cert.LatFwdIdeal.main_arg0) = m ((c.tc : Thread Cert.LatFwdIdeal.nD Cert.LatFwdIdeal.τ).loc Cert.LatFwdIdeal.main_arg0)
      ∧ r.2.mem ((c.tc : Thread Cert.LatFwdIdeal.nD Cert.LatFwdIdeal.τ).loc Cert.LatFwdIdeal.main_arg1) = m ((c.tc : Thread Cert.LatFwdIdeal.nD Cert.LatFwdIdeal.τ).loc Cert.LatFwdIdeal.main_arg1)
      ∧ r.2.mem ((c.tc : Thread Cert.LatFwdIdeal.nD Cert.LatFwdIdeal.τ).loc Cert.LatFwdIdeal.main_arg2) = m ((c.tc : Thread Cert.LatFwdIdeal.nD Cert.LatFwdIdeal.τ).loc Cert.LatFwdIdeal.main_arg2))
      ∧ r.2.sem = fun _ => 0)

def quiescent_LatFwdRefIdeal [hLatFwdRefIdeal : Cert.LatFwdRefIdeal.Facts] : Prop :=
  ∀ (m : (ℓ : Loc Cert.LatFwdRefIdeal.nD Cert.LatFwdRefIdeal.τ Cert.LatFwdRefIdeal.sig) → Buf (Elt Ideal) ℓ) (g : Dev Cert.LatFwdRefIdeal.nD → PrngReg), Pre_LatFwdRefIdeal m →
    θ_run (Cert.LatFwdRefIdeal.defs (F := Ideal)) (onTc (τ := Cert.LatFwdRefIdeal.τ) (Cert.LatFwdRefIdeal.main (F := Ideal))) ⟨m, fun _ => 0, g⟩ (fun r => (∀ c : Dev Cert.LatFwdRefIdeal.nD,
      r.2.mem ((c.tc : Thread Cert.LatFwdRefIdeal.nD Cert.LatFwdRefIdeal.τ).loc Cert.LatFwdRefIdeal.main_arg0) = m ((c.tc : Thread Cert.LatFwdRefIdeal.nD Cert.LatFwdRefIdeal.τ).loc Cert.LatFwdRefIdeal.main_arg0)
      ∧ r.2.mem ((c.tc : Thread Cert.LatFwdRefIdeal.nD Cert.LatFwdRefIdeal.τ).loc Cert.LatFwdRefIdeal.main_arg1) = m ((c.tc : Thread Cert.LatFwdRefIdeal.nD Cert.LatFwdRefIdeal.τ).loc Cert.LatFwdRefIdeal.main_arg1)
      ∧ r.2.mem ((c.tc : Thread Cert.LatFwdRefIdeal.nD Cert.LatFwdRefIdeal.τ).loc Cert.LatFwdRefIdeal.main_arg2) = m ((c.tc : Thread Cert.LatFwdRefIdeal.nD Cert.LatFwdRefIdeal.τ).loc Cert.LatFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_AdamwGate [hAdamwGate : Cert.AdamwGate.Facts] : Prop :=
  ∀ (m : (ℓ : Loc Cert.AdamwGate.nD Cert.AdamwGate.τ Cert.AdamwGate.sig) → Buf (Elt Bits) ℓ) (g : Dev Cert.AdamwGate.nD → PrngReg), Pre_AdamwGate m →
    θ_run (Cert.AdamwGate.defs (F := Bits)) (onTc (τ := Cert.AdamwGate.τ) (Cert.AdamwGate.main (F := Bits))) ⟨m, fun _ => 0, g⟩ (fun r => (∀ c : Dev Cert.AdamwGate.nD,
      r.2.mem ((c.tc : Thread Cert.AdamwGate.nD Cert.AdamwGate.τ).loc Cert.AdamwGate.main_arg0) = m ((c.tc : Thread Cert.AdamwGate.nD Cert.AdamwGate.τ).loc Cert.AdamwGate.main_arg0)
      ∧ r.2.mem ((c.tc : Thread Cert.AdamwGate.nD Cert.AdamwGate.τ).loc Cert.AdamwGate.main_arg1) = m ((c.tc : Thread Cert.AdamwGate.nD Cert.AdamwGate.τ).loc Cert.AdamwGate.main_arg1)
      ∧ r.2.mem ((c.tc : Thread Cert.AdamwGate.nD Cert.AdamwGate.τ).loc Cert.AdamwGate.main_arg2) = m ((c.tc : Thread Cert.AdamwGate.nD Cert.AdamwGate.τ).loc Cert.AdamwGate.main_arg2)
      ∧ r.2.mem ((c.tc : Thread Cert.AdamwGate.nD Cert.AdamwGate.τ).loc Cert.AdamwGate.main_arg3) = m ((c.tc : Thread Cert.AdamwGate.nD Cert.AdamwGate.τ).loc Cert.AdamwGate.main_arg3)
      ∧ r.2.mem ((c.tc : Thread Cert.AdamwGate.nD Cert.AdamwGate.τ).loc Cert.AdamwGate.main_arg4) = m ((c.tc : Thread Cert.AdamwGate.nD Cert.AdamwGate.τ).loc Cert.AdamwGate.main_arg4))
      ∧ r.2.sem = fun _ => 0)

def quiescent_AdamwGateIdeal [hAdamwGateIdeal : Cert.AdamwGateIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg), Pre_AdamwGateIdeal m →
    θ_run (Cert.AdamwGateIdeal.defs (F := Ideal)) (onTc (τ := Cert.AdamwGateIdeal.τ) (Cert.AdamwGateIdeal.main (F := Ideal))) ⟨m, fun _ => 0, g⟩ (fun r => (∀ c : Dev Cert.AdamwGateIdeal.nD,
      r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
      ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
      ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
      ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3)
      ∧ r.2.mem ((c.tc : Thread Cert.AdamwGateIdeal.nD Cert.AdamwGateIdeal.τ).loc Cert.AdamwGateIdeal.main_arg4) = m ((c.tc : Thread Cert.AdamwGateIdeal.nD Cert.AdamwGateIdeal.τ).loc Cert.AdamwGateIdeal.main_arg4))
      ∧ r.2.sem = fun _ => 0)

def quiescent_AdamwGateRefIdeal [hAdamwGateRefIdeal : Cert.AdamwGateRefIdeal.Facts] : Prop :=
  ∀ (m : (ℓ : Loc Cert.AdamwGateRefIdeal.nD Cert.AdamwGateRefIdeal.τ Cert.AdamwGateRefIdeal.sig) → Buf (Elt Ideal) ℓ) (g : Dev Cert.AdamwGateRefIdeal.nD → PrngReg), Pre_AdamwGateRefIdeal m →
    θ_run (Cert.AdamwGateRefIdeal.defs (F := Ideal)) (onTc (τ := Cert.AdamwGateRefIdeal.τ) (Cert.AdamwGateRefIdeal.main (F := Ideal))) ⟨m, fun _ => 0, g⟩ (fun r => (∀ c : Dev Cert.AdamwGateRefIdeal.nD,
      r.2.mem ((c.tc : Thread Cert.AdamwGateRefIdeal.nD Cert.AdamwGateRefIdeal.τ).loc Cert.AdamwGateRefIdeal.main_arg0) = m ((c.tc : Thread Cert.AdamwGateRefIdeal.nD Cert.AdamwGateRefIdeal.τ).loc Cert.AdamwGateRefIdeal.main_arg0)
      ∧ r.2.mem ((c.tc : Thread Cert.AdamwGateRefIdeal.nD Cert.AdamwGateRefIdeal.τ).loc Cert.AdamwGateRefIdeal.main_arg1) = m ((c.tc : Thread Cert.AdamwGateRefIdeal.nD Cert.AdamwGateRefIdeal.τ).loc Cert.AdamwGateRefIdeal.main_arg1)
      ∧ r.2.mem ((c.tc : Thread Cert.AdamwGateRefIdeal.nD Cert.AdamwGateRefIdeal.τ).loc Cert.AdamwGateRefIdeal.main_arg2) = m ((c.tc : Thread Cert.AdamwGateRefIdeal.nD Cert.AdamwGateRefIdeal.τ).loc Cert.AdamwGateRefIdeal.main_arg2)
      ∧ r.2.mem ((c.tc : Thread Cert.AdamwGateRefIdeal.nD Cert.AdamwGateRefIdeal.τ).loc Cert.AdamwGateRefIdeal.main_arg3) = m ((c.tc : Thread Cert.AdamwGateRefIdeal.nD Cert.AdamwGateRefIdeal.τ).loc Cert.AdamwGateRefIdeal.main_arg3)
      ∧ r.2.mem ((c.tc : Thread Cert.AdamwGateRefIdeal.nD Cert.AdamwGateRefIdeal.τ).loc Cert.AdamwGateRefIdeal.main_arg4) = m ((c.tc : Thread Cert.AdamwGateRefIdeal.nD Cert.AdamwGateRefIdeal.τ).loc Cert.AdamwGateRefIdeal.main_arg4))
      ∧ r.2.sem = fun _ => 0)

def preserves_Kernel_KernelIdeal : Prop :=
  True

def algebraic_KernelIdeal_ReferenceIdeal_pre_finite_up [hKernelIdeal : Cert.KernelIdeal.Facts] [hReferenceIdeal : Cert.ReferenceIdeal.Facts] [hPre_finite_up : Cert.Pre_finite_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v4) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v5) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0_0)) (v1 : (c : Dev Cert.DownDwIdeal.nD) → Buf (Elt Ideal) ((c.tc : Thread Cert.DownDwIdeal.nD Cert.DownDwIdeal.τ).loc Cert.DownDwIdeal.main_v0_1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0_0) = v0 c
          ∧ r.2.mem ((c.tc : Thread Cert.DownDwIdeal.nD Cert.DownDwIdeal.τ).loc Cert.DownDwIdeal.main_v0_1) = v1 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_v6) = v1 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDxRms_UpDxRmsIdeal : Prop :=
  True

def algebraic_UpDxRmsIdeal_UpDxRmsRefIdeal [hUpDxRmsIdeal : Cert.UpDxRmsIdeal.Facts] [hUpDxRmsRefIdeal : Cert.UpDxRmsRefIdeal.Facts] : Prop :=
  ∀ (m : (ℓ : Loc Cert.UpDxRmsIdeal.nD Cert.UpDxRmsIdeal.τ Cert.UpDxRmsIdeal.sig) → Buf (Elt Ideal) ℓ) (g : Dev Cert.UpDxRmsIdeal.nD → PrngReg)
    (m' : (ℓ : Loc Cert.UpDxRmsRefIdeal.nD Cert.UpDxRmsRefIdeal.τ Cert.UpDxRmsRefIdeal.sig) → Buf (Elt Ideal) ℓ) (g' : Dev Cert.UpDxRmsRefIdeal.nD → PrngReg), Pre_UpDxRmsIdeal m →
    (∀ c : Dev Cert.UpDxRmsIdeal.nD,
      m' ((c.tc : Thread Cert.UpDxRmsRefIdeal.nD Cert.UpDxRmsRefIdeal.τ).loc Cert.UpDxRmsRefIdeal.main_arg0) = m ((c.tc : Thread Cert.UpDxRmsIdeal.nD Cert.UpDxRmsIdeal.τ).loc Cert.UpDxRmsIdeal.main_arg0)
      ∧ m' ((c.tc : Thread Cert.UpDxRmsRefIdeal.nD Cert.UpDxRmsRefIdeal.τ).loc Cert.UpDxRmsRefIdeal.main_arg1) = m ((c.tc : Thread Cert.UpDxRmsIdeal.nD Cert.UpDxRmsIdeal.τ).loc Cert.UpDxRmsIdeal.main_arg1)
      ∧ m' ((c.tc : Thread Cert.UpDxRmsRefIdeal.nD Cert.UpDxRmsRefIdeal.τ).loc Cert.UpDxRmsRefIdeal.main_arg2) = m ((c.tc : Thread Cert.UpDxRmsIdeal.nD Cert.UpDxRmsIdeal.τ).loc Cert.UpDxRmsIdeal.main_arg2)
      ∧ m' ((c.tc : Thread Cert.UpDxRmsRefIdeal.nD Cert.UpDxRmsRefIdeal.τ).loc Cert.UpDxRmsRefIdeal.main_arg3) = m ((c.tc : Thread Cert.UpDxRmsIdeal.nD Cert.UpDxRmsIdeal.τ).loc Cert.UpDxRmsIdeal.main_arg3)
      ∧ m' ((c.tc : Thread Cert.UpDxRmsRefIdeal.nD Cert.UpDxRmsRefIdeal.τ).loc Cert.UpDxRmsRefIdeal.main_arg4) = m ((c.tc : Thread Cert.UpDxRmsIdeal.nD Cert.UpDxRmsIdeal.τ).loc Cert.UpDxRmsIdeal.main_arg4)
      ∧ m' ((c.tc : Thread Cert.UpDxRmsRefIdeal.nD Cert.UpDxRmsRefIdeal.τ).loc Cert.UpDxRmsRefIdeal.main_arg5) = m ((c.tc : Thread Cert.UpDxRmsIdeal.nD Cert.UpDxRmsIdeal.τ).loc Cert.UpDxRmsIdeal.main_arg5)) →
    ∃ (v0 : (c : Dev Cert.UpDxRmsIdeal.nD) → Buf (Elt Ideal) ((c.tc : Thread Cert.UpDxRmsIdeal.nD Cert.UpDxRmsIdeal.τ).loc Cert.UpDxRmsIdeal.main_v0_0)) (v1 : (c : Dev Cert.UpDxRmsIdeal.nD) → Buf (Elt Ideal) ((c.tc : Thread Cert.UpDxRmsIdeal.nD Cert.UpDxRmsIdeal.τ).loc Cert.UpDxRmsIdeal.main_v0_1)) (v2 : (c : Dev Cert.UpDxRmsIdeal.nD) → Buf (Elt Ideal) ((c.tc : Thread Cert.UpDxRmsIdeal.nD Cert.UpDxRmsIdeal.τ).loc Cert.UpDxRmsIdeal.main_v0_2)),
      θ_run (Cert.UpDxRmsIdeal.defs (F := Ideal)) (onTc (τ := Cert.UpDxRmsIdeal.τ) (Cert.UpDxRmsIdeal.main (F := Ideal))) ⟨m, fun _ => 0, g⟩ (fun r => ∀ c : Dev Cert.UpDxRmsIdeal.nD,
          r.2.mem ((c.tc : Thread Cert.UpDxRmsIdeal.nD Cert.UpDxRmsIdeal.τ).loc Cert.UpDxRmsIdeal.main_v0_0) = v0 c
          ∧ r.2.mem ((c.tc : Thread Cert.UpDxRmsIdeal.nD Cert.UpDxRmsIdeal.τ).loc Cert.UpDxRmsIdeal.main_v0_1) = v1 c
          ∧ r.2.mem ((c.tc : Thread Cert.UpDxRmsIdeal.nD Cert.UpDxRmsIdeal.τ).loc Cert.UpDxRmsIdeal.main_v0_2) = v2 c
          ∧ r.2.mem ((c.tc : Thread Cert.UpDxRmsIdeal.nD Cert.UpDxRmsIdeal.τ).loc Cert.UpDxRmsIdeal.main_arg0) = m ((c.tc : Thread Cert.UpDxRmsIdeal.nD Cert.UpDxRmsIdeal.τ).loc Cert.UpDxRmsIdeal.main_arg0)
          ∧ r.2.mem ((c.tc : Thread Cert.UpDxRmsIdeal.nD Cert.UpDxRmsIdeal.τ).loc Cert.UpDxRmsIdeal.main_arg1) = m ((c.tc : Thread Cert.UpDxRmsIdeal.nD Cert.UpDxRmsIdeal.τ).loc Cert.UpDxRmsIdeal.main_arg1)
          ∧ r.2.mem ((c.tc : Thread Cert.UpDxRmsIdeal.nD Cert.UpDxRmsIdeal.τ).loc Cert.UpDxRmsIdeal.main_arg2) = m ((c.tc : Thread Cert.UpDxRmsIdeal.nD Cert.UpDxRmsIdeal.τ).loc Cert.UpDxRmsIdeal.main_arg2)
          ∧ r.2.mem ((c.tc : Thread Cert.UpDxRmsIdeal.nD Cert.UpDxRmsIdeal.τ).loc Cert.UpDxRmsIdeal.main_arg3) = m ((c.tc : Thread Cert.UpDxRmsIdeal.nD Cert.UpDxRmsIdeal.τ).loc Cert.UpDxRmsIdeal.main_arg3)
          ∧ r.2.mem ((c.tc : Thread Cert.UpDxRmsIdeal.nD Cert.UpDxRmsIdeal.τ).loc Cert.UpDxRmsIdeal.main_arg4) = m ((c.tc : Thread Cert.UpDxRmsIdeal.nD Cert.UpDxRmsIdeal.τ).loc Cert.UpDxRmsIdeal.main_arg4)
          ∧ r.2.mem ((c.tc : Thread Cert.UpDxRmsIdeal.nD Cert.UpDxRmsIdeal.τ).loc Cert.UpDxRmsIdeal.main_arg5) = m ((c.tc : Thread Cert.UpDxRmsIdeal.nD Cert.UpDxRmsIdeal.τ).loc Cert.UpDxRmsIdeal.main_arg5))
      ∧ θ_run (Cert.UpDxRmsRefIdeal.defs (F := Ideal)) (onTc (τ := Cert.UpDxRmsRefIdeal.τ) (Cert.UpDxRmsRefIdeal.main (F := Ideal))) ⟨m', fun _ => 0, g'⟩ (fun r => ∀ c : Dev Cert.UpDxRmsRefIdeal.nD,
          r.2.mem ((c.tc : Thread Cert.UpDxRmsRefIdeal.nD Cert.UpDxRmsRefIdeal.τ).loc Cert.UpDxRmsRefIdeal.main_v39) = v0 c
          ∧ r.2.mem ((c.tc : Thread Cert.UpDxRmsRefIdeal.nD Cert.UpDxRmsRefIdeal.τ).loc Cert.UpDxRmsRefIdeal.main_v40) = v1 c
          ∧ r.2.mem ((c.tc : Thread Cert.UpDxRmsRefIdeal.nD Cert.UpDxRmsRefIdeal.τ).loc Cert.UpDxRmsRefIdeal.main_v22) = v2 c
          ∧ r.2.mem ((c.tc : Thread Cert.UpDxRmsRefIdeal.nD Cert.UpDxRmsRefIdeal.τ).loc Cert.UpDxRmsRefIdeal.main_arg0) = m' ((c.tc : Thread Cert.UpDxRmsRefIdeal.nD Cert.UpDxRmsRefIdeal.τ).loc Cert.UpDxRmsRefIdeal.main_arg0)
          ∧ r.2.mem ((c.tc : Thread Cert.UpDxRmsRefIdeal.nD Cert.UpDxRmsRefIdeal.τ).loc Cert.UpDxRmsRefIdeal.main_arg1) = m' ((c.tc : Thread Cert.UpDxRmsRefIdeal.nD Cert.UpDxRmsRefIdeal.τ).loc Cert.UpDxRmsRefIdeal.main_arg1)
          ∧ r.2.mem ((c.tc : Thread Cert.UpDxRmsRefIdeal.nD Cert.UpDxRmsRefIdeal.τ).loc Cert.UpDxRmsRefIdeal.main_arg2) = m' ((c.tc : Thread Cert.UpDxRmsRefIdeal.nD Cert.UpDxRmsRefIdeal.τ).loc Cert.UpDxRmsRefIdeal.main_arg2)
          ∧ r.2.mem ((c.tc : Thread Cert.UpDxRmsRefIdeal.nD Cert.UpDxRmsRefIdeal.τ).loc Cert.UpDxRmsRefIdeal.main_arg3) = m' ((c.tc : Thread Cert.UpDxRmsRefIdeal.nD Cert.UpDxRmsRefIdeal.τ).loc Cert.UpDxRmsRefIdeal.main_arg3)
          ∧ r.2.mem ((c.tc : Thread Cert.UpDxRmsRefIdeal.nD Cert.UpDxRmsRefIdeal.τ).loc Cert.UpDxRmsRefIdeal.main_arg4) = m' ((c.tc : Thread Cert.UpDxRmsRefIdeal.nD Cert.UpDxRmsRefIdeal.τ).loc Cert.UpDxRmsRefIdeal.main_arg4)
          ∧ r.2.mem ((c.tc : Thread Cert.UpDxRmsRefIdeal.nD Cert.UpDxRmsRefIdeal.τ).loc Cert.UpDxRmsRefIdeal.main_arg5) = m' ((c.tc : Thread Cert.UpDxRmsRefIdeal.nD Cert.UpDxRmsRefIdeal.τ).loc Cert.UpDxRmsRefIdeal.main_arg5))

def preserves_LatBwd_LatBwdIdeal : Prop :=
  True

def algebraic_LatBwdIdeal_LatBwdRefIdeal [hLatBwdIdeal : Cert.LatBwdIdeal.Facts] [hLatBwdRefIdeal : Cert.LatBwdRefIdeal.Facts] : Prop :=
  ∀ (m : (ℓ : Loc Cert.LatBwdIdeal.nD Cert.LatBwdIdeal.τ Cert.LatBwdIdeal.sig) → Buf (Elt Ideal) ℓ) (g : Dev Cert.LatBwdIdeal.nD → PrngReg)
    (m' : (ℓ : Loc Cert.LatBwdRefIdeal.nD Cert.LatBwdRefIdeal.τ Cert.LatBwdRefIdeal.sig) → Buf (Elt Ideal) ℓ) (g' : Dev Cert.LatBwdRefIdeal.nD → PrngReg), Pre_LatBwdIdeal m →
    (∀ c : Dev Cert.LatBwdIdeal.nD,
      m' ((c.tc : Thread Cert.LatBwdRefIdeal.nD Cert.LatBwdRefIdeal.τ).loc Cert.LatBwdRefIdeal.main_arg0) = m ((c.tc : Thread Cert.LatBwdIdeal.nD Cert.LatBwdIdeal.τ).loc Cert.LatBwdIdeal.main_arg0)
      ∧ m' ((c.tc : Thread Cert.LatBwdRefIdeal.nD Cert.LatBwdRefIdeal.τ).loc Cert.LatBwdRefIdeal.main_arg1) = m ((c.tc : Thread Cert.LatBwdIdeal.nD Cert.LatBwdIdeal.τ).loc Cert.LatBwdIdeal.main_arg1)
      ∧ m' ((c.tc : Thread Cert.LatBwdRefIdeal.nD Cert.LatBwdRefIdeal.τ).loc Cert.LatBwdRefIdeal.main_arg2) = m ((c.tc : Thread Cert.LatBwdIdeal.nD Cert.LatBwdIdeal.τ).loc Cert.LatBwdIdeal.main_arg2)
      ∧ m' ((c.tc : Thread Cert.LatBwdRefIdeal.nD Cert.LatBwdRefIdeal.τ).loc Cert.LatBwdRefIdeal.main_arg3) = m ((c.tc : Thread Cert.LatBwdIdeal.nD Cert.LatBwdIdeal.τ).loc Cert.LatBwdIdeal.main_arg3)
      ∧ m' ((c.tc : Thread Cert.LatBwdRefIdeal.nD Cert.LatBwdRefIdeal.τ).loc Cert.LatBwdRefIdeal.main_arg4) = m ((c.tc : Thread Cert.LatBwdIdeal.nD Cert.LatBwdIdeal.τ).loc Cert.LatBwdIdeal.main_arg4)) →
    ∃ (v0 : (c : Dev Cert.LatBwdIdeal.nD) → Buf (Elt Ideal) ((c.tc : Thread Cert.LatBwdIdeal.nD Cert.LatBwdIdeal.τ).loc Cert.LatBwdIdeal.main_v0_0)) (v1 : (c : Dev Cert.LatBwdIdeal.nD) → Buf (Elt Ideal) ((c.tc : Thread Cert.LatBwdIdeal.nD Cert.LatBwdIdeal.τ).loc Cert.LatBwdIdeal.main_v0_1)) (v2 : (c : Dev Cert.LatBwdIdeal.nD) → Buf (Elt Ideal) ((c.tc : Thread Cert.LatBwdIdeal.nD Cert.LatBwdIdeal.τ).loc Cert.LatBwdIdeal.main_v0_2)) (v3 : (c : Dev Cert.LatBwdIdeal.nD) → Buf (Elt Ideal) ((c.tc : Thread Cert.LatBwdIdeal.nD Cert.LatBwdIdeal.τ).loc Cert.LatBwdIdeal.main_v0_3)),
      θ_run (Cert.LatBwdIdeal.defs (F := Ideal)) (onTc (τ := Cert.LatBwdIdeal.τ) (Cert.LatBwdIdeal.main (F := Ideal))) ⟨m, fun _ => 0, g⟩ (fun r => ∀ c : Dev Cert.LatBwdIdeal.nD,
          r.2.mem ((c.tc : Thread Cert.LatBwdIdeal.nD Cert.LatBwdIdeal.τ).loc Cert.LatBwdIdeal.main_v0_0) = v0 c
          ∧ r.2.mem ((c.tc : Thread Cert.LatBwdIdeal.nD Cert.LatBwdIdeal.τ).loc Cert.LatBwdIdeal.main_v0_1) = v1 c
          ∧ r.2.mem ((c.tc : Thread Cert.LatBwdIdeal.nD Cert.LatBwdIdeal.τ).loc Cert.LatBwdIdeal.main_v0_2) = v2 c
          ∧ r.2.mem ((c.tc : Thread Cert.LatBwdIdeal.nD Cert.LatBwdIdeal.τ).loc Cert.LatBwdIdeal.main_v0_3) = v3 c
          ∧ r.2.mem ((c.tc : Thread Cert.LatBwdIdeal.nD Cert.LatBwdIdeal.τ).loc Cert.LatBwdIdeal.main_arg0) = m ((c.tc : Thread Cert.LatBwdIdeal.nD Cert.LatBwdIdeal.τ).loc Cert.LatBwdIdeal.main_arg0)
          ∧ r.2.mem ((c.tc : Thread Cert.LatBwdIdeal.nD Cert.LatBwdIdeal.τ).loc Cert.LatBwdIdeal.main_arg1) = m ((c.tc : Thread Cert.LatBwdIdeal.nD Cert.LatBwdIdeal.τ).loc Cert.LatBwdIdeal.main_arg1)
          ∧ r.2.mem ((c.tc : Thread Cert.LatBwdIdeal.nD Cert.LatBwdIdeal.τ).loc Cert.LatBwdIdeal.main_arg2) = m ((c.tc : Thread Cert.LatBwdIdeal.nD Cert.LatBwdIdeal.τ).loc Cert.LatBwdIdeal.main_arg2)
          ∧ r.2.mem ((c.tc : Thread Cert.LatBwdIdeal.nD Cert.LatBwdIdeal.τ).loc Cert.LatBwdIdeal.main_arg3) = m ((c.tc : Thread Cert.LatBwdIdeal.nD Cert.LatBwdIdeal.τ).loc Cert.LatBwdIdeal.main_arg3)
          ∧ r.2.mem ((c.tc : Thread Cert.LatBwdIdeal.nD Cert.LatBwdIdeal.τ).loc Cert.LatBwdIdeal.main_arg4) = m ((c.tc : Thread Cert.LatBwdIdeal.nD Cert.LatBwdIdeal.τ).loc Cert.LatBwdIdeal.main_arg4))
      ∧ θ_run (Cert.LatBwdRefIdeal.defs (F := Ideal)) (onTc (τ := Cert.LatBwdRefIdeal.τ) (Cert.LatBwdRefIdeal.main (F := Ideal))) ⟨m', fun _ => 0, g'⟩ (fun r => ∀ c : Dev Cert.LatBwdRefIdeal.nD,
          r.2.mem ((c.tc : Thread Cert.LatBwdRefIdeal.nD Cert.LatBwdRefIdeal.τ).loc Cert.LatBwdRefIdeal.main_v70) = v0 c
          ∧ r.2.mem ((c.tc : Thread Cert.LatBwdRefIdeal.nD Cert.LatBwdRefIdeal.τ).loc Cert.LatBwdRefIdeal.main_v71) = v1 c
          ∧ r.2.mem ((c.tc : Thread Cert.LatBwdRefIdeal.nD Cert.LatBwdRefIdeal.τ).loc Cert.LatBwdRefIdeal.main_v18) = v2 c
          ∧ r.2.mem ((c.tc : Thread Cert.LatBwdRefIdeal.nD Cert.LatBwdRefIdeal.τ).loc Cert.LatBwdRefIdeal.main_v53) = v3 c
          ∧ r.2.mem ((c.tc : Thread Cert.LatBwdRefIdeal.nD Cert.LatBwdRefIdeal.τ).loc Cert.LatBwdRefIdeal.main_arg0) = m' ((c.tc : Thread Cert.LatBwdRefIdeal.nD Cert.LatBwdRefIdeal.τ).loc Cert.LatBwdRefIdeal.main_arg0)
          ∧ r.2.mem ((c.tc : Thread Cert.LatBwdRefIdeal.nD Cert.LatBwdRefIdeal.τ).loc Cert.LatBwdRefIdeal.main_arg1) = m' ((c.tc : Thread Cert.LatBwdRefIdeal.nD Cert.LatBwdRefIdeal.τ).loc Cert.LatBwdRefIdeal.main_arg1)
          ∧ r.2.mem ((c.tc : Thread Cert.LatBwdRefIdeal.nD Cert.LatBwdRefIdeal.τ).loc Cert.LatBwdRefIdeal.main_arg2) = m' ((c.tc : Thread Cert.LatBwdRefIdeal.nD Cert.LatBwdRefIdeal.τ).loc Cert.LatBwdRefIdeal.main_arg2)
          ∧ r.2.mem ((c.tc : Thread Cert.LatBwdRefIdeal.nD Cert.LatBwdRefIdeal.τ).loc Cert.LatBwdRefIdeal.main_arg3) = m' ((c.tc : Thread Cert.LatBwdRefIdeal.nD Cert.LatBwdRefIdeal.τ).loc Cert.LatBwdRefIdeal.main_arg3)
          ∧ r.2.mem ((c.tc : Thread Cert.LatBwdRefIdeal.nD Cert.LatBwdRefIdeal.τ).loc Cert.LatBwdRefIdeal.main_arg4) = m' ((c.tc : Thread Cert.LatBwdRefIdeal.nD Cert.LatBwdRefIdeal.τ).loc Cert.LatBwdRefIdeal.main_arg4))

def preserves_ODx_ODxIdeal : Prop :=
  True

def algebraic_ODxIdeal_ODxRefIdeal [hODxIdeal : Cert.ODxIdeal.Facts] [hODxRefIdeal : Cert.ODxRefIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.ODxRefIdeal.nD Cert.ODxRefIdeal.τ Cert.ODxRefIdeal.sig) → Buf (Elt Ideal) ℓ) (g' : Dev Cert.ODxRefIdeal.nD → PrngReg), Pre_ODxIdeal m →
    (∀ c : Dev Cert.ODxIdeal.nD,
      m' ((c.tc : Thread Cert.ODxRefIdeal.nD Cert.ODxRefIdeal.τ).loc Cert.ODxRefIdeal.main_arg0) = m ((c.tc : Thread Cert.ODxIdeal.nD Cert.ODxIdeal.τ).loc Cert.ODxIdeal.main_arg0)
      ∧ m' ((c.tc : Thread Cert.ODxRefIdeal.nD Cert.ODxRefIdeal.τ).loc Cert.ODxRefIdeal.main_arg1) = m ((c.tc : Thread Cert.ODxIdeal.nD Cert.ODxIdeal.τ).loc Cert.ODxIdeal.main_arg1)) →
    ∃ (v0 : (c : Dev Cert.ODxIdeal.nD) → Buf (Elt Ideal) ((c.tc : Thread Cert.ODxIdeal.nD Cert.ODxIdeal.τ).loc Cert.ODxIdeal.main_v0)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v0) = v0 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ θ_run (Cert.ODxRefIdeal.defs (F := Ideal)) (onTc (τ := Cert.ODxRefIdeal.τ) (Cert.ODxRefIdeal.main (F := Ideal))) ⟨m', fun _ => 0, g'⟩ (fun r => ∀ c : Dev Cert.ODxRefIdeal.nD,
          r.2.mem ((c.tc : Thread Cert.ODxRefIdeal.nD Cert.ODxRefIdeal.τ).loc Cert.ODxRefIdeal.main_v4) = v0 c
          ∧ r.2.mem ((c.tc : Thread Cert.ODxRefIdeal.nD Cert.ODxRefIdeal.τ).loc Cert.ODxRefIdeal.main_arg0) = m' ((c.tc : Thread Cert.ODxRefIdeal.nD Cert.ODxRefIdeal.τ).loc Cert.ODxRefIdeal.main_arg0)
          ∧ r.2.mem ((c.tc : Thread Cert.ODxRefIdeal.nD Cert.ODxRefIdeal.τ).loc Cert.ODxRefIdeal.main_arg1) = m' ((c.tc : Thread Cert.ODxRefIdeal.nD Cert.ODxRefIdeal.τ).loc Cert.ODxRefIdeal.main_arg1))

def preserves_ODw_ODwIdeal : Prop :=
  True

def algebraic_ODwIdeal_ODwRefIdeal [hODwIdeal : Cert.ODwIdeal.Facts] [hODwRefIdeal : Cert.ODwRefIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwRefIdeal.nD Cert.ODwRefIdeal.τ Cert.ODwRefIdeal.sig) → Buf (Elt Ideal) ℓ) (g' : Dev Cert.ODwRefIdeal.nD → PrngReg), Pre_ODwIdeal m →
    (∀ c : Dev Cert.ODwIdeal.nD,
      m' ((c.tc : Thread Cert.ODwRefIdeal.nD Cert.ODwRefIdeal.τ).loc Cert.ODwRefIdeal.main_arg0) = m ((c.tc : Thread Cert.ODwIdeal.nD Cert.ODwIdeal.τ).loc Cert.ODwIdeal.main_arg0)
      ∧ m' ((c.tc : Thread Cert.ODwRefIdeal.nD Cert.ODwRefIdeal.τ).loc Cert.ODwRefIdeal.main_arg1) = m ((c.tc : Thread Cert.ODwIdeal.nD Cert.ODwIdeal.τ).loc Cert.ODwIdeal.main_arg1)) →
    ∃ (v0 : (c : Dev Cert.ODwIdeal.nD) → Buf (Elt Ideal) ((c.tc : Thread Cert.ODwIdeal.nD Cert.ODwIdeal.τ).loc Cert.ODwIdeal.main_v0_0)) (v1 : (c : Dev Cert.ODwIdeal.nD) → Buf (Elt Ideal) ((c.tc : Thread Cert.ODwIdeal.nD Cert.ODwIdeal.τ).loc Cert.ODwIdeal.main_v0_1)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0_0) = v0 c
          ∧ r.2.mem ((c.tc : Thread Cert.ODwIdeal.nD Cert.ODwIdeal.τ).loc Cert.ODwIdeal.main_v0_1) = v1 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ θ_run (Cert.ODwRefIdeal.defs (F := Ideal)) (onTc (τ := Cert.ODwRefIdeal.τ) (Cert.ODwRefIdeal.main (F := Ideal))) ⟨m', fun _ => 0, g'⟩ (fun r => ∀ c : Dev Cert.ODwRefIdeal.nD,
          r.2.mem ((c.tc : Thread Cert.ODwRefIdeal.nD Cert.ODwRefIdeal.τ).loc Cert.ODwRefIdeal.main_v5) = v0 c
          ∧ r.2.mem ((c.tc : Thread Cert.ODwRefIdeal.nD Cert.ODwRefIdeal.τ).loc Cert.ODwRefIdeal.main_v6) = v1 c
          ∧ r.2.mem ((c.tc : Thread Cert.ODwRefIdeal.nD Cert.ODwRefIdeal.τ).loc Cert.ODwRefIdeal.main_arg0) = m' ((c.tc : Thread Cert.ODwRefIdeal.nD Cert.ODwRefIdeal.τ).loc Cert.ODwRefIdeal.main_arg0)
          ∧ r.2.mem ((c.tc : Thread Cert.ODwRefIdeal.nD Cert.ODwRefIdeal.τ).loc Cert.ODwRefIdeal.main_arg1) = m' ((c.tc : Thread Cert.ODwRefIdeal.nD Cert.ODwRefIdeal.τ).loc Cert.ODwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_QUpDx_QUpDxIdeal : Prop :=
  True

def algebraic_QUpDxIdeal_QUpDxRefIdeal [hQUpDxIdeal : Cert.QUpDxIdeal.Facts] [hQUpDxRefIdeal : Cert.QUpDxRefIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg)
    (m' : (ℓ : Loc Cert.QUpDxRefIdeal.nD Cert.QUpDxRefIdeal.τ Cert.QUpDxRefIdeal.sig) → Buf (Elt Ideal) ℓ) (g' : Dev Cert.QUpDxRefIdeal.nD → PrngReg), Pre_QUpDxIdeal m →
    (∀ c : Dev Cert.QUpDxIdeal.nD,
      m' ((c.tc : Thread Cert.QUpDxRefIdeal.nD Cert.QUpDxRefIdeal.τ).loc Cert.QUpDxRefIdeal.main_arg0) = m ((c.tc : Thread Cert.QUpDxIdeal.nD Cert.QUpDxIdeal.τ).loc Cert.QUpDxIdeal.main_arg0)
      ∧ m' ((c.tc : Thread Cert.QUpDxRefIdeal.nD Cert.QUpDxRefIdeal.τ).loc Cert.QUpDxRefIdeal.main_arg1) = m ((c.tc : Thread Cert.QUpDxIdeal.nD Cert.QUpDxIdeal.τ).loc Cert.QUpDxIdeal.main_arg1)) →
    ∃ (v0 : (c : Dev Cert.QUpDxIdeal.nD) → Buf (Elt Ideal) ((c.tc : Thread Cert.QUpDxIdeal.nD Cert.QUpDxIdeal.τ).loc Cert.QUpDxIdeal.main_v0)),
      θ_run (Cert.QUpDxIdeal.defs (F := Ideal)) (onTc (τ := Cert.QUpDxIdeal.τ) (Cert.QUpDxIdeal.main (F := Ideal))) ⟨m, fun _ => 0, g⟩ (fun r => ∀ c : Dev Cert.QUpDxIdeal.nD,
          r.2.mem ((c.tc : Thread Cert.QUpDxIdeal.nD Cert.QUpDxIdeal.τ).loc Cert.QUpDxIdeal.main_v0) = v0 c
          ∧ r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
          ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ θ_run (Cert.QUpDxRefIdeal.defs (F := Ideal)) (onTc (τ := Cert.QUpDxRefIdeal.τ) (Cert.QUpDxRefIdeal.main (F := Ideal))) ⟨m', fun _ => 0, g'⟩ (fun r => ∀ c : Dev Cert.QUpDxRefIdeal.nD,
          r.2.mem ((c.tc : Thread Cert.QUpDxRefIdeal.nD Cert.QUpDxRefIdeal.τ).loc Cert.QUpDxRefIdeal.main_v4) = v0 c
          ∧ r.2.mem ((c.tc : Thread Cert.QUpDxRefIdeal.nD Cert.QUpDxRefIdeal.τ).loc Cert.QUpDxRefIdeal.main_arg0) = m' ((c.tc : Thread Cert.QUpDxRefIdeal.nD Cert.QUpDxRefIdeal.τ).loc Cert.QUpDxRefIdeal.main_arg0)
          ∧ r.2.mem ((c.tc : Thread Cert.QUpDxRefIdeal.nD Cert.QUpDxRefIdeal.τ).loc Cert.QUpDxRefIdeal.main_arg1) = m' ((c.tc : Thread Cert.QUpDxRefIdeal.nD Cert.QUpDxRefIdeal.τ).loc Cert.QUpDxRefIdeal.main_arg1))

def preserves_QUpDw_QUpDwIdeal : Prop :=
  True

def algebraic_QUpDwIdeal_QUpDwRefIdeal [hQUpDwIdeal : Cert.QUpDwIdeal.Facts] [hQUpDwRefIdeal : Cert.QUpDwRefIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwRefIdeal.nD Cert.QUpDwRefIdeal.τ Cert.QUpDwRefIdeal.sig) → Buf (Elt Ideal) ℓ) (g' : Dev Cert.QUpDwRefIdeal.nD → PrngReg), Pre_QUpDwIdeal m →
    (∀ c : Dev Cert.QUpDwIdeal.nD,
      m' ((c.tc : Thread Cert.QUpDwRefIdeal.nD Cert.QUpDwRefIdeal.τ).loc Cert.QUpDwRefIdeal.main_arg0) = m ((c.tc : Thread Cert.QUpDwIdeal.nD Cert.QUpDwIdeal.τ).loc Cert.QUpDwIdeal.main_arg0)
      ∧ m' ((c.tc : Thread Cert.QUpDwRefIdeal.nD Cert.QUpDwRefIdeal.τ).loc Cert.QUpDwRefIdeal.main_arg1) = m ((c.tc : Thread Cert.QUpDwIdeal.nD Cert.QUpDwIdeal.τ).loc Cert.QUpDwIdeal.main_arg1)) →
    ∃ (v0 : (c : Dev Cert.QUpDwIdeal.nD) → Buf (Elt Ideal) ((c.tc : Thread Cert.QUpDwIdeal.nD Cert.QUpDwIdeal.τ).loc Cert.QUpDwIdeal.main_v0)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v0) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ θ_run (Cert.QUpDwRefIdeal.defs (F := Ideal)) (onTc (τ := Cert.QUpDwRefIdeal.τ) (Cert.QUpDwRefIdeal.main (F := Ideal))) ⟨m', fun _ => 0, g'⟩ (fun r => ∀ c : Dev Cert.QUpDwRefIdeal.nD,
          r.2.mem ((c.tc : Thread Cert.QUpDwRefIdeal.nD Cert.QUpDwRefIdeal.τ).loc Cert.QUpDwRefIdeal.main_v5) = v0 c
          ∧ r.2.mem ((c.tc : Thread Cert.QUpDwRefIdeal.nD Cert.QUpDwRefIdeal.τ).loc Cert.QUpDwRefIdeal.main_arg0) = m' ((c.tc : Thread Cert.QUpDwRefIdeal.nD Cert.QUpDwRefIdeal.τ).loc Cert.QUpDwRefIdeal.main_arg0)
          ∧ r.2.mem ((c.tc : Thread Cert.QUpDwRefIdeal.nD Cert.QUpDwRefIdeal.τ).loc Cert.QUpDwRefIdeal.main_arg1) = m' ((c.tc : Thread Cert.QUpDwRefIdeal.nD Cert.QUpDwRefIdeal.τ).loc Cert.QUpDwRefIdeal.main_arg1))

def preserves_KvUpDx_KvUpDxIdeal : Prop :=
  True

def algebraic_KvUpDxIdeal_KvUpDxRefIdeal [hKvUpDxIdeal : Cert.KvUpDxIdeal.Facts] [hKvUpDxRefIdeal : Cert.KvUpDxRefIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg)
    (m' : (ℓ : Loc Cert.KvUpDxRefIdeal.nD Cert.KvUpDxRefIdeal.τ Cert.KvUpDxRefIdeal.sig) → Buf (Elt Ideal) ℓ) (g' : Dev Cert.KvUpDxRefIdeal.nD → PrngReg), Pre_KvUpDxIdeal m →
    (∀ c : Dev Cert.KvUpDxIdeal.nD,
      m' ((c.tc : Thread Cert.KvUpDxRefIdeal.nD Cert.KvUpDxRefIdeal.τ).loc Cert.KvUpDxRefIdeal.main_arg0) = m ((c.tc : Thread Cert.KvUpDxIdeal.nD Cert.KvUpDxIdeal.τ).loc Cert.KvUpDxIdeal.main_arg0)
      ∧ m' ((c.tc : Thread Cert.KvUpDxRefIdeal.nD Cert.KvUpDxRefIdeal.τ).loc Cert.KvUpDxRefIdeal.main_arg1) = m ((c.tc : Thread Cert.KvUpDxIdeal.nD Cert.KvUpDxIdeal.τ).loc Cert.KvUpDxIdeal.main_arg1)) →
    ∃ (v0 : (c : Dev Cert.KvUpDxIdeal.nD) → Buf (Elt Ideal) ((c.tc : Thread Cert.KvUpDxIdeal.nD Cert.KvUpDxIdeal.τ).loc Cert.KvUpDxIdeal.main_v0)),
      θ_run (Cert.KvUpDxIdeal.defs (F := Ideal)) (onTc (τ := Cert.KvUpDxIdeal.τ) (Cert.KvUpDxIdeal.main (F := Ideal))) ⟨m, fun _ => 0, g⟩ (fun r => ∀ c : Dev Cert.KvUpDxIdeal.nD,
          r.2.mem ((c.tc : Thread Cert.KvUpDxIdeal.nD Cert.KvUpDxIdeal.τ).loc Cert.KvUpDxIdeal.main_v0) = v0 c
          ∧ r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
          ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ θ_run (Cert.KvUpDxRefIdeal.defs (F := Ideal)) (onTc (τ := Cert.KvUpDxRefIdeal.τ) (Cert.KvUpDxRefIdeal.main (F := Ideal))) ⟨m', fun _ => 0, g'⟩ (fun r => ∀ c : Dev Cert.KvUpDxRefIdeal.nD,
          r.2.mem ((c.tc : Thread Cert.KvUpDxRefIdeal.nD Cert.KvUpDxRefIdeal.τ).loc Cert.KvUpDxRefIdeal.main_v4) = v0 c
          ∧ r.2.mem ((c.tc : Thread Cert.KvUpDxRefIdeal.nD Cert.KvUpDxRefIdeal.τ).loc Cert.KvUpDxRefIdeal.main_arg0) = m' ((c.tc : Thread Cert.KvUpDxRefIdeal.nD Cert.KvUpDxRefIdeal.τ).loc Cert.KvUpDxRefIdeal.main_arg0)
          ∧ r.2.mem ((c.tc : Thread Cert.KvUpDxRefIdeal.nD Cert.KvUpDxRefIdeal.τ).loc Cert.KvUpDxRefIdeal.main_arg1) = m' ((c.tc : Thread Cert.KvUpDxRefIdeal.nD Cert.KvUpDxRefIdeal.τ).loc Cert.KvUpDxRefIdeal.main_arg1))

def preserves_KvUpDw_KvUpDwIdeal : Prop :=
  True

def algebraic_KvUpDwIdeal_KvUpDwRefIdeal [hKvUpDwIdeal : Cert.KvUpDwIdeal.Facts] [hKvUpDwRefIdeal : Cert.KvUpDwRefIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg)
    (m' : (ℓ : Loc Cert.KvUpDwRefIdeal.nD Cert.KvUpDwRefIdeal.τ Cert.KvUpDwRefIdeal.sig) → Buf (Elt Ideal) ℓ) (g' : Dev Cert.KvUpDwRefIdeal.nD → PrngReg), Pre_KvUpDwIdeal m →
    (∀ c : Dev Cert.KvUpDwIdeal.nD,
      m' ((c.tc : Thread Cert.KvUpDwRefIdeal.nD Cert.KvUpDwRefIdeal.τ).loc Cert.KvUpDwRefIdeal.main_arg0) = m ((c.tc : Thread Cert.KvUpDwIdeal.nD Cert.KvUpDwIdeal.τ).loc Cert.KvUpDwIdeal.main_arg0)
      ∧ m' ((c.tc : Thread Cert.KvUpDwRefIdeal.nD Cert.KvUpDwRefIdeal.τ).loc Cert.KvUpDwRefIdeal.main_arg1) = m ((c.tc : Thread Cert.KvUpDwIdeal.nD Cert.KvUpDwIdeal.τ).loc Cert.KvUpDwIdeal.main_arg1)) →
    ∃ (v0 : (c : Dev Cert.KvUpDwIdeal.nD) → Buf (Elt Ideal) ((c.tc : Thread Cert.KvUpDwIdeal.nD Cert.KvUpDwIdeal.τ).loc Cert.KvUpDwIdeal.main_v0)),
      θ_run (Cert.KvUpDwIdeal.defs (F := Ideal)) (onTc (τ := Cert.KvUpDwIdeal.τ) (Cert.KvUpDwIdeal.main (F := Ideal))) ⟨m, fun _ => 0, g⟩ (fun r => ∀ c : Dev Cert.KvUpDwIdeal.nD,
          r.2.mem ((c.tc : Thread Cert.KvUpDwIdeal.nD Cert.KvUpDwIdeal.τ).loc Cert.KvUpDwIdeal.main_v0) = v0 c
          ∧ r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
          ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ θ_run (Cert.KvUpDwRefIdeal.defs (F := Ideal)) (onTc (τ := Cert.KvUpDwRefIdeal.τ) (Cert.KvUpDwRefIdeal.main (F := Ideal))) ⟨m', fun _ => 0, g'⟩ (fun r => ∀ c : Dev Cert.KvUpDwRefIdeal.nD,
          r.2.mem ((c.tc : Thread Cert.KvUpDwRefIdeal.nD Cert.KvUpDwRefIdeal.τ).loc Cert.KvUpDwRefIdeal.main_v5) = v0 c
          ∧ r.2.mem ((c.tc : Thread Cert.KvUpDwRefIdeal.nD Cert.KvUpDwRefIdeal.τ).loc Cert.KvUpDwRefIdeal.main_arg0) = m' ((c.tc : Thread Cert.KvUpDwRefIdeal.nD Cert.KvUpDwRefIdeal.τ).loc Cert.KvUpDwRefIdeal.main_arg0)
          ∧ r.2.mem ((c.tc : Thread Cert.KvUpDwRefIdeal.nD Cert.KvUpDwRefIdeal.τ).loc Cert.KvUpDwRefIdeal.main_arg1) = m' ((c.tc : Thread Cert.KvUpDwRefIdeal.nD Cert.KvUpDwRefIdeal.τ).loc Cert.KvUpDwRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v2) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v3) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v3) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_ORms_ORmsIdeal : Prop :=
  True

def algebraic_ORmsIdeal_ORmsRefIdeal [hORmsIdeal : Cert.ORmsIdeal.Facts] [hORmsRefIdeal : Cert.ORmsRefIdeal.Facts] : Prop :=
  ∀ (m : (ℓ : Loc Cert.ORmsIdeal.nD Cert.ORmsIdeal.τ Cert.ORmsIdeal.sig) → Buf (Elt Ideal) ℓ) (g : Dev Cert.ORmsIdeal.nD → PrngReg)
    (m' : (ℓ : Loc Cert.ORmsRefIdeal.nD Cert.ORmsRefIdeal.τ Cert.ORmsRefIdeal.sig) → Buf (Elt Ideal) ℓ) (g' : Dev Cert.ORmsRefIdeal.nD → PrngReg), Pre_ORmsIdeal m →
    (∀ c : Dev Cert.ORmsIdeal.nD,
      m' ((c.tc : Thread Cert.ORmsRefIdeal.nD Cert.ORmsRefIdeal.τ).loc Cert.ORmsRefIdeal.main_arg0) = m ((c.tc : Thread Cert.ORmsIdeal.nD Cert.ORmsIdeal.τ).loc Cert.ORmsIdeal.main_arg0)
      ∧ m' ((c.tc : Thread Cert.ORmsRefIdeal.nD Cert.ORmsRefIdeal.τ).loc Cert.ORmsRefIdeal.main_arg1) = m ((c.tc : Thread Cert.ORmsIdeal.nD Cert.ORmsIdeal.τ).loc Cert.ORmsIdeal.main_arg1)
      ∧ m' ((c.tc : Thread Cert.ORmsRefIdeal.nD Cert.ORmsRefIdeal.τ).loc Cert.ORmsRefIdeal.main_arg2) = m ((c.tc : Thread Cert.ORmsIdeal.nD Cert.ORmsIdeal.τ).loc Cert.ORmsIdeal.main_arg2)
      ∧ m' ((c.tc : Thread Cert.ORmsRefIdeal.nD Cert.ORmsRefIdeal.τ).loc Cert.ORmsRefIdeal.main_arg3) = m ((c.tc : Thread Cert.ORmsIdeal.nD Cert.ORmsIdeal.τ).loc Cert.ORmsIdeal.main_arg3)) →
    ∃ (v0 : (c : Dev Cert.ORmsIdeal.nD) → Buf (Elt Ideal) ((c.tc : Thread Cert.ORmsIdeal.nD Cert.ORmsIdeal.τ).loc Cert.ORmsIdeal.main_v0_0)) (v1 : (c : Dev Cert.ORmsIdeal.nD) → Buf (Elt Ideal) ((c.tc : Thread Cert.ORmsIdeal.nD Cert.ORmsIdeal.τ).loc Cert.ORmsIdeal.main_v0_1)),
      θ_run (Cert.ORmsIdeal.defs (F := Ideal)) (onTc (τ := Cert.ORmsIdeal.τ) (Cert.ORmsIdeal.main (F := Ideal))) ⟨m, fun _ => 0, g⟩ (fun r => ∀ c : Dev Cert.ORmsIdeal.nD,
          r.2.mem ((c.tc : Thread Cert.ORmsIdeal.nD Cert.ORmsIdeal.τ).loc Cert.ORmsIdeal.main_v0_0) = v0 c
          ∧ r.2.mem ((c.tc : Thread Cert.ORmsIdeal.nD Cert.ORmsIdeal.τ).loc Cert.ORmsIdeal.main_v0_1) = v1 c
          ∧ r.2.mem ((c.tc : Thread Cert.ORmsIdeal.nD Cert.ORmsIdeal.τ).loc Cert.ORmsIdeal.main_arg0) = m ((c.tc : Thread Cert.ORmsIdeal.nD Cert.ORmsIdeal.τ).loc Cert.ORmsIdeal.main_arg0)
          ∧ r.2.mem ((c.tc : Thread Cert.ORmsIdeal.nD Cert.ORmsIdeal.τ).loc Cert.ORmsIdeal.main_arg1) = m ((c.tc : Thread Cert.ORmsIdeal.nD Cert.ORmsIdeal.τ).loc Cert.ORmsIdeal.main_arg1)
          ∧ r.2.mem ((c.tc : Thread Cert.ORmsIdeal.nD Cert.ORmsIdeal.τ).loc Cert.ORmsIdeal.main_arg2) = m ((c.tc : Thread Cert.ORmsIdeal.nD Cert.ORmsIdeal.τ).loc Cert.ORmsIdeal.main_arg2)
          ∧ r.2.mem ((c.tc : Thread Cert.ORmsIdeal.nD Cert.ORmsIdeal.τ).loc Cert.ORmsIdeal.main_arg3) = m ((c.tc : Thread Cert.ORmsIdeal.nD Cert.ORmsIdeal.τ).loc Cert.ORmsIdeal.main_arg3))
      ∧ θ_run (Cert.ORmsRefIdeal.defs (F := Ideal)) (onTc (τ := Cert.ORmsRefIdeal.τ) (Cert.ORmsRefIdeal.main (F := Ideal))) ⟨m', fun _ => 0, g'⟩ (fun r => ∀ c : Dev Cert.ORmsRefIdeal.nD,
          r.2.mem ((c.tc : Thread Cert.ORmsRefIdeal.nD Cert.ORmsRefIdeal.τ).loc Cert.ORmsRefIdeal.main_v3) = v0 c
          ∧ r.2.mem ((c.tc : Thread Cert.ORmsRefIdeal.nD Cert.ORmsRefIdeal.τ).loc Cert.ORmsRefIdeal.main_v16) = v1 c
          ∧ r.2.mem ((c.tc : Thread Cert.ORmsRefIdeal.nD Cert.ORmsRefIdeal.τ).loc Cert.ORmsRefIdeal.main_arg0) = m' ((c.tc : Thread Cert.ORmsRefIdeal.nD Cert.ORmsRefIdeal.τ).loc Cert.ORmsRefIdeal.main_arg0)
          ∧ r.2.mem ((c.tc : Thread Cert.ORmsRefIdeal.nD Cert.ORmsRefIdeal.τ).loc Cert.ORmsRefIdeal.main_arg1) = m' ((c.tc : Thread Cert.ORmsRefIdeal.nD Cert.ORmsRefIdeal.τ).loc Cert.ORmsRefIdeal.main_arg1)
          ∧ r.2.mem ((c.tc : Thread Cert.ORmsRefIdeal.nD Cert.ORmsRefIdeal.τ).loc Cert.ORmsRefIdeal.main_arg2) = m' ((c.tc : Thread Cert.ORmsRefIdeal.nD Cert.ORmsRefIdeal.τ).loc Cert.ORmsRefIdeal.main_arg2)
          ∧ r.2.mem ((c.tc : Thread Cert.ORmsRefIdeal.nD Cert.ORmsRefIdeal.τ).loc Cert.ORmsRefIdeal.main_arg3) = m' ((c.tc : Thread Cert.ORmsRefIdeal.nD Cert.ORmsRefIdeal.τ).loc Cert.ORmsRefIdeal.main_arg3))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v18) = v0 c
          ∧ r.2.mem ((c.tc : Thread Cert.DownLossRefIdeal.nD Cert.DownLossRefIdeal.τ).loc Cert.DownLossRefIdeal.main_v19) = v1 c
          ∧ r.2.mem ((c.tc : Thread Cert.DownLossRefIdeal.nD Cert.DownLossRefIdeal.τ).loc Cert.DownLossRefIdeal.main_v20) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3))

def preserves_MemxBwd_MemxBwdIdeal : Prop :=
  True

def algebraic_MemxBwdIdeal_MemxBwdRefIdeal_pre_finite_reads [hMemxBwdIdeal : Cert.MemxBwdIdeal.Facts] [hMemxBwdRefIdeal : Cert.MemxBwdRefIdeal.Facts] [hPre_finite_reads : Cert.Pre_finite_reads.Facts] : Prop :=
  ∀ (m : (ℓ : Loc Cert.MemxBwdIdeal.nD Cert.MemxBwdIdeal.τ Cert.MemxBwdIdeal.sig) → Buf (Elt Ideal) ℓ) (g : Dev Cert.MemxBwdIdeal.nD → PrngReg)
    (m' : (ℓ : Loc Cert.MemxBwdRefIdeal.nD Cert.MemxBwdRefIdeal.τ Cert.MemxBwdRefIdeal.sig) → Buf (Elt Ideal) ℓ) (g' : Dev Cert.MemxBwdRefIdeal.nD → PrngReg), Pre_MemxBwdIdeal_finite_reads m →
    (∀ c : Dev Cert.MemxBwdIdeal.nD,
      m' ((c.tc : Thread Cert.MemxBwdRefIdeal.nD Cert.MemxBwdRefIdeal.τ).loc Cert.MemxBwdRefIdeal.main_arg0) = m ((c.tc : Thread Cert.MemxBwdIdeal.nD Cert.MemxBwdIdeal.τ).loc Cert.MemxBwdIdeal.main_arg0)
      ∧ m' ((c.tc : Thread Cert.MemxBwdRefIdeal.nD Cert.MemxBwdRefIdeal.τ).loc Cert.MemxBwdRefIdeal.main_arg1) = m ((c.tc : Thread Cert.MemxBwdIdeal.nD Cert.MemxBwdIdeal.τ).loc Cert.MemxBwdIdeal.main_arg1)
      ∧ m' ((c.tc : Thread Cert.MemxBwdRefIdeal.nD Cert.MemxBwdRefIdeal.τ).loc Cert.MemxBwdRefIdeal.main_arg2) = m ((c.tc : Thread Cert.MemxBwdIdeal.nD Cert.MemxBwdIdeal.τ).loc Cert.MemxBwdIdeal.main_arg2)
      ∧ m' ((c.tc : Thread Cert.MemxBwdRefIdeal.nD Cert.MemxBwdRefIdeal.τ).loc Cert.MemxBwdRefIdeal.main_arg3) = m ((c.tc : Thread Cert.MemxBwdIdeal.nD Cert.MemxBwdIdeal.τ).loc Cert.MemxBwdIdeal.main_arg3)
      ∧ m' ((c.tc : Thread Cert.MemxBwdRefIdeal.nD Cert.MemxBwdRefIdeal.τ).loc Cert.MemxBwdRefIdeal.main_arg4) = m ((c.tc : Thread Cert.MemxBwdIdeal.nD Cert.MemxBwdIdeal.τ).loc Cert.MemxBwdIdeal.main_arg4)) →
    ∃ (v0 : (c : Dev Cert.MemxBwdIdeal.nD) → Buf (Elt Ideal) ((c.tc : Thread Cert.MemxBwdIdeal.nD Cert.MemxBwdIdeal.τ).loc Cert.MemxBwdIdeal.main_v0_0)) (v1 : (c : Dev Cert.MemxBwdIdeal.nD) → Buf (Elt Ideal) ((c.tc : Thread Cert.MemxBwdIdeal.nD Cert.MemxBwdIdeal.τ).loc Cert.MemxBwdIdeal.main_v0_1)) (v2 : (c : Dev Cert.MemxBwdIdeal.nD) → Buf (Elt Ideal) ((c.tc : Thread Cert.MemxBwdIdeal.nD Cert.MemxBwdIdeal.τ).loc Cert.MemxBwdIdeal.main_v0_2)) (v3 : (c : Dev Cert.MemxBwdIdeal.nD) → Buf (Elt Ideal) ((c.tc : Thread Cert.MemxBwdIdeal.nD Cert.MemxBwdIdeal.τ).loc Cert.MemxBwdIdeal.main_v0_3)),
      θ_run (Cert.MemxBwdIdeal.defs (F := Ideal)) (onTc (τ := Cert.MemxBwdIdeal.τ) (Cert.MemxBwdIdeal.main (F := Ideal))) ⟨m, fun _ => 0, g⟩ (fun r => ∀ c : Dev Cert.MemxBwdIdeal.nD,
          r.2.mem ((c.tc : Thread Cert.MemxBwdIdeal.nD Cert.MemxBwdIdeal.τ).loc Cert.MemxBwdIdeal.main_v0_0) = v0 c
          ∧ r.2.mem ((c.tc : Thread Cert.MemxBwdIdeal.nD Cert.MemxBwdIdeal.τ).loc Cert.MemxBwdIdeal.main_v0_1) = v1 c
          ∧ r.2.mem ((c.tc : Thread Cert.MemxBwdIdeal.nD Cert.MemxBwdIdeal.τ).loc Cert.MemxBwdIdeal.main_v0_2) = v2 c
          ∧ r.2.mem ((c.tc : Thread Cert.MemxBwdIdeal.nD Cert.MemxBwdIdeal.τ).loc Cert.MemxBwdIdeal.main_v0_3) = v3 c
          ∧ r.2.mem ((c.tc : Thread Cert.MemxBwdIdeal.nD Cert.MemxBwdIdeal.τ).loc Cert.MemxBwdIdeal.main_arg0) = m ((c.tc : Thread Cert.MemxBwdIdeal.nD Cert.MemxBwdIdeal.τ).loc Cert.MemxBwdIdeal.main_arg0)
          ∧ r.2.mem ((c.tc : Thread Cert.MemxBwdIdeal.nD Cert.MemxBwdIdeal.τ).loc Cert.MemxBwdIdeal.main_arg1) = m ((c.tc : Thread Cert.MemxBwdIdeal.nD Cert.MemxBwdIdeal.τ).loc Cert.MemxBwdIdeal.main_arg1)
          ∧ r.2.mem ((c.tc : Thread Cert.MemxBwdIdeal.nD Cert.MemxBwdIdeal.τ).loc Cert.MemxBwdIdeal.main_arg2) = m ((c.tc : Thread Cert.MemxBwdIdeal.nD Cert.MemxBwdIdeal.τ).loc Cert.MemxBwdIdeal.main_arg2)
          ∧ r.2.mem ((c.tc : Thread Cert.MemxBwdIdeal.nD Cert.MemxBwdIdeal.τ).loc Cert.MemxBwdIdeal.main_arg3) = m ((c.tc : Thread Cert.MemxBwdIdeal.nD Cert.MemxBwdIdeal.τ).loc Cert.MemxBwdIdeal.main_arg3)
          ∧ r.2.mem ((c.tc : Thread Cert.MemxBwdIdeal.nD Cert.MemxBwdIdeal.τ).loc Cert.MemxBwdIdeal.main_arg4) = m ((c.tc : Thread Cert.MemxBwdIdeal.nD Cert.MemxBwdIdeal.τ).loc Cert.MemxBwdIdeal.main_arg4))
      ∧ θ_run (Cert.MemxBwdRefIdeal.defs (F := Ideal)) (onTc (τ := Cert.MemxBwdRefIdeal.τ) (Cert.MemxBwdRefIdeal.main (F := Ideal))) ⟨m', fun _ => 0, g'⟩ (fun r => ∀ c : Dev Cert.MemxBwdRefIdeal.nD,
          r.2.mem ((c.tc : Thread Cert.MemxBwdRefIdeal.nD Cert.MemxBwdRefIdeal.τ).loc Cert.MemxBwdRefIdeal.main_v104) = v0 c
          ∧ r.2.mem ((c.tc : Thread Cert.MemxBwdRefIdeal.nD Cert.MemxBwdRefIdeal.τ).loc Cert.MemxBwdRefIdeal.main_v81) = v1 c
          ∧ r.2.mem ((c.tc : Thread Cert.MemxBwdRefIdeal.nD Cert.MemxBwdRefIdeal.τ).loc Cert.MemxBwdRefIdeal.main_v80) = v2 c
          ∧ r.2.mem ((c.tc : Thread Cert.MemxBwdRefIdeal.nD Cert.MemxBwdRefIdeal.τ).loc Cert.MemxBwdRefIdeal.main_v88) = v3 c
          ∧ r.2.mem ((c.tc : Thread Cert.MemxBwdRefIdeal.nD Cert.MemxBwdRefIdeal.τ).loc Cert.MemxBwdRefIdeal.main_arg0) = m' ((c.tc : Thread Cert.MemxBwdRefIdeal.nD Cert.MemxBwdRefIdeal.τ).loc Cert.MemxBwdRefIdeal.main_arg0)
          ∧ r.2.mem ((c.tc : Thread Cert.MemxBwdRefIdeal.nD Cert.MemxBwdRefIdeal.τ).loc Cert.MemxBwdRefIdeal.main_arg1) = m' ((c.tc : Thread Cert.MemxBwdRefIdeal.nD Cert.MemxBwdRefIdeal.τ).loc Cert.MemxBwdRefIdeal.main_arg1)
          ∧ r.2.mem ((c.tc : Thread Cert.MemxBwdRefIdeal.nD Cert.MemxBwdRefIdeal.τ).loc Cert.MemxBwdRefIdeal.main_arg2) = m' ((c.tc : Thread Cert.MemxBwdRefIdeal.nD Cert.MemxBwdRefIdeal.τ).loc Cert.MemxBwdRefIdeal.main_arg2)
          ∧ r.2.mem ((c.tc : Thread Cert.MemxBwdRefIdeal.nD Cert.MemxBwdRefIdeal.τ).loc Cert.MemxBwdRefIdeal.main_arg3) = m' ((c.tc : Thread Cert.MemxBwdRefIdeal.nD Cert.MemxBwdRefIdeal.τ).loc Cert.MemxBwdRefIdeal.main_arg3)
          ∧ r.2.mem ((c.tc : Thread Cert.MemxBwdRefIdeal.nD Cert.MemxBwdRefIdeal.τ).loc Cert.MemxBwdRefIdeal.main_arg4) = m' ((c.tc : Thread Cert.MemxBwdRefIdeal.nD Cert.MemxBwdRefIdeal.τ).loc Cert.MemxBwdRefIdeal.main_arg4))

def preserves_MemkvBwd_MemkvBwdIdeal : Prop :=
  True

def algebraic_MemkvBwdIdeal_MemkvBwdRefIdeal [hMemkvBwdIdeal : Cert.MemkvBwdIdeal.Facts] [hMemkvBwdRefIdeal : Cert.MemkvBwdRefIdeal.Facts] : Prop :=
  ∀ (m : (ℓ : Loc Cert.MemkvBwdIdeal.nD Cert.MemkvBwdIdeal.τ Cert.MemkvBwdIdeal.sig) → Buf (Elt Ideal) ℓ) (g : Dev Cert.MemkvBwdIdeal.nD → PrngReg)
    (m' : (ℓ : Loc Cert.MemkvBwdRefIdeal.nD Cert.MemkvBwdRefIdeal.τ Cert.MemkvBwdRefIdeal.sig) → Buf (Elt Ideal) ℓ) (g' : Dev Cert.MemkvBwdRefIdeal.nD → PrngReg), Pre_MemkvBwdIdeal m →
    (∀ c : Dev Cert.MemkvBwdIdeal.nD,
      m' ((c.tc : Thread Cert.MemkvBwdRefIdeal.nD Cert.MemkvBwdRefIdeal.τ).loc Cert.MemkvBwdRefIdeal.main_arg0) = m ((c.tc : Thread Cert.MemkvBwdIdeal.nD Cert.MemkvBwdIdeal.τ).loc Cert.MemkvBwdIdeal.main_arg0)
      ∧ m' ((c.tc : Thread Cert.MemkvBwdRefIdeal.nD Cert.MemkvBwdRefIdeal.τ).loc Cert.MemkvBwdRefIdeal.main_arg1) = m ((c.tc : Thread Cert.MemkvBwdIdeal.nD Cert.MemkvBwdIdeal.τ).loc Cert.MemkvBwdIdeal.main_arg1)
      ∧ m' ((c.tc : Thread Cert.MemkvBwdRefIdeal.nD Cert.MemkvBwdRefIdeal.τ).loc Cert.MemkvBwdRefIdeal.main_arg2) = m ((c.tc : Thread Cert.MemkvBwdIdeal.nD Cert.MemkvBwdIdeal.τ).loc Cert.MemkvBwdIdeal.main_arg2)
      ∧ m' ((c.tc : Thread Cert.MemkvBwdRefIdeal.nD Cert.MemkvBwdRefIdeal.τ).loc Cert.MemkvBwdRefIdeal.main_arg3) = m ((c.tc : Thread Cert.MemkvBwdIdeal.nD Cert.MemkvBwdIdeal.τ).loc Cert.MemkvBwdIdeal.main_arg3)) →
    ∃ (v0 : (c : Dev Cert.MemkvBwdIdeal.nD) → Buf (Elt Ideal) ((c.tc : Thread Cert.MemkvBwdIdeal.nD Cert.MemkvBwdIdeal.τ).loc Cert.MemkvBwdIdeal.main_v0_0)) (v1 : (c : Dev Cert.MemkvBwdIdeal.nD) → Buf (Elt Ideal) ((c.tc : Thread Cert.MemkvBwdIdeal.nD Cert.MemkvBwdIdeal.τ).loc Cert.MemkvBwdIdeal.main_v0_1)),
      θ_run (Cert.MemkvBwdIdeal.defs (F := Ideal)) (onTc (τ := Cert.MemkvBwdIdeal.τ) (Cert.MemkvBwdIdeal.main (F := Ideal))) ⟨m, fun _ => 0, g⟩ (fun r => ∀ c : Dev Cert.MemkvBwdIdeal.nD,
          r.2.mem ((c.tc : Thread Cert.MemkvBwdIdeal.nD Cert.MemkvBwdIdeal.τ).loc Cert.MemkvBwdIdeal.main_v0_0) = v0 c
          ∧ r.2.mem ((c.tc : Thread Cert.MemkvBwdIdeal.nD Cert.MemkvBwdIdeal.τ).loc Cert.MemkvBwdIdeal.main_v0_1) = v1 c
          ∧ r.2.mem ((c.tc : Thread Cert.MemkvBwdIdeal.nD Cert.MemkvBwdIdeal.τ).loc Cert.MemkvBwdIdeal.main_arg0) = m ((c.tc : Thread Cert.MemkvBwdIdeal.nD Cert.MemkvBwdIdeal.τ).loc Cert.MemkvBwdIdeal.main_arg0)
          ∧ r.2.mem ((c.tc : Thread Cert.MemkvBwdIdeal.nD Cert.MemkvBwdIdeal.τ).loc Cert.MemkvBwdIdeal.main_arg1) = m ((c.tc : Thread Cert.MemkvBwdIdeal.nD Cert.MemkvBwdIdeal.τ).loc Cert.MemkvBwdIdeal.main_arg1)
          ∧ r.2.mem ((c.tc : Thread Cert.MemkvBwdIdeal.nD Cert.MemkvBwdIdeal.τ).loc Cert.MemkvBwdIdeal.main_arg2) = m ((c.tc : Thread Cert.MemkvBwdIdeal.nD Cert.MemkvBwdIdeal.τ).loc Cert.MemkvBwdIdeal.main_arg2)
          ∧ r.2.mem ((c.tc : Thread Cert.MemkvBwdIdeal.nD Cert.MemkvBwdIdeal.τ).loc Cert.MemkvBwdIdeal.main_arg3) = m ((c.tc : Thread Cert.MemkvBwdIdeal.nD Cert.MemkvBwdIdeal.τ).loc Cert.MemkvBwdIdeal.main_arg3))
      ∧ θ_run (Cert.MemkvBwdRefIdeal.defs (F := Ideal)) (onTc (τ := Cert.MemkvBwdRefIdeal.τ) (Cert.MemkvBwdRefIdeal.main (F := Ideal))) ⟨m', fun _ => 0, g'⟩ (fun r => ∀ c : Dev Cert.MemkvBwdRefIdeal.nD,
          r.2.mem ((c.tc : Thread Cert.MemkvBwdRefIdeal.nD Cert.MemkvBwdRefIdeal.τ).loc Cert.MemkvBwdRefIdeal.main_v46) = v0 c
          ∧ r.2.mem ((c.tc : Thread Cert.MemkvBwdRefIdeal.nD Cert.MemkvBwdRefIdeal.τ).loc Cert.MemkvBwdRefIdeal.main_v28) = v1 c
          ∧ r.2.mem ((c.tc : Thread Cert.MemkvBwdRefIdeal.nD Cert.MemkvBwdRefIdeal.τ).loc Cert.MemkvBwdRefIdeal.main_arg0) = m' ((c.tc : Thread Cert.MemkvBwdRefIdeal.nD Cert.MemkvBwdRefIdeal.τ).loc Cert.MemkvBwdRefIdeal.main_arg0)
          ∧ r.2.mem ((c.tc : Thread Cert.MemkvBwdRefIdeal.nD Cert.MemkvBwdRefIdeal.τ).loc Cert.MemkvBwdRefIdeal.main_arg1) = m' ((c.tc : Thread Cert.MemkvBwdRefIdeal.nD Cert.MemkvBwdRefIdeal.τ).loc Cert.MemkvBwdRefIdeal.main_arg1)
          ∧ r.2.mem ((c.tc : Thread Cert.MemkvBwdRefIdeal.nD Cert.MemkvBwdRefIdeal.τ).loc Cert.MemkvBwdRefIdeal.main_arg2) = m' ((c.tc : Thread Cert.MemkvBwdRefIdeal.nD Cert.MemkvBwdRefIdeal.τ).loc Cert.MemkvBwdRefIdeal.main_arg2)
          ∧ r.2.mem ((c.tc : Thread Cert.MemkvBwdRefIdeal.nD Cert.MemkvBwdRefIdeal.τ).loc Cert.MemkvBwdRefIdeal.main_arg3) = m' ((c.tc : Thread Cert.MemkvBwdRefIdeal.nD Cert.MemkvBwdRefIdeal.τ).loc Cert.MemkvBwdRefIdeal.main_arg3))

def preserves_MemKvDw_MemKvDwIdeal : Prop :=
  True

def algebraic_MemKvDwIdeal_MemKvDwRefIdeal [hMemKvDwIdeal : Cert.MemKvDwIdeal.Facts] [hMemKvDwRefIdeal : Cert.MemKvDwRefIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwRefIdeal.nD Cert.MemKvDwRefIdeal.τ Cert.MemKvDwRefIdeal.sig) → Buf (Elt Ideal) ℓ) (g' : Dev Cert.MemKvDwRefIdeal.nD → PrngReg), Pre_MemKvDwIdeal m →
    (∀ c : Dev Cert.MemKvDwIdeal.nD,
      m' ((c.tc : Thread Cert.MemKvDwRefIdeal.nD Cert.MemKvDwRefIdeal.τ).loc Cert.MemKvDwRefIdeal.main_arg0) = m ((c.tc : Thread Cert.MemKvDwIdeal.nD Cert.MemKvDwIdeal.τ).loc Cert.MemKvDwIdeal.main_arg0)
      ∧ m' ((c.tc : Thread Cert.MemKvDwRefIdeal.nD Cert.MemKvDwRefIdeal.τ).loc Cert.MemKvDwRefIdeal.main_arg1) = m ((c.tc : Thread Cert.MemKvDwIdeal.nD Cert.MemKvDwIdeal.τ).loc Cert.MemKvDwIdeal.main_arg1)) →
    ∃ (v0 : (c : Dev Cert.MemKvDwIdeal.nD) → Buf (Elt Ideal) ((c.tc : Thread Cert.MemKvDwIdeal.nD Cert.MemKvDwIdeal.τ).loc Cert.MemKvDwIdeal.main_v0_0)) (v1 : (c : Dev Cert.MemKvDwIdeal.nD) → Buf (Elt Ideal) ((c.tc : Thread Cert.MemKvDwIdeal.nD Cert.MemKvDwIdeal.τ).loc Cert.MemKvDwIdeal.main_v0_1)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v0_0) = v0 c
          ∧ r.2.mem ((c.tc : Thread Cert.MemKvDwIdeal.nD Cert.MemKvDwIdeal.τ).loc Cert.MemKvDwIdeal.main_v0_1) = v1 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ θ_run (Cert.MemKvDwRefIdeal.defs (F := Ideal)) (onTc (τ := Cert.MemKvDwRefIdeal.τ) (Cert.MemKvDwRefIdeal.main (F := Ideal))) ⟨m', fun _ => 0, g'⟩ (fun r => ∀ c : Dev Cert.MemKvDwRefIdeal.nD,
          r.2.mem ((c.tc : Thread Cert.MemKvDwRefIdeal.nD Cert.MemKvDwRefIdeal.τ).loc Cert.MemKvDwRefIdeal.main_v5) = v0 c
          ∧ r.2.mem ((c.tc : Thread Cert.MemKvDwRefIdeal.nD Cert.MemKvDwRefIdeal.τ).loc Cert.MemKvDwRefIdeal.main_v6) = v1 c
          ∧ r.2.mem ((c.tc : Thread Cert.MemKvDwRefIdeal.nD Cert.MemKvDwRefIdeal.τ).loc Cert.MemKvDwRefIdeal.main_arg0) = m' ((c.tc : Thread Cert.MemKvDwRefIdeal.nD Cert.MemKvDwRefIdeal.τ).loc Cert.MemKvDwRefIdeal.main_arg0)
          ∧ r.2.mem ((c.tc : Thread Cert.MemKvDwRefIdeal.nD Cert.MemKvDwRefIdeal.τ).loc Cert.MemKvDwRefIdeal.main_arg1) = m' ((c.tc : Thread Cert.MemKvDwRefIdeal.nD Cert.MemKvDwRefIdeal.τ).loc Cert.MemKvDwRefIdeal.main_arg1))

def preserves_MemKvDx_MemKvDxIdeal : Prop :=
  True

def algebraic_MemKvDxIdeal_MemKvDxRefIdeal [hMemKvDxIdeal : Cert.MemKvDxIdeal.Facts] [hMemKvDxRefIdeal : Cert.MemKvDxRefIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg)
    (m' : (ℓ : Loc Cert.MemKvDxRefIdeal.nD Cert.MemKvDxRefIdeal.τ Cert.MemKvDxRefIdeal.sig) → Buf (Elt Ideal) ℓ) (g' : Dev Cert.MemKvDxRefIdeal.nD → PrngReg), Pre_MemKvDxIdeal m →
    (∀ c : Dev Cert.MemKvDxIdeal.nD,
      m' ((c.tc : Thread Cert.MemKvDxRefIdeal.nD Cert.MemKvDxRefIdeal.τ).loc Cert.MemKvDxRefIdeal.main_arg0) = m ((c.tc : Thread Cert.MemKvDxIdeal.nD Cert.MemKvDxIdeal.τ).loc Cert.MemKvDxIdeal.main_arg0)
      ∧ m' ((c.tc : Thread Cert.MemKvDxRefIdeal.nD Cert.MemKvDxRefIdeal.τ).loc Cert.MemKvDxRefIdeal.main_arg1) = m ((c.tc : Thread Cert.MemKvDxIdeal.nD Cert.MemKvDxIdeal.τ).loc Cert.MemKvDxIdeal.main_arg1)) →
    ∃ (v0 : (c : Dev Cert.MemKvDxIdeal.nD) → Buf (Elt Ideal) ((c.tc : Thread Cert.MemKvDxIdeal.nD Cert.MemKvDxIdeal.τ).loc Cert.MemKvDxIdeal.main_v0)),
      θ_run (Cert.MemKvDxIdeal.defs (F := Ideal)) (onTc (τ := Cert.MemKvDxIdeal.τ) (Cert.MemKvDxIdeal.main (F := Ideal))) ⟨m, fun _ => 0, g⟩ (fun r => ∀ c : Dev Cert.MemKvDxIdeal.nD,
          r.2.mem ((c.tc : Thread Cert.MemKvDxIdeal.nD Cert.MemKvDxIdeal.τ).loc Cert.MemKvDxIdeal.main_v0) = v0 c
          ∧ r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
          ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ θ_run (Cert.MemKvDxRefIdeal.defs (F := Ideal)) (onTc (τ := Cert.MemKvDxRefIdeal.τ) (Cert.MemKvDxRefIdeal.main (F := Ideal))) ⟨m', fun _ => 0, g'⟩ (fun r => ∀ c : Dev Cert.MemKvDxRefIdeal.nD,
          r.2.mem ((c.tc : Thread Cert.MemKvDxRefIdeal.nD Cert.MemKvDxRefIdeal.τ).loc Cert.MemKvDxRefIdeal.main_v4) = v0 c
          ∧ r.2.mem ((c.tc : Thread Cert.MemKvDxRefIdeal.nD Cert.MemKvDxRefIdeal.τ).loc Cert.MemKvDxRefIdeal.main_arg0) = m' ((c.tc : Thread Cert.MemKvDxRefIdeal.nD Cert.MemKvDxRefIdeal.τ).loc Cert.MemKvDxRefIdeal.main_arg0)
          ∧ r.2.mem ((c.tc : Thread Cert.MemKvDxRefIdeal.nD Cert.MemKvDxRefIdeal.τ).loc Cert.MemKvDxRefIdeal.main_arg1) = m' ((c.tc : Thread Cert.MemKvDxRefIdeal.nD Cert.MemKvDxRefIdeal.τ).loc Cert.MemKvDxRefIdeal.main_arg1))

def preserves_MemGainBwd_MemGainBwdIdeal : Prop :=
  True

def algebraic_MemGainBwdIdeal_MemGainBwdRefIdeal [hMemGainBwdIdeal : Cert.MemGainBwdIdeal.Facts] [hMemGainBwdRefIdeal : Cert.MemGainBwdRefIdeal.Facts] : Prop :=
  ∀ (m : (ℓ : Loc Cert.MemGainBwdIdeal.nD Cert.MemGainBwdIdeal.τ Cert.MemGainBwdIdeal.sig) → Buf (Elt Ideal) ℓ) (g : Dev Cert.MemGainBwdIdeal.nD → PrngReg)
    (m' : (ℓ : Loc Cert.MemGainBwdRefIdeal.nD Cert.MemGainBwdRefIdeal.τ Cert.MemGainBwdRefIdeal.sig) → Buf (Elt Ideal) ℓ) (g' : Dev Cert.MemGainBwdRefIdeal.nD → PrngReg), Pre_MemGainBwdIdeal m →
    (∀ c : Dev Cert.MemGainBwdIdeal.nD,
      m' ((c.tc : Thread Cert.MemGainBwdRefIdeal.nD Cert.MemGainBwdRefIdeal.τ).loc Cert.MemGainBwdRefIdeal.main_arg0) = m ((c.tc : Thread Cert.MemGainBwdIdeal.nD Cert.MemGainBwdIdeal.τ).loc Cert.MemGainBwdIdeal.main_arg0)
      ∧ m' ((c.tc : Thread Cert.MemGainBwdRefIdeal.nD Cert.MemGainBwdRefIdeal.τ).loc Cert.MemGainBwdRefIdeal.main_arg1) = m ((c.tc : Thread Cert.MemGainBwdIdeal.nD Cert.MemGainBwdIdeal.τ).loc Cert.MemGainBwdIdeal.main_arg1)) →
    ∃ (v0 : (c : Dev Cert.MemGainBwdIdeal.nD) → Buf (Elt Ideal) ((c.tc : Thread Cert.MemGainBwdIdeal.nD Cert.MemGainBwdIdeal.τ).loc Cert.MemGainBwdIdeal.main_v0)),
      θ_run (Cert.MemGainBwdIdeal.defs (F := Ideal)) (onTc (τ := Cert.MemGainBwdIdeal.τ) (Cert.MemGainBwdIdeal.main (F := Ideal))) ⟨m, fun _ => 0, g⟩ (fun r => ∀ c : Dev Cert.MemGainBwdIdeal.nD,
          r.2.mem ((c.tc : Thread Cert.MemGainBwdIdeal.nD Cert.MemGainBwdIdeal.τ).loc Cert.MemGainBwdIdeal.main_v0) = v0 c
          ∧ r.2.mem ((c.tc : Thread Cert.MemGainBwdIdeal.nD Cert.MemGainBwdIdeal.τ).loc Cert.MemGainBwdIdeal.main_arg0) = m ((c.tc : Thread Cert.MemGainBwdIdeal.nD Cert.MemGainBwdIdeal.τ).loc Cert.MemGainBwdIdeal.main_arg0)
          ∧ r.2.mem ((c.tc : Thread Cert.MemGainBwdIdeal.nD Cert.MemGainBwdIdeal.τ).loc Cert.MemGainBwdIdeal.main_arg1) = m ((c.tc : Thread Cert.MemGainBwdIdeal.nD Cert.MemGainBwdIdeal.τ).loc Cert.MemGainBwdIdeal.main_arg1))
      ∧ θ_run (Cert.MemGainBwdRefIdeal.defs (F := Ideal)) (onTc (τ := Cert.MemGainBwdRefIdeal.τ) (Cert.MemGainBwdRefIdeal.main (F := Ideal))) ⟨m', fun _ => 0, g'⟩ (fun r => ∀ c : Dev Cert.MemGainBwdRefIdeal.nD,
          r.2.mem ((c.tc : Thread Cert.MemGainBwdRefIdeal.nD Cert.MemGainBwdRefIdeal.τ).loc Cert.MemGainBwdRefIdeal.main_v15) = v0 c
          ∧ r.2.mem ((c.tc : Thread Cert.MemGainBwdRefIdeal.nD Cert.MemGainBwdRefIdeal.τ).loc Cert.MemGainBwdRefIdeal.main_arg0) = m' ((c.tc : Thread Cert.MemGainBwdRefIdeal.nD Cert.MemGainBwdRefIdeal.τ).loc Cert.MemGainBwdRefIdeal.main_arg0)
          ∧ r.2.mem ((c.tc : Thread Cert.MemGainBwdRefIdeal.nD Cert.MemGainBwdRefIdeal.τ).loc Cert.MemGainBwdRefIdeal.main_arg1) = m' ((c.tc : Thread Cert.MemGainBwdRefIdeal.nD Cert.MemGainBwdRefIdeal.τ).loc Cert.MemGainBwdRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemkvPrep_MemkvPrepIdeal : Prop :=
  True

def algebraic_MemkvPrepIdeal_MemkvPrepRefIdeal [hMemkvPrepIdeal : Cert.MemkvPrepIdeal.Facts] [hMemkvPrepRefIdeal : Cert.MemkvPrepRefIdeal.Facts] : Prop :=
  ∀ (m : (ℓ : Loc Cert.MemkvPrepIdeal.nD Cert.MemkvPrepIdeal.τ Cert.MemkvPrepIdeal.sig) → Buf (Elt Ideal) ℓ) (g : Dev Cert.MemkvPrepIdeal.nD → PrngReg)
    (m' : (ℓ : Loc Cert.MemkvPrepRefIdeal.nD Cert.MemkvPrepRefIdeal.τ Cert.MemkvPrepRefIdeal.sig) → Buf (Elt Ideal) ℓ) (g' : Dev Cert.MemkvPrepRefIdeal.nD → PrngReg), Pre_MemkvPrepIdeal m →
    (∀ c : Dev Cert.MemkvPrepIdeal.nD,
      m' ((c.tc : Thread Cert.MemkvPrepRefIdeal.nD Cert.MemkvPrepRefIdeal.τ).loc Cert.MemkvPrepRefIdeal.main_arg0) = m ((c.tc : Thread Cert.MemkvPrepIdeal.nD Cert.MemkvPrepIdeal.τ).loc Cert.MemkvPrepIdeal.main_arg0)
      ∧ m' ((c.tc : Thread Cert.MemkvPrepRefIdeal.nD Cert.MemkvPrepRefIdeal.τ).loc Cert.MemkvPrepRefIdeal.main_arg1) = m ((c.tc : Thread Cert.MemkvPrepIdeal.nD Cert.MemkvPrepIdeal.τ).loc Cert.MemkvPrepIdeal.main_arg1)) →
    ∃ (v0 : (c : Dev Cert.MemkvPrepIdeal.nD) → Buf (Elt Ideal) ((c.tc : Thread Cert.MemkvPrepIdeal.nD Cert.MemkvPrepIdeal.τ).loc Cert.MemkvPrepIdeal.main_v0_0)) (v1 : (c : Dev Cert.MemkvPrepIdeal.nD) → Buf (Elt Ideal) ((c.tc : Thread Cert.MemkvPrepIdeal.nD Cert.MemkvPrepIdeal.τ).loc Cert.MemkvPrepIdeal.main_v0_1)),
      θ_run (Cert.MemkvPrepIdeal.defs (F := Ideal)) (onTc (τ := Cert.MemkvPrepIdeal.τ) (Cert.MemkvPrepIdeal.main (F := Ideal))) ⟨m, fun _ => 0, g⟩ (fun r => ∀ c : Dev Cert.MemkvPrepIdeal.nD,
          r.2.mem ((c.tc : Thread Cert.MemkvPrepIdeal.nD Cert.MemkvPrepIdeal.τ).loc Cert.MemkvPrepIdeal.main_v0_0) = v0 c
          ∧ r.2.mem ((c.tc : Thread Cert.MemkvPrepIdeal.nD Cert.MemkvPrepIdeal.τ).loc Cert.MemkvPrepIdeal.main_v0_1) = v1 c
          ∧ r.2.mem ((c.tc : Thread Cert.MemkvPrepIdeal.nD Cert.MemkvPrepIdeal.τ).loc Cert.MemkvPrepIdeal.main_arg0) = m ((c.tc : Thread Cert.MemkvPrepIdeal.nD Cert.MemkvPrepIdeal.τ).loc Cert.MemkvPrepIdeal.main_arg0)
          ∧ r.2.mem ((c.tc : Thread Cert.MemkvPrepIdeal.nD Cert.MemkvPrepIdeal.τ).loc Cert.MemkvPrepIdeal.main_arg1) = m ((c.tc : Thread Cert.MemkvPrepIdeal.nD Cert.MemkvPrepIdeal.τ).loc Cert.MemkvPrepIdeal.main_arg1))
      ∧ θ_run (Cert.MemkvPrepRefIdeal.defs (F := Ideal)) (onTc (τ := Cert.MemkvPrepRefIdeal.τ) (Cert.MemkvPrepRefIdeal.main (F := Ideal))) ⟨m', fun _ => 0, g'⟩ (fun r => ∀ c : Dev Cert.MemkvPrepRefIdeal.nD,
          r.2.mem ((c.tc : Thread Cert.MemkvPrepRefIdeal.nD Cert.MemkvPrepRefIdeal.τ).loc Cert.MemkvPrepRefIdeal.main_v17) = v0 c
          ∧ r.2.mem ((c.tc : Thread Cert.MemkvPrepRefIdeal.nD Cert.MemkvPrepRefIdeal.τ).loc Cert.MemkvPrepRefIdeal.main_v18) = v1 c
          ∧ r.2.mem ((c.tc : Thread Cert.MemkvPrepRefIdeal.nD Cert.MemkvPrepRefIdeal.τ).loc Cert.MemkvPrepRefIdeal.main_arg0) = m' ((c.tc : Thread Cert.MemkvPrepRefIdeal.nD Cert.MemkvPrepRefIdeal.τ).loc Cert.MemkvPrepRefIdeal.main_arg0)
          ∧ r.2.mem ((c.tc : Thread Cert.MemkvPrepRefIdeal.nD Cert.MemkvPrepRefIdeal.τ).loc Cert.MemkvPrepRefIdeal.main_arg1) = m' ((c.tc : Thread Cert.MemkvPrepRefIdeal.nD Cert.MemkvPrepRefIdeal.τ).loc Cert.MemkvPrepRefIdeal.main_arg1))

def preserves_MemxFwd_MemxFwdIdeal : Prop :=
  True

def algebraic_MemxFwdIdeal_MemxFwdRefIdeal_pre_finite_keys [hMemxFwdIdeal : Cert.MemxFwdIdeal.Facts] [hMemxFwdRefIdeal : Cert.MemxFwdRefIdeal.Facts] [hPre_finite_keys : Cert.Pre_finite_keys.Facts] : Prop :=
  ∀ (m : (ℓ : Loc Cert.MemxFwdIdeal.nD Cert.MemxFwdIdeal.τ Cert.MemxFwdIdeal.sig) → Buf (Elt Ideal) ℓ) (g : Dev Cert.MemxFwdIdeal.nD → PrngReg)
    (m' : (ℓ : Loc Cert.MemxFwdRefIdeal.nD Cert.MemxFwdRefIdeal.τ Cert.MemxFwdRefIdeal.sig) → Buf (Elt Ideal) ℓ) (g' : Dev Cert.MemxFwdRefIdeal.nD → PrngReg), Pre_MemxFwdIdeal_finite_keys m →
    (∀ c : Dev Cert.MemxFwdIdeal.nD,
      m' ((c.tc : Thread Cert.MemxFwdRefIdeal.nD Cert.MemxFwdRefIdeal.τ).loc Cert.MemxFwdRefIdeal.main_arg0) = m ((c.tc : Thread Cert.MemxFwdIdeal.nD Cert.MemxFwdIdeal.τ).loc Cert.MemxFwdIdeal.main_arg0)
      ∧ m' ((c.tc : Thread Cert.MemxFwdRefIdeal.nD Cert.MemxFwdRefIdeal.τ).loc Cert.MemxFwdRefIdeal.main_arg1) = m ((c.tc : Thread Cert.MemxFwdIdeal.nD Cert.MemxFwdIdeal.τ).loc Cert.MemxFwdIdeal.main_arg1)
      ∧ m' ((c.tc : Thread Cert.MemxFwdRefIdeal.nD Cert.MemxFwdRefIdeal.τ).loc Cert.MemxFwdRefIdeal.main_arg2) = m ((c.tc : Thread Cert.MemxFwdIdeal.nD Cert.MemxFwdIdeal.τ).loc Cert.MemxFwdIdeal.main_arg2)
      ∧ m' ((c.tc : Thread Cert.MemxFwdRefIdeal.nD Cert.MemxFwdRefIdeal.τ).loc Cert.MemxFwdRefIdeal.main_arg3) = m ((c.tc : Thread Cert.MemxFwdIdeal.nD Cert.MemxFwdIdeal.τ).loc Cert.MemxFwdIdeal.main_arg3)) →
    ∃ (v0 : (c : Dev Cert.MemxFwdIdeal.nD) → Buf (Elt Ideal) ((c.tc : Thread Cert.MemxFwdIdeal.nD Cert.MemxFwdIdeal.τ).loc Cert.MemxFwdIdeal.main_v0)),
      θ_run (Cert.MemxFwdIdeal.defs (F := Ideal)) (onTc (τ := Cert.MemxFwdIdeal.τ) (Cert.MemxFwdIdeal.main (F := Ideal))) ⟨m, fun _ => 0, g⟩ (fun r => ∀ c : Dev Cert.MemxFwdIdeal.nD,
          r.2.mem ((c.tc : Thread Cert.MemxFwdIdeal.nD Cert.MemxFwdIdeal.τ).loc Cert.MemxFwdIdeal.main_v0) = v0 c
          ∧ r.2.mem ((c.tc : Thread Cert.MemxFwdIdeal.nD Cert.MemxFwdIdeal.τ).loc Cert.MemxFwdIdeal.main_arg0) = m ((c.tc : Thread Cert.MemxFwdIdeal.nD Cert.MemxFwdIdeal.τ).loc Cert.MemxFwdIdeal.main_arg0)
          ∧ r.2.mem ((c.tc : Thread Cert.MemxFwdIdeal.nD Cert.MemxFwdIdeal.τ).loc Cert.MemxFwdIdeal.main_arg1) = m ((c.tc : Thread Cert.MemxFwdIdeal.nD Cert.MemxFwdIdeal.τ).loc Cert.MemxFwdIdeal.main_arg1)
          ∧ r.2.mem ((c.tc : Thread Cert.MemxFwdIdeal.nD Cert.MemxFwdIdeal.τ).loc Cert.MemxFwdIdeal.main_arg2) = m ((c.tc : Thread Cert.MemxFwdIdeal.nD Cert.MemxFwdIdeal.τ).loc Cert.MemxFwdIdeal.main_arg2)
          ∧ r.2.mem ((c.tc : Thread Cert.MemxFwdIdeal.nD Cert.MemxFwdIdeal.τ).loc Cert.MemxFwdIdeal.main_arg3) = m ((c.tc : Thread Cert.MemxFwdIdeal.nD Cert.MemxFwdIdeal.τ).loc Cert.MemxFwdIdeal.main_arg3))
      ∧ θ_run (Cert.MemxFwdRefIdeal.defs (F := Ideal)) (onTc (τ := Cert.MemxFwdRefIdeal.τ) (Cert.MemxFwdRefIdeal.main (F := Ideal))) ⟨m', fun _ => 0, g'⟩ (fun r => ∀ c : Dev Cert.MemxFwdRefIdeal.nD,
          r.2.mem ((c.tc : Thread Cert.MemxFwdRefIdeal.nD Cert.MemxFwdRefIdeal.τ).loc Cert.MemxFwdRefIdeal.main_v36) = v0 c
          ∧ r.2.mem ((c.tc : Thread Cert.MemxFwdRefIdeal.nD Cert.MemxFwdRefIdeal.τ).loc Cert.MemxFwdRefIdeal.main_arg0) = m' ((c.tc : Thread Cert.MemxFwdRefIdeal.nD Cert.MemxFwdRefIdeal.τ).loc Cert.MemxFwdRefIdeal.main_arg0)
          ∧ r.2.mem ((c.tc : Thread Cert.MemxFwdRefIdeal.nD Cert.MemxFwdRefIdeal.τ).loc Cert.MemxFwdRefIdeal.main_arg1) = m' ((c.tc : Thread Cert.MemxFwdRefIdeal.nD Cert.MemxFwdRefIdeal.τ).loc Cert.MemxFwdRefIdeal.main_arg1)
          ∧ r.2.mem ((c.tc : Thread Cert.MemxFwdRefIdeal.nD Cert.MemxFwdRefIdeal.τ).loc Cert.MemxFwdRefIdeal.main_arg2) = m' ((c.tc : Thread Cert.MemxFwdRefIdeal.nD Cert.MemxFwdRefIdeal.τ).loc Cert.MemxFwdRefIdeal.main_arg2)
          ∧ r.2.mem ((c.tc : Thread Cert.MemxFwdRefIdeal.nD Cert.MemxFwdRefIdeal.τ).loc Cert.MemxFwdRefIdeal.main_arg3) = m' ((c.tc : Thread Cert.MemxFwdRefIdeal.nD Cert.MemxFwdRefIdeal.τ).loc Cert.MemxFwdRefIdeal.main_arg3))

def preserves_LatFwd_LatFwdIdeal : Prop :=
  True

def algebraic_LatFwdIdeal_LatFwdRefIdeal [hLatFwdIdeal : Cert.LatFwdIdeal.Facts] [hLatFwdRefIdeal : Cert.LatFwdRefIdeal.Facts] : Prop :=
  ∀ (m : (ℓ : Loc Cert.LatFwdIdeal.nD Cert.LatFwdIdeal.τ Cert.LatFwdIdeal.sig) → Buf (Elt Ideal) ℓ) (g : Dev Cert.LatFwdIdeal.nD → PrngReg)
    (m' : (ℓ : Loc Cert.LatFwdRefIdeal.nD Cert.LatFwdRefIdeal.τ Cert.LatFwdRefIdeal.sig) → Buf (Elt Ideal) ℓ) (g' : Dev Cert.LatFwdRefIdeal.nD → PrngReg), Pre_LatFwdIdeal m →
    (∀ c : Dev Cert.LatFwdIdeal.nD,
      m' ((c.tc : Thread Cert.LatFwdRefIdeal.nD Cert.LatFwdRefIdeal.τ).loc Cert.LatFwdRefIdeal.main_arg0) = m ((c.tc : Thread Cert.LatFwdIdeal.nD Cert.LatFwdIdeal.τ).loc Cert.LatFwdIdeal.main_arg0)
      ∧ m' ((c.tc : Thread Cert.LatFwdRefIdeal.nD Cert.LatFwdRefIdeal.τ).loc Cert.LatFwdRefIdeal.main_arg1) = m ((c.tc : Thread Cert.LatFwdIdeal.nD Cert.LatFwdIdeal.τ).loc Cert.LatFwdIdeal.main_arg1)
      ∧ m' ((c.tc : Thread Cert.LatFwdRefIdeal.nD Cert.LatFwdRefIdeal.τ).loc Cert.LatFwdRefIdeal.main_arg2) = m ((c.tc : Thread Cert.LatFwdIdeal.nD Cert.LatFwdIdeal.τ).loc Cert.LatFwdIdeal.main_arg2)) →
    ∃ (v0 : (c : Dev Cert.LatFwdIdeal.nD) → Buf (Elt Ideal) ((c.tc : Thread Cert.LatFwdIdeal.nD Cert.LatFwdIdeal.τ).loc Cert.LatFwdIdeal.main_v0_0)) (v1 : (c : Dev Cert.LatFwdIdeal.nD) → Buf (Elt Ideal) ((c.tc : Thread Cert.LatFwdIdeal.nD Cert.LatFwdIdeal.τ).loc Cert.LatFwdIdeal.main_v0_1)),
      θ_run (Cert.LatFwdIdeal.defs (F := Ideal)) (onTc (τ := Cert.LatFwdIdeal.τ) (Cert.LatFwdIdeal.main (F := Ideal))) ⟨m, fun _ => 0, g⟩ (fun r => ∀ c : Dev Cert.LatFwdIdeal.nD,
          r.2.mem ((c.tc : Thread Cert.LatFwdIdeal.nD Cert.LatFwdIdeal.τ).loc Cert.LatFwdIdeal.main_v0_0) = v0 c
          ∧ r.2.mem ((c.tc : Thread Cert.LatFwdIdeal.nD Cert.LatFwdIdeal.τ).loc Cert.LatFwdIdeal.main_v0_1) = v1 c
          ∧ r.2.mem ((c.tc : Thread Cert.LatFwdIdeal.nD Cert.LatFwdIdeal.τ).loc Cert.LatFwdIdeal.main_arg0) = m ((c.tc : Thread Cert.LatFwdIdeal.nD Cert.LatFwdIdeal.τ).loc Cert.LatFwdIdeal.main_arg0)
          ∧ r.2.mem ((c.tc : Thread Cert.LatFwdIdeal.nD Cert.LatFwdIdeal.τ).loc Cert.LatFwdIdeal.main_arg1) = m ((c.tc : Thread Cert.LatFwdIdeal.nD Cert.LatFwdIdeal.τ).loc Cert.LatFwdIdeal.main_arg1)
          ∧ r.2.mem ((c.tc : Thread Cert.LatFwdIdeal.nD Cert.LatFwdIdeal.τ).loc Cert.LatFwdIdeal.main_arg2) = m ((c.tc : Thread Cert.LatFwdIdeal.nD Cert.LatFwdIdeal.τ).loc Cert.LatFwdIdeal.main_arg2))
      ∧ θ_run (Cert.LatFwdRefIdeal.defs (F := Ideal)) (onTc (τ := Cert.LatFwdRefIdeal.τ) (Cert.LatFwdRefIdeal.main (F := Ideal))) ⟨m', fun _ => 0, g'⟩ (fun r => ∀ c : Dev Cert.LatFwdRefIdeal.nD,
          r.2.mem ((c.tc : Thread Cert.LatFwdRefIdeal.nD Cert.LatFwdRefIdeal.τ).loc Cert.LatFwdRefIdeal.main_v13) = v0 c
          ∧ r.2.mem ((c.tc : Thread Cert.LatFwdRefIdeal.nD Cert.LatFwdRefIdeal.τ).loc Cert.LatFwdRefIdeal.main_v27) = v1 c
          ∧ r.2.mem ((c.tc : Thread Cert.LatFwdRefIdeal.nD Cert.LatFwdRefIdeal.τ).loc Cert.LatFwdRefIdeal.main_arg0) = m' ((c.tc : Thread Cert.LatFwdRefIdeal.nD Cert.LatFwdRefIdeal.τ).loc Cert.LatFwdRefIdeal.main_arg0)
          ∧ r.2.mem ((c.tc : Thread Cert.LatFwdRefIdeal.nD Cert.LatFwdRefIdeal.τ).loc Cert.LatFwdRefIdeal.main_arg1) = m' ((c.tc : Thread Cert.LatFwdRefIdeal.nD Cert.LatFwdRefIdeal.τ).loc Cert.LatFwdRefIdeal.main_arg1)
          ∧ r.2.mem ((c.tc : Thread Cert.LatFwdRefIdeal.nD Cert.LatFwdRefIdeal.τ).loc Cert.LatFwdRefIdeal.main_arg2) = m' ((c.tc : Thread Cert.LatFwdRefIdeal.nD Cert.LatFwdRefIdeal.τ).loc Cert.LatFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v28) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_AdamwGate_AdamwGateIdeal : Prop :=
  True

def algebraic_AdamwGateIdeal_AdamwGateRefIdeal [hAdamwGateIdeal : Cert.AdamwGateIdeal.Facts] [hAdamwGateRefIdeal : Cert.AdamwGateRefIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg)
    (m' : (ℓ : Loc Cert.AdamwGateRefIdeal.nD Cert.AdamwGateRefIdeal.τ Cert.AdamwGateRefIdeal.sig) → Buf (Elt Ideal) ℓ) (g' : Dev Cert.AdamwGateRefIdeal.nD → PrngReg), Pre_AdamwGateIdeal m →
    (∀ c : Dev Cert.AdamwGateIdeal.nD,
      m' ((c.tc : Thread Cert.AdamwGateRefIdeal.nD Cert.AdamwGateRefIdeal.τ).loc Cert.AdamwGateRefIdeal.main_arg0) = m ((c.tc : Thread Cert.AdamwGateIdeal.nD Cert.AdamwGateIdeal.τ).loc Cert.AdamwGateIdeal.main_arg0)
      ∧ m' ((c.tc : Thread Cert.AdamwGateRefIdeal.nD Cert.AdamwGateRefIdeal.τ).loc Cert.AdamwGateRefIdeal.main_arg1) = m ((c.tc : Thread Cert.AdamwGateIdeal.nD Cert.AdamwGateIdeal.τ).loc Cert.AdamwGateIdeal.main_arg1)
      ∧ m' ((c.tc : Thread Cert.AdamwGateRefIdeal.nD Cert.AdamwGateRefIdeal.τ).loc Cert.AdamwGateRefIdeal.main_arg2) = m ((c.tc : Thread Cert.AdamwGateIdeal.nD Cert.AdamwGateIdeal.τ).loc Cert.AdamwGateIdeal.main_arg2)
      ∧ m' ((c.tc : Thread Cert.AdamwGateRefIdeal.nD Cert.AdamwGateRefIdeal.τ).loc Cert.AdamwGateRefIdeal.main_arg3) = m ((c.tc : Thread Cert.AdamwGateIdeal.nD Cert.AdamwGateIdeal.τ).loc Cert.AdamwGateIdeal.main_arg3)
      ∧ m' ((c.tc : Thread Cert.AdamwGateRefIdeal.nD Cert.AdamwGateRefIdeal.τ).loc Cert.AdamwGateRefIdeal.main_arg4) = m ((c.tc : Thread Cert.AdamwGateIdeal.nD Cert.AdamwGateIdeal.τ).loc Cert.AdamwGateIdeal.main_arg4)) →
    ∃ (v0 : (c : Dev Cert.AdamwGateIdeal.nD) → Buf (Elt Ideal) ((c.tc : Thread Cert.AdamwGateIdeal.nD Cert.AdamwGateIdeal.τ).loc Cert.AdamwGateIdeal.main_v0_0)) (v1 : (c : Dev Cert.AdamwGateIdeal.nD) → Buf (Elt Ideal) ((c.tc : Thread Cert.AdamwGateIdeal.nD Cert.AdamwGateIdeal.τ).loc Cert.AdamwGateIdeal.main_v0_1)) (v2 : (c : Dev Cert.AdamwGateIdeal.nD) → Buf (Elt Ideal) ((c.tc : Thread Cert.AdamwGateIdeal.nD Cert.AdamwGateIdeal.τ).loc Cert.AdamwGateIdeal.main_v0_2)) (v3 : (c : Dev Cert.AdamwGateIdeal.nD) → Buf (Elt Ideal) ((c.tc : Thread Cert.AdamwGateIdeal.nD Cert.AdamwGateIdeal.τ).loc Cert.AdamwGateIdeal.main_v0_3)),
      θ_run (Cert.AdamwGateIdeal.defs (F := Ideal)) (onTc (τ := Cert.AdamwGateIdeal.τ) (Cert.AdamwGateIdeal.main (F := Ideal))) ⟨m, fun _ => 0, g⟩ (fun r => ∀ c : Dev Cert.AdamwGateIdeal.nD,
          r.2.mem ((c.tc : Thread Cert.AdamwGateIdeal.nD Cert.AdamwGateIdeal.τ).loc Cert.AdamwGateIdeal.main_v0_0) = v0 c
          ∧ r.2.mem ((c.tc : Thread Cert.AdamwGateIdeal.nD Cert.AdamwGateIdeal.τ).loc Cert.AdamwGateIdeal.main_v0_1) = v1 c
          ∧ r.2.mem ((c.tc : Thread Cert.AdamwGateIdeal.nD Cert.AdamwGateIdeal.τ).loc Cert.AdamwGateIdeal.main_v0_2) = v2 c
          ∧ r.2.mem ((c.tc : Thread Cert.AdamwGateIdeal.nD Cert.AdamwGateIdeal.τ).loc Cert.AdamwGateIdeal.main_v0_3) = v3 c
          ∧ r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
          ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
          ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
          ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3)
          ∧ r.2.mem ((c.tc : Thread Cert.AdamwGateIdeal.nD Cert.AdamwGateIdeal.τ).loc Cert.AdamwGateIdeal.main_arg4) = m ((c.tc : Thread Cert.AdamwGateIdeal.nD Cert.AdamwGateIdeal.τ).loc Cert.AdamwGateIdeal.main_arg4))
      ∧ θ_run (Cert.AdamwGateRefIdeal.defs (F := Ideal)) (onTc (τ := Cert.AdamwGateRefIdeal.τ) (Cert.AdamwGateRefIdeal.main (F := Ideal))) ⟨m', fun _ => 0, g'⟩ (fun r => ∀ c : Dev Cert.AdamwGateRefIdeal.nD,
          r.2.mem ((c.tc : Thread Cert.AdamwGateRefIdeal.nD Cert.AdamwGateRefIdeal.τ).loc Cert.AdamwGateRefIdeal.main_v2) = v0 c
          ∧ r.2.mem ((c.tc : Thread Cert.AdamwGateRefIdeal.nD Cert.AdamwGateRefIdeal.τ).loc Cert.AdamwGateRefIdeal.main_v26) = v1 c
          ∧ r.2.mem ((c.tc : Thread Cert.AdamwGateRefIdeal.nD Cert.AdamwGateRefIdeal.τ).loc Cert.AdamwGateRefIdeal.main_v7) = v2 c
          ∧ r.2.mem ((c.tc : Thread Cert.AdamwGateRefIdeal.nD Cert.AdamwGateRefIdeal.τ).loc Cert.AdamwGateRefIdeal.main_v13) = v3 c
          ∧ r.2.mem ((c.tc : Thread Cert.AdamwGateRefIdeal.nD Cert.AdamwGateRefIdeal.τ).loc Cert.AdamwGateRefIdeal.main_arg0) = m' ((c.tc : Thread Cert.AdamwGateRefIdeal.nD Cert.AdamwGateRefIdeal.τ).loc Cert.AdamwGateRefIdeal.main_arg0)
          ∧ r.2.mem ((c.tc : Thread Cert.AdamwGateRefIdeal.nD Cert.AdamwGateRefIdeal.τ).loc Cert.AdamwGateRefIdeal.main_arg1) = m' ((c.tc : Thread Cert.AdamwGateRefIdeal.nD Cert.AdamwGateRefIdeal.τ).loc Cert.AdamwGateRefIdeal.main_arg1)
          ∧ r.2.mem ((c.tc : Thread Cert.AdamwGateRefIdeal.nD Cert.AdamwGateRefIdeal.τ).loc Cert.AdamwGateRefIdeal.main_arg2) = m' ((c.tc : Thread Cert.AdamwGateRefIdeal.nD Cert.AdamwGateRefIdeal.τ).loc Cert.AdamwGateRefIdeal.main_arg2)
          ∧ r.2.mem ((c.tc : Thread Cert.AdamwGateRefIdeal.nD Cert.AdamwGateRefIdeal.τ).loc Cert.AdamwGateRefIdeal.main_arg3) = m' ((c.tc : Thread Cert.AdamwGateRefIdeal.nD Cert.AdamwGateRefIdeal.τ).loc Cert.AdamwGateRefIdeal.main_arg3)
          ∧ r.2.mem ((c.tc : Thread Cert.AdamwGateRefIdeal.nD Cert.AdamwGateRefIdeal.τ).loc Cert.AdamwGateRefIdeal.main_arg4) = m' ((c.tc : Thread Cert.AdamwGateRefIdeal.nD Cert.AdamwGateRefIdeal.τ).loc Cert.AdamwGateRefIdeal.main_arg4))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hGateDx : Cert.GateDx.Facts) (hGateDxIdeal : Cert.GateDxIdeal.Facts) (hGateDxRefIdeal : Cert.GateDxRefIdeal.Facts) (hGateDw : Cert.GateDw.Facts) (hGateDwIdeal : Cert.GateDwIdeal.Facts) (hGateDwRefIdeal : Cert.GateDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDxRms : Cert.UpDxRms.Facts) (hUpDxRmsIdeal : Cert.UpDxRmsIdeal.Facts) (hUpDxRmsRefIdeal : Cert.UpDxRmsRefIdeal.Facts) (hLatBwd : Cert.LatBwd.Facts) (hLatBwdIdeal : Cert.LatBwdIdeal.Facts) (hLatBwdRefIdeal : Cert.LatBwdRefIdeal.Facts) (hODx : Cert.ODx.Facts) (hODxIdeal : Cert.ODxIdeal.Facts) (hODxRefIdeal : Cert.ODxRefIdeal.Facts) (hODw : Cert.ODw.Facts) (hODwIdeal : Cert.ODwIdeal.Facts) (hODwRefIdeal : Cert.ODwRefIdeal.Facts) (hInDw : Cert.InDw.Facts) (hInDwIdeal : Cert.InDwIdeal.Facts) (hInDwRefIdeal : Cert.InDwRefIdeal.Facts) (hQUpDx : Cert.QUpDx.Facts) (hQUpDxIdeal : Cert.QUpDxIdeal.Facts) (hQUpDxRefIdeal : Cert.QUpDxRefIdeal.Facts) (hQUpDw : Cert.QUpDw.Facts) (hQUpDwIdeal : Cert.QUpDwIdeal.Facts) (hQUpDwRefIdeal : Cert.QUpDwRefIdeal.Facts) (hKvUpDx : Cert.KvUpDx.Facts) (hKvUpDxIdeal : Cert.KvUpDxIdeal.Facts) (hKvUpDxRefIdeal : Cert.KvUpDxRefIdeal.Facts) (hKvUpDw : Cert.KvUpDw.Facts) (hKvUpDwIdeal : Cert.KvUpDwIdeal.Facts) (hKvUpDwRefIdeal : Cert.KvUpDwRefIdeal.Facts) (hMixIn : Cert.MixIn.Facts) (hMixInIdeal : Cert.MixInIdeal.Facts) (hMixInRefIdeal : Cert.MixInRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hORms : Cert.ORms.Facts) (hORmsIdeal : Cert.ORmsIdeal.Facts) (hORmsRefIdeal : Cert.ORmsRefIdeal.Facts) (hDownLoss : Cert.DownLoss.Facts) (hDownLossIdeal : Cert.DownLossIdeal.Facts) (hDownLossRefIdeal : Cert.DownLossRefIdeal.Facts) (hMemxBwd : Cert.MemxBwd.Facts) (hMemxBwdIdeal : Cert.MemxBwdIdeal.Facts) (hMemxBwdRefIdeal : Cert.MemxBwdRefIdeal.Facts) (hMemkvBwd : Cert.MemkvBwd.Facts) (hMemkvBwdIdeal : Cert.MemkvBwdIdeal.Facts) (hMemkvBwdRefIdeal : Cert.MemkvBwdRefIdeal.Facts) (hMemKvDw : Cert.MemKvDw.Facts) (hMemKvDwIdeal : Cert.MemKvDwIdeal.Facts) (hMemKvDwRefIdeal : Cert.MemKvDwRefIdeal.Facts) (hMemKvDx : Cert.MemKvDx.Facts) (hMemKvDxIdeal : Cert.MemKvDxIdeal.Facts) (hMemKvDxRefIdeal : Cert.MemKvDxRefIdeal.Facts) (hMemGainBwd : Cert.MemGainBwd.Facts) (hMemGainBwdIdeal : Cert.MemGainBwdIdeal.Facts) (hMemGainBwdRefIdeal : Cert.MemGainBwdRefIdeal.Facts) (hMemNorm : Cert.MemNorm.Facts) (hMemNormIdeal : Cert.MemNormIdeal.Facts) (hMemNormRefIdeal : Cert.MemNormRefIdeal.Facts) (hMemKv : Cert.MemKv.Facts) (hMemKvIdeal : Cert.MemKvIdeal.Facts) (hMemKvRefIdeal : Cert.MemKvRefIdeal.Facts) (hMemkvPrep : Cert.MemkvPrep.Facts) (hMemkvPrepIdeal : Cert.MemkvPrepIdeal.Facts) (hMemkvPrepRefIdeal : Cert.MemkvPrepRefIdeal.Facts) (hMemxFwd : Cert.MemxFwd.Facts) (hMemxFwdIdeal : Cert.MemxFwdIdeal.Facts) (hMemxFwdRefIdeal : Cert.MemxFwdRefIdeal.Facts) (hLatFwd : Cert.LatFwd.Facts) (hLatFwdIdeal : Cert.LatFwdIdeal.Facts) (hLatFwdRefIdeal : Cert.LatFwdRefIdeal.Facts) (hConvFwd : Cert.ConvFwd.Facts) (hConvFwdIdeal : Cert.ConvFwdIdeal.Facts) (hConvFwdRefIdeal : Cert.ConvFwdRefIdeal.Facts) (hSumSlots : Cert.SumSlots.Facts) (hSumSlotsIdeal : Cert.SumSlotsIdeal.Facts) (hSumSlotsRefIdeal : Cert.SumSlotsRefIdeal.Facts) (hAdamwGate : Cert.AdamwGate.Facts) (hAdamwGateIdeal : Cert.AdamwGateIdeal.Facts) (hAdamwGateRefIdeal : Cert.AdamwGateRefIdeal.Facts) (hPre_finite_up : Cert.Pre_finite_up.Facts) (hPre_finite_reads : Cert.Pre_finite_reads.Facts) (hPre_finite_keys : Cert.Pre_finite_keys.Facts),
    quiescent_Kernel (hKernel := hKernel)
    ∧ quiescent_KernelIdeal (hKernelIdeal := hKernelIdeal)
    ∧ quiescent_KernelIdeal_pre_finite_up (hKernelIdeal := hKernelIdeal) (hPre_finite_up := hPre_finite_up)
    ∧ quiescent_ReferenceIdeal (hReferenceIdeal := hReferenceIdeal)
    ∧ quiescent_ReferenceIdeal_pre_finite_up (hReferenceIdeal := hReferenceIdeal) (hPre_finite_up := hPre_finite_up)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDxRms (hUpDxRms := hUpDxRms)
    ∧ quiescent_UpDxRmsIdeal (hUpDxRmsIdeal := hUpDxRmsIdeal)
    ∧ quiescent_UpDxRmsRefIdeal (hUpDxRmsRefIdeal := hUpDxRmsRefIdeal)
    ∧ quiescent_LatBwd (hLatBwd := hLatBwd)
    ∧ quiescent_LatBwdIdeal (hLatBwdIdeal := hLatBwdIdeal)
    ∧ quiescent_LatBwdRefIdeal (hLatBwdRefIdeal := hLatBwdRefIdeal)
    ∧ quiescent_ODx (hODx := hODx)
    ∧ quiescent_ODxIdeal (hODxIdeal := hODxIdeal)
    ∧ quiescent_ODxRefIdeal (hODxRefIdeal := hODxRefIdeal)
    ∧ quiescent_ODw (hODw := hODw)
    ∧ quiescent_ODwIdeal (hODwIdeal := hODwIdeal)
    ∧ quiescent_ODwRefIdeal (hODwRefIdeal := hODwRefIdeal)
    ∧ quiescent_InDw (hInDw := hInDw)
    ∧ quiescent_InDwIdeal (hInDwIdeal := hInDwIdeal)
    ∧ quiescent_InDwRefIdeal (hInDwRefIdeal := hInDwRefIdeal)
    ∧ quiescent_QUpDx (hQUpDx := hQUpDx)
    ∧ quiescent_QUpDxIdeal (hQUpDxIdeal := hQUpDxIdeal)
    ∧ quiescent_QUpDxRefIdeal (hQUpDxRefIdeal := hQUpDxRefIdeal)
    ∧ quiescent_QUpDw (hQUpDw := hQUpDw)
    ∧ quiescent_QUpDwIdeal (hQUpDwIdeal := hQUpDwIdeal)
    ∧ quiescent_QUpDwRefIdeal (hQUpDwRefIdeal := hQUpDwRefIdeal)
    ∧ quiescent_KvUpDx (hKvUpDx := hKvUpDx)
    ∧ quiescent_KvUpDxIdeal (hKvUpDxIdeal := hKvUpDxIdeal)
    ∧ quiescent_KvUpDxRefIdeal (hKvUpDxRefIdeal := hKvUpDxRefIdeal)
    ∧ quiescent_KvUpDw (hKvUpDw := hKvUpDw)
    ∧ quiescent_KvUpDwIdeal (hKvUpDwIdeal := hKvUpDwIdeal)
    ∧ quiescent_KvUpDwRefIdeal (hKvUpDwRefIdeal := hKvUpDwRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_ORms (hORms := hORms)
    ∧ quiescent_ORmsIdeal (hORmsIdeal := hORmsIdeal)
    ∧ quiescent_ORmsRefIdeal (hORmsRefIdeal := hORmsRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_MemxBwd (hMemxBwd := hMemxBwd)
    ∧ quiescent_MemxBwdIdeal (hMemxBwdIdeal := hMemxBwdIdeal)
    ∧ quiescent_MemxBwdIdeal_pre_finite_reads (hMemxBwdIdeal := hMemxBwdIdeal) (hPre_finite_reads := hPre_finite_reads)
    ∧ quiescent_MemxBwdRefIdeal (hMemxBwdRefIdeal := hMemxBwdRefIdeal)
    ∧ quiescent_MemxBwdRefIdeal_pre_finite_reads (hMemxBwdRefIdeal := hMemxBwdRefIdeal) (hPre_finite_reads := hPre_finite_reads)
    ∧ quiescent_MemkvBwd (hMemkvBwd := hMemkvBwd)
    ∧ quiescent_MemkvBwdIdeal (hMemkvBwdIdeal := hMemkvBwdIdeal)
    ∧ quiescent_MemkvBwdRefIdeal (hMemkvBwdRefIdeal := hMemkvBwdRefIdeal)
    ∧ quiescent_MemKvDw (hMemKvDw := hMemKvDw)
    ∧ quiescent_MemKvDwIdeal (hMemKvDwIdeal := hMemKvDwIdeal)
    ∧ quiescent_MemKvDwRefIdeal (hMemKvDwRefIdeal := hMemKvDwRefIdeal)
    ∧ quiescent_MemKvDx (hMemKvDx := hMemKvDx)
    ∧ quiescent_MemKvDxIdeal (hMemKvDxIdeal := hMemKvDxIdeal)
    ∧ quiescent_MemKvDxRefIdeal (hMemKvDxRefIdeal := hMemKvDxRefIdeal)
    ∧ quiescent_MemGainBwd (hMemGainBwd := hMemGainBwd)
    ∧ quiescent_MemGainBwdIdeal (hMemGainBwdIdeal := hMemGainBwdIdeal)
    ∧ quiescent_MemGainBwdRefIdeal (hMemGainBwdRefIdeal := hMemGainBwdRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemkvPrep (hMemkvPrep := hMemkvPrep)
    ∧ quiescent_MemkvPrepIdeal (hMemkvPrepIdeal := hMemkvPrepIdeal)
    ∧ quiescent_MemkvPrepRefIdeal (hMemkvPrepRefIdeal := hMemkvPrepRefIdeal)
    ∧ quiescent_MemxFwd (hMemxFwd := hMemxFwd)
    ∧ quiescent_MemxFwdIdeal (hMemxFwdIdeal := hMemxFwdIdeal)
    ∧ quiescent_MemxFwdIdeal_pre_finite_keys (hMemxFwdIdeal := hMemxFwdIdeal) (hPre_finite_keys := hPre_finite_keys)
    ∧ quiescent_MemxFwdRefIdeal (hMemxFwdRefIdeal := hMemxFwdRefIdeal)
    ∧ quiescent_MemxFwdRefIdeal_pre_finite_keys (hMemxFwdRefIdeal := hMemxFwdRefIdeal) (hPre_finite_keys := hPre_finite_keys)
    ∧ quiescent_LatFwd (hLatFwd := hLatFwd)
    ∧ quiescent_LatFwdIdeal (hLatFwdIdeal := hLatFwdIdeal)
    ∧ quiescent_LatFwdRefIdeal (hLatFwdRefIdeal := hLatFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_AdamwGate (hAdamwGate := hAdamwGate)
    ∧ quiescent_AdamwGateIdeal (hAdamwGateIdeal := hAdamwGateIdeal)
    ∧ quiescent_AdamwGateRefIdeal (hAdamwGateRefIdeal := hAdamwGateRefIdeal)
    ∧ preserves_Kernel_KernelIdeal
    ∧ algebraic_KernelIdeal_ReferenceIdeal_pre_finite_up (hKernelIdeal := hKernelIdeal) (hReferenceIdeal := hReferenceIdeal) (hPre_finite_up := hPre_finite_up)
    ∧ preserves_GateUp_GateUpIdeal
    ∧ algebraic_GateUpIdeal_GateUpRefIdeal (hGateUpIdeal := hGateUpIdeal) (hGateUpRefIdeal := hGateUpRefIdeal)
    ∧ preserves_GateDx_GateDxIdeal
    ∧ algebraic_GateDxIdeal_GateDxRefIdeal (hGateDxIdeal := hGateDxIdeal) (hGateDxRefIdeal := hGateDxRefIdeal)
    ∧ preserves_GateDw_GateDwIdeal
    ∧ algebraic_GateDwIdeal_GateDwRefIdeal (hGateDwIdeal := hGateDwIdeal) (hGateDwRefIdeal := hGateDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDxRms_UpDxRmsIdeal
    ∧ algebraic_UpDxRmsIdeal_UpDxRmsRefIdeal (hUpDxRmsIdeal := hUpDxRmsIdeal) (hUpDxRmsRefIdeal := hUpDxRmsRefIdeal)
    ∧ preserves_LatBwd_LatBwdIdeal
    ∧ algebraic_LatBwdIdeal_LatBwdRefIdeal (hLatBwdIdeal := hLatBwdIdeal) (hLatBwdRefIdeal := hLatBwdRefIdeal)
    ∧ preserves_ODx_ODxIdeal
    ∧ algebraic_ODxIdeal_ODxRefIdeal (hODxIdeal := hODxIdeal) (hODxRefIdeal := hODxRefIdeal)
    ∧ preserves_ODw_ODwIdeal
    ∧ algebraic_ODwIdeal_ODwRefIdeal (hODwIdeal := hODwIdeal) (hODwRefIdeal := hODwRefIdeal)
    ∧ preserves_InDw_InDwIdeal
    ∧ algebraic_InDwIdeal_InDwRefIdeal (hInDwIdeal := hInDwIdeal) (hInDwRefIdeal := hInDwRefIdeal)
    ∧ preserves_QUpDx_QUpDxIdeal
    ∧ algebraic_QUpDxIdeal_QUpDxRefIdeal (hQUpDxIdeal := hQUpDxIdeal) (hQUpDxRefIdeal := hQUpDxRefIdeal)
    ∧ preserves_QUpDw_QUpDwIdeal
    ∧ algebraic_QUpDwIdeal_QUpDwRefIdeal (hQUpDwIdeal := hQUpDwIdeal) (hQUpDwRefIdeal := hQUpDwRefIdeal)
    ∧ preserves_KvUpDx_KvUpDxIdeal
    ∧ algebraic_KvUpDxIdeal_KvUpDxRefIdeal (hKvUpDxIdeal := hKvUpDxIdeal) (hKvUpDxRefIdeal := hKvUpDxRefIdeal)
    ∧ preserves_KvUpDw_KvUpDwIdeal
    ∧ algebraic_KvUpDwIdeal_KvUpDwRefIdeal (hKvUpDwIdeal := hKvUpDwIdeal) (hKvUpDwRefIdeal := hKvUpDwRefIdeal)
    ∧ preserves_MixIn_MixInIdeal
    ∧ algebraic_MixInIdeal_MixInRefIdeal (hMixInIdeal := hMixInIdeal) (hMixInRefIdeal := hMixInRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_ORms_ORmsIdeal
    ∧ algebraic_ORmsIdeal_ORmsRefIdeal (hORmsIdeal := hORmsIdeal) (hORmsRefIdeal := hORmsRefIdeal)
    ∧ preserves_DownLoss_DownLossIdeal
    ∧ algebraic_DownLossIdeal_DownLossRefIdeal (hDownLossIdeal := hDownLossIdeal) (hDownLossRefIdeal := hDownLossRefIdeal)
    ∧ preserves_MemxBwd_MemxBwdIdeal
    ∧ algebraic_MemxBwdIdeal_MemxBwdRefIdeal_pre_finite_reads (hMemxBwdIdeal := hMemxBwdIdeal) (hMemxBwdRefIdeal := hMemxBwdRefIdeal) (hPre_finite_reads := hPre_finite_reads)
    ∧ preserves_MemkvBwd_MemkvBwdIdeal
    ∧ algebraic_MemkvBwdIdeal_MemkvBwdRefIdeal (hMemkvBwdIdeal := hMemkvBwdIdeal) (hMemkvBwdRefIdeal := hMemkvBwdRefIdeal)
    ∧ preserves_MemKvDw_MemKvDwIdeal
    ∧ algebraic_MemKvDwIdeal_MemKvDwRefIdeal (hMemKvDwIdeal := hMemKvDwIdeal) (hMemKvDwRefIdeal := hMemKvDwRefIdeal)
    ∧ preserves_MemKvDx_MemKvDxIdeal
    ∧ algebraic_MemKvDxIdeal_MemKvDxRefIdeal (hMemKvDxIdeal := hMemKvDxIdeal) (hMemKvDxRefIdeal := hMemKvDxRefIdeal)
    ∧ preserves_MemGainBwd_MemGainBwdIdeal
    ∧ algebraic_MemGainBwdIdeal_MemGainBwdRefIdeal (hMemGainBwdIdeal := hMemGainBwdIdeal) (hMemGainBwdRefIdeal := hMemGainBwdRefIdeal)
    ∧ preserves_MemNorm_MemNormIdeal
    ∧ algebraic_MemNormIdeal_MemNormRefIdeal (hMemNormIdeal := hMemNormIdeal) (hMemNormRefIdeal := hMemNormRefIdeal)
    ∧ preserves_MemKv_MemKvIdeal
    ∧ algebraic_MemKvIdeal_MemKvRefIdeal (hMemKvIdeal := hMemKvIdeal) (hMemKvRefIdeal := hMemKvRefIdeal)
    ∧ preserves_MemkvPrep_MemkvPrepIdeal
    ∧ algebraic_MemkvPrepIdeal_MemkvPrepRefIdeal (hMemkvPrepIdeal := hMemkvPrepIdeal) (hMemkvPrepRefIdeal := hMemkvPrepRefIdeal)
    ∧ preserves_MemxFwd_MemxFwdIdeal
    ∧ algebraic_MemxFwdIdeal_MemxFwdRefIdeal_pre_finite_keys (hMemxFwdIdeal := hMemxFwdIdeal) (hMemxFwdRefIdeal := hMemxFwdRefIdeal) (hPre_finite_keys := hPre_finite_keys)
    ∧ preserves_LatFwd_LatFwdIdeal
    ∧ algebraic_LatFwdIdeal_LatFwdRefIdeal (hLatFwdIdeal := hLatFwdIdeal) (hLatFwdRefIdeal := hLatFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_AdamwGate_AdamwGateIdeal
    ∧ algebraic_AdamwGateIdeal_AdamwGateRefIdeal (hAdamwGateIdeal := hAdamwGateIdeal) (hAdamwGateRefIdeal := hAdamwGateRefIdeal)
-- ==== Pre_finite_keys.lean ====
abbrev S8192x1920 : Shape := ⟨2, ![8192, 1920]⟩
abbrev S1x128 : Shape := ⟨2, ![1, 128]⟩
abbrev S256x512 : Shape := ⟨2, ![256, 512]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x1920 .f32) (main_arg1 : FVec F S1x128 .f32) (main_arg2 : FVec F S256x512 .bf16) (main_arg3 : FVec F S256x512 .bf16) : IVec S_ 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S256x512 .f32 := (extf .f32 · bitsLt_bf16_f32) main_arg2
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v3 main_v8
  main_v9
-- ==== Pre_finite_reads.lean ====
abbrev S8192x1920 : Shape := ⟨2, ![8192, 1920]⟩
abbrev S1x128 : Shape := ⟨2, ![1, 128]⟩
abbrev S256x512 : Shape := ⟨2, ![256, 512]⟩
abbrev S8192x2048 : Shape := ⟨2, ![8192, 2048]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x1920 .f32) (main_arg1 : FVec F S1x128 .f32) (main_arg2 : FVec F S256x512 .bf16) (main_arg3 : FVec F S256x512 .bf16) (main_arg4 : FVec F S8192x2048 .f32) : IVec S_ 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S256x512 .f32 := (extf .f32 · bitsLt_bf16_f32) main_arg2
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v3 main_v8
  main_v9
-- ==== Pre_finite_up.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel

variable [Facts]

def fn {F : FTy → Type} [FloatOps F] (main_arg0 : FVec F S8192x5632 .bf16) (main_arg1 : FVec F S8192x5632 .bf16) (main_arg2 : FVec F S8192x5632 .bf16) (main_arg3 : FVec F S3x5632 .f32) (main_arg4 : FVec F S1x5632 .f32) : IVec S_ 1 :=
  let main_v0 : FVec F S8192x5632 .f32 := (extf .f32 · bitsLt_bf16_f32) main_arg1
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S8192x5632 .f32 := (extf .f32 · bitsLt_bf16_f32) main_arg2
  let main_v6 : FVec F S8192x5632 .f32 := Host.absf main_v5
  let main_cst_0 : FVec F S_ .f32 := constant S_ .f32 0x7F800000#32
  let main_v7 : FVec F S8192x5632 .f32 := broadcastInDim S8192x5632 ![] bcast_S_S8192x5632 main_cst_0
  let main_v8 : IVec S8192x5632 1 := cmpf .olt main_v6 main_v7
  let main_c_1 : IVec S_ 1 := constantI S_ 1 1#1
  let main_v9 : IVec S_ 1 := (fun x v => Host.reduce IntOp.andi x v reducesTo_S8192x5632_S_d0_1 h_S_) main_v8 main_c_1
  let main_v10 : IVec S_ 1 := andi main_v4 main_v9
  main_v10
-- ==== Kernel.lean ====
abbrev S8192x5632 : Shape := ⟨2, ![8192, 5632]⟩
abbrev S3x5632 : Shape := ⟨2, ![3, 5632]⟩
abbrev S1x5632 : Shape := ⟨2, ![1, 5632]⟩
abbrev S1024x512 : Shape := ⟨2, ![1024, 512]⟩
abbrev S16x512 : Shape := ⟨2, ![16, 512]⟩
abbrev S3x512 : Shape := ⟨2, ![3, 512]⟩
abbrev S1x512 : Shape := ⟨2, ![1, 512]⟩
abbrev S1056x512 : Shape := ⟨2, ![1056, 512]⟩
abbrev S1040x512 : Shape := ⟨2, ![1040, 512]⟩
abbrev S512 : Shape := ⟨1, ![512]⟩

abbrev nBuf : Space → Nat
  | .hbm => 9
  | .vmem => 26
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S3x5632, .f32⟩
  | .hbm, ⟨4, _⟩ => ⟨S1x5632, .f32⟩
  | .hbm, ⟨5, _⟩ => ⟨S8192x5632, .bf16⟩
  | .hbm, ⟨6, _⟩ => ⟨S8192x5632, .bf16⟩
  | .hbm, ⟨7, _⟩ => ⟨S3x5632, .f32⟩
  | .hbm, ⟨8, _⟩ => ⟨S1x5632, .f32⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S1024x512, .bf16⟩
  | .local _ .vmem, ⟨11, _⟩ => ⟨S1024x512, .bf16⟩
  | .local _ .vmem, ⟨12, _⟩ => ⟨S16x512, .bf16⟩
  | .local _ .vmem, ⟨13, _⟩ => ⟨S16x512, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S3x512, .f32⟩
  | .local _ .vmem, ⟨23, _⟩ => ⟨S3x512, .f32⟩
  | .local _ .vmem, ⟨24, _⟩ => ⟨S1x512, .f32⟩
  | .local _ .vmem, ⟨25, _⟩ => ⟨S1x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩

abbrev nBuf : Space → Nat
  | .hbm => 105
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S3x5632, .f32⟩
  | .hbm, ⟨4, _⟩ => ⟨S1x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S_, .f32⟩
  | .hbm, ⟨11, _⟩ => ⟨S2x5632, .f32⟩
  | .hbm, ⟨12, _⟩ => ⟨S1x5632, .f32⟩
  | .hbm, ⟨13, _⟩ => ⟨S5632, .f32⟩
  | .hbm, ⟨14, _⟩ => ⟨S8192x5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S8192x5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8192x5632, .f32⟩
  | .hbm, ⟨41, _⟩ => ⟨S8192x5632, .f32⟩
  | .hbm, ⟨42, _⟩ => ⟨S_, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S_, .f32⟩
  | .hbm, ⟨59, _⟩ => ⟨S5632, .f32⟩
  | .hbm, ⟨60, _⟩ => ⟨S1x5632, .f32⟩
  | .hbm, ⟨61, _⟩ => ⟨S_, .f32⟩
  | .hbm, ⟨62, _⟩ => ⟨S5632, .f32⟩
  | .hbm, ⟨63, _⟩ => ⟨S_, .f32⟩
  | .hbm, ⟨64, _⟩ => ⟨S8194x5632, .f32⟩
  | .hbm, ⟨65, _⟩ => ⟨S1x5632, .f32⟩
  | .hbm, ⟨66, _⟩ => ⟨S_, .f32⟩
  | .hbm, ⟨67, _⟩ => ⟨S3x5632, .f32⟩
  | .hbm, ⟨68, _⟩ => ⟨S8192x5632, .f32⟩
  | .hbm, ⟨69, _⟩ => ⟨S8192x5632, .f32⟩
  | .hbm, ⟨70, _⟩ => ⟨S8192x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S_, .f32⟩
  | .hbm, ⟨75, _⟩ => ⟨S5632, .f32⟩
  | .hbm, ⟨76, _⟩ => ⟨S_, .f32⟩
  | .hbm, ⟨77, _⟩ => ⟨S8194x5632, .f32⟩
  | .hbm, ⟨78, _⟩ => ⟨S8194x5632, .f32⟩
  | .hbm, ⟨79, _⟩ => ⟨S1x5632, .f32⟩
  | .hbm, ⟨80, _⟩ => ⟨S_, .f32⟩
  | .hbm, ⟨81, _⟩ => ⟨S3x5632, .f32⟩
  | .hbm, ⟨82, _⟩ => ⟨S3x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S8192x5632, .f32⟩
  | .hbm, ⟨87, _⟩ => ⟨S8192x5632, .f32⟩
  | .hbm, ⟨88, _⟩ => ⟨S8192x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S_, .f32⟩
  | .hbm, ⟨93, _⟩ => ⟨S5632, .f32⟩
  | .hbm, ⟨94, _⟩ => ⟨S_, .f32⟩
  | .hbm, ⟨95, _⟩ => ⟨S8194x5632, .f32⟩
  | .hbm, ⟨96, _⟩ => ⟨S8194x5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S2x5632, .f32⟩
  | .hbm, ⟨102, _⟩ => ⟨S8192x5632, .f32⟩
  | .hbm, ⟨103, _⟩ => ⟨S8192x5632, .bf16⟩
  | .hbm, ⟨104, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v27_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v27_1 : Ref sig .tc := ⟨.hbm, 45, rfl⟩
abbrev main_v27_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_1 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== GateUp.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | .hbm, ⟨5, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateDx.lean ====
abbrev S8192x5632 : Shape := ⟨2, ![8192, 5632]⟩
abbrev S2048x5632 : Shape := ⟨2, ![2048, 5632]⟩
abbrev S8192x2048 : Shape := ⟨2, ![8192, 2048]⟩
abbrev S1024x5632 : Shape := ⟨2, ![1024, 5632]⟩
abbrev S512x5632 : Shape := ⟨2, ![512, 5632]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxRefIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S_, .f32⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateDw.lean ====
abbrev S8192x2048 : Shape := ⟨2, ![8192, 2048]⟩
abbrev S8192x5632 : Shape := ⟨2, ![8192, 5632]⟩
abbrev S2048x5632 : Shape := ⟨2, ![2048, 5632]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x5632 : Shape := ⟨2, ![8192, 5632]⟩
abbrev S8192x2048 : Shape := ⟨2, ![8192, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .hbm, ⟨3, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDxRms.lean ====
abbrev S8192x5632 : Shape := ⟨2, ![8192, 5632]⟩
abbrev S2048x5632 : Shape := ⟨2, ![2048, 5632]⟩
abbrev S8192x2048 : Shape := ⟨2, ![8192, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .local _ .vmem, ⟨0, _⟩ => ⟨S256x5632, .bf16⟩
  | .local _ .vmem, ⟨1, _⟩ => ⟨S256x5632, .bf16⟩
  | .local _ .vmem, ⟨2, _⟩ => ⟨S2048x5632, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpDxRmsRefIdeal.lean ====
abbrev S8192x5632 : Shape := ⟨2, ![8192, 5632]⟩
abbrev S2048x5632 : Shape := ⟨2, ![2048, 5632]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S2048x5632, .f32⟩
  | .hbm, ⟨26, _⟩ => ⟨S8192x5632, .f32⟩
  | .hbm, ⟨27, _⟩ => ⟨S8192x5632, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LatBwd.lean ====
abbrev S8192x1920 : Shape := ⟨2, ![8192, 1920]⟩
abbrev S1x512 : Shape := ⟨2, ![1, 512]⟩
abbrev S1x256 : Shape := ⟨2, ![1, 256]⟩
abbrev S8192x512 : Shape := ⟨2, ![8192, 512]⟩
abbrev S8192x256 : Shape := ⟨2, ![8192, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 9
  | .vmem => 16
  | .smem => 0
  | _ => 0

abbrev bufTy : (tb : Table) → Fin (tcTables nBuf tb) → BufTy
  | .hbm, ⟨0, _⟩ => ⟨S8192x1920, .f32⟩
  | .hbm, ⟨1, _⟩ => ⟨S1x512, .f32⟩
  | .hbm, ⟨2, _⟩ => ⟨S1x256, .f32⟩
  | .hbm, ⟨3, _⟩ => ⟨S8192x512, .f32⟩
  | .hbm, ⟨4, _⟩ => ⟨S8192x256, .f32⟩
  | .hbm, ⟨5, _⟩ => ⟨S8192x512, .bf16⟩
  | .hbm, ⟨6, _⟩ => ⟨S8192x256, .bf16⟩
  | .hbm, ⟨7, _⟩ => ⟨S1x512, .f32⟩
  | .hbm, ⟨8, _⟩ => ⟨S1x256, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x256, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x512, .bf16⟩
  | .local _ .vmem, ⟨11, _⟩ => ⟨S512x512, .bf16⟩
  | .local _ .vmem, ⟨12, _⟩ => ⟨S512x256, .bf16⟩
  | .local _ .vmem, ⟨13, _⟩ => ⟨S512x256, .bf16⟩
  | .local _ .vmem, ⟨14, _⟩ => ⟨S1x512, .f32⟩
  | .local _ .vmem, ⟨15, _⟩ => ⟨S1x256, .f32⟩
  | _, _ => ⟨S8192x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LatBwdRefIdeal.lean ====
abbrev S8192x1920 : Shape := ⟨2, ![8192, 1920]⟩
abbrev S1x512 : Shape := ⟨2, ![1, 512]⟩
abbrev S1x256 : Shape := ⟨2, ![1, 256]⟩
abbrev S8192x512 : Shape := ⟨2, ![8192, 512]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S512 : Shape := ⟨1, ![512]⟩
abbrev S256 : Shape := ⟨1, ![256]⟩

abbrev nBuf : Space → Nat
  | .hbm => 93
  | .vmem => 0
  | .smem => 0
  | _ => 0

abbrev bufTy : (tb : Table) → Fin (tcTables nBuf tb) → BufTy
  | .hbm, ⟨0, _⟩ => ⟨S8192x1920, .f32⟩
  | .hbm, ⟨1, _⟩ => ⟨S1x512, .f32⟩
  | .hbm, ⟨2, _⟩ => ⟨S1x256, .f32⟩
  | .hbm, ⟨3, _⟩ => ⟨S8192x512, .f32⟩
  | .hbm, ⟨4, _⟩ => ⟨S8192x256, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x256, .f32⟩
  | .hbm, ⟨79, _⟩ => ⟨S8192x256, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x256, .f32⟩
  | .hbm, ⟨87, _⟩ => ⟨S8192x256, .f32⟩
  | .hbm, ⟨88, _⟩ => ⟨S8192x256, .f32⟩
  | .hbm, ⟨89, _⟩ => ⟨S8192x256, .f32⟩
  | .hbm, ⟨90, _⟩ => ⟨S8192x256, .f32⟩
  | .hbm, ⟨91, _⟩ => ⟨S8192x512, .bf16⟩
  | .hbm, ⟨92, _⟩ => ⟨S8192x256, .bf16⟩
  | _, _ => ⟨S8192x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== ODx.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ODw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ODwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S8192x2048 : Shape := ⟨2, ![8192, 2048]⟩
abbrev S8192x1920 : Shape := ⟨2, ![8192, 1920]⟩
abbrev S2048x1920 : Shape := ⟨2, ![2048, 1920]⟩
abbrev S1024x1024 : Shape := ⟨2, ![1024, 1024]⟩
abbrev S1024x1920 : Shape := ⟨2, ![1024, 1920]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1920, .bf16⟩
  | .hbm, ⟨2, _⟩ => ⟨S2048x1920, .f32⟩
  | .local _ .vmem, ⟨0, _⟩ => ⟨S1024x1024, .bf16⟩
  | .local _ .vmem, ⟨1, _⟩ => ⟨S1024x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1920, .f32⟩
  | .local _ .vmem, ⟨5, _⟩ => ⟨S1024x1920, .f32⟩
  | .local _ .vmem, ⟨6, _⟩ => ⟨S1024x1920, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S8192x1920 : Shape := ⟨2, ![8192, 1920]⟩
abbrev S_ : Shape := ⟨0, ![]⟩
abbrev S2048x1920 : Shape := ⟨2, ![2048, 1920]⟩
abbrev S1920x2048 : Shape := ⟨2, ![1920, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1920, .bf16⟩
  | .hbm, ⟨2, _⟩ => ⟨S_, .f32⟩
  | .hbm, ⟨3, _⟩ => ⟨S2048x1920, .f32⟩
  | .hbm, ⟨4, _⟩ => ⟨S8192x2048, .f32⟩
  | .hbm, ⟨5, _⟩ => ⟨S8192x1920, .f32⟩
  | .hbm, ⟨6, _⟩ => ⟨S8192x1920, .f32⟩
  | .hbm, ⟨7, _⟩ => ⟨S1920x2048, .f32⟩
  | .hbm, ⟨8, _⟩ => ⟨S2048x1920, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QUpDx.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDxRefIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S_, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QUpDw.lean ====
abbrev S8192x512 : Shape := ⟨2, ![8192, 512]⟩
abbrev S8192x2048 : Shape := ⟨2, ![8192, 2048]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QUpDwRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvUpDx.lean ====
abbrev S8192x2048 : Shape := ⟨2, ![8192, 2048]⟩
abbrev S256x2048 : Shape := ⟨2, ![256, 2048]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDxRefIdeal.lean ====
abbrev S8192x2048 : Shape := ⟨2, ![8192, 2048]⟩
abbrev S256x2048 : Shape := ⟨2, ![256, 2048]⟩
abbrev S_ : Shape := ⟨0, ![]⟩
abbrev S8192x256 : Shape := ⟨2, ![8192, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S_, .f32⟩
  | .hbm, ⟨3, _⟩ => ⟨S8192x256, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvUpDw.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S256x2048, .f32⟩
  | .local _ .vmem, ⟨0, _⟩ => ⟨S1024x256, .bf16⟩
  | .local _ .vmem, ⟨1, _⟩ => ⟨S1024x256, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvUpDwRefIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x256, .f32⟩
  | .hbm, ⟨5, _⟩ => ⟨S8192x2048, .f32⟩
  | .hbm, ⟨6, _⟩ => ⟨S8192x2048, .f32⟩
  | .hbm, ⟨7, _⟩ => ⟨S2048x256, .f32⟩
  | .hbm, ⟨8, _⟩ => ⟨S256x2048, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixIn.lean ====
abbrev S8192x2048 : Shape := ⟨2, ![8192, 2048]⟩
abbrev S2048x1920 : Shape := ⟨2, ![2048, 1920]⟩
abbrev S8192x1920 : Shape := ⟨2, ![8192, 1920]⟩
abbrev S512x2048 : Shape := ⟨2, ![512, 2048]⟩
abbrev S512x1920 : Shape := ⟨2, ![512, 1920]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1920, .bf16⟩
  | .hbm, ⟨2, _⟩ => ⟨S8192x1920, .f32⟩
  | .local _ .vmem, ⟨0, _⟩ => ⟨S512x2048, .bf16⟩
  | .local _ .vmem, ⟨1, _⟩ => ⟨S512x2048, .bf16⟩
  | .local _ .vmem, ⟨2, _⟩ => ⟨S2048x1920, .bf16⟩
  | .local _ .vmem, ⟨3, _⟩ => ⟨S512x1920, .f32⟩
  | .local _ .vmem, ⟨4, _⟩ => ⟨S512x1920, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8192x2048 : Shape := ⟨2, ![8192, 2048]⟩
abbrev S2048x1920 : Shape := ⟨2, ![2048, 1920]⟩
abbrev S8192x1920 : Shape := ⟨2, ![8192, 1920]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1920, .bf16⟩
  | .hbm, ⟨2, _⟩ => ⟨S8192x2048, .f32⟩
  | .hbm, ⟨3, _⟩ => ⟨S2048x1920, .f32⟩
  | .hbm, ⟨4, _⟩ => ⟨S8192x1920, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QUp.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S1024x2048, .bf16⟩
  | .local _ .vmem, ⟨4, _⟩ => ⟨S1024x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpRefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x512, .f32⟩
  | .hbm, ⟨3, _⟩ => ⟨S512x2048, .f32⟩
  | .hbm, ⟨4, _⟩ => ⟨S8192x2048, .f32⟩
  | .hbm, ⟨5, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvUp.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x2048, .bf16⟩
  | .local _ .vmem, ⟨3, _⟩ => ⟨S1024x2048, .bf16⟩
  | .local _ .vmem, ⟨4, _⟩ => ⟨S1024x2048, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpRefIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x256, .f32⟩
  | .hbm, ⟨3, _⟩ => ⟨S256x2048, .f32⟩
  | .hbm, ⟨4, _⟩ => ⟨S8192x2048, .f32⟩
  | .hbm, ⟨5, _⟩ => ⟨S8192x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ORms.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ORmsRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DownLoss.lean ====
abbrev S8192x5632 : Shape := ⟨2, ![8192, 5632]⟩
abbrev S5632x2048 : Shape := ⟨2, ![5632, 2048]⟩
abbrev S8192x2048 : Shape := ⟨2, ![8192, 2048]⟩
abbrev S8x128 : Shape := ⟨2, ![8, 128]⟩
abbrev S1024x5632 : Shape := ⟨2, ![1024, 5632]⟩
abbrev S5632x512 : Shape := ⟨2, ![5632, 512]⟩
abbrev S1024x512 : Shape := ⟨2, ![1024, 512]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8x128, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S8x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DownLossRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S8x128, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== MemxBwd.lean ====
abbrev S8192x1920 : Shape := ⟨2, ![8192, 1920]⟩
abbrev S1x128 : Shape := ⟨2, ![1, 128]⟩
abbrev S256x512 : Shape := ⟨2, ![256, 512]⟩
abbrev S8192x2048 : Shape := ⟨2, ![8192, 2048]⟩
abbrev S8192x512 : Shape := ⟨2, ![8192, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S8192x1920, .f32⟩
  | .hbm, ⟨1, _⟩ => ⟨S1x128, .f32⟩
  | .hbm, ⟨2, _⟩ => ⟨S256x512, .bf16⟩
  | .hbm, ⟨3, _⟩ => ⟨S256x512, .bf16⟩
  | .hbm, ⟨4, _⟩ => ⟨S8192x2048, .f32⟩
  | .hbm, ⟨5, _⟩ => ⟨S8192x512, .bf16⟩
  | .hbm, ⟨6, _⟩ => ⟨S256x512, .f32⟩
  | .hbm, ⟨7, _⟩ => ⟨S256x512, .f32⟩
  | .hbm, ⟨8, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S1x128, .f32⟩
  | .local _ .vmem, ⟨3, _⟩ => ⟨S256x512, .bf16⟩
  | .local _ .vmem, ⟨4, _⟩ => ⟨S256x512, .bf16⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S256x512, .f32⟩
  | .local _ .vmem, ⟨10, _⟩ => ⟨S256x512, .f32⟩
  | .local _ .vmem, ⟨11, _⟩ => ⟨S1x128, .f32⟩
  | _, _ => ⟨S8192x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MemxBwdRefIdeal.lean ====
abbrev S8192x1920 : Shape := ⟨2, ![8192, 1920]⟩
abbrev S1x128 : Shape := ⟨2, ![1, 128]⟩
abbrev S256x512 : Shape := ⟨2, ![256, 512]⟩
abbrev S8192x2048 : Shape := ⟨2, ![8192, 2048]⟩
abbrev S8192x512 : Shape := ⟨2, ![8192, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S128 : Shape := ⟨1, ![128]⟩

abbrev nBuf : Space → Nat
  | .hbm => 133
  | .vmem => 0
  | .smem => 0
  | _ => 0

abbrev hbmTy0_0 (i : Nat) : BufTy := match i % 128 with
  | 0 => ⟨S8192x1920, .f32⟩
  | 1 => ⟨S1x128, .f32⟩
  | 2 => ⟨S256x512, .bf16⟩
  | 3 => ⟨S256x512, .bf16⟩
  | 4 => ⟨S8192x2048, .f32⟩
  | 5 => ⟨S8192x512, .f32⟩
  | 6 => ⟨S256x512, .f32⟩
  | 7 => ⟨S256x512, .f32⟩
  | 8 => ⟨S8192x4x128, .f32⟩
  | 9 => ⟨S8192x4x128, .f32⟩
  | 10 => ⟨S_, .f32⟩
  | 11 => ⟨S8192x4, .f32⟩
  | 12 => ⟨S8192x4x1, .f32⟩
  | 13 => ⟨S_, .f32⟩
  | 14 => ⟨S8192x4x1, .f32⟩
  | 15 => ⟨S8192x4x1, .f32⟩
  | 16 => ⟨S_, .f32⟩
  | 17 => ⟨S8192x4x1, .f32⟩
  | 18 => ⟨S8192x4x1, .f32⟩
  | 19 => ⟨S8192x4x1, .f32⟩
  | 20 => ⟨S8192x4x1, .f32⟩
  | 21 => ⟨S_, .f32⟩
  | 22 => ⟨S8192x4x1, .f32⟩
  | 23 => ⟨S8192x4x1, .f32⟩
  | 24 => ⟨S8192x4x128, .f32⟩
  | 25 => ⟨S8192x4x128, .f32⟩
  | 26 => ⟨S1x1x128, .f32⟩
  | 27 => ⟨S8192x4x128, .f32⟩
  | 28 => ⟨S8192x4x128, .f32⟩
  | 29 => ⟨S256x4x128, .f32⟩
  | 30 => ⟨S256x4x128, .f32⟩
  | 31 => ⟨S4x8192x256, .f32⟩
  | 32 => ⟨S_, .f32⟩
  | 33 => ⟨S4x8192x256, .f32⟩
  | 34 => ⟨S4x8192x256, .f32⟩
  | 35 => ⟨S_, .f32⟩
  | 36 => ⟨S4x8192, .f32⟩
  | 37 => ⟨S4x8192x1, .f32⟩
  | 38 => ⟨S4x8192x256, .f32⟩
  | 39 => ⟨S4x8192x256, .i1⟩
  | 40 => ⟨S4x8192x256, .f32⟩
  | 41 => ⟨S_, .f32⟩
  | 42 => ⟨S4x8192, .f32⟩
  | 43 => ⟨S_, .f32⟩
  | 44 => ⟨S4x8192, .f32⟩
  | 45 => ⟨S4x8192, .f32⟩
  | 46 => ⟨S_, .f32⟩
  | 47 => ⟨S4x8192, .f32⟩
  | 48 => ⟨S4x8192, .i1⟩
  | 49 => ⟨S_, .f32⟩
  | 50 => ⟨S4x8192, .f32⟩
  | 51 => ⟨S4x8192, .i1⟩
  | 52 => ⟨S_, .f32⟩
  | 53 => ⟨S4x8192, .f32⟩
  | 54 => ⟨S_, .f32⟩
  | 55 => ⟨S4x8192, .f32⟩
  | 56 => ⟨S_, .f32⟩
  | 57 => ⟨S4x8192, .f32⟩
  | 58 => ⟨S4x8192, .f32⟩
  | 59 => ⟨S4x8192, .f32⟩
  | 60 => ⟨S4x8192x1, .f32⟩
  | 61 => ⟨S4x8192x256, .f32⟩
  | 62 => ⟨S4x8192x256, .f32⟩
  | 63 => ⟨S4x8192x256, .f32⟩
  | 64 => ⟨S_, .f32⟩
  | 65 => ⟨S4x8192, .f32⟩
  | 66 => ⟨S4x8192x1, .f32⟩
  | 67 => ⟨S4x8192x256, .f32⟩
  | 68 => ⟨S4x8192x256, .f32⟩
  | 69 => ⟨S4x8192x1, .f32⟩
  | 70 => ⟨S_, .f32⟩
  | 71 => ⟨S4x8192x1, .f32⟩
  | 72 => ⟨S4x8192x1, .f32⟩
  | 73 => ⟨S4x128x8192, .f32⟩
  | 74 => ⟨S8192x4x128, .f32⟩
  | 75 => ⟨S8192x512, .f32⟩
  | 76 => ⟨S8192x512, .f32⟩
  | 77 => ⟨S8192x4x128, .f32⟩
  | 78 => ⟨S4x128x8192, .f32⟩
  | 79 => ⟨S4x8192x256, .f32⟩
  | 80 => ⟨S4x128x256, .f32⟩
  | 81 => ⟨S256x4x128, .f32⟩
  | 82 => ⟨S4x8192x256, .f32⟩
  | 83 => ⟨S4x8192x256, .f32⟩
  | 84 => ⟨S4x8192x256, .f32⟩
  | 85 => ⟨S_, .f32⟩
  | 86 => ⟨S4x8192, .f32⟩
  | 87 => ⟨S4x8192x1, .f32⟩
  | 88 => ⟨S4x8192x1, .f32⟩
  | 89 => ⟨S4x8192x256, .f32⟩
  | 90 => ⟨S4x8192x256, .f32⟩
  | 91 => ⟨S_, .f32⟩
  | 92 => ⟨S4x8192, .f32⟩
  | 93 => ⟨S4x8192x256, .f32⟩
  | 94 => ⟨S4x8192x256, .f32⟩
  | 95 => ⟨S4x8192x256, .f32⟩
  | 96 => ⟨S_, .f32⟩
  | 97 => ⟨S4x8192x256, .f32⟩
  | 98 => ⟨S4x8192x256, .f32⟩
  | 99 => ⟨S4x256x128, .f32⟩
  | 100 => ⟨S256x4x128, .f32⟩
  | 101 => ⟨S4x8192x128, .f32⟩
  | 102 => ⟨S8192x4x128, .f32⟩
  | 103 => ⟨S256x512, .f32⟩
  | 104 => ⟨S256x512, .f32⟩
  | 105 => ⟨S8192x4x128, .f32⟩
  | 106 => ⟨S_, .f32⟩
  | 107 => ⟨S128, .f32⟩
  | 108 => ⟨S1x1x128, .f32⟩
  | 109 => ⟨S8192x4x128, .f32⟩
  | 110 => ⟨S8192x4x128, .f32⟩
  | 111 => ⟨S_, .f32⟩
  | 112 => ⟨S128, .f32⟩
  | 113 => ⟨S1x128, .f32⟩
  | 114 => ⟨S8192x4x128, .f32⟩
  | 115 => ⟨S_, .f32⟩
  | 116 => ⟨S8192x4, .f32⟩
  | 117 => ⟨S8192x4x1, .f32⟩
  | 118 => ⟨S8192x4x128, .f32⟩
  | 119 => ⟨S8192x4x128, .f32⟩
  | 120 => ⟨S8192x4x1, .f32⟩
  | 121 => ⟨S_, .f32⟩
  | 122 => ⟨S8192x4x1, .f32⟩
  | 123 => ⟨S8192x4x1, .f32⟩
  | 124 => ⟨S_, .f32⟩
  | 125 => ⟨S8192x4, .f32⟩
  | 126 => ⟨S8192x4x128, .f32⟩
  | 127 => ⟨S8192x4x128, .f32⟩
  | _ => ⟨S8192x1920, .f32⟩

abbrev hbmTy0_1 (i : Nat) : BufTy := match i % 128 with
  | 0 => ⟨S8192x4x128, .f32⟩
  | 1 => ⟨S8192x4x128, .f32⟩
  | 2 => ⟨S8192x4x128, .f32⟩
  | 3 => ⟨S8192x512, .f32⟩
  | 4 => ⟨S8192x512, .bf16⟩
  | _ => ⟨S8192x1920, .f32⟩

abbrev hbmTy (i : Nat) : BufTy := match i / 128 with
  | 0 => hbmTy0_0 i
  | 1 => hbmTy0_1 i
  | _ => ⟨S8192x1920, .f32⟩

abbrev bufTy : (tb : Table) → Fin (tcTables nBuf tb) → BufTy
  | .hbm, ⟨i, _⟩ => hbmTy i
  | _, _ => ⟨S8192x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_19 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_20 : Ref sig .tc := ⟨.hbm, 121, rfl⟩
abbrev main_v95 : Ref sig .tc := ⟨.hbm, 122, rfl⟩
abbrev main_v96 : Ref sig .tc := ⟨.hbm, 123, rfl⟩
abbrev main_cst_21 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== MemkvBwd.lean ====
abbrev S256x512 : Shape := ⟨2, ![256, 512]⟩
abbrev S256x1024 : Shape := ⟨2, ![256, 1024]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 6
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x1024, .f32⟩
  | .hbm, ⟨3, _⟩ => ⟨S1x128, .f32⟩
  | .hbm, ⟨4, _⟩ => ⟨S256x1024, .bf16⟩
  | .hbm, ⟨5, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S1x128, .f32⟩
  | .local _ .vmem, ⟨4, _⟩ => ⟨S256x1024, .bf16⟩
  | .local _ .vmem, ⟨5, _⟩ => ⟨S1x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemkvBwdRefIdeal.lean ====
abbrev S256x512 : Shape := ⟨2, ![256, 512]⟩
abbrev S256x1024 : Shape := ⟨2, ![256, 1024]⟩
abbrev S1x128 : Shape := ⟨2, ![1, 128]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S128 : Shape := ⟨1, ![128]⟩

abbrev nBuf : Space → Nat
  | .hbm => 62
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x1024, .f32⟩
  | .hbm, ⟨3, _⟩ => ⟨S1x128, .f32⟩
  | .hbm, ⟨4, _⟩ => ⟨S256x512, .f32⟩
  | .hbm, ⟨5, _⟩ => ⟨S256x4x128, .f32⟩
  | .hbm, ⟨6, _⟩ => ⟨S256x4x128, .f32⟩
  | .hbm, ⟨7, _⟩ => ⟨S_, .f32⟩
  | .hbm, ⟨8, _⟩ => ⟨S256x4, .f32⟩
  | .hbm, ⟨9, _⟩ => ⟨S256x4x1, .f32⟩
  | .hbm, ⟨10, _⟩ => ⟨S_, .f32⟩
  | .hbm, ⟨11, _⟩ => ⟨S256x4x1, .f32⟩
  | .hbm, ⟨12, _⟩ => ⟨S256x4x1, .f32⟩
  | .hbm, ⟨13, _⟩ => ⟨S_, .f32⟩
  | .hbm, ⟨14, _⟩ => ⟨S256x4x1, .f32⟩
  | .hbm, ⟨15, _⟩ => ⟨S256x4x1, .f32⟩
  | .hbm, ⟨16, _⟩ => ⟨S256x4x1, .f32⟩
  | .hbm, ⟨17, _⟩ => ⟨S256x4x1, .f32⟩
  | .hbm, ⟨18, _⟩ => ⟨S_, .f32⟩
  | .hbm, ⟨19, _⟩ => ⟨S256x4x1, .f32⟩
  | .hbm, ⟨20, _⟩ => ⟨S256x4x1, .f32⟩
  | .hbm, ⟨21, _⟩ => ⟨S256x4x128, .f32⟩
  | .hbm, ⟨22, _⟩ => ⟨S256x4x128, .f32⟩
  | .hbm, ⟨23, _⟩ => ⟨S1x1x128, .f32⟩
  | .hbm, ⟨24, _⟩ => ⟨S256x4x128, .f32⟩
  | .hbm, ⟨25, _⟩ => ⟨S256x4x128, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x1024, .f32⟩
  | .hbm, ⟨30, _⟩ => ⟨S256x4x128, .f32⟩
  | .hbm, ⟨31, _⟩ => ⟨S256x4x128, .f32⟩
  | .hbm, ⟨32, _⟩ => ⟨S_, .f32⟩
  | .hbm, ⟨33, _⟩ => ⟨S128, .f32⟩
  | .hbm, ⟨34, _⟩ => ⟨S1x1x128, .f32⟩
  | .hbm, ⟨35, _⟩ => ⟨S256x4x128, .f32⟩
  | .hbm, ⟨36, _⟩ => ⟨S256x4x128, .f32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S256x4x128, .f32⟩
  | .hbm, ⟨41, _⟩ => ⟨S_, .f32⟩
  | .hbm, ⟨42, _⟩ => ⟨S256x4, .f32⟩
  | .hbm, ⟨43, _⟩ => ⟨S256x4x1, .f32⟩
  | .hbm, ⟨44, _⟩ => ⟨S256x4x128, .f32⟩
  | .hbm, ⟨45, _⟩ => ⟨S256x4x128, .f32⟩
  | .hbm, ⟨46, _⟩ => ⟨S256x4x1, .f32⟩
  | .hbm, ⟨47, _⟩ => ⟨S_, .f32⟩
  | .hbm, ⟨48, _⟩ => ⟨S256x4x1, .f32⟩
  | .hbm, ⟨49, _⟩ => ⟨S256x4x1, .f32⟩
  | .hbm, ⟨50, _⟩ => ⟨S_, .f32⟩
  | .hbm, ⟨51, _⟩ => ⟨S256x4, .f32⟩
  | .hbm, ⟨52, _⟩ => ⟨S256x4x128, .f32⟩
  | .hbm, ⟨53, _⟩ => ⟨S256x4x128, .f32⟩
  | .hbm, ⟨54, _⟩ => ⟨S256x4x128, .f32⟩
  | .hbm, ⟨55, _⟩ => ⟨S256x4x128, .f32⟩
  | .hbm, ⟨56, _⟩ => ⟨S256x4x128, .f32⟩
  | .hbm, ⟨57, _⟩ => ⟨S256x512, .f32⟩
  | .hbm, ⟨58, _⟩ => ⟨S_, .f32⟩
  | .hbm, ⟨59, _⟩ => ⟨S256x1024, .f32⟩
  | .hbm, ⟨60, _⟩ => ⟨S256x1024, .f32⟩
  | .hbm, ⟨61, _⟩ => ⟨S256x1024, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== MemKvDw.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x1024, .f32⟩
  | .hbm, ⟨3, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MemKvDwRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemKvDx.lean ====
abbrev S256x1024 : Shape := ⟨2, ![256, 1024]⟩
abbrev S2048x1024 : Shape := ⟨2, ![2048, 1024]⟩
abbrev S256x2048 : Shape := ⟨2, ![256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S256x2048, .f32⟩
  | .local _ .vmem, ⟨0, _⟩ => ⟨S256x1024, .bf16⟩
  | .local _ .vmem, ⟨1, _⟩ => ⟨S2048x1024, .bf16⟩
  | .local _ .vmem, ⟨2, _⟩ => ⟨S256x2048, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDxRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x1024, .f32⟩
  | .hbm, ⟨7, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemGainBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MemGainBwdRefIdeal.lean ====
abbrev S256x2048 : Shape := ⟨2, ![256, 2048]⟩
abbrev S_ : Shape := ⟨0, ![]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 23
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S_, .f32⟩
  | .hbm, ⟨3, _⟩ => ⟨S1x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MemNorm.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MemNormRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemKv.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemkvPrep.lean ====
abbrev S256x1024 : Shape := ⟨2, ![256, 1024]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x128, .f32⟩
  | .hbm, ⟨2, _⟩ => ⟨S256x512, .bf16⟩
  | .hbm, ⟨3, _⟩ => ⟨S256x512, .bf16⟩
  | .local _ .vmem, ⟨0, _⟩ => ⟨S256x1024, .f32⟩
  | .local _ .vmem, ⟨1, _⟩ => ⟨S1x128, .f32⟩
  | .local _ .vmem, ⟨2, _⟩ => ⟨S256x512, .bf16⟩
  | .local _ .vmem, ⟨3, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemkvPrepRefIdeal.lean ====
abbrev S256x1024 : Shape := ⟨2, ![256, 1024]⟩
abbrev S1x128 : Shape := ⟨2, ![1, 128]⟩
abbrev S256x512 : Shape := ⟨2, ![256, 512]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x128, .f32⟩
  | .hbm, ⟨2, _⟩ => ⟨S256x512, .f32⟩
  | .hbm, ⟨3, _⟩ => ⟨S256x4x128, .f32⟩
  | .hbm, ⟨4, _⟩ => ⟨S256x4x128, .f32⟩
  | .hbm, ⟨5, _⟩ => ⟨S_, .f32⟩
  | .hbm, ⟨6, _⟩ => ⟨S256x4, .f32⟩
  | .hbm, ⟨7, _⟩ => ⟨S256x4x1, .f32⟩
  | .hbm, ⟨8, _⟩ => ⟨S_, .f32⟩
  | .hbm, ⟨9, _⟩ => ⟨S256x4x1, .f32⟩
  | .hbm, ⟨10, _⟩ => ⟨S256x4x1, .f32⟩
  | .hbm, ⟨11, _⟩ => ⟨S_, .f32⟩
  | .hbm, ⟨12, _⟩ => ⟨S256x4x1, .f32⟩
  | .hbm, ⟨13, _⟩ => ⟨S256x4x1, .f32⟩
  | .hbm, ⟨14, _⟩ => ⟨S256x4x1, .f32⟩
  | .hbm, ⟨15, _⟩ => ⟨S256x4x128, .f32⟩
  | .hbm, ⟨16, _⟩ => ⟨S256x4x128, .f32⟩
  | .hbm, ⟨17, _⟩ => ⟨S1x1x128, .f32⟩
  | .hbm, ⟨18, _⟩ => ⟨S256x4x128, .f32⟩
  | .hbm, ⟨19, _⟩ => ⟨S256x4x128, .f32⟩
  | .hbm, ⟨20, _⟩ => ⟨S256x512, .f32⟩
  | .hbm, ⟨21, _⟩ => ⟨S256x512, .f32⟩
  | .hbm, ⟨22, _⟩ => ⟨S256x512, .bf16⟩
  | .hbm, ⟨23, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== MemxFwd.lean ====
abbrev S8192x1920 : Shape := ⟨2, ![8192, 1920]⟩
abbrev S1x128 : Shape := ⟨2, ![1, 128]⟩
abbrev S256x512 : Shape := ⟨2, ![256, 512]⟩
abbrev S8192x512 : Shape := ⟨2, ![8192, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1920, .f32⟩
  | .hbm, ⟨1, _⟩ => ⟨S1x128, .f32⟩
  | .hbm, ⟨2, _⟩ => ⟨S256x512, .bf16⟩
  | .hbm, ⟨3, _⟩ => ⟨S256x512, .bf16⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x128, .f32⟩
  | .local _ .vmem, ⟨3, _⟩ => ⟨S256x512, .bf16⟩
  | .local _ .vmem, ⟨4, _⟩ => ⟨S256x512, .bf16⟩
  | .local _ .vmem, ⟨5, _⟩ => ⟨S512x512, .bf16⟩
  | .local _ .vmem, ⟨6, _⟩ => ⟨S512x512, .bf16⟩
  | _, _ => ⟨S8192x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemxFwdRefIdeal.lean ====
abbrev S8192x1920 : Shape := ⟨2, ![8192, 1920]⟩
abbrev S1x128 : Shape := ⟨2, ![1, 128]⟩
abbrev S256x512 : Shape := ⟨2, ![256, 512]⟩
abbrev S8192x512 : Shape := ⟨2, ![8192, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x1920, .f32⟩
  | .hbm, ⟨1, _⟩ => ⟨S1x128, .f32⟩
  | .hbm, ⟨2, _⟩ => ⟨S256x512, .bf16⟩
  | .hbm, ⟨3, _⟩ => ⟨S256x512, .bf16⟩
  | .hbm, ⟨4, _⟩ => ⟨S8192x512, .f32⟩
  | .hbm, ⟨5, _⟩ => ⟨S8192x4x128, .f32⟩
  | .hbm, ⟨6, _⟩ => ⟨S8192x4x128, .f32⟩
  | .hbm, ⟨7, _⟩ => ⟨S_, .f32⟩
  | .hbm, ⟨8, _⟩ => ⟨S8192x4, .f32⟩
  | .hbm, ⟨9, _⟩ => ⟨S8192x4x1, .f32⟩
  | .hbm, ⟨10, _⟩ => ⟨S_, .f32⟩
  | .hbm, ⟨11, _⟩ => ⟨S8192x4x1, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S8192x4x1, .f32⟩
  | .hbm, ⟨17, _⟩ => ⟨S8192x4x128, .f32⟩
  | .hbm, ⟨18, _⟩ => ⟨S8192x4x128, .f32⟩
  | .hbm, ⟨19, _⟩ => ⟨S1x1x128, .f32⟩
  | .hbm, ⟨20, _⟩ => ⟨S8192x4x128, .f32⟩
  | .hbm, ⟨21, _⟩ => ⟨S8192x4x128, .f32⟩
  | .hbm, ⟨22, _⟩ => ⟨S256x512, .f32⟩
  | .hbm, ⟨23, _⟩ => ⟨S256x4x128, .f32⟩
  | .hbm, ⟨24, _⟩ => ⟨S256x512, .f32⟩
  | .hbm, ⟨25, _⟩ => ⟨S256x4x128, .f32⟩
  | .hbm, ⟨26, _⟩ => ⟨S4x8192x256, .f32⟩
  | .hbm, ⟨27, _⟩ => ⟨S_, .f32⟩
  | .hbm, ⟨28, _⟩ => ⟨S4x8192x256, .f32⟩
  | .hbm, ⟨29, _⟩ => ⟨S4x8192x256, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192x1, .f32⟩
  | .hbm, ⟨36, _⟩ => ⟨S4x8192x256, .f32⟩
  | .hbm, ⟨37, _⟩ => ⟨S4x8192x256, .f32⟩
  | .hbm, ⟨38, _⟩ => ⟨S4x8192x256, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x128x8192, .f32⟩
  | .hbm, ⟨45, _⟩ => ⟨S8192x4x128, .f32⟩
  | .hbm, ⟨46, _⟩ => ⟨S8192x512, .f32⟩
  | .hbm, ⟨47, _⟩ => ⟨S8192x512, .bf16⟩
  | _, _ => ⟨S8192x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== LatFwd.lean ====
abbrev S8192x1920 : Shape := ⟨2, ![8192, 1920]⟩
abbrev S1x512 : Shape := ⟨2, ![1, 512]⟩
abbrev S1x256 : Shape := ⟨2, ![1, 256]⟩
abbrev S8192x512 : Shape := ⟨2, ![8192, 512]⟩
abbrev S8192x256 : Shape := ⟨2, ![8192, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1920, .f32⟩
  | .hbm, ⟨1, _⟩ => ⟨S1x512, .f32⟩
  | .hbm, ⟨2, _⟩ => ⟨S1x256, .f32⟩
  | .hbm, ⟨3, _⟩ => ⟨S8192x512, .bf16⟩
  | .hbm, ⟨4, _⟩ => ⟨S8192x256, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x256, .f32⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | _, _ => ⟨S8192x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatFwdRefIdeal.lean ====
abbrev S8192x1920 : Shape := ⟨2, ![8192, 1920]⟩
abbrev S1x512 : Shape := ⟨2, ![1, 512]⟩
abbrev S1x256 : Shape := ⟨2, ![1, 256]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x1920, .f32⟩
  | .hbm, ⟨1, _⟩ => ⟨S1x512, .f32⟩
  | .hbm, ⟨2, _⟩ => ⟨S1x256, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .bf16⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .bf16⟩
  | _, _ => ⟨S8192x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== ConvFwd.lean ====
abbrev S8192x5632 : Shape := ⟨2, ![8192, 5632]⟩
abbrev S3x5632 : Shape := ⟨2, ![3, 5632]⟩
abbrev S1x5632 : Shape := ⟨2, ![1, 5632]⟩
abbrev S2048x512 : Shape := ⟨2, ![2048, 512]⟩
abbrev S16x512 : Shape := ⟨2, ![16, 512]⟩
abbrev S3x512 : Shape := ⟨2, ![3, 512]⟩
abbrev S1x512 : Shape := ⟨2, ![1, 512]⟩
abbrev S2064x512 : Shape := ⟨2, ![2064, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S3x5632, .f32⟩
  | .hbm, ⟨3, _⟩ => ⟨S1x5632, .f32⟩
  | .hbm, ⟨4, _⟩ => ⟨S8192x5632, .bf16⟩
  | .local _ .vmem, ⟨0, _⟩ => ⟨S2048x512, .bf16⟩
  | .local _ .vmem, ⟨1, _⟩ => ⟨S2048x512, .bf16⟩
  | .local _ .vmem, ⟨2, _⟩ => ⟨S16x512, .bf16⟩
  | .local _ .vmem, ⟨3, _⟩ => ⟨S16x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvFwdRefIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S3x5632, .f32⟩
  | .hbm, ⟨3, _⟩ => ⟨S1x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S8192x5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== SumSlots.lean ====
abbrev S8x672x128 : Shape := ⟨3, ![8, 672, 128]⟩
abbrev S672x128 : Shape := ⟨2, ![672, 128]⟩
abbrev S1x672x128 : Shape := ⟨3, ![1, 672, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x672x128, .f32⟩
  | .hbm, ⟨1, _⟩ => ⟨S672x128, .f32⟩
  | .local _ .vmem, ⟨0, _⟩ => ⟨S8x672x128, .f32⟩
  | .local _ .vmem, ⟨1, _⟩ => ⟨S672x128, .f32⟩
  | _, _ => ⟨S8x672x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x672x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S672x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSlotsRefIdeal.lean ====
abbrev S8x672x128 : Shape := ⟨3, ![8, 672, 128]⟩
abbrev S_ : Shape := ⟨0, ![]⟩
abbrev S672x128 : Shape := ⟨2, ![672, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x672x128, .f32⟩
  | .hbm, ⟨1, _⟩ => ⟨S_, .f32⟩
  | .hbm, ⟨2, _⟩ => ⟨S672x128, .f32⟩
  | _, _ => ⟨S8x672x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwGate.lean ====
abbrev S2048x704 : Shape := ⟨2, ![2048, 704]⟩
abbrev S7x2048x704 : Shape := ⟨3, ![7, 2048, 704]⟩
abbrev S128x704 : Shape := ⟨2, ![128, 704]⟩
abbrev S7x128x704 : Shape := ⟨3, ![7, 128, 704]⟩
abbrev S1x128x704 : Shape := ⟨3, ![1, 128, 704]⟩

abbrev nBuf : Space → Nat
  | .hbm => 9
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S7x2048x704, .bf16⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S7x128x704, .bf16⟩
  | .local _ .vmem, ⟨5, _⟩ => ⟨S7x128x704, .bf16⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | .local _ .vmem, ⟨16, _⟩ => ⟨S128x704, .f32⟩
  | .local _ .vmem, ⟨17, _⟩ => ⟨S128x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x128x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwGateRefIdeal.lean ====
abbrev S2048x704 : Shape := ⟨2, ![2048, 704]⟩
abbrev S7x2048x704 : Shape := ⟨3, ![7, 2048, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S7x2048x704, .bf16⟩
  | .hbm, ⟨3, _⟩ => ⟨S2048x704, .f32⟩
  | .hbm, ⟨4, _⟩ => ⟨S2048x704, .f32⟩
  | .hbm, ⟨5, _⟩ => ⟨S7x2048x704, .f32⟩
  | .hbm, ⟨6, _⟩ => ⟨S_, .f32⟩
  | .hbm, ⟨7, _⟩ => ⟨S2048x704, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.ConvSpec.lean ====
/- The gradient of the convolutional gate, on arrays of extended reals, entry by entry.

   `g`, `u`, `da` have a row for each of the 8192 positions and a column for each of the 5632
   channels; `w` holds the three taps of each channel, `b` its bias. An array is read at natural
   numbers, and is zero outside (`at2`): this is the convolution's own padding. -/
module

public import Idealize.ShloMosaic.Lib.Pointwise
public import Idealize.ShloMosaic.Lib.ValueLayout
public import Idealize.ShloMosaic.Lib.Tactic

@[expose] public section

set_option maxRecDepth 16384

noncomputable section

open Idealize.ShloMosaic

namespace Conv

/-- An array read at natural numbers: zero outside. -/
def at2 {R C : Nat} (X : (⟨2, ![R, C]⟩ : Shape).Idx → EReal) (r c : Nat) : EReal :=
  if h : r < R ∧ c < C then X (ix2 ⟨r, h.1⟩ ⟨c, h.2⟩) else 0

theorem at2_of {R C : Nat} (X : (⟨2, ![R, C]⟩ : Shape).Idx → EReal) {r c : Nat} (hr : r < R) (hc : c < C) :
    at2 X r c = X (ix2 ⟨r, hr⟩ ⟨c, hc⟩) := dif_pos ⟨hr, hc⟩

theorem at2_ix {R C : Nat} (X : (⟨2, ![R, C]⟩ : Shape).Idx → EReal) (r : Fin R) (c : Fin C) :
    X (ix2 r c) = at2 X r.1 c.1 := (at2_of X r.2 c.2).symm

theorem at2_row {R C : Nat} (X : (⟨2, ![R, C]⟩ : Shape).Idx → EReal) {r : Nat} (c : Nat) (hr : R ≤ r) :
    at2 X r c = 0 := dif_neg fun h => absurd h.1 (by omega)

/-- `sigmoid` by way of the hyperbolic tangent, at the infinities too. -/
theorem half_tanh (x : EReal) :
    (((1 / 2 : ℝ) : ℝ) : EReal) * Ideal.tanh ((((1 / 2 : ℝ) : ℝ) : EReal) * x) + (((1 / 2 : ℝ) : ℝ) : EReal) = Ideal.logistic x := by
  induction x with
  | bot =>
    rw [EReal.coe_mul_bot_of_pos (by norm_num), Ideal.tanh_bot, Ideal.logistic_bot, mul_neg, mul_one, ← EReal.coe_neg,
      ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    have key : ∀ a b : ℝ, 0 < a → 0 < b → a * b = 1 → 1 / 2 * (((a - b) / 2) / ((a + b) / 2)) + 1 / 2 = (1 + b * b)⁻¹ := by
      intro a b ha hb hab
      obtain rfl : b = a⁻¹ := (eq_inv_of_mul_eq_one_right hab)
      field_simp
      ring
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [Real.tanh_eq_sinh_div_cosh, Real.sinh_eq, Real.cosh_eq, h1]
    exact key _ _ (Real.exp_pos _) (Real.exp_pos _) h2

/-- The two spellings of the derivative of `x * sigmoid x`, times a finite factor. -/
theorem slope_law (p : ℝ) (x : EReal) :
    (p : EReal) * Ideal.logistic x + x * p * (Ideal.logistic x * (1 - Ideal.logistic x))
      = (p : EReal) * (Ideal.logistic x * (1 + x * (1 - Ideal.logistic x))) := by
  induction x with
  | bot =>
    simp only [Ideal.logistic_bot, mul_zero, zero_mul, add_zero]
  | top =>
    have h : (1 : EReal) - 1 = 0 := by rw [← EReal.coe_one, ← EReal.coe_sub]; simp
    simp only [Ideal.logistic_top, h, mul_zero, add_zero, mul_one]
  | coe r =>
    rw [Ideal.logistic_coe, ← EReal.coe_one]
    simp only [← EReal.coe_mul, ← EReal.coe_sub, ← EReal.coe_add]
    congr 1
    ring

variable (G U A : (⟨2, ![8192, 5632]⟩ : Shape).Idx → EReal) (W : (⟨2, ![3, 5632]⟩ : Shape).Idx → EReal)
  (B : (⟨2, ![1, 5632]⟩ : Shape).Idx → EReal)

/-- The gate's input two positions back, zero before the first. -/
def tap (s n : Nat) : EReal := if s < 2 then 0 else at2 G (s - 2) n

/-- The convolution: the bias and three taps. -/
def conv (s n : Nat) : EReal :=
  at2 B 0 n + at2 W 0 n * tap G s n + at2 W 1 n * tap G (s + 1) n + at2 W 2 n * tap G (s + 2) n

/-- The gradient at the convolution's output. -/
def slope (s n : Nat) : EReal :=
  at2 A s n * at2 U s n
    * (Ideal.logistic (conv G W B s n) * (1 + conv G W B s n * (1 - Ideal.logistic (conv G W B s n))))

/-- The gradient at `g`. -/
def dg (s n : Nat) : EReal :=
  at2 W 2 n * slope G U A W B s n + at2 W 1 n * slope G U A W B (s + 1) n + at2 W 0 n * slope G U A W B (s + 2) n

/-- The gradient at `u`. -/
def du (s n : Nat) : EReal := at2 A s n * (conv G W B s n * Ideal.logistic (conv G W B s n))

/-- The gradient at the taps. -/
def dw (k n : Nat) : EReal := ∑ s ∈ Finset.range 8192, slope G U A W B s n * tap G (s + k) n

/-- The gradient at the bias. -/
def db (n : Nat) : EReal := ∑ s ∈ Finset.range 8192, slope G U A W B s n

theorem slope_past {s : Nat} (n : Nat) (hs : 8192 ≤ s) : slope G U A W B s n = 0 := by
  unfold slope
  rw [at2_row A n hs, zero_mul, zero_mul]

end Conv

end
-- ==== Proof.ConvRef.lean ====
/- The reference's results, entry by entry. -/
module

public import proofs.«01_k».proof.Proof.Gen.ReferenceIdeal.Run
public import proofs.«01_k».proof.Proof.ConvSpec

@[expose] public section

set_option maxRecDepth 16384

noncomputable section

open Idealize.ShloMosaic Idealize.ShloMosaic.TcCoe Idealize.SL.Sem

namespace Cert.ReferenceIdeal.ConvRef

open Cert.ReferenceIdeal Cert.ReferenceIdeal.Gen Conv Facts

variable (G U A : Vec Ideal S8192x5632 .bf16) (W : Vec Ideal S3x5632 .f32) (B : Vec Ideal S1x5632 .f32)

/-- The gate's input below two rows of zeros. -/
def padded : FVec Ideal S8194x5632 .f32 :=
  concatenate S8194x5632 0 [⟨S2x5632, (broadcastInDim S2x5632 ![] bcast_S_S2x5632 (constant S_ .f32 0x00000000#32))⟩, ⟨S8192x5632, (extf .f32 G bitsLt_bf16_f32)⟩] concatenates_S2x5632_S8192x5632_S8194x5632_d0

/-- One tap of every channel, down the rows. -/
def tap0 : FVec Ideal S8192x5632 .f32 :=
  broadcastInDim S8192x5632 ![0, 1] bcast_S1x5632_S8192x5632_0_1 (broadcastInDim S1x5632 ![1] bcast_S5632_S1x5632_1 (shapeCast _ (extractStridedSlice S1x5632 ![0, 0] W slices_S3x5632_S1x5632_0_0) shapeCasts_S1x5632_S5632))
def tap1 : FVec Ideal S8192x5632 .f32 :=
  broadcastInDim S8192x5632 ![0, 1] bcast_S1x5632_S8192x5632_0_1 (broadcastInDim S1x5632 ![1] bcast_S5632_S1x5632_1 (shapeCast _ (extractStridedSlice S1x5632 ![1, 0] W slices_S3x5632_S1x5632_1_0) shapeCasts_S1x5632_S5632))
def tap2 : FVec Ideal S8192x5632 .f32 :=
  broadcastInDim S8192x5632 ![0, 1] bcast_S1x5632_S8192x5632_0_1 (broadcastInDim S1x5632 ![1] bcast_S5632_S1x5632_1 (shapeCast _ (extractStridedSlice S1x5632 ![2, 0] W slices_S3x5632_S1x5632_2_0) shapeCasts_S1x5632_S5632))

def sl0 (P : FVec Ideal S8194x5632 .f32) : FVec Ideal S8192x5632 .f32 := extractStridedSlice S8192x5632 ![0, 0] P slices_S8194x5632_S8192x5632_0_0
def sl1 (P : FVec Ideal S8194x5632 .f32) : FVec Ideal S8192x5632 .f32 := extractStridedSlice S8192x5632 ![1, 0] P slices_S8194x5632_S8192x5632_1_0
def sl2 (P : FVec Ideal S8194x5632 .f32) : FVec Ideal S8192x5632 .f32 := extractStridedSlice S8192x5632 ![2, 0] P slices_S8194x5632_S8192x5632_2_0

def gate : FVec Ideal S8192x5632 .f32 :=
  addf (addf (addf (broadcastInDim S8192x5632 ![0, 1] bcast_S1x5632_S8192x5632_0_1 B) (mulf (tap0 W) (sl0 (padded G)))) (mulf (tap1 W) (sl1 (padded G)))) (mulf (tap2 W) (sl2 (padded G)))

def ones : FVec Ideal S8192x5632 .f32 := broadcastInDim S8192x5632 ![] bcast_S_S8192x5632 (constant S_ .f32 0x3F800000#32)

def sigm : FVec Ideal S8192x5632 .f32 := Host.divf ones (addf ones (Host.exp (Host.negf (gate G W B))))

def dgate : FVec Ideal S8192x5632 .f32 :=
  addf (mulf (mulf (extf .f32 A bitsLt_bf16_f32) (extf .f32 U bitsLt_bf16_f32)) (sigm G W B)) (mulf (mulf (gate G W B) (mulf (extf .f32 A bitsLt_bf16_f32) (extf .f32 U bitsLt_bf16_f32))) (mulf (sigm G W B) (subf ones (sigm G W B))))

def resDu : FVec Ideal S8192x5632 .bf16 := truncf .bf16 (mulf (mulf (gate G W B) (sigm G W B)) (extf .f32 A bitsLt_bf16_f32)) bitsLt_bf16_f32

def zero : FVec Ideal S_ .f32 := constant S_ .f32 0x00000000#32

def resDb : FVec Ideal S1x5632 .f32 := shapeCast _ (Host.reduceAdd (dgate G U A W B) zero reducesTo_S8192x5632_S5632_d0 h_S_) shapeCasts_S5632_S1x5632

/-- The convolution turned around: rows of zeros put around each tap's product, and the first two rows left out. -/
def back (D : FVec Ideal S8192x5632 .f32) : FVec Ideal S8192x5632 .bf16 :=
  truncf .bf16 (extractStridedSlice S8192x5632 ![2, 0] (addf (addf (pad S8194x5632 ![2, 0] ![0, 0] ![0, 0] (mulf (tap2 W) D) zero pads_S8192x5632_S8194x5632_200_000 h_S_) (pad S8194x5632 ![1, 0] ![1, 0] ![0, 0] (mulf (tap1 W) D) zero pads_S8192x5632_S8194x5632_110_000 h_S_)) (pad S8194x5632 ![0, 0] ![2, 0] ![0, 0] (mulf (tap0 W) D) zero pads_S8192x5632_S8194x5632_020_000 h_S_)) slices_S8194x5632_S8192x5632_2_0) bitsLt_bf16_f32

def resDg : FVec Ideal S8192x5632 .bf16 := back W (dgate G U A W B)

/-- The sum down the rows of a product, as a row. -/
def rowSum (x y : FVec Ideal S8192x5632 .f32) : FVec Ideal S1x5632 .f32 :=
  broadcastInDim S1x5632 ![1] bcast_S5632_S1x5632_1 (Host.reduceAdd (shapeCast _ (Host.reduceAdd (mulf x y) zero reducesTo_S8192x5632_S5632_d0 h_S_) shapeCasts_S5632_S1x5632) zero reducesTo_S1x5632_S5632_d0 h_S_)

def resDw : FVec Ideal S3x5632 .f32 :=
  addf (addf (pad S3x5632 ![2, 0] ![0, 0] ![0, 0] (rowSum (dgate G U A W B) (sl2 (padded G))) zero pads_S1x5632_S3x5632_200_000 h_S_) (pad S3x5632 ![1, 0] ![1, 0] ![0, 0] (rowSum (dgate G U A W B) (sl1 (padded G))) zero pads_S1x5632_S3x5632_110_000 h_S_)) (pad S3x5632 ![0, 0] ![2, 0] ![0, 0] (rowSum (dgate G U A W B) (sl0 (padded G))) zero pads_S1x5632_S3x5632_020_000 h_S_)

section Res
variable (m : (ℓ : Loc nD τ sig) → Buf (Elt Ideal) ℓ) (c : Dev nD)

theorem out0_eq : Value.res_out0 m c
    = resDg (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

theorem out1_eq : Value.res_out1 m c
    = resDu (m ((c.tc : Thread nD τ).loc main_arg0)) (m ((c.tc : Thread nD τ).loc main_arg2)) (m ((c.tc : Thread nD τ).loc main_arg3))
        (m ((c.tc : Thread nD τ).loc main_arg4)) := rfl

theorem out2_eq : Value.res_out2 m c
    = resDw (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

theorem out3_eq : Value.res_out3 m c
    = resDb (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Res

theorem padded_at {s n : Nat} (hs : s < 8194) (hn : n < 5632) : at2 (padded G) s n = tap G s n := by
  unfold tap
  rw [at2_of _ hs hn]
  unfold padded
  pointwise
  by_cases h2 : s < 2
  · rw [dif_pos h2, if_pos h2]
  · rw [dif_neg h2, if_neg h2, at2_of _ (by omega) hn]

theorem gate_at {s n : Nat} (hs : s < 8192) (hn : n < 5632) : at2 (gate G W B) s n = conv G W B s n := by
  unfold conv
  rw [← padded_at G (by omega) hn, ← padded_at G (by omega) hn, ← padded_at G (by omega) hn, at2_of _ hs hn]
  rw [at2_of (padded G) (show s < 8194 by omega) hn, at2_of (padded G) (show s + 1 < 8194 by omega) hn, at2_of (padded G) (show s + 2 < 8194 by omega) hn,
    at2_of W (show 0 < 3 by omega) hn, at2_of W (show 1 < 3 by omega) hn, at2_of W (show 2 < 3 by omega) hn, at2_of B (show 0 < 1 by omega) hn]
  unfold gate tap0 tap1 tap2 sl0 sl1 sl2
  pointwise
  simp only [Nat.add_comm s]

theorem sigm_at {s n : Nat} (hs : s < 8192) (hn : n < 5632) : at2 (sigm G W B) s n = Ideal.logistic (conv G W B s n) := by
  rw [← gate_at G W B hs hn, at2_of _ hs hn, at2_of _ hs hn]
  unfold sigm ones Ideal.logistic
  pointwise

theorem dgate_at {s n : Nat} (hs : s < 8192) (hn : n < 5632) (p : ℝ) (hp : at2 A s n * at2 U s n = (p : EReal)) :
    at2 (dgate G U A W B) s n = slope G U A W B s n := by
  unfold Conv.slope
  rw [hp, ← slope_law, ← hp, ← sigm_at G W B hs hn, ← gate_at G W B hs hn]
  simp only [at2_of _ hs hn]
  unfold dgate ones
  pointwise

theorem resDu_at {s n : Nat} (hs : s < 8192) (hn : n < 5632) : at2 (resDu G A W B) s n = du G A W B s n := by
  unfold du
  rw [mul_comm, ← sigm_at G W B hs hn, ← gate_at G W B hs hn]
  simp only [at2_of _ hs hn]
  unfold resDu
  pointwise

variable (hfin : ∀ s n, s < 8192 → n < 5632 → at2 (dgate G U A W B) s n = slope G U A W B s n)
include hfin

theorem resDb_at {n : Nat} (hn : n < 5632) : at2 (resDb G U A W B) 0 n = db G U A W B n := by
  unfold db
  rw [at2_of _ (by omega) hn, Finset.sum_range, ← Finset.sum_congr rfl fun s _ => hfin s.1 n s.2 hn]
  simp only [at2_of _ (Fin.isLt _) hn]
  unfold resDb zero
  pointwise

omit hfin in
theorem back_at (D : FVec Ideal S8192x5632 .f32) {s n : Nat} (hs : s < 8192) (hn : n < 5632) :
    at2 (back W D) s n = at2 W 2 n * at2 D s n + at2 W 1 n * at2 D (s + 1) n + at2 W 0 n * at2 D (s + 2) n := by
  rw [at2_of _ hs hn]
  unfold back zero tap0 tap1 tap2
  pointwise
  have hD : D (ix2 ⟨s, hs⟩ ⟨n, hn⟩) = at2 D s n := (at2_of D hs hn).symm
  have hW0 : W (ix2 0 ⟨n, hn⟩) = at2 W 0 n := (at2_of W (show 0 < 3 by omega) hn).symm
  have hW1 : W (ix2 1 ⟨n, hn⟩) = at2 W 1 n := (at2_of W (show 1 < 3 by omega) hn).symm
  have hW2 : W (ix2 2 ⟨n, hn⟩) = at2 W 2 n := (at2_of W (show 2 < 3 by omega) hn).symm
  have a0 : 1 ≤ 2 + s := by omega
  have e1 : 2 + s - 1 = s + 1 := by omega
  have e2 : 2 + s = s + 2 := by omega
  simp only [hs, hn, a0, e1, and_self, and_true, true_and, ↓reduceDIte, hD, hW0, hW1, hW2]
  refine congrArg₂ _ (congrArg _ ?_) ?_
  · by_cases h1 : s + 1 < 8192
    · simp only [h1, ↓reduceDIte, at2_of D h1 hn]
    · simp only [h1, ↓reduceDIte, at2_row D n (show 8192 ≤ s + 1 by omega), mul_zero]
  · by_cases h1 : s + 2 < 8192
    · simp only [e2, h1, ↓reduceDIte, at2_of D h1 hn]
    · simp only [e2, h1, ↓reduceDIte, at2_row D n (show 8192 ≤ s + 2 by omega), mul_zero]

theorem resDg_at {s n : Nat} (hs : s < 8192) (hn : n < 5632) : at2 (resDg G U A W B) s n = dg G U A W B s n := by
  have e : ∀ s, at2 (dgate G U A W B) s n = Conv.slope G U A W B s n := by
    intro s
    by_cases h : s < 8192
    · exact hfin s n h hn
    · rw [at2_row _ _ (by omega), slope_past _ _ _ _ _ _ (by omega)]
  unfold resDg dg
  rw [back_at _ _ hs hn, e, e, e]

omit hfin in
theorem rowSum_at (x y : FVec Ideal S8192x5632 .f32) {n : Nat} (hn : n < 5632) :
    at2 (rowSum x y) 0 n = ∑ s ∈ Finset.range 8192, at2 x s n * at2 y s n := by
  rw [at2_of _ (by omega) hn, Finset.sum_range]
  simp only [at2_of _ (Fin.isLt _) hn]
  unfold rowSum zero
  pointwise
  rw [Fin.sum_univ_one]

theorem resDw_at {k n : Nat} (hk : k < 3) (hn : n < 5632) : at2 (resDw G U A W B) k n = dw G U A W B k n := by
  rw [at2_of _ hk hn]
  unfold resDw zero
  pointwise
  have hsum : ∀ k' (P : FVec Ideal S8192x5632 .f32), (∀ s, s < 8192 → at2 P s n = tap G (s + k') n) →
      at2 (rowSum (dgate G U A W B) P) 0 n = dw G U A W B k' n := by
    intro k' P hP
    rw [rowSum_at _ _ hn]
    exact Finset.sum_congr rfl fun s hs => by
      rw [hfin s n (Finset.mem_range.mp hs) hn, hP s (Finset.mem_range.mp hs)]
  have h0 := hsum 0 (sl0 (padded G)) fun s hs => by
    rw [← padded_at G (by omega) hn, at2_of _ hs hn, at2_of _ (by omega) hn]
    unfold sl0
    pointwise
  have h1 := hsum 1 (sl1 (padded G)) fun s hs => by
    rw [← padded_at G (by omega) hn, at2_of _ hs hn, at2_of _ (by omega) hn]
    unfold sl1
    pointwise
    simp only [Nat.add_comm s]
  have h2 := hsum 2 (sl2 (padded G)) fun s hs => by
    rw [← padded_at G (by omega) hn, at2_of _ hs hn, at2_of _ (by omega) hn]
    unfold sl2
    pointwise
    simp only [Nat.add_comm s]
  rw [at2_of _ (by omega) hn] at h0 h1 h2
  obtain rfl | rfl | rfl : k = 0 ∨ k = 1 ∨ k = 2 := by omega
  · rw [dif_neg (by omega), dif_neg (by omega), dif_pos ⟨by omega, hn⟩, add_zero, zero_add]
    exact h0
  · rw [dif_neg (by omega), dif_pos ⟨⟨by omega, by omega⟩, hn⟩, dif_neg (by omega), add_zero, zero_add]
    exact h1
  · rw [dif_pos ⟨⟨by omega, by omega⟩, hn⟩, dif_neg (by omega), dif_neg (by omega), add_zero, add_zero]
    exact h2

end Cert.ReferenceIdeal.ConvRef

end
-- ==== Proof.ConvPre.lean ====
/- What the precondition says: every entry of the two factors of the product that multiplies the slope of the
   activation is a real number, so the product is one as well. -/
module

public import proofs.«01_k».proof.Defs
public import proofs.«01_k».proof.Proof.ConvRef
public import Idealize.ShloMosaic.Lib.ReduceAll

@[expose] public section

noncomputable section

open Idealize.ShloMosaic

namespace Cert.Pre_finite_up

theorem bits_lt : FTy.bits .bf16 < FTy.bits .f32 := by decide
theorem scalar_spreads : S_.BroadcastsInDim S8192x5632 (![] : Fin 0 → Fin S8192x5632.rank) := by decide
theorem reduces_all : S8192x5632.ReducesTo [0, 1] S_ := by decide
theorem scalar_pos : 0 < S_.numel := by decide

/-- The side conditions of the precondition's operations. -/
instance facts : Facts where
  bitsLt_bf16_f32 := bits_lt
  bcast_S_S8192x5632 := scalar_spreads
  reducesTo_S8192x5632_S_d0_1 := reduces_all
  h_S_ := scalar_pos

theorem real_of_olt {x : EReal} (h : FloatOps.cmpf (F := Ideal) (φ := .f32) .olt (FloatOps.absf (F := Ideal) (φ := .f32) x) (FloatOps.ofBits .f32 0x7F800000#32) = 1#1) :
    ∃ p : ℝ, x = p := by
  have htop : FloatOps.ofBits (F := Ideal) .f32 0x7F800000#32 = (⊤ : EReal) := by simp [Ideal.ofBits, Ideal.ieee]
  rw [htop] at h
  induction x using EReal.rec with
  | bot => exact absurd h (by simp [FloatOps.cmpf, FloatOps.absf, Ideal.cmp])
  | top => exact absurd h (by simp [FloatOps.cmpf, FloatOps.absf, Ideal.cmp])
  | coe p => exact ⟨p, rfl⟩

instance : Subsingleton S_.Idx := ⟨fun a b => funext fun i => i.elim0⟩

theorem reals (G U A : FVec Ideal S8192x5632 .bf16) (W : FVec Ideal S3x5632 .f32) (B : FVec Ideal S1x5632 .f32)
    (h : fn G U A W B = fun _ => 1#1) : (∀ i, ∃ p : ℝ, U i = (p : EReal)) ∧ ∀ i, ∃ p : ℝ, A i = (p : EReal) := by
  have e := congrFun h (Shape.Idx.first scalar_pos)
  unfold fn at e
  simp only [andi] at e
  obtain ⟨hu, ha⟩ := IntOp.andi_eq_one.mp e
  exact ⟨fun i => real_of_olt (Host.reduce_andi_all _ _ _ _ _ hu i), fun i => real_of_olt (Host.reduce_andi_all _ _ _ _ _ ha i)⟩

end Cert.Pre_finite_up

end
-- ==== Proof.ConvPay.lean ====
/- What the kernel's payloads hold at an index: the arithmetic of one block of the gradient of the gated convolution,
   written entry by entry. -/
module

public import proofs.«01_k».proof.Proof.Gen.KernelIdeal.Skeleton
public import proofs.«01_k».proof.Proof.ConvSpec
public import Idealize.ShloMosaic.Lib.WordCmp

@[expose] public section

set_option maxRecDepth 16384

noncomputable section

open Idealize.ShloMosaic Idealize.ShloMosaic.TcCoe Idealize.SL.Sem

namespace Cert.KernelIdeal.ConvPay

open Cert.KernelIdeal Cert.KernelIdeal.Gen Conv

theorem half : Ideal.ofBits .f32 0x3F000000#32 = (((1 / 2 : ℝ) : ℝ) : EReal) := by
  simp [Ideal.ofBits, Ideal.ieee]
  rw [← EReal.coe_mul]
  norm_num

variable (i : grid0.Coords) (x0 x3 x5 : Vec Ideal S1024x512 .bf16) (x1 x2 x4 x6 : Vec Ideal S16x512 .bf16)
  (v0 : BitVec 1) (g : FVec Ideal S1040x512 .f32) (w0 w1 w2 b : Vec Ideal S1x512 .f32)

theorem pay5_at {p c : Nat} (hp : p < 1056) (hc : c < 512) :
    at2 (k0_pay5 i x1 x0 x2) p c
      = if p < 16 then (if (i 1).val = 0 then 0 else at2 x1 p c) else if p < 1040 then at2 x0 (p - 16) c else at2 x2 (p - 1040) c := by
  rw [at2_of _ hp hc]
  unfold k0_pay5 k0_pay4
  pointwise
  have hi : (i 1).val < 8 := (i 1).isLt
  by_cases h1 : p < 16
  · rw [dif_pos h1, if_pos h1]
    by_cases h0 : (i 1).val = 0
    · rw [if_pos h0, h0]; rfl
    · rw [if_neg h0, at2_of _ h1 hc]
      unfold Scalar.select Scalar.cmpi
      rw [if_neg]
      exact fun h => h0 ((WordCmp.cmpi_eq_ofNat_eq_one_iff (w := 32) (a := (i 1).val) (b := 0) (by omega) (by omega)).mp h)
  · rw [dif_neg h1, if_neg h1]
    by_cases h2 : p < 1040
    · rw [dif_pos (by omega), if_pos h2, at2_of _ (by omega) hc]
    · rw [dif_neg (by omega), if_neg h2, at2_of _ (by omega) hc]
      congr 3

theorem pay9_at {q c : Nat} (hq : q < 1040) (hc : c < 512) :
    at2 (k0_pay9 v0 x5 x6) q c
      = if q < 1024 then at2 x5 q c else if v0 = 1#1 then 0 else at2 x6 (q - 1024) c := by
  rw [at2_of _ hq hc]
  unfold k0_pay9
  pointwise
  by_cases h1 : q < 1024
  · rw [dif_pos h1, if_pos h1, at2_of _ h1 hc]
  · rw [dif_neg h1, if_neg h1, at2_of _ (by omega) hc]
    rfl

theorem pay10_at {q c : Nat} (hq : q < 1040) (hc : c < 512) :
    at2 (k0_pay10 g) q c = Ideal.logistic (at2 g q c) := by
  rw [at2_of _ hq hc, ← half_tanh, at2_of _ hq hc, ← half]
  unfold k0_pay10
  pointwise

theorem pay12_at {q c : Nat} (hq : q < 1040) (hc : c < 512) :
    at2 (k0_pay12 v0 g x3 x4 x5 x6) q c
      = at2 (k0_pay9 v0 x5 x6) q c * (if q < 1024 then at2 x3 q c else at2 x4 (q - 1024) c)
        * (Ideal.logistic (at2 g q c) * (1 + at2 g q c * (1 - Ideal.logistic (at2 g q c)))) := by
  rw [← pay10_at g hq hc]
  simp only [at2_of _ hq hc]
  unfold k0_pay12
  pointwise
  by_cases h1 : q < 1024
  · rw [dif_pos h1, if_pos h1, at2_of _ h1 hc]
  · rw [dif_neg h1, if_neg h1, at2_of _ (by omega) hc]

theorem pay8_at {q c : Nat} (hq : q < 1040) (hc : c < 512) :
    at2 (k0_pay8 i x1 x0 x2 b w0 w1 w2) q c
      = at2 b 0 c + at2 w0 0 c * at2 (k0_pay5 i x1 x0 x2) (14 + q) c + at2 w1 0 c * at2 (k0_pay5 i x1 x0 x2) (15 + q) c
        + at2 w2 0 c * at2 (k0_pay5 i x1 x0 x2) (16 + q) c := by
  rw [at2_of _ hq hc]
  rw [at2_of (k0_pay5 i x1 x0 x2) (show 14 + q < 1056 by omega) hc, at2_of (k0_pay5 i x1 x0 x2) (show 15 + q < 1056 by omega) hc,
    at2_of (k0_pay5 i x1 x0 x2) (show 16 + q < 1056 by omega) hc]
  simp only [at2_of _ (show 0 < 1 by omega) hc]
  unfold k0_pay8 k0_pay6 k0_pay7
  pointwise
  have e1 : (16 + q + 1056 - 2) % 1056 = 14 + q := by omega
  have e2 : (16 + q + 1056 - 1) % 1056 = 15 + q := by omega
  simp only [e1, e2]

theorem pay11_at {q c : Nat} (hq : q < 1024) (hc : c < 512) :
    at2 (k0_pay11 v0 g x5 x6) q c = at2 x5 q c * (at2 g q c * Ideal.logistic (at2 g q c)) := by
  have hq' : q < 1040 := by omega
  have h9 := pay9_at x5 x6 v0 hq' hc
  rw [if_pos hq] at h9
  rw [← h9, ← pay10_at g hq' hc]
  rw [at2_of _ hq hc]
  simp only [at2_of _ hq' hc]
  unfold k0_pay11
  pointwise

theorem pay15_at {q c : Nat} (hq : q < 1024) (hc : c < 512) :
    at2 (k0_pay15 v0 g x3 x4 x5 x6) q c = at2 (k0_pay12 v0 g x3 x4 x5 x6) q c := by
  rw [at2_of _ hq hc, at2_of _ (by omega) hc]
  unfold k0_pay15
  pointwise

theorem pay17_at {q c : Nat} (hq : q < 1024) (hc : c < 512) :
    at2 (k0_pay17 (k0_pay13 v0 g x3 x4 x5 x6) (k0_pay14 v0 g x3 x4 x5 x6) (k0_pay16 v0 g x3 x4 x5 x6 w2) w1 w0) q c
      = at2 w2 0 c * at2 (k0_pay12 v0 g x3 x4 x5 x6) q c + at2 w1 0 c * at2 (k0_pay12 v0 g x3 x4 x5 x6) (q + 1) c
        + at2 w0 0 c * at2 (k0_pay12 v0 g x3 x4 x5 x6) (q + 2) c := by
  rw [at2_of _ hq hc]
  rw [at2_of (k0_pay12 v0 g x3 x4 x5 x6) (show q < 1040 by omega) hc, at2_of (k0_pay12 v0 g x3 x4 x5 x6) (show q + 1 < 1040 by omega) hc,
    at2_of (k0_pay12 v0 g x3 x4 x5 x6) (show q + 2 < 1040 by omega) hc]
  simp only [at2_of _ (show 0 < 1 by omega) hc]
  unfold k0_pay17 k0_pay16 k0_pay15 k0_pay14 k0_pay13
  pointwise
  have e1 : (q + 1040 - 1039) % 1040 = q + 1 := by omega
  have e2 : (q + 1040 - 1038) % 1040 = q + 2 := by omega
  simp only [e1, e2]

variable (d : FVec Ideal S1024x512 .f32) (acc : Vec Ideal S1x512 .f32)

theorem pay18_at {c : Nat} (hc : c < 512) :
    at2 (k0_pay18 d acc) 0 c = at2 acc 0 c + ∑ r ∈ Finset.range 1024, at2 d r c := by
  rw [Finset.sum_range, at2_of _ (by omega) hc, at2_of _ (by omega) hc]
  simp only [at2_of _ (Fin.isLt _) hc]
  unfold k0_pay18
  pointwise

theorem pay19_at (x : FVec Ideal S1056x512 .f32) {c : Nat} (hc : c < 512) :
    at2 (k0_pay19 x d acc) 0 c = at2 acc 0 c + ∑ r ∈ Finset.range 1024, at2 d r c * at2 x (16 + r) c := by
  rw [Finset.sum_range, at2_of _ (by omega) hc, at2_of _ (by omega) hc]
  simp only [at2_of _ (Fin.isLt _) hc]
  unfold k0_pay19
  pointwise
  refine congrArg _ (Finset.sum_congr rfl fun k _ => ?_)
  rw [at2_of x (show 16 + k.1 < 1056 by omega) hc]

theorem pay20_at (x : FVec Ideal S1056x512 .f32) : k0_pay20 x d acc = k0_pay19 x d acc := rfl

theorem pay1_at (x : Vec Ideal S1024x512 .bf16) {c : Nat} (hc : c < 512) :
    at2 (k0_pay1 (k0_pay21 acc) (k0_pay22 (k0_pay4 x) d)) 0 c = at2 acc 0 c + ∑ r ∈ Finset.range 1024, at2 d r c * at2 x r c := by
  rw [Finset.sum_range, at2_of _ (by omega) hc, at2_of _ (by omega) hc]
  simp only [at2_of _ (Fin.isLt _) hc]
  unfold k0_pay1 k0_pay21 k0_pay22 k0_pay4
  pointwise

theorem pay7_at {p c : Nat} (hp : 16 ≤ p) (hp' : p < 1056) (hc : c < 512) :
    at2 (k0_pay7 i x1 x0 x2) p c = at2 (k0_pay5 i x1 x0 x2) (p - 2) c := by
  rw [at2_of _ hp' hc, at2_of _ (by omega) hc]
  unfold k0_pay7
  pointwise
  have e1 : (p + 1056 - 2) % 1056 = p - 2 := by omega
  simp only [e1]

theorem pay6_at {p c : Nat} (hp : 16 ≤ p) (hp' : p < 1056) (hc : c < 512) :
    at2 (k0_pay6 i x1 x0 x2) p c = at2 (k0_pay5 i x1 x0 x2) (p - 1) c := by
  rw [at2_of _ hp' hc, at2_of _ (by omega) hc]
  unfold k0_pay6
  pointwise
  have e1 : (p + 1056 - 1) % 1056 = p - 1 := by omega
  simp only [e1]

theorem pay2_at (r c : Nat) : at2 (k0_pay2 (F := Ideal)) r c = 0 := by
  unfold at2
  split
  · unfold k0_pay2; pointwise
  · rfl

theorem pay3_at (r c : Nat) : at2 (k0_pay3 (F := Ideal)) r c = 0 := by
  unfold at2
  split
  · unfold k0_pay3; pointwise
  · rfl
-- ==== Proof.ConvStep.lean ====
/- One step of the grid, on the nine blocks it reads: what it leaves in each of its four outputs is the
   gradient's entries at the step's rows and columns. -/
module

public import proofs.«01_k».proof.Proof.ConvPay

@[expose] public section

set_option maxRecDepth 16384

noncomputable section

open Idealize.ShloMosaic Idealize.ShloMosaic.TcCoe Idealize.SL.Sem

namespace Cert.KernelIdeal.ConvStep

open Cert.KernelIdeal Cert.KernelIdeal.Gen Conv ConvPay

variable (i : grid0.Coords) (I n : Nat)
  (x0 x3 x5 : Vec Ideal S1024x512 .bf16) (x1 x2 x4 x6 : Vec Ideal S16x512 .bf16)
  (x7 : Vec Ideal S3x512 .f32) (x8 : Vec Ideal S1x512 .f32)
  (G U A : (⟨2, ![8192, 5632]⟩ : Shape).Idx → EReal) (W : (⟨2, ![3, 5632]⟩ : Shape).Idx → EReal)
  (B : (⟨2, ![1, 5632]⟩ : Shape).Idx → EReal)

/-- The nine blocks of step `I` of the rows, at columns `n` and on. The block before the first and the one
    after the last are not fixed. -/
structure Blocks : Prop where
  row : (i 1).val = I
  lt : I < 8
  g : ∀ r c, r < 1024 → c < 512 → at2 x0 r c = at2 G (1024 * I + r) (n + c)
  prev : I ≠ 0 → ∀ r c, r < 16 → c < 512 → at2 x1 r c = at2 G (1024 * I + r - 16) (n + c)
  next : I ≠ 7 → ∀ r c, r < 16 → c < 512 → at2 x2 r c = at2 G (1024 * I + 1024 + r) (n + c)
  u : ∀ r c, r < 1024 → c < 512 → at2 x3 r c = at2 U (1024 * I + r) (n + c)
  uNext : I ≠ 7 → ∀ r c, r < 16 → c < 512 → at2 x4 r c = at2 U (1024 * I + 1024 + r) (n + c)
  a : ∀ r c, r < 1024 → c < 512 → at2 x5 r c = at2 A (1024 * I + r) (n + c)
  aNext : I ≠ 7 → ∀ r c, r < 16 → c < 512 → at2 x6 r c = at2 A (1024 * I + 1024 + r) (n + c)
  w : ∀ r c, r < 3 → c < 512 → at2 x7 r c = at2 W r (n + c)
  b : ∀ c, c < 512 → at2 x8 0 c = at2 B 0 (n + c)

variable {i I n x0 x3 x5 x1 x2 x4 x6 x7 x8 G U A W B}
variable (H : Blocks i I n x0 x3 x5 x1 x2 x4 x6 x7 x8 G U A W B)
include H

theorem tap_row {p c : Nat} (h14 : 14 ≤ p) (hp : p < 1056) (hI : p < 1040 ∨ I ≠ 7) (hc : c < 512) :
    at2 (k0_pay5 i x1 x0 x2) p c = tap G (1024 * I + p - 14) (n + c) := by
  have hlt := H.lt
  rw [pay5_at i x0 x1 x2 hp hc, H.row]
  unfold tap
  by_cases h1 : p < 16
  · rw [if_pos h1]
    by_cases h0 : I = 0
    · rw [if_pos h0, if_pos (by omega)]
    · rw [if_neg h0, if_neg (by omega), H.prev h0 p c h1 hc]
      congr 1 <;> omega
  · rw [if_neg h1, if_neg (show ¬1024 * I + p - 14 < 2 by omega)]
    by_cases h2 : p < 1040
    · rw [if_pos h2, H.g _ c (by omega) hc]
      congr 1 <;> omega
    · rw [if_neg h2, H.next (by omega) _ c (by omega) hc]
      congr 1 <;> omega

variable {w0 w1 w2 : Vec Ideal S1x512 .f32} (hw0 : ∀ c, at2 w0 0 c = at2 x7 0 c) (hw1 : ∀ c, at2 w1 0 c = at2 x7 1 c)
  (hw2 : ∀ c, at2 w2 0 c = at2 x7 2 c)
include hw0 hw1 hw2

theorem conv_row {q c : Nat} (hq : q < 1040) (hI : q < 1024 ∨ I ≠ 7) (hc : c < 512) :
    at2 (k0_pay8 i x1 x0 x2 x8 w0 w1 w2) q c = conv G W B (1024 * I + q) (n + c) := by
  rw [pay8_at i x0 x1 x2 w0 w1 w2 x8 hq hc, hw0, hw1, hw2, H.b c hc, H.w 0 c (by omega) hc, H.w 1 c (by omega) hc,
    H.w 2 c (by omega) hc, tap_row H (by omega) (by omega) (by omega) hc, tap_row H (by omega) (by omega) (by omega) hc,
    tap_row H (by omega) (by omega) (by omega) hc]
  unfold conv
  rw [show 1024 * I + (14 + q) - 14 = 1024 * I + q by omega, show 1024 * I + (15 + q) - 14 = 1024 * I + q + 1 by omega,
    show 1024 * I + (16 + q) - 14 = 1024 * I + q + 2 by omega]

omit hw0 hw1 hw2 in
theorem last_iff : Scalar.cmpi CmpIPredicate.eq (BitVec.ofNat 32 (i 1).val) 7#32 = 1#1 ↔ I = 7 := by
  have hlt := H.lt
  rw [← H.row] at hlt ⊢
  exact WordCmp.cmpi_eq_ofNat_eq_one_iff (w := 32) (a := (i 1).val) (b := 7) (by omega) (by omega)

theorem slope_row {q c : Nat} (hq : q < 1040) (hc : c < 512) :
    at2 (k0_pay12 (Scalar.cmpi CmpIPredicate.eq (BitVec.ofNat 32 (i 1).val) 7#32) (k0_pay8 i x1 x0 x2 x8 w0 w1 w2) x3 x4 x5 x6) q c
      = slope G U A W B (1024 * I + q) (n + c) := by
  rw [pay12_at _ _ _ _ _ _ hq hc, pay9_at _ _ _ hq hc]
  by_cases h1 : q < 1024
  · rw [if_pos h1, if_pos h1, conv_row H hw0 hw1 hw2 hq (.inl h1) hc, H.a q c h1 hc, H.u q c h1 hc]
    rfl
  · rw [if_neg h1, if_neg h1]
    by_cases h7 : I = 7
    · rw [if_pos ((last_iff H).mpr h7), zero_mul, zero_mul, slope_past]
      omega
    · rw [if_neg (fun h => h7 ((last_iff H).mp h)), conv_row H hw0 hw1 hw2 hq (.inr h7) hc, H.aNext h7 _ c (by omega) hc,
        H.uNext h7 _ c (by omega) hc, show 1024 * I + 1024 + (q - 1024) = 1024 * I + q by omega]
      rfl

/-- `dg` on the step's rows. -/
theorem dg_row {q c : Nat} (hq : q < 1024) (hc : c < 512) :
    let v0 := Scalar.cmpi CmpIPredicate.eq (BitVec.ofNat 32 (i 1).val) 7#32
    let g := k0_pay8 i x1 x0 x2 x8 w0 w1 w2
    at2 (k0_pay17 (k0_pay13 v0 g x3 x4 x5 x6) (k0_pay14 v0 g x3 x4 x5 x6) (k0_pay16 v0 g x3 x4 x5 x6 w2) w1 w0) q c
      = dg G U A W B (1024 * I + q) (n + c) := by
  dsimp only
  rw [pay17_at _ _ _ _ _ _ _ _ _ hq hc, slope_row H hw0 hw1 hw2 (by omega) hc, slope_row H hw0 hw1 hw2 (by omega) hc,
    slope_row H hw0 hw1 hw2 (by omega) hc, hw0, hw1, hw2, H.w 0 c (by omega) hc, H.w 1 c (by omega) hc, H.w 2 c (by omega) hc]
  rfl

/-- `du` on the step's rows. -/
theorem du_row {q c : Nat} (hq : q < 1024) (hc : c < 512) :
    at2 (k0_pay11 (Scalar.cmpi CmpIPredicate.eq (BitVec.ofNat 32 (i 1).val) 7#32) (k0_pay8 i x1 x0 x2 x8 w0 w1 w2) x5 x6) q c
      = du G A W B (1024 * I + q) (n + c) := by
  rw [pay11_at _ _ _ _ hq hc, conv_row H hw0 hw1 hw2 (by omega) (.inl hq) hc, H.a q c hq hc]
  rfl

theorem slope15 {q c : Nat} (hq : q < 1024) (hc : c < 512) :
    at2 (k0_pay15 (Scalar.cmpi CmpIPredicate.eq (BitVec.ofNat 32 (i 1).val) 7#32) (k0_pay8 i x1 x0 x2 x8 w0 w1 w2) x3 x4 x5 x6) q c
      = slope G U A W B (1024 * I + q) (n + c) := by
  rw [pay15_at _ _ _ _ _ _ hq hc, slope_row H hw0 hw1 hw2 (by omega) hc]

/-- The step's rows added to `db`'s running sum. -/
theorem db_row (acc : Vec Ideal S1x512 .f32) {c : Nat} (hc : c < 512)
    (hacc : at2 acc 0 c = ∑ s ∈ Finset.range (1024 * I), slope G U A W B s (n + c)) :
    at2 (k0_pay18 (k0_pay15 (Scalar.cmpi CmpIPredicate.eq (BitVec.ofNat 32 (i 1).val) 7#32) (k0_pay8 i x1 x0 x2 x8 w0 w1 w2) x3 x4 x5 x6) acc) 0 c
      = ∑ s ∈ Finset.range (1024 * (I + 1)), slope G U A W B s (n + c) := by
  rw [pay18_at _ _ hc, hacc, show 1024 * (I + 1) = 1024 * I + 1024 by omega, Finset.sum_range_add]
  refine congrArg _ (Finset.sum_congr rfl fun k hk => ?_)
  rw [slope15 H hw0 hw1 hw2 (Finset.mem_range.mp hk) hc]

theorem dw0_row (acc : Vec Ideal S1x512 .f32) {c : Nat} (hc : c < 512)
    (hacc : at2 acc 0 c = ∑ s ∈ Finset.range (1024 * I), slope G U A W B s (n + c) * tap G (s + 0) (n + c)) :
    at2 (k0_pay19 (k0_pay7 i x1 x0 x2) (k0_pay15 (Scalar.cmpi CmpIPredicate.eq (BitVec.ofNat 32 (i 1).val) 7#32) (k0_pay8 i x1 x0 x2 x8 w0 w1 w2) x3 x4 x5 x6) acc) 0 c
      = ∑ s ∈ Finset.range (1024 * (I + 1)), slope G U A W B s (n + c) * tap G (s + 0) (n + c) := by
  rw [pay19_at _ _ _ hc, hacc, show 1024 * (I + 1) = 1024 * I + 1024 by omega, Finset.sum_range_add]
  refine congrArg _ (Finset.sum_congr rfl fun k hk => ?_)
  have hk := Finset.mem_range.mp hk
  rw [slope15 H hw0 hw1 hw2 hk hc, pay7_at _ _ _ _ (by omega) (by omega) hc, tap_row H (by omega) (by omega) (by omega) hc]
  congr 2 <;> omega

theorem dw1_row (acc : Vec Ideal S1x512 .f32) {c : Nat} (hc : c < 512)
    (hacc : at2 acc 0 c = ∑ s ∈ Finset.range (1024 * I), slope G U A W B s (n + c) * tap G (s + 1) (n + c)) :
    at2 (k0_pay20 (k0_pay6 i x1 x0 x2) (k0_pay15 (Scalar.cmpi CmpIPredicate.eq (BitVec.ofNat 32 (i 1).val) 7#32) (k0_pay8 i x1 x0 x2 x8 w0 w1 w2) x3 x4 x5 x6) acc) 0 c
      = ∑ s ∈ Finset.range (1024 * (I + 1)), slope G U A W B s (n + c) * tap G (s + 1) (n + c) := by
  rw [pay20_at, pay19_at _ _ _ hc, hacc, show 1024 * (I + 1) = 1024 * I + 1024 by omega, Finset.sum_range_add]
  refine congrArg _ (Finset.sum_congr rfl fun k hk => ?_)
  have hk := Finset.mem_range.mp hk
  rw [slope15 H hw0 hw1 hw2 hk hc, pay6_at _ _ _ _ (by omega) (by omega) hc, tap_row H (by omega) (by omega) (by omega) hc]
  congr 2 <;> omega

theorem dw2_row (acc : Vec Ideal S1x512 .f32) {c : Nat} (hc : c < 512)
    (hacc : at2 acc 0 c = ∑ s ∈ Finset.range (1024 * I), slope G U A W B s (n + c) * tap G (s + 2) (n + c)) :
    at2 (k0_pay1 (k0_pay21 acc) (k0_pay22 (k0_pay4 x0) (k0_pay15 (Scalar.cmpi CmpIPredicate.eq (BitVec.ofNat 32 (i 1).val) 7#32) (k0_pay8 i x1 x0 x2 x8 w0 w1 w2) x3 x4 x5 x6))) 0 c
      = ∑ s ∈ Finset.range (1024 * (I + 1)), slope G U A W B s (n + c) * tap G (s + 2) (n + c) := by
  rw [pay1_at _ _ _ hc, hacc, show 1024 * (I + 1) = 1024 * I + 1024 by omega, Finset.sum_range_add]
  refine congrArg _ (Finset.sum_congr rfl fun k hk => ?_)
  have hk := Finset.mem_range.mp hk
  rw [slope15 H hw0 hw1 hw2 hk hc, H.g k c hk hc]
  unfold tap
  rw [if_neg (by omega), Nat.add_sub_cancel]

end Cert.KernelIdeal.ConvStep

end
-- ==== Proof.ConvBody.lean ====
/- What a step leaves in each of its outputs, as the body's own terms of the blocks it reads: the columns' first
   step starts the two sums from zero, every other step from what they hold. -/
module

public import proofs.«01_k».proof.Proof.Gen.KernelIdeal.Frame
public import Idealize.ShloMosaic.Lib.Pipeline.Value
public import Idealize.ShloMosaic.Lib.Pipeline.RowLoads
public import Idealize.ShloMosaic.Lib.Tactic
public import proofs.«01_k».proof.Proof.ConvSpec

@[expose] public section

set_option maxRecDepth 16384

noncomputable section

open Idealize.ShloMosaic Idealize.ShloMosaic.TcCoe Idealize.SL.Sem

namespace Cert.KernelIdeal.ConvBody

open Cert.KernelIdeal Cert.KernelIdeal.Gen Conv

theorem hz : (![0, 0] : Fin 2 → Nat) = fun _ => 0 := funext fun a => by fin_cases a <;> rfl

/-- The rows of a block of three. -/
def row0 (X : Vec Ideal S3x512 .f32) : Vec Ideal S1x512 .f32 := View.ld X (Rect.unit ![0, 0] ![1, 512] inb_S3x512_S1x512_0_0)
def row1 (X : Vec Ideal S3x512 .f32) : Vec Ideal S1x512 .f32 := View.ld X (Rect.unit ![1, 0] ![1, 512] inb_S3x512_S1x512_1_0)
def row2 (X : Vec Ideal S3x512 .f32) : Vec Ideal S1x512 .f32 := View.ld X (Rect.unit ![2, 0] ![1, 512] inb_S3x512_S1x512_2_0)

theorem row0_at (X : Vec Ideal S3x512 .f32) (c : Nat) : at2 (row0 X) 0 c = at2 X 0 c := by
  by_cases hc : c < 512
  · rw [at2_of _ (by omega) hc, at2_of _ (by omega) hc]
    exact congrArg X (funext fun a => Fin.ext (by fin_cases a <;> simp))
  · unfold at2; rw [dif_neg (by omega), dif_neg (by omega)]
theorem row1_at (X : Vec Ideal S3x512 .f32) (c : Nat) : at2 (row1 X) 0 c = at2 X 1 c := by
  by_cases hc : c < 512
  · rw [at2_of _ (by omega) hc, at2_of _ (by omega) hc]
    exact congrArg X (funext fun a => Fin.ext (by fin_cases a <;> simp))
  · unfold at2; rw [dif_neg (by omega), dif_neg (by omega)]
theorem row2_at (X : Vec Ideal S3x512 .f32) (c : Nat) : at2 (row2 X) 0 c = at2 X 2 c := by
  by_cases hc : c < 512
  · rw [at2_of _ (by omega) hc, at2_of _ (by omega) hc]
    exact congrArg X (funext fun a => Fin.ext (by fin_cases a <;> simp))
  · unfold at2; rw [dif_neg (by omega), dif_neg (by omega)]

abbrev Rows := List (View.Piece (Elt Ideal) S3x512 .f32)

/-- Three rows written one by one, read back. -/
def threeRows (p0 p1 p2 : Vec Ideal S1x512 .f32) (L : Rows) : Rows :=
  ⟨Rect.unit ![2, 0] ![1, 512] inb_S3x512_S1x512_2_0, p2⟩ :: ⟨Rect.unit ![1, 0] ![1, 512] inb_S3x512_S1x512_1_0, p1⟩
    :: ⟨Rect.unit ![0, 0] ![1, 512] inb_S3x512_S1x512_0_0, p0⟩ :: L

variable (p0 p1 p2 : Vec Ideal S1x512 .f32) (L : Rows)

theorem not_mem_row {r k c : Nat} {hr : r < 3} (h : r ≠ k) (hc : c < 512) (inb : ∀ a, (![k, 0] : Fin 2 → Nat) a + (![1, 512] : Fin 2 → Nat) a ≤ S3x512.size a) :
    (ix2 ⟨r, hr⟩ ⟨c, hc⟩ : S3x512.Idx) ∉ (Rect.unit (s := S3x512) ![k, 0] ![1, 512] inb).set := by
  intro hm
  rw [Rect.mem_set_unit] at hm
  have := hm 0
  simp at this
  omega

theorem canon_row2 {c : Nat} (hc : c < 512) : at2 (View.canon (threeRows p0 p1 p2 L)) 2 c = at2 p2 0 c := by
  rw [at2_of _ (by omega) hc, at2_of _ (by omega) hc]
  have e : (ix2 ⟨2, by omega⟩ ⟨c, hc⟩ : S3x512.Idx) = (Rect.unit (s := S3x512) ![2, 0] ![1, 512] inb_S3x512_S1x512_2_0).emb (ix2 ⟨0, by omega⟩ ⟨c, hc⟩) := by
    funext a; apply Fin.ext; fin_cases a <;> simp
  unfold threeRows
  rw [e, View.canon_cons_emb]

theorem canon_row1 {c : Nat} (hc : c < 512) : at2 (View.canon (threeRows p0 p1 p2 L)) 1 c = at2 p1 0 c := by
  rw [at2_of _ (by omega) hc, at2_of _ (by omega) hc]
  have e : (ix2 ⟨1, by omega⟩ ⟨c, hc⟩ : S3x512.Idx) = (Rect.unit (s := S3x512) ![1, 0] ![1, 512] inb_S3x512_S1x512_1_0).emb (ix2 ⟨0, by omega⟩ ⟨c, hc⟩) := by
    funext a; apply Fin.ext; fin_cases a <;> simp
  unfold threeRows
  rw [View.canon_cons_of_not_mem _ _ (by exact not_mem_row (by omega) hc inb_S3x512_S1x512_2_0), e, View.canon_cons_emb]

theorem canon_row0 {c : Nat} (hc : c < 512) : at2 (View.canon (threeRows p0 p1 p2 L)) 0 c = at2 p0 0 c := by
  rw [at2_of _ (by omega) hc, at2_of _ (by omega) hc]
  have e : (ix2 ⟨0, by omega⟩ ⟨c, hc⟩ : S3x512.Idx) = (Rect.unit (s := S3x512) ![0, 0] ![1, 512] inb_S3x512_S1x512_0_0).emb (ix2 ⟨0, by omega⟩ ⟨c, hc⟩) := by
    funext a; apply Fin.ext; fin_cases a <;> simp
  unfold threeRows
  rw [View.canon_cons_of_not_mem _ _ (by exact not_mem_row (by omega) hc inb_S3x512_S1x512_2_0), View.canon_cons_of_not_mem _ _ (by exact not_mem_row (by omega) hc inb_S3x512_S1x512_1_0), e, View.canon_cons_emb]

variable (i : grid0.Coords) (x0 : Vec Ideal S1024x512 .bf16) (x1 x2 : Vec Ideal S16x512 .bf16) (x3 : Vec Ideal S1024x512 .bf16)
  (x4 : Vec Ideal S16x512 .bf16) (x5 : Vec Ideal S1024x512 .bf16) (x6 : Vec Ideal S16x512 .bf16)
  (x7 : Vec Ideal S3x512 .f32) (x8 : Vec Ideal S1x512 .f32)

/-- Whether the step is a column's last. -/
def last : BitVec 1 := Scalar.cmpi CmpIPredicate.eq (BitVec.ofNat 32 (i 1).val) 7#32

/-- The convolution's output on the step's rows. -/
def gate : FVec Ideal S1040x512 .f32 := k0_pay8 i x1 x0 x2 x8 (row0 x7) (row1 x7) (row2 x7)

/-- Its gradient. -/
def dgate : FVec Ideal S1024x512 .f32 := k0_pay15 (last i) (gate i x0 x1 x2 x7 x8) x3 x4 x5 x6

def dgOut : Vec Ideal S1024x512 .bf16 :=
  k0_pay17 (k0_pay13 (last i) (gate i x0 x1 x2 x7 x8) x3 x4 x5 x6) (k0_pay14 (last i) (gate i x0 x1 x2 x7 x8) x3 x4 x5 x6)
    (k0_pay16 (last i) (gate i x0 x1 x2 x7 x8) x3 x4 x5 x6 (row2 x7)) (row1 x7) (row0 x7)

def duOut : Vec Ideal S1024x512 .bf16 := k0_pay11 (last i) (gate i x0 x1 x2 x7 x8) x5 x6

def dbOut (acc : Vec Ideal S1x512 .f32) : Vec Ideal S1x512 .f32 := k0_pay18 (dgate i x0 x1 x2 x3 x4 x5 x6 x7 x8) acc

def dwOut (acc : Vec Ideal S3x512 .f32) (L : Rows) : Vec Ideal S3x512 .f32 :=
  View.canon (threeRows
    (k0_pay19 (k0_pay7 i x1 x0 x2) (dgate i x0 x1 x2 x3 x4 x5 x6 x7 x8) (row0 acc))
    (k0_pay20 (k0_pay6 i x1 x0 x2) (dgate i x0 x1 x2 x3 x4 x5 x6 x7 x8) (row1 acc))
    (k0_pay1 (k0_pay21 (row2 acc)) (k0_pay22 (k0_pay4 x0) (dgate i x0 x1 x2 x3 x4 x5 x6 x7 x8))) L)

/-- The zeros a column starts from. -/
def zeros : Rows := [⟨Rect.unit ![0, 0] ![3, 512] inb_S3x512_S3x512_0_0, k0_pay2 (F := Ideal)⟩]

theorem zeros_row0 {κ : Kind} {sp : Space} (v : View sig κ sp S3x512 .f32) :
    v.readCov zeros (Rect.unit ![0, 0] ![1, 512] inb_S3x512_S1x512_0_0).toLoadRect = row0 (k0_pay2 (F := Ideal)) := by
  rw [View.readCov_eq_canon', zeros, View.canon_unit_zero (S := S3x512) hz]; rfl
theorem zeros_row1 {κ : Kind} {sp : Space} (v : View sig κ sp S3x512 .f32) :
    v.readCov zeros (Rect.unit ![1, 0] ![1, 512] inb_S3x512_S1x512_1_0).toLoadRect = row1 (k0_pay2 (F := Ideal)) := by
  rw [View.readCov_eq_canon', zeros, View.canon_unit_zero (S := S3x512) hz]; rfl
theorem zeros_row2 {κ : Kind} {sp : Space} (v : View sig κ sp S3x512 .f32) :
    v.readCov zeros (Rect.unit ![2, 0] ![1, 512] inb_S3x512_S1x512_2_0).toLoadRect = row2 (k0_pay2 (F := Ideal)) := by
  rw [View.readCov_eq_canon', zeros, View.canon_unit_zero (S := S3x512) hz]; rfl

section Cases
variable (c : Dev nD)
  (arg2 : Memref sig .tc .vmem S1024x512 .bf16) (harg2 : arg2.IsWhole)
  (arg3 : Memref sig .tc .vmem S16x512 .bf16) (harg3 : arg3.IsWhole)
  (arg4 : Memref sig .tc .vmem S16x512 .bf16) (harg4 : arg4.IsWhole)
  (arg5 : Memref sig .tc .vmem S1024x512 .bf16) (harg5 : arg5.IsWhole)
  (arg6 : Memref sig .tc .vmem S16x512 .bf16) (harg6 : arg6.IsWhole)
  (arg7 : Memref sig .tc .vmem S1024x512 .bf16) (harg7 : arg7.IsWhole)
  (arg8 : Memref sig .tc .vmem S16x512 .bf16) (harg8 : arg8.IsWhole)
  (arg9 : Memref sig .tc .vmem S3x512 .f32) (harg9 : arg9.IsWhole)
  (arg10 : Memref sig .tc .vmem S1x512 .f32) (harg10 : arg10.IsWhole)
  (arg11 : Memref sig .tc .vmem S1024x512 .bf16) (harg11 : arg11.IsWhole)
  (arg12 : Memref sig .tc .vmem S1024x512 .bf16) (harg12 : arg12.IsWhole)
  (arg13 : Memref sig .tc .vmem S3x512 .f32) (harg13 : arg13.IsWhole)
  (arg14 : Memref sig .tc .vmem S1x512 .f32) (harg14 : arg14.IsWhole)

theorem out9_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = dgOut i x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S16x512) hz,
    View.ld_unit_zero (S := S1x512) hz]
  rfl
theorem out10_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = duOut i x0 x1 x2 x5 x6 x7 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S16x512) hz,
    View.ld_unit_zero (S := S1x512) hz]
  rfl
theorem out11_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = dwOut i x0 x1 x2 x3 x4 x5 x6 x7 x8 (k0_pay2 (F := Ideal)) zeros := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S16x512) hz,
    View.ld_unit_zero (S := S1x512) hz]
  have e0 := zeros_row0 arg13.view
  have e1 := zeros_row1 arg13.view
  have e2 := zeros_row2 arg13.view
  unfold zeros at e0 e1 e2
  rw [View.readCov_cons_of_rows_disjoint _ 1 2 (.inl (by omega)), View.readCov_cons_of_rows_disjoint _ 0 2 (.inl (by omega)), View.readCov_cons_of_rows_disjoint _ 0 1 (.inl (by omega)), e0, e1, e2]
  rfl
theorem out12_A (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = dbOut i x0 x1 x2 x3 x4 x5 x6 x7 x8 (k0_pay3 (F := Ideal)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S16x512) hz,
    View.ld_unit_zero (S := S1x512) hz]
  rw [View.readCov_unit_zero _ hz]
  rfl
theorem out9_B (hc0 : ¬cond0_0 i) (xo11 : Vec Ideal S3x512 .f32) (xo12 : Vec Ideal S1x512 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12 = dgOut i x0 x1 x2 x3 x4 x5 x6 x7 x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1024x512) hz, View.ld_unit_zero (S := S16x512) hz,
    View.ld_unit_zero (S := S1x512) hz]
  rfl
theorem out10_B (hc0 : ¬cond0_0 i) (xo11 : Vec Ideal S3x512 .f32) (xo12 : Vec Ideal S1x512 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12 = duOut i x0 x1 x2 x5 x6 x7 x8 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1024x512) hz, View.ld_unit_zero (S := S16x512) hz,
    View.ld_unit_zero (S := S1x512) hz]
  rfl
theorem out11_B (hc0 : ¬cond0_0 i) (xo11 : Vec Ideal S3x512 .f32) (xo12 : Vec Ideal S1x512 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12 = dwOut i x0 x1 x2 x3 x4 x5 x6 x7 x8 xo11 [] := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1024x512) hz, View.ld_unit_zero (S := S16x512) hz,
    View.ld_unit_zero (S := S1x512) hz]
  rfl
theorem out12_B (hc0 : ¬cond0_0 i) (xo11 : Vec Ideal S3x512 .f32) (xo12 : Vec Ideal S1x512 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12 = dbOut i x0 x1 x2 x3 x4 x5 x6 x7 x8 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xo12)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1024x512) hz, View.ld_unit_zero (S := S16x512) hz,
    View.ld_unit_zero (S := S1x512) hz]
  rfl

end Cases

end Cert.KernelIdeal.ConvBody

end
-- ==== Proof.ConvValue.lean ====
/- The kernel's four results, entry by entry: every block a step reads is a piece of an argument, so every step
   leaves the gradient's entries at its rows and columns; the two sums, step by step, are sums over the rows so far. -/
module

public import proofs.«01_k».proof.Proof.Gen.KernelIdeal.Value
public import proofs.«01_k».proof.Proof.ConvStep
public import proofs.«01_k».proof.Proof.ConvBody
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.KernelIdeal.ConvValue

open Cert.KernelIdeal Cert.KernelIdeal.Gen Conv

variable (m : (ℓ : Loc nD τ sig) → Buf (Elt Ideal) ℓ) (c : Dev nD)

def argG : (⟨2, ![8192, 5632]⟩ : Shape).Idx → EReal := m ((c.tc : Thread nD τ).loc main_arg0)
def argU : (⟨2, ![8192, 5632]⟩ : Shape).Idx → EReal := m ((c.tc : Thread nD τ).loc main_arg1)
def argA : (⟨2, ![8192, 5632]⟩ : Shape).Idx → EReal := m ((c.tc : Thread nD τ).loc main_arg2)
def argW : (⟨2, ![3, 5632]⟩ : Shape).Idx → EReal := m ((c.tc : Thread nD τ).loc main_arg3)
def argB : (⟨2, ![1, 5632]⟩ : Shape).Idx → EReal := m ((c.tc : Thread nD τ).loc main_arg4)

theorem points (t : Fin cfg0.N) : t.val < 88 := lt_of_lt_of_eq t.isLt N_0

theorem coord1 : ∀ t : Fin cfg0.N, (grid0.coords t 1).val = t.val % 8 := (by decide +kernel : ∀ t : Fin grid0.N, _)

theorem index0 : ∀ t : Fin cfg0.N, win0_0.index t = ![t.val % 8, t.val / 8] := (by decide +kernel : ∀ t : Fin grid0.N, _)
theorem index1 : ∀ t : Fin cfg0.N, t.val % 8 ≠ 0 → win0_1.index t = ![64 * (t.val % 8) - 1, t.val / 8] := (by decide +kernel : ∀ t : Fin grid0.N, _)
theorem index2 : ∀ t : Fin cfg0.N, t.val % 8 ≠ 7 → win0_2.index t = ![64 * (t.val % 8) + 64, t.val / 8] := (by decide +kernel : ∀ t : Fin grid0.N, _)
theorem index3 : ∀ t : Fin cfg0.N, win0_3.index t = ![t.val % 8, t.val / 8] := (by decide +kernel : ∀ t : Fin grid0.N, _)
theorem index4 : ∀ t : Fin cfg0.N, t.val % 8 ≠ 7 → win0_4.index t = ![64 * (t.val % 8) + 64, t.val / 8] := (by decide +kernel : ∀ t : Fin grid0.N, _)
theorem index5 : ∀ t : Fin cfg0.N, win0_5.index t = ![t.val % 8, t.val / 8] := (by decide +kernel : ∀ t : Fin grid0.N, _)
theorem index6 : ∀ t : Fin cfg0.N, t.val % 8 ≠ 7 → win0_6.index t = ![64 * (t.val % 8) + 64, t.val / 8] := (by decide +kernel : ∀ t : Fin grid0.N, _)
theorem index7 : ∀ t : Fin cfg0.N, win0_7.index t = ![0, t.val / 8] := (by decide +kernel : ∀ t : Fin grid0.N, _)
theorem index8 : ∀ t : Fin cfg0.N, win0_8.index t = ![0, t.val / 8] := (by decide +kernel : ∀ t : Fin grid0.N, _)
theorem index9 : ∀ t : Fin cfg0.N, win0_9.index t = ![t.val % 8, t.val / 8] := (by decide +kernel : ∀ t : Fin grid0.N, _)
theorem index10 : ∀ t : Fin cfg0.N, win0_10.index t = ![t.val % 8, t.val / 8] := (by decide +kernel : ∀ t : Fin grid0.N, _)
theorem index11 : ∀ t : Fin cfg0.N, win0_11.index t = ![0, t.val / 8] := (by decide +kernel : ∀ t : Fin grid0.N, _)
theorem index12 : ∀ t : Fin cfg0.N, win0_12.index t = ![0, t.val / 8] := (by decide +kernel : ∀ t : Fin grid0.N, _)

theorem block0 (t : Fin cfg0.N) (r n : Nat) (hr : r < 1024) (hn : n < 512) :
    at2 (iblk m c 0 t : Vec Ideal S1024x512 .bf16) r n = at2 (argG m c) (1024 * (t.val % 8) + r) (512 * (t.val / 8) + n) := by
  have ht := points t
  rw [at2_of _ hr hn, at2_of _ (by omega) (by omega)]
  blk_simp [iblk]
  rw [V_main_arg0]
  refine congrArg (argG m c) (funext fun a => Fin.ext ?_)
  have e := index0 t
  fin_cases a
  · show win0_0.index t 0 * 1024 + 1 * r = 1024 * (t.val % 8) + r
    rw [e]
    show (t.val % 8) * 1024 + 1 * r = 1024 * (t.val % 8) + r
    omega
  · show win0_0.index t 1 * 512 + 1 * n = 512 * (t.val / 8) + n
    rw [e]
    show (t.val / 8) * 512 + 1 * n = 512 * (t.val / 8) + n
    omega

theorem block1 (t : Fin cfg0.N) (h : t.val % 8 ≠ 0) (r n : Nat) (hr : r < 16) (hn : n < 512) :
    at2 (iblk m c 1 t : Vec Ideal S16x512 .bf16) r n = at2 (argG m c) (1024 * (t.val % 8) + r - 16) (512 * (t.val / 8) + n) := by
  have ht := points t
  rw [at2_of _ hr hn, at2_of _ (by omega) (by omega)]
  blk_simp [iblk]
  rw [V_main_arg0]
  refine congrArg (argG m c) (funext fun a => Fin.ext ?_)
  have e := index1 t h
  fin_cases a
  · show win0_1.index t 0 * 16 + 1 * r = 1024 * (t.val % 8) + r - 16
    rw [e]
    show (64 * (t.val % 8) - 1) * 16 + 1 * r = 1024 * (t.val % 8) + r - 16
    omega
  · show win0_1.index t 1 * 512 + 1 * n = 512 * (t.val / 8) + n
    rw [e]
    show (t.val / 8) * 512 + 1 * n = 512 * (t.val / 8) + n
    omega

theorem block2 (t : Fin cfg0.N) (h : t.val % 8 ≠ 7) (r n : Nat) (hr : r < 16) (hn : n < 512) :
    at2 (iblk m c 2 t : Vec Ideal S16x512 .bf16) r n = at2 (argG m c) (1024 * (t.val % 8) + 1024 + r) (512 * (t.val / 8) + n) := by
  have ht := points t
  rw [at2_of _ hr hn, at2_of _ (by omega) (by omega)]
  blk_simp [iblk]
  rw [V_main_arg0]
  refine congrArg (argG m c) (funext fun a => Fin.ext ?_)
  have e := index2 t h
  fin_cases a
  · show win0_2.index t 0 * 16 + 1 * r = 1024 * (t.val % 8) + 1024 + r
    rw [e]
    show (64 * (t.val % 8) + 64) * 16 + 1 * r = 1024 * (t.val % 8) + 1024 + r
    omega
  · show win0_2.index t 1 * 512 + 1 * n = 512 * (t.val / 8) + n
    rw [e]
    show (t.val / 8) * 512 + 1 * n = 512 * (t.val / 8) + n
    omega

theorem block3 (t : Fin cfg0.N) (r n : Nat) (hr : r < 1024) (hn : n < 512) :
    at2 (iblk m c 3 t : Vec Ideal S1024x512 .bf16) r n = at2 (argU m c) (1024 * (t.val % 8) + r) (512 * (t.val / 8) + n) := by
  have ht := points t
  rw [at2_of _ hr hn, at2_of _ (by omega) (by omega)]
  blk_simp [iblk]
  rw [V_main_arg1]
  refine congrArg (argU m c) (funext fun a => Fin.ext ?_)
  have e := index3 t
  fin_cases a
  · show win0_3.index t 0 * 1024 + 1 * r = 1024 * (t.val % 8) + r
    rw [e]
    show (t.val % 8) * 1024 + 1 * r = 1024 * (t.val % 8) + r
    omega
  · show win0_3.index t 1 * 512 + 1 * n = 512 * (t.val / 8) + n
    rw [e]
    show (t.val / 8) * 512 + 1 * n = 512 * (t.val / 8) + n
    omega

theorem block4 (t : Fin cfg0.N) (h : t.val % 8 ≠ 7) (r n : Nat) (hr : r < 16) (hn : n < 512) :
    at2 (iblk m c 4 t : Vec Ideal S16x512 .bf16) r n = at2 (argU m c) (1024 * (t.val % 8) + 1024 + r) (512 * (t.val / 8) + n) := by
  have ht := points t
  rw [at2_of _ hr hn, at2_of _ (by omega) (by omega)]
  blk_simp [iblk]
  rw [V_main_arg1]
  refine congrArg (argU m c) (funext fun a => Fin.ext ?_)
  have e := index4 t h
  fin_cases a
  · show win0_4.index t 0 * 16 + 1 * r = 1024 * (t.val % 8) + 1024 + r
    rw [e]
    show (64 * (t.val % 8) + 64) * 16 + 1 * r = 1024 * (t.val % 8) + 1024 + r
    omega
  · show win0_4.index t 1 * 512 + 1 * n = 512 * (t.val / 8) + n
    rw [e]
    show (t.val / 8) * 512 + 1 * n = 512 * (t.val / 8) + n
    omega

theorem block5 (t : Fin cfg0.N) (r n : Nat) (hr : r < 1024) (hn : n < 512) :
    at2 (iblk m c 5 t : Vec Ideal S1024x512 .bf16) r n = at2 (argA m c) (1024 * (t.val % 8) + r) (512 * (t.val / 8) + n) := by
  have ht := points t
  rw [at2_of _ hr hn, at2_of _ (by omega) (by omega)]
  blk_simp [iblk]
  rw [V_main_arg2]
  refine congrArg (argA m c) (funext fun a => Fin.ext ?_)
  have e := index5 t
  fin_cases a
  · show win0_5.index t 0 * 1024 + 1 * r = 1024 * (t.val % 8) + r
    rw [e]
    show (t.val % 8) * 1024 + 1 * r = 1024 * (t.val % 8) + r
    omega
  · show win0_5.index t 1 * 512 + 1 * n = 512 * (t.val / 8) + n
    rw [e]
    show (t.val / 8) * 512 + 1 * n = 512 * (t.val / 8) + n
    omega

theorem block6 (t : Fin cfg0.N) (h : t.val % 8 ≠ 7) (r n : Nat) (hr : r < 16) (hn : n < 512) :
    at2 (iblk m c 6 t : Vec Ideal S16x512 .bf16) r n = at2 (argA m c) (1024 * (t.val % 8) + 1024 + r) (512 * (t.val / 8) + n) := by
  have ht := points t
  rw [at2_of _ hr hn, at2_of _ (by omega) (by omega)]
  blk_simp [iblk]
  rw [V_main_arg2]
  refine congrArg (argA m c) (funext fun a => Fin.ext ?_)
  have e := index6 t h
  fin_cases a
  · show win0_6.index t 0 * 16 + 1 * r = 1024 * (t.val % 8) + 1024 + r
    rw [e]
    show (64 * (t.val % 8) + 64) * 16 + 1 * r = 1024 * (t.val % 8) + 1024 + r
    omega
  · show win0_6.index t 1 * 512 + 1 * n = 512 * (t.val / 8) + n
    rw [e]
    show (t.val / 8) * 512 + 1 * n = 512 * (t.val / 8) + n
    omega

theorem block7 (t : Fin cfg0.N) (r n : Nat) (hr : r < 3) (hn : n < 512) :
    at2 (iblk m c 7 t : Vec Ideal S3x512 .f32) r n = at2 (argW m c) (r) (512 * (t.val / 8) + n) := by
  have ht := points t
  rw [at2_of _ hr hn, at2_of _ (by omega) (by omega)]
  blk_simp [iblk]
  rw [V_main_arg3]
  refine congrArg (argW m c) (funext fun a => Fin.ext ?_)
  have e := index7 t
  fin_cases a
  · show win0_7.index t 0 * 3 + 1 * r = r
    rw [e]
    show (0) * 3 + 1 * r = r
    omega
  · show win0_7.index t 1 * 512 + 1 * n = 512 * (t.val / 8) + n
    rw [e]
    show (t.val / 8) * 512 + 1 * n = 512 * (t.val / 8) + n
    omega

theorem block8 (t : Fin cfg0.N) (r n : Nat) (hr : r < 1) (hn : n < 512) :
    at2 (iblk m c 8 t : Vec Ideal S1x512 .f32) r n = at2 (argB m c) (r) (512 * (t.val / 8) + n) := by
  have ht := points t
  rw [at2_of _ hr hn, at2_of _ (by omega) (by omega)]
  blk_simp [iblk]
  rw [V_main_arg4]
  refine congrArg (argB m c) (funext fun a => Fin.ext ?_)
  have e := index8 t
  fin_cases a
  · show win0_8.index t 0 * 1 + 1 * r = r
    rw [e]
    show (0) * 1 + 1 * r = r
    omega
  · show win0_8.index t 1 * 512 + 1 * n = 512 * (t.val / 8) + n
    rw [e]
    show (t.val / 8) * 512 + 1 * n = 512 * (t.val / 8) + n
    omega

/-- The blocks a step reads. -/
theorem blocks (t : Fin cfg0.N) : ConvStep.Blocks (grid0.coords t) (t.val % 8) (512 * (t.val / 8)) (iblk m c 0 t) (iblk m c 3 t) (iblk m c 5 t) (iblk m c 1 t) (iblk m c 2 t) (iblk m c 4 t) (iblk m c 6 t) (iblk m c 7 t) (iblk m c 8 t)
    (argG m c) (argU m c) (argA m c) (argW m c) (argB m c) where
  row := coord1 t
  lt := Nat.mod_lt _ (by omega)
  g := block0 m c t
  prev := block1 m c t
  next := block2 m c t
  u := block3 m c t
  uNext := block4 m c t
  a := block5 m c t
  aNext := block6 m c t
  w := block7 m c t
  b := fun n hn => block8 m c t 0 n (by omega) hn

/-- The running sum of the taps' gradient, and of the bias's, after step `t`. -/
def DwAt (t : Fin cfg0.N) (x : Vec Ideal S3x512 .f32) : Prop := ∀ k n, k < 3 → n < 512 →
  at2 x k n = ∑ s ∈ Finset.range (1024 * (t.val % 8 + 1)), Conv.slope (argG m c) (argU m c) (argA m c) (argW m c) (argB m c) s (512 * (t.val / 8) + n)
    * tap (argG m c) (s + k) (512 * (t.val / 8) + n)
def DbAt (t : Fin cfg0.N) (x : Vec Ideal S1x512 .f32) : Prop := ∀ n, n < 512 →
  at2 x 0 n = ∑ s ∈ Finset.range (1024 * (t.val % 8 + 1)), Conv.slope (argG m c) (argU m c) (argA m c) (argW m c) (argB m c) s (512 * (t.val / 8) + n)

theorem dw_step (t : Fin cfg0.N) (acc : Vec Ideal S3x512 .f32) (L : ConvBody.Rows)
    (hacc : ∀ k n, k < 3 → n < 512 → at2 acc k n = ∑ s ∈ Finset.range (1024 * (t.val % 8)),
      Conv.slope (argG m c) (argU m c) (argA m c) (argW m c) (argB m c) s (512 * (t.val / 8) + n) * tap (argG m c) (s + k) (512 * (t.val / 8) + n)) :
    DwAt m c t (ConvBody.dwOut (grid0.coords t) (iblk m c 0 t) (iblk m c 1 t) (iblk m c 2 t) (iblk m c 3 t) (iblk m c 4 t) (iblk m c 5 t) (iblk m c 6 t) (iblk m c 7 t) (iblk m c 8 t) acc L) := by
  intro k n hk hn
  unfold ConvBody.dwOut
  obtain rfl | rfl | rfl : k = 0 ∨ k = 1 ∨ k = 2 := by omega
  · rw [ConvBody.canon_row0 _ _ _ _ hn]
    exact ConvStep.dw0_row (blocks m c t) (ConvBody.row0_at _) (ConvBody.row1_at _) (ConvBody.row2_at _) _ hn
      (by rw [ConvBody.row0_at]; exact hacc 0 n (by omega) hn)
  · rw [ConvBody.canon_row1 _ _ _ _ hn]
    exact ConvStep.dw1_row (blocks m c t) (ConvBody.row0_at _) (ConvBody.row1_at _) (ConvBody.row2_at _) _ hn
      (by rw [ConvBody.row1_at]; exact hacc 1 n (by omega) hn)
  · rw [ConvBody.canon_row2 _ _ _ _ hn]
    exact ConvStep.dw2_row (blocks m c t) (ConvBody.row0_at _) (ConvBody.row1_at _) (ConvBody.row2_at _) _ hn
      (by rw [ConvBody.row2_at]; exact hacc 2 n (by omega) hn)

theorem db_step (t : Fin cfg0.N) (acc : Vec Ideal S1x512 .f32)
    (hacc : ∀ n, n < 512 → at2 acc 0 n = ∑ s ∈ Finset.range (1024 * (t.val % 8)),
      Conv.slope (argG m c) (argU m c) (argA m c) (argW m c) (argB m c) s (512 * (t.val / 8) + n)) :
    DbAt m c t (ConvBody.dbOut (grid0.coords t) (iblk m c 0 t) (iblk m c 1 t) (iblk m c 2 t) (iblk m c 3 t) (iblk m c 4 t) (iblk m c 5 t) (iblk m c 6 t) (iblk m c 7 t) (iblk m c 8 t) acc) := by
  intro n hn
  exact ConvStep.db_row (blocks m c t) (ConvBody.row0_at _) (ConvBody.row1_at _) (ConvBody.row2_at _) _ hn (hacc n hn)

/-- The two sums after every step. -/
theorem sums : ∀ (k : Nat) (t : Fin cfg0.N), t.val = k →
    DwAt m c t (outsAt0 m c t.val t.isLt).2.2.1 ∧ DbAt m c t (outsAt0 m c t.val t.isLt).2.2.2 := by
  intro k
  induction k with
  | zero =>
    intro t ht
    have h0 : t.val % 8 = 0 := by omega
    rw [outsAt0_A m c t h0]
    dsimp only
    rw [ConvBody.out11_A, ConvBody.out12_A]
    exact ⟨dw_step m c t _ _ fun k n _ _ => by rw [ConvPay.pay2_at, h0]; rfl, db_step m c t _ fun n _ => by rw [ConvPay.pay3_at, h0]; rfl⟩
  | succ k ih =>
    intro t ht
    by_cases h0 : t.val % 8 = 0
    · rw [outsAt0_A m c t h0]
      dsimp only
      rw [ConvBody.out11_A, ConvBody.out12_A]
      exact ⟨dw_step m c t _ _ fun k n _ _ => by rw [ConvPay.pay2_at, h0]; rfl, db_step m c t _ fun n _ => by rw [ConvPay.pay3_at, h0]; rfl⟩
    · rw [outsAt0_B m c t h0]
      dsimp only
      rw [ConvBody.out11_B, ConvBody.out12_B]
      have hp : t.val - 1 < cfg0.N := by have := t.isLt; omega
      obtain ⟨i1, i2⟩ := ih ⟨t.val - 1, hp⟩ (by show t.val - 1 = k; omega)
      have e1 : (t.val - 1) % 8 + 1 = t.val % 8 := by omega
      have e2 : (t.val - 1) / 8 = t.val / 8 := by omega
      refine ⟨dw_step m c t _ _ fun k n hk hn => ?_, db_step m c t _ fun n hn => ?_⟩
      · have := i1 k n hk hn
        dsimp only at this
        rw [e1, e2] at this
        exact this
      · have := i2 n hn
        dsimp only at this
        rw [e1, e2] at this
        exact this

theorem at2_idx {R C : Nat} (X : (⟨2, ![R, C]⟩ : Shape).Idx → EReal) (y : (⟨2, ![R, C]⟩ : Shape).Idx) :
    X y = at2 X (y 0).val (y 1).val := by
  rw [at2_of X (y 0).isLt (y 1).isLt]
  exact congrArg X (funext fun a => by fin_cases a <;> rfl)

theorem dg_at (t : Fin cfg0.N) (r n : Nat) (hr : r < 1024) (hn : n < 512) :
    at2 (outsAt0 m c t.val t.isLt).1 r n
      = dg (argG m c) (argU m c) (argA m c) (argW m c) (argB m c) (1024 * (t.val % 8) + r) (512 * (t.val / 8) + n) := by
  by_cases h0 : t.val % 8 = 0
  · rw [outsAt0_A m c t h0]
    dsimp only
    rw [ConvBody.out9_A]
    exact ConvStep.dg_row (blocks m c t) (ConvBody.row0_at _) (ConvBody.row1_at _) (ConvBody.row2_at _) hr hn
  · rw [outsAt0_B m c t h0]
    dsimp only
    rw [ConvBody.out9_B]
    exact ConvStep.dg_row (blocks m c t) (ConvBody.row0_at _) (ConvBody.row1_at _) (ConvBody.row2_at _) hr hn

theorem du_at (t : Fin cfg0.N) (r n : Nat) (hr : r < 1024) (hn : n < 512) :
    at2 (outsAt0 m c t.val t.isLt).2.1 r n
      = du (argG m c) (argA m c) (argW m c) (argB m c) (1024 * (t.val % 8) + r) (512 * (t.val / 8) + n) := by
  by_cases h0 : t.val % 8 = 0
  · rw [outsAt0_A m c t h0]
    dsimp only
    rw [ConvBody.out10_A]
    exact ConvStep.du_row (blocks m c t) (ConvBody.row0_at _) (ConvBody.row1_at _) (ConvBody.row2_at _) hr hn
  · rw [outsAt0_B m c t h0]
    dsimp only
    rw [ConvBody.out10_B]
    exact ConvStep.du_row (blocks m c t) (ConvBody.row0_at _) (ConvBody.row1_at _) (ConvBody.row2_at _) hr hn

/-- The four results. -/
def DG : S8192x5632.Idx → EReal := fun y => dg (argG m c) (argU m c) (argA m c) (argW m c) (argB m c) (y 0).val (y 1).val
def DU : S8192x5632.Idx → EReal := fun y => du (argG m c) (argA m c) (argW m c) (argB m c) (y 0).val (y 1).val
def DW : S3x5632.Idx → EReal := fun y => dw (argG m c) (argU m c) (argA m c) (argW m c) (argB m c) (y 0).val (y 1).val
def DB : S1x5632.Idx → EReal := fun y => db (argG m c) (argU m c) (argA m c) (argW m c) (argB m c) (y 1).val

theorem final9 : (dats m 0 c).arrAt 9 cfg0.N = DG m c := by
  refine (dats m 0 c).arrAt_eq_of_covers 9 _ (by decide +kernel) fun t hf y => ?_
  blk_simp
  rw [after0_9]
  have e0 : ((win0_9.blk t).view.emb y 0).val = 1024 * (t.val % 8) + (y 0).val := by
    blk_simp [index9 t]
    idx_bounds y
    omega
  have e1 : ((win0_9.blk t).view.emb y 1).val = 512 * (t.val / 8) + (y 1).val := by
    blk_simp [index9 t]
    omega
  unfold DG
  rw [e1]
  rw [e0]
  refine (at2_idx (R := 1024) (C := 512) _ _).trans ?_
  exact dg_at m c t _ _ (y 0).isLt (y 1).isLt

theorem final10 : (dats m 0 c).arrAt 10 cfg0.N = DU m c := by
  refine (dats m 0 c).arrAt_eq_of_covers 10 _ (by decide +kernel) fun t hf y => ?_
  blk_simp
  rw [after0_10]
  have e0 : ((win0_10.blk t).view.emb y 0).val = 1024 * (t.val % 8) + (y 0).val := by
    blk_simp [index10 t]
    idx_bounds y
    omega
  have e1 : ((win0_10.blk t).view.emb y 1).val = 512 * (t.val / 8) + (y 1).val := by
    blk_simp [index10 t]
    omega
  unfold DU
  rw [e1]
  rw [e0]
  refine (at2_idx (R := 1024) (C := 512) _ _).trans ?_
  exact du_at m c t _ _ (y 0).isLt (y 1).isLt

theorem final11 : (dats m 0 c).arrAt 11 cfg0.N = DW m c := by
  refine (dats m 0 c).arrAt_eq_of_covers 11 _ (by decide +kernel) fun t hf y => ?_
  blk_simp
  rw [after0_11]
  have e0 : ((win0_11.blk t).view.emb y 0).val = (y 0).val := by
    blk_simp [index11 t]
  have e1 : ((win0_11.blk t).view.emb y 1).val = 512 * (t.val / 8) + (y 1).val := by
    blk_simp [index11 t]
    omega
  unfold DW
  rw [e1]
  rw [e0]
  refine (at2_idx (R := 3) (C := 512) _ _).trans ?_
  have h7 := (flush0_11 t).mp hf
  have := (sums m c t.val t rfl).1 _ _ (y 0).isLt (y 1).isLt
  rw [h7] at this
  exact this

theorem final12 : (dats m 0 c).arrAt 12 cfg0.N = DB m c := by
  refine (dats m 0 c).arrAt_eq_of_covers 12 _ (by decide +kernel) fun t hf y => ?_
  blk_simp
  rw [after0_12]
  have e0 : ((win0_12.blk t).view.emb y 0).val = 0 := by
    blk_simp [index12 t]
  have e1 : ((win0_12.blk t).view.emb y 1).val = 512 * (t.val / 8) + (y 1).val := by
    blk_simp [index12 t]
    omega
  unfold DB
  rw [e1]
  have y0 : (y 0).val = 0 := by have := (y 0).isLt; idx_bounds y; omega
  refine (at2_idx (R := 1) (C := 512) _ _).trans ?_
  rw [y0]
  have h7 := (flush0_12 t).mp hf
  have := (sums m c t.val t rfl).2 _ (y 1).isLt
  rw [h7] at this
  exact this

end Cert.KernelIdeal.ConvValue

end
-- ==== Proof.ConvMain.lean ====
/- The claims of the gradient of the gated convolution: the frames, and the equality of the kernel's four results
   with the reference's. -/
module

public import proofs.«01_k».proof.Defs
public import proofs.«01_k».proof.Proof.Gen.KernelIdeal.Value
public import proofs.«01_k».proof.Proof.Gen.ReferenceIdeal.Run
public import proofs.«01_k».proof.Proof.ConvPre
public import proofs.«01_k».proof.Proof.ConvRef
public import proofs.«01_k».proof.Proof.ConvValue
public import Idealize.ShloMosaic.Lib.StableHlo.RunHlo

@[expose] public section

noncomputable section

open Idealize.ShloMosaic Idealize.ShloMosaic.TcCoe Idealize.SL.Sem

namespace Cert.ConvMain

open Conv

theorem frame_reference : Cert.quiescent_ReferenceIdeal := by
  intro m ρ _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- An array whose entries are a function of their row and column is that function. -/
theorem whole {R C : Nat} (X : (⟨2, ![R, C]⟩ : Shape).Idx → EReal) (f : Nat → Nat → EReal)
    (h : ∀ r c, r < R → c < C → at2 X r c = f r c) : X = fun y => f (y 0).val (y 1).val :=
  funext fun y => (KernelIdeal.ConvValue.at2_idx X y).trans (h _ _ (y 0).isLt (y 1).isLt)

section Values

open Cert.ReferenceIdeal Cert.ReferenceIdeal.ConvRef

variable (G U A : Vec Ideal S8192x5632 .bf16) (W : Vec Ideal S3x5632 .f32) (B : Vec Ideal S1x5632 .f32)

/-- With real factors the reference's slope of the gate is the kernel's. -/
theorem slopes (h : Cert.Pre_finite_up.fn (F := Ideal) G U A W B = fun _ => 1#1) :
    ∀ s n, s < 8192 → n < 5632 → at2 (dgate G U A W B) s n = Conv.slope G U A W B s n := by
  intro s n hs hn
  obtain ⟨hu, ha⟩ := Cert.Pre_finite_up.reals G U A W B h
  obtain ⟨p, hp⟩ := ha (ix2 ⟨s, hs⟩ ⟨n, hn⟩)
  obtain ⟨q, hq⟩ := hu (ix2 ⟨s, hs⟩ ⟨n, hn⟩)
  refine dgate_at G U A W B hs hn (p * q) ?_
  rw [at2_of A hs hn, at2_of U hs hn, hp, hq, EReal.coe_mul]

theorem dg_whole (h : Cert.Pre_finite_up.fn (F := Ideal) G U A W B = fun _ => 1#1) :
    resDg G U A W B = fun y => dg G U A W B (y 0).val (y 1).val :=
  whole (R := 8192) (C := 5632) _ (dg G U A W B) fun _ _ hr hc => resDg_at G U A W B (slopes G U A W B h) hr hc

theorem du_whole : resDu G A W B = fun y => du G A W B (y 0).val (y 1).val :=
  whole (R := 8192) (C := 5632) _ (du G A W B) fun _ _ hr hc => resDu_at G A W B hr hc

theorem dw_whole (h : Cert.Pre_finite_up.fn (F := Ideal) G U A W B = fun _ => 1#1) :
    resDw G U A W B = fun y => dw G U A W B (y 0).val (y 1).val :=
  whole (R := 3) (C := 5632) _ (dw G U A W B) fun _ _ hr hc => resDw_at G U A W B (slopes G U A W B h) hr hc

theorem db_whole (h : Cert.Pre_finite_up.fn (F := Ideal) G U A W B = fun _ => 1#1) :
    resDb G U A W B = fun y => db G U A W B (y 1).val :=
  whole (R := 1) (C := 5632) _ (fun _ => db G U A W B) fun r _ hr hc => by
    obtain rfl : r = 0 := by omega
    exact resDb_at G U A W B (slopes G U A W B h) hc

end Values

open Cert.KernelIdeal.ConvValue in
theorem algebraic : Cert.algebraic_KernelIdeal_ReferenceIdeal_pre_finite_up := by
  intro m ρ m' ρ' hpre hagree
  refine ⟨fun c => DG m c, fun c => DU m c, fun c => DW m c, fun c => DB m c, ?_, ?_⟩
  · refine (θ_run Cert.KernelIdeal.defs _ _).mono (fun r h c => ?_) (Cert.KernelIdeal.Value.run_blocks (F := Ideal) m ρ)
    obtain ⟨h0, h1, h2, h3, hk⟩ := h c
    exact ⟨h0.trans (final9 m c), h1.trans (final10 m c), h2.trans (final11 m c), h3.trans (final12 m c), hk⟩
  · refine (θ_run Cert.ReferenceIdeal.defs _ _).mono (fun r h c => ?_) (Cert.ReferenceIdeal.Value.run (F := Ideal) m' ρ')
    obtain ⟨h0, h1, h2, h3, hk⟩ := h c
    obtain ⟨a0, a1, a2, a3, a4⟩ := hagree c
    have hp := hpre c
    refine ⟨h0.trans ?_, h1.trans ?_, h2.trans ?_, h3.trans ?_, hk⟩
    · refine (Cert.ReferenceIdeal.ConvRef.out0_eq m' c).trans ?_
      rw [a0, a1, a2, a3, a4]
      exact dg_whole _ _ _ _ _ hp
    · refine (Cert.ReferenceIdeal.ConvRef.out1_eq m' c).trans ?_
      rw [a0, a2, a3, a4]
      exact du_whole _ _ _ _
    · refine (Cert.ReferenceIdeal.ConvRef.out2_eq m' c).trans ?_
      rw [a0, a1, a2, a3, a4]
      exact dw_whole _ _ _ _ _ hp
    · refine (Cert.ReferenceIdeal.ConvRef.out3_eq m' c).trans ?_
      rw [a0, a1, a2, a3, a4]
      exact db_whole _ _ _ _ _ hp

end Cert.ConvMain

end
-- ==== Proof.ProdSpec.lean ====
/- Products of two matrices, entry by entry: with the factors as they lie, with the second or with the first one
   turned; and such a product cut along the summed direction. -/
module

public import proofs.«01_k».proof.Proof.ConvSpec

@[expose] public section

noncomputable section

open Idealize.ShloMosaic

namespace Prod

open Conv

variable {R C R' C' : Nat} (A : (⟨2, ![R, C]⟩ : Shape).Idx → EReal) (B : (⟨2, ![R', C']⟩ : Shape).Idx → EReal)

/-- Rows of `A` by columns of `B`. -/
def nn (K r c : Nat) : EReal := ∑ k ∈ Finset.range K, at2 A r k * at2 B k c

/-- Rows of `A` by rows of `B`: the gradient of a product's first factor. -/
def nt (K r c : Nat) : EReal := ∑ k ∈ Finset.range K, at2 A r k * at2 B c k

/-- Columns of `A` by columns of `B`: the gradient of a product's second factor. -/
def tn (K r c : Nat) : EReal := ∑ k ∈ Finset.range K, at2 A k r * at2 B k c

theorem nn_eq {K r c : Nat} (hr : r < R) (hc : c < C') (hK : C = K) (hK' : R' = K) :
    nn A B K r c = ∑ k : Fin K, A (ix2 ⟨r, hr⟩ ⟨k.1, hK ▸ k.2⟩) * B (ix2 ⟨k.1, hK' ▸ k.2⟩ ⟨c, hc⟩) := by
  rw [nn, Finset.sum_range]
  exact Finset.sum_congr rfl fun k _ => by rw [at2_of A hr (hK ▸ k.2), at2_of B (hK' ▸ k.2) hc]

theorem nt_eq {K r c : Nat} (hr : r < R) (hc : c < R') (hK : C = K) (hK' : C' = K) :
    nt A B K r c = ∑ k : Fin K, A (ix2 ⟨r, hr⟩ ⟨k.1, hK ▸ k.2⟩) * B (ix2 ⟨c, hc⟩ ⟨k.1, hK' ▸ k.2⟩) := by
  rw [nt, Finset.sum_range]
  exact Finset.sum_congr rfl fun k _ => by rw [at2_of A hr (hK ▸ k.2), at2_of B hc (hK' ▸ k.2)]

theorem tn_eq {K r c : Nat} (hr : r < C) (hc : c < C') (hK : R = K) (hK' : R' = K) :
    tn A B K r c = ∑ k : Fin K, A (ix2 ⟨k.1, hK ▸ k.2⟩ ⟨r, hr⟩) * B (ix2 ⟨k.1, hK' ▸ k.2⟩ ⟨c, hc⟩) := by
  rw [tn, Finset.sum_range]
  exact Finset.sum_congr rfl fun k _ => by rw [at2_of A (hK ▸ k.2) hr, at2_of B (hK' ▸ k.2) hc]

/-- The columns' product with `T` more terms. -/
theorem tn_more (K T r c : Nat) :
    tn A B (K + T) r c = tn A B K r c + ∑ k ∈ Finset.range T, at2 A (K + k) r * at2 B (K + k) c := by
  unfold tn
  rw [Finset.sum_range_add]

/-- An entry is the accessor's. -/
theorem at2_idx (y : (⟨2, ![R, C]⟩ : Shape).Idx) : A y = at2 A (y 0).val (y 1).val := by
  rw [at2_of A (y 0).isLt (y 1).isLt]
  exact congrArg A (funext fun a => by fin_cases a <;> rfl)

/-- An entry of known row and column. -/
theorem at2_at (y : (⟨2, ![R, C]⟩ : Shape).Idx) {r c : Nat} (hr : (y 0).val = r) (hc : (y 1).val = c) : A y = at2 A r c := by
  subst hr; subst hc; exact at2_idx A y

/-- An array whose entries are a function of their row and column is that function. -/
theorem whole (f : Nat → Nat → EReal) (h : ∀ r c, r < R → c < C → at2 A r c = f r c) :
    A = fun y => f (y 0).val (y 1).val :=
  funext fun y => (at2_idx A y).trans (h _ _ (y 0).isLt (y 1).isLt)

end Prod

end
-- ==== Proof.GateUp.lean ====
/- The forward products with the gate's and the linear half's weights (one call, at the same shapes): the call's
   result and the reference's are the same sums. -/
module

public import proofs.«01_k».proof.Defs
public import proofs.«01_k».proof.Proof.Gen.GateUpIdeal.Value
public import proofs.«01_k».proof.Proof.Gen.GateUpRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.GateUpIdeal.Val

open Cert.GateUpIdeal Cert.GateUpIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 2048]⟩ : Shape).Idx → EReal := m ((c.tc : Thread nD τ).loc main_arg0)
def argB : (⟨2, ![2048, 5632]⟩ : Shape).Idx → EReal := m ((c.tc : Thread nD τ).loc main_arg1)

theorem points (t : Fin cfg0.N) : t.val < 32 := lt_of_lt_of_eq t.isLt N_0
theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index2 : ∀ t : Fin cfg0.N, win0_2.index t = ![t.val / 4, t.val % 4] := (by decide +kernel : ∀ t : Fin grid0.N, _)

theorem block0 (t : Fin cfg0.N) (r n : Nat) (hr : r < 1024) (hn : n < 2048) :
    at2 (iblk m c 0 t : Vec Ideal S1024x2048 .bf16) r n = at2 (argA m c) (1024 * (t.val / 4) + r) n := by
  have ht := points t
  rw [at2_of _ hr hn, at2_of _ (by omega) hn]
  blk_simp [iblk]
  rw [V_main_arg0]
  refine congrArg (argA m c) (funext fun a => Fin.ext ?_)
  have e := index0 t
  fin_cases a
  · show win0_0.index t 0 * 1024 + 1 * r = 1024 * (t.val / 4) + r
    rw [e]
    show (t.val / 4) * 1024 + 1 * r = 1024 * (t.val / 4) + r
    omega
  · show win0_0.index t 1 * 2048 + 1 * n = n
    rw [e]
    show 0 * 2048 + 1 * n = n
    omega

theorem block1 (t : Fin cfg0.N) (r n : Nat) (hr : r < 2048) (hn : n < 1408) :
    at2 (iblk m c 1 t : Vec Ideal S2048x1408 .bf16) r n = at2 (argB m c) r (1408 * (t.val % 4) + n) := by
  rw [at2_of _ hr hn, at2_of _ hr (by omega)]
  blk_simp [iblk]
  rw [V_main_arg1]
  refine congrArg (argB m c) (funext fun a => Fin.ext ?_)
  have e := index1 t
  fin_cases a
  · show win0_1.index t 0 * 2048 + 1 * r = r
    rw [e]
    show 0 * 2048 + 1 * r = r
    omega
  · show win0_1.index t 1 * 1408 + 1 * n = 1408 * (t.val % 4) + n
    rw [e]
    show (t.val % 4) * 1408 + 1 * n = 1408 * (t.val % 4) + n
    omega

theorem out_at (x0 : Vec Ideal S1024x2048 .bf16) (x1 : Vec Ideal S2048x1408 .bf16) {r n : Nat} (hr : r < 1024) (hn : n < 1408) :
    at2 (out0_2 x0 x1) r n = nn x0 x1 2048 r n := by
  rw [at2_of _ hr hn, nn_eq x0 x1 hr hn rfl rfl]
  unfold out0_2
  rw [View.canon_unit_zero hz, View.ld_unit_zero (S := S1024x2048) hz, View.ld_unit_zero (S := S2048x1408) hz]
  unfold k0_pay1
  pointwise

/-- The result. -/
def P : S8192x5632.Idx → EReal := fun y => nn (argA m c) (argB m c) 2048 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * (t.val / 4) + (y 0).val := by
    blk_simp [index2 t]
    omega
  have e1 : ((win0_2.blk t).view.emb y 1).val = 1408 * (t.val % 4) + (y 1).val := by
    blk_simp [index2 t]
    omega
  unfold P
  rw [e0, e1]
  refine (at2_idx (R := 1024) (C := 1408) _ y).trans ?_
  rw [out_at _ _ (y 0).isLt (y 1).isLt]
  unfold nn
  refine Finset.sum_congr rfl fun k hk => ?_
  have hk := Finset.mem_range.mp hk
  rw [block0 m c t _ _ (y 0).isLt hk, block1 m c t _ _ hk (y 1).isLt]

end Cert.GateUpIdeal.Val

namespace Cert.GateUpRefIdeal.Val

open Cert.GateUpRefIdeal Cert.GateUpRefIdeal.Gen Facts

def res (A : FVec Ideal S8192x2048 .bf16) (B : FVec Ideal S2048x5632 .bf16) : FVec Ideal S8192x5632 .bf16 :=
  truncf .bf16 (Host.dotGeneral dot_S8192x2048_S2048x5632_S8192x5632_1_0_0_1_n_n none (extf .f32 A bitsLt_bf16_f32) (extf .f32 B bitsLt_bf16_f32)) bitsLt_bf16_f32

theorem res_eq (A : FVec Ideal S8192x2048 .bf16) (B : FVec Ideal S2048x5632 .bf16) :
    res A B = fun y => nn A B 2048 (y 0).val (y 1).val :=
  whole (R := 8192) (C := 5632) _ (nn A B 2048) fun r n hr hn => by
    rw [at2_of _ hr hn, nn_eq A B hr hn rfl rfl]
    unfold res
    pointwise

theorem frame : Cert.quiescent_GateUpRefIdeal := fun m ρ _ =>
  (θ_run Cert.GateUpRefIdeal.defs _ _).mono
    (fun r h => ⟨fun c => (h c).2, Idealize.ShloMosaic.sem_eq_zero_of_no_sems (by decide) r.2⟩)
    (Cert.GateUpRefIdeal.Value.run (F := Ideal) m ρ)

end Cert.GateUpRefIdeal.Val

namespace Cert.GateUpMain

theorem algebraic : Cert.algebraic_GateUpIdeal_GateUpRefIdeal := by
  intro m ρ m' ρ' _ hagree
  refine ⟨fun c => Cert.GateUpIdeal.Val.P m c, ?_, ?_⟩
  · exact (θ_run Cert.GateUpIdeal.defs _ _).mono (fun r h c => ⟨(h c).1.trans (Cert.GateUpIdeal.Val.final2 m c), (h c).2⟩)
      (Cert.GateUpIdeal.Value.run_blocks (F := Ideal) m ρ)
  · refine (θ_run Cert.GateUpRefIdeal.defs _ _).mono (fun r h c => ⟨(h c).1.trans ?_, (h c).2⟩)
      (Cert.GateUpRefIdeal.Value.run (F := Ideal) m' ρ')
    rw [(hagree c).1, (hagree c).2]
    exact Cert.GateUpRefIdeal.Val.res_eq _ _

end Cert.GateUpMain

end
-- ==== Proof.GateDx.lean ====
/- The gradient of the gate's input: the incoming gradient times the weights, summed over the hidden columns. -/
module

public import proofs.«01_k».proof.Defs
public import proofs.«01_k».proof.Proof.Gen.GateDxIdeal.Value
public import proofs.«01_k».proof.Proof.Gen.GateDxRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.GateDxIdeal.Val

open Cert.GateDxIdeal Cert.GateDxIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 5632]⟩ : Shape).Idx → EReal := m ((c.tc : Thread nD τ).loc main_arg0)
def argB : (⟨2, ![2048, 5632]⟩ : Shape).Idx → EReal := m ((c.tc : Thread nD τ).loc main_arg1)

theorem points (t : Fin cfg0.N) : t.val < 32 := lt_of_lt_of_eq t.isLt N_0
theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)

theorem block0 (t : Fin cfg0.N) (r n : Nat) (hr : r < 1024) (hn : n < 5632) :
    at2 (iblk m c 0 t : Vec Ideal S1024x5632 .bf16) r n = at2 (argA m c) (1024 * (t.val / 4) + r) n := by
  have ht := points t
  rw [at2_of _ hr hn, at2_of _ (by omega) hn]
  blk_simp [iblk]
  rw [V_main_arg0]
  refine congrArg (argA m c) (funext fun a => Fin.ext ?_)
  have e := index0 t
  fin_cases a
  · show win0_0.index t 0 * 1024 + 1 * r = 1024 * (t.val / 4) + r
    rw [e]
    show (t.val / 4) * 1024 + 1 * r = 1024 * (t.val / 4) + r
    omega
  · show win0_0.index t 1 * 5632 + 1 * n = n
    rw [e]
    show 0 * 5632 + 1 * n = n
    omega

theorem block1 (t : Fin cfg0.N) (r n : Nat) (hr : r < 512) (hn : n < 5632) :
    at2 (iblk m c 1 t : Vec Ideal S512x5632 .bf16) r n = at2 (argB m c) (512 * (t.val % 4) + r) n := by
  rw [at2_of _ hr hn, at2_of _ (by omega) hn]
  blk_simp [iblk]
  rw [V_main_arg1]
  refine congrArg (argB m c) (funext fun a => Fin.ext ?_)
  have e := index1 t
  fin_cases a
  · show win0_1.index t 0 * 512 + 1 * r = 512 * (t.val % 4) + r
    rw [e]
    show (t.val % 4) * 512 + 1 * r = 512 * (t.val % 4) + r
    omega
  · show win0_1.index t 1 * 5632 + 1 * n = n
    rw [e]
    show 0 * 5632 + 1 * n = n
    omega

theorem out_at (x0 : Vec Ideal S1024x5632 .bf16) (x1 : Vec Ideal S512x5632 .bf16) {r n : Nat} (hr : r < 1024) (hn : n < 512) :
    at2 (out0_2 x0 x1) r n = nt x0 x1 5632 r n := by
  rw [at2_of _ hr hn, nt_eq x0 x1 hr hn rfl rfl]
  unfold out0_2
  rw [View.canon_unit_zero hz, View.ld_unit_zero (S := S1024x5632) hz, View.ld_unit_zero (S := S512x5632) hz]
  unfold k0_pay1
  pointwise

/-- The result. -/
def P : S8192x2048.Idx → EReal := fun y => nt (argA m c) (argB m c) 5632 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * (t.val / 4) + (y 0).val := by
    blk_simp [index2 t]
    omega
  have e1 : ((win0_2.blk t).view.emb y 1).val = 512 * (t.val % 4) + (y 1).val := by
    blk_simp [index2 t]
    omega
  unfold P
  rw [e0, e1]
  refine (at2_idx (R := 1024) (C := 512) _ y).trans ?_
  rw [out_at _ _ (y 0).isLt (y 1).isLt]
  unfold nt
  refine Finset.sum_congr rfl fun k hk => ?_
  have hk := Finset.mem_range.mp hk
  rw [block0 m c t _ _ (y 0).isLt hk, block1 m c t _ _ (y 1).isLt hk]

end Cert.GateDxIdeal.Val

namespace Cert.GateDxRefIdeal.Val

open Cert.GateDxRefIdeal Cert.GateDxRefIdeal.Gen Facts

def res (A : FVec Ideal S8192x5632 .bf16) (B : FVec Ideal S2048x5632 .bf16) : FVec Ideal S8192x2048 .f32 :=
  Host.dotGeneral dot_S8192x5632_S2048x5632_S8192x2048_1_1_0_0_n_n none (extf .f32 A bitsLt_bf16_f32) (extf .f32 B bitsLt_bf16_f32)

theorem res_eq (A : FVec Ideal S8192x5632 .bf16) (B : FVec Ideal S2048x5632 .bf16) :
    res A B = fun y => nt A B 5632 (y 0).val (y 1).val :=
  whole (R := 8192) (C := 2048) _ (nt A B 5632) fun r n hr hn => by
    rw [at2_of _ hr hn, nt_eq A B hr hn rfl rfl]
    unfold res
    pointwise

theorem frame : Cert.quiescent_GateDxRefIdeal := fun m ρ _ =>
  (θ_run Cert.GateDxRefIdeal.defs _ _).mono
    (fun r h => ⟨fun c => (h c).2, Idealize.ShloMosaic.sem_eq_zero_of_no_sems (by decide) r.2⟩)
    (Cert.GateDxRefIdeal.Value.run (F := Ideal) m ρ)

end Cert.GateDxRefIdeal.Val

namespace Cert.GateDxMain

theorem algebraic : Cert.algebraic_GateDxIdeal_GateDxRefIdeal := by
  intro m ρ m' ρ' _ hagree
  refine ⟨fun c => Cert.GateDxIdeal.Val.P m c, ?_, ?_⟩
  · exact (θ_run Cert.GateDxIdeal.defs _ _).mono (fun r h c => ⟨(h c).1.trans (Cert.GateDxIdeal.Val.final2 m c), (h c).2⟩)
      (Cert.GateDxIdeal.Value.run_blocks (F := Ideal) m ρ)
  · refine (θ_run Cert.GateDxRefIdeal.defs _ _).mono (fun r h c => ⟨(h c).1.trans ?_, (h c).2⟩)
      (Cert.GateDxRefIdeal.Value.run (F := Ideal) m' ρ')
    rw [(hagree c).1, (hagree c).2]
    exact Cert.GateDxRefIdeal.Val.res_eq _ _

end Cert.GateDxMain

end
-- ==== Proof.GateDw.lean ====
/- The gradient of the gate's and of the linear half's weights (one call, at the same shapes): a sum over all rows,
   in two halves by way of an accumulator. -/
module

public import proofs.«01_k».proof.Defs
public import proofs.«01_k».proof.Proof.Gen.GateDwIdeal.Value
public import proofs.«01_k».proof.Proof.Gen.GateDwRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.GateDwIdeal.Val

open Cert.GateDwIdeal Cert.GateDwIdeal.Gen

theorem hz : (![0, 0] : Fin 2 → Nat) = fun _ => 0 := funext fun a => by fin_cases a <;> rfl

section Body
variable (c : Dev nD) (i : grid0.Coords)
  (arg3 : Memref sig .tc .vmem S4096x512 .bf16) (harg3 : arg3.IsWhole)
  (arg4 : Memref sig .tc .vmem S4096x1408 .bf16) (harg4 : arg4.IsWhole)
  (arg5 : Memref sig .tc .vmem S512x1408 .f32) (harg5 : arg5.IsWhole)
  (arg6 : Memref sig .tc .vmem S512x1408 .f32) (harg6 : arg6.IsWhole)
  (x0 : Vec Ideal S4096x512 .bf16) (x1 : Vec Ideal S4096x1408 .bf16) (acc : Vec Ideal S512x1408 .f32)

/-- The accumulator after a first half. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S4096x512) hz, View.ld_unit_zero (S := S4096x1408) hz]

/-- What is written back after a second half. -/
theorem second (hc0 : ¬cond0_0 i) (hc1 : cond0_1 i) (hc2 : cond0_2 i) :
    out0_B_2 c i arg3 harg3 arg4 harg4 arg5 harg5 arg6 harg6 hc0 hc1 hc2 x0 x1 acc = k0_pay3 x0 x1 acc := by
  unfold out0_B_2
  rw [View.read_writes_eq_canon _ _ _ (cover0_B_2 c i arg3 harg3 arg4 harg4 arg5 harg5 arg6 harg6 hc0 hc1 hc2 x0 x1 acc)]
  unfold kernelRun0_B
  dsimp only
  sl_unfold_words
  rw [View.canon_unit_zero hz]
  simp only [View.readAt_eq_ld, harg3.read_unread, harg4.read_unread, harg6.read_unread, View.ld_unit_zero (S := S4096x512) hz, View.ld_unit_zero (S := S4096x1408) hz, View.ld_unit_zero (S := S512x1408) hz]
  exact View.readCov_cons_toLoadRect _ _ _ _

theorem pay2_at {r n : Nat} (hr : r < 512) (hn : n < 1408) : at2 (k0_pay2 x0 x1) r n = tn x0 x1 4096 r n := by
  rw [at2_of _ hr hn, tn_eq x0 x1 hr hn rfl rfl]
  unfold k0_pay2 k0_pay1
  pointwise

theorem pay3_at {r n : Nat} (hr : r < 512) (hn : n < 1408) : at2 (k0_pay3 x0 x1 acc) r n = at2 acc r n + tn x0 x1 4096 r n := by
  rw [at2_of _ hr hn, at2_of _ hr hn, tn_eq x0 x1 hr hn rfl rfl]
  unfold k0_pay3 k0_pay1
  pointwise

end Body

variable (m : (ℓ : Loc nD τ sig) → Buf (Elt Ideal) ℓ) (c : Dev nD)

def argA : (⟨2, ![8192, 2048]⟩ : Shape).Idx → EReal := m ((c.tc : Thread nD τ).loc main_arg0)
def argB : (⟨2, ![8192, 5632]⟩ : Shape).Idx → EReal := m ((c.tc : Thread nD τ).loc main_arg1)

theorem points (t : Fin cfg0.N) : t.val < 32 := lt_of_lt_of_eq t.isLt N_0
theorem index0 : ∀ t : Fin cfg0.N, win0_0.index t = ![t.val % 2, t.val / 8] := (by decide +kernel : ∀ t : Fin grid0.N, _)
theorem index1 : ∀ t : Fin cfg0.N, win0_1.index t = ![t.val % 2, t.val / 2 % 4] := (by decide +kernel : ∀ t : Fin grid0.N, _)
theorem index2 : ∀ t : Fin cfg0.N, win0_2.index t = ![t.val / 8, t.val / 2 % 4] := (by decide +kernel : ∀ t : Fin grid0.N, _)
theorem flush2 : ∀ t : Fin cfg0.N, win0_2.flush t = true ↔ t.val % 2 = 1 := (by decide +kernel : ∀ t : Fin grid0.N, _)

theorem block0 (t : Fin cfg0.N) (r n : Nat) (hr : r < 4096) (hn : n < 512) :
    at2 (iblk m c 0 t : Vec Ideal S4096x512 .bf16) r n = at2 (argA m c) (4096 * (t.val % 2) + r) (512 * (t.val / 8) + n) := by
  have ht := points t
  rw [at2_of _ hr hn, at2_of _ (by omega) (by omega)]
  blk_simp [iblk]
  rw [V_main_arg0]
  refine congrArg (argA m c) (funext fun a => Fin.ext ?_)
  have e := index0 t
  fin_cases a
  · show win0_0.index t 0 * 4096 + 1 * r = 4096 * (t.val % 2) + r
    rw [e]
    show (t.val % 2) * 4096 + 1 * r = 4096 * (t.val % 2) + r
    omega
  · show win0_0.index t 1 * 512 + 1 * n = 512 * (t.val / 8) + n
    rw [e]
    show (t.val / 8) * 512 + 1 * n = 512 * (t.val / 8) + n
    omega

theorem block1 (t : Fin cfg0.N) (r n : Nat) (hr : r < 4096) (hn : n < 1408) :
    at2 (iblk m c 1 t : Vec Ideal S4096x1408 .bf16) r n = at2 (argB m c) (4096 * (t.val % 2) + r) (1408 * (t.val / 2 % 4) + n) := by
  rw [at2_of _ hr hn, at2_of _ (by omega) (by omega)]
  blk_simp [iblk]
  rw [V_main_arg1]
  refine congrArg (argB m c) (funext fun a => Fin.ext ?_)
  have e := index1 t
  fin_cases a
  · show win0_1.index t 0 * 4096 + 1 * r = 4096 * (t.val % 2) + r
    rw [e]
    show (t.val % 2) * 4096 + 1 * r = 4096 * (t.val % 2) + r
    omega
  · show win0_1.index t 1 * 1408 + 1 * n = 1408 * (t.val / 2 % 4) + n
    rw [e]
    show (t.val / 2 % 4) * 1408 + 1 * n = 1408 * (t.val / 2 % 4) + n
    omega

/-- One half's share of an entry. -/
theorem half (t : Fin cfg0.N) {r n : Nat} (hr : r < 512) (hn : n < 1408) :
    tn (iblk m c 0 t : Vec Ideal S4096x512 .bf16) (iblk m c 1 t : Vec Ideal S4096x1408 .bf16) 4096 r n
      = ∑ k ∈ Finset.range 4096, at2 (argA m c) (4096 * (t.val % 2) + k) (512 * (t.val / 8) + r) * at2 (argB m c) (4096 * (t.val % 2) + k) (1408 * (t.val / 2 % 4) + n) := by
  unfold tn
  refine Finset.sum_congr rfl fun k hk => ?_
  have hk := Finset.mem_range.mp hk
  rw [block0 m c t _ _ hk hr, block1 m c t _ _ hk hn]

theorem acc_at (t : Fin cfg0.N) (h : t.val % 2 = 0) {r n : Nat} (hr : r < 512) (hn : n < 1408) :
    at2 (outsAt0 m c t.val t.isLt).2 r n = tn (argA m c) (argB m c) 4096 (512 * (t.val / 8) + r) (1408 * (t.val / 2 % 4) + n) := by
  rw [outsAt0_A m c t h (by omega) (by omega)]
  dsimp only
  rw [first, pay2_at _ _ hr hn, half m c t hr hn, h]
  unfold tn
  simp only [Nat.mul_zero, Nat.zero_add]

theorem out_at (t : Fin cfg0.N) (h : t.val % 2 = 1) {r n : Nat} (hr : r < 512) (hn : n < 1408) :
    at2 (outsAt0 m c t.val t.isLt).1 r n = tn (argA m c) (argB m c) 8192 (512 * (t.val / 8) + r) (1408 * (t.val / 2 % 4) + n) := by
  rw [outsAt0_B m c t (by omega) h h]
  dsimp only
  rw [second, pay3_at _ _ _ hr hn, half m c t hr hn]
  have ha := acc_at m c ⟨t.val - 1, Nat.lt_of_le_of_lt (Nat.sub_le _ _) t.isLt⟩ (show (t.val - 1) % 2 = 0 by omega) hr hn
  dsimp only at ha
  rw [ha, show (t.val - 1) / 8 = t.val / 8 by omega, show (t.val - 1) / 2 = t.val / 2 by omega, h]
  exact (tn_more _ _ 4096 4096 _ _).symm

/-- The result. -/
def P : S2048x5632.Idx → EReal := fun y => tn (argA m c) (argB m c) 8192 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 512 * (t.val / 8) + (y 0).val := by
    blk_simp [index2 t]
    omega
  have e1 : ((win0_2.blk t).view.emb y 1).val = 1408 * (t.val / 2 % 4) + (y 1).val := by
    blk_simp [index2 t]
    omega
  unfold P
  rw [e0, e1]
  exact (at2_idx (R := 512) (C := 1408) _ y).trans (out_at m c t ((flush2 t).mp hf) (y 0).isLt (y 1).isLt)

end Cert.GateDwIdeal.Val

namespace Cert.GateDwRefIdeal.Val

open Cert.GateDwRefIdeal Cert.GateDwRefIdeal.Gen Facts

def res (A : FVec Ideal S8192x2048 .bf16) (B : FVec Ideal S8192x5632 .bf16) : FVec Ideal S2048x5632 .f32 :=
  transpose S2048x5632 [1, 0] (Host.dotGeneral dot_S8192x5632_S8192x2048_S5632x2048_0_0_1_1_n_n none (extf .f32 B bitsLt_bf16_f32) (extf .f32 A bitsLt_bf16_f32)) transposes_S5632x2048_S2048x5632_1_0

theorem res_eq (A : FVec Ideal S8192x2048 .bf16) (B : FVec Ideal S8192x5632 .bf16) :
    res A B = fun y => tn A B 8192 (y 0).val (y 1).val :=
  whole (R := 2048) (C := 5632) _ (tn A B 8192) fun r n hr hn => by
    rw [at2_of _ hr hn, tn_eq A B hr hn rfl rfl]
    unfold res
    pointwise
    exact Finset.sum_congr rfl fun k _ => mul_comm _ _

theorem frame : Cert.quiescent_GateDwRefIdeal := fun m ρ _ =>
  (θ_run Cert.GateDwRefIdeal.defs _ _).mono
    (fun r h => ⟨fun c => (h c).2, Idealize.ShloMosaic.sem_eq_zero_of_no_sems (by decide) r.2⟩)
    (Cert.GateDwRefIdeal.Value.run (F := Ideal) m ρ)

end Cert.GateDwRefIdeal.Val

namespace Cert.GateDwMain

theorem algebraic : Cert.algebraic_GateDwIdeal_GateDwRefIdeal := by
  intro m ρ m' ρ' _ hagree
  refine ⟨fun c => Cert.GateDwIdeal.Val.P m c, ?_, ?_⟩
  · exact (θ_run Cert.GateDwIdeal.defs _ _).mono (fun r h c => ⟨(h c).1.trans (Cert.GateDwIdeal.Val.final2 m c), (h c).2⟩)
      (Cert.GateDwIdeal.Value.run_blocks (F := Ideal) m ρ)
  · refine (θ_run Cert.GateDwRefIdeal.defs _ _).mono (fun r h c => ⟨(h c).1.trans ?_, (h c).2⟩)
      (Cert.GateDwRefIdeal.Value.run (F := Ideal) m' ρ')
    rw [(hagree c).1, (hagree c).2]
    exact Cert.GateDwRefIdeal.Val.res_eq _ _

end Cert.GateDwMain

end
-- ==== Proof.DownDx.lean ====
/- The gradient of the last product's input: the incoming gradient times the weights, summed over the model's columns. -/
module

public import proofs.«01_k».proof.Defs
public import proofs.«01_k».proof.Proof.Gen.DownDxIdeal.Value
public import proofs.«01_k».proof.Proof.Gen.DownDxRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.DownDxIdeal.Val

open Cert.DownDxIdeal Cert.DownDxIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 2048]⟩ : Shape).Idx → EReal := m ((c.tc : Thread nD τ).loc main_arg0)
def argB : (⟨2, ![5632, 2048]⟩ : Shape).Idx → EReal := m ((c.tc : Thread nD τ).loc main_arg1)

theorem points (t : Fin cfg0.N) : t.val < 32 := lt_of_lt_of_eq t.isLt N_0
theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)

theorem block0 (t : Fin cfg0.N) (r n : Nat) (hr : r < 1024) (hn : n < 2048) :
    at2 (iblk m c 0 t : Vec Ideal S1024x2048 .bf16) r n = at2 (argA m c) (1024 * (t.val / 4) + r) n := by
  have ht := points t
  rw [at2_of _ hr hn, at2_of _ (by omega) hn]
  blk_simp [iblk]
  rw [V_main_arg0]
  refine congrArg (argA m c) (funext fun a => Fin.ext ?_)
  have e := index0 t
  fin_cases a
  · show win0_0.index t 0 * 1024 + 1 * r = 1024 * (t.val / 4) + r
    rw [e]
    show (t.val / 4) * 1024 + 1 * r = 1024 * (t.val / 4) + r
    omega
  · show win0_0.index t 1 * 2048 + 1 * n = n
    rw [e]
    show 0 * 2048 + 1 * n = n
    omega

theorem block1 (t : Fin cfg0.N) (r n : Nat) (hr : r < 1408) (hn : n < 2048) :
    at2 (iblk m c 1 t : Vec Ideal S1408x2048 .bf16) r n = at2 (argB m c) (1408 * (t.val % 4) + r) n := by
  rw [at2_of _ hr hn, at2_of _ (by omega) hn]
  blk_simp [iblk]
  rw [V_main_arg1]
  refine congrArg (argB m c) (funext fun a => Fin.ext ?_)
  have e := index1 t
  fin_cases a
  · show win0_1.index t 0 * 1408 + 1 * r = 1408 * (t.val % 4) + r
    rw [e]
    show (t.val % 4) * 1408 + 1 * r = 1408 * (t.val % 4) + r
    omega
  · show win0_1.index t 1 * 2048 + 1 * n = n
    rw [e]
    show 0 * 2048 + 1 * n = n
    omega

theorem out_at (x0 : Vec Ideal S1024x2048 .bf16) (x1 : Vec Ideal S1408x2048 .bf16) {r n : Nat} (hr : r < 1024) (hn : n < 1408) :
    at2 (out0_2 x0 x1) r n = nt x0 x1 2048 r n := by
  rw [at2_of _ hr hn, nt_eq x0 x1 hr hn rfl rfl]
  unfold out0_2
  rw [View.canon_unit_zero hz, View.ld_unit_zero (S := S1024x2048) hz, View.ld_unit_zero (S := S1408x2048) hz]
  unfold k0_pay1
  pointwise

/-- The result. -/
def P : S8192x5632.Idx → EReal := fun y => nt (argA m c) (argB m c) 2048 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * (t.val / 4) + (y 0).val := by
    blk_simp [index2 t]
    omega
  have e1 : ((win0_2.blk t).view.emb y 1).val = 1408 * (t.val % 4) + (y 1).val := by
    blk_simp [index2 t]
    omega
  unfold P
  rw [e0, e1]
  refine (at2_idx (R := 1024) (C := 1408) _ y).trans ?_
  rw [out_at _ _ (y 0).isLt (y 1).isLt]
  unfold nt
  refine Finset.sum_congr rfl fun k hk => ?_
  have hk := Finset.mem_range.mp hk
  rw [block0 m c t _ _ (y 0).isLt hk, block1 m c t _ _ (y 1).isLt hk]

end Cert.DownDxIdeal.Val

namespace Cert.DownDxRefIdeal.Val

open Cert.DownDxRefIdeal Cert.DownDxRefIdeal.Gen Facts

def res (A : FVec Ideal S8192x2048 .bf16) (B : FVec Ideal S5632x2048 .bf16) : FVec Ideal S8192x5632 .bf16 :=
  truncf .bf16 (Host.dotGeneral dot_S8192x2048_S5632x2048_S8192x5632_1_1_0_0_n_n none (extf .f32 A bitsLt_bf16_f32) (extf .f32 B bitsLt_bf16_f32)) bitsLt_bf16_f32

theorem res_eq (A : FVec Ideal S8192x2048 .bf16) (B : FVec Ideal S5632x2048 .bf16) :
    res A B = fun y => nt A B 2048 (y 0).val (y 1).val :=
  whole (R := 8192) (C := 5632) _ (nt A B 2048) fun r n hr hn => by
    rw [at2_of _ hr hn, nt_eq A B hr hn rfl rfl]
    unfold res
    pointwise

theorem frame : Cert.quiescent_DownDxRefIdeal := fun m ρ _ =>
  (θ_run Cert.DownDxRefIdeal.defs _ _).mono
    (fun r h => ⟨fun c => (h c).2, Idealize.ShloMosaic.sem_eq_zero_of_no_sems (by decide) r.2⟩)
    (Cert.DownDxRefIdeal.Value.run (F := Ideal) m ρ)

end Cert.DownDxRefIdeal.Val

namespace Cert.DownDxMain

theorem algebraic : Cert.algebraic_DownDxIdeal_DownDxRefIdeal := by
  intro m ρ m' ρ' _ hagree
  refine ⟨fun c => Cert.DownDxIdeal.Val.P m c, ?_, ?_⟩
  · exact (θ_run Cert.DownDxIdeal.defs _ _).mono (fun r h c => ⟨(h c).1.trans (Cert.DownDxIdeal.Val.final2 m c), (h c).2⟩)
      (Cert.DownDxIdeal.Value.run_blocks (F := Ideal) m ρ)
  · refine (θ_run Cert.DownDxRefIdeal.defs _ _).mono (fun r h c => ⟨(h c).1.trans ?_, (h c).2⟩)
      (Cert.DownDxRefIdeal.Value.run (F := Ideal) m' ρ')
    rw [(hagree c).1, (hagree c).2]
    exact Cert.DownDxRefIdeal.Val.res_eq _ _

end Cert.DownDxMain

end
-- ==== Proof.DownDw.lean ====
/- The gradient of the last product's weights, with its rounded copy: a sum over all rows, in two halves by way of an
   accumulator. -/
module

public import proofs.«01_k».proof.Defs
public import proofs.«01_k».proof.Proof.Gen.DownDwIdeal.Value
public import proofs.«01_k».proof.Proof.Gen.DownDwRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.DownDwIdeal.Val

open Cert.DownDwIdeal Cert.DownDwIdeal.Gen

theorem hz : (![0, 0] : Fin 2 → Nat) = fun _ => 0 := funext fun a => by fin_cases a <;> rfl

section Body
variable (c : Dev nD) (i : grid0.Coords)
  (arg3 : Memref sig .tc .vmem S4096x512 .bf16) (harg3 : arg3.IsWhole)
  (arg4 : Memref sig .tc .vmem S4096x1024 .bf16) (harg4 : arg4.IsWhole)
  (arg5 : Memref sig .tc .vmem S512x1024 .f32) (harg5 : arg5.IsWhole)
  (arg6 : Memref sig .tc .vmem S512x1024 .bf16) (harg6 : arg6.IsWhole)
  (arg7 : Memref sig .tc .vmem S512x1024 .f32) (harg7 : arg7.IsWhole)
  (x0 : Vec Ideal S4096x512 .bf16) (x1 : Vec Ideal S4096x1024 .bf16) (acc : Vec Ideal S512x1024 .f32)

/-- The accumulator after a first half. -/
theorem first (hc0 : cond0_0 i) (hc1 : ¬cond0_1 i) (hc2 : ¬cond0_2 i) :
    sout0_A_0 c i arg3 harg3 arg4 harg4 arg5 harg5 arg6 harg6 arg7 harg7 hc0 hc1 hc2 x0 x1 = k0_pay2 x0 x1 := by
  unfold sout0_A_0
  rw [View.read_writes_eq_canon _ _ _ (scover0_A_0 c i arg3 harg3 arg4 harg4 arg5 harg5 arg6 harg6 arg7 harg7 hc0 hc1 hc2 x0 x1)]
  unfold kernelRun0_A
  dsimp only
  sl_unfold_words
  rw [View.canon_unit_zero hz]
  simp only [View.readAt_eq_ld, harg3.read_unread, harg4.read_unread, View.ld_unit_zero (S := S4096x512) hz, View.ld_unit_zero (S := S4096x1024) hz]

/-- What is written back after a second half. -/
theorem second (hc0 : ¬cond0_0 i) (hc1 : cond0_1 i) (hc2 : cond0_2 i) :
    out0_B_2 c i arg3 harg3 arg4 harg4 arg5 harg5 arg6 harg6 arg7 harg7 hc0 hc1 hc2 x0 x1 acc = k0_pay3 x0 x1 acc := by
  unfold out0_B_2
  rw [View.read_writes_eq_canon _ _ _ (cover0_B_2 c i arg3 harg3 arg4 harg4 arg5 harg5 arg6 harg6 arg7 harg7 hc0 hc1 hc2 x0 x1 acc)]
  unfold kernelRun0_B
  dsimp only
  sl_unfold_words
  rw [View.canon_unit_zero hz]
  simp only [View.readAt_eq_ld, harg3.read_unread, harg4.read_unread, harg7.read_unread, View.ld_unit_zero (S := S4096x512) hz, View.ld_unit_zero (S := S4096x1024) hz, View.ld_unit_zero (S := S512x1024) hz]
  exact View.readCov_cons_toLoadRect _ _ _ _

/-- The rounded copy written back after a second half. -/
theorem second_copy (hc0 : ¬cond0_0 i) (hc1 : cond0_1 i) (hc2 : cond0_2 i) :
    out0_B_3 c i arg3 harg3 arg4 harg4 arg5 harg5 arg6 harg6 arg7 harg7 hc0 hc1 hc2 x0 x1 acc = k0_pay4 (k0_pay3 x0 x1 acc) := by
  unfold out0_B_3
  rw [View.read_writes_eq_canon _ _ _ (cover0_B_3 c i arg3 harg3 arg4 harg4 arg5 harg5 arg6 harg6 arg7 harg7 hc0 hc1 hc2 x0 x1 acc)]
  unfold kernelRun0_B
  dsimp only
  sl_unfold_words
  rw [View.canon_unit_zero hz]
  simp only [View.readAt_eq_ld, harg3.read_unread, harg4.read_unread, harg7.read_unread, View.ld_unit_zero (S := S4096x512) hz, View.ld_unit_zero (S := S4096x1024) hz, View.ld_unit_zero (S := S512x1024) hz]
  exact congrArg k0_pay4 (View.readCov_cons_toLoadRect _ _ _ _)

theorem pay2_at {r n : Nat} (hr : r < 512) (hn : n < 1024) : at2 (k0_pay2 x0 x1) r n = tn x0 x1 4096 r n := by
  rw [at2_of _ hr hn, tn_eq x0 x1 hr hn rfl rfl]
  unfold k0_pay2 k0_pay1
  pointwise

theorem pay3_at {r n : Nat} (hr : r < 512) (hn : n < 1024) : at2 (k0_pay3 x0 x1 acc) r n = at2 acc r n + tn x0 x1 4096 r n := by
  rw [at2_of _ hr hn, at2_of _ hr hn, tn_eq x0 x1 hr hn rfl rfl]
  unfold k0_pay3 k0_pay1
  pointwise

end Body

variable (m : (ℓ : Loc nD τ sig) → Buf (Elt Ideal) ℓ) (c : Dev nD)

def argA : (⟨2, ![8192, 5632]⟩ : Shape).Idx → EReal := m ((c.tc : Thread nD τ).loc main_arg0)
def argB : (⟨2, ![8192, 2048]⟩ : Shape).Idx → EReal := m ((c.tc : Thread nD τ).loc main_arg1)

theorem points (t : Fin cfg0.N) : t.val < 44 := lt_of_lt_of_eq t.isLt N_0
theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)
theorem index3 : ∀ t : Fin cfg0.N, win0_3.index t = ![t.val / 4, t.val / 2 % 2] := (by decide +kernel : ∀ t : Fin grid0.N, _)
theorem flush2 : ∀ t : Fin cfg0.N, win0_2.flush t = true ↔ t.val % 2 = 1 := (by decide +kernel : ∀ t : Fin grid0.N, _)
theorem flush3 : ∀ t : Fin cfg0.N, win0_3.flush t = true ↔ t.val % 2 = 1 := (by decide +kernel : ∀ t : Fin grid0.N, _)

theorem block0 (t : Fin cfg0.N) (r n : Nat) (hr : r < 4096) (hn : n < 512) :
    at2 (iblk m c 0 t : Vec Ideal S4096x512 .bf16) r n = at2 (argA m c) (4096 * (t.val % 2) + r) (512 * (t.val / 4) + n) := by
  have ht := points t
  rw [at2_of _ hr hn, at2_of _ (by omega) (by omega)]
  blk_simp [iblk]
  rw [V_main_arg0]
  refine congrArg (argA m c) (funext fun a => Fin.ext ?_)
  have e := index0 t
  fin_cases a
  · show win0_0.index t 0 * 4096 + 1 * r = 4096 * (t.val % 2) + r
    rw [e]
    show (t.val % 2) * 4096 + 1 * r = 4096 * (t.val % 2) + r
    omega
  · show win0_0.index t 1 * 512 + 1 * n = 512 * (t.val / 4) + n
    rw [e]
    show (t.val / 4) * 512 + 1 * n = 512 * (t.val / 4) + n
    omega

theorem block1 (t : Fin cfg0.N) (r n : Nat) (hr : r < 4096) (hn : n < 1024) :
    at2 (iblk m c 1 t : Vec Ideal S4096x1024 .bf16) r n = at2 (argB m c) (4096 * (t.val % 2) + r) (1024 * (t.val / 2 % 2) + n) := by
  rw [at2_of _ hr hn, at2_of _ (by omega) (by omega)]
  blk_simp [iblk]
  rw [V_main_arg1]
  refine congrArg (argB m c) (funext fun a => Fin.ext ?_)
  have e := index1 t
  fin_cases a
  · show win0_1.index t 0 * 4096 + 1 * r = 4096 * (t.val % 2) + r
    rw [e]
    show (t.val % 2) * 4096 + 1 * r = 4096 * (t.val % 2) + r
    omega
  · show win0_1.index t 1 * 1024 + 1 * n = 1024 * (t.val / 2 % 2) + n
    rw [e]
    show (t.val / 2 % 2) * 1024 + 1 * n = 1024 * (t.val / 2 % 2) + n
    omega

/-- One half's share of an entry. -/
theorem half (t : Fin cfg0.N) {r n : Nat} (hr : r < 512) (hn : n < 1024) :
    tn (iblk m c 0 t : Vec Ideal S4096x512 .bf16) (iblk m c 1 t : Vec Ideal S4096x1024 .bf16) 4096 r n
      = ∑ k ∈ Finset.range 4096, at2 (argA m c) (4096 * (t.val % 2) + k) (512 * (t.val / 4) + r) * at2 (argB m c) (4096 * (t.val % 2) + k) (1024 * (t.val / 2 % 2) + n) := by
  unfold tn
  refine Finset.sum_congr rfl fun k hk => ?_
  have hk := Finset.mem_range.mp hk
  rw [block0 m c t _ _ hk hr, block1 m c t _ _ hk hn]

theorem acc_at (t : Fin cfg0.N) (h : t.val % 2 = 0) {r n : Nat} (hr : r < 512) (hn : n < 1024) :
    at2 (outsAt0 m c t.val t.isLt).2.2 r n = tn (argA m c) (argB m c) 4096 (512 * (t.val / 4) + r) (1024 * (t.val / 2 % 2) + n) := by
  rw [outsAt0_A m c t h (by omega) (by omega)]
  dsimp only
  rw [first, pay2_at _ _ hr hn, half m c t hr hn, h]
  unfold tn
  simp only [Nat.mul_zero, Nat.zero_add]

theorem out_at (t : Fin cfg0.N) (h : t.val % 2 = 1) {r n : Nat} (hr : r < 512) (hn : n < 1024) :
    at2 (outsAt0 m c t.val t.isLt).1 r n = tn (argA m c) (argB m c) 8192 (512 * (t.val / 4) + r) (1024 * (t.val / 2 % 2) + n) := by
  rw [outsAt0_B m c t (by omega) h h]
  dsimp only
  rw [second, pay3_at _ _ _ hr hn, half m c t hr hn]
  have ha := acc_at m c ⟨t.val - 1, Nat.lt_of_le_of_lt (Nat.sub_le _ _) t.isLt⟩ (show (t.val - 1) % 2 = 0 by omega) hr hn
  dsimp only at ha
  rw [ha, show (t.val - 1) / 4 = t.val / 4 by omega, show (t.val - 1) / 2 = t.val / 2 by omega, h]
  exact (tn_more _ _ 4096 4096 _ _).symm

/-- The rounded copy is the same numbers. -/
theorem copy_at (t : Fin cfg0.N) (h : t.val % 2 = 1) : ((outsAt0 m c t.val t.isLt).2.1 : S512x1024.Idx → EReal) = (outsAt0 m c t.val t.isLt).1 := by
  rw [outsAt0_B m c t (by omega) h h]
  dsimp only
  rw [second, second_copy]
  rfl

/-- Both results. -/
def P : S5632x2048.Idx → EReal := fun y => tn (argA m c) (argB m c) 8192 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 512 * (t.val / 4) + (y 0).val := by
    blk_simp [index2 t]
    omega
  have e1 : ((win0_2.blk t).view.emb y 1).val = 1024 * (t.val / 2 % 2) + (y 1).val := by
    blk_simp [index2 t]
    omega
  unfold P
  rw [e0, e1]
  exact (at2_idx (R := 512) (C := 1024) _ y).trans (out_at m c t ((flush2 t).mp hf) (y 0).isLt (y 1).isLt)

theorem final3 : (dats m 0 c).arrAt 3 cfg0.N = P m c := by
  refine (dats m 0 c).arrAt_eq_of_covers 3 _ (by decide +kernel) fun t hf y => ?_
  blk_simp
  rw [after0_3]
  have e0 : ((win0_3.blk t).view.emb y 0).val = 512 * (t.val / 4) + (y 0).val := by
    blk_simp [index3 t]
    omega
  have e1 : ((win0_3.blk t).view.emb y 1).val = 1024 * (t.val / 2 % 2) + (y 1).val := by
    blk_simp [index3 t]
    omega
  unfold P
  rw [e0, e1]
  refine (congrFun (copy_at m c t ((flush3 t).mp hf)) y).trans ?_
  exact (at2_idx (R := 512) (C := 1024) _ y).trans (out_at m c t ((flush3 t).mp hf) (y 0).isLt (y 1).isLt)

end Cert.DownDwIdeal.Val

namespace Cert.DownDwRefIdeal.Val

open Cert.DownDwRefIdeal Cert.DownDwRefIdeal.Gen Facts

def res (A : FVec Ideal S8192x5632 .bf16) (B : FVec Ideal S8192x2048 .bf16) : FVec Ideal S5632x2048 .f32 :=
  transpose S5632x2048 [1, 0] (Host.dotGeneral dot_S8192x2048_S8192x5632_S2048x5632_0_0_1_1_n_n none (extf .f32 B bitsLt_bf16_f32) (extf .f32 A bitsLt_bf16_f32)) transposes_S2048x5632_S5632x2048_1_0

theorem res_eq (A : FVec Ideal S8192x5632 .bf16) (B : FVec Ideal S8192x2048 .bf16) :
    res A B = fun y => tn A B 8192 (y 0).val (y 1).val :=
  whole (R := 5632) (C := 2048) _ (tn A B 8192) fun r n hr hn => by
    rw [at2_of _ hr hn, tn_eq A B hr hn rfl rfl]
    unfold res
    pointwise
    exact Finset.sum_congr rfl fun k _ => mul_comm _ _

theorem frame : Cert.quiescent_DownDwRefIdeal := fun m ρ _ =>
  (θ_run Cert.DownDwRefIdeal.defs _ _).mono
    (fun r h => ⟨fun c => (h c).2.2, Idealize.ShloMosaic.sem_eq_zero_of_no_sems (by decide) r.2⟩)
    (Cert.DownDwRefIdeal.Value.run (F := Ideal) m ρ)

end Cert.DownDwRefIdeal.Val

namespace Cert.DownDwMain

theorem algebraic : Cert.algebraic_DownDwIdeal_DownDwRefIdeal := by
  intro m ρ m' ρ' _ hagree
  refine ⟨fun c => Cert.DownDwIdeal.Val.P m c, fun c => Cert.DownDwIdeal.Val.P m c, ?_, ?_⟩
  · exact (θ_run Cert.DownDwIdeal.defs _ _).mono
      (fun r h c => ⟨(h c).1.trans (Cert.DownDwIdeal.Val.final2 m c), (h c).2.1.trans (Cert.DownDwIdeal.Val.final3 m c), (h c).2.2⟩)
      (Cert.DownDwIdeal.Value.run_blocks (F := Ideal) m ρ)
  · refine (θ_run Cert.DownDwRefIdeal.defs _ _).mono (fun r h c => ⟨(h c).1.trans ?_, (h c).2.1.trans ?_, (h c).2.2⟩)
      (Cert.DownDwRefIdeal.Value.run (F := Ideal) m' ρ')
    all_goals
      rw [(hagree c).1, (hagree c).2]
      exact Cert.DownDwRefIdeal.Val.res_eq _ _

end Cert.DownDwMain

end
-- ==== Proof.NormSpec.lean ====
/- The norm of a row by the root of its mean square, and its gradient in the row, two ways: as the calls compute it and
   as the derivative does. They agree at every extended real: where the mean square is infinite both are zero. -/
module

public import proofs.«01_k».proof.Proof.ConvSpec

@[expose] public section

noncomputable section

open Idealize.ShloMosaic

namespace Norm

/-- A number that is neither negative nor `⊤` goes into a sum. -/
theorem scale_add {c : EReal} (h0 : 0 ≤ c) (h1 : c ≠ ⊤) (a b : EReal) : c * (a + b) = c * a + c * b :=
  EReal.left_distrib_of_nonneg_of_ne_top h0 h1 a b

theorem scale_sum {ι : Type} (s : Finset ι) {c : EReal} (h0 : 0 ≤ c) (h1 : c ≠ ⊤) (f : ι → EReal) :
    c * ∑ k ∈ s, f k = ∑ k ∈ s, c * f k := by
  classical
  induction s using Finset.induction_on with
  | empty => simp
  | insert a s ha ih => rw [Finset.sum_insert ha, Finset.sum_insert ha, scale_add h0 h1, ih]

theorem scale_sub {c : EReal} (h0 : 0 ≤ c) (h1 : c ≠ ⊤) (a b : EReal) : c * (a - b) = c * a - c * b := by
  rw [sub_eq_add_neg, scale_add h0 h1, mul_neg, ← sub_eq_add_neg]

theorem square_nonneg (x : EReal) : 0 ≤ x * x := by
  induction x with
  | bot => simp
  | top => simp
  | coe r => exact_mod_cast mul_self_nonneg r

/-- A quotient by a positive real is a product. -/
theorem div_real {n : ℝ} (hn : 0 < n) (a : EReal) : Ideal.div a (n : EReal) = a * ((n⁻¹ : ℝ) : EReal) := by
  unfold Ideal.div
  rw [if_neg (by exact_mod_cast hn.ne'), EReal.coe_inv]

theorem twice (z : EReal) (c : ℝ) : z * (c : EReal) + z * (c : EReal) = z * ((c + c : ℝ) : EReal) := by
  induction z with
  | coe r => norm_cast; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The mean square of a row and a positive number. -/
def mean {n : Nat} (N ε : ℝ) (x : Fin n → EReal) : EReal := Ideal.div (∑ k, x k * x k) (N : EReal) + (ε : EReal)

/-- The root's inverse. -/
def inv {n : Nat} (N ε : ℝ) (x : Fin n → EReal) : EReal := Ideal.rsqrt (mean N ε x)

theorem mean_pos {n : Nat} {N ε : ℝ} (hN : 0 < N) (hε : 0 < ε) (x : Fin n → EReal) : 0 < mean N ε x := by
  unfold mean
  rw [div_real hN]
  have h : 0 ≤ (∑ k, x k * x k) * ((N⁻¹ : ℝ) : EReal) :=
    mul_nonneg (Finset.sum_nonneg fun k _ => square_nonneg (x k)) (by exact_mod_cast (inv_pos.mpr hN).le)
  exact lt_of_lt_of_le (by exact_mod_cast hε) (le_add_of_nonneg_left h)

variable {n : Nat} (N ε : ℝ) (x d : Fin n → EReal)

/-- A row's gradient at `j`, as the calls compute it: `d` is the gradient at the row divided by the root. -/
def grad (j : Fin n) : EReal :=
  inv N ε x * (d j - x j * inv N ε x * Ideal.div (∑ k, d k * (x k * inv N ε x)) (N : EReal))

/-- What the derivative adds twice at each entry of the row, times the entry: the gradient of the mean square. -/
def slope : EReal :=
  Ideal.div ((∑ k, x k * d k) * (((-1 / 2 : ℝ) : EReal) * Ideal.div (inv N ε x) (mean N ε x))) (N : EReal)

theorem grad_eq (hN : 0 < N) (hε : 0 < ε) (j : Fin n) :
    grad N ε x d j = d j * inv N ε x + (x j * slope N ε x d + slope N ε x d * x j) := by
  have hpos := mean_pos hN hε x
  unfold grad slope inv
  generalize mean N ε x = v at hpos ⊢
  induction v with
  | bot => exact absurd hpos (by simp)
  | top =>
    have h : Ideal.div (Ideal.rsqrt ⊤) ⊤ = 0 := by
      unfold Ideal.div; rw [if_neg (by simp)]; simp
    rw [h]
    simp [div_real hN]
  | coe q =>
    have hq : 0 < q := by exact_mod_cast hpos
    have hr : Ideal.rsqrt (q : EReal) = (((Real.sqrt q)⁻¹ : ℝ) : EReal) := by
      rw [Ideal.rsqrt_coe, if_neg hq.not_gt, if_neg hq.ne']
    have hρ : 0 < (Real.sqrt q)⁻¹ := inv_pos.mpr (Real.sqrt_pos.mpr hq)
    have hsq : (Real.sqrt q)⁻¹ * (Real.sqrt q)⁻¹ = q⁻¹ := by
      rw [← mul_inv, Real.mul_self_sqrt hq.le]
    rw [hr]
    generalize (Real.sqrt q)⁻¹ = ρ at hρ hsq ⊢
    have h0 : (0 : EReal) ≤ (ρ : EReal) := by exact_mod_cast hρ.le
    have h1 : (ρ : EReal) ≠ ⊤ := EReal.coe_ne_top ρ
    have hT : ∑ k, d k * (x k * (ρ : EReal)) = (ρ : EReal) * ∑ k, x k * d k := by
      rw [scale_sum _ h0 h1]
      exact Finset.sum_congr rfl fun k _ => by ac_rfl
    rw [hT, div_real hq, div_real hN, div_real hN]
    generalize (∑ k, x k * d k) = T
    have hL : x j * (T * (((-1 / 2 : ℝ) : EReal) * ((ρ : EReal) * ((q⁻¹ : ℝ) : EReal))) * ((N⁻¹ : ℝ) : EReal))
        = x j * T * ((-1 / 2 * (ρ * q⁻¹) * N⁻¹ : ℝ) : EReal) := by
      push_cast; ac_rfl
    rw [mul_comm _ (x j), hL, twice, scale_sub h0 h1, sub_eq_add_neg, mul_comm (ρ : EReal) (d j)]
    congr 1
    have hK : (ρ : EReal) * (x j * (ρ : EReal) * ((ρ : EReal) * T * ((N⁻¹ : ℝ) : EReal)))
        = x j * T * ((ρ * (ρ * ρ) * N⁻¹ : ℝ) : EReal) := by
      push_cast; ac_rfl
    rw [hK, ← mul_neg, ← EReal.coe_neg, hsq]
    congr 2
    ring

/-! The literals. -/

/-- The number added under the root. -/
def eps : ℝ := 8796093 * 2 ^ (-43 : ℤ)

theorem eps_pos : 0 < eps := by unfold eps; positivity
theorem eps_eq : Ideal.ofBits .f32 0x358637BD#32 = ((eps : ℝ) : EReal) := by
  simp [Ideal.ofBits, Ideal.ieee, eps]
theorem lit2048 : Ideal.ofBits .f32 0x45000000#32 = ((2048 : ℝ) : EReal) := by
  simp [Ideal.ofBits, Ideal.ieee]
  rw [← EReal.coe_mul]
  norm_num
theorem lit512 : Ideal.ofBits .f32 0x44000000#32 = ((512 : ℝ) : EReal) := by
  simp [Ideal.ofBits, Ideal.ieee]
  rw [← EReal.coe_mul]
  norm_num
theorem lit256 : Ideal.ofBits .f32 0x43800000#32 = ((256 : ℝ) : EReal) := by
  simp [Ideal.ofBits, Ideal.ieee]
  rw [← EReal.coe_mul]
  norm_num
theorem lit128 : Ideal.ofBits .f32 0x43000000#32 = ((128 : ℝ) : EReal) := by
  simp [Ideal.ofBits, Ideal.ieee]
  rw [← EReal.coe_mul]
  norm_num
theorem litHalf : Ideal.ofBits .f32 0xBF000000#32 = ((-1 / 2 : ℝ) : EReal) := by
  simp [Ideal.ofBits, Ideal.ieee]
  rw [← EReal.coe_mul]
  norm_num
theorem litOneHalf : Ideal.ofBits .f32 0x3F000000#32 = ((1 / 2 : ℝ) : EReal) := by
  simp [Ideal.ofBits, Ideal.ieee]
  rw [← EReal.coe_mul]
  norm_num
theorem litTwo : Ideal.ofBits .f32 0x40000000#32 = ((2 : ℝ) : EReal) := by
  simp [Ideal.ofBits, Ideal.ieee]
  rw [← EReal.coe_mul]
  norm_num

end Norm

end
-- ==== Proof.UpDxRms.lean ====
/- The first product's gradient in its rows, carried through the norm before it. -/
module

public import proofs.«01_k».proof.Defs
public import proofs.«01_k».proof.Proof.Gen.UpDxRmsIdeal.Value
public import proofs.«01_k».proof.Proof.Gen.UpDxRmsRefIdeal.Run
public import proofs.«01_k».proof.Proof.ProdSpec
public import proofs.«01_k».proof.Proof.NormSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.UpDxRmsIdeal.Val

open Cert.UpDxRmsIdeal Cert.UpDxRmsIdeal.Gen

theorem hz : (![0, 0] : Fin 2 → Nat) = fun _ => 0 := funext fun a => by fin_cases a <;> rfl

section Body
variable (c : Dev nD) (i : grid0.Coords)
  (arg1 : Memref sig .tc .vmem S256x5632 .bf16) (harg1 : arg1.IsWhole)
  (arg2 : Memref sig .tc .vmem S2048x5632 .bf16) (harg2 : arg2.IsWhole)
  (arg3 : Memref sig .tc .vmem S256x2048 .f32) (harg3 : arg3.IsWhole)
  (arg4 : Memref sig .tc .vmem S256x2048 .f32) (harg4 : arg4.IsWhole)
  (arg5 : Memref sig .tc .vmem S1x2048 .f32) (harg5 : arg5.IsWhole)
  (arg6 : Memref sig .tc .vmem S256x2048 .f32) (harg6 : arg6.IsWhole)
  (arg7 : Memref sig .tc .vmem S256x2048 .f32) (harg7 : arg7.IsWhole)
  (arg8 : Memref sig .tc .vmem S256x2048 .bf16) (harg8 : arg8.IsWhole)
  (arg9 : Memref sig .tc .vmem S1x2048 .f32) (harg9 : arg9.IsWhole)

  (x0 : Vec Ideal S256x5632 .bf16) (x1 : Vec Ideal S2048x5632 .bf16) (x2 x3 : Vec Ideal S256x2048 .f32) (x4 : Vec Ideal S1x2048 .f32)
  (x5 : Vec Ideal S256x2048 .f32) (acc : Vec Ideal S1x2048 .f32)

theorem first_dx (hc0 : cond0_0 i) :
    out0_A_6 c i arg1 harg1 arg2 harg2 arg3 harg3 arg4 harg4 arg5 harg5 arg6 harg6 arg7 harg7 arg8 harg8 arg9 harg9 hc0 x0 x1 x2 x3 x4 x5 = k0_pay8 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x5632) hz, View.ld_unit_zero (S := S2048x5632) hz, View.ld_unit_zero (S := S256x2048) hz, View.ld_unit_zero (S := S1x2048) hz]

theorem first_copy (hc0 : cond0_0 i) :
    out0_A_7 c i arg1 harg1 arg2 harg2 arg3 harg3 arg4 harg4 arg5 harg5 arg6 harg6 arg7 harg7 arg8 harg8 arg9 harg9 hc0 x0 x1 x2 x3 x4 x5 = k0_pay1 (k0_pay8 x0 x1 x2 x3 x4 x5) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x5632) hz, View.ld_unit_zero (S := S2048x5632) hz, View.ld_unit_zero (S := S256x2048) hz, View.ld_unit_zero (S := S1x2048) hz]

theorem next_dx (hc0 : ¬cond0_0 i) :
    out0_B_6 c i arg1 harg1 arg2 harg2 arg3 harg3 arg4 harg4 arg5 harg5 arg6 harg6 arg7 harg7 arg8 harg8 arg9 harg9 hc0 x0 x1 x2 x3 x4 x5 acc = k0_pay8 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 acc)]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x5632) hz, View.ld_unit_zero (S := S2048x5632) hz, View.ld_unit_zero (S := S256x2048) hz, View.ld_unit_zero (S := S1x2048) hz]

theorem next_copy (hc0 : ¬cond0_0 i) :
    out0_B_7 c i arg1 harg1 arg2 harg2 arg3 harg3 arg4 harg4 arg5 harg5 arg6 harg6 arg7 harg7 arg8 harg8 arg9 harg9 hc0 x0 x1 x2 x3 x4 x5 acc = k0_pay1 (k0_pay8 x0 x1 x2 x3 x4 x5) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 acc)]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x5632) hz, View.ld_unit_zero (S := S2048x5632) hz, View.ld_unit_zero (S := S256x2048) hz, View.ld_unit_zero (S := S1x2048) hz]

theorem first_dg (hc0 : cond0_0 i) :
    out0_A_8 c i arg1 harg1 arg2 harg2 arg3 harg3 arg4 harg4 arg5 harg5 arg6 harg6 arg7 harg7 arg8 harg8 arg9 harg9 hc0 x0 x1 x2 x3 x4 x5 = k0_pay2 (k0_pay7 x0 x1 x2 x3) (k0_pay3 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero hz]
  simp only [View.readAt_eq_ld, harg1.read_unread, harg2.read_unread, harg3.read_unread, harg4.read_unread,
    View.ld_unit_zero (S := S256x5632) hz, View.ld_unit_zero (S := S2048x5632) hz, View.ld_unit_zero (S := S256x2048) hz]
  exact congrArg (k0_pay2 _) (View.readCov_cons_toLoadRect _ _ _ _)

theorem next_dg (hc0 : ¬cond0_0 i) :
    out0_B_8 c i arg1 harg1 arg2 harg2 arg3 harg3 arg4 harg4 arg5 harg5 arg6 harg6 arg7 harg7 arg8 harg8 arg9 harg9 hc0 x0 x1 x2 x3 x4 x5 acc = k0_pay2 (k0_pay7 x0 x1 x2 x3) acc := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 acc)]
  unfold kernelRun0_B
  dsimp only
  sl_unfold_words
  rw [View.canon_unit_zero hz]
  simp only [View.readAt_eq_ld, harg1.read_unread, harg2.read_unread, harg3.read_unread, harg4.read_unread, harg9.read_unread,
    View.ld_unit_zero (S := S256x5632) hz, View.ld_unit_zero (S := S2048x5632) hz, View.ld_unit_zero (S := S256x2048) hz, View.ld_unit_zero (S := S1x2048) hz]

theorem pay4_at {r n : Nat} (hr : r < 256) (hn : n < 2048) : at2 (k0_pay4 x0 x1 x2) r n = at2 x2 r n + nt x0 x1 5632 r n := by
  rw [at2_of _ hr hn, at2_of _ hr hn, nt_eq x0 x1 hr hn rfl rfl]
  unfold k0_pay4
  pointwise
  exact add_comm _ _

theorem pay5_at {r : Nat} (hr : r < 256) : at2 (k0_pay5 x3) r 0 = Norm.inv 2048 Norm.eps (fun k : Fin 2048 => at2 x3 r k.val) := by
  rw [at2_of _ hr (show 0 < 1 by omega)]
  unfold k0_pay5 Norm.inv Norm.mean
  simp only [at2_of x3 hr (Fin.isLt _)]
  pointwise
  rw [Norm.lit2048, Norm.eps_eq]

theorem pay6_at {r n : Nat} (hr : r < 256) (hn : n < 2048) :
    at2 (k0_pay6 x3) r n = at2 x3 r n * Norm.inv 2048 Norm.eps (fun k : Fin 2048 => at2 x3 r k.val) := by
  rw [← pay5_at x3 hr, at2_of _ hr hn, at2_of _ hr hn, at2_of (k0_pay5 x3) hr (show 0 < 1 by omega)]
  unfold k0_pay6
  generalize k0_pay5 x3 = q
  pointwise

theorem pay7_at {n : Nat} (hn : n < 2048) :
    at2 (k0_pay7 x0 x1 x2 x3) 0 n = ∑ k ∈ Finset.range 256, at2 (k0_pay4 x0 x1 x2) k n * at2 (k0_pay6 x3) k n := by
  rw [Finset.sum_range, at2_of _ (show 0 < 1 by omega) hn]
  simp only [at2_of (k0_pay4 x0 x1 x2) (Fin.isLt _) hn, at2_of (k0_pay6 x3) (Fin.isLt _) hn]
  unfold k0_pay7
  generalize k0_pay6 x3 = q
  generalize k0_pay4 x0 x1 x2 = p
  pointwise

theorem pay8_at {r n : Nat} (hr : r < 256) (hn : n < 2048) :
    at2 (k0_pay8 x0 x1 x2 x3 x4 x5) r n
      = Norm.grad 2048 Norm.eps (fun k : Fin 2048 => at2 x3 r k.val) (fun k : Fin 2048 => at2 (k0_pay4 x0 x1 x2) r k.val * at2 x4 0 k.val) ⟨n, hn⟩
        + at2 x5 r n := by
  unfold Norm.grad
  dsimp only
  simp only [← pay6_at x3 hr hn, ← pay6_at x3 hr (Fin.isLt _)]
  rw [← pay5_at x3 hr, at2_of _ hr hn]
  simp only [at2_of (k0_pay4 x0 x1 x2) hr (Fin.isLt _), at2_of (k0_pay4 x0 x1 x2) hr hn, at2_of (k0_pay6 x3) hr (Fin.isLt _), at2_of (k0_pay6 x3) hr hn,
    at2_of x4 (show 0 < 1 by omega) (Fin.isLt _), at2_of x4 (show 0 < 1 by omega) hn, at2_of x5 hr hn, at2_of (k0_pay5 x3) hr (show 0 < 1 by omega)]
  unfold k0_pay8
  generalize k0_pay6 x3 = q
  generalize k0_pay5 x3 = w
  generalize k0_pay4 x0 x1 x2 = p
  pointwise
  rw [Norm.lit2048]

theorem zero_at {n : Nat} (hn : n < 2048) : at2 (k0_pay3 (F := Ideal)) 0 n = 0 := by
  rw [at2_of _ (show 0 < 1 by omega) hn]
  unfold k0_pay3
  pointwise

theorem pay2_at (v : FVec Ideal S1x2048 .f32) {n : Nat} (hn : n < 2048) : at2 (k0_pay2 v acc) 0 n = at2 acc 0 n + at2 v 0 n := by
  simp only [at2_of _ (show 0 < 1 by omega) hn]
  unfold k0_pay2
  pointwise

theorem pay1_eq (v : FVec Ideal S256x2048 .f32) : k0_pay1 v = v := rfl

end Body

variable (m : (ℓ : Loc nD τ sig) → Buf (Elt Ideal) ℓ) (c : Dev nD)

def argD : (⟨2, ![8192, 5632]⟩ : Shape).Idx → EReal := m ((c.tc : Thread nD τ).loc main_arg0)
def argW : (⟨2, ![2048, 5632]⟩ : Shape).Idx → EReal := m ((c.tc : Thread nD τ).loc main_arg1)
def argP : (⟨2, ![8192, 2048]⟩ : Shape).Idx → EReal := m ((c.tc : Thread nD τ).loc main_arg2)
def argX : (⟨2, ![8192, 2048]⟩ : Shape).Idx → EReal := m ((c.tc : Thread nD τ).loc main_arg3)
def argG : (⟨2, ![1, 2048]⟩ : Shape).Idx → EReal := m ((c.tc : Thread nD τ).loc main_arg4)
def argE : (⟨2, ![8192, 2048]⟩ : Shape).Idx → EReal := m ((c.tc : Thread nD τ).loc main_arg5)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

theorem block0 (t : Fin cfg0.N) (r n : Nat) (hr : r < 256) (hn : n < 5632) :
    at2 (iblk m c 0 t : Vec Ideal S256x5632 .bf16) r n = at2 (argD m c) (256 * t.val + r) n := by
  rw [at2_of _ hr hn]
  exact at2_at (argD m c) _ (by blk_simp [index0 t]; dsimp only; omega) (by blk_simp [index0 t])

theorem block1 (t : Fin cfg0.N) (r n : Nat) (hr : r < 2048) (hn : n < 5632) :
    at2 (iblk m c 1 t : Vec Ideal S2048x5632 .bf16) r n = at2 (argW m c) r n := by
  rw [at2_of _ hr hn]
  exact at2_at (argW m c) _ (by blk_simp [index1 t]) (by blk_simp [index1 t])

theorem block2 (t : Fin cfg0.N) (r n : Nat) (hr : r < 256) (hn : n < 2048) :
    at2 (iblk m c 2 t : Vec Ideal S256x2048 .f32) r n = at2 (argP m c) (256 * t.val + r) n := by
  rw [at2_of _ hr hn]
  exact at2_at (argP m c) _ (by blk_simp [index2 t]; dsimp only; omega) (by blk_simp [index2 t])

theorem block3 (t : Fin cfg0.N) (r n : Nat) (hr : r < 256) (hn : n < 2048) :
    at2 (iblk m c 3 t : Vec Ideal S256x2048 .f32) r n = at2 (argX m c) (256 * t.val + r) n := by
  rw [at2_of _ hr hn]
  exact at2_at (argX m c) _ (by blk_simp [index3 t]; dsimp only; omega) (by blk_simp [index3 t])

theorem block4 (t : Fin cfg0.N) (n : Nat) (hn : n < 2048) :
    at2 (iblk m c 4 t : Vec Ideal S1x2048 .f32) 0 n = at2 (argG m c) 0 n := by
  rw [at2_of _ (show 0 < 1 by omega) hn]
  exact at2_at (argG m c) _ (by blk_simp [index4 t]; rfl) (by blk_simp [index4 t])

theorem block5 (t : Fin cfg0.N) (r n : Nat) (hr : r < 256) (hn : n < 2048) :
    at2 (iblk m c 5 t : Vec Ideal S256x2048 .f32) r n = at2 (argE m c) (256 * t.val + r) n := by
  rw [at2_of _ hr hn]
  exact at2_at (argE m c) _ (by blk_simp [index5 t]; dsimp only; omega) (by blk_simp [index5 t])

/-- The gradient at the norm's result, and the norm's factor of a row. -/
def dh (r n : Nat) : EReal := at2 (argP m c) r n + nt (argD m c) (argW m c) 5632 r n
def fac (r : Nat) : EReal := Norm.inv 2048 Norm.eps (fun k : Fin 2048 => at2 (argX m c) r k.val)

/-- The gradient in the rows, as the call computes it, with what comes past the norm. -/
def dx (r n : Nat) : EReal :=
  (if h : n < 2048 then Norm.grad 2048 Norm.eps (fun k : Fin 2048 => at2 (argX m c) r k.val) (fun k : Fin 2048 => dh m c r k.val * at2 (argG m c) 0 k.val) ⟨n, h⟩ else 0)
    + at2 (argE m c) r n

/-- The gradient in the gain over the first `K` rows. -/
def dg (K n : Nat) : EReal := ∑ k ∈ Finset.range K, dh m c k n * (at2 (argX m c) k n * fac m c k)

theorem dh_block (t : Fin cfg0.N) {r n : Nat} (hr : r < 256) (hn : n < 2048) :
    at2 (k0_pay4 (iblk m c 0 t) (iblk m c 1 t) (iblk m c 2 t)) r n = dh m c (256 * t.val + r) n := by
  rw [pay4_at _ _ _ hr hn, block2 m c t _ _ hr hn]
  unfold dh nt
  congr 1
  refine Finset.sum_congr rfl fun k hk => ?_
  have hk := Finset.mem_range.mp hk
  rw [block0 m c t _ _ hr hk, block1 m c t _ _ hn hk]

theorem row_block (t : Fin cfg0.N) {r : Nat} (hr : r < 256) :
    (fun k : Fin 2048 => at2 (iblk m c 3 t : Vec Ideal S256x2048 .f32) r k.val) = fun k : Fin 2048 => at2 (argX m c) (256 * t.val + r) k.val :=
  funext fun k => block3 m c t r _ hr k.isLt

theorem dx_block (t : Fin cfg0.N) {r n : Nat} (hr : r < 256) (hn : n < 2048) :
    at2 (k0_pay8 (iblk m c 0 t) (iblk m c 1 t) (iblk m c 2 t) (iblk m c 3 t) (iblk m c 4 t) (iblk m c 5 t)) r n = dx m c (256 * t.val + r) n := by
  rw [pay8_at _ _ _ _ _ _ hr hn, row_block m c t hr, block5 m c t _ _ hr hn]
  unfold dx
  rw [dif_pos hn]
  congr 2
  exact funext fun k => by rw [dh_block m c t hr k.isLt, block4 m c t _ k.isLt]

theorem dg_block (t : Fin cfg0.N) {n : Nat} (hn : n < 2048) :
    dg m c (256 * t.val) n + at2 (k0_pay7 (iblk m c 0 t) (iblk m c 1 t) (iblk m c 2 t) (iblk m c 3 t)) 0 n = dg m c (256 * (t.val + 1)) n := by
  rw [pay7_at _ _ _ _ hn]
  unfold dg
  rw [Nat.mul_succ, Finset.sum_range_add]
  congr 1
  refine Finset.sum_congr rfl fun k hk => ?_
  have hk := Finset.mem_range.mp hk
  rw [dh_block m c t hk hn, pay6_at _ hk hn, row_block m c t hk, block3 m c t _ _ hk hn]
  rfl

/-- The gain's gradient after each point. -/
theorem dg_after {n : Nat} (hn : n < 2048) : ∀ (q : Nat) (t : Fin cfg0.N), t.val = q →
    at2 (outsAt0 m c t.val t.isLt).2.2 0 n = dg m c (256 * (t.val + 1)) n := by
  intro q
  induction q with
  | zero =>
    intro t h
    rw [outsAt0_A m c t (by omega), ← dg_block m c t hn]
    dsimp only
    rw [first_dg, pay2_at _ _ hn, zero_at hn, h]
    unfold dg
    simp only [Nat.mul_zero, Finset.range_zero, Finset.sum_empty]
  | succ q ih =>
    intro t h
    have ht : t.val < 32 := lt_of_lt_of_eq t.isLt N_0
    rw [outsAt0_B m c t (by omega), ← dg_block m c t hn]
    dsimp only
    rw [next_dg, pay2_at _ _ hn]
    have ha := ih ⟨t.val - 1, Nat.lt_of_le_of_lt (Nat.sub_le _ _) t.isLt⟩ (show t.val - 1 = q by omega)
    dsimp only at ha
    rw [ha, show t.val - 1 + 1 = t.val by omega]

theorem dx_after (t : Fin cfg0.N) :
    (outsAt0 m c t.val t.isLt).1 = k0_pay8 (iblk m c 0 t) (iblk m c 1 t) (iblk m c 2 t) (iblk m c 3 t) (iblk m c 4 t) (iblk m c 5 t) := by
  by_cases h : t.val % 32 = 0
  · rw [outsAt0_A m c t h]; dsimp only; rw [first_dx]
  · rw [outsAt0_B m c t h]; dsimp only; rw [next_dx]

theorem copy_after (t : Fin cfg0.N) :
    (outsAt0 m c t.val t.isLt).2.1 = k0_pay1 (k0_pay8 (iblk m c 0 t) (iblk m c 1 t) (iblk m c 2 t) (iblk m c 3 t) (iblk m c 4 t) (iblk m c 5 t)) := by
  by_cases h : t.val % 32 = 0
  · rw [outsAt0_A m c t h]; dsimp only; rw [first_copy]
  · rw [outsAt0_B m c t h]; dsimp only; rw [next_copy]

/-- The results. -/
def DX : S8192x2048.Idx → EReal := fun y => dx m c (y 0).val (y 1).val
def DG : S1x2048.Idx → EReal := fun y => dg m c 8192 (y 1).val

theorem written (t : Fin cfg0.N) (y : S256x2048.Idx) (z : S8192x2048.Idx)
    (e0 : (z 0).val = 256 * t.val + (y 0).val) (e1 : (z 1).val = (y 1).val) :
    k0_pay8 (iblk m c 0 t) (iblk m c 1 t) (iblk m c 2 t) (iblk m c 3 t) (iblk m c 4 t) (iblk m c 5 t) y = DX m c z := by
  unfold DX
  rw [e0, e1]
  exact (at2_idx (R := 256) (C := 2048) _ y).trans (dx_block m c t (y 0).isLt (y 1).isLt)

theorem final6 : (dats m 0 c).arrAt 6 cfg0.N = DX m c := by
  refine (dats m 0 c).arrAt_eq_of_covers 6 _ (by decide +kernel) fun t hf y => ?_
  blk_simp
  rw [after0_6, dx_after m c t]
  exact written m c t y _ (by blk_simp [index6 t]; omega) (by blk_simp [index6 t])

theorem final7 : (dats m 0 c).arrAt 7 cfg0.N = DX m c := by
  refine (dats m 0 c).arrAt_eq_of_covers 7 _ (by decide +kernel) fun t hf y => ?_
  blk_simp
  rw [after0_7, copy_after m c t, pay1_eq]
  exact written m c t y _ (by blk_simp [index7 t]; omega) (by blk_simp [index7 t])

theorem final8 : (dats m 0 c).arrAt 8 cfg0.N = DG m c := by
  refine (dats m 0 c).arrAt_eq_of_covers 8 _ (by decide +kernel) fun t hf y => ?_
  blk_simp
  rw [after0_8]
  have ht : t.val < 32 := lt_of_lt_of_eq t.isLt N_0
  have hl := (flush0_8 t).mp hf
  have e1 : ((win0_8.blk t).view.emb y 1).val = (y 1).val := by blk_simp [index8 t]
  unfold DG
  rw [e1]
  refine (at2_idx (R := 1) (C := 2048) _ y).trans ?_
  rw [show (y 0).val = 0 from Nat.lt_one_iff.mp (y 0).isLt, dg_after m c (y 1).isLt _ t rfl, show 256 * (t.val + 1) = 8192 by omega]

end Cert.UpDxRmsIdeal.Val

namespace Cert.UpDxRmsRefIdeal.Val

open Cert.UpDxRmsRefIdeal Cert.UpDxRmsRefIdeal.Gen Facts

variable (D : FVec Ideal S8192x5632 .bf16) (W : FVec Ideal S2048x5632 .bf16) (P X E Z : FVec Ideal S8192x2048 .f32) (G : FVec Ideal S1x2048 .f32)

/-- The gradient at the norm's result. -/
def dhs : FVec Ideal S8192x2048 .f32 :=
  addf P (Host.dotGeneral dot_S8192x5632_S2048x5632_S8192x2048_1_1_0_0_n_n none (extf .f32 D bitsLt_bf16_f32) (extf .f32 W bitsLt_bf16_f32))

/-- The mean squares. -/
def means : FVec Ideal S8192x1 .f32 :=
  addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

/-- The gradients of the mean squares, along the rows. -/
def slopes : FVec Ideal S8192x2048 .f32 :=
  broadcastInDim S8192x2048 ![0] bcast_S8192_S8192x2048_0 (Host.reduceAdd (Host.divf (mulf (shapeCast _ (Host.reduceAdd (mulf X (mulf Z (broadcastInDim S8192x2048 ![0, 1] bcast_S1x2048_S8192x2048_0_1 G))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (means X)) (means X)))) (broadcastInDim S8192x1 ![] bcast_S_S8192x1 (constant S_ .f32 0x45000000#32))) (constant S_ .f32 0x00000000#32) reducesTo_S8192x1_S8192_d1 h_S_)

def dxs : FVec Ideal S8192x2048 .f32 :=
  addf (addf (addf E (mulf (mulf Z (broadcastInDim S8192x2048 ![0, 1] bcast_S1x2048_S8192x2048_0_1 G)) (broadcastInDim S8192x2048 ![0, 1] bcast_S8192x1_S8192x2048_0_1 (Host.rsqrt (means X))))) (mulf X (slopes X Z G))) (mulf (slopes X Z G) X)

def dgs : FVec Ideal S1x2048 .f32 :=
  shapeCast _ (Host.reduceAdd (mulf (mulf X (broadcastInDim S8192x2048 ![0, 1] bcast_S8192x1_S8192x2048_0_1 (Host.rsqrt (means X)))) Z) (constant S_ .f32 0x00000000#32) reducesTo_S8192x2048_S2048_d0 h_S_) shapeCasts_S2048_S1x2048

theorem dhs_at {r n : Nat} (hr : r < 8192) (hn : n < 2048) : at2 (dhs D W P) r n = at2 P r n + nt D W 5632 r n := by
  rw [at2_of _ hr hn, at2_of _ hr hn, nt_eq D W hr hn rfl rfl]
  unfold dhs
  pointwise

theorem means_at {r : Nat} (hr : r < 8192) : at2 (means X) r 0 = Norm.mean 2048 Norm.eps (fun k : Fin 2048 => at2 X r k.val) := by
  rw [at2_of _ hr (show 0 < 1 by omega)]
  unfold means Norm.mean
  simp only [at2_of X hr (Fin.isLt _)]
  pointwise
  rw [Norm.lit2048, Norm.eps_eq]

theorem slopes_at {r n : Nat} (hr : r < 8192) (hn : n < 2048) :
    at2 (slopes X Z G) r n = Norm.slope 2048 Norm.eps (fun k : Fin 2048 => at2 X r k.val) (fun k : Fin 2048 => at2 Z r k.val * at2 G 0 k.val) := by
  unfold Norm.slope Norm.inv
  rw [← means_at X hr, at2_of _ hr hn, at2_of (means X) hr (show 0 < 1 by omega)]
  simp only [at2_of X hr (Fin.isLt _), at2_of Z hr (Fin.isLt _), at2_of G (show 0 < 1 by omega) (Fin.isLt _)]
  unfold slopes
  generalize means X = v
  pointwise
  rw [Norm.lit2048, Norm.litHalf]
  exact Fin.sum_univ_one _

theorem dxs_at {r n : Nat} (hr : r < 8192) (hn : n < 2048) :
    at2 (dxs X E Z G) r n = Norm.grad 2048 Norm.eps (fun k : Fin 2048 => at2 X r k.val) (fun k : Fin 2048 => at2 Z r k.val * at2 G 0 k.val) ⟨n, hn⟩ + at2 E r n := by
  rw [Norm.grad_eq _ _ _ _ (by norm_num) Norm.eps_pos, ← slopes_at X Z G hr hn]
  unfold Norm.inv
  rw [← means_at X hr, at2_of _ hr hn, at2_of (means X) hr (show 0 < 1 by omega)]
  simp only [at2_of (slopes X Z G) hr hn, at2_of X hr hn, at2_of Z hr hn, at2_of E hr hn, at2_of G (show 0 < 1 by omega) hn]
  unfold dxs
  generalize slopes X Z G = s
  generalize means X = v
  pointwise
  ac_rfl

theorem dgs_at {n : Nat} (hn : n < 2048) :
    at2 (dgs X Z) 0 n = ∑ k ∈ Finset.range 8192, at2 Z k n * (at2 X k n * Norm.inv 2048 Norm.eps (fun j : Fin 2048 => at2 X k j.val)) := by
  rw [Finset.sum_range, at2_of _ (show 0 < 1 by omega) hn]
  unfold Norm.inv
  simp only [← means_at X (Fin.isLt _), at2_of (means X) (Fin.isLt _) (show 0 < 1 by omega), at2_of X (Fin.isLt _) hn, at2_of Z (Fin.isLt _) hn]
  unfold dgs
  generalize means X = v
  pointwise
  exact Finset.sum_congr rfl fun k _ => by ac_rfl

theorem frame : Cert.quiescent_UpDxRmsRefIdeal := fun m ρ _ =>
  (θ_run Cert.UpDxRmsRefIdeal.defs _ _).mono
    (fun r h => ⟨fun c => (h c).2.2.2, Idealize.ShloMosaic.sem_eq_zero_of_no_sems (by decide) r.2⟩)
    (Cert.UpDxRmsRefIdeal.Value.run (F := Ideal) m ρ)

end Cert.UpDxRmsRefIdeal.Val

namespace Cert.UpDxRmsMain

open Cert.UpDxRmsRefIdeal.Val Cert.UpDxRmsIdeal.Val

variable (m : (ℓ : Loc Cert.UpDxRmsIdeal.nD Cert.UpDxRmsIdeal.τ Cert.UpDxRmsIdeal.sig) → Buf (Elt Ideal) ℓ) (c : Dev Cert.UpDxRmsIdeal.nD)

theorem dx_eq : dxs (argX m c) (argE m c) (dhs (argD m c) (argW m c) (argP m c)) (argG m c) = DX m c :=
  whole (R := 8192) (C := 2048) _ (dx m c) fun r n hr hn => by
    rw [dxs_at _ _ _ _ hr hn]
    unfold dx
    rw [dif_pos hn]
    congr 2
    exact funext fun k => by rw [dhs_at _ _ _ hr k.isLt]; rfl

theorem dg_eq : dgs (argX m c) (dhs (argD m c) (argW m c) (argP m c)) = DG m c :=
  whole (R := 1) (C := 2048) _ (fun _ n => dg m c 8192 n) fun r n hr hn => by
    rw [show r = 0 by omega, dgs_at _ _ hn]
    unfold Cert.UpDxRmsIdeal.Val.dg
    exact Finset.sum_congr rfl fun k hk => by rw [dhs_at _ _ _ (Finset.mem_range.mp hk) hn]; rfl

theorem algebraic : Cert.algebraic_UpDxRmsIdeal_UpDxRmsRefIdeal := by
  intro m ρ m' ρ' _ hagree
  refine ⟨fun c => DX m c, fun c => DX m c, fun c => DG m c, ?_, ?_⟩
  · exact (θ_run Cert.UpDxRmsIdeal.defs _ _).mono
      (fun r h c => ⟨(h c).1.trans (final6 m c), (h c).2.1.trans (final7 m c), (h c).2.2.1.trans (final8 m c), (h c).2.2.2⟩)
      (Cert.UpDxRmsIdeal.Value.run_blocks (F := Ideal) m ρ)
  · refine (θ_run Cert.UpDxRmsRefIdeal.defs _ _).mono
      (fun r h c => ⟨(h c).1.trans ?_, (h c).2.1.trans ?_, (h c).2.2.1.trans ?_, (h c).2.2.2⟩)
      (Cert.UpDxRmsRefIdeal.Value.run (F := Ideal) m' ρ')
    · unfold Cert.UpDxRmsRefIdeal.Value.res_main_v39
      rw [(hagree c).1, (hagree c).2.1, (hagree c).2.2.1, (hagree c).2.2.2.1, (hagree c).2.2.2.2.1, (hagree c).2.2.2.2.2]
      exact dx_eq m c
    · unfold Cert.UpDxRmsRefIdeal.Value.res_main_v40
      rw [(hagree c).1, (hagree c).2.1, (hagree c).2.2.1, (hagree c).2.2.2.1, (hagree c).2.2.2.2.1, (hagree c).2.2.2.2.2]
      exact dx_eq m c
    · rw [(hagree c).1, (hagree c).2.1, (hagree c).2.2.1, (hagree c).2.2.2.1]
      exact dg_eq m c

end Cert.UpDxRmsMain

end
-- ==== Proof.LatBwd.lean ====
/- The gradients of the two norms over the latent columns. -/
module

public import proofs.«01_k».proof.Defs
public import proofs.«01_k».proof.Proof.Gen.LatBwdIdeal.Value
public import proofs.«01_k».proof.Proof.Gen.LatBwdRefIdeal.Run
public import proofs.«01_k».proof.Proof.ProdSpec
public import proofs.«01_k».proof.Proof.NormSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.LatBwdIdeal.Val

open Cert.LatBwdIdeal Cert.LatBwdIdeal.Gen

theorem hz : (![0, 0] : Fin 2 → Nat) = fun _ => 0 := funext fun a => by fin_cases a <;> rfl

section Body
variable (c : Dev nD) (i : grid0.Coords)
  (arg1 : Memref sig .tc .vmem S512x512 .f32) (harg1 : arg1.IsWhole)
  (arg2 : Memref sig .tc .vmem S512x256 .f32) (harg2 : arg2.IsWhole)
  (arg3 : Memref sig .tc .vmem S1x512 .f32) (harg3 : arg3.IsWhole)
  (arg4 : Memref sig .tc .vmem S1x256 .f32) (harg4 : arg4.IsWhole)
  (arg5 : Memref sig .tc .vmem S512x512 .f32) (harg5 : arg5.IsWhole)
  (arg6 : Memref sig .tc .vmem S512x256 .f32) (harg6 : arg6.IsWhole)
  (arg7 : Memref sig .tc .vmem S512x512 .bf16) (harg7 : arg7.IsWhole)
  (arg8 : Memref sig .tc .vmem S512x256 .bf16) (harg8 : arg8.IsWhole)
  (arg9 : Memref sig .tc .vmem S1x512 .f32) (harg9 : arg9.IsWhole)
  (arg10 : Memref sig .tc .vmem S1x256 .f32) (harg10 : arg10.IsWhole)
  (x0 : Vec Ideal S512x512 .f32) (x1 : Vec Ideal S512x256 .f32) (x2 : Vec Ideal S1x512 .f32) (x3 : Vec Ideal S1x256 .f32)
  (x4 : Vec Ideal S512x512 .f32) (x5 : Vec Ideal S512x256 .f32) (acq : Vec Ideal S1x512 .f32) (ack : Vec Ideal S1x256 .f32)

theorem first_q (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5 = k0_pay9 x0 x4 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x512) hz, View.ld_unit_zero (S := S512x256) hz, View.ld_unit_zero (S := S1x512) hz, View.ld_unit_zero (S := S1x256) hz]

theorem first_k (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 = k0_pay3 x1 x5 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x512) hz, View.ld_unit_zero (S := S512x256) hz, View.ld_unit_zero (S := S1x512) hz, View.ld_unit_zero (S := S1x256) hz]

theorem first_gq (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 = k0_pay10 x0 x4 (k0_pay5 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero hz]
  simp only [View.readAt_eq_ld, harg1.read_unread, harg2.read_unread, harg3.read_unread, harg4.read_unread, harg5.read_unread, harg6.read_unread,
    View.ld_unit_zero (S := S512x512) hz, View.ld_unit_zero (S := S512x256) hz, View.ld_unit_zero (S := S1x512) hz, View.ld_unit_zero (S := S1x256) hz]
  exact congrArg (k0_pay10 _ _) (View.readCov_cons_toLoadRect _ _ _ _)

theorem first_gk (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5 = k0_pay4 x1 x5 (k0_pay6 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero hz]
  simp only [View.readAt_eq_ld, harg1.read_unread, harg2.read_unread, harg3.read_unread, harg4.read_unread, harg5.read_unread, harg6.read_unread,
    View.ld_unit_zero (S := S512x512) hz, View.ld_unit_zero (S := S512x256) hz, View.ld_unit_zero (S := S1x512) hz, View.ld_unit_zero (S := S1x256) hz]
  exact congrArg (k0_pay4 _ _) (View.readCov_cons_toLoadRect _ _ _ _)

theorem next_q (hc0 : ¬cond0_0 i) :
    out0_B_6 c i arg1 harg1 arg2 harg2 arg3 harg3 arg4 harg4 arg5 harg5 arg6 harg6 arg7 harg7 arg8 harg8 arg9 harg9 arg10 harg10 hc0 x0 x1 x2 x3 x4 x5 acq ack = k0_pay9 x0 x4 x2 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 acq ack)]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x512) hz, View.ld_unit_zero (S := S512x256) hz, View.ld_unit_zero (S := S1x512) hz, View.ld_unit_zero (S := S1x256) hz]

theorem next_k (hc0 : ¬cond0_0 i) :
    out0_B_7 c i arg1 harg1 arg2 harg2 arg3 harg3 arg4 harg4 arg5 harg5 arg6 harg6 arg7 harg7 arg8 harg8 arg9 harg9 arg10 harg10 hc0 x0 x1 x2 x3 x4 x5 acq ack = k0_pay3 x1 x5 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 acq ack)]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x512) hz, View.ld_unit_zero (S := S512x256) hz, View.ld_unit_zero (S := S1x512) hz, View.ld_unit_zero (S := S1x256) hz]

theorem next_gq (hc0 : ¬cond0_0 i) :
    out0_B_8 c i arg1 harg1 arg2 harg2 arg3 harg3 arg4 harg4 arg5 harg5 arg6 harg6 arg7 harg7 arg8 harg8 arg9 harg9 arg10 harg10 hc0 x0 x1 x2 x3 x4 x5 acq ack = k0_pay10 x0 x4 acq := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 acq ack)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread,
    View.ld_unit_zero (S := S512x512) hz, View.ld_unit_zero (S := S512x256) hz, View.ld_unit_zero (S := S1x512) hz, View.ld_unit_zero (S := S1x256) hz]

theorem next_gk (hc0 : ¬cond0_0 i) :
    out0_B_9 c i arg1 harg1 arg2 harg2 arg3 harg3 arg4 harg4 arg5 harg5 arg6 harg6 arg7 harg7 arg8 harg8 arg9 harg9 arg10 harg10 hc0 x0 x1 x2 x3 x4 x5 acq ack = k0_pay4 x1 x5 ack := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 acq ack)]
  unfold kernelRun0_B
  dsimp only
  sl_unfold_words
  rw [View.canon_unit_zero hz]
  simp only [View.readAt_eq_ld, harg1.read_unread, harg2.read_unread, harg3.read_unread, harg4.read_unread, harg5.read_unread, harg6.read_unread, harg10.read_unread,
    View.ld_unit_zero (S := S512x512) hz, View.ld_unit_zero (S := S512x256) hz, View.ld_unit_zero (S := S1x512) hz, View.ld_unit_zero (S := S1x256) hz]

theorem invq_at {r : Nat} (hr : r < 512) : at2 (k0_pay7 x0) r 0 = Norm.inv 512 Norm.eps (fun k : Fin 512 => at2 x0 r k.val) := by
  rw [at2_of _ hr (show 0 < 1 by omega)]
  unfold k0_pay7 Norm.inv Norm.mean
  simp only [at2_of x0 hr (Fin.isLt _)]
  pointwise
  rw [Norm.lit512, Norm.eps_eq]

theorem hatq_at {r n : Nat} (hr : r < 512) (hn : n < 512) :
    at2 (k0_pay8 x0) r n = at2 x0 r n * Norm.inv 512 Norm.eps (fun k : Fin 512 => at2 x0 r k.val) := by
  rw [← invq_at x0 hr, at2_of _ hr hn, at2_of _ hr hn, at2_of (k0_pay7 x0) hr (show 0 < 1 by omega)]
  unfold k0_pay8
  generalize k0_pay7 x0 = q
  pointwise

theorem outq_at {r n : Nat} (hr : r < 512) (hn : n < 512) :
    at2 (k0_pay9 x0 x4 x2) r n
      = Norm.grad 512 Norm.eps (fun k : Fin 512 => at2 x0 r k.val) (fun k : Fin 512 => at2 x4 r k.val * at2 x2 0 k.val) ⟨n, hn⟩ := by
  unfold Norm.grad
  dsimp only
  simp only [← hatq_at x0 hr hn, ← hatq_at x0 hr (Fin.isLt _)]
  rw [← invq_at x0 hr, at2_of _ hr hn]
  simp only [at2_of x4 hr (Fin.isLt _), at2_of x4 hr hn, at2_of (k0_pay8 x0) hr (Fin.isLt _), at2_of (k0_pay8 x0) hr hn,
    at2_of x2 (show 0 < 1 by omega) (Fin.isLt _), at2_of x2 (show 0 < 1 by omega) hn, at2_of (k0_pay7 x0) hr (show 0 < 1 by omega)]
  unfold k0_pay9
  generalize k0_pay8 x0 = q
  generalize k0_pay7 x0 = w
  pointwise
  rw [Norm.lit512]

theorem gainq_at {n : Nat} (hn : n < 512) :
    at2 (k0_pay10 x0 x4 acq) 0 n = at2 acq 0 n
      + ∑ k ∈ Finset.range 512, at2 x4 k n * (at2 x0 k n * Norm.inv 512 Norm.eps (fun j : Fin 512 => at2 x0 k j.val)) := by
  rw [Finset.sum_range, at2_of _ (show 0 < 1 by omega) hn, at2_of acq (show 0 < 1 by omega) hn]
  simp only [← hatq_at x0 (Fin.isLt _) hn]
  simp only [at2_of x4 (Fin.isLt _) hn, at2_of (k0_pay8 x0) (Fin.isLt _) hn]
  unfold k0_pay10
  generalize k0_pay8 x0 = q
  pointwise

theorem zeroq_at {n : Nat} (hn : n < 512) : at2 (k0_pay5 (F := Ideal)) 0 n = 0 := by
  rw [at2_of _ (show 0 < 1 by omega) hn]
  unfold k0_pay5
  pointwise

theorem invk_at {r : Nat} (hr : r < 512) : at2 (k0_pay1 x1) r 0 = Norm.inv 256 Norm.eps (fun k : Fin 256 => at2 x1 r k.val) := by
  rw [at2_of _ hr (show 0 < 1 by omega)]
  unfold k0_pay1 Norm.inv Norm.mean
  simp only [at2_of x1 hr (Fin.isLt _)]
  pointwise
  rw [Norm.lit256, Norm.eps_eq]

theorem hatk_at {r n : Nat} (hr : r < 512) (hn : n < 256) :
    at2 (k0_pay2 x1) r n = at2 x1 r n * Norm.inv 256 Norm.eps (fun k : Fin 256 => at2 x1 r k.val) := by
  rw [← invk_at x1 hr, at2_of _ hr hn, at2_of _ hr hn, at2_of (k0_pay1 x1) hr (show 0 < 1 by omega)]
  unfold k0_pay2
  generalize k0_pay1 x1 = q
  pointwise

theorem outk_at {r n : Nat} (hr : r < 512) (hn : n < 256) :
    at2 (k0_pay3 x1 x5 x3) r n
      = Norm.grad 256 Norm.eps (fun k : Fin 256 => at2 x1 r k.val) (fun k : Fin 256 => at2 x5 r k.val * at2 x3 0 k.val) ⟨n, hn⟩ := by
  unfold Norm.grad
  dsimp only
  simp only [← hatk_at x1 hr hn, ← hatk_at x1 hr (Fin.isLt _)]
  rw [← invk_at x1 hr, at2_of _ hr hn]
  simp only [at2_of x5 hr (Fin.isLt _), at2_of x5 hr hn, at2_of (k0_pay2 x1) hr (Fin.isLt _), at2_of (k0_pay2 x1) hr hn,
    at2_of x3 (show 0 < 1 by omega) (Fin.isLt _), at2_of x3 (show 0 < 1 by omega) hn, at2_of (k0_pay1 x1) hr (show 0 < 1 by omega)]
  unfold k0_pay3
  generalize k0_pay2 x1 = q
  generalize k0_pay1 x1 = w
  pointwise
  rw [Norm.lit256]

theorem gaink_at {n : Nat} (hn : n < 256) :
    at2 (k0_pay4 x1 x5 ack) 0 n = at2 ack 0 n
      + ∑ k ∈ Finset.range 512, at2 x5 k n * (at2 x1 k n * Norm.inv 256 Norm.eps (fun j : Fin 256 => at2 x1 k j.val)) := by
  rw [Finset.sum_range, at2_of _ (show 0 < 1 by omega) hn, at2_of ack (show 0 < 1 by omega) hn]
  simp only [← hatk_at x1 (Fin.isLt _) hn]
  simp only [at2_of x5 (Fin.isLt _) hn, at2_of (k0_pay2 x1) (Fin.isLt _) hn]
  unfold k0_pay4
  generalize k0_pay2 x1 = q
  pointwise

theorem zerok_at {n : Nat} (hn : n < 256) : at2 (k0_pay6 (F := Ideal)) 0 n = 0 := by
  rw [at2_of _ (show 0 < 1 by omega) hn]
  unfold k0_pay6
  pointwise

end Body

variable (m : (ℓ : Loc nD τ sig) → Buf (Elt Ideal) ℓ) (c : Dev nD)

def argZ : (⟨2, ![8192, 1920]⟩ : Shape).Idx → EReal := m ((c.tc : Thread nD τ).loc main_arg0)
def gainq : (⟨2, ![1, 512]⟩ : Shape).Idx → EReal := m ((c.tc : Thread nD τ).loc main_arg1)
def gaink : (⟨2, ![1, 256]⟩ : Shape).Idx → EReal := m ((c.tc : Thread nD τ).loc main_arg2)
def ctq : (⟨2, ![8192, 512]⟩ : Shape).Idx → EReal := m ((c.tc : Thread nD τ).loc main_arg3)
def ctk : (⟨2, ![8192, 256]⟩ : Shape).Idx → EReal := m ((c.tc : Thread nD τ).loc main_arg4)

theorem index0 : ∀ t : Fin cfg0.N, win0_0.index t = ![t.val, 1] := (by decide +kernel : ∀ t : Fin grid0.N, _)
theorem index1 : ∀ t : Fin cfg0.N, win0_1.index t = ![t.val, 6] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)

theorem rowsq_block (t : Fin cfg0.N) (r n : Nat) (hr : r < 512) (hn : n < 512) :
    at2 (X0_0 m c t : Vec Ideal S512x512 .f32) r n = at2 (argZ m c) (512 * t.val + r) (512 + n) := by
  rw [at2_of _ hr hn]
  unfold X0_0 Pipeline.Window.fill
  rw [dif_pos (moved0_0 t _)]
  exact at2_at (argZ m c) _ (by blk_simp [index0 t]; dsimp only; omega) (by blk_simp [index0 t])

theorem gainq_block (t : Fin cfg0.N) (n : Nat) (hn : n < 512) :
    at2 (iblk m c 2 t : Vec Ideal S1x512 .f32) 0 n = at2 (gainq m c) 0 n := by
  rw [at2_of _ (show 0 < 1 by omega) hn]
  exact at2_at (gainq m c) _ (by blk_simp [index2 t]; rfl) (by blk_simp [index2 t])

theorem ctq_block (t : Fin cfg0.N) (r n : Nat) (hr : r < 512) (hn : n < 512) :
    at2 (iblk m c 4 t : Vec Ideal S512x512 .f32) r n = at2 (ctq m c) (512 * t.val + r) n := by
  rw [at2_of _ hr hn]
  exact at2_at (ctq m c) _ (by blk_simp [index4 t]; dsimp only; omega) (by blk_simp [index4 t])

/-- The columns of one of the norms, a row of them; the gradient in them; and the gain's gradient over the first `K` rows. -/
def rowq (r : Nat) : Fin 512 → EReal := fun k => at2 (argZ m c) r (512 + k.val)
def gradq (r : Nat) (n : Fin 512) : EReal := Norm.grad 512 Norm.eps (rowq m c r) (fun k : Fin 512 => at2 (ctq m c) r k.val * at2 (gainq m c) 0 k.val) n
def sumq (K n : Nat) : EReal := ∑ k ∈ Finset.range K, at2 (ctq m c) k n * (at2 (argZ m c) k (512 + n) * Norm.inv 512 Norm.eps (rowq m c k))

theorem rowq_block (t : Fin cfg0.N) {r : Nat} (hr : r < 512) :
    (fun k : Fin 512 => at2 (X0_0 m c t : Vec Ideal S512x512 .f32) r k.val) = rowq m c (512 * t.val + r) :=
  funext fun k => rowsq_block m c t r _ hr k.isLt

theorem gradq_block (t : Fin cfg0.N) {r n : Nat} (hr : r < 512) (hn : n < 512) :
    at2 (k0_pay9 (X0_0 m c t) (iblk m c 4 t) (iblk m c 2 t)) r n = gradq m c (512 * t.val + r) ⟨n, hn⟩ := by
  rw [outq_at _ _ _ hr hn, rowq_block m c t hr]
  unfold gradq
  congr 1
  exact funext fun k => by rw [ctq_block m c t _ _ hr k.isLt, gainq_block m c t _ k.isLt]

theorem sumq_block (t : Fin cfg0.N) (ac : Vec Ideal S1x512 .f32) {n : Nat} (hn : n < 512) (h : at2 ac 0 n = sumq m c (512 * t.val) n) :
    at2 (k0_pay10 (X0_0 m c t) (iblk m c 4 t) ac) 0 n = sumq m c (512 * (t.val + 1)) n := by
  rw [gainq_at _ _ _ hn, h]
  unfold sumq
  rw [Nat.mul_succ, Finset.sum_range_add]
  congr 1
  refine Finset.sum_congr rfl fun k hk => ?_
  have hk := Finset.mem_range.mp hk
  rw [ctq_block m c t _ _ hk hn, rowsq_block m c t _ _ hk hn, rowq_block m c t hk]

/-- The gain's gradient after each point. -/
theorem sumq_after {n : Nat} (hn : n < 512) : ∀ (q : Nat) (t : Fin cfg0.N), t.val = q →
    at2 (outsAt0 m c t.val t.isLt).2.2.1 0 n = sumq m c (512 * (t.val + 1)) n := by
  intro q
  induction q with
  | zero =>
    intro t h
    rw [outsAt0_A m c t (by omega)]
    dsimp only
    rw [first_gq, sumq_block m c t _ hn]
    rw [zeroq_at hn, h]
    unfold sumq
    simp only [Nat.mul_zero, Finset.range_zero, Finset.sum_empty]
  | succ q ih =>
    intro t h
    have ht : t.val < 16 := lt_of_lt_of_eq t.isLt N_0
    rw [outsAt0_B m c t (by omega)]
    dsimp only
    rw [next_gq, sumq_block m c t _ hn]
    have ha := ih ⟨t.val - 1, Nat.lt_of_le_of_lt (Nat.sub_le _ _) t.isLt⟩ (show t.val - 1 = q by omega)
    dsimp only at ha
    rw [ha, show t.val - 1 + 1 = t.val by omega]

theorem gradq_after (t : Fin cfg0.N) : (outsAt0 m c t.val t.isLt).1 = k0_pay9 (X0_0 m c t) (iblk m c 4 t) (iblk m c 2 t) := by
  by_cases h : t.val % 16 = 0
  · rw [outsAt0_A m c t h]; dsimp only; rw [first_q]
  · rw [outsAt0_B m c t h]; dsimp only; rw [next_q]

/-- The results. -/
def Dq : S8192x512.Idx → EReal := fun y => gradq m c (y 0).val (y 1)
def Gq : S1x512.Idx → EReal := fun y => sumq m c 8192 (y 1).val

theorem final6 : (dats m 0 c).arrAt 6 cfg0.N = Dq m c := by
  refine (dats m 0 c).arrAt_eq_of_covers 6 _ (by decide +kernel) fun t hf y => ?_
  blk_simp
  rw [after0_6, gradq_after m c t]
  have e0 : ((win0_6.blk t).view.emb y 0).val = 512 * t.val + (y 0).val := by blk_simp [index6 t]; omega
  have e1 : (win0_6.blk t).view.emb y 1 = ⟨(y 1).val, (y 1).isLt⟩ := Fin.ext (by blk_simp [index6 t])
  unfold Dq
  rw [e0, e1]
  exact (at2_idx (R := 512) (C := 512) _ y).trans (gradq_block m c t (y 0).isLt (y 1).isLt)

theorem final8 : (dats m 0 c).arrAt 8 cfg0.N = Gq m c := by
  refine (dats m 0 c).arrAt_eq_of_covers 8 _ (by decide +kernel) fun t hf y => ?_
  blk_simp
  rw [after0_8]
  have ht : t.val < 16 := lt_of_lt_of_eq t.isLt N_0
  have hl := (flush0_8 t).mp hf
  have e1 : ((win0_8.blk t).view.emb y 1).val = (y 1).val := by blk_simp [index8 t]
  unfold Gq
  rw [e1]
  refine (at2_idx (R := 1) (C := 512) _ y).trans ?_
  rw [show (y 0).val = 0 from Nat.lt_one_iff.mp (y 0).isLt, sumq_after m c (y 1).isLt _ t rfl, show 512 * (t.val + 1) = 8192 by omega]

theorem rowsk_block (t : Fin cfg0.N) (r n : Nat) (hr : r < 512) (hn : n < 256) :
    at2 (X0_1 m c t : Vec Ideal S512x256 .f32) r n = at2 (argZ m c) (512 * t.val + r) (1536 + n) := by
  rw [at2_of _ hr hn]
  unfold X0_1 Pipeline.Window.fill
  rw [dif_pos (moved0_1 t _)]
  exact at2_at (argZ m c) _ (by blk_simp [index1 t]; dsimp only; omega) (by blk_simp [index1 t])

theorem gaink_block (t : Fin cfg0.N) (n : Nat) (hn : n < 256) :
    at2 (iblk m c 3 t : Vec Ideal S1x256 .f32) 0 n = at2 (gaink m c) 0 n := by
  rw [at2_of _ (show 0 < 1 by omega) hn]
  exact at2_at (gaink m c) _ (by blk_simp [index3 t]; rfl) (by blk_simp [index3 t])

theorem ctk_block (t : Fin cfg0.N) (r n : Nat) (hr : r < 512) (hn : n < 256) :
    at2 (iblk m c 5 t : Vec Ideal S512x256 .f32) r n = at2 (ctk m c) (512 * t.val + r) n := by
  rw [at2_of _ hr hn]
  exact at2_at (ctk m c) _ (by blk_simp [index5 t]; dsimp only; omega) (by blk_simp [index5 t])

/-- The columns of one of the norms, a row of them; the gradient in them; and the gain's gradient over the first `K` rows. -/
def rowk (r : Nat) : Fin 256 → EReal := fun k => at2 (argZ m c) r (1536 + k.val)
def gradk (r : Nat) (n : Fin 256) : EReal := Norm.grad 256 Norm.eps (rowk m c r) (fun k : Fin 256 => at2 (ctk m c) r k.val * at2 (gaink m c) 0 k.val) n
def sumk (K n : Nat) : EReal := ∑ k ∈ Finset.range K, at2 (ctk m c) k n * (at2 (argZ m c) k (1536 + n) * Norm.inv 256 Norm.eps (rowk m c k))

theorem rowk_block (t : Fin cfg0.N) {r : Nat} (hr : r < 512) :
    (fun k : Fin 256 => at2 (X0_1 m c t : Vec Ideal S512x256 .f32) r k.val) = rowk m c (512 * t.val + r) :=
  funext fun k => rowsk_block m c t r _ hr k.isLt

theorem gradk_block (t : Fin cfg0.N) {r n : Nat} (hr : r < 512) (hn : n < 256) :
    at2 (k0_pay3 (X0_1 m c t) (iblk m c 5 t) (iblk m c 3 t)) r n = gradk m c (512 * t.val + r) ⟨n, hn⟩ := by
  rw [outk_at _ _ _ hr hn, rowk_block m c t hr]
  unfold gradk
  congr 1
  exact funext fun k => by rw [ctk_block m c t _ _ hr k.isLt, gaink_block m c t _ k.isLt]

theorem sumk_block (t : Fin cfg0.N) (ac : Vec Ideal S1x256 .f32) {n : Nat} (hn : n < 256) (h : at2 ac 0 n = sumk m c (512 * t.val) n) :
    at2 (k0_pay4 (X0_1 m c t) (iblk m c 5 t) ac) 0 n = sumk m c (512 * (t.val + 1)) n := by
  rw [gaink_at _ _ _ hn, h]
  unfold sumk
  rw [Nat.mul_succ, Finset.sum_range_add]
  congr 1
  refine Finset.sum_congr rfl fun k hk => ?_
  have hk := Finset.mem_range.mp hk
  rw [ctk_block m c t _ _ hk hn, rowsk_block m c t _ _ hk hn, rowk_block m c t hk]

/-- The gain's gradient after each point. -/
theorem sumk_after {n : Nat} (hn : n < 256) : ∀ (q : Nat) (t : Fin cfg0.N), t.val = q →
    at2 (outsAt0 m c t.val t.isLt).2.2.2 0 n = sumk m c (512 * (t.val + 1)) n := by
  intro q
  induction q with
  | zero =>
    intro t h
    rw [outsAt0_A m c t (by omega)]
    dsimp only
    rw [first_gk, sumk_block m c t _ hn]
    rw [zerok_at hn, h]
    unfold sumk
    simp only [Nat.mul_zero, Finset.range_zero, Finset.sum_empty]
  | succ q ih =>
    intro t h
    have ht : t.val < 16 := lt_of_lt_of_eq t.isLt N_0
    rw [outsAt0_B m c t (by omega)]
    dsimp only
    rw [next_gk, sumk_block m c t _ hn]
    have ha := ih ⟨t.val - 1, Nat.lt_of_le_of_lt (Nat.sub_le _ _) t.isLt⟩ (show t.val - 1 = q by omega)
    dsimp only at ha
    rw [ha, show t.val - 1 + 1 = t.val by omega]

theorem gradk_after (t : Fin cfg0.N) : (outsAt0 m c t.val t.isLt).2.1 = k0_pay3 (X0_1 m c t) (iblk m c 5 t) (iblk m c 3 t) := by
  by_cases h : t.val % 16 = 0
  · rw [outsAt0_A m c t h]; dsimp only; rw [first_k]
  · rw [outsAt0_B m c t h]; dsimp only; rw [next_k]

/-- The results. -/
def Dk : S8192x256.Idx → EReal := fun y => gradk m c (y 0).val (y 1)
def Gk : S1x256.Idx → EReal := fun y => sumk m c 8192 (y 1).val

theorem final7 : (dats m 0 c).arrAt 7 cfg0.N = Dk m c := by
  refine (dats m 0 c).arrAt_eq_of_covers 7 _ (by decide +kernel) fun t hf y => ?_
  blk_simp
  rw [after0_7, gradk_after m c t]
  have e0 : ((win0_7.blk t).view.emb y 0).val = 512 * t.val + (y 0).val := by blk_simp [index7 t]; omega
  have e1 : (win0_7.blk t).view.emb y 1 = ⟨(y 1).val, (y 1).isLt⟩ := Fin.ext (by blk_simp [index7 t])
  unfold Dk
  rw [e0, e1]
  exact (at2_idx (R := 512) (C := 256) _ y).trans (gradk_block m c t (y 0).isLt (y 1).isLt)

theorem final9 : (dats m 0 c).arrAt 9 cfg0.N = Gk m c := by
  refine (dats m 0 c).arrAt_eq_of_covers 9 _ (by decide +kernel) fun t hf y => ?_
  blk_simp
  rw [after0_9]
  have ht : t.val < 16 := lt_of_lt_of_eq t.isLt N_0
  have hl := (flush0_9 t).mp hf
  have e1 : ((win0_9.blk t).view.emb y 1).val = (y 1).val := by blk_simp [index9 t]
  unfold Gk
  rw [e1]
  refine (at2_idx (R := 1) (C := 256) _ y).trans ?_
  rw [show (y 0).val = 0 from Nat.lt_one_iff.mp (y 0).isLt, sumk_after m c (y 1).isLt _ t rfl, show 512 * (t.val + 1) = 8192 by omega]

end Cert.LatBwdIdeal.Val

namespace Cert.LatBwdRefIdeal.Val

open Cert.LatBwdRefIdeal Cert.LatBwdRefIdeal.Gen Facts

variable (Z : FVec Ideal S8192x1920 .f32)

section
variable (X D : FVec Ideal S8192x512 .f32) (G : FVec Ideal S1x512 .f32)

/-- The columns, the mean squares and their gradients along the rows; and the results. -/
def colsq : FVec Ideal S8192x512 .f32 := extractStridedSlice S8192x512 ![0, 512] Z slices_S8192x1920_S8192x512_0_512

def meansq : FVec Ideal S8192x1 .f32 :=
  addf (Host.divf (broadcastInDim S8192x1 ![0] bcast_S8192_S8192x1_0 (Host.reduceAdd (mulf X X) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32))

def slopesq : FVec Ideal S8192x512 .f32 :=
  broadcastInDim S8192x512 ![0] bcast_S8192_S8192x512_0 (Host.reduceAdd (Host.divf (mulf (shapeCast _ (Host.reduceAdd (mulf X (mulf D (broadcastInDim S8192x512 ![0, 1] bcast_S1x512_S8192x512_0_1 G))) (constant S_ .f32 0x00000000#32) reducesTo_S8192x512_S8192_d1 h_S_) shapeCasts_S8192_S8192x1) (mulf (broadcastInDim S8192x1 ![] bcast_S_S8192x1 (constant S_ .f32 0xBF000000#32)) (Host.divf (Host.rsqrt (meansq X)) (meansq X)))) (broadcastInDim S8192x1 ![] bcast_S_S8192x1 (constant S_ .f32 0x44000000#32))) (constant S_ .f32 0x00000000#32) reducesTo_S8192x1_S8192_d1 h_S_)

def gradsq : FVec Ideal S8192x512 .bf16 :=
  truncf .bf16 (addf (addf (mulf (mulf D (broadcastInDim S8192x512 ![0, 1] bcast_S1x512_S8192x512_0_1 G)) (broadcastInDim S8192x512 ![0, 1] bcast_S8192x1_S8192x512_0_1 (Host.rsqrt (meansq X)))) (mulf X (slopesq X D G))) (mulf (slopesq X D G) X)) bitsLt_bf16_f32

def gainsq : FVec Ideal S1x512 .f32 :=
  shapeCast _ (Host.reduceAdd (mulf (mulf X (broadcastInDim S8192x512 ![0, 1] bcast_S8192x1_S8192x512_0_1 (Host.rsqrt (meansq X)))) D) (constant S_ .f32 0x00000000#32) reducesTo_S8192x512_S512_d0 h_S_) shapeCasts_S512_S1x512

theorem colsq_at {r n : Nat} (hr : r < 8192) (hn : n < 512) : at2 (colsq Z) r n = at2 Z r (512 + n) := by
  rw [at2_of _ hr hn, at2_of Z hr (show 512 + n < 1920 by omega)]
  unfold colsq
  pointwise

theorem meansq_at {r : Nat} (hr : r < 8192) : at2 (meansq X) r 0 = Norm.mean 512 Norm.eps (fun k : Fin 512 => at2 X r k.val) := by
  rw [at2_of _ hr (show 0 < 1 by omega)]
  unfold meansq Norm.mean
  simp only [at2_of X hr (Fin.isLt _)]
  pointwise
  rw [Norm.lit512, Norm.eps_eq]

theorem slopesq_at {r n : Nat} (hr : r < 8192) (hn : n < 512) :
    at2 (slopesq X D G) r n = Norm.slope 512 Norm.eps (fun k : Fin 512 => at2 X r k.val) (fun k : Fin 512 => at2 D r k.val * at2 G 0 k.val) := by
  unfold Norm.slope Norm.inv
  rw [← meansq_at X hr, at2_of _ hr hn, at2_of (meansq X) hr (show 0 < 1 by omega)]
  simp only [at2_of X hr (Fin.isLt _), at2_of D hr (Fin.isLt _), at2_of G (show 0 < 1 by omega) (Fin.isLt _)]
  unfold slopesq
  generalize meansq X = v
  pointwise
  rw [Norm.lit512, Norm.litHalf]
  exact Fin.sum_univ_one _

theorem gradsq_at {r n : Nat} (hr : r < 8192) (hn : n < 512) :
    at2 (gradsq X D G) r n = Norm.grad 512 Norm.eps (fun k : Fin 512 => at2 X r k.val) (fun k : Fin 512 => at2 D r k.val * at2 G 0 k.val) ⟨n, hn⟩ := by
  rw [Norm.grad_eq _ _ _ _ (by norm_num) Norm.eps_pos, ← slopesq_at X D G hr hn]
  unfold Norm.inv
  rw [← meansq_at X hr, at2_of _ hr hn, at2_of (meansq X) hr (show 0 < 1 by omega)]
  simp only [at2_of (slopesq X D G) hr hn, at2_of X hr hn, at2_of D hr hn, at2_of G (show 0 < 1 by omega) hn]
  unfold gradsq
  generalize slopesq X D G = s
  generalize meansq X = v
  pointwise
  ac_rfl

theorem gainsq_at {n : Nat} (hn : n < 512) :
    at2 (gainsq X D) 0 n = ∑ k ∈ Finset.range 8192, at2 D k n * (at2 X k n * Norm.inv 512 Norm.eps (fun j : Fin 512 => at2 X k j.val)) := by
  rw [Finset.sum_range, at2_of _ (show 0 < 1 by omega) hn]
  unfold Norm.inv
  simp only [← meansq_at X (Fin.isLt _), at2_of (meansq X) (Fin.isLt _) (show 0 < 1 by omega), at2_of X (Fin.isLt _) hn, at2_of D (Fin.isLt _) hn]
  unfold gainsq
  generalize meansq X = v
  pointwise
  exact Finset.sum_congr rfl fun k _ => by ac_rfl

end

section
variable (X D : FVec Ideal S8192x256 .f32) (G : FVec Ideal S1x256 .f32)

/-- The columns, the mean squares and their gradients along the rows; and the results. -/
def colsk : FVec Ideal S8192x256 .f32 := extractStridedSlice S8192x256 ![0, 1536] Z slices_S8192x1920_S8192x256_0_1536

def meansk : FVec Ideal S8192x1 .f32 :=
  addf (Host.divf (broadcastInDim S8192x1 ![0] bcast_S8192_S8192x1_0 (Host.reduceAdd (mulf X X) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32))

def slopesk : FVec Ideal S8192x256 .f32 :=
  broadcastInDim S8192x256 ![0] bcast_S8192_S8192x256_0 (Host.reduceAdd (Host.divf (mulf (shapeCast _ (Host.reduceAdd (mulf X (mulf D (broadcastInDim S8192x256 ![0, 1] bcast_S1x256_S8192x256_0_1 G))) (constant S_ .f32 0x00000000#32) reducesTo_S8192x256_S8192_d1 h_S_) shapeCasts_S8192_S8192x1) (mulf (broadcastInDim S8192x1 ![] bcast_S_S8192x1 (constant S_ .f32 0xBF000000#32)) (Host.divf (Host.rsqrt (meansk X)) (meansk X)))) (broadcastInDim S8192x1 ![] bcast_S_S8192x1 (constant S_ .f32 0x43800000#32))) (constant S_ .f32 0x00000000#32) reducesTo_S8192x1_S8192_d1 h_S_)

def gradsk : FVec Ideal S8192x256 .bf16 :=
  truncf .bf16 (addf (addf (mulf (mulf D (broadcastInDim S8192x256 ![0, 1] bcast_S1x256_S8192x256_0_1 G)) (broadcastInDim S8192x256 ![0, 1] bcast_S8192x1_S8192x256_0_1 (Host.rsqrt (meansk X)))) (mulf X (slopesk X D G))) (mulf (slopesk X D G) X)) bitsLt_bf16_f32

def gainsk : FVec Ideal S1x256 .f32 :=
  shapeCast _ (Host.reduceAdd (mulf (mulf X (broadcastInDim S8192x256 ![0, 1] bcast_S8192x1_S8192x256_0_1 (Host.rsqrt (meansk X)))) D) (constant S_ .f32 0x00000000#32) reducesTo_S8192x256_S256_d0 h_S_) shapeCasts_S256_S1x256

theorem colsk_at {r n : Nat} (hr : r < 8192) (hn : n < 256) : at2 (colsk Z) r n = at2 Z r (1536 + n) := by
  rw [at2_of _ hr hn, at2_of Z hr (show 1536 + n < 1920 by omega)]
  unfold colsk
  pointwise

theorem meansk_at {r : Nat} (hr : r < 8192) : at2 (meansk X) r 0 = Norm.mean 256 Norm.eps (fun k : Fin 256 => at2 X r k.val) := by
  rw [at2_of _ hr (show 0 < 1 by omega)]
  unfold meansk Norm.mean
  simp only [at2_of X hr (Fin.isLt _)]
  pointwise
  rw [Norm.lit256, Norm.eps_eq]

theorem slopesk_at {r n : Nat} (hr : r < 8192) (hn : n < 256) :
    at2 (slopesk X D G) r n = Norm.slope 256 Norm.eps (fun k : Fin 256 => at2 X r k.val) (fun k : Fin 256 => at2 D r k.val * at2 G 0 k.val) := by
  unfold Norm.slope Norm.inv
  rw [← meansk_at X hr, at2_of _ hr hn, at2_of (meansk X) hr (show 0 < 1 by omega)]
  simp only [at2_of X hr (Fin.isLt _), at2_of D hr (Fin.isLt _), at2_of G (show 0 < 1 by omega) (Fin.isLt _)]
  unfold slopesk
  generalize meansk X = v
  pointwise
  rw [Norm.lit256, Norm.litHalf]
  exact Fin.sum_univ_one _

theorem gradsk_at {r n : Nat} (hr : r < 8192) (hn : n < 256) :
    at2 (gradsk X D G) r n = Norm.grad 256 Norm.eps (fun k : Fin 256 => at2 X r k.val) (fun k : Fin 256 => at2 D r k.val * at2 G 0 k.val) ⟨n, hn⟩ := by
  rw [Norm.grad_eq _ _ _ _ (by norm_num) Norm.eps_pos, ← slopesk_at X D G hr hn]
  unfold Norm.inv
  rw [← meansk_at X hr, at2_of _ hr hn, at2_of (meansk X) hr (show 0 < 1 by omega)]
  simp only [at2_of (slopesk X D G) hr hn, at2_of X hr hn, at2_of D hr hn, at2_of G (show 0 < 1 by omega) hn]
  unfold gradsk
  generalize slopesk X D G = s
  generalize meansk X = v
  pointwise
  ac_rfl

theorem gainsk_at {n : Nat} (hn : n < 256) :
    at2 (gainsk X D) 0 n = ∑ k ∈ Finset.range 8192, at2 D k n * (at2 X k n * Norm.inv 256 Norm.eps (fun j : Fin 256 => at2 X k j.val)) := by
  rw [Finset.sum_range, at2_of _ (show 0 < 1 by omega) hn]
  unfold Norm.inv
  simp only [← meansk_at X (Fin.isLt _), at2_of (meansk X) (Fin.isLt _) (show 0 < 1 by omega), at2_of X (Fin.isLt _) hn, at2_of D (Fin.isLt _) hn]
  unfold gainsk
  generalize meansk X = v
  pointwise
  exact Finset.sum_congr rfl fun k _ => by ac_rfl

end

theorem frame : Cert.quiescent_LatBwdRefIdeal := fun m ρ _ =>
  (θ_run Cert.LatBwdRefIdeal.defs _ _).mono
    (fun r h => ⟨fun c => (h c).2.2.2.2, Idealize.ShloMosaic.sem_eq_zero_of_no_sems (by decide) r.2⟩)
    (Cert.LatBwdRefIdeal.Value.run (F := Ideal) m ρ)

end Cert.LatBwdRefIdeal.Val

namespace Cert.LatBwdMain

open Cert.LatBwdRefIdeal.Val Cert.LatBwdIdeal.Val

variable (m : (ℓ : Loc Cert.LatBwdIdeal.nD Cert.LatBwdIdeal.τ Cert.LatBwdIdeal.sig) → Buf (Elt Ideal) ℓ) (c : Dev Cert.LatBwdIdeal.nD)

theorem rowq_eq {r : Nat} (hr : r < 8192) : (fun k : Fin 512 => at2 (colsq (argZ m c)) r k.val) = rowq m c r :=
  funext fun k => colsq_at _ hr k.isLt

theorem gradsq_eq : gradsq (colsq (argZ m c)) (ctq m c) (gainq m c) = Dq m c :=
  funext fun y => by
    refine (at2_idx (R := 8192) (C := 512) _ y).trans ?_
    rw [gradsq_at _ _ _ (y 0).isLt (y 1).isLt, rowq_eq m c (y 0).isLt]
    rfl

theorem gainsq_eq : gainsq (colsq (argZ m c)) (ctq m c) = Gq m c :=
  whole (R := 1) (C := 512) _ (fun _ n => sumq m c 8192 n) fun r n hr hn => by
    rw [show r = 0 by omega, gainsq_at _ _ hn]
    unfold sumq
    exact Finset.sum_congr rfl fun k hk => by rw [colsq_at _ (Finset.mem_range.mp hk) hn, rowq_eq m c (Finset.mem_range.mp hk)]

theorem rowk_eq {r : Nat} (hr : r < 8192) : (fun k : Fin 256 => at2 (colsk (argZ m c)) r k.val) = rowk m c r :=
  funext fun k => colsk_at _ hr k.isLt

theorem gradsk_eq : gradsk (colsk (argZ m c)) (ctk m c) (gaink m c) = Dk m c :=
  funext fun y => by
    refine (at2_idx (R := 8192) (C := 256) _ y).trans ?_
    rw [gradsk_at _ _ _ (y 0).isLt (y 1).isLt, rowk_eq m c (y 0).isLt]
    rfl

theorem gainsk_eq : gainsk (colsk (argZ m c)) (ctk m c) = Gk m c :=
  whole (R := 1) (C := 256) _ (fun _ n => sumk m c 8192 n) fun r n hr hn => by
    rw [show r = 0 by omega, gainsk_at _ _ hn]
    unfold sumk
    exact Finset.sum_congr rfl fun k hk => by rw [colsk_at _ (Finset.mem_range.mp hk) hn, rowk_eq m c (Finset.mem_range.mp hk)]

theorem algebraic : Cert.algebraic_LatBwdIdeal_LatBwdRefIdeal := by
  intro m ρ m' ρ' _ hagree
  refine ⟨fun c => Dq m c, fun c => Dk m c, fun c => Gq m c, fun c => Gk m c, ?_, ?_⟩
  · exact (θ_run Cert.LatBwdIdeal.defs _ _).mono
      (fun r h c => ⟨(h c).1.trans (final6 m c), (h c).2.1.trans (final7 m c), (h c).2.2.1.trans (final8 m c), (h c).2.2.2.1.trans (final9 m c), (h c).2.2.2.2⟩)
      (Cert.LatBwdIdeal.Value.run_blocks (F := Ideal) m ρ)
  · refine (θ_run Cert.LatBwdRefIdeal.defs _ _).mono
      (fun r h c => ⟨(h c).1.trans ?_, (h c).2.1.trans ?_, (h c).2.2.1.trans ?_, (h c).2.2.2.1.trans ?_, (h c).2.2.2.2⟩)
      (Cert.LatBwdRefIdeal.Value.run (F := Ideal) m' ρ')
    · unfold Cert.LatBwdRefIdeal.Value.res_main_v70
      rw [(hagree c).1, (hagree c).2.1, (hagree c).2.2.2.1]
      exact gradsq_eq m c
    · unfold Cert.LatBwdRefIdeal.Value.res_main_v71
      rw [(hagree c).1, (hagree c).2.2.1, (hagree c).2.2.2.2]
      exact gradsk_eq m c
    · rw [(hagree c).1, (hagree c).2.2.2.1]
      exact gainsq_eq m c
    · rw [(hagree c).1, (hagree c).2.2.2.2]
      exact gainsk_eq m c

end Cert.LatBwdMain

end
-- ==== Proof.ODx.lean ====
/- The gradient of the input of the mixers' output product: the incoming gradient times the weights, summed over the
   model's columns. -/
module

public import proofs.«01_k».proof.Defs
public import proofs.«01_k».proof.Proof.Gen.ODxIdeal.Value
public import proofs.«01_k».proof.Proof.Gen.ODxRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.ODxIdeal.Val

open Cert.ODxIdeal Cert.ODxIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 2048]⟩ : Shape).Idx → EReal := m ((c.tc : Thread nD τ).loc main_arg0)
def argB : (⟨2, ![2048, 2048]⟩ : Shape).Idx → EReal := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (t : Fin cfg0.N) (r n : Nat) (hr : r < 512) (hn : n < 2048) :
    at2 (iblk m c 0 t : Vec Ideal S512x2048 .bf16) r n = at2 (argA m c) (512 * t.val + r) n := by
  rw [at2_of _ hr hn]
  exact at2_at (argA m c) _ (by blk_simp [index0 t]; dsimp only; omega) (by blk_simp [index0 t])

theorem block1 (t : Fin cfg0.N) (r n : Nat) (hr : r < 2048) (hn : n < 2048) :
    at2 (iblk m c 1 t : Vec Ideal S2048x2048 .bf16) r n = at2 (argB m c) r n := by
  rw [at2_of _ hr hn]
  exact at2_at (argB m c) _ (by blk_simp [index1 t]) (by blk_simp [index1 t])

theorem out_at (x0 : Vec Ideal S512x2048 .bf16) (x1 : Vec Ideal S2048x2048 .bf16) {r n : Nat} (hr : r < 512) (hn : n < 2048) :
    at2 (out0_2 x0 x1) r n = nt x0 x1 2048 r n := by
  rw [at2_of _ hr hn, nt_eq x0 x1 hr hn rfl rfl]
  unfold out0_2
  rw [View.canon_unit_zero hz, View.ld_unit_zero (S := S512x2048) hz, View.ld_unit_zero (S := S2048x2048) hz]
  unfold k0_pay1
  pointwise

/-- The result. -/
def P : S8192x2048.Idx → EReal := fun y => nt (argA m c) (argB m c) 2048 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 512 * t.val + (y 0).val := by blk_simp [index2 t]; omega
  have e1 : ((win0_2.blk t).view.emb y 1).val = (y 1).val := by blk_simp [index2 t]
  unfold P
  rw [e0, e1]
  refine (at2_idx (R := 512) (C := 2048) _ y).trans ?_
  rw [out_at _ _ (y 0).isLt (y 1).isLt]
  unfold nt
  refine Finset.sum_congr rfl fun k hk => ?_
  have hk := Finset.mem_range.mp hk
  rw [block0 m c t _ _ (y 0).isLt hk, block1 m c t _ _ (y 1).isLt hk]

end Cert.ODxIdeal.Val

namespace Cert.ODxRefIdeal.Val

open Cert.ODxRefIdeal Cert.ODxRefIdeal.Gen Facts

def res (A : FVec Ideal S8192x2048 .bf16) (B : FVec Ideal S2048x2048 .bf16) : FVec Ideal S8192x2048 .f32 :=
  Host.dotGeneral dot_S8192x2048_S2048x2048_S8192x2048_1_1_0_0_n_n none (extf .f32 A bitsLt_bf16_f32) (extf .f32 B bitsLt_bf16_f32)

theorem res_eq (A : FVec Ideal S8192x2048 .bf16) (B : FVec Ideal S2048x2048 .bf16) :
    res A B = fun y => nt A B 2048 (y 0).val (y 1).val :=
  whole (R := 8192) (C := 2048) _ (nt A B 2048) fun r n hr hn => by
    rw [at2_of _ hr hn, nt_eq A B hr hn rfl rfl]
    unfold res
    pointwise

theorem frame : Cert.quiescent_ODxRefIdeal := fun m ρ _ =>
  (θ_run Cert.ODxRefIdeal.defs _ _).mono
    (fun r h => ⟨fun c => (h c).2, Idealize.ShloMosaic.sem_eq_zero_of_no_sems (by decide) r.2⟩)
    (Cert.ODxRefIdeal.Value.run (F := Ideal) m ρ)

end Cert.ODxRefIdeal.Val

namespace Cert.ODxMain

theorem algebraic : Cert.algebraic_ODxIdeal_ODxRefIdeal := by
  intro m ρ m' ρ' _ hagree
  refine ⟨fun c => Cert.ODxIdeal.Val.P m c, ?_, ?_⟩
  · exact (θ_run Cert.ODxIdeal.defs _ _).mono (fun r h c => ⟨(h c).1.trans (Cert.ODxIdeal.Val.final2 m c), (h c).2⟩)
      (Cert.ODxIdeal.Value.run_blocks (F := Ideal) m ρ)
  · refine (θ_run Cert.ODxRefIdeal.defs _ _).mono (fun r h c => ⟨(h c).1.trans ?_, (h c).2⟩)
      (Cert.ODxRefIdeal.Value.run (F := Ideal) m' ρ')
    rw [(hagree c).1, (hagree c).2]
    exact Cert.ODxRefIdeal.Val.res_eq _ _

end Cert.ODxMain

end
-- ==== Proof.ODw.lean ====
/- The gradient of the output weights of the mixers, with its rounded copy: a sum over all rows, in four parts by way
   of an accumulator. -/
module

public import proofs.«01_k».proof.Defs
public import proofs.«01_k».proof.Proof.Gen.ODwIdeal.Value
public import proofs.«01_k».proof.Proof.Gen.ODwRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.ODwIdeal.Val

open Cert.ODwIdeal Cert.ODwIdeal.Gen

theorem hz : (![0, 0] : Fin 2 → Nat) = fun _ => 0 := funext fun a => by fin_cases a <;> rfl

section Body
variable (c : Dev nD) (i : grid0.Coords)
  (arg3 : Memref sig .tc .vmem S2048x1024 .bf16) (harg3 : arg3.IsWhole)
  (arg4 : Memref sig .tc .vmem S2048x1024 .bf16) (harg4 : arg4.IsWhole)
  (arg5 : Memref sig .tc .vmem S1024x1024 .f32) (harg5 : arg5.IsWhole)
  (arg6 : Memref sig .tc .vmem S1024x1024 .bf16) (harg6 : arg6.IsWhole)
  (arg7 : Memref sig .tc .vmem S1024x1024 .f32) (harg7 : arg7.IsWhole)
  (x0 x1 : Vec Ideal S2048x1024 .bf16) (acc : Vec Ideal S1024x1024 .f32)

/-- The accumulator after a first part. -/
theorem first (hc0 : cond0_0 i) (hc1 : ¬cond0_1 i) (hc2 : ¬cond0_2 i) :
    sout0_A_0 c i arg3 harg3 arg4 harg4 arg5 harg5 arg6 harg6 arg7 harg7 hc0 hc1 hc2 x0 x1 = k0_pay2 x0 x1 := by
  unfold sout0_A_0
  rw [View.read_writes_eq_canon _ _ _ (scover0_A_0 c i arg3 harg3 arg4 harg4 arg5 harg5 arg6 harg6 arg7 harg7 hc0 hc1 hc2 x0 x1)]
  unfold kernelRun0_A
  dsimp only
  sl_unfold_words
  rw [View.canon_unit_zero hz]
  simp only [View.readAt_eq_ld, harg3.read_unread, harg4.read_unread, View.ld_unit_zero (S := S2048x1024) hz]

/-- The accumulator after a middle part. -/
theorem middle (hc0 : ¬cond0_0 i) (hc1 : cond0_1 i) (hc2 : ¬cond0_2 i) :
    sout0_B_0 c i arg3 harg3 arg4 harg4 arg5 harg5 arg6 harg6 arg7 harg7 hc0 hc1 hc2 x0 x1 acc = k0_pay3 x0 x1 acc := by
  unfold sout0_B_0
  rw [View.read_writes_eq_canon _ _ _ (scover0_B_0 c i arg3 harg3 arg4 harg4 arg5 harg5 arg6 harg6 arg7 harg7 hc0 hc1 hc2 x0 x1 acc)]
  unfold kernelRun0_B
  dsimp only
  sl_unfold_words
  rw [View.canon_unit_zero hz]
  simp only [View.readAt_eq_ld, harg3.read_unread, harg4.read_unread, harg7.read_unread, View.ld_unit_zero (S := S2048x1024) hz, View.ld_unit_zero (S := S1024x1024) hz]

/-- What is written back after a last part. -/
theorem last (hc0 : ¬cond0_0 i) (hc1 : cond0_1 i) (hc2 : cond0_2 i) :
    out0_C_2 c i arg3 harg3 arg4 harg4 arg5 harg5 arg6 harg6 arg7 harg7 hc0 hc1 hc2 x0 x1 acc = k0_pay3 x0 x1 acc := by
  unfold out0_C_2
  rw [View.read_writes_eq_canon _ _ _ (cover0_C_2 c i arg3 harg3 arg4 harg4 arg5 harg5 arg6 harg6 arg7 harg7 hc0 hc1 hc2 x0 x1 acc)]
  unfold kernelRun0_C
  dsimp only
  sl_unfold_words
  rw [View.canon_unit_zero hz]
  simp only [View.readAt_eq_ld, harg3.read_unread, harg4.read_unread, harg7.read_unread, View.ld_unit_zero (S := S2048x1024) hz, View.ld_unit_zero (S := S1024x1024) hz]
  exact View.readCov_cons_toLoadRect _ _ _ _

/-- The rounded copy written back after a last part. -/
theorem last_copy (hc0 : ¬cond0_0 i) (hc1 : cond0_1 i) (hc2 : cond0_2 i) :
    out0_C_3 c i arg3 harg3 arg4 harg4 arg5 harg5 arg6 harg6 arg7 harg7 hc0 hc1 hc2 x0 x1 acc = k0_pay4 (k0_pay3 x0 x1 acc) := by
  unfold out0_C_3
  rw [View.read_writes_eq_canon _ _ _ (cover0_C_3 c i arg3 harg3 arg4 harg4 arg5 harg5 arg6 harg6 arg7 harg7 hc0 hc1 hc2 x0 x1 acc)]
  unfold kernelRun0_C
  dsimp only
  sl_unfold_words
  rw [View.canon_unit_zero hz]
  simp only [View.readAt_eq_ld, harg3.read_unread, harg4.read_unread, harg7.read_unread, View.ld_unit_zero (S := S2048x1024) hz, View.ld_unit_zero (S := S1024x1024) hz]
  exact congrArg k0_pay4 (View.readCov_cons_toLoadRect _ _ _ _)

theorem pay2_at {r n : Nat} (hr : r < 1024) (hn : n < 1024) : at2 (k0_pay2 x0 x1) r n = tn x0 x1 2048 r n := by
  rw [at2_of _ hr hn, tn_eq x0 x1 hr hn rfl rfl]
  unfold k0_pay2 k0_pay1
  pointwise

theorem pay3_at {r n : Nat} (hr : r < 1024) (hn : n < 1024) : at2 (k0_pay3 x0 x1 acc) r n = at2 acc r n + tn x0 x1 2048 r n := by
  rw [at2_of _ hr hn, at2_of _ hr hn, tn_eq x0 x1 hr hn rfl rfl]
  unfold k0_pay3 k0_pay1
  pointwise

end Body

variable (m : (ℓ : Loc nD τ sig) → Buf (Elt Ideal) ℓ) (c : Dev nD)

def argA : (⟨2, ![8192, 2048]⟩ : Shape).Idx → EReal := m ((c.tc : Thread nD τ).loc main_arg0)
def argB : (⟨2, ![8192, 2048]⟩ : Shape).Idx → EReal := m ((c.tc : Thread nD τ).loc main_arg1)

theorem index0 : ∀ t : Fin cfg0.N, win0_0.index t = ![t.val % 4, t.val / 8] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)
theorem index3 : ∀ t : Fin cfg0.N, win0_3.index t = ![t.val / 8, t.val / 4 % 2] := (by decide +kernel : ∀ t : Fin grid0.N, _)

theorem block0 (t : Fin cfg0.N) (r n : Nat) (hr : r < 2048) (hn : n < 1024) :
    at2 (iblk m c 0 t : Vec Ideal S2048x1024 .bf16) r n = at2 (argA m c) (2048 * (t.val % 4) + r) (1024 * (t.val / 8) + n) := by
  rw [at2_of _ hr hn]
  exact at2_at (argA m c) _ (by blk_simp [index0 t]; dsimp only; omega) (by blk_simp [index0 t]; dsimp only; omega)

theorem block1 (t : Fin cfg0.N) (r n : Nat) (hr : r < 2048) (hn : n < 1024) :
    at2 (iblk m c 1 t : Vec Ideal S2048x1024 .bf16) r n = at2 (argB m c) (2048 * (t.val % 4) + r) (1024 * (t.val / 4 % 2) + n) := by
  rw [at2_of _ hr hn]
  exact at2_at (argB m c) _ (by blk_simp [index1 t]; dsimp only; omega) (by blk_simp [index1 t]; dsimp only; omega)

/-- One part's share of an entry. -/
theorem part (t : Fin cfg0.N) {r n : Nat} (hr : r < 1024) (hn : n < 1024) :
    tn (iblk m c 0 t : Vec Ideal S2048x1024 .bf16) (iblk m c 1 t : Vec Ideal S2048x1024 .bf16) 2048 r n
      = ∑ k ∈ Finset.range 2048, at2 (argA m c) (2048 * (t.val % 4) + k) (1024 * (t.val / 8) + r) * at2 (argB m c) (2048 * (t.val % 4) + k) (1024 * (t.val / 4 % 2) + n) := by
  unfold tn
  refine Finset.sum_congr rfl fun k hk => ?_
  have hk := Finset.mem_range.mp hk
  rw [block0 m c t _ _ hk hr, block1 m c t _ _ hk hn]

/-- The accumulator holds the sum of the parts so far. -/
theorem acc_at {r n : Nat} (hr : r < 1024) (hn : n < 1024) (q : Nat) (hq : q < 3) : ∀ t : Fin cfg0.N, t.val % 4 = q →
    at2 (outsAt0 m c t.val t.isLt).2.2 r n = tn (argA m c) (argB m c) (2048 * q + 2048) (1024 * (t.val / 8) + r) (1024 * (t.val / 4 % 2) + n) := by
  induction q with
  | zero =>
    intro t h
    rw [outsAt0_A m c t h (by omega) (by omega)]
    dsimp only
    rw [first, pay2_at _ _ hr hn, part m c t hr hn, h]
    unfold tn
    simp only [Nat.mul_zero, Nat.zero_add]
  | succ q ih =>
    intro t h
    rw [outsAt0_B m c t (by omega) (by omega) (by omega)]
    dsimp only
    rw [middle, pay3_at _ _ _ hr hn, part m c t hr hn]
    have ha := ih (by omega) ⟨t.val - 1, Nat.lt_of_le_of_lt (Nat.sub_le _ _) t.isLt⟩ (show (t.val - 1) % 4 = q by omega)
    dsimp only at ha
    rw [ha, show (t.val - 1) / 8 = t.val / 8 by omega, show (t.val - 1) / 4 = t.val / 4 by omega, h, Nat.mul_succ]
    exact (tn_more _ _ (2048 * q + 2048) 2048 _ _).symm

theorem out_at (t : Fin cfg0.N) (h : t.val % 4 = 3) {r n : Nat} (hr : r < 1024) (hn : n < 1024) :
    at2 (outsAt0 m c t.val t.isLt).1 r n = tn (argA m c) (argB m c) 8192 (1024 * (t.val / 8) + r) (1024 * (t.val / 4 % 2) + n) := by
  rw [outsAt0_C m c t (by omega) (by omega) h]
  dsimp only
  rw [last, pay3_at _ _ _ hr hn, part m c t hr hn]
  have ha := acc_at m c hr hn 2 (by omega) ⟨t.val - 1, Nat.lt_of_le_of_lt (Nat.sub_le _ _) t.isLt⟩ (show (t.val - 1) % 4 = 2 by omega)
  dsimp only at ha
  rw [ha, show (t.val - 1) / 8 = t.val / 8 by omega, show (t.val - 1) / 4 = t.val / 4 by omega, h]
  exact (tn_more _ _ (2048 * 3) 2048 _ _).symm

/-- The rounded copy is the same numbers. -/
theorem copy_at (t : Fin cfg0.N) (h : t.val % 4 = 3) : ((outsAt0 m c t.val t.isLt).2.1 : S1024x1024.Idx → EReal) = (outsAt0 m c t.val t.isLt).1 := by
  rw [outsAt0_C m c t (by omega) (by omega) h]
  dsimp only
  rw [last, last_copy]
  rfl

/-- Both results. -/
def P : S2048x2048.Idx → EReal := fun y => tn (argA m c) (argB m c) 8192 (y 0).val (y 1).val

theorem written (t : Fin cfg0.N) (h : t.val % 4 = 3) (y : S1024x1024.Idx) (z : S2048x2048.Idx)
    (e0 : (z 0).val = 1024 * (t.val / 8) + (y 0).val) (e1 : (z 1).val = 1024 * (t.val / 4 % 2) + (y 1).val) :
    (outsAt0 m c t.val t.isLt).1 y = P m c z := by
  unfold P
  rw [e0, e1]
  exact (at2_idx (R := 1024) (C := 1024) _ y).trans (out_at m c t h (y 0).isLt (y 1).isLt)

theorem final2 : (dats m 0 c).arrAt 2 cfg0.N = P m c := by
  refine (dats m 0 c).arrAt_eq_of_covers 2 _ (by decide +kernel) fun t hf y => ?_
  blk_simp
  rw [after0_2]
  exact written m c t ((flush0_2 t).mp hf) y _ (by blk_simp [index2 t]; omega) (by blk_simp [index2 t]; omega)

theorem final3 : (dats m 0 c).arrAt 3 cfg0.N = P m c := by
  refine (dats m 0 c).arrAt_eq_of_covers 3 _ (by decide +kernel) fun t hf y => ?_
  blk_simp
  rw [after0_3]
  refine (congrFun (copy_at m c t ((flush0_3 t).mp hf)) y).trans ?_
  exact written m c t ((flush0_3 t).mp hf) y _ (by blk_simp [index3 t]; omega) (by blk_simp [index3 t]; omega)

end Cert.ODwIdeal.Val

namespace Cert.ODwRefIdeal.Val

open Cert.ODwRefIdeal Cert.ODwRefIdeal.Gen Facts

def res (A B : FVec Ideal S8192x2048 .bf16) : FVec Ideal S2048x2048 .f32 :=
  transpose S2048x2048 [1, 0] (Host.dotGeneral dot_S8192x2048_S8192x2048_S2048x2048_0_0_1_1_n_n none (extf .f32 B bitsLt_bf16_f32) (extf .f32 A bitsLt_bf16_f32)) transposes_S2048x2048_S2048x2048_1_0

theorem res_eq (A B : FVec Ideal S8192x2048 .bf16) : res A B = fun y => tn A B 8192 (y 0).val (y 1).val :=
  whole (R := 2048) (C := 2048) _ (tn A B 8192) fun r n hr hn => by
    rw [at2_of _ hr hn, tn_eq A B hr hn rfl rfl]
    unfold res
    pointwise
    exact Finset.sum_congr rfl fun k _ => mul_comm _ _

theorem frame : Cert.quiescent_ODwRefIdeal := fun m ρ _ =>
  (θ_run Cert.ODwRefIdeal.defs _ _).mono
    (fun r h => ⟨fun c => (h c).2.2, Idealize.ShloMosaic.sem_eq_zero_of_no_sems (by decide) r.2⟩)
    (Cert.ODwRefIdeal.Value.run (F := Ideal) m ρ)

end Cert.ODwRefIdeal.Val

namespace Cert.ODwMain

theorem algebraic : Cert.algebraic_ODwIdeal_ODwRefIdeal := by
  intro m ρ m' ρ' _ hagree
  refine ⟨fun c => Cert.ODwIdeal.Val.P m c, fun c => Cert.ODwIdeal.Val.P m c, ?_, ?_⟩
  · exact (θ_run Cert.ODwIdeal.defs _ _).mono
      (fun r h c => ⟨(h c).1.trans (Cert.ODwIdeal.Val.final2 m c), (h c).2.1.trans (Cert.ODwIdeal.Val.final3 m c), (h c).2.2⟩)
      (Cert.ODwIdeal.Value.run_blocks (F := Ideal) m ρ)
  · refine (θ_run Cert.ODwRefIdeal.defs _ _).mono (fun r h c => ⟨(h c).1.trans ?_, (h c).2.1.trans ?_, (h c).2.2⟩)
      (Cert.ODwRefIdeal.Value.run (F := Ideal) m' ρ')
    all_goals
      rw [(hagree c).1, (hagree c).2]
      exact Cert.ODwRefIdeal.Val.res_eq _ _

end Cert.ODwMain

end
-- ==== Proof.InDw.lean ====
/- The gradient of the weights of the product that makes the mixers' inputs: a sum over all rows, in eight parts by way
   of an accumulator. -/
module

public import proofs.«01_k».proof.Defs
public import proofs.«01_k».proof.Proof.Gen.InDwIdeal.Value
public import proofs.«01_k».proof.Proof.Gen.InDwRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.InDwIdeal.Val

open Cert.InDwIdeal Cert.InDwIdeal.Gen

theorem hz : (![0, 0] : Fin 2 → Nat) = fun _ => 0 := funext fun a => by fin_cases a <;> rfl

section Body
variable (c : Dev nD) (i : grid0.Coords)
  (arg3 : Memref sig .tc .vmem S1024x1024 .bf16) (harg3 : arg3.IsWhole)
  (arg4 : Memref sig .tc .vmem S1024x1920 .bf16) (harg4 : arg4.IsWhole)
  (arg5 : Memref sig .tc .vmem S1024x1920 .f32) (harg5 : arg5.IsWhole)
  (arg6 : Memref sig .tc .vmem S1024x1920 .f32) (harg6 : arg6.IsWhole)
  (x0 : Vec Ideal S1024x1024 .bf16) (x1 : Vec Ideal S1024x1920 .bf16) (acc : Vec Ideal S1024x1920 .f32)

/-- The accumulator after a first part. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S1024x1024) hz, View.ld_unit_zero (S := S1024x1920) hz]

/-- The accumulator after a middle part. -/
theorem middle (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x1920) hz, View.ld_unit_zero (S := S1024x1920) hz]

/-- What is written back after a last part. -/
theorem last (hc0 : ¬cond0_0 i) (hc1 : cond0_1 i) (hc2 : cond0_2 i) :
    out0_C_2 c i arg3 harg3 arg4 harg4 arg5 harg5 arg6 harg6 hc0 hc1 hc2 x0 x1 acc = k0_pay3 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x1920) hz, View.ld_unit_zero (S := S1024x1920) hz]
  exact View.readCov_cons_toLoadRect _ _ _ _

theorem pay2_at {r n : Nat} (hr : r < 1024) (hn : n < 1920) : at2 (k0_pay2 x0 x1) r n = tn x0 x1 1024 r n := by
  rw [at2_of _ hr hn, tn_eq x0 x1 hr hn rfl rfl]
  unfold k0_pay2 k0_pay1
  pointwise

theorem pay3_at {r n : Nat} (hr : r < 1024) (hn : n < 1920) : at2 (k0_pay3 x0 x1 acc) r n = at2 acc r n + tn x0 x1 1024 r n := by
  rw [at2_of _ hr hn, at2_of _ hr hn, tn_eq x0 x1 hr hn rfl rfl]
  unfold k0_pay3 k0_pay1
  pointwise

end Body

variable (m : (ℓ : Loc nD τ sig) → Buf (Elt Ideal) ℓ) (c : Dev nD)

def argA : (⟨2, ![8192, 2048]⟩ : Shape).Idx → EReal := m ((c.tc : Thread nD τ).loc main_arg0)
def argB : (⟨2, ![8192, 1920]⟩ : Shape).Idx → EReal := m ((c.tc : Thread nD τ).loc main_arg1)

theorem index0 : ∀ t : Fin cfg0.N, win0_0.index t = ![t.val % 8, t.val / 8] := (by decide +kernel : ∀ t : Fin grid0.N, _)
theorem index1 : ∀ t : Fin cfg0.N, win0_1.index t = ![t.val % 8, 0] := (by decide +kernel : ∀ t : Fin grid0.N, _)
theorem index2 : ∀ t : Fin cfg0.N, win0_2.index t = ![t.val / 8, 0] := (by decide +kernel : ∀ t : Fin grid0.N, _)

theorem block0 (t : Fin cfg0.N) (r n : Nat) (hr : r < 1024) (hn : n < 1024) :
    at2 (iblk m c 0 t : Vec Ideal S1024x1024 .bf16) r n = at2 (argA m c) (1024 * (t.val % 8) + r) (1024 * (t.val / 8) + n) := by
  rw [at2_of _ hr hn]
  exact at2_at (argA m c) _ (by blk_simp [index0 t]; dsimp only; omega) (by blk_simp [index0 t]; dsimp only; omega)

theorem block1 (t : Fin cfg0.N) (r n : Nat) (hr : r < 1024) (hn : n < 1920) :
    at2 (iblk m c 1 t : Vec Ideal S1024x1920 .bf16) r n = at2 (argB m c) (1024 * (t.val % 8) + r) n := by
  rw [at2_of _ hr hn]
  exact at2_at (argB m c) _ (by blk_simp [index1 t]; dsimp only; omega) (by blk_simp [index1 t])

/-- One part's share of an entry. -/
theorem part (t : Fin cfg0.N) {r n : Nat} (hr : r < 1024) (hn : n < 1920) :
    tn (iblk m c 0 t : Vec Ideal S1024x1024 .bf16) (iblk m c 1 t : Vec Ideal S1024x1920 .bf16) 1024 r n
      = ∑ k ∈ Finset.range 1024, at2 (argA m c) (1024 * (t.val % 8) + k) (1024 * (t.val / 8) + r) * at2 (argB m c) (1024 * (t.val % 8) + k) n := by
  unfold tn
  refine Finset.sum_congr rfl fun k hk => ?_
  have hk := Finset.mem_range.mp hk
  rw [block0 m c t _ _ hk hr, block1 m c t _ _ hk hn]

/-- The accumulator holds the sum of the parts so far. -/
theorem acc_at {r n : Nat} (hr : r < 1024) (hn : n < 1920) (q : Nat) (hq : q < 7) : ∀ t : Fin cfg0.N, t.val % 8 = q →
    at2 (outsAt0 m c t.val t.isLt).2 r n = tn (argA m c) (argB m c) (1024 * q + 1024) (1024 * (t.val / 8) + r) n := by
  induction q with
  | zero =>
    intro t h
    rw [outsAt0_A m c t h (by omega) (by omega)]
    dsimp only
    rw [first, pay2_at _ _ hr hn, part m c t hr hn, h]
    unfold tn
    simp only [Nat.mul_zero, Nat.zero_add]
  | succ q ih =>
    intro t h
    rw [outsAt0_B m c t (by omega) (by omega) (by omega)]
    dsimp only
    rw [middle, pay3_at _ _ _ hr hn, part m c t hr hn]
    have ha := ih (by omega) ⟨t.val - 1, Nat.lt_of_le_of_lt (Nat.sub_le _ _) t.isLt⟩ (show (t.val - 1) % 8 = q by omega)
    dsimp only at ha
    rw [ha, show (t.val - 1) / 8 = t.val / 8 by omega, h, Nat.mul_succ]
    exact (tn_more _ _ (1024 * q + 1024) 1024 _ _).symm

theorem out_at (t : Fin cfg0.N) (h : t.val % 8 = 7) {r n : Nat} (hr : r < 1024) (hn : n < 1920) :
    at2 (outsAt0 m c t.val t.isLt).1 r n = tn (argA m c) (argB m c) 8192 (1024 * (t.val / 8) + r) n := by
  rw [outsAt0_C m c t (by omega) (by omega) h]
  dsimp only
  rw [last, pay3_at _ _ _ hr hn, part m c t hr hn]
  have ha := acc_at m c hr hn 6 (by omega) ⟨t.val - 1, Nat.lt_of_le_of_lt (Nat.sub_le _ _) t.isLt⟩ (show (t.val - 1) % 8 = 6 by omega)
  dsimp only at ha
  rw [ha, show (t.val - 1) / 8 = t.val / 8 by omega, h]
  exact (tn_more _ _ (1024 * 7) 1024 _ _).symm

/-- The result. -/
def P : S2048x1920.Idx → EReal := fun y => tn (argA m c) (argB m c) 8192 (y 0).val (y 1).val

theorem written (t : Fin cfg0.N) (h : t.val % 8 = 7) (y : S1024x1920.Idx) (z : S2048x1920.Idx)
    (e0 : (z 0).val = 1024 * (t.val / 8) + (y 0).val) (e1 : (z 1).val = (y 1).val) :
    (outsAt0 m c t.val t.isLt).1 y = P m c z := by
  unfold P
  rw [e0, e1]
  exact (at2_idx (R := 1024) (C := 1920) _ y).trans (out_at m c t h (y 0).isLt (y 1).isLt)

theorem final2 : (dats m 0 c).arrAt 2 cfg0.N = P m c := by
  refine (dats m 0 c).arrAt_eq_of_covers 2 _ (by decide +kernel) fun t hf y => ?_
  blk_simp
  rw [after0_2]
  exact written m c t ((flush0_2 t).mp hf) y _ (by blk_simp [index2 t]; omega) (by blk_simp [index2 t])

end Cert.InDwIdeal.Val

namespace Cert.InDwRefIdeal.Val

open Cert.InDwRefIdeal Cert.InDwRefIdeal.Gen Facts

def res (A : FVec Ideal S8192x2048 .bf16) (B : FVec Ideal S8192x1920 .bf16) : FVec Ideal S2048x1920 .f32 :=
  transpose S2048x1920 [1, 0] (Host.dotGeneral dot_S8192x1920_S8192x2048_S1920x2048_0_0_1_1_n_n none (extf .f32 B bitsLt_bf16_f32) (extf .f32 A bitsLt_bf16_f32)) transposes_S1920x2048_S2048x1920_1_0

theorem res_eq (A : FVec Ideal S8192x2048 .bf16) (B : FVec Ideal S8192x1920 .bf16) : res A B = fun y => tn A B 8192 (y 0).val (y 1).val :=
  whole (R := 2048) (C := 1920) _ (tn A B 8192) fun r n hr hn => by
    rw [at2_of _ hr hn, tn_eq A B hr hn rfl rfl]
    unfold res
    pointwise
    exact Finset.sum_congr rfl fun k _ => mul_comm _ _

theorem frame : Cert.quiescent_InDwRefIdeal := fun m ρ _ =>
  (θ_run Cert.InDwRefIdeal.defs _ _).mono
    (fun r h => ⟨fun c => (h c).2, Idealize.ShloMosaic.sem_eq_zero_of_no_sems (by decide) r.2⟩)
    (Cert.InDwRefIdeal.Value.run (F := Ideal) m ρ)

end Cert.InDwRefIdeal.Val

namespace Cert.InDwMain

theorem algebraic : Cert.algebraic_InDwIdeal_InDwRefIdeal := by
  intro m ρ m' ρ' _ hagree
  refine ⟨fun c => Cert.InDwIdeal.Val.P m c, ?_, ?_⟩
  · exact (θ_run Cert.InDwIdeal.defs _ _).mono (fun r h c => ⟨(h c).1.trans (Cert.InDwIdeal.Val.final2 m c), (h c).2⟩)
      (Cert.InDwIdeal.Value.run_blocks (F := Ideal) m ρ)
  · refine (θ_run Cert.InDwRefIdeal.defs _ _).mono (fun r h c => ⟨(h c).1.trans ?_, (h c).2⟩)
      (Cert.InDwRefIdeal.Value.run (F := Ideal) m' ρ')
    rw [(hagree c).1, (hagree c).2]
    exact Cert.InDwRefIdeal.Val.res_eq _ _

end Cert.InDwMain

end
-- ==== Proof.QUpDx.lean ====
/- The gradient of the input of the product that makes the queries. -/
module

public import proofs.«01_k».proof.Defs
public import proofs.«01_k».proof.Proof.Gen.QUpDxIdeal.Value
public import proofs.«01_k».proof.Proof.Gen.QUpDxRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.QUpDxIdeal.Val

open Cert.QUpDxIdeal Cert.QUpDxIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 2048]⟩ : Shape).Idx → EReal := m ((c.tc : Thread nD τ).loc main_arg0)
def argB : (⟨2, ![512, 2048]⟩ : Shape).Idx → EReal := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (t : Fin cfg0.N) (r n : Nat) (hr : r < 1024) (hn : n < 2048) :
    at2 (iblk m c 0 t : Vec Ideal S1024x2048 .bf16) r n = at2 (argA m c) (1024 * t.val + r) n := by
  rw [at2_of _ hr hn]
  exact at2_at (argA m c) _ (by blk_simp [index0 t]; dsimp only; omega) (by blk_simp [index0 t])

theorem block1 (t : Fin cfg0.N) (r n : Nat) (hr : r < 512) (hn : n < 2048) :
    at2 (iblk m c 1 t : Vec Ideal S512x2048 .bf16) r n = at2 (argB m c) r n := by
  rw [at2_of _ hr hn]
  exact at2_at (argB m c) _ (by blk_simp [index1 t]) (by blk_simp [index1 t])

theorem out_at (x0 : Vec Ideal S1024x2048 .bf16) (x1 : Vec Ideal S512x2048 .bf16) {r n : Nat} (hr : r < 1024) (hn : n < 512) :
    at2 (out0_2 x0 x1) r n = nt x0 x1 2048 r n := by
  rw [at2_of _ hr hn, nt_eq x0 x1 hr hn rfl rfl]
  unfold out0_2
  rw [View.canon_unit_zero hz, View.ld_unit_zero (S := S1024x2048) hz, View.ld_unit_zero (S := S512x2048) hz]
  unfold k0_pay1
  pointwise

/-- The result. -/
def P : S8192x512.Idx → EReal := fun y => nt (argA m c) (argB m c) 2048 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * t.val + (y 0).val := by blk_simp [index2 t]; omega
  have e1 : ((win0_2.blk t).view.emb y 1).val = (y 1).val := by blk_simp [index2 t]
  unfold P
  rw [e0, e1]
  refine (at2_idx (R := 1024) (C := 512) _ y).trans ?_
  rw [out_at _ _ (y 0).isLt (y 1).isLt]
  unfold nt
  refine Finset.sum_congr rfl fun k hk => ?_
  have hk := Finset.mem_range.mp hk
  rw [block0 m c t _ _ (y 0).isLt hk, block1 m c t _ _ (y 1).isLt hk]

end Cert.QUpDxIdeal.Val

namespace Cert.QUpDxRefIdeal.Val

open Cert.QUpDxRefIdeal Cert.QUpDxRefIdeal.Gen Facts

def res (A : FVec Ideal S8192x2048 .bf16) (B : FVec Ideal S512x2048 .bf16) : FVec Ideal S8192x512 .f32 :=
  Host.dotGeneral dot_S8192x2048_S512x2048_S8192x512_1_1_0_0_n_n none (extf .f32 A bitsLt_bf16_f32) (extf .f32 B bitsLt_bf16_f32)

theorem res_eq (A : FVec Ideal S8192x2048 .bf16) (B : FVec Ideal S512x2048 .bf16) :
    res A B = fun y => nt A B 2048 (y 0).val (y 1).val :=
  whole (R := 8192) (C := 512) _ (nt A B 2048) fun r n hr hn => by
    rw [at2_of _ hr hn, nt_eq A B hr hn rfl rfl]
    unfold res
    pointwise

theorem frame : Cert.quiescent_QUpDxRefIdeal := fun m ρ _ =>
  (θ_run Cert.QUpDxRefIdeal.defs _ _).mono
    (fun r h => ⟨fun c => (h c).2, Idealize.ShloMosaic.sem_eq_zero_of_no_sems (by decide) r.2⟩)
    (Cert.QUpDxRefIdeal.Value.run (F := Ideal) m ρ)

end Cert.QUpDxRefIdeal.Val

namespace Cert.QUpDxMain

theorem algebraic : Cert.algebraic_QUpDxIdeal_QUpDxRefIdeal := by
  intro m ρ m' ρ' _ hagree
  refine ⟨fun c => Cert.QUpDxIdeal.Val.P m c, ?_, ?_⟩
  · exact (θ_run Cert.QUpDxIdeal.defs _ _).mono (fun r h c => ⟨(h c).1.trans (Cert.QUpDxIdeal.Val.final2 m c), (h c).2⟩)
      (Cert.QUpDxIdeal.Value.run_blocks (F := Ideal) m ρ)
  · refine (θ_run Cert.QUpDxRefIdeal.defs _ _).mono (fun r h c => ⟨(h c).1.trans ?_, (h c).2⟩)
      (Cert.QUpDxRefIdeal.Value.run (F := Ideal) m' ρ')
    rw [(hagree c).1, (hagree c).2]
    exact Cert.QUpDxRefIdeal.Val.res_eq _ _

end Cert.QUpDxMain

end
-- ==== Proof.QUpDw.lean ====
/- The gradient of the weights of the product that makes the queries: a sum over all rows, in eight parts by way of an
   accumulator. -/
module

public import proofs.«01_k».proof.Defs
public import proofs.«01_k».proof.Proof.Gen.QUpDwIdeal.Value
public import proofs.«01_k».proof.Proof.Gen.QUpDwRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.QUpDwIdeal.Val

open Cert.QUpDwIdeal Cert.QUpDwIdeal.Gen

theorem hz : (![0, 0] : Fin 2 → Nat) = fun _ => 0 := funext fun a => by fin_cases a <;> rfl

section Body
variable (c : Dev nD) (i : grid0.Coords)
  (arg3 : Memref sig .tc .vmem S1024x512 .bf16) (harg3 : arg3.IsWhole)
  (arg4 : Memref sig .tc .vmem S1024x2048 .bf16) (harg4 : arg4.IsWhole)
  (arg5 : Memref sig .tc .vmem S512x2048 .f32) (harg5 : arg5.IsWhole)
  (arg6 : Memref sig .tc .vmem S512x2048 .f32) (harg6 : arg6.IsWhole)
  (x0 : Vec Ideal S1024x512 .bf16) (x1 : Vec Ideal S1024x2048 .bf16) (acc : Vec Ideal S512x2048 .f32)

/-- The accumulator after a first part. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S1024x512) hz, View.ld_unit_zero (S := S1024x2048) hz]

/-- The accumulator after a middle part. -/
theorem middle (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  simp only [View.readAt_eq_ld, harg3.read_unread, harg4.read_unread, harg6.read_unread, View.ld_unit_zero (S := S1024x512) hz, View.ld_unit_zero (S := S1024x2048) hz, View.ld_unit_zero (S := S512x2048) hz]

/-- What is written back after a last part. -/
theorem last (hc0 : ¬cond0_0 i) (hc1 : cond0_1 i) (hc2 : cond0_2 i) :
    out0_C_2 c i arg3 harg3 arg4 harg4 arg5 harg5 arg6 harg6 hc0 hc1 hc2 x0 x1 acc = k0_pay3 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S1024x2048) hz, View.ld_unit_zero (S := S512x2048) hz]
  exact View.readCov_cons_toLoadRect _ _ _ _

theorem pay2_at {r n : Nat} (hr : r < 512) (hn : n < 2048) : at2 (k0_pay2 x0 x1) r n = tn x0 x1 1024 r n := by
  rw [at2_of _ hr hn, tn_eq x0 x1 hr hn rfl rfl]
  unfold k0_pay2 k0_pay1
  pointwise

theorem pay3_at {r n : Nat} (hr : r < 512) (hn : n < 2048) : at2 (k0_pay3 x0 x1 acc) r n = at2 acc r n + tn x0 x1 1024 r n := by
  rw [at2_of _ hr hn, at2_of _ hr hn, tn_eq x0 x1 hr hn rfl rfl]
  unfold k0_pay3 k0_pay1
  pointwise

end Body

variable (m : (ℓ : Loc nD τ sig) → Buf (Elt Ideal) ℓ) (c : Dev nD)

def argA : (⟨2, ![8192, 512]⟩ : Shape).Idx → EReal := m ((c.tc : Thread nD τ).loc main_arg0)
def argB : (⟨2, ![8192, 2048]⟩ : Shape).Idx → EReal := m ((c.tc : Thread nD τ).loc main_arg1)

theorem index0 : ∀ t : Fin cfg0.N, win0_0.index t = ![t.val % 8, 0] := (by decide +kernel : ∀ t : Fin grid0.N, _)
theorem index1 : ∀ t : Fin cfg0.N, win0_1.index t = ![t.val % 8, 0] := (by decide +kernel : ∀ t : Fin grid0.N, _)
theorem index2 : ∀ t : Fin cfg0.N, win0_2.index t = ![0, 0] := (by decide +kernel : ∀ t : Fin grid0.N, _)

theorem block0 (t : Fin cfg0.N) (r n : Nat) (hr : r < 1024) (hn : n < 512) :
    at2 (iblk m c 0 t : Vec Ideal S1024x512 .bf16) r n = at2 (argA m c) (1024 * (t.val % 8) + r) n := by
  rw [at2_of _ hr hn]
  exact at2_at (argA m c) _ (by blk_simp [index0 t]; dsimp only; omega) (by blk_simp [index0 t])

theorem block1 (t : Fin cfg0.N) (r n : Nat) (hr : r < 1024) (hn : n < 2048) :
    at2 (iblk m c 1 t : Vec Ideal S1024x2048 .bf16) r n = at2 (argB m c) (1024 * (t.val % 8) + r) n := by
  rw [at2_of _ hr hn]
  exact at2_at (argB m c) _ (by blk_simp [index1 t]; dsimp only; omega) (by blk_simp [index1 t])

/-- One part's share of an entry. -/
theorem part (t : Fin cfg0.N) {r n : Nat} (hr : r < 512) (hn : n < 2048) :
    tn (iblk m c 0 t : Vec Ideal S1024x512 .bf16) (iblk m c 1 t : Vec Ideal S1024x2048 .bf16) 1024 r n
      = ∑ k ∈ Finset.range 1024, at2 (argA m c) (1024 * (t.val % 8) + k) r * at2 (argB m c) (1024 * (t.val % 8) + k) n := by
  unfold tn
  refine Finset.sum_congr rfl fun k hk => ?_
  have hk := Finset.mem_range.mp hk
  rw [block0 m c t _ _ hk hr, block1 m c t _ _ hk hn]

/-- The accumulator holds the sum of the parts so far. -/
theorem acc_at {r n : Nat} (hr : r < 512) (hn : n < 2048) (q : Nat) (hq : q < 7) : ∀ t : Fin cfg0.N, t.val % 8 = q →
    at2 (outsAt0 m c t.val t.isLt).2 r n = tn (argA m c) (argB m c) (1024 * q + 1024) r n := by
  induction q with
  | zero =>
    intro t h
    have ht : t.val < 8 := lt_of_lt_of_eq t.isLt N_0
    rw [outsAt0_A m c t (by omega) (by omega) (by omega)]
    dsimp only
    rw [first, pay2_at _ _ hr hn, part m c t hr hn, h]
    unfold tn
    simp only [Nat.mul_zero, Nat.zero_add]
  | succ q ih =>
    intro t h
    have ht : t.val < 8 := lt_of_lt_of_eq t.isLt N_0
    rw [outsAt0_B m c t (by omega) (by omega) (by omega)]
    dsimp only
    rw [middle, pay3_at _ _ _ hr hn, part m c t hr hn]
    have ha := ih (by omega) ⟨t.val - 1, Nat.lt_of_le_of_lt (Nat.sub_le _ _) t.isLt⟩ (show (t.val - 1) % 8 = q by omega)
    dsimp only at ha
    rw [ha, h, Nat.mul_succ]
    exact (tn_more _ _ (1024 * q + 1024) 1024 _ _).symm

theorem out_at (t : Fin cfg0.N) (h : t.val % 8 = 7) {r n : Nat} (hr : r < 512) (hn : n < 2048) :
    at2 (outsAt0 m c t.val t.isLt).1 r n = tn (argA m c) (argB m c) 8192 r n := by
  have ht : t.val < 8 := lt_of_lt_of_eq t.isLt N_0
  rw [outsAt0_C m c t (by omega) (by omega) (by omega)]
  dsimp only
  rw [last, pay3_at _ _ _ hr hn, part m c t hr hn]
  have ha := acc_at m c hr hn 6 (by omega) ⟨t.val - 1, Nat.lt_of_le_of_lt (Nat.sub_le _ _) t.isLt⟩ (show (t.val - 1) % 8 = 6 by omega)
  dsimp only at ha
  rw [ha, h]
  exact (tn_more _ _ (1024 * 7) 1024 _ _).symm

/-- The result. -/
def P : S512x2048.Idx → EReal := fun y => tn (argA m c) (argB m c) 8192 (y 0).val (y 1).val

theorem written (t : Fin cfg0.N) (h : t.val % 8 = 7) (y : S512x2048.Idx) (z : S512x2048.Idx)
    (e0 : (z 0).val = (y 0).val) (e1 : (z 1).val = (y 1).val) :
    (outsAt0 m c t.val t.isLt).1 y = P m c z := by
  unfold P
  rw [e0, e1]
  exact (at2_idx (R := 512) (C := 2048) _ y).trans (out_at m c t h (y 0).isLt (y 1).isLt)

theorem final2 : (dats m 0 c).arrAt 2 cfg0.N = P m c := by
  refine (dats m 0 c).arrAt_eq_of_covers 2 _ (by decide +kernel) fun t hf y => ?_
  blk_simp
  rw [after0_2]
  exact written m c t ((flush0_2 t).mp hf) y _ (by blk_simp [index2 t]) (by blk_simp [index2 t])

end Cert.QUpDwIdeal.Val

namespace Cert.QUpDwRefIdeal.Val

open Cert.QUpDwRefIdeal Cert.QUpDwRefIdeal.Gen Facts

def res (A : FVec Ideal S8192x512 .bf16) (B : FVec Ideal S8192x2048 .bf16) : FVec Ideal S512x2048 .f32 :=
  transpose S512x2048 [1, 0] (Host.dotGeneral dot_S8192x2048_S8192x512_S2048x512_0_0_1_1_n_n none (extf .f32 B bitsLt_bf16_f32) (extf .f32 A bitsLt_bf16_f32)) transposes_S2048x512_S512x2048_1_0

theorem res_eq (A : FVec Ideal S8192x512 .bf16) (B : FVec Ideal S8192x2048 .bf16) : res A B = fun y => tn A B 8192 (y 0).val (y 1).val :=
  whole (R := 512) (C := 2048) _ (tn A B 8192) fun r n hr hn => by
    rw [at2_of _ hr hn, tn_eq A B hr hn rfl rfl]
    unfold res
    pointwise
    exact Finset.sum_congr rfl fun k _ => mul_comm _ _

theorem frame : Cert.quiescent_QUpDwRefIdeal := fun m ρ _ =>
  (θ_run Cert.QUpDwRefIdeal.defs _ _).mono
    (fun r h => ⟨fun c => (h c).2, Idealize.ShloMosaic.sem_eq_zero_of_no_sems (by decide) r.2⟩)
    (Cert.QUpDwRefIdeal.Value.run (F := Ideal) m ρ)

end Cert.QUpDwRefIdeal.Val

namespace Cert.QUpDwMain

theorem algebraic : Cert.algebraic_QUpDwIdeal_QUpDwRefIdeal := by
  intro m ρ m' ρ' _ hagree
  refine ⟨fun c => Cert.QUpDwIdeal.Val.P m c, ?_, ?_⟩
  · exact (θ_run Cert.QUpDwIdeal.defs _ _).mono (fun r h c => ⟨(h c).1.trans (Cert.QUpDwIdeal.Val.final2 m c), (h c).2⟩)
      (Cert.QUpDwIdeal.Value.run_blocks (F := Ideal) m ρ)
  · refine (θ_run Cert.QUpDwRefIdeal.defs _ _).mono (fun r h c => ⟨(h c).1.trans ?_, (h c).2⟩)
      (Cert.QUpDwRefIdeal.Value.run (F := Ideal) m' ρ')
    rw [(hagree c).1, (hagree c).2]
    exact Cert.QUpDwRefIdeal.Val.res_eq _ _

end Cert.QUpDwMain

end
-- ==== Proof.KvUpDx.lean ====
/- The gradient of the input of the product that makes the keys and the values. -/
module

public import proofs.«01_k».proof.Defs
public import proofs.«01_k».proof.Proof.Gen.KvUpDxIdeal.Value
public import proofs.«01_k».proof.Proof.Gen.KvUpDxRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.KvUpDxIdeal.Val

open Cert.KvUpDxIdeal Cert.KvUpDxIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 2048]⟩ : Shape).Idx → EReal := m ((c.tc : Thread nD τ).loc main_arg0)
def argB : (⟨2, ![256, 2048]⟩ : Shape).Idx → EReal := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (t : Fin cfg0.N) (r n : Nat) (hr : r < 1024) (hn : n < 2048) :
    at2 (iblk m c 0 t : Vec Ideal S1024x2048 .bf16) r n = at2 (argA m c) (1024 * t.val + r) n := by
  rw [at2_of _ hr hn]
  exact at2_at (argA m c) _ (by blk_simp [index0 t]; dsimp only; omega) (by blk_simp [index0 t])

theorem block1 (t : Fin cfg0.N) (r n : Nat) (hr : r < 256) (hn : n < 2048) :
    at2 (iblk m c 1 t : Vec Ideal S256x2048 .bf16) r n = at2 (argB m c) r n := by
  rw [at2_of _ hr hn]
  exact at2_at (argB m c) _ (by blk_simp [index1 t]) (by blk_simp [index1 t])

theorem out_at (x0 : Vec Ideal S1024x2048 .bf16) (x1 : Vec Ideal S256x2048 .bf16) {r n : Nat} (hr : r < 1024) (hn : n < 256) :
    at2 (out0_2 x0 x1) r n = nt x0 x1 2048 r n := by
  rw [at2_of _ hr hn, nt_eq x0 x1 hr hn rfl rfl]
  unfold out0_2
  rw [View.canon_unit_zero hz, View.ld_unit_zero (S := S1024x2048) hz, View.ld_unit_zero (S := S256x2048) hz]
  unfold k0_pay1
  pointwise

/-- The result. -/
def P : S8192x256.Idx → EReal := fun y => nt (argA m c) (argB m c) 2048 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * t.val + (y 0).val := by blk_simp [index2 t]; omega
  have e1 : ((win0_2.blk t).view.emb y 1).val = (y 1).val := by blk_simp [index2 t]
  unfold P
  rw [e0, e1]
  refine (at2_idx (R := 1024) (C := 256) _ y).trans ?_
  rw [out_at _ _ (y 0).isLt (y 1).isLt]
  unfold nt
  refine Finset.sum_congr rfl fun k hk => ?_
  have hk := Finset.mem_range.mp hk
  rw [block0 m c t _ _ (y 0).isLt hk, block1 m c t _ _ (y 1).isLt hk]

end Cert.KvUpDxIdeal.Val

namespace Cert.KvUpDxRefIdeal.Val

open Cert.KvUpDxRefIdeal Cert.KvUpDxRefIdeal.Gen Facts

def res (A : FVec Ideal S8192x2048 .bf16) (B : FVec Ideal S256x2048 .bf16) : FVec Ideal S8192x256 .f32 :=
  Host.dotGeneral dot_S8192x2048_S256x2048_S8192x256_1_1_0_0_n_n none (extf .f32 A bitsLt_bf16_f32) (extf .f32 B bitsLt_bf16_f32)

theorem res_eq (A : FVec Ideal S8192x2048 .bf16) (B : FVec Ideal S256x2048 .bf16) :
    res A B = fun y => nt A B 2048 (y 0).val (y 1).val :=
  whole (R := 8192) (C := 256) _ (nt A B 2048) fun r n hr hn => by
    rw [at2_of _ hr hn, nt_eq A B hr hn rfl rfl]
    unfold res
    pointwise

theorem frame : Cert.quiescent_KvUpDxRefIdeal := fun m ρ _ =>
  (θ_run Cert.KvUpDxRefIdeal.defs _ _).mono
    (fun r h => ⟨fun c => (h c).2, Idealize.ShloMosaic.sem_eq_zero_of_no_sems (by decide) r.2⟩)
    (Cert.KvUpDxRefIdeal.Value.run (F := Ideal) m ρ)

end Cert.KvUpDxRefIdeal.Val

namespace Cert.KvUpDxMain

theorem algebraic : Cert.algebraic_KvUpDxIdeal_KvUpDxRefIdeal := by
  intro m ρ m' ρ' _ hagree
  refine ⟨fun c => Cert.KvUpDxIdeal.Val.P m c, ?_, ?_⟩
  · exact (θ_run Cert.KvUpDxIdeal.defs _ _).mono (fun r h c => ⟨(h c).1.trans (Cert.KvUpDxIdeal.Val.final2 m c), (h c).2⟩)
      (Cert.KvUpDxIdeal.Value.run_blocks (F := Ideal) m ρ)
  · refine (θ_run Cert.KvUpDxRefIdeal.defs _ _).mono (fun r h c => ⟨(h c).1.trans ?_, (h c).2⟩)
      (Cert.KvUpDxRefIdeal.Value.run (F := Ideal) m' ρ')
    rw [(hagree c).1, (hagree c).2]
    exact Cert.KvUpDxRefIdeal.Val.res_eq _ _

end Cert.KvUpDxMain

end
-- ==== Proof.KvUpDw.lean ====
/- The gradient of the weights of the product that makes the keys and the values: a sum over all rows, in eight parts
   by way of an accumulator. -/
module

public import proofs.«01_k».proof.Defs
public import proofs.«01_k».proof.Proof.Gen.KvUpDwIdeal.Value
public import proofs.«01_k».proof.Proof.Gen.KvUpDwRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.KvUpDwIdeal.Val

open Cert.KvUpDwIdeal Cert.KvUpDwIdeal.Gen

theorem hz : (![0, 0] : Fin 2 → Nat) = fun _ => 0 := funext fun a => by fin_cases a <;> rfl

section Body
variable (c : Dev nD) (i : grid0.Coords)
  (arg3 : Memref sig .tc .vmem S1024x256 .bf16) (harg3 : arg3.IsWhole)
  (arg4 : Memref sig .tc .vmem S1024x2048 .bf16) (harg4 : arg4.IsWhole)
  (arg5 : Memref sig .tc .vmem S256x2048 .f32) (harg5 : arg5.IsWhole)
  (arg6 : Memref sig .tc .vmem S256x2048 .f32) (harg6 : arg6.IsWhole)
  (x0 : Vec Ideal S1024x256 .bf16) (x1 : Vec Ideal S1024x2048 .bf16) (acc : Vec Ideal S256x2048 .f32)

/-- The accumulator after a first part. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S1024x256) hz, View.ld_unit_zero (S := S1024x2048) hz]

/-- The accumulator after a middle part. -/
theorem middle (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  simp only [View.readAt_eq_ld, harg3.read_unread, harg4.read_unread, harg6.read_unread, View.ld_unit_zero (S := S1024x256) hz, View.ld_unit_zero (S := S1024x2048) hz, View.ld_unit_zero (S := S256x2048) hz]

/-- What is written back after a last part. -/
theorem last (hc0 : ¬cond0_0 i) (hc1 : cond0_1 i) (hc2 : cond0_2 i) :
    out0_C_2 c i arg3 harg3 arg4 harg4 arg5 harg5 arg6 harg6 hc0 hc1 hc2 x0 x1 acc = k0_pay3 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  simp only [View.readAt_eq_ld, harg3.read_unread, harg4.read_unread, harg6.read_unread, View.ld_unit_zero (S := S1024x256) hz, View.ld_unit_zero (S := S1024x2048) hz, View.ld_unit_zero (S := S256x2048) hz]
  exact View.readCov_cons_toLoadRect _ _ _ _

theorem pay2_at {r n : Nat} (hr : r < 256) (hn : n < 2048) : at2 (k0_pay2 x0 x1) r n = tn x0 x1 1024 r n := by
  rw [at2_of _ hr hn, tn_eq x0 x1 hr hn rfl rfl]
  unfold k0_pay2 k0_pay1
  pointwise

theorem pay3_at {r n : Nat} (hr : r < 256) (hn : n < 2048) : at2 (k0_pay3 x0 x1 acc) r n = at2 acc r n + tn x0 x1 1024 r n := by
  rw [at2_of _ hr hn, at2_of _ hr hn, tn_eq x0 x1 hr hn rfl rfl]
  unfold k0_pay3 k0_pay1
  pointwise

end Body

variable (m : (ℓ : Loc nD τ sig) → Buf (Elt Ideal) ℓ) (c : Dev nD)

def argA : (⟨2, ![8192, 256]⟩ : Shape).Idx → EReal := m ((c.tc : Thread nD τ).loc main_arg0)
def argB : (⟨2, ![8192, 2048]⟩ : Shape).Idx → EReal := m ((c.tc : Thread nD τ).loc main_arg1)

theorem index0 : ∀ t : Fin cfg0.N, win0_0.index t = ![t.val % 8, 0] := (by decide +kernel : ∀ t : Fin grid0.N, _)
theorem index1 : ∀ t : Fin cfg0.N, win0_1.index t = ![t.val % 8, 0] := (by decide +kernel : ∀ t : Fin grid0.N, _)
theorem index2 : ∀ t : Fin cfg0.N, win0_2.index t = ![0, 0] := (by decide +kernel : ∀ t : Fin grid0.N, _)

theorem block0 (t : Fin cfg0.N) (r n : Nat) (hr : r < 1024) (hn : n < 256) :
    at2 (iblk m c 0 t : Vec Ideal S1024x256 .bf16) r n = at2 (argA m c) (1024 * (t.val % 8) + r) n := by
  rw [at2_of _ hr hn]
  exact at2_at (argA m c) _ (by blk_simp [index0 t]; dsimp only; omega) (by blk_simp [index0 t])

theorem block1 (t : Fin cfg0.N) (r n : Nat) (hr : r < 1024) (hn : n < 2048) :
    at2 (iblk m c 1 t : Vec Ideal S1024x2048 .bf16) r n = at2 (argB m c) (1024 * (t.val % 8) + r) n := by
  rw [at2_of _ hr hn]
  exact at2_at (argB m c) _ (by blk_simp [index1 t]; dsimp only; omega) (by blk_simp [index1 t])

/-- One part's share of an entry. -/
theorem part (t : Fin cfg0.N) {r n : Nat} (hr : r < 256) (hn : n < 2048) :
    tn (iblk m c 0 t : Vec Ideal S1024x256 .bf16) (iblk m c 1 t : Vec Ideal S1024x2048 .bf16) 1024 r n
      = ∑ k ∈ Finset.range 1024, at2 (argA m c) (1024 * (t.val % 8) + k) r * at2 (argB m c) (1024 * (t.val % 8) + k) n := by
  unfold tn
  refine Finset.sum_congr rfl fun k hk => ?_
  have hk := Finset.mem_range.mp hk
  rw [block0 m c t _ _ hk hr, block1 m c t _ _ hk hn]

/-- The accumulator holds the sum of the parts so far. -/
theorem acc_at {r n : Nat} (hr : r < 256) (hn : n < 2048) (q : Nat) (hq : q < 7) : ∀ t : Fin cfg0.N, t.val % 8 = q →
    at2 (outsAt0 m c t.val t.isLt).2 r n = tn (argA m c) (argB m c) (1024 * q + 1024) r n := by
  induction q with
  | zero =>
    intro t h
    have ht : t.val < 8 := lt_of_lt_of_eq t.isLt N_0
    rw [outsAt0_A m c t (by omega) (by omega) (by omega)]
    dsimp only
    rw [first, pay2_at _ _ hr hn, part m c t hr hn, h]
    unfold tn
    simp only [Nat.mul_zero, Nat.zero_add]
  | succ q ih =>
    intro t h
    have ht : t.val < 8 := lt_of_lt_of_eq t.isLt N_0
    rw [outsAt0_B m c t (by omega) (by omega) (by omega)]
    dsimp only
    rw [middle, pay3_at _ _ _ hr hn, part m c t hr hn]
    have ha := ih (by omega) ⟨t.val - 1, Nat.lt_of_le_of_lt (Nat.sub_le _ _) t.isLt⟩ (show (t.val - 1) % 8 = q by omega)
    dsimp only at ha
    rw [ha, h, Nat.mul_succ]
    exact (tn_more _ _ (1024 * q + 1024) 1024 _ _).symm

theorem out_at (t : Fin cfg0.N) (h : t.val % 8 = 7) {r n : Nat} (hr : r < 256) (hn : n < 2048) :
    at2 (outsAt0 m c t.val t.isLt).1 r n = tn (argA m c) (argB m c) 8192 r n := by
  have ht : t.val < 8 := lt_of_lt_of_eq t.isLt N_0
  rw [outsAt0_C m c t (by omega) (by omega) (by omega)]
  dsimp only
  rw [last, pay3_at _ _ _ hr hn, part m c t hr hn]
  have ha := acc_at m c hr hn 6 (by omega) ⟨t.val - 1, Nat.lt_of_le_of_lt (Nat.sub_le _ _) t.isLt⟩ (show (t.val - 1) % 8 = 6 by omega)
  dsimp only at ha
  rw [ha, h]
  exact (tn_more _ _ (1024 * 7) 1024 _ _).symm

/-- The result. -/
def P : S256x2048.Idx → EReal := fun y => tn (argA m c) (argB m c) 8192 (y 0).val (y 1).val

theorem written (t : Fin cfg0.N) (h : t.val % 8 = 7) (y : S256x2048.Idx) (z : S256x2048.Idx)
    (e0 : (z 0).val = (y 0).val) (e1 : (z 1).val = (y 1).val) :
    (outsAt0 m c t.val t.isLt).1 y = P m c z := by
  unfold P
  rw [e0, e1]
  exact (at2_idx (R := 256) (C := 2048) _ y).trans (out_at m c t h (y 0).isLt (y 1).isLt)

theorem final2 : (dats m 0 c).arrAt 2 cfg0.N = P m c := by
  refine (dats m 0 c).arrAt_eq_of_covers 2 _ (by decide +kernel) fun t hf y => ?_
  blk_simp
  rw [after0_2]
  exact written m c t ((flush0_2 t).mp hf) y _ (by blk_simp [index2 t]) (by blk_simp [index2 t])

end Cert.KvUpDwIdeal.Val

namespace Cert.KvUpDwRefIdeal.Val

open Cert.KvUpDwRefIdeal Cert.KvUpDwRefIdeal.Gen Facts

def res (A : FVec Ideal S8192x256 .bf16) (B : FVec Ideal S8192x2048 .bf16) : FVec Ideal S256x2048 .f32 :=
  transpose S256x2048 [1, 0] (Host.dotGeneral dot_S8192x2048_S8192x256_S2048x256_0_0_1_1_n_n none (extf .f32 B bitsLt_bf16_f32) (extf .f32 A bitsLt_bf16_f32)) transposes_S2048x256_S256x2048_1_0

theorem res_eq (A : FVec Ideal S8192x256 .bf16) (B : FVec Ideal S8192x2048 .bf16) : res A B = fun y => tn A B 8192 (y 0).val (y 1).val :=
  whole (R := 256) (C := 2048) _ (tn A B 8192) fun r n hr hn => by
    rw [at2_of _ hr hn, tn_eq A B hr hn rfl rfl]
    unfold res
    pointwise
    exact Finset.sum_congr rfl fun k _ => mul_comm _ _

theorem frame : Cert.quiescent_KvUpDwRefIdeal := fun m ρ _ =>
  (θ_run Cert.KvUpDwRefIdeal.defs _ _).mono
    (fun r h => ⟨fun c => (h c).2, Idealize.ShloMosaic.sem_eq_zero_of_no_sems (by decide) r.2⟩)
    (Cert.KvUpDwRefIdeal.Value.run (F := Ideal) m ρ)

end Cert.KvUpDwRefIdeal.Val

namespace Cert.KvUpDwMain

theorem algebraic : Cert.algebraic_KvUpDwIdeal_KvUpDwRefIdeal := by
  intro m ρ m' ρ' _ hagree
  refine ⟨fun c => Cert.KvUpDwIdeal.Val.P m c, ?_, ?_⟩
  · exact (θ_run Cert.KvUpDwIdeal.defs _ _).mono (fun r h c => ⟨(h c).1.trans (Cert.KvUpDwIdeal.Val.final2 m c), (h c).2⟩)
      (Cert.KvUpDwIdeal.Value.run_blocks (F := Ideal) m ρ)
  · refine (θ_run Cert.KvUpDwRefIdeal.defs _ _).mono (fun r h c => ⟨(h c).1.trans ?_, (h c).2⟩)
      (Cert.KvUpDwRefIdeal.Value.run (F := Ideal) m' ρ')
    rw [(hagree c).1, (hagree c).2]
    exact Cert.KvUpDwRefIdeal.Val.res_eq _ _

end Cert.KvUpDwMain

end
-- ==== Proof.MixIn.lean ====
/- The product that makes the inputs of all the mixers. -/
module

public import proofs.«01_k».proof.Defs
public import proofs.«01_k».proof.Proof.Gen.MixInIdeal.Value
public import proofs.«01_k».proof.Proof.Gen.MixInRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.MixInIdeal.Val

open Cert.MixInIdeal Cert.MixInIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 2048]⟩ : Shape).Idx → EReal := m ((c.tc : Thread nD τ).loc main_arg0)
def argB : (⟨2, ![2048, 1920]⟩ : Shape).Idx → EReal := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (t : Fin cfg0.N) (r n : Nat) (hr : r < 512) (hn : n < 2048) :
    at2 (iblk m c 0 t : Vec Ideal S512x2048 .bf16) r n = at2 (argA m c) (512 * t.val + r) n := by
  rw [at2_of _ hr hn]
  exact at2_at (argA m c) _ (by blk_simp [index0 t]; dsimp only; omega) (by blk_simp [index0 t])

theorem block1 (t : Fin cfg0.N) (r n : Nat) (hr : r < 2048) (hn : n < 1920) :
    at2 (iblk m c 1 t : Vec Ideal S2048x1920 .bf16) r n = at2 (argB m c) r n := by
  rw [at2_of _ hr hn]
  exact at2_at (argB m c) _ (by blk_simp [index1 t]) (by blk_simp [index1 t])

theorem out_at (x0 : Vec Ideal S512x2048 .bf16) (x1 : Vec Ideal S2048x1920 .bf16) {r n : Nat} (hr : r < 512) (hn : n < 1920) :
    at2 (out0_2 x0 x1) r n = nn x0 x1 2048 r n := by
  rw [at2_of _ hr hn, nn_eq x0 x1 hr hn rfl rfl]
  unfold out0_2
  rw [View.canon_unit_zero hz, View.ld_unit_zero (S := S512x2048) hz, View.ld_unit_zero (S := S2048x1920) hz]
  unfold k0_pay1
  pointwise

/-- The result. -/
def P : S8192x1920.Idx → EReal := fun y => nn (argA m c) (argB m c) 2048 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 512 * t.val + (y 0).val := by blk_simp [index2 t]; omega
  have e1 : ((win0_2.blk t).view.emb y 1).val = (y 1).val := by blk_simp [index2 t]
  unfold P
  rw [e0, e1]
  refine (at2_idx (R := 512) (C := 1920) _ y).trans ?_
  rw [out_at _ _ (y 0).isLt (y 1).isLt]
  unfold nn
  refine Finset.sum_congr rfl fun k hk => ?_
  have hk := Finset.mem_range.mp hk
  rw [block0 m c t _ _ (y 0).isLt hk, block1 m c t _ _ hk (y 1).isLt]

end Cert.MixInIdeal.Val

namespace Cert.MixInRefIdeal.Val

open Cert.MixInRefIdeal Cert.MixInRefIdeal.Gen Facts

def res (A : FVec Ideal S8192x2048 .bf16) (B : FVec Ideal S2048x1920 .bf16) : FVec Ideal S8192x1920 .f32 :=
  Host.dotGeneral dot_S8192x2048_S2048x1920_S8192x1920_1_0_0_1_n_n none (extf .f32 A bitsLt_bf16_f32) (extf .f32 B bitsLt_bf16_f32)

theorem res_eq (A : FVec Ideal S8192x2048 .bf16) (B : FVec Ideal S2048x1920 .bf16) :
    res A B = fun y => nn A B 2048 (y 0).val (y 1).val :=
  whole (R := 8192) (C := 1920) _ (nn A B 2048) fun r n hr hn => by
    rw [at2_of _ hr hn, nn_eq A B hr hn rfl rfl]
    unfold res
    pointwise

theorem frame : Cert.quiescent_MixInRefIdeal := fun m ρ _ =>
  (θ_run Cert.MixInRefIdeal.defs _ _).mono
    (fun r h => ⟨fun c => (h c).2, Idealize.ShloMosaic.sem_eq_zero_of_no_sems (by decide) r.2⟩)
    (Cert.MixInRefIdeal.Value.run (F := Ideal) m ρ)

end Cert.MixInRefIdeal.Val

namespace Cert.MixInMain

theorem algebraic : Cert.algebraic_MixInIdeal_MixInRefIdeal := by
  intro m ρ m' ρ' _ hagree
  refine ⟨fun c => Cert.MixInIdeal.Val.P m c, ?_, ?_⟩
  · exact (θ_run Cert.MixInIdeal.defs _ _).mono (fun r h c => ⟨(h c).1.trans (Cert.MixInIdeal.Val.final2 m c), (h c).2⟩)
      (Cert.MixInIdeal.Value.run_blocks (F := Ideal) m ρ)
  · refine (θ_run Cert.MixInRefIdeal.defs _ _).mono (fun r h c => ⟨(h c).1.trans ?_, (h c).2⟩)
      (Cert.MixInRefIdeal.Value.run (F := Ideal) m' ρ')
    rw [(hagree c).1, (hagree c).2]
    exact Cert.MixInRefIdeal.Val.res_eq _ _

end Cert.MixInMain

end
-- ==== Proof.QUp.lean ====
/- The product that makes the queries. -/
module

public import proofs.«01_k».proof.Defs
public import proofs.«01_k».proof.Proof.Gen.QUpIdeal.Value
public import proofs.«01_k».proof.Proof.Gen.QUpRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.QUpIdeal.Val

open Cert.QUpIdeal Cert.QUpIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 512]⟩ : Shape).Idx → EReal := m ((c.tc : Thread nD τ).loc main_arg0)
def argB : (⟨2, ![512, 2048]⟩ : Shape).Idx → EReal := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (t : Fin cfg0.N) (r n : Nat) (hr : r < 1024) (hn : n < 512) :
    at2 (iblk m c 0 t : Vec Ideal S1024x512 .bf16) r n = at2 (argA m c) (1024 * t.val + r) n := by
  rw [at2_of _ hr hn]
  exact at2_at (argA m c) _ (by blk_simp [index0 t]; dsimp only; omega) (by blk_simp [index0 t])

theorem block1 (t : Fin cfg0.N) (r n : Nat) (hr : r < 512) (hn : n < 2048) :
    at2 (iblk m c 1 t : Vec Ideal S512x2048 .bf16) r n = at2 (argB m c) r n := by
  rw [at2_of _ hr hn]
  exact at2_at (argB m c) _ (by blk_simp [index1 t]) (by blk_simp [index1 t])

theorem out_at (x0 : Vec Ideal S1024x512 .bf16) (x1 : Vec Ideal S512x2048 .bf16) {r n : Nat} (hr : r < 1024) (hn : n < 2048) :
    at2 (out0_2 x0 x1) r n = nn x0 x1 512 r n := by
  rw [at2_of _ hr hn, nn_eq x0 x1 hr hn rfl rfl]
  unfold out0_2
  rw [View.canon_unit_zero hz, View.ld_unit_zero (S := S1024x512) hz, View.ld_unit_zero (S := S512x2048) hz]
  unfold k0_pay1
  pointwise

/-- The result. -/
def P : S8192x2048.Idx → EReal := fun y => nn (argA m c) (argB m c) 512 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * t.val + (y 0).val := by blk_simp [index2 t]; omega
  have e1 : ((win0_2.blk t).view.emb y 1).val = (y 1).val := by blk_simp [index2 t]
  unfold P
  rw [e0, e1]
  refine (at2_idx (R := 1024) (C := 2048) _ y).trans ?_
  rw [out_at _ _ (y 0).isLt (y 1).isLt]
  unfold nn
  refine Finset.sum_congr rfl fun k hk => ?_
  have hk := Finset.mem_range.mp hk
  rw [block0 m c t _ _ (y 0).isLt hk, block1 m c t _ _ hk (y 1).isLt]

end Cert.QUpIdeal.Val

namespace Cert.QUpRefIdeal.Val

open Cert.QUpRefIdeal Cert.QUpRefIdeal.Gen Facts

def res (A : FVec Ideal S8192x512 .bf16) (B : FVec Ideal S512x2048 .bf16) : FVec Ideal S8192x2048 .bf16 :=
  truncf .bf16 (Host.dotGeneral dot_S8192x512_S512x2048_S8192x2048_1_0_0_1_n_n none (extf .f32 A bitsLt_bf16_f32) (extf .f32 B bitsLt_bf16_f32)) bitsLt_bf16_f32

theorem res_eq (A : FVec Ideal S8192x512 .bf16) (B : FVec Ideal S512x2048 .bf16) :
    res A B = fun y => nn A B 512 (y 0).val (y 1).val :=
  whole (R := 8192) (C := 2048) _ (nn A B 512) fun r n hr hn => by
    rw [at2_of _ hr hn, nn_eq A B hr hn rfl rfl]
    unfold res
    pointwise

theorem frame : Cert.quiescent_QUpRefIdeal := fun m ρ _ =>
  (θ_run Cert.QUpRefIdeal.defs _ _).mono
    (fun r h => ⟨fun c => (h c).2, Idealize.ShloMosaic.sem_eq_zero_of_no_sems (by decide) r.2⟩)
    (Cert.QUpRefIdeal.Value.run (F := Ideal) m ρ)

end Cert.QUpRefIdeal.Val

namespace Cert.QUpMain

theorem algebraic : Cert.algebraic_QUpIdeal_QUpRefIdeal := by
  intro m ρ m' ρ' _ hagree
  refine ⟨fun c => Cert.QUpIdeal.Val.P m c, ?_, ?_⟩
  · exact (θ_run Cert.QUpIdeal.defs _ _).mono (fun r h c => ⟨(h c).1.trans (Cert.QUpIdeal.Val.final2 m c), (h c).2⟩)
      (Cert.QUpIdeal.Value.run_blocks (F := Ideal) m ρ)
  · refine (θ_run Cert.QUpRefIdeal.defs _ _).mono (fun r h c => ⟨(h c).1.trans ?_, (h c).2⟩)
      (Cert.QUpRefIdeal.Value.run (F := Ideal) m' ρ')
    rw [(hagree c).1, (hagree c).2]
    exact Cert.QUpRefIdeal.Val.res_eq _ _

end Cert.QUpMain

end
-- ==== Proof.KvUp.lean ====
/- The product that makes the keys and the values. -/
module

public import proofs.«01_k».proof.Defs
public import proofs.«01_k».proof.Proof.Gen.KvUpIdeal.Value
public import proofs.«01_k».proof.Proof.Gen.KvUpRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.KvUpIdeal.Val

open Cert.KvUpIdeal Cert.KvUpIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![8192, 256]⟩ : Shape).Idx → EReal := m ((c.tc : Thread nD τ).loc main_arg0)
def argB : (⟨2, ![256, 2048]⟩ : Shape).Idx → EReal := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (t : Fin cfg0.N) (r n : Nat) (hr : r < 1024) (hn : n < 256) :
    at2 (iblk m c 0 t : Vec Ideal S1024x256 .bf16) r n = at2 (argA m c) (1024 * t.val + r) n := by
  rw [at2_of _ hr hn]
  exact at2_at (argA m c) _ (by blk_simp [index0 t]; dsimp only; omega) (by blk_simp [index0 t])

theorem block1 (t : Fin cfg0.N) (r n : Nat) (hr : r < 256) (hn : n < 2048) :
    at2 (iblk m c 1 t : Vec Ideal S256x2048 .bf16) r n = at2 (argB m c) r n := by
  rw [at2_of _ hr hn]
  exact at2_at (argB m c) _ (by blk_simp [index1 t]) (by blk_simp [index1 t])

theorem out_at (x0 : Vec Ideal S1024x256 .bf16) (x1 : Vec Ideal S256x2048 .bf16) {r n : Nat} (hr : r < 1024) (hn : n < 2048) :
    at2 (out0_2 x0 x1) r n = nn x0 x1 256 r n := by
  rw [at2_of _ hr hn, nn_eq x0 x1 hr hn rfl rfl]
  unfold out0_2
  rw [View.canon_unit_zero hz, View.ld_unit_zero (S := S1024x256) hz, View.ld_unit_zero (S := S256x2048) hz]
  unfold k0_pay1
  pointwise

/-- The result. -/
def P : S8192x2048.Idx → EReal := fun y => nn (argA m c) (argB m c) 256 (y 0).val (y 1).val

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * t.val + (y 0).val := by blk_simp [index2 t]; omega
  have e1 : ((win0_2.blk t).view.emb y 1).val = (y 1).val := by blk_simp [index2 t]
  unfold P
  rw [e0, e1]
  refine (at2_idx (R := 1024) (C := 2048) _ y).trans ?_
  rw [out_at _ _ (y 0).isLt (y 1).isLt]
  unfold nn
  refine Finset.sum_congr rfl fun k hk => ?_
  have hk := Finset.mem_range.mp hk
  rw [block0 m c t _ _ (y 0).isLt hk, block1 m c t _ _ hk (y 1).isLt]

end Cert.KvUpIdeal.Val

namespace Cert.KvUpRefIdeal.Val

open Cert.KvUpRefIdeal Cert.KvUpRefIdeal.Gen Facts

def res (A : FVec Ideal S8192x256 .bf16) (B : FVec Ideal S256x2048 .bf16) : FVec Ideal S8192x2048 .bf16 :=
  truncf .bf16 (Host.dotGeneral dot_S8192x256_S256x2048_S8192x2048_1_0_0_1_n_n none (extf .f32 A bitsLt_bf16_f32) (extf .f32 B bitsLt_bf16_f32)) bitsLt_bf16_f32

theorem res_eq (A : FVec Ideal S8192x256 .bf16) (B : FVec Ideal S256x2048 .bf16) :
    res A B = fun y => nn A B 256 (y 0).val (y 1).val :=
  whole (R := 8192) (C := 2048) _ (nn A B 256) fun r n hr hn => by
    rw [at2_of _ hr hn, nn_eq A B hr hn rfl rfl]
    unfold res
    pointwise

theorem frame : Cert.quiescent_KvUpRefIdeal := fun m ρ _ =>
  (θ_run Cert.KvUpRefIdeal.defs _ _).mono
    (fun r h => ⟨fun c => (h c).2, Idealize.ShloMosaic.sem_eq_zero_of_no_sems (by decide) r.2⟩)
    (Cert.KvUpRefIdeal.Value.run (F := Ideal) m ρ)

end Cert.KvUpRefIdeal.Val

namespace Cert.KvUpMain

theorem algebraic : Cert.algebraic_KvUpIdeal_KvUpRefIdeal := by
  intro m ρ m' ρ' _ hagree
  refine ⟨fun c => Cert.KvUpIdeal.Val.P m c, ?_, ?_⟩
  · exact (θ_run Cert.KvUpIdeal.defs _ _).mono (fun r h c => ⟨(h c).1.trans (Cert.KvUpIdeal.Val.final2 m c), (h c).2⟩)
      (Cert.KvUpIdeal.Value.run_blocks (F := Ideal) m ρ)
  · refine (θ_run Cert.KvUpRefIdeal.defs _ _).mono (fun r h c => ⟨(h c).1.trans ?_, (h c).2⟩)
      (Cert.KvUpRefIdeal.Value.run (F := Ideal) m' ρ')
    rw [(hagree c).1, (hagree c).2]
    exact Cert.KvUpRefIdeal.Val.res_eq _ _

end Cert.KvUpMain

end
-- ==== Proof.ORms.lean ====
/- The product that ends the mixers, with the sum and the norm after it. -/
module

public import proofs.«01_k».proof.Defs
public import proofs.«01_k».proof.Proof.Gen.ORmsIdeal.Value
public import proofs.«01_k».proof.Proof.Gen.ORmsRefIdeal.Run
public import proofs.«01_k».proof.Proof.ProdSpec
public import proofs.«01_k».proof.Proof.NormSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.ORmsIdeal.Val

open Cert.ORmsIdeal Cert.ORmsIdeal.Gen

theorem hz : (![0, 0] : Fin 2 → Nat) = fun _ => 0 := funext fun a => by fin_cases a <;> rfl

variable (m : (ℓ : Loc nD τ sig) → Buf (Elt Ideal) ℓ) (c : Dev nD)

def argY : (⟨2, ![8192, 2048]⟩ : Shape).Idx → EReal := m ((c.tc : Thread nD τ).loc main_arg0)
def argW : (⟨2, ![2048, 2048]⟩ : Shape).Idx → EReal := m ((c.tc : Thread nD τ).loc main_arg1)
def argX : (⟨2, ![8192, 2048]⟩ : Shape).Idx → EReal := m ((c.tc : Thread nD τ).loc main_arg2)
def argG : (⟨2, ![1, 2048]⟩ : Shape).Idx → EReal := m ((c.tc : Thread nD τ).loc main_arg3)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem block0 (t : Fin cfg0.N) (r n : Nat) (hr : r < 512) (hn : n < 2048) :
    at2 (iblk m c 0 t : Vec Ideal S512x2048 .bf16) r n = at2 (argY m c) (512 * t.val + r) n := by
  rw [at2_of _ hr hn]
  exact at2_at (argY m c) _ (by blk_simp [index0 t]; dsimp only; omega) (by blk_simp [index0 t])

theorem block1 (t : Fin cfg0.N) (r n : Nat) (hr : r < 2048) (hn : n < 2048) :
    at2 (iblk m c 1 t : Vec Ideal S2048x2048 .bf16) r n = at2 (argW m c) r n := by
  rw [at2_of _ hr hn]
  exact at2_at (argW m c) _ (by blk_simp [index1 t]) (by blk_simp [index1 t])

theorem block2 (t : Fin cfg0.N) (r n : Nat) (hr : r < 512) (hn : n < 2048) :
    at2 (iblk m c 2 t : Vec Ideal S512x2048 .f32) r n = at2 (argX m c) (512 * t.val + r) n := by
  rw [at2_of _ hr hn]
  exact at2_at (argX m c) _ (by blk_simp [index2 t]; dsimp only; omega) (by blk_simp [index2 t])

theorem block3 (t : Fin cfg0.N) (n : Nat) (hn : n < 2048) :
    at2 (iblk m c 3 t : Vec Ideal S1x2048 .f32) 0 n = at2 (argG m c) 0 n := by
  rw [at2_of _ (show 0 < 1 by omega) hn]
  exact at2_at (argG m c) _ (by blk_simp [index3 t]; rfl) (by blk_simp [index3 t])

theorem pay1_at (x0 : Vec Ideal S512x2048 .bf16) (x1 : Vec Ideal S2048x2048 .bf16) (x2 : Vec Ideal S512x2048 .f32) {r n : Nat} (hr : r < 512) (hn : n < 2048) :
    at2 (k0_pay1 x0 x1 x2) r n = at2 x2 r n + nn x0 x1 2048 r n := by
  rw [at2_of _ hr hn, at2_of _ hr hn, nn_eq x0 x1 hr hn rfl rfl]
  unfold k0_pay1
  pointwise
  exact add_comm _ _

theorem pay2_at (x0 : Vec Ideal S512x2048 .bf16) (x1 : Vec Ideal S2048x2048 .bf16) (x2 : Vec Ideal S512x2048 .f32) (g : Vec Ideal S1x2048 .f32) {r n : Nat} (hr : r < 512) (hn : n < 2048) :
    at2 (k0_pay2 x0 x1 x2 g) r n
      = at2 (k0_pay1 x0 x1 x2) r n * Norm.inv 2048 Norm.eps (fun k : Fin 2048 => at2 (k0_pay1 x0 x1 x2) r k.val) * at2 g 0 n := by
  unfold k0_pay2 Norm.inv Norm.mean
  generalize k0_pay1 x0 x1 x2 = X
  simp only [at2_of _ hr hn, at2_of g (show 0 < 1 by omega) hn, at2_of X hr (Fin.isLt _)]
  pointwise
  rw [Norm.lit2048, Norm.eps_eq]

/-- The sum at the mixers' end, entry by entry. -/
def sum (r n : Nat) : EReal := at2 (argX m c) r n + nn (argY m c) (argW m c) 2048 r n

/-- The results: the sum, and its norm times the gain. -/
def X1 : S8192x2048.Idx → EReal := fun y => sum m c (y 0).val (y 1).val
def H2 : S8192x2048.Idx → EReal := fun y =>
  sum m c (y 0).val (y 1).val * Norm.inv 2048 Norm.eps (fun k : Fin 2048 => sum m c (y 0).val k.val) * at2 (argG m c) 0 (y 1).val

theorem sum_block (t : Fin cfg0.N) {r n : Nat} (hr : r < 512) (hn : n < 2048) :
    at2 (k0_pay1 (iblk m c 0 t) (iblk m c 1 t) (iblk m c 2 t)) r n = sum m c (512 * t.val + r) n := by
  rw [pay1_at _ _ _ hr hn, block2 m c t _ _ hr hn]
  unfold sum nn
  congr 1
  refine Finset.sum_congr rfl fun k hk => ?_
  have hk := Finset.mem_range.mp hk
  rw [block0 m c t _ _ hr hk, block1 m c t _ _ hk hn]

theorem final4 : (dats m 0 c).arrAt 4 cfg0.N = X1 m c := by
  refine (dats m 0 c).arrAt_eq_of_covers 4 _ (by decide +kernel) fun t hf y => ?_
  blk_simp
  rw [after0_4]
  have e0 : ((win0_4.blk t).view.emb y 0).val = 512 * t.val + (y 0).val := by blk_simp [index4 t]; omega
  have e1 : ((win0_4.blk t).view.emb y 1).val = (y 1).val := by blk_simp [index4 t]
  unfold X1 out0_4
  rw [e0, e1, View.canon_unit_zero hz, View.ld_unit_zero (S := S512x2048) hz, View.ld_unit_zero (S := S2048x2048) hz, View.ld_unit_zero (S := S512x2048) hz]
  exact (at2_idx (R := 512) (C := 2048) _ y).trans (sum_block m c t (y 0).isLt (y 1).isLt)

theorem final5 : (dats m 0 c).arrAt 5 cfg0.N = H2 m c := by
  refine (dats m 0 c).arrAt_eq_of_covers 5 _ (by decide +kernel) fun t hf y => ?_
  blk_simp
  rw [after0_5]
  have e0 : ((win0_5.blk t).view.emb y 0).val = 512 * t.val + (y 0).val := by blk_simp [index5 t]; omega
  have e1 : ((win0_5.blk t).view.emb y 1).val = (y 1).val := by blk_simp [index5 t]
  unfold H2 out0_5
  rw [e0, e1, View.canon_unit_zero hz, View.ld_unit_zero (S := S512x2048) hz, View.ld_unit_zero (S := S2048x2048) hz, View.ld_unit_zero (S := S512x2048) hz, View.ld_unit_zero (S := S1x2048) hz]
  refine (at2_idx (R := 512) (C := 2048) _ y).trans ?_
  rw [pay2_at _ _ _ _ (y 0).isLt (y 1).isLt, sum_block m c t (y 0).isLt (y 1).isLt, block3 m c t _ (y 1).isLt]
  congr 3
  exact funext fun k => sum_block m c t (y 0).isLt k.isLt

end Cert.ORmsIdeal.Val

namespace Cert.ORmsRefIdeal.Val

open Cert.ORmsRefIdeal Cert.ORmsRefIdeal.Gen Facts

variable (Y : FVec Ideal S8192x2048 .bf16) (W : FVec Ideal S2048x2048 .bf16) (X : FVec Ideal S8192x2048 .f32) (G : FVec Ideal S1x2048 .f32)

def res : FVec Ideal S8192x2048 .f32 :=
  addf X (Host.dotGeneral dot_S8192x2048_S2048x2048_S8192x2048_1_0_0_1_n_n none (extf .f32 Y bitsLt_bf16_f32) (extf .f32 W bitsLt_bf16_f32))

def normed (Z : FVec Ideal S8192x2048 .f32) : FVec Ideal S8192x2048 .bf16 :=
  truncf .bf16 (mulf (mulf Z (broadcastInDim S8192x2048 ![0, 1] bcast_S8192x1_S8192x2048_0_1 (Host.rsqrt (addf (Host.divf (broadcastInDim S8192x1 ![0] bcast_S8192_S8192x1_0 (Host.reduceAdd (mulf Z Z) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 G)) bitsLt_bf16_f32

theorem res_at {r n : Nat} (hr : r < 8192) (hn : n < 2048) :
    at2 (res Y W X) r n = at2 X r n + nn Y W 2048 r n := by
  rw [at2_of _ hr hn, at2_of _ hr hn, nn_eq Y W hr hn rfl rfl]
  unfold res
  pointwise

theorem normed_at (Z : FVec Ideal S8192x2048 .f32) {r n : Nat} (hr : r < 8192) (hn : n < 2048) :
    at2 (normed G Z) r n = at2 Z r n * Norm.inv 2048 Norm.eps (fun k : Fin 2048 => at2 Z r k.val) * at2 G 0 n := by
  unfold normed Norm.inv Norm.mean
  simp only [at2_of _ hr hn, at2_of G (show 0 < 1 by omega) hn, at2_of Z hr (Fin.isLt _)]
  pointwise
  rw [Norm.lit2048, Norm.eps_eq]

theorem frame : Cert.quiescent_ORmsRefIdeal := fun m ρ _ =>
  (θ_run Cert.ORmsRefIdeal.defs _ _).mono
    (fun r h => ⟨fun c => (h c).2.2, Idealize.ShloMosaic.sem_eq_zero_of_no_sems (by decide) r.2⟩)
    (Cert.ORmsRefIdeal.Value.run (F := Ideal) m ρ)

end Cert.ORmsRefIdeal.Val

namespace Cert.ORmsMain

open Cert.ORmsRefIdeal.Val in
theorem algebraic : Cert.algebraic_ORmsIdeal_ORmsRefIdeal := by
  intro m ρ m' ρ' _ hagree
  refine ⟨fun c => Cert.ORmsIdeal.Val.X1 m c, fun c => Cert.ORmsIdeal.Val.H2 m c, ?_, ?_⟩
  · exact (θ_run Cert.ORmsIdeal.defs _ _).mono (fun r h c => ⟨(h c).1.trans (Cert.ORmsIdeal.Val.final4 m c),
        (h c).2.1.trans (Cert.ORmsIdeal.Val.final5 m c), (h c).2.2⟩)
      (Cert.ORmsIdeal.Value.run_blocks (F := Ideal) m ρ)
  · refine (θ_run Cert.ORmsRefIdeal.defs _ _).mono (fun r h c => ⟨(h c).1.trans ?_, (h c).2.1.trans ?_, (h c).2.2⟩)
      (Cert.ORmsRefIdeal.Value.run (F := Ideal) m' ρ')
    · rw [(hagree c).1, (hagree c).2.1, (hagree c).2.2.1]
      exact whole (R := 8192) (C := 2048) _ (Cert.ORmsIdeal.Val.sum m c) fun r n hr hn => res_at _ _ _ hr hn
    · rw [(hagree c).1, (hagree c).2.1, (hagree c).2.2.1, (hagree c).2.2.2]
      refine whole (R := 8192) (C := 2048) (normed _ (res _ _ _)) (fun r n => Cert.ORmsIdeal.Val.sum m c r n
          * Norm.inv 2048 Norm.eps (fun k : Fin 2048 => Cert.ORmsIdeal.Val.sum m c r k.val) * at2 (Cert.ORmsIdeal.Val.argG m c) 0 n) fun r n hr hn => ?_
      rw [normed_at _ _ hr hn, res_at _ _ _ hr hn]
      congr 3
      exact funext fun k => res_at _ _ _ hr k.isLt

end Cert.ORmsMain

end
-- ==== Proof.DownLoss.lean ====
/- The last product, with the loss after it and the loss's gradient. -/
module

public import proofs.«01_k».proof.Defs
public import proofs.«01_k».proof.Proof.Gen.DownLossIdeal.Value
public import proofs.«01_k».proof.Proof.Gen.DownLossRefIdeal.Run
public import proofs.«01_k».proof.Proof.ProdSpec
public import proofs.«01_k».proof.Proof.NormSpec
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Conv Prod

namespace Cert.DownLossIdeal.Val

open Cert.DownLossIdeal Cert.DownLossIdeal.Gen

theorem hz : (![0, 0] : Fin 2 → Nat) = fun _ => 0 := funext fun a => by fin_cases a <;> rfl

section Body
variable (c : Dev nD) (i : grid0.Coords)
  (arg2 : Memref sig .tc .vmem S1024x5632 .bf16) (harg2 : arg2.IsWhole)
  (arg3 : Memref sig .tc .vmem S5632x512 .bf16) (harg3 : arg3.IsWhole)
  (arg4 : Memref sig .tc .vmem S1024x512 .f32) (harg4 : arg4.IsWhole)
  (arg5 : Memref sig .tc .vmem S1024x512 .f32) (harg5 : arg5.IsWhole)
  (arg6 : Memref sig .tc .vmem S1024x512 .f32) (harg6 : arg6.IsWhole)
  (arg7 : Memref sig .tc .vmem S1024x512 .bf16) (harg7 : arg7.IsWhole)
  (arg8 : Memref sig .tc .vmem S8x128 .f32) (harg8 : arg8.IsWhole)
  (x0 : Vec Ideal S1024x5632 .bf16) (x1 : Vec Ideal S5632x512 .bf16) (x2 x3 : Vec Ideal S1024x512 .f32) (acc : Vec Ideal S8x128 .f32)

theorem first_dy (hc0 : cond0_0 i) :
    out0_A_4 c i arg2 harg2 arg3 harg3 arg4 harg4 arg5 harg5 arg6 harg6 arg7 harg7 arg8 harg8 hc0 x0 x1 x2 x3 = k0_pay3 x0 x1 x2 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S1024x5632) hz, View.ld_unit_zero (S := S5632x512) hz, View.ld_unit_zero (S := S1024x512) hz]

theorem first_copy (hc0 : cond0_0 i) :
    out0_A_5 c i arg2 harg2 arg3 harg3 arg4 harg4 arg5 harg5 arg6 harg6 arg7 harg7 arg8 harg8 hc0 x0 x1 x2 x3 = k0_pay4 x0 x1 x2 x3 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S1024x5632) hz, View.ld_unit_zero (S := S5632x512) hz, View.ld_unit_zero (S := S1024x512) hz]

theorem first_loss (hc0 : cond0_0 i) :
    out0_A_6 c i arg2 harg2 arg3 harg3 arg4 harg4 arg5 harg5 arg6 harg6 arg7 harg7 arg8 harg8 hc0 x0 x1 x2 x3 = k0_pay5 x0 x1 x2 x3 (k0_pay1 (F := Ideal)) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero hz]
  simp only [View.readAt_eq_ld, harg2.read_unread, harg3.read_unread, harg4.read_unread, harg5.read_unread,
    View.ld_unit_zero (S := S1024x5632) hz, View.ld_unit_zero (S := S5632x512) hz, View.ld_unit_zero (S := S1024x512) hz]
  exact congrArg (k0_pay5 _ _ _ _) (View.readCov_cons_toLoadRect _ _ _ _)

theorem next_dy (hc0 : ¬cond0_0 i) :
    out0_B_4 c i arg2 harg2 arg3 harg3 arg4 harg4 arg5 harg5 arg6 harg6 arg7 harg7 arg8 harg8 hc0 x0 x1 x2 x3 acc = k0_pay3 x0 x1 x2 x3 := by
  unfold out0_B_4
  rw [View.read_writes_eq_canon _ _ _ (cover0_B_4 c i arg2 harg2 arg3 harg3 arg4 harg4 arg5 harg5 arg6 harg6 arg7 harg7 arg8 harg8 hc0 x0 x1 x2 x3 acc)]
  unfold kernelRun0_B
  dsimp only
  sl_unfold_words
  rw [View.canon_unit_zero hz]
  simp only [View.readAt_eq_ld, harg2.read_unread, harg3.read_unread, harg4.read_unread, harg5.read_unread,
    View.ld_unit_zero (S := S1024x5632) hz, View.ld_unit_zero (S := S5632x512) hz, View.ld_unit_zero (S := S1024x512) hz]

theorem next_copy (hc0 : ¬cond0_0 i) :
    out0_B_5 c i arg2 harg2 arg3 harg3 arg4 harg4 arg5 harg5 arg6 harg6 arg7 harg7 arg8 harg8 hc0 x0 x1 x2 x3 acc = k0_pay4 x0 x1 x2 x3 := by
  unfold out0_B_5
  rw [View.read_writes_eq_canon _ _ _ (cover0_B_5 c i arg2 harg2 arg3 harg3 arg4 harg4 arg5 harg5 arg6 harg6 arg7 harg7 arg8 harg8 hc0 x0 x1 x2 x3 acc)]
  unfold kernelRun0_B
  dsimp only
  sl_unfold_words
  rw [View.canon_unit_zero hz]
  simp only [View.readAt_eq_ld, harg2.read_unread, harg3.read_unread, harg4.read_unread, harg5.read_unread,
    View.ld_unit_zero (S := S1024x5632) hz, View.ld_unit_zero (S := S5632x512) hz, View.ld_unit_zero (S := S1024x512) hz]

theorem next_loss (hc0 : ¬cond0_0 i) :
    out0_B_6 c i arg2 harg2 arg3 harg3 arg4 harg4 arg5 harg5 arg6 harg6 arg7 harg7 arg8 harg8 hc0 x0 x1 x2 x3 acc = k0_pay5 x0 x1 x2 x3 acc := by
  unfold out0_B_6
  rw [View.read_writes_eq_canon _ _ _ (cover0_B_6 c i arg2 harg2 arg3 harg3 arg4 harg4 arg5 harg5 arg6 harg6 arg7 harg7 arg8 harg8 hc0 x0 x1 x2 x3 acc)]
  unfold kernelRun0_B
  dsimp only
  sl_unfold_words
  rw [View.canon_unit_zero hz]
  simp only [View.readAt_eq_ld, harg2.read_unread, harg3.read_unread, harg4.read_unread, harg5.read_unread, harg8.read_unread,
    View.ld_unit_zero (S := S1024x5632) hz, View.ld_unit_zero (S := S5632x512) hz, View.ld_unit_zero (S := S1024x512) hz, View.ld_unit_zero (S := S8x128) hz]

theorem pay2_at {r n : Nat} (hr : r < 1024) (hn : n < 512) : at2 (k0_pay2 x0 x1 x2 x3) r n = at2 x2 r n + nn x0 x1 5632 r n - at2 x3 r n := by
  rw [at2_of _ hr hn, at2_of _ hr hn, at2_of _ hr hn, nn_eq x0 x1 hr hn rfl rfl]
  unfold k0_pay2
  pointwise
  rw [add_comm]

theorem pay3_at {r n : Nat} (hr : r < 1024) (hn : n < 512) : at2 (k0_pay3 x0 x1 x2 x3) r n = Ideal.div (at2 (k0_pay2 x0 x1 x2 x3) r n) ((2048 : ℝ) : EReal) := by
  rw [at2_of _ hr hn, at2_of _ hr hn]
  unfold k0_pay3
  generalize k0_pay2 x0 x1 x2 x3 = v
  pointwise
  rw [Norm.lit2048]

theorem pay5_at {r n : Nat} (hr : r < 8) (hn : n < 128) :
    at2 (k0_pay5 x0 x1 x2 x3 acc) r n = at2 acc r n
      + ((1 / 2 : ℝ) : EReal) * ∑ k : Fin 1024, Ideal.div (∑ j : Fin 512, at2 (k0_pay2 x0 x1 x2 x3) k.val j.val * at2 (k0_pay2 x0 x1 x2 x3) k.val j.val) ((2048 : ℝ) : EReal) := by
  rw [at2_of _ hr hn, at2_of _ hr hn]
  simp only [at2_of (k0_pay2 x0 x1 x2 x3) (Fin.isLt _) (Fin.isLt _)]
  unfold k0_pay5
  generalize k0_pay2 x0 x1 x2 x3 = v
  pointwise
  rw [Norm.litOneHalf, Norm.lit2048]
  exact congrArg _ (congrArg _ (Finset.sum_congr rfl fun k _ => Fin.sum_univ_one _))

theorem pay1_at {r n : Nat} (hr : r < 8) (hn : n < 128) : at2 (k0_pay1 (F := Ideal)) r n = 0 := by
  rw [at2_of _ hr hn]
  unfold k0_pay1
  pointwise

end Body

variable (m : (ℓ : Loc nD τ sig) → Buf (Elt Ideal) ℓ) (c : Dev nD)

def argA : (⟨2, ![8192, 5632]⟩ : Shape).Idx → EReal := m ((c.tc : Thread nD τ).loc main_arg0)
def argW : (⟨2, ![5632, 2048]⟩ : Shape).Idx → EReal := m ((c.tc : Thread nD τ).loc main_arg1)
def argX : (⟨2, ![8192, 2048]⟩ : Shape).Idx → EReal := m ((c.tc : Thread nD τ).loc main_arg2)
def argT : (⟨2, ![8192, 2048]⟩ : Shape).Idx → EReal := m ((c.tc : Thread nD τ).loc main_arg3)

theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)
theorem index4 : ∀ t : Fin cfg0.N, win0_4.index t = ![t.val / 4, t.val % 4] := (by decide +kernel : ∀ t : Fin grid0.N, _)
theorem index5 : ∀ t : Fin cfg0.N, win0_5.index t = ![t.val / 4, t.val % 4] := (by decide +kernel : ∀ t : Fin grid0.N, _)
theorem index6 : ∀ t : Fin cfg0.N, win0_6.index t = ![0, 0] := (by decide +kernel : ∀ t : Fin grid0.N, _)

theorem block0 (t : Fin cfg0.N) (r n : Nat) (hr : r < 1024) (hn : n < 5632) :
    at2 (iblk m c 0 t : Vec Ideal S1024x5632 .bf16) r n = at2 (argA m c) (1024 * (t.val / 4) + r) n := by
  rw [at2_of _ hr hn]
  exact at2_at (argA m c) _ (by blk_simp [index0 t]; dsimp only; omega) (by blk_simp [index0 t])

theorem block1 (t : Fin cfg0.N) (r n : Nat) (hr : r < 5632) (hn : n < 512) :
    at2 (iblk m c 1 t : Vec Ideal S5632x512 .bf16) r n = at2 (argW m c) r (512 * (t.val % 4) + n) := by
  rw [at2_of _ hr hn]
  exact at2_at (argW m c) _ (by blk_simp [index1 t]) (by blk_simp [index1 t]; dsimp only; omega)

theorem block2 (t : Fin cfg0.N) (r n : Nat) (hr : r < 1024) (hn : n < 512) :
    at2 (iblk m c 2 t : Vec Ideal S1024x512 .f32) r n = at2 (argX m c) (1024 * (t.val / 4) + r) (512 * (t.val % 4) + n) := by
  rw [at2_of _ hr hn]
  exact at2_at (argX m c) _ (by blk_simp [index2 t]; dsimp only; omega) (by blk_simp [index2 t]; dsimp only; omega)

theorem block3 (t : Fin cfg0.N) (r n : Nat) (hr : r < 1024) (hn : n < 512) :
    at2 (iblk m c 3 t : Vec Ideal S1024x512 .f32) r n = at2 (argT m c) (1024 * (t.val / 4) + r) (512 * (t.val % 4) + n) := by
  rw [at2_of _ hr hn]
  exact at2_at (argT m c) _ (by blk_simp [index3 t]; dsimp only; omega) (by blk_simp [index3 t]; dsimp only; omega)

/-- What is left of the target, its share of the loss, and a point's share of the loss. -/
def err (r n : Nat) : EReal := at2 (argX m c) r n + nn (argA m c) (argW m c) 5632 r n - at2 (argT m c) r n
def share (r n : Nat) : EReal := ((1 / 2 * 2048⁻¹ : ℝ) : EReal) * (err m c r n * err m c r n)
def tile (p : Nat) : EReal := ∑ r ∈ Finset.range 1024, ∑ n ∈ Finset.range 512, share m c (1024 * (p / 4) + r) (512 * (p % 4) + n)

/-- Four pieces of 512 columns, for each band of 1024 rows, are the whole. -/
theorem pieces (f : Nat → Nat → EReal) (K : Nat) :
    ∑ p ∈ Finset.range (4 * K), ∑ r ∈ Finset.range 1024, ∑ n ∈ Finset.range 512, f (1024 * (p / 4) + r) (512 * (p % 4) + n)
      = ∑ r ∈ Finset.range (1024 * K), ∑ n ∈ Finset.range (512 + 512 + 512 + 512), f r n := by
  induction K with
  | zero => simp
  | succ K ih =>
    rw [show 4 * (K + 1) = 4 * K + 1 + 1 + 1 + 1 by omega, Finset.sum_range_succ, Finset.sum_range_succ, Finset.sum_range_succ, Finset.sum_range_succ, ih,
      Nat.mul_succ, Finset.sum_range_add]
    rw [show 4 * K / 4 = K by omega, show (4 * K + 1) / 4 = K by omega, show (4 * K + 1 + 1) / 4 = K by omega, show (4 * K + 1 + 1 + 1) / 4 = K by omega,
      show 4 * K % 4 = 0 by omega, show (4 * K + 1) % 4 = 1 by omega, show (4 * K + 1 + 1) % 4 = 2 by omega, show (4 * K + 1 + 1 + 1) % 4 = 3 by omega,
      add_assoc, add_assoc, add_assoc]
    congr 1
    rw [← Finset.sum_add_distrib, ← Finset.sum_add_distrib, ← Finset.sum_add_distrib]
    refine Finset.sum_congr rfl fun r _ => ?_
    rw [Finset.sum_range_add, Finset.sum_range_add, Finset.sum_range_add, add_assoc, add_assoc]
    simp only [Nat.mul_zero, Nat.zero_add, Nat.mul_one, Nat.reduceMul, Nat.reduceAdd]

theorem half_pos : (0 : EReal) ≤ ((1 / 2 : ℝ) : EReal) := by exact_mod_cast (by norm_num : (0 : ℝ) ≤ 1 / 2)
theorem inv_pos : (0 : EReal) ≤ ((2048⁻¹ : ℝ) : EReal) := by exact_mod_cast (by norm_num : (0 : ℝ) ≤ 2048⁻¹)

/-- Half a sum of rows' means of squares, into the shares. -/
theorem shares (R C : Nat) (f : Nat → Nat → EReal) :
    ((1 / 2 : ℝ) : EReal) * ∑ k : Fin R, Ideal.div (∑ j : Fin C, f k.val j.val * f k.val j.val) ((2048 : ℝ) : EReal)
      = ∑ r ∈ Finset.range R, ∑ n ∈ Finset.range C, ((1 / 2 * 2048⁻¹ : ℝ) : EReal) * (f r n * f r n) := by
  rw [Norm.scale_sum _ half_pos (EReal.coe_ne_top _), Finset.sum_range]
  refine Finset.sum_congr rfl fun k _ => ?_
  rw [Norm.div_real (by norm_num), mul_comm (∑ j : Fin C, _), Norm.scale_sum _ inv_pos (EReal.coe_ne_top _), Norm.scale_sum _ half_pos (EReal.coe_ne_top _), Finset.sum_range]
  exact Finset.sum_congr rfl fun j _ => by rw [← mul_assoc, ← EReal.coe_mul]

theorem err_block (t : Fin cfg0.N) {r n : Nat} (hr : r < 1024) (hn : n < 512) :
    at2 (k0_pay2 (iblk m c 0 t) (iblk m c 1 t) (iblk m c 2 t) (iblk m c 3 t)) r n = err m c (1024 * (t.val / 4) + r) (512 * (t.val % 4) + n) := by
  rw [pay2_at _ _ _ _ hr hn, block2 m c t _ _ hr hn, block3 m c t _ _ hr hn]
  unfold err nn
  congr 2
  refine Finset.sum_congr rfl fun k hk => ?_
  have hk := Finset.mem_range.mp hk
  rw [block0 m c t _ _ hr hk, block1 m c t _ _ hk hn]

theorem loss_block (t : Fin cfg0.N) (acc : Vec Ideal S8x128 .f32) {r n : Nat} (hr : r < 8) (hn : n < 128) :
    at2 (k0_pay5 (iblk m c 0 t) (iblk m c 1 t) (iblk m c 2 t) (iblk m c 3 t) acc) r n = at2 acc r n + tile m c t.val := by
  rw [pay5_at _ _ _ _ _ hr hn, shares 1024 512 (at2 (k0_pay2 (iblk m c 0 t) (iblk m c 1 t) (iblk m c 2 t) (iblk m c 3 t)))]
  unfold tile share
  congr 1
  refine Finset.sum_congr rfl fun k hk => Finset.sum_congr rfl fun j hj => ?_
  rw [err_block m c t (Finset.mem_range.mp hk) (Finset.mem_range.mp hj)]

/-- The loss after each point. -/
theorem loss_after {r n : Nat} (hr : r < 8) (hn : n < 128) : ∀ (q : Nat) (t : Fin cfg0.N), t.val = q →
    at2 (outsAt0 m c t.val t.isLt).2.2 r n = ∑ p ∈ Finset.range (t.val + 1), tile m c p := by
  intro q
  induction q with
  | zero =>
    intro t h
    rw [outsAt0_A m c t (by omega)]
    dsimp only
    rw [first_loss, loss_block m c t _ hr hn, pay1_at hr hn, h]
    simp
  | succ q ih =>
    intro t h
    have ht : t.val < 32 := lt_of_lt_of_eq t.isLt N_0
    rw [outsAt0_B m c t (by omega)]
    dsimp only
    rw [next_loss, loss_block m c t _ hr hn]
    have ha := ih ⟨t.val - 1, Nat.lt_of_le_of_lt (Nat.sub_le _ _) t.isLt⟩ (show t.val - 1 = q by omega)
    dsimp only at ha
    rw [ha, show t.val - 1 + 1 = t.val by omega, Finset.sum_range_succ]

theorem dy_after (t : Fin cfg0.N) :
    (outsAt0 m c t.val t.isLt).1 = k0_pay3 (iblk m c 0 t) (iblk m c 1 t) (iblk m c 2 t) (iblk m c 3 t) := by
  by_cases h : t.val % 32 = 0
  · rw [outsAt0_A m c t h]; dsimp only; rw [first_dy]
  · rw [outsAt0_B m c t h]; dsimp only; rw [next_dy]

theorem copy_after (t : Fin cfg0.N) :
    ((outsAt0 m c t.val t.isLt).2.1 : S1024x512.Idx → EReal) = k0_pay3 (iblk m c 0 t) (iblk m c 1 t) (iblk m c 2 t) (iblk m c 3 t) := by
  by_cases h : t.val % 32 = 0
  · rw [outsAt0_A m c t h]; dsimp only; rw [first_copy]; rfl
  · rw [outsAt0_B m c t h]; dsimp only; rw [next_copy]; rfl

/-- The results. -/
def DY : S8192x2048.Idx → EReal := fun y => Ideal.div (err m c (y 0).val (y 1).val) ((2048 : ℝ) : EReal)
def LOSS : S8x128.Idx → EReal := fun _ => ∑ r ∈ Finset.range 8192, ∑ n ∈ Finset.range 2048, share m c r n

theorem written (t : Fin cfg0.N) (y : S1024x512.Idx) (z : S8192x2048.Idx)
    (e0 : (z 0).val = 1024 * (t.val / 4) + (y 0).val) (e1 : (z 1).val = 512 * (t.val % 4) + (y 1).val) :
    k0_pay3 (iblk m c 0 t) (iblk m c 1 t) (iblk m c 2 t) (iblk m c 3 t) y = DY m c z := by
  unfold DY
  rw [e0, e1, ← err_block m c t (y 0).isLt (y 1).isLt]
  exact (at2_idx (R := 1024) (C := 512) _ y).trans (pay3_at _ _ _ _ (y 0).isLt (y 1).isLt)

theorem final4 : (dats m 0 c).arrAt 4 cfg0.N = DY m c := by
  refine (dats m 0 c).arrAt_eq_of_covers 4 _ (by decide +kernel) fun t hf y => ?_
  blk_simp
  rw [after0_4, dy_after m c t]
  exact written m c t y _ (by blk_simp [index4 t]; omega) (by blk_simp [index4 t]; omega)

theorem final5 : (dats m 0 c).arrAt 5 cfg0.N = DY m c := by
  refine (dats m 0 c).arrAt_eq_of_covers 5 _ (by decide +kernel) fun t hf y => ?_
  blk_simp
  rw [after0_5]
  refine (congrFun (copy_after m c t) y).trans ?_
  exact written m c t y _ (by blk_simp [index5 t]; omega) (by blk_simp [index5 t]; omega)

theorem final6 : (dats m 0 c).arrAt 6 cfg0.N = LOSS m c := by
  refine (dats m 0 c).arrAt_eq_of_covers 6 _ (by decide +kernel) fun t hf y => ?_
  blk_simp
  rw [after0_6]
  have ht : t.val < 32 := lt_of_lt_of_eq t.isLt N_0
  have hl := (flush0_6 t).mp hf
  unfold LOSS
  refine (at2_idx (R := 8) (C := 128) _ y).trans ?_
  rw [loss_after m c (y 0).isLt (y 1).isLt _ t rfl, show t.val + 1 = 4 * 8 by omega]
  exact pieces (share m c) 8

end Cert.DownLossIdeal.Val

namespace Cert.DownLossRefIdeal.Val

open Cert.DownLossRefIdeal Cert.DownLossRefIdeal.Gen Facts

variable (A : FVec Ideal S8192x5632 .bf16) (W : FVec Ideal S5632x2048 .bf16) (X T e : FVec Ideal S8192x2048 .f32)

/-- What is left of the target. -/
def errs : FVec Ideal S8192x2048 .f32 :=
  subf (addf X (Host.dotGeneral dot_S8192x5632_S5632x2048_S8192x2048_1_0_0_1_n_n none (extf .f32 A bitsLt_bf16_f32) (extf .f32 W bitsLt_bf16_f32))) T

def dys : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) e)

def losses : FVec Ideal S8x128 .f32 :=
  broadcastInDim S8x128 ![] bcast_S_S8x128 (mulf (constant S_ .f32 0x3F000000#32) (Host.reduceAdd (Host.divf (Host.reduceAdd (mulf e e) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_))

theorem errs_at {r n : Nat} (hr : r < 8192) (hn : n < 2048) : at2 (errs A W X T) r n = at2 X r n + nn A W 5632 r n - at2 T r n := by
  rw [at2_of _ hr hn, at2_of _ hr hn, at2_of _ hr hn, nn_eq A W hr hn rfl rfl]
  unfold errs
  pointwise

theorem dys_at {r n : Nat} (hr : r < 8192) (hn : n < 2048) : at2 (dys e) r n = Ideal.div (at2 e r n) ((2048 : ℝ) : EReal) := by
  rw [at2_of _ hr hn, at2_of _ hr hn]
  unfold dys
  pointwise
  rw [Norm.litOneHalf, Norm.litTwo, Norm.lit2048, Norm.div_real (by norm_num), Norm.div_real (by norm_num), ← mul_assoc, ← EReal.coe_mul, ← EReal.coe_mul, mul_comm]
  congr 2
  norm_num

theorem losses_at {r n : Nat} (hr : r < 8) (hn : n < 128) :
    at2 (losses e) r n = ((1 / 2 : ℝ) : EReal) * ∑ k : Fin 8192, Ideal.div (∑ j : Fin 2048, at2 e k.val j.val * at2 e k.val j.val) ((2048 : ℝ) : EReal) := by
  rw [at2_of _ hr hn]
  simp only [at2_of e (Fin.isLt _) (Fin.isLt _)]
  unfold losses
  pointwise
  rw [Norm.litOneHalf, Norm.lit2048]

theorem frame : Cert.quiescent_DownLossRefIdeal := fun m ρ _ =>
  (θ_run Cert.DownLossRefIdeal.defs _ _).mono
    (fun r h => ⟨fun c => (h c).2.2.2, Idealize.ShloMosaic.sem_eq_zero_of_no_sems (by decide) r.2⟩)
    (Cert.DownLossRefIdeal.Value.run (F := Ideal) m ρ)

end Cert.DownLossRefIdeal.Val

namespace Cert.DownLossMain

open Cert.DownLossRefIdeal.Val Cert.DownLossIdeal.Val

variable (m : (ℓ : Loc Cert.DownLossIdeal.nD Cert.DownLossIdeal.τ Cert.DownLossIdeal.sig) → Buf (Elt Ideal) ℓ) (c : Dev Cert.DownLossIdeal.nD)

theorem dy_eq : dys (errs (argA m c) (argW m c) (argX m c) (argT m c)) = DY m c :=
  whole (R := 8192) (C := 2048) _ (fun r n => Ideal.div (err m c r n) ((2048 : ℝ) : EReal)) fun r n hr hn => by
    rw [dys_at _ hr hn, errs_at _ _ _ _ hr hn]
    rfl

theorem loss_eq : losses (errs (argA m c) (argW m c) (argX m c) (argT m c)) = LOSS m c :=
  whole (R := 8) (C := 128) _ (fun _ _ => ∑ r ∈ Finset.range 8192, ∑ n ∈ Finset.range 2048, share m c r n) fun r n hr hn => by
    rw [losses_at _ hr hn, shares 8192 2048 (at2 (errs (argA m c) (argW m c) (argX m c) (argT m c)))]
    refine Finset.sum_congr rfl fun k hk => Finset.sum_congr rfl fun j hj => ?_
    rw [errs_at _ _ _ _ (Finset.mem_range.mp hk) (Finset.mem_range.mp hj)]
    rfl

theorem algebraic : Cert.algebraic_DownLossIdeal_DownLossRefIdeal := by
  intro m ρ m' ρ' _ hagree
  refine ⟨fun c => DY m c, fun c => DY m c, fun c => LOSS m c, ?_, ?_⟩
  · exact (θ_run Cert.DownLossIdeal.defs _ _).mono
      (fun r h c => ⟨(h c).1.trans (final4 m c), (h c).2.1.trans (final5 m c), (h c).2.2.1.trans (final6 m c), (h c).2.2.2⟩)
      (Cert.DownLossIdeal.Value.run_blocks (F := Ideal) m ρ)
  · refine (θ_run Cert.DownLossRefIdeal.defs _ _).mono
      (fun r h c => ⟨(h c).1.trans ?_, (h c).2.1.trans ?_, (h c).2.2.1.trans ?_, (h c).2.2.2⟩)
      (Cert.DownLossRefIdeal.Value.run (F := Ideal) m' ρ')
    · rw [(hagree c).1, (hagree c).2.1, (hagree c).2.2.1, (hagree c).2.2.2]
      exact dy_eq m c
    · rw [(hagree c).1, (hagree c).2.1, (hagree c).2.2.1, (hagree c).2.2.2]
      exact dy_eq m c
    · rw [(hagree c).1, (hagree c).2.1, (hagree c).2.2.1, (hagree c).2.2.2]
      exact loss_eq m c

end Cert.DownLossMain

end
-- ==== Proof.MemxSpec.lean ====
/- The gradients of a read of the memory, one head at one position: the head's query is a normed row, its scores against
   the 256 rows of keys pass a softmax, and the weights sum the rows of values. The calls divide the weights first; the
   derivative divides last. They agree where the scores are real. -/
module

public import proofs.«01_k».proof.Proof.NormSpec

@[expose] public section

noncomputable section

open Idealize.ShloMosaic

namespace Memx

/-- A real number, among the extended ones. -/
def Real' (a : EReal) : Prop := ∃ r : ℝ, a = (r : EReal)

theorem real_of {a : EReal} (h0 : a ≠ ⊥) (h1 : a ≠ ⊤) : Real' a := ⟨a.toReal, (EReal.coe_toReal h1 h0).symm⟩
theorem real_mul {a b : EReal} (ha : Real' a) (hb : Real' b) : Real' (a * b) := by
  obtain ⟨x, rfl⟩ := ha; obtain ⟨y, rfl⟩ := hb; exact ⟨x * y, (EReal.coe_mul x y).symm⟩
theorem coe_sum {n : Nat} (r : Fin n → ℝ) : ∑ k, ((r k : ℝ) : EReal) = ((∑ k, r k : ℝ) : EReal) := by
  classical
  induction (Finset.univ : Finset (Fin n)) using Finset.induction_on with
  | empty => simp
  | insert a t ha ih => rw [Finset.sum_insert ha, Finset.sum_insert ha, ih, EReal.coe_add]
theorem real_sum {n : Nat} {f : Fin n → EReal} (h : ∀ k, Real' (f k)) : Real' (∑ k, f k) := by
  choose r hr using h
  exact ⟨∑ k, r k, by rw [Finset.sum_congr rfl fun k _ => hr k, coe_sum]⟩

/-- The factor of the scores, and the number the maximum starts from. -/
def scale : EReal := Ideal.ofBits .f32 0x3DB504F3#32
def least : EReal := Ideal.ofBits .f32 0xFF800000#32

theorem least_eq : least = ⊥ := by simp [least, Ideal.ofBits, Ideal.ieee]
theorem scale_real : Real' scale := by
  refine ⟨11863283 * 2 ^ (-27 : ℤ), ?_⟩
  simp [scale, Ideal.ofBits, Ideal.ieee]

section
variable (s D : Fin 256 → EReal)

def top : EReal := Finset.univ.fold max least s
/-- A score's exponential, from the greatest; and its share of their sum. -/
def expo (k : Fin 256) : EReal := Ideal.exp (s k - top s)
def weight (k : Fin 256) : EReal := Ideal.div (expo s k) (∑ i, expo s i)
/-- The scores' gradient from the weights', `D`. -/
def back (k : Fin 256) : EReal := weight s k * (D k - ∑ i, D i * weight s i) * scale

theorem top_real (h : ∀ k, Real' (s k)) : Real' (top s) := by
  refine real_of (fun e => ?_) (fun e => ?_)
  · obtain ⟨r, hr⟩ := h 0
    have : s 0 ≤ top s := Finset.le_fold_max (s 0) |>.mpr (.inr ⟨0, Finset.mem_univ _, le_rfl⟩)
    rw [e, hr, le_bot_iff] at this
    exact EReal.coe_ne_bot r this
  · have : top s < ⊤ := (Finset.fold_max_lt ⊤).mpr ⟨by rw [least_eq]; exact bot_lt_top, fun k _ => by
      obtain ⟨r, hr⟩ := h k; rw [hr]; exact EReal.coe_lt_top r⟩
    exact this.ne e

/-- The derivative's order: the sum of the exponentials divides afterwards. -/
theorem back_eq (h : ∀ k, Real' (s k)) (k : Fin 256) :
    (Ideal.div (D k) (∑ i, expo s i) + -(∑ i, D i * Ideal.div (1 : ℝ) ((∑ i, expo s i) * (∑ i, expo s i)) * expo s i)) * expo s k * scale
      = back s D k := by
  obtain ⟨t, ht⟩ := top_real s h
  choose r hr using h
  have he : ∀ i, expo s i = ((Real.exp (r i - t) : ℝ) : EReal) := fun i => by
    unfold expo; rw [ht, hr, ← EReal.coe_sub]; rfl
  have hl : ∑ i, expo s i = ((∑ i, Real.exp (r i - t) : ℝ) : EReal) := by
    rw [Finset.sum_congr rfl fun i _ => he i, coe_sum]
  have hpos : 0 < ∑ i, Real.exp (r i - t) := Finset.sum_pos (fun i _ => Real.exp_pos _) ⟨0, Finset.mem_univ _⟩
  unfold back weight
  rw [hl]
  simp only [he]
  generalize (∑ i, Real.exp (r i - t)) = L at hpos ⊢
  simp only [Norm.div_real hpos]
  rw [← EReal.coe_mul, Norm.div_real (mul_pos hpos hpos)]
  have h0 : (0 : EReal) ≤ ((L⁻¹ : ℝ) : EReal) := by exact_mod_cast (inv_pos.mpr hpos).le
  have h1 : ((L⁻¹ : ℝ) : EReal) ≠ ⊤ := EReal.coe_ne_top _
  have hs : ∑ i, D i * (((1 : ℝ) : EReal) * (((L * L)⁻¹ : ℝ) : EReal)) * ((Real.exp (r i - t) : ℝ) : EReal)
      = ((L⁻¹ : ℝ) : EReal) * ∑ i, D i * (((Real.exp (r i - t) : ℝ) : EReal) * ((L⁻¹ : ℝ) : EReal)) := by
    rw [Norm.scale_sum _ h0 h1]
    refine Finset.sum_congr rfl fun i _ => ?_
    rw [mul_inv, EReal.coe_mul, EReal.coe_one, one_mul]
    ac_rfl
  rw [hs, mul_comm (D k), ← sub_eq_add_neg, ← Norm.scale_sub h0 h1]
  ac_rfl

end

section
variable (x g d : Fin 128 → EReal) (K V : Fin 256 → Fin 128 → EReal)

/-- The normed row, the query, its scores, and the gradient at the weights. -/
def hat (j : Fin 128) : EReal := x j * Norm.inv 128 Norm.eps x
def query (j : Fin 128) : EReal := hat x j * g j
def score (k : Fin 256) : EReal := (∑ j, query x g j * K k j) * scale
def seen (k : Fin 256) : EReal := ∑ j, d j * V k j

/-- The gradients at the scores, at the query, and at the row. -/
def dscore (k : Fin 256) : EReal := back (score x g K) (seen d V) k
def dquery (j : Fin 128) : EReal := ∑ k, dscore x g d K V k * K k j
def drow (j : Fin 128) : EReal := Norm.grad 128 Norm.eps x (fun i => dquery x g d K V i * g i) j

theorem inv_real (hx : ∀ j, Real' (x j)) : Real' (Norm.inv 128 Norm.eps x) := by
  have hm : 0 < Norm.mean 128 Norm.eps x := Norm.mean_pos (by norm_num) Norm.eps_pos x
  obtain ⟨q, hq⟩ := real_sum fun j => real_mul (hx j) (hx j)
  have e : Norm.mean 128 Norm.eps x = ((q * (128 : ℝ)⁻¹ + Norm.eps : ℝ) : EReal) := by
    unfold Norm.mean
    rw [hq, Norm.div_real (by norm_num)]
    push_cast
    rfl
  unfold Norm.inv
  rw [e] at hm ⊢
  have hp : 0 < q * (128 : ℝ)⁻¹ + Norm.eps := by exact_mod_cast hm
  rw [Ideal.rsqrt_coe, if_neg hp.not_gt, if_neg hp.ne']
  exact ⟨_, rfl⟩

/-- An infinite entry makes the mean square infinite, and the normed row zero. -/
theorem inv_zero {j : Fin 128} (hj : x j * x j = ⊤) : Norm.inv 128 Norm.eps x = 0 := by
  have hs : ∑ k, x k * x k = ⊤ :=
    top_le_iff.mp (hj ▸ Finset.single_le_sum (f := fun k => x k * x k) (fun k _ => Norm.square_nonneg (x k)) (Finset.mem_univ j))
  unfold Norm.inv Norm.mean
  rw [hs, Norm.div_real (by norm_num), EReal.top_mul_coe_of_pos (by norm_num), EReal.top_add_coe]
  simp

theorem hat_real (j : Fin 128) : Real' (hat x j) := by
  by_cases h : ∃ k, x k = ⊥ ∨ x k = ⊤
  · obtain ⟨k, hk⟩ := h
    refine ⟨0, ?_⟩
    unfold hat
    rw [inv_zero x (j := k) (by rcases hk with hk | hk <;> rw [hk] <;> rfl), mul_zero, EReal.coe_zero]
  · simp only [not_exists, not_or] at h
    have hx : ∀ k, Real' (x k) := fun k => real_of (h k).1 (h k).2
    exact real_mul (hx j) (inv_real x hx)

theorem score_real (hg : ∀ j, Real' (g j)) (hK : ∀ k j, Real' (K k j)) (k : Fin 256) : Real' (score x g K k) :=
  real_mul (real_sum fun j => real_mul (real_mul (hat_real x j) (hg j)) (hK k j)) scale_real

end

/-! Heads of an array: 128 columns from column `o`. -/

variable {R C : Nat} (X : (⟨2, ![R, C]⟩ : Shape).Idx → EReal)

def row (r o : Nat) : Fin 128 → EReal := fun j => Conv.at2 X r (o + j.val)
def rows (n o : Nat) : Fin n → Fin 128 → EReal := fun i => row X i.val o

theorem row_ix (Y : (⟨2, ![R, 128]⟩ : Shape).Idx → EReal) {r : Nat} (hr : r < R) : row Y r 0 = fun j => Y (ix2 ⟨r, hr⟩ j) :=
  funext fun j => by unfold row; rw [Nat.zero_add, Conv.at2_of Y hr j.isLt]

theorem rows_ix (Y : (⟨2, ![R, 128]⟩ : Shape).Idx → EReal) : rows Y R 0 = fun i j => Y (ix2 i j) :=
  funext fun i => row_ix Y i.isLt

/-! The gradients over the whole arrays: `Z` holds the queries' columns from 1024, `D` the outputs' gradients from 1536. -/

/-- The head and the place in it of a column, and the column of a place. -/
def head (n : Fin 512) : Fin 4 := ⟨n.val / 128, by omega⟩
def lane (n : Fin 512) : Fin 128 := ⟨n.val % 128, by omega⟩
def col (h : Fin 4) (j : Fin 128) : Fin 512 := ⟨128 * h.val + j.val, by omega⟩

theorem col_eq (n : Fin 512) : col (head n) (lane n) = n := Fin.ext (Nat.div_add_mod n.val 128)

section Arrays
variable (Z : (⟨2, ![8192, 1920]⟩ : Shape).Idx → EReal) (G : (⟨2, ![1, 128]⟩ : Shape).Idx → EReal)
  (K V : (⟨2, ![256, 512]⟩ : Shape).Idx → EReal) (D : (⟨2, ![8192, 2048]⟩ : Shape).Idx → EReal)

def xs (r : Nat) (h : Fin 4) : Fin 128 → EReal := row Z r (1024 + 128 * h.val)
def ds (r : Nat) (h : Fin 4) : Fin 128 → EReal := row D r (1536 + 128 * h.val)
def gains : Fin 128 → EReal := row G 0 0
def mem (h : Fin 4) : Fin 256 → Fin 128 → EReal := rows K 256 (128 * h.val)

def scoresOf (r : Nat) (h : Fin 4) : Fin 256 → EReal := score (xs Z r h) (gains G) (mem K h)
def dscoreOf (r : Nat) (h : Fin 4) : Fin 256 → EReal := dscore (xs Z r h) (gains G) (ds D r h) (mem K h) (mem V h)
def dqueryOf (r : Nat) (h : Fin 4) : Fin 128 → EReal := dquery (xs Z r h) (gains G) (ds D r h) (mem K h) (mem V h)
def drowOf (r : Nat) (h : Fin 4) : Fin 128 → EReal := drow (xs Z r h) (gains G) (ds D r h) (mem K h) (mem V h)

/-- The gradients of the keys, of the values and of the gain, over the first `n` positions. -/
def keySum (n : Nat) (h : Fin 4) (i : Fin 256) (j : Fin 128) : EReal :=
  ∑ r ∈ Finset.range n, dscoreOf Z G K V D r h i * query (xs Z r h) (gains G) j
def valueSum (n : Nat) (h : Fin 4) (i : Fin 256) (j : Fin 128) : EReal :=
  ∑ r ∈ Finset.range n, weight (scoresOf Z G K r h) i * ds D r h j
def gainSum (n : Nat) (j : Fin 128) : EReal :=
  ∑ r ∈ Finset.range n, ∑ h : Fin 4, dqueryOf Z G K V D r h j * hat (xs Z r h) j

/-- The results. -/
def Rows : (⟨2, ![8192, 512]⟩ : Shape).Idx → EReal := fun y => drowOf Z G K V D (y 0).val (head (y 1)) (lane (y 1))
def Keys : (⟨2, ![256, 512]⟩ : Shape).Idx → EReal := fun y => keySum Z G K V D 8192 (head (y 1)) (y 0) (lane (y 1))
def Values : (⟨2, ![256, 512]⟩ : Shape).Idx → EReal := fun y => valueSum Z G K D 8192 (head (y 1)) (y 0) (lane (y 1))
def Gain : (⟨2, ![1, 128]⟩ : Shape).Idx → EReal := fun y => gainSum Z G K V D 8192 (y 1)

end Arrays

end Memx

end
-- ==== Proof.MemxHead.lean ====
/- What the call computes of one head on one block of 512 rows: `g` is the gain, `a` the head's columns, `k` and `v` its
   keys and values, `d` the gradient at its output. -/
module

public import proofs.«01_k».proof.Defs
public import proofs.«01_k».proof.Proof.Gen.MemxBwdIdeal.Value
public import proofs.«01_k».proof.Proof.ProdSpec
public import proofs.«01_k».proof.Proof.MemxSpec

@[expose] public section

set_option maxRecDepth 16384

noncomputable section

open Idealize.ShloMosaic Idealize.ShloMosaic.TcCoe Idealize.SL.Sem
open Conv Prod Memx

namespace Cert.MemxBwdIdeal.Val

open Cert.MemxBwdIdeal Cert.MemxBwdIdeal.Gen

variable (g : Vec Ideal S1x128 .f32) (a : Vec Ideal S512x128 .f32) (k v : Vec Ideal S256x128 .bf16) (d : Vec Ideal S512x128 .f32)

theorem inv_at {r : Nat} (hr : r < 512) : at2 (k0_pay4 a) r 0 = Norm.inv 128 Norm.eps (row a r 0) := by
  rw [at2_of _ hr (show 0 < 1 by omega), row_ix a hr]
  unfold k0_pay4 Norm.inv Norm.mean
  pointwise
  rw [Norm.lit128, Norm.eps_eq]

theorem hat_at {r : Nat} (hr : r < 512) (j : Fin 128) : k0_pay5 a (ix2 ⟨r, hr⟩ j) = hat (row a r 0) j := by
  unfold hat
  rw [← inv_at a hr, at2_of _ hr (show 0 < 1 by omega), row_ix a hr]
  unfold k0_pay5
  generalize k0_pay4 a = w
  pointwise

theorem query_at {r : Nat} (hr : r < 512) (j : Fin 128) : k0_pay6 g a (ix2 ⟨r, hr⟩ j) = query (row a r 0) (row g 0 0) j := by
  unfold query
  rw [← hat_at a hr, row_ix g (show 0 < 1 by omega)]
  unfold k0_pay6
  generalize k0_pay5 a = w
  pointwise

/-- The weights of a row. -/
def weights (r : Nat) : Fin 256 → EReal := weight (score (row a r 0) (row g 0 0) (rows k 256 0))

theorem weight_at {r : Nat} (hr : r < 512) (i : Fin 256) : k0_pay7 g a k (ix2 ⟨r, hr⟩ i) = weights g a k r i := by
  unfold weights weight expo top score
  simp only [← query_at g a hr, rows_ix]
  unfold k0_pay7
  generalize k0_pay6 g a = q
  pointwise
  rfl

/-- The scores' gradient. -/
def dscores (r : Nat) : Fin 256 → EReal := dscore (row a r 0) (row g 0 0) (row d r 0) (rows k 256 0) (rows v 256 0)

theorem dscore_at {r : Nat} (hr : r < 512) (i : Fin 256) :
    k0_pay10 (k0_pay7 g a k) (k0_pay8 d) v (ix2 ⟨r, hr⟩ i) = dscores g a k v d r i := by
  unfold dscores dscore back seen
  have e := fun i => weight_at g a k hr i
  unfold weights at e
  simp only [← e]
  simp only [rows_ix, row_ix d hr]
  unfold k0_pay10 k0_pay8
  generalize k0_pay7 g a k = p
  pointwise
  rfl

theorem dquery_at {r : Nat} (hr : r < 512) (j : Fin 128) :
    k0_pay11 (k0_pay7 g a k) (k0_pay8 d) v k (ix2 ⟨r, hr⟩ j)
      = dquery (row a r 0) (row g 0 0) (row d r 0) (rows k 256 0) (rows v 256 0) j := by
  unfold dquery
  have e := fun i => dscore_at g a k v d hr i
  unfold dscores at e
  simp only [← e]
  simp only [rows_ix k]
  unfold k0_pay11
  generalize k0_pay10 (k0_pay7 g a k) (k0_pay8 d) v = p
  pointwise

theorem drow_at {r : Nat} (hr : r < 512) (j : Fin 128) :
    k0_pay14 g (k0_pay4 a) (k0_pay5 a) (k0_pay7 g a k) (k0_pay8 d) v k (ix2 ⟨r, hr⟩ j)
      = drow (row a r 0) (row g 0 0) (row d r 0) (rows k 256 0) (rows v 256 0) j := by
  unfold drow Norm.grad
  have e := fun i => hat_at a hr i
  unfold hat at e
  simp only [← e, ← dquery_at g a k v d hr]
  simp only [← inv_at a hr, at2_of _ hr (show 0 < 1 by omega), row_ix g (show 0 < 1 by omega)]
  unfold k0_pay14
  generalize k0_pay11 (k0_pay7 g a k) (k0_pay8 d) v k = q
  generalize k0_pay5 a = x
  generalize k0_pay4 a = w
  pointwise
  rw [Norm.lit128]

/-- A step of the sums over the rows: of the keys' gradient, of the values', of the gain's. -/
theorem dkey_at (old : Vec Ideal S256x128 .f32) (i : Fin 256) (j : Fin 128) :
    k0_pay12 (k0_pay6 g a) (k0_pay7 g a k) (k0_pay8 d) v old (ix2 i j)
      = old (ix2 i j) + ∑ r ∈ Finset.range 512, dscores g a k v d r i * query (row a r 0) (row g 0 0) j := by
  rw [Finset.sum_range]
  simp only [← query_at g a (Fin.isLt _), ← dscore_at g a k v d (Fin.isLt _)]
  unfold k0_pay12
  generalize k0_pay10 (k0_pay7 g a k) (k0_pay8 d) v = p
  generalize k0_pay6 g a = q
  pointwise

theorem dvalue_at (old : Vec Ideal S256x128 .f32) (i : Fin 256) (j : Fin 128) :
    k0_pay9 g a k d old (ix2 i j) = old (ix2 i j) + ∑ r ∈ Finset.range 512, weights g a k r i * row d r 0 j := by
  rw [Finset.sum_range]
  simp only [← weight_at g a k (Fin.isLt _), row_ix d (Fin.isLt _)]
  unfold k0_pay9 k0_pay8
  generalize k0_pay7 g a k = p
  pointwise

theorem dgain_at (old : Vec Ideal S1x128 .f32) (j : Fin 128) :
    k0_pay15 (k0_pay13 (k0_pay5 a) (k0_pay7 g a k) (k0_pay8 d) v k) old (ix2 0 j)
      = old (ix2 0 j) + ∑ r ∈ Finset.range 512,
          dquery (row a r 0) (row g 0 0) (row d r 0) (rows k 256 0) (rows v 256 0) j * hat (row a r 0) j := by
  rw [Finset.sum_range]
  simp only [← hat_at a (Fin.isLt _), ← dquery_at g a k v d (Fin.isLt _)]
  unfold k0_pay15 k0_pay13
  generalize k0_pay11 (k0_pay7 g a k) (k0_pay8 d) v k = q
  generalize k0_pay5 a = x
  pointwise

end Cert.MemxBwdIdeal.Val

end
-- ==== Proof.MemxBody.lean ====
/- What one point of the call writes: its four heads' results side by side, and the sums with the point's rows added. -/
module

public import proofs.«01_k».proof.Proof.MemxHead
public import Idealize.ShloMosaic.Lib.Pipeline.ValueKit.Geometry
public import Idealize.ShloMosaic.Lib.Pipeline.ValueKit.Tiles

@[expose] public section

set_option maxRecDepth 16384

noncomputable section

open Idealize.ShloMosaic Idealize.ShloMosaic.TcCoe Idealize.ShloMosaic.Tactic Idealize.SL.Sem
open Conv Prod Memx

namespace Cert.MemxBwdIdeal.Val

open Cert.MemxBwdIdeal Cert.MemxBwdIdeal.Gen

theorem hz : (![0, 0] : Fin 2 → Nat) = fun _ => 0 := funext fun a => by fin_cases a <;> rfl

section Columns
variable {R : Nat} {e : EltTy}

/-- The columns of one head. -/
def piece (X : (⟨2, ![R, 512]⟩ : Shape).Idx → Elt Ideal e) (h : Fin 4) : (⟨2, ![R, 128]⟩ : Shape).Idx → Elt Ideal e :=
  fun y => X (ix2 (y 0) (col h (y 1)))

variable (X : (⟨2, ![R, 512]⟩ : Shape).Idx → Elt Ideal e)

theorem ld_head (o : Nat) (h : Fin 4) (ho : o = 128 * h.val) (inb : ∀ a, (![0, o] : Fin 2 → Nat) a + (![R, 128] : Fin 2 → Nat) a ≤ (⟨2, ![R, 512]⟩ : Shape).size a) :
    View.ld X (Rect.unit (s := (⟨2, ![R, 512]⟩ : Shape)) ![0, o] ![R, 128] inb) = piece X h := by
  funext y
  refine View.ld_unit_apply_of X _ _ _ y (ix2 (y 0) (col h (y 1))) fun a => ?_
  subst ho
  fin_cases a
  · exact (Nat.zero_add _).symm
  · rfl

theorem ld_head0 (inb) : View.ld X (Rect.unit (s := (⟨2, ![R, 512]⟩ : Shape)) ![0, 0] ![R, 128] inb) = piece X 0 := ld_head X 0 0 rfl inb
theorem ld_head1 (inb) : View.ld X (Rect.unit (s := (⟨2, ![R, 512]⟩ : Shape)) ![0, 128] ![R, 128] inb) = piece X 1 := ld_head X 128 1 rfl inb
theorem ld_head2 (inb) : View.ld X (Rect.unit (s := (⟨2, ![R, 512]⟩ : Shape)) ![0, 256] ![R, 128] inb) = piece X 2 := ld_head X 256 2 rfl inb
theorem ld_head3 (inb) : View.ld X (Rect.unit (s := (⟨2, ![R, 512]⟩ : Shape)) ![0, 384] ![R, 128] inb) = piece X 3 := ld_head X 384 3 rfl inb

variable (inb : ∀ h : Fin 4, ∀ a, (![0, 128 * h.val] : Fin 2 → Nat) a + (![R, 128] : Fin 2 → Nat) a ≤ (⟨2, ![R, 512]⟩ : Shape).size a)

/-- A head's columns, written. -/
def store (p : Fin 4 → (⟨2, ![R, 128]⟩ : Shape).Idx → Elt Ideal e) (h : Fin 4) : View.Piece (Elt Ideal) (⟨2, ![R, 512]⟩ : Shape) e :=
  ⟨Rect.unit (s := (⟨2, ![R, 512]⟩ : Shape)) ![0, 128 * h.val] ![R, 128] (inb h), p h⟩

/-- The four heads written one by one. -/
def four (p : Fin 4 → (⟨2, ![R, 128]⟩ : Shape).Idx → Elt Ideal e) (L : List (View.Piece (Elt Ideal) (⟨2, ![R, 512]⟩ : Shape) e)) :
    List (View.Piece (Elt Ideal) (⟨2, ![R, 512]⟩ : Shape) e) :=
  store inb p 3 :: store inb p 2 :: store inb p 1 :: store inb p 0 :: L

variable (p : Fin 4 → (⟨2, ![R, 128]⟩ : Shape).Idx → Elt Ideal e) (L : List (View.Piece (Elt Ideal) (⟨2, ![R, 512]⟩ : Shape) e))

theorem canon_same (h : Fin 4) (r : Fin R) (j : Fin 128) : View.canon (store inb p h :: L) (ix2 r (col h j)) = p h (ix2 r j) := by
  have e : (ix2 r (col h j) : (⟨2, ![R, 512]⟩ : Shape).Idx)
      = (Rect.unit (s := (⟨2, ![R, 512]⟩ : Shape)) ![0, 128 * h.val] ![R, 128] (inb h)).emb (ix2 r j) := by
    funext a; apply Fin.ext; fin_cases a <;> simp [col]
  unfold store
  rw [e, View.canon_cons_emb]

theorem canon_other (h h' : Fin 4) (hne : h' ≠ h) (r : Fin R) (j : Fin 128) :
    View.canon (store inb p h' :: L) (ix2 r (col h j)) = View.canon L (ix2 r (col h j)) := by
  refine View.canon_cons_of_not_mem _ _ fun hm => ?_
  unfold store at hm
  rw [Rect.mem_set_unit] at hm
  have h1 := hm 1
  simp [col] at h1
  have := j.isLt
  exact hne (Fin.ext (by omega))

theorem canon_four (h : Fin 4) (r : Fin R) (j : Fin 128) : View.canon (four inb p L) (ix2 r (col h j)) = p h (ix2 r j) := by
  unfold four
  fin_cases h
  · rw [canon_other _ _ _ _ _ (by decide), canon_other _ _ _ _ _ (by decide), canon_other _ _ _ _ _ (by decide)]; exact canon_same _ _ _ 0 r j
  · rw [canon_other _ _ _ _ _ (by decide), canon_other _ _ _ _ _ (by decide)]; exact canon_same _ _ _ 1 r j
  · rw [canon_other _ _ _ _ _ (by decide)]; exact canon_same _ _ _ 2 r j
  · exact canon_same _ _ _ 3 r j

/-- A load of one head past the store of another. -/
theorem past {κ : Kind} {sp : Space} (w : View sig κ sp (⟨2, ![R, 512]⟩ : Shape) e) (o o' : Nat) (h : o + 128 ≤ o' ∨ o' + 128 ≤ o)
    (q : (⟨2, ![R, 128]⟩ : Shape).Idx → Elt Ideal e)
    (inb : ∀ a, (![0, o] : Fin 2 → Nat) a + (![R, 128] : Fin 2 → Nat) a ≤ (⟨2, ![R, 512]⟩ : Shape).size a)
    (inb' : ∀ a, (![0, o'] : Fin 2 → Nat) a + (![R, 128] : Fin 2 → Nat) a ≤ (⟨2, ![R, 512]⟩ : Shape).size a) :
    w.readCov ((⟨Rect.unit (s := (⟨2, ![R, 512]⟩ : Shape)) ![0, o] ![R, 128] inb, q⟩ : View.Piece (Elt Ideal) (⟨2, ![R, 512]⟩ : Shape) e) :: L)
        (Rect.unit (s := (⟨2, ![R, 512]⟩ : Shape)) ![0, o'] ![R, 128] inb').toLoadRect
      = w.readCov L (Rect.unit (s := (⟨2, ![R, 512]⟩ : Shape)) ![0, o'] ![R, 128] inb').toLoadRect :=
  View.readCov_cons_of_disjoint w _ L _ (Rect.unit_disjoint (inb := inb) (inb' := inb') 1 h)

end Columns

/-- A load of one head from a whole array written. -/
theorem from_whole {κ : Kind} {sp : Space} (w : View sig κ sp S256x512 .f32) (X : Vec Ideal S256x512 .f32) (o : Nat)
    (inb0 : ∀ a, (![0, 0] : Fin 2 → Nat) a + (![256, 512] : Fin 2 → Nat) a ≤ S256x512.size a)
    (inb : ∀ a, (![0, o] : Fin 2 → Nat) a + (![256, 128] : Fin 2 → Nat) a ≤ S256x512.size a) :
    w.readCov [⟨Rect.unit (s := S256x512) ![0, 0] ![256, 512] inb0, X⟩] (Rect.unit (s := S256x512) ![0, o] ![256, 128] inb).toLoadRect
      = View.ld X (Rect.unit (s := S256x512) ![0, o] ![256, 128] inb) := by
  rw [View.readCov_eq_canon', View.canon_unit_zero (S := S256x512) hz]

theorem inb512 (h : Fin 4) (a : Fin 2) : (![0, 128 * h.val] : Fin 2 → Nat) a + (![512, 128] : Fin 2 → Nat) a ≤ S512x512.size a := by
  fin_cases h <;> fin_cases a <;> decide
theorem inb256 (h : Fin 4) (a : Fin 2) : (![0, 128 * h.val] : Fin 2 → Nat) a + (![256, 128] : Fin 2 → Nat) a ≤ S256x512.size a := by
  fin_cases h <;> fin_cases a <;> decide

section Body
variable (g : Vec Ideal S1x128 .f32) (x0 : Vec Ideal S512x512 .f32) (x2 x3 : Vec Ideal S256x512 .bf16) (x4 : Vec Ideal S512x512 .f32)

def rowPiece (h : Fin 4) : Vec Ideal S512x128 .bf16 :=
  k0_pay14 g (k0_pay4 (piece x0 h)) (k0_pay5 (piece x0 h)) (k0_pay7 g (piece x0 h) (piece x2 h)) (k0_pay8 (piece x4 h)) (piece x3 h) (piece x2 h)
def keyPiece (old : Vec Ideal S256x512 .f32) (h : Fin 4) : Vec Ideal S256x128 .f32 :=
  k0_pay12 (k0_pay6 g (piece x0 h)) (k0_pay7 g (piece x0 h) (piece x2 h)) (k0_pay8 (piece x4 h)) (piece x3 h) (piece old h)
def valuePiece (old : Vec Ideal S256x512 .f32) (h : Fin 4) : Vec Ideal S256x128 .f32 :=
  k0_pay9 g (piece x0 h) (piece x2 h) (piece x4 h) (piece old h)
def gainStep (h : Fin 4) (old : Vec Ideal S1x128 .f32) : Vec Ideal S1x128 .f32 :=
  k0_pay15 (k0_pay13 (k0_pay5 (piece x0 h)) (k0_pay7 g (piece x0 h) (piece x2 h)) (k0_pay8 (piece x4 h)) (piece x3 h) (piece x2 h)) old
def gainSteps (old : Vec Ideal S1x128 .f32) : Vec Ideal S1x128 .f32 :=
  gainStep g x0 x2 x3 x4 3 (gainStep g x0 x2 x3 x4 2 (gainStep g x0 x2 x3 x4 1 (gainStep g x0 x2 x3 x4 0 old)))

variable (c : Dev nD) (i : grid0.Coords)
  (arg1 : Memref sig .tc .vmem S512x512 .f32) (harg1 : arg1.IsWhole)
  (arg2 : Memref sig .tc .vmem S1x128 .f32) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S512x512 .f32) (harg5 : arg5.IsWhole)
  (arg6 : Memref sig .tc .vmem S512x512 .bf16) (harg6 : arg6.IsWhole)
  (arg7 : Memref sig .tc .vmem S256x512 .f32) (harg7 : arg7.IsWhole)
  (arg8 : Memref sig .tc .vmem S256x512 .f32) (harg8 : arg8.IsWhole)
  (arg9 : Memref sig .tc .vmem S1x128 .f32) (harg9 : arg9.IsWhole)
  (a6 a7 : Vec Ideal S256x512 .f32) (a8 : Vec Ideal S1x128 .f32)

theorem next_rows (hc0 : ¬cond0_0 i) :
    out0_B_5 c i arg1 harg1 arg2 harg2 arg3 harg3 arg4 harg4 arg5 harg5 arg6 harg6 arg7 harg7 arg8 harg8 arg9 harg9 hc0 x0 g x2 x3 x4 a6 a7 a8
      = View.canon (four inb512 (rowPiece g x0 x2 x3 x4) []) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 g x2 x3 x4 a6 a7 a8)]
  unfold kernelRun0_B
  dsimp only
  sl_unfold_words
  simp only [View.readAt_eq_ld, harg1.read_unread, harg2.read_unread, harg3.read_unread, harg4.read_unread, harg5.read_unread,
    View.ld_unit_zero (S := S1x128) hz, ld_head0, ld_head1, ld_head2, ld_head3]
  rfl

theorem next_keys (hc0 : ¬cond0_0 i) :
    out0_B_6 c i arg1 harg1 arg2 harg2 arg3 harg3 arg4 harg4 arg5 harg5 arg6 harg6 arg7 harg7 arg8 harg8 arg9 harg9 hc0 x0 g x2 x3 x4 a6 a7 a8
      = View.canon (four inb256 (keyPiece g x0 x2 x3 x4 a6) []) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 g x2 x3 x4 a6 a7 a8)]
  unfold kernelRun0_B
  dsimp only
  sl_unfold_words
  simp only [View.readAt_eq_ld, harg1.read_unread, harg2.read_unread, harg3.read_unread, harg4.read_unread, harg5.read_unread, harg7.read_unread,
    View.ld_unit_zero (S := S1x128) hz, ld_head0, ld_head1, ld_head2, ld_head3]
  rfl

theorem next_values (hc0 : ¬cond0_0 i) :
    out0_B_7 c i arg1 harg1 arg2 harg2 arg3 harg3 arg4 harg4 arg5 harg5 arg6 harg6 arg7 harg7 arg8 harg8 arg9 harg9 hc0 x0 g x2 x3 x4 a6 a7 a8
      = View.canon (four inb256 (valuePiece g x0 x2 x4 a7) []) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 g x2 x3 x4 a6 a7 a8)]
  unfold kernelRun0_B
  dsimp only
  sl_unfold_words
  simp only [View.readAt_eq_ld, harg1.read_unread, harg2.read_unread, harg3.read_unread, harg4.read_unread, harg5.read_unread, harg8.read_unread,
    View.ld_unit_zero (S := S1x128) hz, ld_head0, ld_head1, ld_head2, ld_head3]
  rfl

theorem next_gain (hc0 : ¬cond0_0 i) :
    out0_B_8 c i arg1 harg1 arg2 harg2 arg3 harg3 arg4 harg4 arg5 harg5 arg6 harg6 arg7 harg7 arg8 harg8 arg9 harg9 hc0 x0 g x2 x3 x4 a6 a7 a8
      = gainSteps g x0 x2 x3 x4 a8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 g x2 x3 x4 a6 a7 a8)]
  unfold kernelRun0_B
  dsimp only
  sl_unfold_words
  rw [View.canon_cons_unit_zero hz]
  simp only [View.readAt_eq_ld, harg1.read_unread, harg2.read_unread, harg3.read_unread, harg4.read_unread, harg5.read_unread, harg9.read_unread,
    View.ld_unit_zero (S := S1x128) hz, ld_head0, ld_head1, ld_head2, ld_head3, View.readCov_cons_toLoadRect]
  rfl

theorem first_rows (hc0 : cond0_0 i) :
    out0_A_5 c i arg1 harg1 arg2 harg2 arg3 harg3 arg4 harg4 arg5 harg5 arg6 harg6 arg7 harg7 arg8 harg8 arg9 harg9 hc0 x0 g x2 x3 x4
      = View.canon (four inb512 (rowPiece g x0 x2 x3 x4) []) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 g x2 x3 x4)]
  unfold kernelRun0_A
  dsimp only
  sl_unfold_words
  simp only [View.readAt_eq_ld, harg1.read_unread, harg2.read_unread, harg3.read_unread, harg4.read_unread, harg5.read_unread,
    View.ld_unit_zero (S := S1x128) hz, ld_head0, ld_head1, ld_head2, ld_head3]
  rfl

/-- The zeros under the first point's sums. -/
def under (z : Vec Ideal S256x512 .f32) : List (View.Piece (Elt Ideal) S256x512 .f32) :=
  [⟨Rect.unit ![0, 0] ![256, 512] inb_S256x512_S256x512_0_0, z⟩]

theorem first_keys (hc0 : cond0_0 i) :
    out0_A_6 c i arg1 harg1 arg2 harg2 arg3 harg3 arg4 harg4 arg5 harg5 arg6 harg6 arg7 harg7 arg8 harg8 arg9 harg9 hc0 x0 g x2 x3 x4
      = View.canon (four inb256 (keyPiece g x0 x2 x3 x4 (k0_pay1 (F := Ideal))) (under (k0_pay1 (F := Ideal)))) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 g x2 x3 x4)]
  unfold kernelRun0_A
  dsimp only
  sl_unfold_words
  simp (discharger := decide) only [past, from_whole, View.readAt_eq_ld, harg1.read_unread, harg2.read_unread, harg3.read_unread, harg4.read_unread, harg5.read_unread,
    View.ld_unit_zero (S := S1x128) hz, ld_head0, ld_head1, ld_head2, ld_head3]
  rfl

theorem first_values (hc0 : cond0_0 i) :
    out0_A_7 c i arg1 harg1 arg2 harg2 arg3 harg3 arg4 harg4 arg5 harg5 arg6 harg6 arg7 harg7 arg8 harg8 arg9 harg9 hc0 x0 g x2 x3 x4
      = View.canon (four inb256 (valuePiece g x0 x2 x4 (k0_pay2 (F := Ideal))) (under (k0_pay2 (F := Ideal)))) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 g x2 x3 x4)]
  unfold kernelRun0_A
  dsimp only
  sl_unfold_words
  simp (discharger := decide) only [past, from_whole, View.readAt_eq_ld, harg1.read_unread, harg2.read_unread, harg3.read_unread, harg4.read_unread, harg5.read_unread,
    View.ld_unit_zero (S := S1x128) hz, ld_head0, ld_head1, ld_head2, ld_head3]
  rfl

theorem first_gain (hc0 : cond0_0 i) :
    out0_A_8 c i arg1 harg1 arg2 harg2 arg3 harg3 arg4 harg4 arg5 harg5 arg6 harg6 arg7 harg7 arg8 harg8 arg9 harg9 hc0 x0 g x2 x3 x4
      = gainSteps g x0 x2 x3 x4 (k0_pay3 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 g x2 x3 x4)]
  unfold kernelRun0_A
  dsimp only
  sl_unfold_words
  rw [View.canon_cons_unit_zero hz]
  simp only [View.readAt_eq_ld, harg1.read_unread, harg2.read_unread, harg3.read_unread, harg4.read_unread, harg5.read_unread,
    View.ld_unit_zero (S := S1x128) hz, ld_head0, ld_head1, ld_head2, ld_head3, View.readCov_cons_toLoadRect]
  rfl

end Body

end Cert.MemxBwdIdeal.Val

end
-- ==== Proof.MemxValue.lean ====
/- What the call leaves in its four results. -/
module

public import proofs.«01_k».proof.Proof.MemxBody

@[expose] public section

set_option maxRecDepth 16384

noncomputable section

open Idealize.ShloMosaic Idealize.ShloMosaic.TcCoe Idealize.ShloMosaic.Tactic Idealize.SL.Sem
open Idealize.ShloMosaic.Pipeline (Dat)
open Conv Prod Memx

namespace Cert.MemxBwdIdeal.Val

open Cert.MemxBwdIdeal Cert.MemxBwdIdeal.Gen

variable (m : (ℓ : Loc nD τ sig) → Buf (Elt Ideal) ℓ) (c : Dev nD)

def argZ : (⟨2, ![8192, 1920]⟩ : Shape).Idx → EReal := m ((c.tc : Thread nD τ).loc main_arg0)
def argG : (⟨2, ![1, 128]⟩ : Shape).Idx → EReal := m ((c.tc : Thread nD τ).loc main_arg1)
def argK : (⟨2, ![256, 512]⟩ : Shape).Idx → EReal := m ((c.tc : Thread nD τ).loc main_arg2)
def argV : (⟨2, ![256, 512]⟩ : Shape).Idx → EReal := m ((c.tc : Thread nD τ).loc main_arg3)
def argD : (⟨2, ![8192, 2048]⟩ : Shape).Idx → EReal := m ((c.tc : Thread nD τ).loc main_arg4)

theorem index0 : ∀ t : Fin cfg0.N, win0_0.index t = ![t.val, 2] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 3] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)

variable (t : Fin cfg0.N)

/-- The point's blocks. -/
abbrev blkZ : Vec Ideal S512x512 .f32 := X0_0 m c t
abbrev blkG : Vec Ideal S1x128 .f32 := iblk m c 1 t
abbrev blkK : Vec Ideal S256x512 .bf16 := iblk m c 2 t
abbrev blkV : Vec Ideal S256x512 .bf16 := iblk m c 3 t
abbrev blkD : Vec Ideal S512x512 .f32 := iblk m c 4 t

theorem xs_block (h : Fin 4) {r : Nat} (hr : r < 512) : row (piece (e := .f32) (blkZ m c t) h) r 0 = xs (argZ m c) (512 * t.val + r) h := by
  rw [row_ix _ hr]
  funext j
  have e : blkZ m c t (ix2 ⟨r, hr⟩ (col h j)) = at2 (argZ m c) (512 * t.val + r) (1024 + 128 * h.val + j.val) := by
    unfold blkZ X0_0 Pipeline.Window.fill
    rw [dif_pos (moved0_0 t _)]
    exact at2_at (argZ m c) _ (by blk_simp [index0 t]; dsimp only; omega) (by blk_simp [index0 t]; unfold col; dsimp only; omega)
  exact e

theorem ds_block (h : Fin 4) {r : Nat} (hr : r < 512) : row (piece (e := .f32) (blkD m c t) h) r 0 = ds (argD m c) (512 * t.val + r) h := by
  rw [row_ix _ hr]
  funext j
  have e : blkD m c t (ix2 ⟨r, hr⟩ (col h j)) = at2 (argD m c) (512 * t.val + r) (1536 + 128 * h.val + j.val) :=
    at2_at (argD m c) _ (by blk_simp [index4 t]; dsimp only; omega) (by blk_simp [index4 t]; unfold col; dsimp only; omega)
  exact e

theorem gains_block : row (blkG m c t) 0 0 = gains (argG m c) := by
  unfold gains
  rw [row_ix _ (show 0 < 1 by omega), row_ix _ (show 0 < 1 by omega)]
  funext j
  refine (at2_at (argG m c) _ (by blk_simp [index1 t]; rfl) (by blk_simp [index1 t])).trans (at2_of (argG m c) (show 0 < 1 by omega) j.isLt)

theorem keys_block (h : Fin 4) : rows (piece (e := .bf16) (blkK m c t) h) 256 0 = mem (argK m c) h := by
  rw [rows_ix]
  funext i j
  have e : blkK m c t (ix2 i (col h j)) = at2 (argK m c) i.val (128 * h.val + j.val) :=
    at2_at (argK m c) _ (by blk_simp [index2 t]) (by blk_simp [index2 t]; rfl)
  exact e

theorem values_block (h : Fin 4) : rows (piece (e := .bf16) (blkV m c t) h) 256 0 = mem (argV m c) h := by
  rw [rows_ix]
  funext i j
  have e : blkV m c t (ix2 i (col h j)) = at2 (argV m c) i.val (128 * h.val + j.val) :=
    at2_at (argV m c) _ (by blk_simp [index3 t]) (by blk_simp [index3 t]; rfl)
  exact e

/-- The point's results, in terms of the arrays. -/
theorem rows_point (h : Fin 4) {r : Nat} (hr : r < 512) (j : Fin 128) :
    rowPiece (blkG m c t) (blkZ m c t) (blkK m c t) (blkV m c t) (blkD m c t) h (ix2 ⟨r, hr⟩ j)
      = drowOf (argZ m c) (argG m c) (argK m c) (argV m c) (argD m c) (512 * t.val + r) h j := by
  unfold rowPiece drowOf
  rw [drow_at _ _ _ _ _ hr, xs_block m c t h hr, ds_block m c t h hr, gains_block, keys_block, values_block]

theorem keys_point (old : Vec Ideal S256x512 .f32) (h : Fin 4) (i : Fin 256) (j : Fin 128)
    (ho : old (ix2 i (col h j)) = keySum (argZ m c) (argG m c) (argK m c) (argV m c) (argD m c) (512 * t.val) h i j) :
    keyPiece (blkG m c t) (blkZ m c t) (blkK m c t) (blkV m c t) (blkD m c t) old h (ix2 i j)
      = keySum (argZ m c) (argG m c) (argK m c) (argV m c) (argD m c) (512 * (t.val + 1)) h i j := by
  unfold keyPiece keySum
  rw [dkey_at, Nat.mul_succ, Finset.sum_range_add]
  refine congrArg₂ (· + ·) ho (Finset.sum_congr rfl fun r hr => ?_)
  have hr := Finset.mem_range.mp hr
  unfold dscores dscoreOf
  rw [xs_block m c t h hr, ds_block m c t h hr, gains_block, keys_block, values_block]

theorem values_point (old : Vec Ideal S256x512 .f32) (h : Fin 4) (i : Fin 256) (j : Fin 128)
    (ho : old (ix2 i (col h j)) = valueSum (argZ m c) (argG m c) (argK m c) (argD m c) (512 * t.val) h i j) :
    valuePiece (blkG m c t) (blkZ m c t) (blkK m c t) (blkD m c t) old h (ix2 i j)
      = valueSum (argZ m c) (argG m c) (argK m c) (argD m c) (512 * (t.val + 1)) h i j := by
  unfold valuePiece valueSum
  rw [dvalue_at, Nat.mul_succ, Finset.sum_range_add]
  refine congrArg₂ (· + ·) ho (Finset.sum_congr rfl fun r hr => ?_)
  have hr := Finset.mem_range.mp hr
  unfold weights scoresOf
  rw [xs_block m c t h hr, ds_block m c t h hr, gains_block, keys_block]

theorem gain_head (old : Vec Ideal S1x128 .f32) (h : Fin 4) (j : Fin 128) :
    gainStep (blkG m c t) (blkZ m c t) (blkK m c t) (blkV m c t) (blkD m c t) h old (ix2 0 j)
      = old (ix2 0 j) + ∑ r ∈ Finset.range 512, dqueryOf (argZ m c) (argG m c) (argK m c) (argV m c) (argD m c) (512 * t.val + r) h j
          * hat (xs (argZ m c) (512 * t.val + r) h) j := by
  unfold gainStep
  rw [dgain_at]
  refine congrArg _ (Finset.sum_congr rfl fun r hr => ?_)
  have hr := Finset.mem_range.mp hr
  unfold dqueryOf
  rw [xs_block m c t h hr, ds_block m c t h hr, gains_block, keys_block, values_block]

theorem gain_point (old : Vec Ideal S1x128 .f32) (j : Fin 128)
    (ho : old (ix2 0 j) = gainSum (argZ m c) (argG m c) (argK m c) (argV m c) (argD m c) (512 * t.val) j) :
    gainSteps (blkG m c t) (blkZ m c t) (blkK m c t) (blkV m c t) (blkD m c t) old (ix2 0 j)
      = gainSum (argZ m c) (argG m c) (argK m c) (argV m c) (argD m c) (512 * (t.val + 1)) j := by
  unfold gainSteps
  rw [gain_head, gain_head, gain_head, gain_head, ho]
  unfold gainSum
  rw [Nat.mul_succ, Finset.sum_range_add, add_assoc, add_assoc, add_assoc]
  refine congrArg _ ?_
  rw [← Finset.sum_add_distrib, ← Finset.sum_add_distrib, ← Finset.sum_add_distrib]
  refine Finset.sum_congr rfl fun r _ => ?_
  rw [Fin.sum_univ_four]
  ac_rfl

theorem zero_keys (i : Fin 256) (n : Fin 512) : k0_pay1 (F := Ideal) (ix2 i n) = 0 := by
  unfold k0_pay1
  pointwise
theorem zero_values (i : Fin 256) (n : Fin 512) : k0_pay2 (F := Ideal) (ix2 i n) = 0 := zero_keys i n
theorem zero_gain (j : Fin 128) : k0_pay3 (F := Ideal) (ix2 0 j) = 0 := by
  unfold k0_pay3
  pointwise

/-- The sums after each point. -/
theorem sums_after : ∀ (q : Nat) (t : Fin cfg0.N), t.val = q →
    (∀ h i j, (outsAt0 m c t.val t.isLt).2.1 (ix2 i (col h j)) = keySum (argZ m c) (argG m c) (argK m c) (argV m c) (argD m c) (512 * (t.val + 1)) h i j)
    ∧ (∀ h i j, (outsAt0 m c t.val t.isLt).2.2.1 (ix2 i (col h j)) = valueSum (argZ m c) (argG m c) (argK m c) (argD m c) (512 * (t.val + 1)) h i j)
    ∧ ∀ j, (outsAt0 m c t.val t.isLt).2.2.2 (ix2 0 j) = gainSum (argZ m c) (argG m c) (argK m c) (argV m c) (argD m c) (512 * (t.val + 1)) j := by
  intro q
  induction q with
  | zero =>
    intro t ht
    rw [outsAt0_A m c t (by omega)]
    dsimp only
    refine ⟨fun h i j => ?_, fun h i j => ?_, fun j => ?_⟩
    · rw [first_keys, canon_four]
      refine keys_point m c t _ h i j ?_
      rw [zero_keys, ht]
      unfold keySum
      simp only [Nat.mul_zero, Finset.range_zero, Finset.sum_empty]
    · rw [first_values, canon_four]
      refine values_point m c t _ h i j ?_
      rw [zero_values, ht]
      unfold valueSum
      simp only [Nat.mul_zero, Finset.range_zero, Finset.sum_empty]
    · rw [first_gain]
      refine gain_point m c t _ j ?_
      rw [zero_gain, ht]
      unfold gainSum
      simp only [Nat.mul_zero, Finset.range_zero, Finset.sum_empty]
  | succ q ih =>
    intro t ht
    have hN : t.val < 16 := lt_of_lt_of_eq t.isLt N_0
    obtain ⟨ik, iv, ig⟩ := ih ⟨t.val - 1, Nat.lt_of_le_of_lt (Nat.sub_le _ _) t.isLt⟩ (show t.val - 1 = q by omega)
    have e : t.val - 1 + 1 = t.val := by omega
    dsimp only at ik iv ig
    rw [e] at ik iv ig
    rw [outsAt0_B m c t (by omega)]
    dsimp only
    refine ⟨fun h i j => ?_, fun h i j => ?_, fun j => ?_⟩
    · rw [next_keys, canon_four]
      exact keys_point m c t _ h i j (ik h i j)
    · rw [next_values, canon_four]
      exact values_point m c t _ h i j (iv h i j)
    · rw [next_gain]
      exact gain_point m c t _ j (ig j)

theorem rows_after : (outsAt0 m c t.val t.isLt).1
    = View.canon (four inb512 (rowPiece (blkG m c t) (blkZ m c t) (blkK m c t) (blkV m c t) (blkD m c t)) []) := by
  by_cases h : t.val % 16 = 0
  · rw [outsAt0_A m c t h]; dsimp only; rw [first_rows]
  · rw [outsAt0_B m c t h]; dsimp only; rw [next_rows]

/-- The point's results by column. -/
theorem rows_value (i n : Fin 512) : (outsAt0 m c t.val t.isLt).1 (ix2 i n)
    = drowOf (argZ m c) (argG m c) (argK m c) (argV m c) (argD m c) (512 * t.val + i.val) (head n) (lane n) := by
  rw [rows_after m c t, ← congrArg (ix2 i) (col_eq n), canon_four]
  exact rows_point m c t _ i.isLt _

theorem keys_value (i : Fin 256) (n : Fin 512) : (outsAt0 m c t.val t.isLt).2.1 (ix2 i n)
    = keySum (argZ m c) (argG m c) (argK m c) (argV m c) (argD m c) (512 * (t.val + 1)) (head n) i (lane n) := by
  rw [← congrArg (ix2 i) (col_eq n)]
  exact (sums_after m c _ t rfl).1 _ _ _

theorem values_value (i : Fin 256) (n : Fin 512) : (outsAt0 m c t.val t.isLt).2.2.1 (ix2 i n)
    = valueSum (argZ m c) (argG m c) (argK m c) (argD m c) (512 * (t.val + 1)) (head n) i (lane n) := by
  rw [← congrArg (ix2 i) (col_eq n)]
  exact (sums_after m c _ t rfl).2.1 _ _ _

theorem two {R C : Nat} (y : (⟨2, ![R, C]⟩ : Shape).Idx) : y = ix2 (y 0) (y 1) := funext fun a => by fin_cases a <;> rfl

theorem final5 : (dats m 0 c).arrAt 5 cfg0.N = Rows (argZ m c) (argG m c) (argK m c) (argV m c) (argD m c) := by
  refine (dats m 0 c).arrAt_eq_of_covers 5 _ (by decide +kernel) fun t hf y => ?_
  blk_simp
  rw [after0_5]
  have e0 : ((win0_5.blk t).view.emb y 0).val = 512 * t.val + (y 0).val := by blk_simp [index5 t]; omega
  have e1 : (win0_5.blk t).view.emb y 1 = ⟨(y 1).val, (y 1).isLt⟩ := Fin.ext (by blk_simp [index5 t])
  unfold Rows
  rw [e0, e1]
  refine (congrArg _ (two (R := 512) (C := 512) y)).trans ((rows_value m c t (y 0) (y 1)).trans ?_)
  rfl

theorem final6 : (dats m 0 c).arrAt 6 cfg0.N = Keys (argZ m c) (argG m c) (argK m c) (argV m c) (argD m c) := by
  refine (dats m 0 c).arrAt_eq_of_covers 6 _ (by decide +kernel) fun t hf y => ?_
  blk_simp
  rw [after0_6]
  have ht : t.val < 16 := lt_of_lt_of_eq t.isLt N_0
  have hl := (flush0_6 t).mp hf
  have e0 : (win0_6.blk t).view.emb y 0 = ⟨(y 0).val, (y 0).isLt⟩ := Fin.ext (by blk_simp [index6 t])
  have e1 : (win0_6.blk t).view.emb y 1 = ⟨(y 1).val, (y 1).isLt⟩ := Fin.ext (by blk_simp [index6 t])
  unfold Keys
  rw [e0, e1]
  refine (congrArg _ (two (R := 256) (C := 512) y)).trans ((keys_value m c t (y 0) (y 1)).trans ?_)
  rw [show 512 * (t.val + 1) = 8192 by omega]
  rfl

theorem final7 : (dats m 0 c).arrAt 7 cfg0.N = Values (argZ m c) (argG m c) (argK m c) (argD m c) := by
  refine (dats m 0 c).arrAt_eq_of_covers 7 _ (by decide +kernel) fun t hf y => ?_
  blk_simp
  rw [after0_7]
  have ht : t.val < 16 := lt_of_lt_of_eq t.isLt N_0
  have hl := (flush0_7 t).mp hf
  have e0 : (win0_7.blk t).view.emb y 0 = ⟨(y 0).val, (y 0).isLt⟩ := Fin.ext (by blk_simp [index7 t])
  have e1 : (win0_7.blk t).view.emb y 1 = ⟨(y 1).val, (y 1).isLt⟩ := Fin.ext (by blk_simp [index7 t])
  unfold Values
  rw [e0, e1]
  refine (congrArg _ (two (R := 256) (C := 512) y)).trans ((values_value m c t (y 0) (y 1)).trans ?_)
  rw [show 512 * (t.val + 1) = 8192 by omega]
  rfl

theorem final8 : (dats m 0 c).arrAt 8 cfg0.N = Gain (argZ m c) (argG m c) (argK m c) (argV m c) (argD m c) := by
  refine (dats m 0 c).arrAt_eq_of_covers 8 _ (by decide +kernel) fun t hf y => ?_
  blk_simp
  rw [after0_8]
  have ht : t.val < 16 := lt_of_lt_of_eq t.isLt N_0
  have hl := (flush0_8 t).mp hf
  have e1 : (win0_8.blk t).view.emb y 1 = ⟨(y 1).val, (y 1).isLt⟩ := Fin.ext (by blk_simp [index8 t])
  unfold Gain
  rw [e1]
  have ey : (outsAt0 m c t.val t.isLt).2.2.2 y = (outsAt0 m c t.val t.isLt).2.2.2 (ix2 0 (y 1) : S1x128.Idx) :=
    congrArg _ (funext fun a => by
      fin_cases a
      · exact Fin.ext (Nat.lt_one_iff.mp (y 0).isLt)
      · rfl)
  refine ey.trans (((sums_after m c _ t rfl).2.2 (y 1)).trans ?_)
  rw [show 512 * (t.val + 1) = 8192 by omega]
  rfl

end Cert.MemxBwdIdeal.Val

end
-- ==== Proof.MemxRef.lean ====
/- The derivative of the memory read as the reference computes it, operation by operation, and its four results. -/
module

public import proofs.«01_k».proof.Defs
public import proofs.«01_k».proof.Proof.MemxSpec
public import proofs.«01_k».proof.Proof.ProdSpec
public import proofs.«01_k».proof.Proof.Gen.MemxBwdRefIdeal.Run
public import Idealize.ShloMosaic.Lib.Tactic

@[expose] public section

set_option maxRecDepth 16384

noncomputable section

open Idealize.ShloMosaic Idealize.ShloMosaic.TcCoe Idealize.ShloMosaic.Tactic Idealize.SL.Sem
open Conv Prod Memx

namespace Cert.MemxBwdRefIdeal.Val

open Cert.MemxBwdRefIdeal Cert.MemxBwdRefIdeal.Gen

/-! The inputs by heads. -/

def headsZ (Z : FVec Ideal S8192x1920 .f32) : FVec Ideal S8192x4x128 .f32 :=
  shapeCast _ (extractStridedSlice S8192x512 ![0, 1024] Z slices_S8192x1920_S8192x512_0_1024) shapeCasts_S8192x512_S8192x4x128
def headsD (D : FVec Ideal S8192x2048 .f32) : FVec Ideal S8192x4x128 .f32 :=
  shapeCast _ (extractStridedSlice S8192x512 ![0, 1536] D slices_S8192x2048_S8192x512_0_1536) shapeCasts_S8192x512_S8192x4x128
def headsM (K : FVec Ideal S256x512 .bf16) : FVec Ideal S256x4x128 .f32 :=
  shapeCast _ (extf .f32 K bitsLt_bf16_f32) shapeCasts_S256x512_S256x4x128

theorem headsZ_at (Z : FVec Ideal S8192x1920 .f32) (r : Fin 8192) (h : Fin 4) (j : Fin 128) : headsZ Z (ix3 r h j) = xs Z r.val h j := by
  unfold headsZ
  pointwise
  exact (at2_at Z _ rfl (by show _ + (h.val * 128 + j.val) = 1024 + 128 * h.val + j.val; omega))
theorem headsD_at (D : FVec Ideal S8192x2048 .f32) (r : Fin 8192) (h : Fin 4) (j : Fin 128) : headsD D (ix3 r h j) = ds D r.val h j := by
  unfold headsD
  pointwise
  exact (at2_at D _ rfl (by show _ + (h.val * 128 + j.val) = 1536 + 128 * h.val + j.val; omega))
theorem headsM_at (K : FVec Ideal S256x512 .bf16) (i : Fin 256) (h : Fin 4) (j : Fin 128) : headsM K (ix3 i h j) = mem K h i j := by
  unfold headsM
  pointwise
  exact (at2_at K _ rfl (by show h.val * 128 + j.val = 128 * h.val + j.val; omega))

/-! The normed rows and the scores. -/

def means (X : FVec Ideal S8192x4x128 .f32) : FVec Ideal S8192x4x1 .f32 :=
  addf (Host.divf (broadcastInDim S8192x4x1 ![0, 1] bcast_S8192x4_S8192x4x1_0_1 (Host.reduceAdd (mulf X X) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32))
def hats (X : FVec Ideal S8192x4x128 .f32) (v : FVec Ideal S8192x4x1 .f32) : FVec Ideal S8192x4x128 .f32 :=
  mulf X (broadcastInDim S8192x4x128 ![0, 1, 2] bcast_S8192x4x1_S8192x4x128_0_1_2 (Host.rsqrt v))
def spread (G : FVec Ideal S1x128 .f32) : FVec Ideal S8192x4x128 .f32 :=
  broadcastInDim S8192x4x128 ![0, 1, 2] bcast_S1x1x128_S8192x4x128_0_1_2 (broadcastInDim S1x1x128 ![1, 2] bcast_S1x128_S1x1x128_1_2 G)
def scores (Q : FVec Ideal S8192x4x128 .f32) (K : FVec Ideal S256x4x128 .f32) : FVec Ideal S4x8192x256 .f32 :=
  mulf (Host.dotGeneral dot_S8192x4x128_S256x4x128_S4x8192x256_2_2_0_0_1_1 none Q K) (broadcastInDim S4x8192x256 ![] bcast_S_S4x8192x256 (constant S_ .f32 0x3DB504F3#32))

theorem means_at (X : FVec Ideal S8192x4x128 .f32) (r : Fin 8192) (h : Fin 4) :
    means X (ix3 r h 0) = Norm.mean 128 Norm.eps (fun j => X (ix3 r h j)) := by
  unfold means Norm.mean
  pointwise
  rw [Norm.lit128, Norm.eps_eq]
theorem hats_at (X : FVec Ideal S8192x4x128 .f32) (v : FVec Ideal S8192x4x1 .f32) (r : Fin 8192) (h : Fin 4) (j : Fin 128) :
    hats X v (ix3 r h j) = X (ix3 r h j) * Ideal.rsqrt (v (ix3 r h 0)) := by
  unfold hats
  pointwise
theorem spread_at (G : FVec Ideal S1x128 .f32) (r : Fin 8192) (h : Fin 4) (j : Fin 128) : spread G (ix3 r h j) = gains G j := by
  unfold spread gains
  rw [row_ix _ (show 0 < 1 by omega)]
  pointwise
theorem scores_at (Q : FVec Ideal S8192x4x128 .f32) (K : FVec Ideal S256x4x128 .f32) (h : Fin 4) (r : Fin 8192) (k : Fin 256) :
    scores Q K (ix3 h r k) = (∑ x, Q (ix3 r h x) * K (ix3 k h x)) * scale := by
  unfold scores scale
  pointwise

/-! The softmax. -/

def most (s : FVec Ideal S4x8192x256 .f32) : FVec Ideal S4x8192 .f32 :=
  Host.reduce FloatOps.maximumf s (constant S_ .f32 0xFF800000#32) reducesTo_S4x8192x256_S4x8192_d2 h_S_
def expos (s : FVec Ideal S4x8192x256 .f32) (t : FVec Ideal S4x8192 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) t))))
def sums (e : FVec Ideal S4x8192x256 .f32) : FVec Ideal S4x8192x1 .f32 :=
  broadcastInDim S4x8192x1 ![0, 1] bcast_S4x8192_S4x8192x1_0_1 (Host.reduceAdd e (constant S_ .f32 0x00000000#32) reducesTo_S4x8192x256_S4x8192_d2 h_S_)
def shares (e : FVec Ideal S4x8192x256 .f32) (l : FVec Ideal S4x8192x1 .f32) : FVec Ideal S4x8192x256 .f32 :=
  Host.divf e (broadcastInDim S4x8192x256 ![0, 1, 2] bcast_S4x8192x1_S4x8192x256_0_1_2 l)

theorem most_at (s : FVec Ideal S4x8192x256 .f32) (h : Fin 4) (r : Fin 8192) : most s (ix2 h r) = top (fun k => s (ix3 h r k)) := by
  unfold most top least
  simp only [pointwise]
theorem expos_at (s : FVec Ideal S4x8192x256 .f32) (t : FVec Ideal S4x8192 .f32) (h : Fin 4) (r : Fin 8192) (k : Fin 256) :
    expos s t (ix3 h r k) = Ideal.exp (s (ix3 h r k) - t (ix2 h r)) := by
  unfold expos
  pointwise
  rw [show Ideal.ofBits .f32 0xFF800000#32 = (⊥ : EReal) from least_eq]
  simp
theorem sums_at (e : FVec Ideal S4x8192x256 .f32) (h : Fin 4) (r : Fin 8192) : sums e (ix3 h r 0) = ∑ k, e (ix3 h r k) := by
  unfold sums
  pointwise
theorem shares_at (e : FVec Ideal S4x8192x256 .f32) (l : FVec Ideal S4x8192x1 .f32) (h : Fin 4) (r : Fin 8192) (k : Fin 256) :
    shares e l (ix3 h r k) = Ideal.div (e (ix3 h r k)) (l (ix3 h r 0)) := by
  unfold shares
  pointwise

/-! The gradients. -/

def turned (D : FVec Ideal S8192x4x128 .f32) : FVec Ideal S4x128x8192 .f32 := transpose S4x128x8192 [1, 2, 0] D transposes_S8192x4x128_S4x128x8192_1_2_0
def sees (D : FVec Ideal S4x128x8192 .f32) (V : FVec Ideal S256x4x128 .f32) : FVec Ideal S4x8192x256 .f32 :=
  Host.dotGeneral dot_S4x128x8192_S256x4x128_S4x8192x256_1_2_2_0_0_1 none D V
def totals (w e : FVec Ideal S4x8192x256 .f32) (l : FVec Ideal S4x8192x1 .f32) : FVec Ideal S4x8192x1 .f32 :=
  shapeCast _ (Host.reduceAdd (mulf (mulf w (broadcastInDim S4x8192x256 ![0, 1, 2] bcast_S4x8192x1_S4x8192x256_0_1_2 (Host.divf (broadcastInDim S4x8192x1 ![] bcast_S_S4x8192x1 (constant S_ .f32 0x3F800000#32)) (mulf l l)))) e) (constant S_ .f32 0x00000000#32) reducesTo_S4x8192x256_S4x8192_d2 h_S_) shapeCasts_S4x8192_S4x8192x1
def backs (w e : FVec Ideal S4x8192x256 .f32) (l t : FVec Ideal S4x8192x1 .f32) : FVec Ideal S4x8192x256 .f32 :=
  mulf (mulf (addf (Host.divf w (broadcastInDim S4x8192x256 ![0, 1, 2] bcast_S4x8192x1_S4x8192x256_0_1_2 l)) (broadcastInDim S4x8192x256 ![0, 1] bcast_S4x8192_S4x8192x256_0_1 (Host.reduceAdd (Host.negf t) (constant S_ .f32 0x00000000#32) reducesTo_S4x8192x1_S4x8192_d2 h_S_))) e) (broadcastInDim S4x8192x256 ![] bcast_S_S4x8192x256 (constant S_ .f32 0x3DB504F3#32))

theorem sees_at (D : FVec Ideal S8192x4x128 .f32) (V : FVec Ideal S256x4x128 .f32) (h : Fin 4) (r : Fin 8192) (k : Fin 256) :
    sees (turned D) V (ix3 h r k) = ∑ j, D (ix3 r h j) * V (ix3 k h j) := by
  unfold sees turned
  pointwise
theorem totals_at (w e : FVec Ideal S4x8192x256 .f32) (l : FVec Ideal S4x8192x1 .f32) (h : Fin 4) (r : Fin 8192) :
    totals w e l (ix3 h r 0) = ∑ k, w (ix3 h r k) * Ideal.div (1 : ℝ) (l (ix3 h r 0) * l (ix3 h r 0)) * e (ix3 h r k) := by
  unfold totals
  pointwise
  rw [EReal.coe_one]
theorem backs_at (w e : FVec Ideal S4x8192x256 .f32) (l t : FVec Ideal S4x8192x1 .f32) (h : Fin 4) (r : Fin 8192) (k : Fin 256) :
    backs w e l t (ix3 h r k) = (Ideal.div (w (ix3 h r k)) (l (ix3 h r 0)) + -(t (ix3 h r 0))) * e (ix3 h r k) * scale := by
  unfold backs scale
  pointwise
  rw [Fin.sum_univ_one]

def queries (b : FVec Ideal S4x8192x256 .f32) (K : FVec Ideal S256x4x128 .f32) : FVec Ideal S8192x4x128 .f32 :=
  transpose S8192x4x128 [1, 0, 2] (Host.dotGeneral dot_S4x8192x256_S256x4x128_S4x8192x128_2_0_1_2_0_1 none b K) transposes_S4x8192x128_S8192x4x128_1_0_2
def slopes (X P : FVec Ideal S8192x4x128 .f32) (v : FVec Ideal S8192x4x1 .f32) : FVec Ideal S8192x4x128 .f32 :=
  broadcastInDim S8192x4x128 ![0, 1] bcast_S8192x4_S8192x4x128_0_1 (Host.reduceAdd (Host.divf (mulf (shapeCast _ (Host.reduceAdd (mulf X P) (constant S_ .f32 0x00000000#32) reducesTo_S8192x4x128_S8192x4_d2 h_S_) shapeCasts_S8192x4_S8192x4x1) (mulf (broadcastInDim S8192x4x1 ![] bcast_S_S8192x4x1 (constant S_ .f32 0xBF000000#32)) (Host.divf (Host.rsqrt v) v))) (broadcastInDim S8192x4x1 ![] bcast_S_S8192x4x1 (constant S_ .f32 0x43000000#32))) (constant S_ .f32 0x00000000#32) reducesTo_S8192x4x1_S8192x4_d2 h_S_)
def gradRows (X P s : FVec Ideal S8192x4x128 .f32) (v : FVec Ideal S8192x4x1 .f32) : FVec Ideal S8192x512 .bf16 :=
  truncf .bf16 (shapeCast _ (addf (addf (mulf P (broadcastInDim S8192x4x128 ![0, 1, 2] bcast_S8192x4x1_S8192x4x128_0_1_2 (Host.rsqrt v))) (mulf X s)) (mulf s X)) shapeCasts_S8192x4x128_S8192x512) bitsLt_bf16_f32
def gradKeys (b : FVec Ideal S4x8192x256 .f32) (Q : FVec Ideal S8192x4x128 .f32) : FVec Ideal S256x512 .f32 :=
  shapeCast _ (transpose S256x4x128 [1, 0, 2] (Host.dotGeneral dot_S4x8192x256_S8192x4x128_S4x256x128_1_0_2_2_0_1 none b Q) transposes_S4x256x128_S256x4x128_1_0_2) shapeCasts_S256x4x128_S256x512
def gradValues (D : FVec Ideal S4x128x8192 .f32) (p : FVec Ideal S4x8192x256 .f32) : FVec Ideal S256x512 .f32 :=
  shapeCast _ (transpose S256x4x128 [2, 0, 1] (Host.dotGeneral dot_S4x128x8192_S4x8192x256_S4x128x256_2_1_1_2_0_0 none D p) transposes_S4x128x256_S256x4x128_2_0_1) shapeCasts_S256x4x128_S256x512
def atPlaces (T q : FVec Ideal S8192x4x128 .f32) : FVec Ideal S1x1x128 .f32 :=
  shapeCast _ (Host.reduceAdd (mulf T q) (constant S_ .f32 0x00000000#32) reducesTo_S8192x4x128_S128_d0_1 h_S_) shapeCasts_S128_S1x1x128
def gradGain (s : FVec Ideal S1x1x128 .f32) : FVec Ideal S1x128 .f32 :=
  broadcastInDim S1x128 ![1] bcast_S128_S1x128_1 (Host.reduceAdd s (constant S_ .f32 0x00000000#32) reducesTo_S1x1x128_S128_d0_1 h_S_)

theorem queries_at (b : FVec Ideal S4x8192x256 .f32) (K : FVec Ideal S256x4x128 .f32) (r : Fin 8192) (h : Fin 4) (j : Fin 128) :
    queries b K (ix3 r h j) = ∑ k, b (ix3 h r k) * K (ix3 k h j) := by
  unfold queries
  pointwise
theorem slopes_at (X P : FVec Ideal S8192x4x128 .f32) (v : FVec Ideal S8192x4x1 .f32) (r : Fin 8192) (h : Fin 4) (j : Fin 128) :
    slopes X P v (ix3 r h j) = Ideal.div ((∑ k, X (ix3 r h k) * P (ix3 r h k)) * (((-1 / 2 : ℝ) : EReal) * Ideal.div (Ideal.rsqrt (v (ix3 r h 0))) (v (ix3 r h 0)))) ((128 : ℝ) : EReal) := by
  unfold slopes
  pointwise
  rw [Norm.lit128, Norm.litHalf]
  exact Fin.sum_univ_one _
theorem gradRows_at (X P s : FVec Ideal S8192x4x128 .f32) (v : FVec Ideal S8192x4x1 .f32) (r : Fin 8192) (n : Fin 512) :
    gradRows X P s v (ix2 r n) = P (ix3 r (head n) (lane n)) * Ideal.rsqrt (v (ix3 r (head n) 0))
      + (X (ix3 r (head n) (lane n)) * s (ix3 r (head n) (lane n)) + s (ix3 r (head n) (lane n)) * X (ix3 r (head n) (lane n))) := by
  unfold gradRows
  pointwise
  rw [add_assoc]
  rfl
theorem gradKeys_at (b : FVec Ideal S4x8192x256 .f32) (Q : FVec Ideal S8192x4x128 .f32) (i : Fin 256) (n : Fin 512) :
    gradKeys b Q (ix2 i n) = ∑ r : Fin 8192, b (ix3 (head n) r i) * Q (ix3 r (head n) (lane n)) := by
  unfold gradKeys
  pointwise
  rfl
theorem gradValues_at (D : FVec Ideal S8192x4x128 .f32) (p : FVec Ideal S4x8192x256 .f32) (i : Fin 256) (n : Fin 512) :
    gradValues (turned D) p (ix2 i n) = ∑ r : Fin 8192, p (ix3 (head n) r i) * D (ix3 r (head n) (lane n)) := by
  unfold gradValues turned
  pointwise
  exact Finset.sum_congr rfl fun r _ => mul_comm _ _
/-- A sum over the two leading axes. -/
theorem leading {a b n : Nat} (h : (⟨3, ![a, b, n]⟩ : Shape).ReducesTo [0, 1] ⟨1, ![n]⟩) (v : (⟨3, ![a, b, n]⟩ : Shape).Idx → EReal) (c : EReal) (j : Fin n) :
    Ideal.hostReduceAdd h v c (ix1 j) = c + ∑ x, ∑ y, v (ix3 x y j) := by
  have e : ∀ (x : Fin a) (y : Fin b) (k : Fin n), h.drop (ix3 x y k) = ix1 j ↔ k = j := fun x y k =>
    ⟨fun e => Fin.ext (congrArg Fin.val (congrFun e 0)), fun e => funext fun i => by subst e; fin_cases i; rfl⟩
  unfold Ideal.hostReduceAdd
  rw [Finset.sum_filter, sum_idx3]
  simp only [e, Finset.sum_ite_eq', Finset.mem_univ, if_true]
theorem atPlaces_at (T q : FVec Ideal S8192x4x128 .f32) (j : Fin 128) :
    atPlaces T q (ix3 0 0 j) = ∑ r : Fin 8192, ∑ h : Fin 4, q (ix3 r h j) * T (ix3 r h j) := by
  unfold atPlaces
  pointwise
  rw [leading, zero_add]
  exact Finset.sum_congr rfl fun r _ => Finset.sum_congr rfl fun h _ => mul_comm _ _
theorem gradGain_at (s : FVec Ideal S1x1x128 .f32) (j : Fin 128) : gradGain s (ix2 0 j) = s (ix3 0 0 j) := by
  unfold gradGain
  pointwise
  rw [leading, zero_add, Fin.sum_univ_one, Fin.sum_univ_one]

/-! The results over the arrays. -/

section
variable (Z : FVec Ideal S8192x1920 .f32) (G : FVec Ideal S1x128 .f32) (K V : FVec Ideal S256x512 .bf16) (D : FVec Ideal S8192x2048 .f32)

def allHats : FVec Ideal S8192x4x128 .f32 := hats (headsZ Z) (means (headsZ Z))
def allQueries : FVec Ideal S8192x4x128 .f32 := mulf (allHats Z) (spread G)
def allScores : FVec Ideal S4x8192x256 .f32 := scores (allQueries Z G) (headsM K)
def allExpos : FVec Ideal S4x8192x256 .f32 := expos (allScores Z G K) (most (allScores Z G K))
def allSums : FVec Ideal S4x8192x1 .f32 := sums (allExpos Z G K)
def allSeen : FVec Ideal S4x8192x256 .f32 := sees (turned (headsD D)) (headsM V)
def allBacks : FVec Ideal S4x8192x256 .f32 :=
  backs (allSeen V D) (allExpos Z G K) (allSums Z G K) (totals (allSeen V D) (allExpos Z G K) (allSums Z G K))
def allPulls : FVec Ideal S8192x4x128 .f32 := queries (allBacks Z G K V D) (headsM K)
def rowPulls : FVec Ideal S8192x4x128 .f32 := mulf (allPulls Z G K V D) (spread G)

def refRows : FVec Ideal S8192x512 .bf16 :=
  gradRows (headsZ Z) (rowPulls Z G K V D) (slopes (headsZ Z) (rowPulls Z G K V D) (means (headsZ Z))) (means (headsZ Z))
def refKeys : FVec Ideal S256x512 .f32 := gradKeys (allBacks Z G K V D) (allQueries Z G)
def refValues : FVec Ideal S256x512 .f32 := gradValues (turned (headsD D)) (shares (allExpos Z G K) (allSums Z G K))
def refGain : FVec Ideal S1x128 .f32 := gradGain (atPlaces (allHats Z) (allPulls Z G K V D))

theorem allHats_at (r : Fin 8192) (h : Fin 4) (j : Fin 128) : allHats Z (ix3 r h j) = hat (xs Z r.val h) j := by
  unfold allHats hat Norm.inv
  rw [hats_at, means_at]
  simp only [headsZ_at]
theorem allQueries_at (r : Fin 8192) (h : Fin 4) (j : Fin 128) : allQueries Z G (ix3 r h j) = query (xs Z r.val h) (gains G) j :=
  congrArg₂ (· * ·) (allHats_at Z r h j) (spread_at G r h j)
theorem allScores_at (h : Fin 4) (r : Fin 8192) (k : Fin 256) : allScores Z G K (ix3 h r k) = scoresOf Z G K r.val h k := by
  unfold allScores scoresOf score
  rw [scores_at]
  simp only [allQueries_at, headsM_at]
theorem allExpos_at (h : Fin 4) (r : Fin 8192) (k : Fin 256) : allExpos Z G K (ix3 h r k) = expo (scoresOf Z G K r.val h) k := by
  unfold allExpos expo
  rw [expos_at, most_at]
  simp only [allScores_at]
theorem allSums_at (h : Fin 4) (r : Fin 8192) : allSums Z G K (ix3 h r 0) = ∑ k, expo (scoresOf Z G K r.val h) k := by
  unfold allSums
  rw [sums_at]
  simp only [allExpos_at]
theorem allSeen_at (h : Fin 4) (r : Fin 8192) (k : Fin 256) : allSeen V D (ix3 h r k) = seen (ds D r.val h) (mem V h) k := by
  unfold allSeen seen
  rw [sees_at]
  simp only [headsD_at, headsM_at]

variable (hs : ∀ r h k, Real' (scoresOf Z G K r h k))
include hs

theorem allBacks_at (h : Fin 4) (r : Fin 8192) (k : Fin 256) : allBacks Z G K V D (ix3 h r k) = dscoreOf Z G K V D r.val h k := by
  unfold allBacks dscoreOf dscore
  rw [backs_at, totals_at]
  simp only [allSeen_at, allExpos_at, allSums_at]
  exact back_eq _ _ (hs r.val h) k
theorem allPulls_at (r : Fin 8192) (h : Fin 4) (j : Fin 128) : allPulls Z G K V D (ix3 r h j) = dqueryOf Z G K V D r.val h j := by
  unfold allPulls dqueryOf dquery
  rw [queries_at]
  simp only [allBacks_at Z G K V D hs, headsM_at]
  rfl
theorem rowPulls_at (r : Fin 8192) (h : Fin 4) (j : Fin 128) :
    rowPulls Z G K V D (ix3 r h j) = dqueryOf Z G K V D r.val h j * gains G j :=
  congrArg₂ (· * ·) (allPulls_at Z G K V D hs r h j) (spread_at G r h j)

theorem refRows_at (r : Fin 8192) (n : Fin 512) : refRows Z G K V D (ix2 r n) = Rows Z G K V D (ix2 r n) := by
  unfold Rows drowOf drow
  rw [Norm.grad_eq _ _ _ _ (by norm_num) Norm.eps_pos]
  unfold refRows Norm.slope Norm.inv
  rw [gradRows_at, slopes_at, means_at]
  simp only [headsZ_at, rowPulls_at Z G K V D hs]
  rfl
theorem refKeys_at (i : Fin 256) (n : Fin 512) : refKeys Z G K V D (ix2 i n) = Keys Z G K V D (ix2 i n) := by
  unfold refKeys Keys keySum
  rw [gradKeys_at, Finset.sum_range]
  simp only [allBacks_at Z G K V D hs, allQueries_at]
  rfl
omit hs in
theorem refValues_at (i : Fin 256) (n : Fin 512) : refValues Z G K D (ix2 i n) = Values Z G K D (ix2 i n) := by
  unfold refValues Values valueSum weight
  rw [gradValues_at, Finset.sum_range]
  simp only [shares_at, allExpos_at, allSums_at, headsD_at]
  rfl
theorem refGain_at (j : Fin 128) : refGain Z G K V D (ix2 0 j) = Gain Z G K V D (ix2 0 j) := by
  unfold refGain Gain gainSum
  rw [gradGain_at, atPlaces_at, Finset.sum_range]
  simp only [allPulls_at Z G K V D hs, allHats_at]
  rfl

end

theorem frame : Cert.quiescent_MemxBwdRefIdeal := fun m ρ _ =>
  (θ_run Cert.MemxBwdRefIdeal.defs _ _).mono
    (fun r h => ⟨fun c => (h c).2.2.2.2, Idealize.ShloMosaic.sem_eq_zero_of_no_sems (by decide) r.2⟩)
    (Cert.MemxBwdRefIdeal.Value.run (F := Ideal) m ρ)

end Cert.MemxBwdRefIdeal.Val

end
-- ==== Proof.MemxBwd.lean ====
/- The gradients of the memory reads: the call's four results are the derivative's, where the gain and the keys are
   finite. Then every score is a real number, whatever the rows: a row with an infinite entry is normed to zero. -/
module

public import proofs.«01_k».proof.Proof.ConvPre
public import proofs.«01_k».proof.Proof.MemxValue
public import proofs.«01_k».proof.Proof.MemxRef
public import proofs.«01_k».proof.Proof.Gen.Pre_finite_reads

@[expose] public section

set_option maxRecDepth 16384

noncomputable section

open Idealize.ShloMosaic Idealize.ShloMosaic.TcCoe Idealize.SL.Sem
open Conv Prod Memx

namespace Cert.Pre_finite_reads

theorem reals (Z : FVec Ideal S8192x1920 .f32) (G : FVec Ideal S1x128 .f32) (K V : FVec Ideal S256x512 .bf16) (D : FVec Ideal S8192x2048 .f32)
    (h : fn Z G K V D = fun _ => 1#1) : (∀ i, Real' (G i)) ∧ ∀ i, Real' (K i) := by
  have e := congrFun h (Shape.Idx.first Gen.h_S_)
  unfold fn at e
  simp only [andi] at e
  obtain ⟨hg, hk⟩ := IntOp.andi_eq_one.mp e
  have : Subsingleton S_.Idx := ⟨fun a b => funext fun i => i.elim0⟩
  exact ⟨fun i => Cert.Pre_finite_up.real_of_olt (Host.reduce_andi_all _ _ _ _ _ hg i), fun i => Cert.Pre_finite_up.real_of_olt (Host.reduce_andi_all _ _ _ _ _ hk i)⟩

/-- So every score is real. -/
theorem scores_real (Z : FVec Ideal S8192x1920 .f32) (G : FVec Ideal S1x128 .f32) (K V : FVec Ideal S256x512 .bf16) (D : FVec Ideal S8192x2048 .f32)
    (h : fn Z G K V D = fun _ => 1#1) (r : Nat) (d : Fin 4) (k : Fin 256) : Real' (scoresOf Z G K r d k) := by
  obtain ⟨hg, hk⟩ := reals Z G K V D h
  refine score_real _ _ _ (fun j => ?_) (fun i j => ?_) k
  · unfold gains
    rw [row_ix _ (show 0 < 1 by omega)]
    exact hg _
  · show Real' (at2 K i.val (128 * d.val + j.val))
    rw [at2_of K i.isLt (show 128 * d.val + j.val < 512 by omega)]
    exact hk _

end Cert.Pre_finite_reads

namespace Cert.MemxBwdMain

open Cert.MemxBwdRefIdeal.Val Cert.MemxBwdIdeal.Val

section
variable (Z : (⟨2, ![8192, 1920]⟩ : Shape).Idx → EReal) (G : (⟨2, ![1, 128]⟩ : Shape).Idx → EReal)
  (K V : (⟨2, ![256, 512]⟩ : Shape).Idx → EReal) (D : (⟨2, ![8192, 2048]⟩ : Shape).Idx → EReal)

theorem values_whole : refValues Z G K D = Values Z G K D := funext fun y => by
  rw [two (R := 256) (C := 512) y]
  exact refValues_at Z G K D (y 0) (y 1)

variable (hs : ∀ r h k, Real' (scoresOf Z G K r h k))
include hs

theorem rows_whole : refRows Z G K V D = Rows Z G K V D := funext fun y => by
  rw [two (R := 8192) (C := 512) y]
  exact refRows_at Z G K V D hs (y 0) (y 1)

theorem keys_whole : refKeys Z G K V D = Keys Z G K V D := funext fun y => by
  rw [two (R := 256) (C := 512) y]
  exact refKeys_at Z G K V D hs (y 0) (y 1)

theorem gain_whole : refGain Z G K V D = Gain Z G K V D := funext fun y => by
  rw [two (R := 1) (C := 128) y, show y 0 = (0 : Fin 1) from Fin.ext (Nat.lt_one_iff.mp (y 0).isLt)]
  exact refGain_at Z G K V D hs (y 1)

end

theorem algebraic : Cert.algebraic_MemxBwdIdeal_MemxBwdRefIdeal_pre_finite_reads := by
  intro m ρ m' ρ' hpre hagree
  have hs := fun c => Cert.Pre_finite_reads.scores_real _ _ _ _ _ (hpre c)
  refine ⟨fun c => Rows (argZ m c) (argG m c) (argK m c) (argV m c) (argD m c), fun c => Keys (argZ m c) (argG m c) (argK m c) (argV m c) (argD m c),
    fun c => Values (argZ m c) (argG m c) (argK m c) (argD m c), fun c => Gain (argZ m c) (argG m c) (argK m c) (argV m c) (argD m c), ?_, ?_⟩
  · exact (θ_run Cert.MemxBwdIdeal.defs _ _).mono
      (fun r h c => ⟨(h c).1.trans (final5 m c), (h c).2.1.trans (final6 m c), (h c).2.2.1.trans (final7 m c), (h c).2.2.2.1.trans (final8 m c), (h c).2.2.2.2⟩)
      (Cert.MemxBwdIdeal.Value.run_blocks (F := Ideal) m ρ)
  · refine (θ_run Cert.MemxBwdRefIdeal.defs _ _).mono
      (fun r h c => ⟨(h c).1.trans ?_, (h c).2.1.trans ?_, (h c).2.2.1.trans ?_, (h c).2.2.2.1.trans ?_, (h c).2.2.2.2⟩)
      (Cert.MemxBwdRefIdeal.Value.run (F := Ideal) m' ρ')
    · unfold Cert.MemxBwdRefIdeal.Value.res_main_v104
      rw [(hagree c).1, (hagree c).2.1, (hagree c).2.2.1, (hagree c).2.2.2.1, (hagree c).2.2.2.2]
      exact rows_whole _ _ _ _ _ (hs c)
    · unfold Cert.MemxBwdRefIdeal.Value.res_main_v81
      rw [(hagree c).1, (hagree c).2.1, (hagree c).2.2.1, (hagree c).2.2.2.1, (hagree c).2.2.2.2]
      exact keys_whole _ _ _ _ _ (hs c)
    · unfold Cert.MemxBwdRefIdeal.Value.res_main_v80
      rw [(hagree c).1, (hagree c).2.1, (hagree c).2.2.1, (hagree c).2.2.2.2]
      exact values_whole _ _ _ _
    · unfold Cert.MemxBwdRefIdeal.Value.res_main_v88
      rw [(hagree c).1, (hagree c).2.1, (hagree c).2.2.1, (hagree c).2.2.2.1, (hagree c).2.2.2.2]
      exact gain_whole _ _ _ _ _ (hs c)

end Cert.MemxBwdMain

end
-- ==== Proof.MemkvPrep.lean ====
/- The memory's keys, normed by heads, and its values, from the columns of the product that holds both. -/
module

public import proofs.«01_k».proof.Defs
public import proofs.«01_k».proof.Proof.Gen.MemkvPrepIdeal.Value
public import proofs.«01_k».proof.Proof.Gen.MemkvPrepRefIdeal.Run
public import proofs.«01_k».proof.Proof.MemxValue
public import Idealize.ShloMosaic.Lib.Pipeline.ValueKit.Geometry

@[expose] public section

set_option maxRecDepth 16384

noncomputable section

open Idealize.ShloMosaic Idealize.ShloMosaic.TcCoe Idealize.ShloMosaic.Tactic Idealize.SL.Sem
open Conv Prod Memx
open Cert.MemxBwdIdeal.Val (two four canon_four inb256)

namespace Cert.MemkvPrepIdeal.Val

open Cert.MemkvPrepIdeal Cert.MemkvPrepIdeal.Gen

section Columns
variable {R C : Nat} {e : EltTy} (X : (⟨2, ![R, C]⟩ : Shape).Idx → Elt Ideal e)

/-- The `w` columns from `o` on. -/
def cut (o w : Nat) (h : o + w ≤ C) : (⟨2, ![R, w]⟩ : Shape).Idx → Elt Ideal e :=
  fun y => X (ix2 (y 0) ⟨o + (y 1).val, Nat.lt_of_lt_of_le (Nat.add_lt_add_left (y 1).isLt o) h⟩)

theorem ld_cut (o w : Nat) (inb : ∀ a, (![0, o] : Fin 2 → Nat) a + (![R, w] : Fin 2 → Nat) a ≤ (⟨2, ![R, C]⟩ : Shape).size a) :
    View.ld X (Rect.unit (s := (⟨2, ![R, C]⟩ : Shape)) ![0, o] ![R, w] inb) = cut X o w (inb 1) := by
  funext y
  refine View.ld_unit_apply_of X _ _ _ y _ fun a => ?_
  fin_cases a
  · exact (Nat.zero_add _).symm
  · rfl

end Columns

theorem row_cut {R C : Nat} (X : (⟨2, ![R, C]⟩ : Shape).Idx → EReal) (o : Nat) (h : o + 128 ≤ C) {r : Nat} (hr : r < R) :
    row (cut (e := .f32) X o 128 h) r 0 = row X r o := by
  rw [row_ix _ hr]
  funext j
  unfold row
  rw [at2_of X hr (Nat.lt_of_lt_of_le (Nat.add_lt_add_left j.isLt o) h)]
  rfl

variable (A : Vec Ideal S256x1024 .f32) (G : Vec Ideal S1x128 .f32)

/-- The columns of a head, normed and times the gain. -/
def keyPiece (h : Fin 4) : Vec Ideal S256x128 .bf16 := k0_pay4 (cut (R := 256) (C := 1024) A (128 * h.val) 128 (by omega)) G

theorem pay_at (x : Vec Ideal S256x128 .f32) (r : Fin 256) (j : Fin 128) : k0_pay4 x G (ix2 r j) = query (row x r.val 0) (row G 0 0) j := by
  unfold query hat Norm.inv Norm.mean
  rw [row_ix x r.isLt, row_ix G (show 0 < 1 by omega)]
  unfold k0_pay4
  pointwise
  rw [Norm.lit128, Norm.eps_eq]

theorem keyPiece_at (h : Fin 4) (r : Fin 256) (j : Fin 128) : keyPiece A G h (ix2 r j) = query (row A r.val (128 * h.val)) (gains G) j := by
  unfold keyPiece
  rw [pay_at, row_cut (R := 256) (C := 1024) A _ _ r.isLt]
  rfl

/-- The results. -/
def Keys : S256x512.Idx → EReal := fun y => query (row A (y 0).val (128 * (head (y 1)).val)) (gains G) (lane (y 1))
def Values : S256x512.Idx → EReal := fun y => at2 A (y 0).val (512 + (y 1).val)

theorem keys_four : Value.G2 A G = View.canon (four inb256 (keyPiece A G) []) := by
  unfold Value.G2
  simp only [ld_cut (R := 256) (C := 1024) A _ 128]
  rfl

theorem keys_at (r : Fin 256) (n : Fin 512) : Value.G2 A G (ix2 r n) = Keys A G (ix2 r n) := by
  rw [keys_four]
  conv_lhs => rw [← col_eq n]
  exact (canon_four inb256 (keyPiece A G) [] _ _ _).trans (keyPiece_at A G _ _ _)

theorem keys_eq : Value.G2 A G = Keys A G := funext fun y => by
  rw [two (R := 256) (C := 512) y]
  exact keys_at A G (y 0) (y 1)

theorem values_eq : Value.G3 A G = Values A := funext fun y => by
  unfold Value.G3
  refine Eq.trans (b := View.ld A (Rect.unit (s := S256x1024) ![0, 512] ![256, 512] inb_S256x1024_S256x512_0_512) y) rfl ?_
  rw [ld_cut (R := 256) (C := 1024) A 512 512]
  exact at2_at A _ rfl rfl

end Cert.MemkvPrepIdeal.Val

namespace Cert.MemkvPrepRefIdeal.Val

open Cert.MemkvPrepRefIdeal Cert.MemkvPrepRefIdeal.Gen Facts Cert.MemkvPrepIdeal.Val

def heads (A : FVec Ideal S256x1024 .f32) : FVec Ideal S256x4x128 .f32 :=
  shapeCast _ (extractStridedSlice S256x512 ![0, 0] A slices_S256x1024_S256x512_0_0) shapeCasts_S256x512_S256x4x128
def means (X : FVec Ideal S256x4x128 .f32) : FVec Ideal S256x4x1 .f32 :=
  addf (Host.divf (broadcastInDim S256x4x1 ![0, 1] bcast_S256x4_S256x4x1_0_1 (Host.reduceAdd (mulf X X) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32))
def hats (X : FVec Ideal S256x4x128 .f32) (v : FVec Ideal S256x4x1 .f32) : FVec Ideal S256x4x128 .f32 :=
  mulf X (broadcastInDim S256x4x128 ![0, 1, 2] bcast_S256x4x1_S256x4x128_0_1_2 (Host.rsqrt v))
def spread (G : FVec Ideal S1x128 .f32) : FVec Ideal S256x4x128 .f32 :=
  broadcastInDim S256x4x128 ![0, 1, 2] bcast_S1x1x128_S256x4x128_0_1_2 (broadcastInDim S1x1x128 ![1, 2] bcast_S1x128_S1x1x128_1_2 G)
def joined (X Y : FVec Ideal S256x4x128 .f32) : FVec Ideal S256x512 .bf16 :=
  truncf .bf16 (shapeCast _ (mulf X Y) shapeCasts_S256x4x128_S256x512) bitsLt_bf16_f32
def rest (A : FVec Ideal S256x1024 .f32) : FVec Ideal S256x512 .bf16 :=
  truncf .bf16 (extractStridedSlice S256x512 ![0, 512] A slices_S256x1024_S256x512_0_512) bitsLt_bf16_f32

theorem heads_at (A : FVec Ideal S256x1024 .f32) (r : Fin 256) (h : Fin 4) (j : Fin 128) : heads A (ix3 r h j) = row A r.val (128 * h.val) j := by
  unfold heads
  pointwise
  exact at2_at A _ rfl (by show h.val * 128 + j.val = 128 * h.val + j.val; omega)
theorem means_at (X : FVec Ideal S256x4x128 .f32) (r : Fin 256) (h : Fin 4) :
    means X (ix3 r h 0) = Norm.mean 128 Norm.eps (fun j => X (ix3 r h j)) := by
  unfold means Norm.mean
  pointwise
  rw [Norm.lit128, Norm.eps_eq]
theorem hats_at (X : FVec Ideal S256x4x128 .f32) (v : FVec Ideal S256x4x1 .f32) (r : Fin 256) (h : Fin 4) (j : Fin 128) :
    hats X v (ix3 r h j) = X (ix3 r h j) * Ideal.rsqrt (v (ix3 r h 0)) := by
  unfold hats
  pointwise
theorem spread_at (G : FVec Ideal S1x128 .f32) (r : Fin 256) (h : Fin 4) (j : Fin 128) : spread G (ix3 r h j) = gains G j := by
  unfold spread gains
  rw [row_ix _ (show 0 < 1 by omega)]
  pointwise
theorem joined_at (X Y : FVec Ideal S256x4x128 .f32) (r : Fin 256) (n : Fin 512) :
    joined X Y (ix2 r n) = X (ix3 r (head n) (lane n)) * Y (ix3 r (head n) (lane n)) := by
  unfold joined
  pointwise
  rfl

/-- The normed columns of a head. -/
theorem hat_heads (A : FVec Ideal S256x1024 .f32) (r : Fin 256) (h : Fin 4) (j : Fin 128) :
    hats (heads A) (means (heads A)) (ix3 r h j) = hat (row A r.val (128 * h.val)) j := by
  unfold hat Norm.inv
  rw [hats_at, means_at]
  simp only [heads_at]

theorem joined_keys (A : FVec Ideal S256x1024 .f32) (G : FVec Ideal S1x128 .f32) (r : Fin 256) (n : Fin 512) :
    joined (hats (heads A) (means (heads A))) (spread G) (ix2 r n) = Keys A G (ix2 r n) := by
  rw [joined_at, hat_heads, spread_at]
  rfl

theorem keys_eq (A : FVec Ideal S256x1024 .f32) (G : FVec Ideal S1x128 .f32) :
    joined (hats (heads A) (means (heads A))) (spread G) = Keys A G := funext fun y => by
  rw [Cert.MemxBwdIdeal.Val.two (R := 256) (C := 512) y]
  exact joined_keys A G (y 0) (y 1)

theorem rest_at (A : FVec Ideal S256x1024 .f32) (r : Fin 256) (n : Fin 512) : rest A (ix2 r n) = Values A (ix2 r n) := by
  unfold rest
  pointwise
  exact at2_at A _ rfl rfl

theorem values_eq (A : FVec Ideal S256x1024 .f32) : rest A = Values A := funext fun y => by
  rw [Cert.MemxBwdIdeal.Val.two (R := 256) (C := 512) y]
  exact rest_at A (y 0) (y 1)

theorem frame : Cert.quiescent_MemkvPrepRefIdeal := fun m ρ _ =>
  (θ_run Cert.MemkvPrepRefIdeal.defs _ _).mono
    (fun r h => ⟨fun c => (h c).2.2, Idealize.ShloMosaic.sem_eq_zero_of_no_sems (by decide) r.2⟩)
    (Cert.MemkvPrepRefIdeal.Value.run (F := Ideal) m ρ)

end Cert.MemkvPrepRefIdeal.Val

namespace Cert.MemkvPrepMain

open Cert.MemkvPrepIdeal.Val

theorem algebraic : Cert.algebraic_MemkvPrepIdeal_MemkvPrepRefIdeal := by
  intro m ρ m' ρ' _ hagree
  refine ⟨fun c => Keys (m ((c.tc : Thread Cert.MemkvPrepIdeal.nD Cert.MemkvPrepIdeal.τ).loc Cert.MemkvPrepIdeal.main_arg0)) (m ((c.tc : Thread Cert.MemkvPrepIdeal.nD Cert.MemkvPrepIdeal.τ).loc Cert.MemkvPrepIdeal.main_arg1)),
    fun c => Values (m ((c.tc : Thread Cert.MemkvPrepIdeal.nD Cert.MemkvPrepIdeal.τ).loc Cert.MemkvPrepIdeal.main_arg0)), ?_, ?_⟩
  · exact (θ_run Cert.MemkvPrepIdeal.defs _ _).mono
      (fun r h c => ⟨(h c).1.trans (keys_eq _ _), (h c).2.1.trans (values_eq _ _), (h c).2.2⟩)
      (Cert.MemkvPrepIdeal.Value.run (F := Ideal) m ρ)
  · refine (θ_run Cert.MemkvPrepRefIdeal.defs _ _).mono (fun r h c => ⟨(h c).1.trans ?_, (h c).2.1.trans ?_, (h c).2.2⟩)
      (Cert.MemkvPrepRefIdeal.Value.run (F := Ideal) m' ρ')
    · rw [(hagree c).1, (hagree c).2]
      exact Cert.MemkvPrepRefIdeal.Val.keys_eq _ _
    · rw [(hagree c).1]
      exact Cert.MemkvPrepRefIdeal.Val.values_eq _

end Cert.MemkvPrepMain

end
-- ==== Proof.MemkvBwd.lean ====
/- The gradient of the memory's keys and values joined into one array, the keys' passed back through their norm by heads,
   and the gradient of that norm's gain. -/
module

public import proofs.«01_k».proof.Defs
public import proofs.«01_k».proof.Proof.Gen.MemkvBwdIdeal.Value
public import proofs.«01_k».proof.Proof.Gen.MemkvBwdRefIdeal.Run
public import proofs.«01_k».proof.Proof.MemkvPrep
public import proofs.«01_k».proof.Proof.MemxRef
public import Idealize.ShloMosaic.Lib.Pipeline.ValueKit.Geometry

@[expose] public section

set_option maxRecDepth 16384

noncomputable section

open Idealize.ShloMosaic Idealize.ShloMosaic.TcCoe Idealize.ShloMosaic.Tactic Idealize.SL.Sem
open Idealize.ShloMosaic.Pipeline (Dat)
open Conv Prod Memx
open Cert.MemkvPrepIdeal.Val (cut ld_cut row_cut)
open Cert.MemxBwdIdeal.Val (two)

namespace Cert.MemkvBwdIdeal.Val

open Cert.MemkvBwdIdeal Cert.MemkvBwdIdeal.Gen

theorem hz : (![0, 0] : Fin 2 → Nat) = fun _ => 0 := funext fun a => by fin_cases a <;> rfl

section Columns
variable {R C w : Nat} {e : EltTy} (o : Nat)
  (inb : ∀ a, (![0, o] : Fin 2 → Nat) a + (![R, w] : Fin 2 → Nat) a ≤ (⟨2, ![R, C]⟩ : Shape).size a)
  (q : (⟨2, ![R, w]⟩ : Shape).Idx → Elt Ideal e) (L : List (View.Piece (Elt Ideal) (⟨2, ![R, C]⟩ : Shape) e)) (r : Fin R) (n : Fin C)

/-- A column under the last store, and one beside it. -/
theorem canon_here (j : Fin w) (h : n.val = o + j.val) :
    View.canon ((⟨Rect.unit (s := (⟨2, ![R, C]⟩ : Shape)) ![0, o] ![R, w] inb, q⟩ : View.Piece (Elt Ideal) (⟨2, ![R, C]⟩ : Shape) e) :: L) (ix2 r n) = q (ix2 r j) := by
  have e : (ix2 r n : (⟨2, ![R, C]⟩ : Shape).Idx) = (Rect.unit (s := (⟨2, ![R, C]⟩ : Shape)) ![0, o] ![R, w] inb).emb (ix2 r j) := by
    funext a; apply Fin.ext; fin_cases a <;> simp [h]
  rw [e, View.canon_cons_emb]

theorem canon_past (h : n.val < o ∨ o + w ≤ n.val) :
    View.canon ((⟨Rect.unit (s := (⟨2, ![R, C]⟩ : Shape)) ![0, o] ![R, w] inb, q⟩ : View.Piece (Elt Ideal) (⟨2, ![R, C]⟩ : Shape) e) :: L) (ix2 r n) = View.canon L (ix2 r n) := by
  refine View.canon_cons_of_not_mem _ _ fun hm => ?_
  rw [Rect.mem_set_unit] at hm
  have h1 := hm 1
  simp at h1
  omega

end Columns

section Head
variable (x d : Vec Ideal S256x128 .f32) (g : Vec Ideal S1x128 .f32)

theorem inv_at {r : Nat} (hr : r < 256) : at2 (k0_pay4 x) r 0 = Norm.inv 128 Norm.eps (row x r 0) := by
  rw [at2_of _ hr (show 0 < 1 by omega), row_ix x hr]
  unfold k0_pay4 Norm.inv Norm.mean
  pointwise
  rw [Norm.lit128, Norm.eps_eq]

theorem hat_at {r : Nat} (hr : r < 256) (j : Fin 128) : k0_pay5 x (ix2 ⟨r, hr⟩ j) = hat (row x r 0) j := by
  unfold hat
  rw [← inv_at x hr, at2_of _ hr (show 0 < 1 by omega), row_ix x hr]
  unfold k0_pay5
  generalize k0_pay4 x = w
  pointwise

theorem grad_at {r : Nat} (hr : r < 256) (j : Fin 128) :
    k0_pay6 x d g (ix2 ⟨r, hr⟩ j) = Norm.grad 128 Norm.eps (row x r 0) (fun i => row d r 0 i * row g 0 0 i) j := by
  unfold Norm.grad
  have e := fun i => hat_at x hr i
  unfold hat at e
  simp only [← e]
  simp only [← inv_at x hr, at2_of _ hr (show 0 < 1 by omega), row_ix d hr, row_ix g (show 0 < 1 by omega)]
  unfold k0_pay6
  generalize k0_pay5 x = q
  generalize k0_pay4 x = w
  pointwise
  rw [Norm.lit128]

/-- A head's share of the gain's gradient. -/
theorem share_at (j : Fin 128) : k0_pay23 x d (ix2 0 j) = ∑ r : Fin 256, row d r.val 0 j * hat (row x r.val 0) j := by
  simp only [← hat_at x (Fin.isLt _), row_ix d (Fin.isLt _)]
  have e : k0_pay21 x = k0_pay5 x := rfl
  unfold k0_pay23
  rw [e]
  generalize k0_pay5 x = q
  pointwise

end Head

section Body
variable (c : Dev nD)
  (arg0 : Memref sig .tc .vmem S256x512 .f32) (harg0 : arg0.IsWhole)
  (arg1 : Memref sig .tc .vmem S256x512 .f32) (harg1 : arg1.IsWhole)
  (arg2 : Memref sig .tc .vmem S256x1024 .f32) (harg2 : arg2.IsWhole)
  (arg3 : Memref sig .tc .vmem S1x128 .f32) (harg3 : arg3.IsWhole)
  (arg4 : Memref sig .tc .vmem S256x1024 .bf16) (harg4 : arg4.IsWhole)
  (arg5 : Memref sig .tc .vmem S1x128 .f32) (harg5 : arg5.IsWhole)
  (x0 x1 : Vec Ideal S256x512 .f32) (x2 : Vec Ideal S256x1024 .f32) (x3 : Vec Ideal S1x128 .f32)

/-- The columns of a head: of the array of keys, and of their gradient. -/
def keyCut (h : Fin 4) : Vec Ideal S256x128 .f32 := cut (R := 256) (C := 1024) x2 (128 * h.val) 128 (by omega)
def gradCut (h : Fin 4) : Vec Ideal S256x128 .f32 := cut (R := 256) (C := 512) x0 (128 * h.val) 128 (by omega)
def gradPiece (h : Fin 4) : Vec Ideal S256x128 .bf16 := k0_pay6 (keyCut x2 h) (gradCut x0 h) x3
def shareOf (h : Fin 4) : Vec Ideal S1x128 .f32 := k0_pay23 (keyCut x2 h) (gradCut x0 h)

/-- The heads' shares, added one by one. -/
def shares : FVec Ideal S1x128 .f32 :=
  addf (addf (addf (addf (constant S1x128 .f32 0x00000000#32) (shareOf x0 x2 0)) (shareOf x0 x2 1)) (shareOf x0 x2 2)) (shareOf x0 x2 3)

/-- The stores of the joined gradient, the last first. -/
def stores : List (View.Piece (Elt Ideal) S256x1024 .bf16) :=
  [⟨Rect.unit ![0, 512] ![256, 512] inb_S256x1024_S256x512_0_512, x1⟩,
   ⟨Rect.unit ![0, 384] ![256, 128] inb_S256x1024_S256x128_0_384, gradPiece x0 x2 x3 3⟩,
   ⟨Rect.unit ![0, 256] ![256, 128] inb_S256x1024_S256x128_0_256, gradPiece x0 x2 x3 2⟩,
   ⟨Rect.unit ![0, 128] ![256, 128] inb_S256x1024_S256x128_0_128, gradPiece x0 x2 x3 1⟩,
   ⟨Rect.unit ![0, 0] ![256, 128] inb_S256x1024_S256x128_0_0, gradPiece x0 x2 x3 0⟩]

theorem out_joined : out0_A_4 c arg0 harg0 arg1 harg1 arg2 harg2 arg3 harg3 arg4 harg4 arg5 harg5 x0 x1 x2 x3 = View.canon (stores x0 x1 x2 x3) := by
  unfold out0_A_4
  rw [View.read_writes_eq_canon _ _ _ (cover0_A_4 c arg0 harg0 arg1 harg1 arg2 harg2 arg3 harg3 arg4 harg4 arg5 harg5 x0 x1 x2 x3)]
  unfold kernelRun0_A
  dsimp only
  sl_unfold_words
  simp only [View.readAt_eq_ld, harg0.read_unread, harg1.read_unread, harg2.read_unread, harg3.read_unread,
    View.ld_unit_zero (S := S1x128) hz, View.ld_unit_zero (S := S256x512) hz, ld_cut (R := 256) (C := 1024) x2 _ 128, ld_cut (R := 256) (C := 512) x0 _ 128]
  rfl

theorem out_gain : out0_A_5 c arg0 harg0 arg1 harg1 arg2 harg2 arg3 harg3 arg4 harg4 arg5 harg5 x0 x1 x2 x3 = shares x0 x2 := by
  unfold out0_A_5
  rw [View.read_writes_eq_canon _ _ _ (cover0_A_5 c arg0 harg0 arg1 harg1 arg2 harg2 arg3 harg3 arg4 harg4 arg5 harg5 x0 x1 x2 x3)]
  unfold kernelRun0_A
  dsimp only
  sl_unfold_words
  rw [View.canon_unit_zero hz]
  simp only [View.readAt_eq_ld, harg0.read_unread, harg1.read_unread, harg2.read_unread, harg3.read_unread,
    ld_cut (R := 256) (C := 1024) x2 _ 128, ld_cut (R := 256) (C := 512) x0 _ 128]
  rfl

end Body

section Spec
variable (DK DV : (⟨2, ![256, 512]⟩ : Shape).Idx → EReal) (A : (⟨2, ![256, 1024]⟩ : Shape).Idx → EReal) (G : (⟨2, ![1, 128]⟩ : Shape).Idx → EReal)

/-- The gradient at a head of the keys; the joined gradient; and the gain's. -/
def back (r : Nat) (h : Fin 4) : Fin 128 → EReal :=
  Norm.grad 128 Norm.eps (row A r (128 * h.val)) (fun i => row DK r (128 * h.val) i * gains G i)
def joined (r : Fin 256) (n : Fin 1024) : EReal :=
  if h : n.val < 512 then back DK A G r.val (head ⟨n.val, h⟩) (lane ⟨n.val, h⟩) else DV (ix2 r ⟨n.val - 512, by omega⟩)
def Joined : (⟨2, ![256, 1024]⟩ : Shape).Idx → EReal := fun y => joined DK DV A G (y 0) (y 1)
def Gain : (⟨2, ![1, 128]⟩ : Shape).Idx → EReal := fun y =>
  ∑ h : Fin 4, ∑ r : Fin 256, row DK r.val (128 * h.val) (y 1) * hat (row A r.val (128 * h.val)) (y 1)

theorem gradPiece_at (h : Fin 4) (r : Fin 256) (j : Fin 128) : gradPiece DK A G h (ix2 r j) = back DK A G r.val h j := by
  unfold gradPiece back keyCut gradCut
  rw [grad_at _ _ _ r.isLt, row_cut (R := 256) (C := 1024) A _ _ r.isLt, row_cut (R := 256) (C := 512) DK _ _ r.isLt]
  rfl

theorem shareOf_at (h : Fin 4) (j : Fin 128) :
    shareOf DK A h (ix2 0 j) = ∑ r : Fin 256, row DK r.val (128 * h.val) j * hat (row A r.val (128 * h.val)) j := by
  unfold shareOf keyCut gradCut
  rw [share_at]
  exact Finset.sum_congr rfl fun r _ => by
    rw [row_cut (R := 256) (C := 1024) A _ _ r.isLt, row_cut (R := 256) (C := 512) DK _ _ r.isLt]

theorem stores_low (r : Fin 256) (n : Fin 1024) (h : Fin 4) (j : Fin 128) (hn : n.val = 128 * h.val + j.val) :
    View.canon (stores DK DV A G) (ix2 r n) = gradPiece DK A G h (ix2 r j) := by
  have hj := j.isLt
  unfold stores
  rw [canon_past (R := 256) (C := 1024) (w := 512) 512 _ _ _ r n (by omega)]
  by_cases h3 : h = 3
  · subst h3; exact canon_here (R := 256) (C := 1024) (w := 128) 384 _ _ _ r n j hn
  rw [canon_past (R := 256) (C := 1024) (w := 128) 384 _ _ _ r n (by have := Fin.val_ne_of_ne h3; simp at this; omega)]
  by_cases h2 : h = 2
  · subst h2; exact canon_here (R := 256) (C := 1024) (w := 128) 256 _ _ _ r n j hn
  rw [canon_past (R := 256) (C := 1024) (w := 128) 256 _ _ _ r n (by have := Fin.val_ne_of_ne h2; have := Fin.val_ne_of_ne h3; simp at *; omega)]
  by_cases h1 : h = 1
  · subst h1; exact canon_here (R := 256) (C := 1024) (w := 128) 128 _ _ _ r n j hn
  rw [canon_past (R := 256) (C := 1024) (w := 128) 128 _ _ _ r n (by have := Fin.val_ne_of_ne h1; have := Fin.val_ne_of_ne h2; have := Fin.val_ne_of_ne h3; simp at *; omega)]
  have h0 : h = 0 := by omega
  subst h0
  exact canon_here (R := 256) (C := 1024) (w := 128) 0 _ _ _ r n j hn

theorem stores_at (r : Fin 256) (n : Fin 1024) : View.canon (stores DK DV A G) (ix2 r n) = Joined DK DV A G (ix2 r n) := by
  show _ = joined DK DV A G r n
  unfold joined
  split
  · next h => exact (stores_low DK DV A G r n _ _ (Nat.div_add_mod n.val 128).symm).trans (gradPiece_at DK A G _ _ _)
  · next h => exact canon_here (R := 256) (C := 1024) (w := 512) 512 _ _ _ r n ⟨n.val - 512, by have := n.isLt; omega⟩ (by dsimp only; omega)

theorem stores_eq : View.canon (stores DK DV A G) = Joined DK DV A G := funext fun y => by
  rw [two (R := 256) (C := 1024) y]
  exact stores_at DK DV A G (y 0) (y 1)

theorem shares_at (j : Fin 128) : shares DK A (ix2 0 j) = Gain DK A (ix2 0 j) := by
  show _ = ∑ h : Fin 4, ∑ r : Fin 256, row DK r.val (128 * h.val) j * hat (row A r.val (128 * h.val)) j
  simp only [← shareOf_at]
  rw [Fin.sum_univ_four]
  unfold shares
  pointwise

theorem shares_eq : shares DK A = Gain DK A := funext fun y => by
  rw [two (R := 1) (C := 128) y, show y 0 = (0 : Fin 1) from Fin.ext (Nat.lt_one_iff.mp (y 0).isLt)]
  exact shares_at DK A (y 1)

end Spec

variable (m : (ℓ : Loc nD τ sig) → Buf (Elt Ideal) ℓ) (c : Dev nD)

def argK : (⟨2, ![256, 512]⟩ : Shape).Idx → EReal := m ((c.tc : Thread nD τ).loc main_arg0)
def argV : (⟨2, ![256, 512]⟩ : Shape).Idx → EReal := m ((c.tc : Thread nD τ).loc main_arg1)
def argA : (⟨2, ![256, 1024]⟩ : Shape).Idx → EReal := m ((c.tc : Thread nD τ).loc main_arg2)
def argG : (⟨2, ![1, 128]⟩ : Shape).Idx → EReal := m ((c.tc : Thread nD τ).loc main_arg3)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- Each window is its array. -/
theorem block0 (t : Fin cfg0.N) : (iblk m c 0 t : Vec Ideal S256x512 .f32) = argK m c :=
  funext fun y => congrArg (argK m c) (funext fun a => Fin.ext (by fin_cases a <;> blk_simp [index0 t]))
theorem block1 (t : Fin cfg0.N) : (iblk m c 1 t : Vec Ideal S256x512 .f32) = argV m c :=
  funext fun y => congrArg (argV m c) (funext fun a => Fin.ext (by fin_cases a <;> blk_simp [index1 t]))
theorem block2 (t : Fin cfg0.N) : (iblk m c 2 t : Vec Ideal S256x1024 .f32) = argA m c :=
  funext fun y => congrArg (argA m c) (funext fun a => Fin.ext (by fin_cases a <;> blk_simp [index2 t]))
theorem block3 (t : Fin cfg0.N) : (iblk m c 3 t : Vec Ideal S1x128 .f32) = argG m c :=
  funext fun y => congrArg (argG m c) (funext fun a => Fin.ext (by fin_cases a <;> blk_simp [index3 t]))

theorem final4 : (dats m 0 c).arrAt 4 cfg0.N = Joined (argK m c) (argV m c) (argA m c) (argG m c) := by
  refine (dats m 0 c).arrAt_eq_of_covers 4 _ (by decide +kernel) fun t hf y => ?_
  blk_simp
  rw [after0_4]
  unfold outsAt0
  dsimp only
  rw [out_joined, block0, block1, block2, block3, stores_eq]
  exact congrArg (Joined _ _ _ _) (funext fun a => Fin.ext (by fin_cases a <;> blk_simp [index4 t]))

theorem final5 : (dats m 0 c).arrAt 5 cfg0.N = Gain (argK m c) (argA m c) := by
  refine (dats m 0 c).arrAt_eq_of_covers 5 _ (by decide +kernel) fun t hf y => ?_
  blk_simp
  rw [after0_5]
  unfold outsAt0
  dsimp only
  rw [out_gain, block0, block2, shares_eq]
  exact congrArg (Gain _ _) (funext fun a => Fin.ext (by fin_cases a <;> blk_simp [index5 t]))

end Cert.MemkvBwdIdeal.Val

namespace Cert.MemkvBwdRefIdeal.Val

open Cert.MemkvBwdRefIdeal Cert.MemkvBwdRefIdeal.Gen Facts Cert.MemkvBwdIdeal.Val
open Cert.MemkvPrepRefIdeal.Val (heads means hats spread heads_at means_at hats_at spread_at hat_heads)

/-- The keys' gradient by heads; the gradients along the heads of the mean squares; and the results. -/
def pulls (D : FVec Ideal S256x512 .f32) : FVec Ideal S256x4x128 .f32 := shapeCast _ D shapeCasts_S256x512_S256x4x128
def slopes (X P : FVec Ideal S256x4x128 .f32) (v : FVec Ideal S256x4x1 .f32) : FVec Ideal S256x4x128 .f32 :=
  broadcastInDim S256x4x128 ![0, 1] bcast_S256x4_S256x4x128_0_1 (Host.reduceAdd (Host.divf (mulf (shapeCast _ (Host.reduceAdd (mulf X P) (constant S_ .f32 0x00000000#32) reducesTo_S256x4x128_S256x4_d2 h_S_) shapeCasts_S256x4_S256x4x1) (mulf (broadcastInDim S256x4x1 ![] bcast_S_S256x4x1 (constant S_ .f32 0xBF000000#32)) (Host.divf (Host.rsqrt v) v))) (broadcastInDim S256x4x1 ![] bcast_S_S256x4x1 (constant S_ .f32 0x43000000#32))) (constant S_ .f32 0x00000000#32) reducesTo_S256x4x1_S256x4_d2 h_S_)
def lower (X P s : FVec Ideal S256x4x128 .f32) (v : FVec Ideal S256x4x1 .f32) : FVec Ideal S256x512 .f32 :=
  shapeCast _ (addf (addf (mulf P (broadcastInDim S256x4x128 ![0, 1, 2] bcast_S256x4x1_S256x4x128_0_1_2 (Host.rsqrt v))) (mulf X s)) (mulf s X)) shapeCasts_S256x4x128_S256x512
def both (D L : FVec Ideal S256x512 .f32) : FVec Ideal S256x1024 .bf16 :=
  truncf .bf16 (addf (pad S256x1024 ![0, 512] ![0, 0] ![0, 0] D (constant S_ .f32 0x00000000#32) pads_S256x512_S256x1024_000_51200 h_S_) (pad S256x1024 ![0, 0] ![0, 512] ![0, 0] L (constant S_ .f32 0x00000000#32) pads_S256x512_S256x1024_000_05120 h_S_)) bitsLt_bf16_f32
def atPlaces (T P : FVec Ideal S256x4x128 .f32) : FVec Ideal S1x1x128 .f32 :=
  shapeCast _ (Host.reduceAdd (mulf T P) (constant S_ .f32 0x00000000#32) reducesTo_S256x4x128_S128_d0_1 h_S_) shapeCasts_S128_S1x1x128
def gradGain (s : FVec Ideal S1x1x128 .f32) : FVec Ideal S1x128 .f32 :=
  broadcastInDim S1x128 ![1] bcast_S128_S1x128_1 (Host.reduceAdd s (constant S_ .f32 0x00000000#32) reducesTo_S1x1x128_S128_d0_1 h_S_)

theorem pulls_at (D : FVec Ideal S256x512 .f32) (r : Fin 256) (h : Fin 4) (j : Fin 128) : pulls D (ix3 r h j) = row D r.val (128 * h.val) j := by
  unfold pulls
  pointwise
  exact at2_at D _ rfl (by show h.val * 128 + j.val = 128 * h.val + j.val; omega)
theorem slopes_at (X P : FVec Ideal S256x4x128 .f32) (v : FVec Ideal S256x4x1 .f32) (r : Fin 256) (h : Fin 4) (j : Fin 128) :
    slopes X P v (ix3 r h j) = Ideal.div ((∑ k, X (ix3 r h k) * P (ix3 r h k)) * (((-1 / 2 : ℝ) : EReal) * Ideal.div (Ideal.rsqrt (v (ix3 r h 0))) (v (ix3 r h 0)))) ((128 : ℝ) : EReal) := by
  unfold slopes
  pointwise
  rw [Norm.lit128, Norm.litHalf]
  exact Fin.sum_univ_one _
theorem lower_at (X P s : FVec Ideal S256x4x128 .f32) (v : FVec Ideal S256x4x1 .f32) (r : Fin 256) (n : Fin 512) :
    lower X P s v (ix2 r n) = P (ix3 r (head n) (lane n)) * Ideal.rsqrt (v (ix3 r (head n) 0))
      + (X (ix3 r (head n) (lane n)) * s (ix3 r (head n) (lane n)) + s (ix3 r (head n) (lane n)) * X (ix3 r (head n) (lane n))) := by
  unfold lower
  pointwise
  rw [add_assoc]
  rfl
theorem both_low (D L : FVec Ideal S256x512 .f32) (r : Fin 256) (n : Fin 1024) (h : n.val < 512) : both D L (ix2 r n) = L (ix2 r ⟨n.val, h⟩) := by
  unfold both
  pointwise
  simp [h, Nat.not_le.mpr h]
theorem both_high (D L : FVec Ideal S256x512 .f32) (r : Fin 256) (n : Fin 1024) (h : ¬n.val < 512) :
    both D L (ix2 r n) = D (ix2 r ⟨n.val - 512, by omega⟩) := by
  unfold both
  pointwise
  simp [h, Nat.not_lt.mp h, show n.val - 512 < 512 by omega]
theorem atPlaces_at (T P : FVec Ideal S256x4x128 .f32) (j : Fin 128) :
    atPlaces T P (ix3 0 0 j) = ∑ h : Fin 4, ∑ r : Fin 256, P (ix3 r h j) * T (ix3 r h j) := by
  unfold atPlaces
  pointwise
  rw [Cert.MemxBwdRefIdeal.Val.leading, zero_add, Finset.sum_comm]
  exact Finset.sum_congr rfl fun r _ => Finset.sum_congr rfl fun h _ => mul_comm _ _
theorem gradGain_at (s : FVec Ideal S1x1x128 .f32) (j : Fin 128) : gradGain s (ix2 0 j) = s (ix3 0 0 j) := by
  unfold gradGain
  pointwise
  rw [Cert.MemxBwdRefIdeal.Val.leading, zero_add, Fin.sum_univ_one, Fin.sum_univ_one]

section
variable (DK DV : FVec Ideal S256x512 .f32) (A : FVec Ideal S256x1024 .f32) (G : FVec Ideal S1x128 .f32)

def rowPulls : FVec Ideal S256x4x128 .f32 := mulf (pulls DK) (spread G)
def resJoined : FVec Ideal S256x1024 .bf16 :=
  both DV (lower (heads A) (rowPulls DK G) (slopes (heads A) (rowPulls DK G) (means (heads A))) (means (heads A)))
def resGain : FVec Ideal S1x128 .f32 := gradGain (atPlaces (hats (heads A) (means (heads A))) (pulls DK))

theorem rowPulls_at (r : Fin 256) (h : Fin 4) (j : Fin 128) : rowPulls DK G (ix3 r h j) = row DK r.val (128 * h.val) j * gains G j :=
  congrArg₂ (· * ·) (pulls_at DK r h j) (spread_at G r h j)

theorem resJoined_at (r : Fin 256) (n : Fin 1024) : resJoined DK DV A G (ix2 r n) = Joined DK DV A G (ix2 r n) := by
  show _ = joined DK DV A G r n
  unfold resJoined joined
  split
  · next h =>
    rw [both_low _ _ _ _ h, lower_at, slopes_at, means_at]
    unfold Cert.MemkvBwdIdeal.Val.back
    rw [Norm.grad_eq _ _ _ _ (by norm_num) Norm.eps_pos]
    unfold Norm.slope Norm.inv
    simp only [heads_at, rowPulls_at]
  · next h => exact both_high _ _ _ _ h

theorem resJoined_eq : resJoined DK DV A G = Joined DK DV A G := funext fun y => by
  rw [Cert.MemxBwdIdeal.Val.two (R := 256) (C := 1024) y]
  exact resJoined_at DK DV A G (y 0) (y 1)

theorem resGain_at (j : Fin 128) : resGain DK A (ix2 0 j) = Gain DK A (ix2 0 j) := by
  unfold resGain
  rw [gradGain_at, atPlaces_at]
  simp only [pulls_at, hat_heads]
  rfl

theorem resGain_eq : resGain DK A = Gain DK A := funext fun y => by
  rw [Cert.MemxBwdIdeal.Val.two (R := 1) (C := 128) y, show y 0 = (0 : Fin 1) from Fin.ext (Nat.lt_one_iff.mp (y 0).isLt)]
  exact resGain_at DK A (y 1)

end

theorem frame : Cert.quiescent_MemkvBwdRefIdeal := fun m ρ _ =>
  (θ_run Cert.MemkvBwdRefIdeal.defs _ _).mono
    (fun r h => ⟨fun c => (h c).2.2, Idealize.ShloMosaic.sem_eq_zero_of_no_sems (by decide) r.2⟩)
    (Cert.MemkvBwdRefIdeal.Value.run (F := Ideal) m ρ)

end Cert.MemkvBwdRefIdeal.Val

namespace Cert.MemkvBwdMain

open Cert.MemkvBwdIdeal.Val

theorem algebraic : Cert.algebraic_MemkvBwdIdeal_MemkvBwdRefIdeal := by
  intro m ρ m' ρ' _ hagree
  refine ⟨fun c => Joined (argK m c) (argV m c) (argA m c) (argG m c), fun c => Gain (argK m c) (argA m c), ?_, ?_⟩
  · exact (θ_run Cert.MemkvBwdIdeal.defs _ _).mono
      (fun r h c => ⟨(h c).1.trans (final4 m c), (h c).2.1.trans (final5 m c), (h c).2.2⟩)
      (Cert.MemkvBwdIdeal.Value.run_blocks (F := Ideal) m ρ)
  · refine (θ_run Cert.MemkvBwdRefIdeal.defs _ _).mono (fun r h c => ⟨(h c).1.trans ?_, (h c).2.1.trans ?_, (h c).2.2⟩)
      (Cert.MemkvBwdRefIdeal.Value.run (F := Ideal) m' ρ')
    · unfold Cert.MemkvBwdRefIdeal.Value.res_main_v46
      rw [(hagree c).1, (hagree c).2.1, (hagree c).2.2.1, (hagree c).2.2.2]
      exact Cert.MemkvBwdRefIdeal.Val.resJoined_eq (argK m c) (argV m c) (argA m c) (argG m c)
    · rw [(hagree c).1, (hagree c).2.2.1]
      exact Cert.MemkvBwdRefIdeal.Val.resGain_eq (argK m c) (argA m c)

end Cert.MemkvBwdMain

end
-- ==== Proof.MemKvDw.lean ====
/- The gradient of the weights of the memory's keys and values, and its rounded copy. -/
module

public import proofs.«01_k».proof.Defs
public import proofs.«01_k».proof.Proof.Gen.MemKvDwIdeal.Value
public import proofs.«01_k».proof.Proof.Gen.MemKvDwRefIdeal.Run
public import proofs.«01_k».proof.Proof.ProdSpec
public import Idealize.ShloMosaic.Lib.Pipeline.ValueKit.Geometry

@[expose] public section

set_option maxRecDepth 16384

noncomputable section

open Idealize.ShloMosaic Idealize.ShloMosaic.TcCoe Idealize.ShloMosaic.Tactic Idealize.SL.Sem
open Idealize.ShloMosaic.Pipeline (Dat)
open Conv Prod

namespace Cert.MemKvDwIdeal.Val

open Cert.MemKvDwIdeal Cert.MemKvDwIdeal.Gen

theorem hz : (![0, 0] : Fin 2 → Nat) = fun _ => 0 := funext fun a => by fin_cases a <;> rfl

variable (m : (ℓ : Loc nD τ sig) → Buf (Elt Ideal) ℓ) (c : Dev nD)

def argA : (⟨2, ![256, 2048]⟩ : Shape).Idx → EReal := m ((c.tc : Thread nD τ).loc main_arg0)
def argB : (⟨2, ![256, 1024]⟩ : Shape).Idx → EReal := m ((c.tc : Thread nD τ).loc main_arg1)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

theorem block0 (t : Fin cfg0.N) (r n : Nat) (hr : r < 256) (hn : n < 1024) :
    at2 (iblk m c 0 t : Vec Ideal S256x1024 .bf16) r n = at2 (argA m c) r (1024 * t.val + n) := by
  rw [at2_of _ hr hn]
  exact at2_at (argA m c) _ (by blk_simp [index0 t]) (by blk_simp [index0 t]; dsimp only; omega)

theorem block1 (t : Fin cfg0.N) (r n : Nat) (hr : r < 256) (hn : n < 1024) :
    at2 (iblk m c 1 t : Vec Ideal S256x1024 .bf16) r n = at2 (argB m c) r n := by
  rw [at2_of _ hr hn]
  exact at2_at (argB m c) _ (by blk_simp [index1 t]) (by blk_simp [index1 t])

section Body
variable (x0 x1 : Vec Ideal S256x1024 .bf16)

theorem out_at {r n : Nat} (hr : r < 1024) (hn : n < 1024) : at2 (out0_2 x0 x1) r n = tn x0 x1 256 r n := by
  rw [at2_of _ hr hn, tn_eq x0 x1 hr hn rfl rfl]
  unfold out0_2
  rw [View.canon_unit_zero hz]
  simp only [View.ld_unit_zero (S := S256x1024) hz]
  unfold k0_pay1
  pointwise

theorem copy_at {r n : Nat} (hr : r < 1024) (hn : n < 1024) : at2 (out0_3 x0 x1) r n = tn x0 x1 256 r n := by
  rw [at2_of _ hr hn, tn_eq x0 x1 hr hn rfl rfl]
  unfold out0_3
  rw [View.canon_unit_zero hz]
  simp only [View.ld_unit_zero (S := S256x1024) hz]
  unfold k0_pay2 k0_pay1
  pointwise

end Body

/-- The result. -/
def P : (⟨2, ![2048, 1024]⟩ : Shape).Idx → EReal := fun y => tn (argA m c) (argB m c) 256 (y 0).val (y 1).val

theorem part (t : Fin cfg0.N) {r n : Nat} (hr : r < 1024) (hn : n < 1024) :
    tn (iblk m c 0 t : Vec Ideal S256x1024 .bf16) (iblk m c 1 t : Vec Ideal S256x1024 .bf16) 256 r n
      = tn (argA m c) (argB m c) 256 (1024 * t.val + r) n := by
  unfold tn
  refine Finset.sum_congr rfl fun k hk => ?_
  have hk := Finset.mem_range.mp hk
  rw [block0 m c t _ _ hk hr, block1 m c t _ _ hk hn]

theorem final2 : (dats m 0 c).arrAt 2 cfg0.N = P m c := by
  refine (dats m 0 c).arrAt_eq_of_covers 2 _ (by decide +kernel) fun t hf y => ?_
  blk_simp
  rw [after0_2]
  have e0 : ((win0_2.blk t).view.emb y 0).val = 1024 * t.val + (y 0).val := by blk_simp [index2 t]; omega
  have e1 : ((win0_2.blk t).view.emb y 1).val = (y 1).val := by blk_simp [index2 t]
  unfold P
  rw [e0, e1]
  refine (at2_idx (R := 1024) (C := 1024) _ y).trans ?_
  rw [out_at _ _ (y 0).isLt (y 1).isLt, part m c t (y 0).isLt (y 1).isLt]

theorem final3 : (dats m 0 c).arrAt 3 cfg0.N = P m c := by
  refine (dats m 0 c).arrAt_eq_of_covers 3 _ (by decide +kernel) fun t hf y => ?_
  blk_simp
  rw [after0_3]
  have e0 : ((win0_3.blk t).view.emb y 0).val = 1024 * t.val + (y 0).val := by blk_simp [index3 t]; omega
  have e1 : ((win0_3.blk t).view.emb y 1).val = (y 1).val := by blk_simp [index3 t]
  unfold P
  rw [e0, e1]
  refine (at2_idx (R := 1024) (C := 1024) _ y).trans ?_
  rw [copy_at _ _ (y 0).isLt (y 1).isLt, part m c t (y 0).isLt (y 1).isLt]

end Cert.MemKvDwIdeal.Val

namespace Cert.MemKvDwRefIdeal.Val

open Cert.MemKvDwRefIdeal Cert.MemKvDwRefIdeal.Gen Facts

def res (A : FVec Ideal S256x2048 .bf16) (B : FVec Ideal S256x1024 .bf16) : FVec Ideal S2048x1024 .f32 :=
  transpose S2048x1024 [1, 0] (Host.dotGeneral dot_S256x1024_S256x2048_S1024x2048_0_0_1_1_n_n none (extf .f32 B bitsLt_bf16_f32) (extf .f32 A bitsLt_bf16_f32)) transposes_S1024x2048_S2048x1024_1_0

theorem res_eq (A : FVec Ideal S256x2048 .bf16) (B : FVec Ideal S256x1024 .bf16) :
    res A B = fun y => tn A B 256 (y 0).val (y 1).val :=
  whole (R := 2048) (C := 1024) _ (tn A B 256) fun r n hr hn => by
    rw [at2_of _ hr hn, tn_eq A B hr hn rfl rfl]
    unfold res
    pointwise
    exact Finset.sum_congr rfl fun k _ => mul_comm _ _

theorem frame : Cert.quiescent_MemKvDwRefIdeal := fun m ρ _ =>
  (θ_run Cert.MemKvDwRefIdeal.defs _ _).mono
    (fun r h => ⟨fun c => (h c).2.2, Idealize.ShloMosaic.sem_eq_zero_of_no_sems (by decide) r.2⟩)
    (Cert.MemKvDwRefIdeal.Value.run (F := Ideal) m ρ)

end Cert.MemKvDwRefIdeal.Val

namespace Cert.MemKvDwMain

theorem algebraic : Cert.algebraic_MemKvDwIdeal_MemKvDwRefIdeal := by
  intro m ρ m' ρ' _ hagree
  refine ⟨fun c => Cert.MemKvDwIdeal.Val.P m c, fun c => Cert.MemKvDwIdeal.Val.P m c, ?_, ?_⟩
  · exact (θ_run Cert.MemKvDwIdeal.defs _ _).mono
      (fun r h c => ⟨(h c).1.trans (Cert.MemKvDwIdeal.Val.final2 m c), (h c).2.1.trans (Cert.MemKvDwIdeal.Val.final3 m c), (h c).2.2⟩)
      (Cert.MemKvDwIdeal.Value.run_blocks (F := Ideal) m ρ)
  · refine (θ_run Cert.MemKvDwRefIdeal.defs _ _).mono (fun r h c => ⟨(h c).1.trans ?_, (h c).2.1.trans ?_, (h c).2.2⟩)
      (Cert.MemKvDwRefIdeal.Value.run (F := Ideal) m' ρ')
    · rw [(hagree c).1, (hagree c).2]
      exact Cert.MemKvDwRefIdeal.Val.res_eq _ _
    · rw [(hagree c).1, (hagree c).2]
      exact Cert.MemKvDwRefIdeal.Val.res_eq _ _

end Cert.MemKvDwMain

end
-- ==== Proof.MemKvDx.lean ====
/- The gradient of the input of the product that makes the memory's keys and values. -/
module

public import proofs.«01_k».proof.Defs
public import proofs.«01_k».proof.Proof.Gen.MemKvDxIdeal.Value
public import proofs.«01_k».proof.Proof.Gen.MemKvDxRefIdeal.Run
public import proofs.«01_k».proof.Proof.ProdSpec
public import Idealize.ShloMosaic.Lib.Tactic

@[expose] public section

set_option maxRecDepth 16384

noncomputable section

open Idealize.ShloMosaic Idealize.ShloMosaic.TcCoe Idealize.ShloMosaic.Tactic Idealize.SL.Sem
open Conv Prod

namespace Cert.MemKvDxIdeal.Val

open Cert.MemKvDxIdeal Cert.MemKvDxIdeal.Gen

theorem out_eq (A : Vec Ideal S256x1024 .bf16) (B : Vec Ideal S2048x1024 .bf16) :
    k0_pay1 A B = fun y => nt A B 1024 (y 0).val (y 1).val :=
  whole (R := 256) (C := 2048) _ (nt A B 1024) fun r n hr hn => by
    rw [at2_of _ hr hn, nt_eq A B hr hn rfl rfl]
    unfold k0_pay1
    pointwise

end Cert.MemKvDxIdeal.Val

namespace Cert.MemKvDxRefIdeal.Val

open Cert.MemKvDxRefIdeal Cert.MemKvDxRefIdeal.Gen Facts

def res (A : FVec Ideal S256x1024 .bf16) (B : FVec Ideal S2048x1024 .bf16) : FVec Ideal S256x2048 .f32 :=
  Host.dotGeneral dot_S256x1024_S2048x1024_S256x2048_1_1_0_0_n_n none (extf .f32 A bitsLt_bf16_f32) (extf .f32 B bitsLt_bf16_f32)

theorem res_eq (A : FVec Ideal S256x1024 .bf16) (B : FVec Ideal S2048x1024 .bf16) :
    res A B = fun y => nt A B 1024 (y 0).val (y 1).val :=
  whole (R := 256) (C := 2048) _ (nt A B 1024) fun r n hr hn => by
    rw [at2_of _ hr hn, nt_eq A B hr hn rfl rfl]
    unfold res
    pointwise

theorem frame : Cert.quiescent_MemKvDxRefIdeal := fun m ρ _ =>
  (θ_run Cert.MemKvDxRefIdeal.defs _ _).mono
    (fun r h => ⟨fun c => (h c).2, Idealize.ShloMosaic.sem_eq_zero_of_no_sems (by decide) r.2⟩)
    (Cert.MemKvDxRefIdeal.Value.run (F := Ideal) m ρ)

end Cert.MemKvDxRefIdeal.Val

namespace Cert.MemKvDxMain

theorem algebraic : Cert.algebraic_MemKvDxIdeal_MemKvDxRefIdeal := by
  intro m ρ m' ρ' _ hagree
  refine ⟨fun c y => nt (m ((c.tc : Thread Cert.MemKvDxIdeal.nD Cert.MemKvDxIdeal.τ).loc Cert.MemKvDxIdeal.main_arg0)) (m ((c.tc : Thread Cert.MemKvDxIdeal.nD Cert.MemKvDxIdeal.τ).loc Cert.MemKvDxIdeal.main_arg1)) 1024 (y 0).val (y 1).val, ?_, ?_⟩
  · exact (θ_run Cert.MemKvDxIdeal.defs _ _).mono (fun r h c => ⟨(h c).1.trans (Cert.MemKvDxIdeal.Val.out_eq _ _), (h c).2⟩)
      (Cert.MemKvDxIdeal.Value.run (F := Ideal) m ρ)
  · refine (θ_run Cert.MemKvDxRefIdeal.defs _ _).mono (fun r h c => ⟨(h c).1.trans ?_, (h c).2⟩)
      (Cert.MemKvDxRefIdeal.Value.run (F := Ideal) m' ρ')
    rw [(hagree c).1, (hagree c).2]
    exact Cert.MemKvDxRefIdeal.Val.res_eq _ _

end Cert.MemKvDxMain

end
-- ==== Proof.MemGainBwd.lean ====
/- The gradient of the gain of the memory's norm. -/
module

public import proofs.«01_k».proof.Defs
public import proofs.«01_k».proof.Proof.Gen.MemGainBwdIdeal.Value
public import proofs.«01_k».proof.Proof.Gen.MemGainBwdRefIdeal.Run
public import proofs.«01_k».proof.Proof.ProdSpec
public import proofs.«01_k».proof.Proof.NormSpec
public import Idealize.ShloMosaic.Lib.Tactic

@[expose] public section

set_option maxRecDepth 16384

noncomputable section

open Idealize.ShloMosaic Idealize.ShloMosaic.TcCoe Idealize.ShloMosaic.Tactic Idealize.SL.Sem
open Conv Prod

namespace Cert.MemGainBwdIdeal.Val

open Cert.MemGainBwdIdeal Cert.MemGainBwdIdeal.Gen

/-- The sum over the rows of the normed entry times the gradient that reaches it. -/
def gained (X D : S256x2048.Idx → EReal) (r n : Nat) : EReal :=
  ∑ k : Fin 256, at2 X k.val n * Norm.inv 2048 Norm.eps (fun j : Fin 2048 => at2 X k.val j.val) * at2 D k.val n

theorem out_eq (X D : Vec Ideal S256x2048 .f32) : k0_pay1 X D = fun y => gained X D (y 0).val (y 1).val :=
  whole (R := 1) (C := 2048) _ (gained X D) fun r n hr hn => by
    obtain rfl : r = 0 := by omega
    unfold gained Norm.inv Norm.mean
    simp only [at2_of _ hr hn, at2_of X (Fin.isLt _) hn, at2_of X (Fin.isLt _) (Fin.isLt _), at2_of D (Fin.isLt _) hn]
    unfold k0_pay1
    pointwise
    rw [Norm.lit2048, Norm.eps_eq]
    exact Finset.sum_congr rfl fun k _ => mul_comm _ _

end Cert.MemGainBwdIdeal.Val

namespace Cert.MemGainBwdRefIdeal.Val

open Cert.MemGainBwdRefIdeal Cert.MemGainBwdRefIdeal.Gen Facts Cert.MemGainBwdIdeal.Val

def res (X D : FVec Ideal S256x2048 .f32) : FVec Ideal S1x2048 .f32 :=
  shapeCast _ (Host.reduceAdd (mulf (mulf X (broadcastInDim S256x2048 ![0, 1] bcast_S256x1_S256x2048_0_1 (Host.rsqrt (addf (Host.divf (broadcastInDim S256x1 ![0] bcast_S256_S256x1_0 (Host.reduceAdd (mulf X X) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) D) (constant S_ .f32 0x00000000#32) reducesTo_S256x2048_S2048_d0 h_S_) shapeCasts_S2048_S1x2048

theorem res_eq (X D : FVec Ideal S256x2048 .f32) : res X D = fun y => gained X D (y 0).val (y 1).val :=
  whole (R := 1) (C := 2048) _ (gained X D) fun r n hr hn => by
    obtain rfl : r = 0 := by omega
    unfold gained Norm.inv Norm.mean
    simp only [at2_of _ hr hn, at2_of X (Fin.isLt _) hn, at2_of X (Fin.isLt _) (Fin.isLt _), at2_of D (Fin.isLt _) hn]
    unfold res
    pointwise
    rw [Norm.lit2048, Norm.eps_eq]

theorem frame : Cert.quiescent_MemGainBwdRefIdeal := fun m ρ _ =>
  (θ_run Cert.MemGainBwdRefIdeal.defs _ _).mono
    (fun r h => ⟨fun c => (h c).2, Idealize.ShloMosaic.sem_eq_zero_of_no_sems (by decide) r.2⟩)
    (Cert.MemGainBwdRefIdeal.Value.run (F := Ideal) m ρ)

end Cert.MemGainBwdRefIdeal.Val

namespace Cert.MemGainBwdMain

theorem algebraic : Cert.algebraic_MemGainBwdIdeal_MemGainBwdRefIdeal := by
  intro m ρ m' ρ' _ hagree
  refine ⟨fun c y => Cert.MemGainBwdIdeal.Val.gained (m ((c.tc : Thread Cert.MemGainBwdIdeal.nD Cert.MemGainBwdIdeal.τ).loc Cert.MemGainBwdIdeal.main_arg0)) (m ((c.tc : Thread Cert.MemGainBwdIdeal.nD Cert.MemGainBwdIdeal.τ).loc Cert.MemGainBwdIdeal.main_arg1))  (y 0).val (y 1).val, ?_, ?_⟩
  · exact (θ_run Cert.MemGainBwdIdeal.defs _ _).mono (fun r h c => ⟨(h c).1.trans (Cert.MemGainBwdIdeal.Val.out_eq _ _), (h c).2⟩)
      (Cert.MemGainBwdIdeal.Value.run (F := Ideal) m ρ)
  · refine (θ_run Cert.MemGainBwdRefIdeal.defs _ _).mono (fun r h c => ⟨(h c).1.trans ?_, (h c).2⟩)
      (Cert.MemGainBwdRefIdeal.Value.run (F := Ideal) m' ρ')
    rw [(hagree c).1, (hagree c).2]
    exact Cert.MemGainBwdRefIdeal.Val.res_eq _ _

end Cert.MemGainBwdMain

end
-- ==== Proof.MemNorm.lean ====
/- The norm of the memory's rows. -/
module

public import proofs.«01_k».proof.Defs
public import proofs.«01_k».proof.Proof.Gen.MemNormIdeal.Value
public import proofs.«01_k».proof.Proof.Gen.MemNormRefIdeal.Run
public import proofs.«01_k».proof.Proof.ProdSpec
public import proofs.«01_k».proof.Proof.NormSpec
public import Idealize.ShloMosaic.Lib.Tactic

@[expose] public section

set_option maxRecDepth 16384

noncomputable section

open Idealize.ShloMosaic Idealize.ShloMosaic.TcCoe Idealize.ShloMosaic.Tactic Idealize.SL.Sem
open Conv Prod

namespace Cert.MemNormIdeal.Val

open Cert.MemNormIdeal Cert.MemNormIdeal.Gen

/-- An entry of a normed row, times its column's gain. -/
def normed (X : S256x2048.Idx → EReal) (G : S1x2048.Idx → EReal) (r n : Nat) : EReal :=
  at2 X r n * Norm.inv 2048 Norm.eps (fun k : Fin 2048 => at2 X r k.val) * at2 G 0 n

theorem out_eq (X : Vec Ideal S256x2048 .f32) (G : Vec Ideal S1x2048 .f32) :
    k0_pay1 X G = fun y => normed X G (y 0).val (y 1).val :=
  whole (R := 256) (C := 2048) _ (normed X G) fun r n hr hn => by
    unfold normed Norm.inv Norm.mean
    simp only [at2_of _ hr hn, at2_of X hr (Fin.isLt _), at2_of G (show 0 < 1 by omega) hn]
    unfold k0_pay1
    pointwise
    rw [Norm.lit2048, Norm.eps_eq]

end Cert.MemNormIdeal.Val

namespace Cert.MemNormRefIdeal.Val

open Cert.MemNormRefIdeal Cert.MemNormRefIdeal.Gen Facts Cert.MemNormIdeal.Val

def res (X : FVec Ideal S256x2048 .f32) (G : FVec Ideal S1x2048 .f32) : FVec Ideal S256x2048 .bf16 :=
  truncf .bf16 (mulf (mulf X (broadcastInDim S256x2048 ![0, 1] bcast_S256x1_S256x2048_0_1 (Host.rsqrt (addf (Host.divf (broadcastInDim S256x1 ![0] bcast_S256_S256x1_0 (Host.reduceAdd (mulf X X) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 G)) bitsLt_bf16_f32

theorem res_eq (X : FVec Ideal S256x2048 .f32) (G : FVec Ideal S1x2048 .f32) :
    res X G = fun y => normed X G (y 0).val (y 1).val :=
  whole (R := 256) (C := 2048) _ (normed X G) fun r n hr hn => by
    unfold normed Norm.inv Norm.mean
    simp only [at2_of _ hr hn, at2_of X hr (Fin.isLt _), at2_of G (show 0 < 1 by omega) hn]
    unfold res
    pointwise
    rw [Norm.lit2048, Norm.eps_eq]

theorem frame : Cert.quiescent_MemNormRefIdeal := fun m ρ _ =>
  (θ_run Cert.MemNormRefIdeal.defs _ _).mono
    (fun r h => ⟨fun c => (h c).2, Idealize.ShloMosaic.sem_eq_zero_of_no_sems (by decide) r.2⟩)
    (Cert.MemNormRefIdeal.Value.run (F := Ideal) m ρ)

end Cert.MemNormRefIdeal.Val

namespace Cert.MemNormMain

theorem algebraic : Cert.algebraic_MemNormIdeal_MemNormRefIdeal := by
  intro m ρ m' ρ' _ hagree
  refine ⟨fun c y => Cert.MemNormIdeal.Val.normed (m ((c.tc : Thread Cert.MemNormIdeal.nD Cert.MemNormIdeal.τ).loc Cert.MemNormIdeal.main_arg0)) (m ((c.tc : Thread Cert.MemNormIdeal.nD Cert.MemNormIdeal.τ).loc Cert.MemNormIdeal.main_arg1))  (y 0).val (y 1).val, ?_, ?_⟩
  · exact (θ_run Cert.MemNormIdeal.defs _ _).mono (fun r h c => ⟨(h c).1.trans (Cert.MemNormIdeal.Val.out_eq _ _), (h c).2⟩)
      (Cert.MemNormIdeal.Value.run (F := Ideal) m ρ)
  · refine (θ_run Cert.MemNormRefIdeal.defs _ _).mono (fun r h c => ⟨(h c).1.trans ?_, (h c).2⟩)
      (Cert.MemNormRefIdeal.Value.run (F := Ideal) m' ρ')
    rw [(hagree c).1, (hagree c).2]
    exact Cert.MemNormRefIdeal.Val.res_eq _ _

end Cert.MemNormMain

end
-- ==== Proof.MemKv.lean ====
/- The product that makes the memory's keys and values. -/
module

public import proofs.«01_k».proof.Defs
public import proofs.«01_k».proof.Proof.Gen.MemKvIdeal.Value
public import proofs.«01_k».proof.Proof.Gen.MemKvRefIdeal.Run
public import proofs.«01_k».proof.Proof.ProdSpec
public import Idealize.ShloMosaic.Lib.Tactic

@[expose] public section

set_option maxRecDepth 16384

noncomputable section

open Idealize.ShloMosaic Idealize.ShloMosaic.TcCoe Idealize.ShloMosaic.Tactic Idealize.SL.Sem
open Conv Prod

namespace Cert.MemKvIdeal.Val

open Cert.MemKvIdeal Cert.MemKvIdeal.Gen

theorem out_eq (A : Vec Ideal S256x2048 .bf16) (B : Vec Ideal S2048x1024 .bf16) :
    k0_pay1 A B = fun y => nn A B 2048 (y 0).val (y 1).val :=
  whole (R := 256) (C := 1024) _ (nn A B 2048) fun r n hr hn => by
    rw [at2_of _ hr hn, nn_eq A B hr hn rfl rfl]
    unfold k0_pay1
    pointwise

end Cert.MemKvIdeal.Val

namespace Cert.MemKvRefIdeal.Val

open Cert.MemKvRefIdeal Cert.MemKvRefIdeal.Gen Facts

def res (A : FVec Ideal S256x2048 .bf16) (B : FVec Ideal S2048x1024 .bf16) : FVec Ideal S256x1024 .f32 :=
  Host.dotGeneral dot_S256x2048_S2048x1024_S256x1024_1_0_0_1_n_n none (extf .f32 A bitsLt_bf16_f32) (extf .f32 B bitsLt_bf16_f32)

theorem res_eq (A : FVec Ideal S256x2048 .bf16) (B : FVec Ideal S2048x1024 .bf16) :
    res A B = fun y => nn A B 2048 (y 0).val (y 1).val :=
  whole (R := 256) (C := 1024) _ (nn A B 2048) fun r n hr hn => by
    rw [at2_of _ hr hn, nn_eq A B hr hn rfl rfl]
    unfold res
    pointwise

theorem frame : Cert.quiescent_MemKvRefIdeal := fun m ρ _ =>
  (θ_run Cert.MemKvRefIdeal.defs _ _).mono
    (fun r h => ⟨fun c => (h c).2, Idealize.ShloMosaic.sem_eq_zero_of_no_sems (by decide) r.2⟩)
    (Cert.MemKvRefIdeal.Value.run (F := Ideal) m ρ)

end Cert.MemKvRefIdeal.Val

namespace Cert.MemKvMain

theorem algebraic : Cert.algebraic_MemKvIdeal_MemKvRefIdeal := by
  intro m ρ m' ρ' _ hagree
  refine ⟨fun c y => nn (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) 2048 (y 0).val (y 1).val, ?_, ?_⟩
  · exact (θ_run Cert.MemKvIdeal.defs _ _).mono (fun r h c => ⟨(h c).1.trans (Cert.MemKvIdeal.Val.out_eq _ _), (h c).2⟩)
      (Cert.MemKvIdeal.Value.run (F := Ideal) m ρ)
  · refine (θ_run Cert.MemKvRefIdeal.defs _ _).mono (fun r h c => ⟨(h c).1.trans ?_, (h c).2⟩)
      (Cert.MemKvRefIdeal.Value.run (F := Ideal) m' ρ')
    rw [(hagree c).1, (hagree c).2]
    exact Cert.MemKvRefIdeal.Val.res_eq _ _

end Cert.MemKvMain

end
-- ==== Proof.MemxFwd.lean ====
/- The attention over the memory: each row's queries, normed by heads, against the memory's keys, and the values under the weights. -/
module

public import proofs.«01_k».proof.Defs
public import proofs.«01_k».proof.Proof.Gen.MemxFwdIdeal.Value
public import proofs.«01_k».proof.Proof.Gen.MemxFwdRefIdeal.Run
public import proofs.«01_k».proof.Proof.Gen.Pre_finite_keys
public import proofs.«01_k».proof.Proof.ConvPre
public import proofs.«01_k».proof.Proof.MemxValue
public import proofs.«01_k».proof.Proof.MemxRef

@[expose] public section

set_option maxRecDepth 16384

noncomputable section

open Idealize.ShloMosaic Idealize.ShloMosaic.TcCoe Idealize.ShloMosaic.Tactic Idealize.SL.Sem
open Idealize.ShloMosaic.Pipeline (Dat)
open Conv Prod Memx

namespace Memx

variable (s : Fin 256 → EReal) (V : Fin 256 → Fin 128 → EReal)

/-- The values under the weights, divided after the sum. -/
def mixed (j : Fin 128) : EReal := Ideal.div (∑ k, expo s k * V k j) (∑ k, expo s k)

/-- Dividing each weight gives the same, the scores being real. -/
theorem mixed_eq (h : ∀ k, Real' (s k)) (j : Fin 128) : ∑ k, V k j * Ideal.div (expo s k) (∑ i, expo s i) = mixed s V j := by
  obtain ⟨t, ht⟩ := top_real s h
  choose r hr using h
  have he : ∀ i, expo s i = ((Real.exp (r i - t) : ℝ) : EReal) := fun i => by
    unfold expo; rw [ht, hr, ← EReal.coe_sub]; rfl
  have hpos : 0 < ∑ i, Real.exp (r i - t) := Finset.sum_pos (fun i _ => Real.exp_pos _) ⟨0, Finset.mem_univ _⟩
  unfold mixed
  simp only [he, coe_sum, Norm.div_real hpos]
  rw [mul_comm, Norm.scale_sum _ (by exact_mod_cast (inv_pos.mpr hpos).le) (EReal.coe_ne_top _)]
  exact Finset.sum_congr rfl fun k _ => by ac_rfl

/-- The result, over whole arrays. -/
def Mixed (Z : (⟨2, ![8192, 1920]⟩ : Shape).Idx → EReal) (G : (⟨2, ![1, 128]⟩ : Shape).Idx → EReal) (K W : (⟨2, ![256, 512]⟩ : Shape).Idx → EReal) :
    (⟨2, ![8192, 512]⟩ : Shape).Idx → EReal := fun y => mixed (scoresOf Z G K (y 0).val (head (y 1))) (mem W (head (y 1))) (lane (y 1))

end Memx

namespace Cert.MemxFwdIdeal.Val

open Cert.MemxFwdIdeal Cert.MemxFwdIdeal.Gen
open Cert.MemxBwdIdeal.Val (two piece four ld_head0 ld_head1 ld_head2 ld_head3 canon_four inb512)

theorem hz : (![0, 0] : Fin 2 → Nat) = fun _ => 0 := funext fun a => by fin_cases a <;> rfl

section Head
variable (g : Vec Ideal S1x128 .f32) (a : Vec Ideal S512x128 .f32) (k v : Vec Ideal S256x128 .bf16)

theorem query_at {r : Nat} (hr : r < 512) (j : Fin 128) : k0_pay8 g a (ix2 ⟨r, hr⟩ j) = query (row a r 0) (row g 0 0) j :=
  Cert.MemxBwdIdeal.Val.query_at g a hr j

theorem head_at {r : Nat} (hr : r < 512) (j : Fin 128) :
    k0_pay1 (k0_pay8 g a) k v (ix2 ⟨r, hr⟩ j) = mixed (score (row a r 0) (row g 0 0) (rows k 256 0)) (rows v 256 0) j := by
  unfold mixed expo top score
  simp only [← query_at g a hr, rows_ix]
  unfold k0_pay1
  generalize k0_pay8 g a = q
  pointwise
  rfl

end Head

section Body
variable (c : Dev nD) (i : grid0.Coords)
  (arg1 : Memref sig .tc .vmem S512x512 .f32) (harg1 : arg1.IsWhole)
  (arg2 : Memref sig .tc .vmem S1x128 .f32) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S512x512 .bf16) (harg5 : arg5.IsWhole)
  (x0 : Vec Ideal S512x512 .f32) (g : Vec Ideal S1x128 .f32) (x2 x3 : Vec Ideal S256x512 .bf16)

/-- A head of a block. -/
def headPiece (h : Fin 4) : Vec Ideal S512x128 .bf16 :=
  k0_pay1 (k0_pay8 g (piece (R := 512) (e := .f32) x0 h)) (piece (R := 256) (e := .bf16) x2 h) (piece (R := 256) (e := .bf16) x3 h)

theorem out_heads : out0_A_4 c i arg1 harg1 arg2 harg2 arg3 harg3 arg4 harg4 arg5 harg5 x0 g x2 x3 = View.canon (four (e := .bf16) inb512 (headPiece x0 g x2 x3) []) := by
  unfold out0_A_4
  rw [View.read_writes_eq_canon _ _ _ (cover0_A_4 c i arg1 harg1 arg2 harg2 arg3 harg3 arg4 harg4 arg5 harg5 x0 g x2 x3)]
  unfold kernelRun0_A
  dsimp only
  sl_unfold_words
  simp only [View.readAt_eq_ld, harg1.read_unread, harg2.read_unread, harg3.read_unread, harg4.read_unread,
    View.ld_unit_zero (S := S1x128) hz, ld_head0, ld_head1, ld_head2, ld_head3]
  rfl

end Body

variable (m : (ℓ : Loc nD τ sig) → Buf (Elt Ideal) ℓ) (c : Dev nD)

def argZ : (⟨2, ![8192, 1920]⟩ : Shape).Idx → EReal := m ((c.tc : Thread nD τ).loc main_arg0)
def argG : (⟨2, ![1, 128]⟩ : Shape).Idx → EReal := m ((c.tc : Thread nD τ).loc main_arg1)
def argK : (⟨2, ![256, 512]⟩ : Shape).Idx → EReal := m ((c.tc : Thread nD τ).loc main_arg2)
def argV : (⟨2, ![256, 512]⟩ : Shape).Idx → EReal := m ((c.tc : Thread nD τ).loc main_arg3)

theorem index0 : ∀ t : Fin cfg0.N, win0_0.index t = ![t.val, 2] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)

variable (t : Fin cfg0.N)

/-- The point's blocks. -/
abbrev blkZ : Vec Ideal S512x512 .f32 := X0_0 m c t
abbrev blkG : Vec Ideal S1x128 .f32 := iblk m c 1 t
abbrev blkK : Vec Ideal S256x512 .bf16 := iblk m c 2 t
abbrev blkV : Vec Ideal S256x512 .bf16 := iblk m c 3 t

theorem xs_block (h : Fin 4) {r : Nat} (hr : r < 512) : row (piece (e := .f32) (blkZ m c t) h) r 0 = xs (argZ m c) (512 * t.val + r) h := by
  rw [row_ix _ hr]
  funext j
  have e : blkZ m c t (ix2 ⟨r, hr⟩ (col h j)) = at2 (argZ m c) (512 * t.val + r) (1024 + 128 * h.val + j.val) := by
    unfold blkZ X0_0 Pipeline.Window.fill
    rw [dif_pos (moved0_0 t _)]
    exact at2_at (argZ m c) _ (by blk_simp [index0 t]; dsimp only; omega) (by blk_simp [index0 t]; unfold col; dsimp only; omega)
  exact e

theorem gains_block : row (blkG m c t) 0 0 = gains (argG m c) := by
  unfold gains
  rw [row_ix _ (show 0 < 1 by omega), row_ix _ (show 0 < 1 by omega)]
  funext j
  exact (at2_at (argG m c) _ (by blk_simp [index1 t]; rfl) (by blk_simp [index1 t])).trans (at2_of (argG m c) (show 0 < 1 by omega) j.isLt)

theorem keys_block (h : Fin 4) : rows (piece (e := .bf16) (blkK m c t) h) 256 0 = mem (argK m c) h := by
  rw [rows_ix]
  funext i j
  have e : blkK m c t (ix2 i (col h j)) = at2 (argK m c) i.val (128 * h.val + j.val) :=
    at2_at (argK m c) _ (by blk_simp [index2 t]) (by blk_simp [index2 t]; rfl)
  exact e

theorem values_block (h : Fin 4) : rows (piece (e := .bf16) (blkV m c t) h) 256 0 = mem (argV m c) h := by
  rw [rows_ix]
  funext i j
  have e : blkV m c t (ix2 i (col h j)) = at2 (argV m c) i.val (128 * h.val + j.val) :=
    at2_at (argV m c) _ (by blk_simp [index3 t]) (by blk_simp [index3 t]; rfl)
  exact e

theorem after_at (r n : Fin 512) :
    outsAt0 m c t (ix2 r n) = mixed (scoresOf (argZ m c) (argG m c) (argK m c) (512 * t.val + r.val) (head n)) (mem (argV m c) (head n)) (lane n) := by
  unfold outsAt0
  rw [out_heads]
  conv_lhs => rw [← col_eq n]
  refine (canon_four (R := 512) (e := .bf16) inb512 _ [] (head n) r (lane n)).trans ?_
  unfold headPiece scoresOf
  refine (head_at _ _ _ _ r.isLt (lane n)).trans ?_
  rw [xs_block m c t (head n) r.isLt, gains_block m c t, keys_block m c t (head n), values_block m c t (head n)]

theorem final4 : (dats m 0 c).arrAt 4 cfg0.N = Mixed (argZ m c) (argG m c) (argK m c) (argV m c) := by
  refine (dats m 0 c).arrAt_eq_of_covers 4 _ (by decide +kernel) fun t hf y => ?_
  blk_simp
  rw [after0_4]
  have e0 : ((win0_4.blk t).view.emb y 0).val = 512 * t.val + (y 0).val := by blk_simp [index4 t]; omega
  have e1 : (win0_4.blk t).view.emb y 1 = y 1 := Fin.ext (by blk_simp [index4 t])
  unfold Mixed
  rw [e0, e1]
  refine Eq.trans (congrArg _ (?_ : y = ix2 (y 0) (y 1))) (after_at m c t (y 0) (y 1))
  funext a; fin_cases a <;> rfl

end Cert.MemxFwdIdeal.Val

namespace Cert.MemxFwdRefIdeal.Val

open Cert.MemxFwdRefIdeal Cert.MemxFwdRefIdeal.Gen Facts
open Cert.MemxBwdRefIdeal.Val (headsM headsM_at allExpos allSums allExpos_at allSums_at shares shares_at)

/-- The values under the weights, one head after another. -/
def mixes (V : FVec Ideal S256x4x128 .f32) (w : FVec Ideal S4x8192x256 .f32) : FVec Ideal S8192x512 .bf16 :=
  truncf .bf16 (shapeCast _ (transpose S8192x4x128 [2, 0, 1] (Host.dotGeneral dot_S256x4x128_S4x8192x256_S4x128x8192_0_2_2_1_1_0 none V w) transposes_S4x128x8192_S8192x4x128_2_0_1) shapeCasts_S8192x4x128_S8192x512) bitsLt_bf16_f32

theorem mixes_at (V : FVec Ideal S256x4x128 .f32) (w : FVec Ideal S4x8192x256 .f32) (r : Fin 8192) (n : Fin 512) :
    mixes V w (ix2 r n) = ∑ k, V (ix3 k (head n) (lane n)) * w (ix3 (head n) r k) := by
  unfold mixes
  pointwise
  rfl

variable (Z : FVec Ideal S8192x1920 .f32) (G : FVec Ideal S1x128 .f32) (K W : FVec Ideal S256x512 .bf16)

def res : FVec Ideal S8192x512 .bf16 := mixes (headsM W) (shares (allExpos Z G K) (allSums Z G K))

theorem res_at (hs : ∀ r h k, Real' (scoresOf Z G K r h k)) (r : Fin 8192) (n : Fin 512) : res Z G K W (ix2 r n) = Mixed Z G K W (ix2 r n) := by
  show _ = mixed (scoresOf Z G K r.val (head n)) (mem W (head n)) (lane n)
  unfold res
  rw [mixes_at]
  simp only [shares_at, headsM_at, allExpos_at, allSums_at]
  exact mixed_eq _ _ (hs _ _) _

theorem res_eq (hs : ∀ r h k, Real' (scoresOf Z G K r h k)) : res Z G K W = Mixed Z G K W := funext fun y => by
  rw [Cert.MemxBwdIdeal.Val.two (R := 8192) (C := 512) y]
  exact res_at Z G K W hs (y 0) (y 1)

theorem frame : Cert.quiescent_MemxFwdRefIdeal := fun m ρ _ =>
  (θ_run Cert.MemxFwdRefIdeal.defs _ _).mono
    (fun r h => ⟨fun c => (h c).2, Idealize.ShloMosaic.sem_eq_zero_of_no_sems (by decide) r.2⟩)
    (Cert.MemxFwdRefIdeal.Value.run (F := Ideal) m ρ)

end Cert.MemxFwdRefIdeal.Val

namespace Cert.Pre_finite_keys

/-- The condition's entries are real, so every score is. -/
theorem scores_real (Z : FVec Ideal S8192x1920 .f32) (G : FVec Ideal S1x128 .f32) (K W : FVec Ideal S256x512 .bf16)
    (h : fn Z G K W = fun _ => 1#1) (r : Nat) (d : Fin 4) (k : Fin 256) : Real' (scoresOf Z G K r d k) := by
  have e := congrFun h (Shape.Idx.first Gen.h_S_)
  unfold fn at e
  simp only [andi] at e
  obtain ⟨hg, hk⟩ := IntOp.andi_eq_one.mp e
  have : Subsingleton S_.Idx := ⟨fun a b => funext fun i => i.elim0⟩
  refine score_real _ _ _ (fun j => ?_) (fun i j => ?_) k
  · unfold gains
    rw [row_ix _ (show 0 < 1 by omega)]
    exact Cert.Pre_finite_up.real_of_olt (Host.reduce_andi_all _ _ _ _ _ hg _)
  · show Real' (at2 K i.val (128 * d.val + j.val))
    rw [at2_of K i.isLt (show 128 * d.val + j.val < 512 by omega)]
    exact Cert.Pre_finite_up.real_of_olt (Host.reduce_andi_all _ _ _ _ _ hk _)

end Cert.Pre_finite_keys

namespace Cert.MemxFwdMain

open Cert.MemxFwdIdeal.Val

theorem algebraic : Cert.algebraic_MemxFwdIdeal_MemxFwdRefIdeal_pre_finite_keys := by
  intro m ρ m' ρ' hpre hagree
  refine ⟨fun c => Mixed (argZ m c) (argG m c) (argK m c) (argV m c), ?_, ?_⟩
  · exact (θ_run Cert.MemxFwdIdeal.defs _ _).mono (fun r h c => ⟨(h c).1.trans (final4 m c), (h c).2⟩)
      (Cert.MemxFwdIdeal.Value.run_blocks (F := Ideal) m ρ)
  · refine (θ_run Cert.MemxFwdRefIdeal.defs _ _).mono (fun r h c => ⟨(h c).1.trans ?_, (h c).2⟩)
      (Cert.MemxFwdRefIdeal.Value.run (F := Ideal) m' ρ')
    unfold Cert.MemxFwdRefIdeal.Value.res_main_v36
    rw [(hagree c).1, (hagree c).2.1, (hagree c).2.2.1, (hagree c).2.2.2]
    exact Cert.MemxFwdRefIdeal.Val.res_eq (argZ m c) (argG m c) (argK m c) (argV m c) (Cert.Pre_finite_keys.scores_real _ _ _ _ (hpre c))

end Cert.MemxFwdMain

end
-- ==== Proof.LatFwd.lean ====
/- The norms of the latent columns. -/
module

public import proofs.«01_k».proof.Defs
public import proofs.«01_k».proof.Proof.Gen.LatFwdIdeal.Value
public import proofs.«01_k».proof.Proof.Gen.LatFwdRefIdeal.Run
public import proofs.«01_k».proof.Proof.ProdSpec
public import proofs.«01_k».proof.Proof.NormSpec
public import Idealize.ShloMosaic.Lib.Pipeline.ValueKit.Geometry

@[expose] public section

set_option maxRecDepth 16384

noncomputable section

open Idealize.ShloMosaic Idealize.ShloMosaic.TcCoe Idealize.ShloMosaic.Tactic Idealize.SL.Sem
open Idealize.ShloMosaic.Pipeline (Dat)
open Conv Prod

namespace Cert.LatFwdIdeal.Val

open Cert.LatFwdIdeal Cert.LatFwdIdeal.Gen

/-- An entry of a normed row `x`, times its column's gain. -/
def normed {n : Nat} (N : ℝ) (x g : Fin n → EReal) (j : Fin n) : EReal := x j * Norm.inv N Norm.eps x * g j

theorem hz : (![0, 0] : Fin 2 → Nat) = fun _ => 0 := funext fun a => by fin_cases a <;> rfl

section Body
variable (c : Dev nD) (i : grid0.Coords)
  (arg1 : Memref sig .tc .vmem S512x512 .f32) (harg1 : arg1.IsWhole)
  (arg2 : Memref sig .tc .vmem S512x256 .f32) (harg2 : arg2.IsWhole)
  (arg3 : Memref sig .tc .vmem S1x512 .f32) (harg3 : arg3.IsWhole)
  (arg4 : Memref sig .tc .vmem S1x256 .f32) (harg4 : arg4.IsWhole)
  (arg5 : Memref sig .tc .vmem S512x512 .bf16) (harg5 : arg5.IsWhole)
  (arg6 : Memref sig .tc .vmem S512x256 .bf16) (harg6 : arg6.IsWhole)
  (x0 : Vec Ideal S512x512 .f32) (x1 : Vec Ideal S512x256 .f32) (x2 : Vec Ideal S1x512 .f32) (x3 : Vec Ideal S1x256 .f32)

theorem out_q : out0_A_4 c i arg1 harg1 arg2 harg2 arg3 harg3 arg4 harg4 arg5 harg5 arg6 harg6 x0 x1 x2 x3 = k0_pay1 x0 x2 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S512x512) hz, View.ld_unit_zero (S := S1x512) hz]

theorem pay_q {r n : Nat} (hr : r < 512) (hn : n < 512) :
    at2 (k0_pay1 x0 x2) r n = normed 512 (fun k : Fin 512 => at2 x0 r k.val) (fun k : Fin 512 => at2 x2 0 k.val) ⟨n, hn⟩ := by
  unfold normed Norm.inv Norm.mean
  simp only [at2_of _ hr hn, at2_of x0 hr (Fin.isLt _), at2_of x2 (show 0 < 1 by omega) (Fin.isLt _), at2_of x2 (show 0 < 1 by omega) hn]
  unfold k0_pay1
  pointwise
  rw [Norm.lit512, Norm.eps_eq]

theorem out_k : out0_A_5 c i arg1 harg1 arg2 harg2 arg3 harg3 arg4 harg4 arg5 harg5 arg6 harg6 x0 x1 x2 x3 = k0_pay2 x1 x3 := by
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S512x256) hz, View.ld_unit_zero (S := S1x256) hz]

theorem pay_k {r n : Nat} (hr : r < 512) (hn : n < 256) :
    at2 (k0_pay2 x1 x3) r n = normed 256 (fun k : Fin 256 => at2 x1 r k.val) (fun k : Fin 256 => at2 x3 0 k.val) ⟨n, hn⟩ := by
  unfold normed Norm.inv Norm.mean
  simp only [at2_of _ hr hn, at2_of x1 hr (Fin.isLt _), at2_of x3 (show 0 < 1 by omega) (Fin.isLt _), at2_of x3 (show 0 < 1 by omega) hn]
  unfold k0_pay2
  pointwise
  rw [Norm.lit256, Norm.eps_eq]

end Body

variable (m : (ℓ : Loc nD τ sig) → Buf (Elt Ideal) ℓ) (c : Dev nD)

def argZ : (⟨2, ![8192, 1920]⟩ : Shape).Idx → EReal := m ((c.tc : Thread nD τ).loc main_arg0)
def gainq : (⟨2, ![1, 512]⟩ : Shape).Idx → EReal := m ((c.tc : Thread nD τ).loc main_arg1)
def gaink : (⟨2, ![1, 256]⟩ : Shape).Idx → EReal := m ((c.tc : Thread nD τ).loc main_arg2)

theorem index0 : ∀ t : Fin cfg0.N, win0_0.index t = ![t.val, 1] := (by decide +kernel : ∀ t : Fin grid0.N, _)
theorem index1 : ∀ t : Fin cfg0.N, win0_1.index t = ![t.val, 6] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- The results: the two groups of columns, normed. -/
def normsq (r n : Nat) (hn : n < 512) : EReal :=
  normed 512 (fun k : Fin 512 => at2 (argZ m c) r (512 + k.val)) (fun k : Fin 512 => at2 (gainq m c) 0 k.val) ⟨n, hn⟩
def normsk (r n : Nat) (hn : n < 256) : EReal :=
  normed 256 (fun k : Fin 256 => at2 (argZ m c) r (1536 + k.val)) (fun k : Fin 256 => at2 (gaink m c) 0 k.val) ⟨n, hn⟩
def Nq : S8192x512.Idx → EReal := fun y => normsq m c (y 0).val (y 1).val (y 1).isLt
def Nk : S8192x256.Idx → EReal := fun y => normsk m c (y 0).val (y 1).val (y 1).isLt

theorem rowsq_block (t : Fin cfg0.N) (r n : Nat) (hr : r < 512) (hn : n < 512) :
    at2 (X0_0 m c t : Vec Ideal S512x512 .f32) r n = at2 (argZ m c) (512 * t.val + r) (512 + n) := by
  rw [at2_of _ hr hn]
  unfold X0_0 Pipeline.Window.fill
  rw [dif_pos (moved0_0 t _)]
  exact at2_at (argZ m c) _ (by blk_simp [index0 t]; dsimp only; omega) (by blk_simp [index0 t])

theorem gainq_block (t : Fin cfg0.N) (n : Nat) (hn : n < 512) :
    at2 (iblk m c 2 t : Vec Ideal S1x512 .f32) 0 n = at2 (gainq m c) 0 n := by
  rw [at2_of _ (show 0 < 1 by omega) hn]
  exact at2_at (gainq m c) _ (by blk_simp [index2 t]; rfl) (by blk_simp [index2 t])

theorem normq_block (t : Fin cfg0.N) {r n : Nat} (hr : r < 512) (hn : n < 512) :
    at2 (k0_pay1 (X0_0 m c t) (iblk m c 2 t)) r n = normsq m c (512 * t.val + r) n hn := by
  rw [pay_q _ _ hr hn]
  unfold normsq
  congr 1
  · exact funext fun k => rowsq_block m c t _ _ hr k.isLt
  · exact funext fun k => gainq_block m c t _ k.isLt

theorem final4 : (dats m 0 c).arrAt 4 cfg0.N = Nq m c := by
  refine (dats m 0 c).arrAt_eq_of_covers 4 _ (by decide +kernel) fun t hf y => ?_
  blk_simp
  rw [after0_4]
  unfold outsAt0
  dsimp only
  rw [out_q]
  have e0 : ((win0_4.blk t).view.emb y 0).val = 512 * t.val + (y 0).val := by blk_simp [index4 t]; omega
  have e1 : ((win0_4.blk t).view.emb y 1).val = (y 1).val := by blk_simp [index4 t]
  unfold Nq
  simp only [e0, e1]
  exact (at2_idx (R := 512) (C := 512) _ y).trans (normq_block m c t (y 0).isLt (y 1).isLt)

theorem rowsk_block (t : Fin cfg0.N) (r n : Nat) (hr : r < 512) (hn : n < 256) :
    at2 (X0_1 m c t : Vec Ideal S512x256 .f32) r n = at2 (argZ m c) (512 * t.val + r) (1536 + n) := by
  rw [at2_of _ hr hn]
  unfold X0_1 Pipeline.Window.fill
  rw [dif_pos (moved0_1 t _)]
  exact at2_at (argZ m c) _ (by blk_simp [index1 t]; dsimp only; omega) (by blk_simp [index1 t])

theorem gaink_block (t : Fin cfg0.N) (n : Nat) (hn : n < 256) :
    at2 (iblk m c 3 t : Vec Ideal S1x256 .f32) 0 n = at2 (gaink m c) 0 n := by
  rw [at2_of _ (show 0 < 1 by omega) hn]
  exact at2_at (gaink m c) _ (by blk_simp [index3 t]; rfl) (by blk_simp [index3 t])

theorem normk_block (t : Fin cfg0.N) {r n : Nat} (hr : r < 512) (hn : n < 256) :
    at2 (k0_pay2 (X0_1 m c t) (iblk m c 3 t)) r n = normsk m c (512 * t.val + r) n hn := by
  rw [pay_k _ _ hr hn]
  unfold normsk
  congr 1
  · exact funext fun k => rowsk_block m c t _ _ hr k.isLt
  · exact funext fun k => gaink_block m c t _ k.isLt

theorem final5 : (dats m 0 c).arrAt 5 cfg0.N = Nk m c := by
  refine (dats m 0 c).arrAt_eq_of_covers 5 _ (by decide +kernel) fun t hf y => ?_
  blk_simp
  rw [after0_5]
  unfold outsAt0
  dsimp only
  rw [out_k]
  have e0 : ((win0_5.blk t).view.emb y 0).val = 512 * t.val + (y 0).val := by blk_simp [index5 t]; omega
  have e1 : ((win0_5.blk t).view.emb y 1).val = (y 1).val := by blk_simp [index5 t]
  unfold Nk
  simp only [e0, e1]
  exact (at2_idx (R := 512) (C := 256) _ y).trans (normk_block m c t (y 0).isLt (y 1).isLt)

end Cert.LatFwdIdeal.Val

namespace Cert.LatFwdRefIdeal.Val

open Cert.LatFwdRefIdeal Cert.LatFwdRefIdeal.Gen Facts Cert.LatFwdIdeal.Val

/-- The columns, and their norms times the gain. -/
def colsq (Z : FVec Ideal S8192x1920 .f32) : FVec Ideal S8192x512 .f32 := extractStridedSlice S8192x512 ![0, 512] Z slices_S8192x1920_S8192x512_0_512
def colsk (Z : FVec Ideal S8192x1920 .f32) : FVec Ideal S8192x256 .f32 := extractStridedSlice S8192x256 ![0, 1536] Z slices_S8192x1920_S8192x256_0_1536

def resq (X : FVec Ideal S8192x512 .f32) (G : FVec Ideal S1x512 .f32) : FVec Ideal S8192x512 .bf16 :=
  truncf .bf16 (mulf (mulf X (broadcastInDim S8192x512 ![0, 1] bcast_S8192x1_S8192x512_0_1 (Host.rsqrt (addf (Host.divf (broadcastInDim S8192x1 ![0] bcast_S8192_S8192x1_0 (Host.reduceAdd (mulf X X) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 G)) bitsLt_bf16_f32

def resk (X : FVec Ideal S8192x256 .f32) (G : FVec Ideal S1x256 .f32) : FVec Ideal S8192x256 .bf16 :=
  truncf .bf16 (mulf (mulf X (broadcastInDim S8192x256 ![0, 1] bcast_S8192x1_S8192x256_0_1 (Host.rsqrt (addf (Host.divf (broadcastInDim S8192x1 ![0] bcast_S8192_S8192x1_0 (Host.reduceAdd (mulf X X) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 G)) bitsLt_bf16_f32

theorem colsq_at (Z : FVec Ideal S8192x1920 .f32) {r n : Nat} (hr : r < 8192) (hn : n < 512) : at2 (colsq Z) r n = at2 Z r (512 + n) := by
  rw [at2_of _ hr hn, at2_of Z hr (show 512 + n < 1920 by omega)]
  unfold colsq
  pointwise

theorem resq_at (X : FVec Ideal S8192x512 .f32) (G : FVec Ideal S1x512 .f32) {r n : Nat} (hr : r < 8192) (hn : n < 512) :
    at2 (resq X G) r n = normed 512 (fun k : Fin 512 => at2 X r k.val) (fun k : Fin 512 => at2 G 0 k.val) ⟨n, hn⟩ := by
  unfold normed Norm.inv Norm.mean
  simp only [at2_of _ hr hn, at2_of X hr (Fin.isLt _), at2_of G (show 0 < 1 by omega) (Fin.isLt _), at2_of G (show 0 < 1 by omega) hn]
  unfold resq
  pointwise
  rw [Norm.lit512, Norm.eps_eq]

theorem resq_eq (m : (ℓ : Loc Cert.LatFwdIdeal.nD Cert.LatFwdIdeal.τ Cert.LatFwdIdeal.sig) → Buf (Elt Ideal) ℓ) (c : Dev Cert.LatFwdIdeal.nD) :
    resq (colsq (argZ m c)) (gainq m c) = Nq m c := funext fun y => by
  refine (at2_idx (R := 8192) (C := 512) _ y).trans ((resq_at _ _ (y 0).isLt (y 1).isLt).trans ?_)
  unfold Nq normsq
  congr 1
  exact funext fun k => colsq_at _ (y 0).isLt k.isLt

theorem colsk_at (Z : FVec Ideal S8192x1920 .f32) {r n : Nat} (hr : r < 8192) (hn : n < 256) : at2 (colsk Z) r n = at2 Z r (1536 + n) := by
  rw [at2_of _ hr hn, at2_of Z hr (show 1536 + n < 1920 by omega)]
  unfold colsk
  pointwise

theorem resk_at (X : FVec Ideal S8192x256 .f32) (G : FVec Ideal S1x256 .f32) {r n : Nat} (hr : r < 8192) (hn : n < 256) :
    at2 (resk X G) r n = normed 256 (fun k : Fin 256 => at2 X r k.val) (fun k : Fin 256 => at2 G 0 k.val) ⟨n, hn⟩ := by
  unfold normed Norm.inv Norm.mean
  simp only [at2_of _ hr hn, at2_of X hr (Fin.isLt _), at2_of G (show 0 < 1 by omega) (Fin.isLt _), at2_of G (show 0 < 1 by omega) hn]
  unfold resk
  pointwise
  rw [Norm.lit256, Norm.eps_eq]

theorem resk_eq (m : (ℓ : Loc Cert.LatFwdIdeal.nD Cert.LatFwdIdeal.τ Cert.LatFwdIdeal.sig) → Buf (Elt Ideal) ℓ) (c : Dev Cert.LatFwdIdeal.nD) :
    resk (colsk (argZ m c)) (gaink m c) = Nk m c := funext fun y => by
  refine (at2_idx (R := 8192) (C := 256) _ y).trans ((resk_at _ _ (y 0).isLt (y 1).isLt).trans ?_)
  unfold Nk normsk
  congr 1
  exact funext fun k => colsk_at _ (y 0).isLt k.isLt

theorem frame : Cert.quiescent_LatFwdRefIdeal := fun m ρ _ =>
  (θ_run Cert.LatFwdRefIdeal.defs _ _).mono
    (fun r h => ⟨fun c => (h c).2.2, Idealize.ShloMosaic.sem_eq_zero_of_no_sems (by decide) r.2⟩)
    (Cert.LatFwdRefIdeal.Value.run (F := Ideal) m ρ)

end Cert.LatFwdRefIdeal.Val

namespace Cert.LatFwdMain

open Cert.LatFwdIdeal.Val

theorem algebraic : Cert.algebraic_LatFwdIdeal_LatFwdRefIdeal := by
  intro m ρ m' ρ' _ hagree
  refine ⟨fun c => Nq m c, fun c => Nk m c, ?_, ?_⟩
  · exact (θ_run Cert.LatFwdIdeal.defs _ _).mono
      (fun r h c => ⟨(h c).1.trans (final4 m c), (h c).2.1.trans (final5 m c), (h c).2.2⟩)
      (Cert.LatFwdIdeal.Value.run_blocks (F := Ideal) m ρ)
  · refine (θ_run Cert.LatFwdRefIdeal.defs _ _).mono (fun r h c => ⟨(h c).1.trans ?_, (h c).2.1.trans ?_, (h c).2.2⟩)
      (Cert.LatFwdRefIdeal.Value.run (F := Ideal) m' ρ')
    · rw [(hagree c).1, (hagree c).2.1]
      exact Cert.LatFwdRefIdeal.Val.resq_eq m c
    · rw [(hagree c).1, (hagree c).2.2]
      exact Cert.LatFwdRefIdeal.Val.resk_eq m c

end Cert.LatFwdMain

end
-- ==== Proof.ConvFwd.lean ====
/- The convolutional gate: the convolution of one array down its rows, through the gate, times the other. -/
module

public import proofs.«01_k».proof.Defs
public import proofs.«01_k».proof.Proof.Gen.ConvFwdIdeal.Value
public import proofs.«01_k».proof.Proof.Gen.ConvFwdRefIdeal.Run
public import proofs.«01_k».proof.Proof.ProdSpec
public import proofs.«01_k».proof.Proof.ConvPay
public import proofs.«01_k».proof.Proof.ConvRef
public import Idealize.ShloMosaic.Lib.Pipeline.ValueKit.Geometry

@[expose] public section

set_option maxRecDepth 16384

noncomputable section

open Idealize.ShloMosaic Idealize.ShloMosaic.TcCoe Idealize.ShloMosaic.Tactic Idealize.SL.Sem
open Idealize.ShloMosaic.Pipeline (Dat)
open Conv Prod

namespace Conv

/-- The gated product, over whole arrays. -/
def gated (G U : (⟨2, ![8192, 5632]⟩ : Shape).Idx → EReal) (W : (⟨2, ![3, 5632]⟩ : Shape).Idx → EReal)
    (B : (⟨2, ![1, 5632]⟩ : Shape).Idx → EReal) (s n : Nat) : EReal :=
  conv G W B s n * Ideal.logistic (conv G W B s n) * at2 U s n
def Gated (G U : (⟨2, ![8192, 5632]⟩ : Shape).Idx → EReal) (W : (⟨2, ![3, 5632]⟩ : Shape).Idx → EReal)
    (B : (⟨2, ![1, 5632]⟩ : Shape).Idx → EReal) : (⟨2, ![8192, 5632]⟩ : Shape).Idx → EReal := fun y => gated G U W B (y 0).val (y 1).val

end Conv

namespace Cert.ConvFwdIdeal.Val

open Cert.ConvFwdIdeal Cert.ConvFwdIdeal.Gen

theorem hz : (![0, 0] : Fin 2 → Nat) = fun _ => 0 := funext fun a => by fin_cases a <;> rfl

section Body
variable (i : grid0.Coords) (h : Vec Ideal S16x512 .bf16) (x u : Vec Ideal S2048x512 .bf16) (b w0 w1 w2 : Vec Ideal S1x512 .f32)

/-- A tile below the sixteen rows before it, zero at the top of the array. -/
def tall : FVec Ideal S2064x512 .f32 :=
  concatenate S2064x512 0 [⟨S16x512, Scalar.select (Scalar.cmpi .eq (BitVec.ofNat 32 (i 1).val) 0#32) (broadcast S16x512 (Scalar.ofBits .f32 0x00000000#32 : Ideal .f32)) (extf .f32 h bitsLt_bf16_f32 : FVec Ideal S16x512 .f32)⟩, ⟨S2048x512, (extf .f32 x bitsLt_bf16_f32 : FVec Ideal S2048x512 .f32)⟩] concatenates_S16x512_S2048x512_S2064x512_d0

/-- The convolution down a tile. -/
def gate (X : FVec Ideal S2064x512 .f32) : FVec Ideal S2048x512 .f32 :=
  extractStridedSlice S2048x512 ![16, 0] (addf (addf (addf (broadcastTo S2064x512 b broadcasts_S1x512_S2064x512)
    (mulf (broadcastTo S2064x512 w0 broadcasts_S1x512_S2064x512) (dynamicRotate 0 2#32 none X rotates_S2064x512_d0)))
    (mulf (broadcastTo S2064x512 w1 broadcasts_S1x512_S2064x512) (dynamicRotate 0 1#32 none X rotates_S2064x512_d0)))
    (mulf (broadcastTo S2064x512 w2 broadcasts_S1x512_S2064x512) X)) slices_S2064x512_o16_0_S2048x512

/-- The gate, and the product with the other array. -/
def through (g : FVec Ideal S2048x512 .f32) : FVec Ideal S2048x512 .bf16 :=
  truncf .bf16 (mulf (mulf g (addf (mulf (broadcast S2048x512 (Scalar.ofBits .f32 0x3F000000#32 : Ideal .f32)) (tanh (mulf (broadcast S2048x512 (Scalar.ofBits .f32 0x3F000000#32 : Ideal .f32)) g))) (broadcast S2048x512 (Scalar.ofBits .f32 0x3F000000#32 : Ideal .f32)))) (extf .f32 u bitsLt_bf16_f32)) bitsLt_bf16_f32

theorem pay_eq : k0_pay1 i h x b w0 w1 w2 u = through u (gate b w0 w1 w2 (tall i h x)) := rfl

theorem tall_at {p n : Nat} (hp : p < 2064) (hn : n < 512) :
    at2 (tall i h x) p n = if p < 16 then (if (i 1).val = 0 then 0 else at2 h p n) else at2 x (p - 16) n := by
  rw [at2_of _ hp hn]
  unfold tall
  pointwise
  have hi : (i 1).val < 4 := (i 1).isLt
  by_cases h1 : p < 16
  · rw [dif_pos h1, if_pos h1]
    by_cases h0 : (i 1).val = 0
    · rw [if_pos h0, h0]; rfl
    · rw [if_neg h0, at2_of _ h1 hn]
      unfold Scalar.select Scalar.cmpi
      rw [if_neg]
      exact fun e => h0 ((WordCmp.cmpi_eq_ofNat_eq_one_iff (w := 32) (a := (i 1).val) (b := 0) (by omega) (by omega)).mp e)
  · rw [dif_neg h1, if_neg h1, at2_of _ (by omega) hn]

theorem gate_at (X : FVec Ideal S2064x512 .f32) {q n : Nat} (hq : q < 2048) (hn : n < 512) :
    at2 (gate b w0 w1 w2 X) q n = at2 b 0 n + at2 w0 0 n * at2 X (14 + q) n + at2 w1 0 n * at2 X (15 + q) n + at2 w2 0 n * at2 X (16 + q) n := by
  rw [at2_of _ hq hn, at2_of X (show 14 + q < 2064 by omega) hn, at2_of X (show 15 + q < 2064 by omega) hn, at2_of X (show 16 + q < 2064 by omega) hn]
  simp only [at2_of _ (show 0 < 1 by omega) hn]
  unfold gate
  pointwise
  have e1 : (16 + q + 2064 - 2) % 2064 = 14 + q := by omega
  have e2 : (16 + q + 2064 - 1) % 2064 = 15 + q := by omega
  simp only [e1, e2]

theorem through_at (g : FVec Ideal S2048x512 .f32) {q n : Nat} (hq : q < 2048) (hn : n < 512) :
    at2 (through u g) q n = at2 g q n * Ideal.logistic (at2 g q n) * at2 u q n := by
  simp only [at2_of _ hq hn]
  rw [← half_tanh, ← Cert.KernelIdeal.ConvPay.half]
  unfold through
  pointwise

variable (W : Vec Ideal S3x512 .f32)

/-- A tap's row. -/
theorem row_at (k : Nat) (hk : k < 3) (inb : ∀ a, (![k, 0] : Fin 2 → Nat) a + S1x512.size a ≤ S3x512.size a) {n : Nat} (hn : n < 512) :
    at2 (View.ld W (Rect.unit (s := S3x512) ![k, 0] S1x512.size inb) : Vec Ideal S1x512 .f32) 0 n = at2 W k n := by
  rw [at2_of _ (show 0 < 1 by omega) hn, at2_of W hk hn]
  refine congrArg W (funext fun a => Fin.ext ?_)
  fin_cases a <;> simp

theorem out_at {q n : Nat} (hq : q < 2048) (hn : n < 512) (z : EReal)
    (hz' : z = at2 b 0 n + at2 W 0 n * at2 (tall i h x) (14 + q) n + at2 W 1 n * at2 (tall i h x) (15 + q) n + at2 W 2 n * at2 (tall i h x) (16 + q) n) :
    at2 (out0_5 i x h u W b) q n = z * Ideal.logistic z * at2 u q n := by
  unfold out0_5
  rw [View.canon_unit_zero hz]
  simp only [View.ld_unit_zero (S := S16x512) hz, View.ld_unit_zero (S := S2048x512) hz, View.ld_unit_zero (S := S1x512) hz]
  rw [pay_eq, through_at _ _ hq hn, gate_at _ _ _ _ _ hq hn, row_at W 0 (by omega) _ hn, row_at W 1 (by omega) _ hn, row_at W 2 (by omega) _ hn, ← hz']

end Body

variable (m : (ℓ : Loc nD τ sig) → Buf (Elt Ideal) ℓ) (c : Dev nD)

def argG : (⟨2, ![8192, 5632]⟩ : Shape).Idx → EReal := m ((c.tc : Thread nD τ).loc main_arg0)
def argU : (⟨2, ![8192, 5632]⟩ : Shape).Idx → EReal := m ((c.tc : Thread nD τ).loc main_arg1)
def argW : (⟨2, ![3, 5632]⟩ : Shape).Idx → EReal := m ((c.tc : Thread nD τ).loc main_arg2)
def argB : (⟨2, ![1, 5632]⟩ : Shape).Idx → EReal := m ((c.tc : Thread nD τ).loc main_arg3)

theorem coord1 : ∀ t : Fin cfg0.N, (grid0.coords t 1).val = t.val % 4 := (by decide +kernel : ∀ t : Fin grid0.N, _)
theorem index0 : ∀ t : Fin cfg0.N, win0_0.index t = ![t.val % 4, t.val / 4] := (by decide +kernel : ∀ t : Fin grid0.N, _)
theorem index1 : ∀ t : Fin cfg0.N, t.val % 4 ≠ 0 → win0_1.index t = ![128 * (t.val % 4) - 1, t.val / 4] := (by decide +kernel : ∀ t : Fin grid0.N, _)
theorem index2 : ∀ t : Fin cfg0.N, win0_2.index t = ![t.val % 4, t.val / 4] := (by decide +kernel : ∀ t : Fin grid0.N, _)
theorem index3 : ∀ t : Fin cfg0.N, win0_3.index t = ![0, t.val / 4] := (by decide +kernel : ∀ t : Fin grid0.N, _)
theorem index4 : ∀ t : Fin cfg0.N, win0_4.index t = ![0, t.val / 4] := (by decide +kernel : ∀ t : Fin grid0.N, _)
theorem index5 : ∀ t : Fin cfg0.N, win0_5.index t = ![t.val % 4, t.val / 4] := (by decide +kernel : ∀ t : Fin grid0.N, _)

variable (t : Fin cfg0.N) {r n : Nat}

theorem block0 (hr : r < 2048) (hn : n < 512) :
    at2 (iblk m c 0 t : Vec Ideal S2048x512 .bf16) r n = at2 (argG m c) (2048 * (t.val % 4) + r) (512 * (t.val / 4) + n) := by
  rw [at2_of _ hr hn]
  exact at2_at (argG m c) _ (by blk_simp [index0 t]; dsimp only; omega) (by blk_simp [index0 t]; dsimp only; omega)
theorem block1 (h : t.val % 4 ≠ 0) (hr : r < 16) (hn : n < 512) :
    at2 (iblk m c 1 t : Vec Ideal S16x512 .bf16) r n = at2 (argG m c) (2048 * (t.val % 4) - 16 + r) (512 * (t.val / 4) + n) := by
  rw [at2_of _ hr hn]
  exact at2_at (argG m c) _ (by blk_simp [index1 t h]; dsimp only; omega) (by blk_simp [index1 t h]; dsimp only; omega)
theorem block2 (hr : r < 2048) (hn : n < 512) :
    at2 (iblk m c 2 t : Vec Ideal S2048x512 .bf16) r n = at2 (argU m c) (2048 * (t.val % 4) + r) (512 * (t.val / 4) + n) := by
  rw [at2_of _ hr hn]
  exact at2_at (argU m c) _ (by blk_simp [index2 t]; dsimp only; omega) (by blk_simp [index2 t]; dsimp only; omega)
theorem block3 (hr : r < 3) (hn : n < 512) : at2 (iblk m c 3 t : Vec Ideal S3x512 .f32) r n = at2 (argW m c) r (512 * (t.val / 4) + n) := by
  rw [at2_of _ hr hn]
  exact at2_at (argW m c) _ (by blk_simp [index3 t]) (by blk_simp [index3 t]; dsimp only; omega)
theorem block4 (hn : n < 512) : at2 (iblk m c 4 t : Vec Ideal S1x512 .f32) 0 n = at2 (argB m c) 0 (512 * (t.val / 4) + n) := by
  rw [at2_of _ (show 0 < 1 by omega) hn]
  exact at2_at (argB m c) _ (by blk_simp [index4 t]; rfl) (by blk_simp [index4 t]; dsimp only; omega)

/-- The tile's rows are the array's, from two before its first. -/
theorem tap_row {k : Nat} (hk : k < 3) (hr : r < 2048) (hn : n < 512) :
    at2 (tall (grid0.coords t) (iblk m c 1 t) (iblk m c 0 t)) (14 + k + r) n = tap (argG m c) (2048 * (t.val % 4) + r + k) (512 * (t.val / 4) + n) := by
  rw [tall_at _ _ _ (by omega) hn, coord1 t]
  unfold tap
  by_cases h1 : 14 + k + r < 16
  · rw [if_pos h1]
    by_cases h0 : t.val % 4 = 0
    · rw [if_pos h0, if_pos (by omega)]
    · rw [if_neg h0, if_neg (by omega), block1 m c t h0 h1 hn]
      congr 1
      omega
  · rw [if_neg h1, if_neg (by omega), block0 m c t (by omega) hn]
    congr 1
    omega

theorem after_at (hr : r < 2048) (hn : n < 512) :
    at2 (out0_5 (grid0.coords t) (iblk m c 0 t) (iblk m c 1 t) (iblk m c 2 t) (iblk m c 3 t) (iblk m c 4 t)) r n
      = gated (argG m c) (argU m c) (argW m c) (argB m c) (2048 * (t.val % 4) + r) (512 * (t.val / 4) + n) := by
  unfold gated
  rw [← block2 m c t hr hn]
  refine out_at _ _ _ _ _ _ hr hn _ ?_
  rw [block4 m c t hn, block3 m c t (by omega) hn, block3 m c t (by omega) hn, block3 m c t (by omega) hn,
    tap_row m c t (k := 0) (by omega) hr hn, tap_row m c t (k := 1) (by omega) hr hn, tap_row m c t (k := 2) (by omega) hr hn]
  rfl

theorem final5 : (dats m 0 c).arrAt 5 cfg0.N = Gated (argG m c) (argU m c) (argW m c) (argB m c) := by
  refine (dats m 0 c).arrAt_eq_of_covers 5 _ (by decide +kernel) fun t hf y => ?_
  blk_simp
  rw [after0_5]
  have e0 : ((win0_5.blk t).view.emb y 0).val = 2048 * (t.val % 4) + (y 0).val := by blk_simp [index5 t]; omega
  have e1 : ((win0_5.blk t).view.emb y 1).val = 512 * (t.val / 4) + (y 1).val := by blk_simp [index5 t]; omega
  unfold Gated
  rw [e0, e1]
  refine (at2_idx (R := 2048) (C := 512) _ y).trans ?_
  exact after_at m c t (y 0).isLt (y 1).isLt

end Cert.ConvFwdIdeal.Val

namespace Cert.ConvFwdRefIdeal.Val

open Cert.ConvFwdRefIdeal Cert.ConvFwdRefIdeal.Gen Facts

variable (G U : FVec Ideal S8192x5632 .bf16) (W : FVec Ideal S3x5632 .f32) (B : FVec Ideal S1x5632 .f32)

def gate : FVec Ideal S8192x5632 .f32 := Cert.ReferenceIdeal.ConvRef.gate G W B
def sigm : FVec Ideal S8192x5632 .f32 := Cert.ReferenceIdeal.ConvRef.sigm G W B
def res : FVec Ideal S8192x5632 .bf16 := truncf .bf16 (mulf (mulf (gate G W B) (sigm G W B)) (extf .f32 U bitsLt_bf16_f32)) bitsLt_bf16_f32

theorem res_eq : res G U W B = Gated G U W B := funext fun y => by
  refine (at2_idx (R := 8192) (C := 5632) _ y).trans ?_
  have hr : (y 0).val < 8192 := (y 0).isLt
  have hn : (y 1).val < 5632 := (y 1).isLt
  unfold Gated gated
  have eg : at2 (gate G W B) (y 0).val (y 1).val = conv G W B (y 0).val (y 1).val := Cert.ReferenceIdeal.ConvRef.gate_at G W B hr hn
  have es : at2 (sigm G W B) (y 0).val (y 1).val = Ideal.logistic (conv G W B (y 0).val (y 1).val) := Cert.ReferenceIdeal.ConvRef.sigm_at G W B hr hn
  rw [← es, ← eg]
  simp only [at2_of _ hr hn]
  unfold res
  pointwise

theorem frame : Cert.quiescent_ConvFwdRefIdeal := fun m ρ _ =>
  (θ_run Cert.ConvFwdRefIdeal.defs _ _).mono
    (fun r h => ⟨fun c => (h c).2, Idealize.ShloMosaic.sem_eq_zero_of_no_sems (by decide) r.2⟩)
    (Cert.ConvFwdRefIdeal.Value.run (F := Ideal) m ρ)

end Cert.ConvFwdRefIdeal.Val

namespace Cert.ConvFwdMain

open Cert.ConvFwdIdeal.Val

theorem algebraic : Cert.algebraic_ConvFwdIdeal_ConvFwdRefIdeal := by
  intro m ρ m' ρ' _ hagree
  refine ⟨fun c => Gated (argG m c) (argU m c) (argW m c) (argB m c), ?_, ?_⟩
  · exact (θ_run Cert.ConvFwdIdeal.defs _ _).mono (fun r h c => ⟨(h c).1.trans (final5 m c), (h c).2⟩)
      (Cert.ConvFwdIdeal.Value.run_blocks (F := Ideal) m ρ)
  · refine (θ_run Cert.ConvFwdRefIdeal.defs _ _).mono (fun r h c => ⟨(h c).1.trans ?_, (h c).2⟩)
      (Cert.ConvFwdRefIdeal.Value.run (F := Ideal) m' ρ')
    unfold Cert.ConvFwdRefIdeal.Value.res_main_v28
    rw [(hagree c).1, (hagree c).2.1, (hagree c).2.2.1, (hagree c).2.2.2]
    exact Cert.ConvFwdRefIdeal.Val.res_eq (argG m c) (argU m c) (argW m c) (argB m c)

end Cert.ConvFwdMain

end
-- ==== Proof.AdamSpec.lean ====
/- One step of AdamW on whole arrays: the gradient summed over the devices' shares, the two moments, and the step. -/
module

public import proofs.«01_k».proof.Proof.ProdSpec
public import Idealize.ShloMosaic.Lib.Pipeline.ValueKit.Geometry

@[expose] public section

noncomputable section

open Idealize.ShloMosaic Idealize.ShloMosaic.TcCoe Idealize.ShloMosaic.Tactic Idealize.SL.Sem
open Prod

namespace Adam

section Step
variable {S T : Shape}

/-- The constant array of the float with these bits. -/
abbrev all (S : Shape) (b : BitVec 32) : FVec Ideal S .f32 := broadcast S (Scalar.ofBits .f32 b : Ideal .f32)

/-- The first moment, from the gradient and the moment before: 0.9 of the one and 0.1 of the other. -/
def mom (g m : FVec Ideal S .f32) : FVec Ideal S .f32 := addf (mulf (all S 0x3F666666#32) m) (mulf (all S 0x3DCCCCCD#32) g)

/-- The second moment: 0.999 of the moment before and 0.001 of the gradient's square. -/
def vel (g v : FVec Ideal S .f32) : FVec Ideal S .f32 := addf (mulf (all S 0x3F7FBE77#32) v) (mulf (all S 0x3A83126F#32) (mulf g g))

/-- The step: the moments with their bias removed, the one over the root of the other, and the weight's decay. -/
def step (w g m v : FVec Ideal S .f32) : FVec Ideal S .f32 :=
  mulf (all S 0xBA83126F#32)
    (addf (divf (divf (mom g m) (all S 0x3F26BD02#32)) (addf (sqrt (divf (vel g v) (all S 0x3C231ACC#32))) (all S 0x322BCC77#32)))
      (mulf (all S 0x3C23D70A#32) w))

/-- The array of one entry. -/
def one (a : EReal) : FVec Ideal ⟨0, ![]⟩ .f32 := fun _ => a

/-- Each entry of the moments and of the step comes from the same entry of the arrays. -/
theorem mom_at (g m : FVec Ideal S .f32) (g' m' : FVec Ideal T .f32) {y : S.Idx} {z : T.Idx} (hg : g y = g' z) (hm : m y = m' z) :
    mom g m y = mom g' m' z := by
  have h1 : mom g m y = mom (one (g y)) (one (m y)) (fun a => a.elim0) := rfl
  have h2 : mom g' m' z = mom (one (g' z)) (one (m' z)) (fun a => a.elim0) := rfl
  rw [h1, h2, hg, hm]

theorem vel_at (g v : FVec Ideal S .f32) (g' v' : FVec Ideal T .f32) {y : S.Idx} {z : T.Idx} (hg : g y = g' z) (hv : v y = v' z) :
    vel g v y = vel g' v' z := by
  have h1 : vel g v y = vel (one (g y)) (one (v y)) (fun a => a.elim0) := rfl
  have h2 : vel g' v' z = vel (one (g' z)) (one (v' z)) (fun a => a.elim0) := rfl
  rw [h1, h2, hg, hv]

theorem step_at (w g m v : FVec Ideal S .f32) (w' g' m' v' : FVec Ideal T .f32) {y : S.Idx} {z : T.Idx}
    (hw : w y = w' z) (hg : g y = g' z) (hm : m y = m' z) (hv : v y = v' z) : step w g m v y = step w' g' m' v' z := by
  have h1 : step w g m v y = step (one (w y)) (one (g y)) (one (m y)) (one (v y)) (fun a => a.elim0) := rfl
  have h2 : step w' g' m' v' z = step (one (w' z)) (one (g' z)) (one (m' z)) (one (v' z)) (fun a => a.elim0) := rfl
  rw [h1, h2, hw, hg, hm, hv]

end Step

section Total
variable {R C : Nat}

/-- Two indices with the same coordinates. -/
theorem ext2 {y z : (⟨2, ![R, C]⟩ : Shape).Idx} (h0 : (y 0).val = (z 0).val) (h1 : (y 1).val = (z 1).val) : y = z :=
  funext fun a => Fin.ext (by fin_cases a; exacts [h0, h1])
theorem ext3 {K : Nat} {y z : (⟨3, ![K, R, C]⟩ : Shape).Idx} (h0 : (y 0).val = (z 0).val) (h1 : (y 1).val = (z 1).val)
    (h2 : (y 2).val = (z 2).val) : y = z :=
  funext fun a => Fin.ext (by fin_cases a; exacts [h0, h1, h2])

/-- The gradient of a device's own share with the seven that the others sent. -/
def total (G : (⟨2, ![R, C]⟩ : Shape).Idx → EReal) (T : (⟨3, ![7, R, C]⟩ : Shape).Idx → EReal) : (⟨2, ![R, C]⟩ : Shape).Idx → EReal :=
  fun z => G z + ∑ k : Fin 7, T (ix3 k (z 0) (z 1))

variable {φ : FTy} (hc : Shape.ShapeCasts ⟨3, ![1, R, C]⟩ ⟨2, ![R, C]⟩)

/-- One of several layers, as an array of rows. -/
def layer (v : FVec Ideal ⟨3, ![1, R, C]⟩ φ) : FVec Ideal ⟨2, ![R, C]⟩ φ := shapeCast _ v hc

theorem layer_at (v : FVec Ideal ⟨3, ![1, R, C]⟩ φ) (r : Fin R) (n : Fin C) : layer hc v (ix2 r n) = v (ix3 0 r n) :=
  (shapeCast_dropUnit_apply ![R, C] v hc (ix2 r n)).trans (congrArg v (funext fun a => by fin_cases a <;> rfl))

/-- A layer loaded out of a stack of them. -/
theorem slot_at {K : Nat} (T : (⟨3, ![K, R, C]⟩ : Shape).Idx → EReal) (k : Nat) (hk : k < K)
    (inb : ∀ a, (![k, 0, 0] : Fin 3 → Nat) a + (⟨3, ![1, R, C]⟩ : Shape).size a ≤ (⟨3, ![K, R, C]⟩ : Shape).size a) (r : Fin R) (n : Fin C) :
    (View.ld (Val := Elt Ideal) (e' := .f32) T (Rect.unit (s := ⟨3, ![K, R, C]⟩) ![k, 0, 0] (⟨3, ![1, R, C]⟩ : Shape).size inb)) (ix3 0 r n) = T (ix3 ⟨k, hk⟩ r n) := by
  refine congrArg T (funext fun a => Fin.ext ?_)
  fin_cases a <;> simp [ix3]

/-- The share and the seven layers, added one after another. -/
def sums (g : FVec Ideal ⟨2, ![R, C]⟩ .f32) (a b c d e f h : FVec Ideal ⟨3, ![1, R, C]⟩ .f32) : FVec Ideal ⟨2, ![R, C]⟩ .f32 :=
  addf (addf (addf (addf (addf (addf (addf g (layer hc a)) (layer hc b)) (layer hc c)) (layer hc d)) (layer hc e)) (layer hc f)) (layer hc h)

theorem sums_at (g : FVec Ideal ⟨2, ![R, C]⟩ .f32) (T : (⟨3, ![7, R, C]⟩ : Shape).Idx → EReal) (a b c d e f h : FVec Ideal ⟨3, ![1, R, C]⟩ .f32)
    (r : Fin R) (n : Fin C) (ha : a (ix3 0 r n) = T (ix3 0 r n)) (hb : b (ix3 0 r n) = T (ix3 1 r n)) (hc' : c (ix3 0 r n) = T (ix3 2 r n))
    (hd : d (ix3 0 r n) = T (ix3 3 r n)) (he : e (ix3 0 r n) = T (ix3 4 r n)) (hf : f (ix3 0 r n) = T (ix3 5 r n)) (hh : h (ix3 0 r n) = T (ix3 6 r n)) :
    sums hc g a b c d e f h (ix2 r n) = total g T (ix2 r n) := by
  have s : sums hc g a b c d e f h (ix2 r n)
      = g (ix2 r n) + layer hc a (ix2 r n) + layer hc b (ix2 r n) + layer hc c (ix2 r n) + layer hc d (ix2 r n) + layer hc e (ix2 r n)
        + layer hc f (ix2 r n) + layer hc h (ix2 r n) := rfl
  have u : total g T (ix2 r n) = g (ix2 r n) + ∑ k : Fin 7, T (ix3 k r n) := rfl
  rw [s, u, Fin.sum_univ_seven]
  simp only [layer_at, ha, hb, hc', hd, he, hf, hh, add_assoc]

end Total

end Adam

end
-- ==== Proof.SumSlots.lean ====
/- The sum of the devices' packed small gradients and loss. -/
module

public import proofs.«01_k».proof.Defs
public import proofs.«01_k».proof.Proof.Gen.SumSlotsIdeal.Value
public import proofs.«01_k».proof.Proof.Gen.SumSlotsRefIdeal.Run
public import proofs.«01_k».proof.Proof.AdamSpec

@[expose] public section

set_option maxRecDepth 16384

noncomputable section

open Idealize.ShloMosaic Idealize.ShloMosaic.TcCoe Idealize.SL.Sem

namespace Cert.SumSlotsIdeal.Val

open Cert.SumSlotsIdeal Cert.SumSlotsIdeal.Gen

/-- The sum over the eight devices' arrays. -/
def Total (T : S8x672x128.Idx → EReal) : S672x128.Idx → EReal := fun y => ∑ k : Fin 8, T (ix3 k (y 0) (y 1))

theorem out_at (T : Vec Ideal S8x672x128 .f32) (r : Fin 672) (n : Fin 128) : Value.G1 T (ix2 r n) = Total T (ix2 r n) := by
  have s : Value.G1 T (ix2 r n)
      = Adam.layer shapeCasts_S1x672x128_S672x128 (φ := .f32) (View.ld T r0_0) (ix2 r n) + Adam.layer shapeCasts_S1x672x128_S672x128 (φ := .f32) (View.ld T r0_1) (ix2 r n)
        + Adam.layer shapeCasts_S1x672x128_S672x128 (φ := .f32) (View.ld T r0_2) (ix2 r n) + Adam.layer shapeCasts_S1x672x128_S672x128 (φ := .f32) (View.ld T r0_3) (ix2 r n)
        + Adam.layer shapeCasts_S1x672x128_S672x128 (φ := .f32) (View.ld T r0_4) (ix2 r n) + Adam.layer shapeCasts_S1x672x128_S672x128 (φ := .f32) (View.ld T r0_5) (ix2 r n)
        + Adam.layer shapeCasts_S1x672x128_S672x128 (φ := .f32) (View.ld T r0_6) (ix2 r n) + Adam.layer shapeCasts_S1x672x128_S672x128 (φ := .f32) (View.ld T r0_7) (ix2 r n) := rfl
  have u : Total T (ix2 r n) = ∑ k : Fin 8, T (ix3 k r n) := rfl
  rw [s, u, Fin.sum_univ_eight]
  simp only [Adam.layer_at]
  have h (k : Nat) (hk : k < 8) inb := Adam.slot_at T k hk inb r n
  exact congrArg₂ (· + ·) (congrArg₂ (· + ·) (congrArg₂ (· + ·) (congrArg₂ (· + ·) (congrArg₂ (· + ·) (congrArg₂ (· + ·) (congrArg₂ (· + ·)
    (h 0 (by omega) _) (h 1 (by omega) _)) (h 2 (by omega) _)) (h 3 (by omega) _)) (h 4 (by omega) _)) (h 5 (by omega) _)) (h 6 (by omega) _)) (h 7 (by omega) _)

theorem out_eq (T : Vec Ideal S8x672x128 .f32) : Value.G1 T = Total T := funext fun y => by
  have e : y = ix2 (n0 := 672) (n1 := 128) (y 0) (y 1) := funext fun a => by fin_cases a <;> rfl
  rw [e]
  exact out_at T (y 0) (y 1)

end Cert.SumSlotsIdeal.Val

namespace Cert.SumSlotsRefIdeal.Val

open Cert.SumSlotsRefIdeal Cert.SumSlotsRefIdeal.Gen Facts

theorem res_eq (T : FVec Ideal S8x672x128 .f32) :
    Host.reduceAdd T (constant S_ .f32 0x00000000#32) reducesTo_S8x672x128_S672x128_d0 h_S_ = Cert.SumSlotsIdeal.Val.Total T := funext fun y => by
  rw [show y = ix2 (y 0) (y 1) from funext fun a => by fin_cases a <;> rfl]
  unfold Cert.SumSlotsIdeal.Val.Total
  generalize y 0 = r
  generalize y 1 = n
  pointwise

theorem frame : Cert.quiescent_SumSlotsRefIdeal := fun m ρ _ =>
  (θ_run Cert.SumSlotsRefIdeal.defs _ _).mono
    (fun r h => ⟨fun c => (h c).2, Idealize.ShloMosaic.sem_eq_zero_of_no_sems (by decide) r.2⟩)
    (Cert.SumSlotsRefIdeal.Value.run (F := Ideal) m ρ)

end Cert.SumSlotsRefIdeal.Val

namespace Cert.SumSlotsMain

open Cert.SumSlotsIdeal.Val

theorem algebraic : Cert.algebraic_SumSlotsIdeal_SumSlotsRefIdeal := by
  intro m ρ m' ρ' _ hagree
  refine ⟨fun c => Total (m ((c.tc : Thread Cert.SumSlotsIdeal.nD Cert.SumSlotsIdeal.τ).loc Cert.SumSlotsIdeal.main_arg0)), ?_, ?_⟩
  · exact (θ_run Cert.SumSlotsIdeal.defs _ _).mono (fun r h c => ⟨(h c).1.trans (out_eq _), (h c).2⟩)
      (Cert.SumSlotsIdeal.Value.run (F := Ideal) m ρ)
  · refine (θ_run Cert.SumSlotsRefIdeal.defs _ _).mono (fun r h c => ⟨(h c).1.trans ?_, (h c).2⟩)
      (Cert.SumSlotsRefIdeal.Value.run (F := Ideal) m' ρ')
    rw [hagree c]
    exact Cert.SumSlotsRefIdeal.Val.res_eq _

end Cert.SumSlotsMain

end
-- ==== Proof.AdamwGate.lean ====
/- The step of the two wide weights of the feed-forward part, which have one shape. -/
module

public import proofs.«01_k».proof.Defs
public import proofs.«01_k».proof.Proof.Gen.AdamwGateIdeal.Value
public import proofs.«01_k».proof.Proof.Gen.AdamwGateRefIdeal.Run
public import proofs.«01_k».proof.Proof.AdamSpec

@[expose] public section

set_option maxRecDepth 16384

noncomputable section

open Idealize.ShloMosaic Idealize.ShloMosaic.TcCoe Idealize.SL.Sem
open Idealize.ShloMosaic.Pipeline (Dat)

namespace Cert.AdamwGateIdeal.Val

open Cert.AdamwGateIdeal Cert.AdamwGateIdeal.Gen

theorem hz : (![0, 0] : Fin 2 → Nat) = fun _ => 0 := funext fun a => by fin_cases a <;> rfl

/-- The gradient of a block: its share and the seven sent ones. -/
def grad (g : Vec Ideal S128x704 .f32) (s : Vec Ideal S7x128x704 .bf16) : FVec Ideal S128x704 .f32 :=
  Adam.sums shapeCasts_S1x128x704_S128x704 g (View.ld s r0_1) (View.ld s r0_2) (View.ld s r0_3) (View.ld s r0_4) (View.ld s r0_5) (View.ld s r0_6) (View.ld s r0_7)

section Body
variable (w g m v : Vec Ideal S128x704 .f32) (s : Vec Ideal S7x128x704 .bf16)

theorem grad_at (y : S128x704.Idx) : grad g s y = Adam.total g s y := by
  rw [show y = ix2 (y 0) (y 1) from funext fun a => by fin_cases a <;> rfl]
  exact Adam.sums_at _ g s _ _ _ _ _ _ _ _ _ (Adam.slot_at s 0 (by omega) _ _ _) (Adam.slot_at s 1 (by omega) _ _ _) (Adam.slot_at s 2 (by omega) _ _ _)
    (Adam.slot_at s 3 (by omega) _ _ _) (Adam.slot_at s 4 (by omega) _ _ _) (Adam.slot_at s 5 (by omega) _ _ _) (Adam.slot_at s 6 (by omega) _ _ _)

theorem out5 : out0_5 w g s m v = grad g s := by
  unfold out0_5
  rw [View.canon_unit_zero hz, View.ld_unit_zero (S := S128x704) hz]
  rfl
theorem out6 : out0_6 w g s m v = Adam.step w (grad g s) m v := by
  unfold out0_6 k0_pay5
  rw [View.canon_unit_zero hz]
  simp only [View.ld_unit_zero (S := S128x704) hz]
  rfl
theorem out7 : out0_7 w g s m v = Adam.mom (grad g s) m := by
  unfold out0_7 k0_pay5
  rw [View.canon_unit_zero hz]
  simp only [View.ld_unit_zero (S := S128x704) hz]
  rfl
theorem out8 : out0_8 w g s m v = Adam.vel (grad g s) v := by
  unfold out0_8 k0_pay5
  rw [View.canon_unit_zero hz]
  simp only [View.ld_unit_zero (S := S128x704) hz]
  rfl

end Body

variable (m : (ℓ : Loc nD τ sig) → Buf (Elt Ideal) ℓ) (c : Dev nD)

def argW : (⟨2, ![2048, 704]⟩ : Shape).Idx → EReal := m ((c.tc : Thread nD τ).loc main_arg0)
def argG : (⟨2, ![2048, 704]⟩ : Shape).Idx → EReal := m ((c.tc : Thread nD τ).loc main_arg1)
def argS : (⟨3, ![7, 2048, 704]⟩ : Shape).Idx → EReal := m ((c.tc : Thread nD τ).loc main_arg2)
def argM : (⟨2, ![2048, 704]⟩ : Shape).Idx → EReal := m ((c.tc : Thread nD τ).loc main_arg3)
def argV : (⟨2, ![2048, 704]⟩ : Shape).Idx → EReal := m ((c.tc : Thread nD τ).loc main_arg4)

theorem index : ∀ t : Fin cfg0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

section Point
variable (t : Fin cfg0.N) (y : S128x704.Idx) (z : S2048x704.Idx) (e0 : (z 0).val = 128 * t.val + (y 0).val) (e1 : (z 1).val = (y 1).val)
include e0 e1

theorem block0 : (iblk m c 0 t : Vec Ideal S128x704 .f32) y = argW m c z :=
  congrArg (argW m c) (Adam.ext2 (by blk_simp [(index t).1]; omega) (by blk_simp [(index t).1]; omega))
theorem block1 : (iblk m c 1 t : Vec Ideal S128x704 .f32) y = argG m c z :=
  congrArg (argG m c) (Adam.ext2 (by blk_simp [(index t).2.1]; omega) (by blk_simp [(index t).2.1]; omega))
theorem block3 : (iblk m c 3 t : Vec Ideal S128x704 .f32) y = argM m c z :=
  congrArg (argM m c) (Adam.ext2 (by blk_simp [(index t).2.2.2.1]; omega) (by blk_simp [(index t).2.2.2.1]; omega))
theorem block4 : (iblk m c 4 t : Vec Ideal S128x704 .f32) y = argV m c z :=
  congrArg (argV m c) (Adam.ext2 (by blk_simp [(index t).2.2.2.2.1]; omega) (by blk_simp [(index t).2.2.2.2.1]; omega))

theorem grad_block : grad (iblk m c 1 t) (iblk m c 2 t) y = Adam.total (argG m c) (argS m c) z := by
  rw [grad_at]
  unfold Adam.total
  rw [block1 m c t y z e0 e1]
  congr 1
  refine Finset.sum_congr rfl fun k _ => congrArg (argS m c) (Adam.ext3 ?_ ?_ ?_)
  · blk_simp [(index t).2.2.1]
  · blk_simp [(index t).2.2.1]; dsimp only; omega
  · blk_simp [(index t).2.2.1]; dsimp only; omega

end Point

theorem final5 : (dats m 0 c).arrAt 5 cfg0.N = Adam.total (argG m c) (argS m c) := by
  refine (dats m 0 c).arrAt_eq_of_covers 5 _ (by decide +kernel) fun t hf y => ?_
  blk_simp
  rw [after0_5, out5]
  exact grad_block m c t y _ (by blk_simp [(index t).2.2.2.2.2.1]; omega) (by blk_simp [(index t).2.2.2.2.2.1])

theorem final6 : (dats m 0 c).arrAt 6 cfg0.N = Adam.step (argW m c) (Adam.total (argG m c) (argS m c)) (argM m c) (argV m c) := by
  refine (dats m 0 c).arrAt_eq_of_covers 6 _ (by decide +kernel) fun t hf y => ?_
  blk_simp
  rw [after0_6, out6]
  have e0 : ((win0_6.blk t).view.emb y 0).val = 128 * t.val + (y 0).val := by blk_simp [(index t).2.2.2.2.2.2.1]; omega
  have e1 : ((win0_6.blk t).view.emb y 1).val = (y 1).val := by blk_simp [(index t).2.2.2.2.2.2.1]
  exact Adam.step_at _ _ _ _ _ _ _ _ (block0 m c t y _ e0 e1) (grad_block m c t y _ e0 e1) (block3 m c t y _ e0 e1) (block4 m c t y _ e0 e1)

theorem final7 : (dats m 0 c).arrAt 7 cfg0.N = Adam.mom (Adam.total (argG m c) (argS m c)) (argM m c) := by
  refine (dats m 0 c).arrAt_eq_of_covers 7 _ (by decide +kernel) fun t hf y => ?_
  blk_simp
  rw [after0_7, out7]
  have e0 : ((win0_7.blk t).view.emb y 0).val = 128 * t.val + (y 0).val := by blk_simp [(index t).2.2.2.2.2.2.2.1]; omega
  have e1 : ((win0_7.blk t).view.emb y 1).val = (y 1).val := by blk_simp [(index t).2.2.2.2.2.2.2.1]
  exact Adam.mom_at _ _ _ _ (grad_block m c t y _ e0 e1) (block3 m c t y _ e0 e1)

theorem final8 : (dats m 0 c).arrAt 8 cfg0.N = Adam.vel (Adam.total (argG m c) (argS m c)) (argV m c) := by
  refine (dats m 0 c).arrAt_eq_of_covers 8 _ (by decide +kernel) fun t hf y => ?_
  blk_simp
  rw [after0_8, out8]
  have e0 : ((win0_8.blk t).view.emb y 0).val = 128 * t.val + (y 0).val := by blk_simp [(index t).2.2.2.2.2.2.2.2]; omega
  have e1 : ((win0_8.blk t).view.emb y 1).val = (y 1).val := by blk_simp [(index t).2.2.2.2.2.2.2.2]
  exact Adam.vel_at _ _ _ _ (grad_block m c t y _ e0 e1) (block4 m c t y _ e0 e1)

end Cert.AdamwGateIdeal.Val

namespace Cert.AdamwGateRefIdeal.Val

open Cert.AdamwGateRefIdeal Cert.AdamwGateRefIdeal.Gen Facts

/-- The sum over the devices' shares. -/
theorem grad_eq (G : FVec Ideal S2048x704 .f32) (T : FVec Ideal S7x2048x704 .bf16) :
    addf G (Host.reduceAdd (extf .f32 T bitsLt_bf16_f32) (constant S_ .f32 0x00000000#32) reducesTo_S7x2048x704_S2048x704_d0 h_S_) = Adam.total G T :=
  funext fun y => by
    rw [show y = ix2 (y 0) (y 1) from funext fun a => by fin_cases a <;> rfl]
    unfold Adam.total
    generalize y 0 = r
    generalize y 1 = n
    pointwise

theorem frame : Cert.quiescent_AdamwGateRefIdeal := fun m ρ _ =>
  (θ_run Cert.AdamwGateRefIdeal.defs _ _).mono
    (fun r h => ⟨fun c => (h c).2.2.2.2, Idealize.ShloMosaic.sem_eq_zero_of_no_sems (by decide) r.2⟩)
    (Cert.AdamwGateRefIdeal.Value.run (F := Ideal) m ρ)

end Cert.AdamwGateRefIdeal.Val

namespace Cert.AdamwGateMain

open Cert.AdamwGateIdeal.Val

theorem algebraic : Cert.algebraic_AdamwGateIdeal_AdamwGateRefIdeal := by
  intro m ρ m' ρ' _ hagree
  refine ⟨fun c => Adam.total (argG m c) (argS m c), fun c => Adam.step (argW m c) (Adam.total (argG m c) (argS m c)) (argM m c) (argV m c),
    fun c => Adam.mom (Adam.total (argG m c) (argS m c)) (argM m c), fun c => Adam.vel (Adam.total (argG m c) (argS m c)) (argV m c), ?_, ?_⟩
  · exact (θ_run Cert.AdamwGateIdeal.defs _ _).mono
      (fun r h c => ⟨(h c).1.trans (final5 m c), (h c).2.1.trans (final6 m c), (h c).2.2.1.trans (final7 m c), (h c).2.2.2.1.trans (final8 m c), (h c).2.2.2.2⟩)
      (Cert.AdamwGateIdeal.Value.run_blocks (F := Ideal) m ρ)
  · refine (θ_run Cert.AdamwGateRefIdeal.defs _ _).mono (fun r h c => ?_) (Cert.AdamwGateRefIdeal.Value.run (F := Ideal) m' ρ')
    obtain ⟨h1, h2, h3, h4, hk⟩ := h c
    rw [(hagree c).1, (hagree c).2.1, (hagree c).2.2.1, (hagree c).2.2.2.1, (hagree c).2.2.2.2, Cert.AdamwGateRefIdeal.Val.grad_eq] at h2
    rw [(hagree c).2.1, (hagree c).2.2.1, Cert.AdamwGateRefIdeal.Val.grad_eq] at h1
    rw [(hagree c).2.1, (hagree c).2.2.1, (hagree c).2.2.2.1, Cert.AdamwGateRefIdeal.Val.grad_eq] at h3
    rw [(hagree c).2.1, (hagree c).2.2.1, (hagree c).2.2.2.2, Cert.AdamwGateRefIdeal.Val.grad_eq] at h4
    exact ⟨h1, h2, h3, h4, hk⟩

end Cert.AdamwGateMain

end
-- ==== Proof.lean ====
/- The claims, put together: each program's frame, the idealization's preservation, and the equality of the
   kernel's results with the reference's, the side conditions supplied first. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.GateDx.Frame
public import proofs.«01_k».proof.Proof.Gen.GateDxIdeal.Frame
public import proofs.«01_k».proof.Proof.Gen.GateDxIdeal.Value
public import proofs.«01_k».proof.Proof.Gen.GateDxRefIdeal
public import proofs.«01_k».proof.Proof.Gen.GateDxRefIdeal.Run
public import proofs.«01_k».proof.Proof.Gen.GateDw.Frame
public import proofs.«01_k».proof.Proof.Gen.GateDwIdeal.Frame
public import proofs.«01_k».proof.Proof.Gen.GateDwIdeal.Value
public import proofs.«01_k».proof.Proof.Gen.GateDwRefIdeal
public import proofs.«01_k».proof.Proof.Gen.GateDwRefIdeal.Run
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.UpDxRms.Frame
public import proofs.«01_k».proof.Proof.Gen.UpDxRmsIdeal.Frame
public import proofs.«01_k».proof.Proof.Gen.UpDxRmsIdeal.Value
public import proofs.«01_k».proof.Proof.Gen.UpDxRmsRefIdeal
public import proofs.«01_k».proof.Proof.Gen.UpDxRmsRefIdeal.Run
public import proofs.«01_k».proof.Proof.Gen.LatBwd.Frame
public import proofs.«01_k».proof.Proof.Gen.LatBwdIdeal.Frame
public import proofs.«01_k».proof.Proof.Gen.LatBwdIdeal.Value
public import proofs.«01_k».proof.Proof.Gen.LatBwdRefIdeal
public import proofs.«01_k».proof.Proof.Gen.LatBwdRefIdeal.Run
public import proofs.«01_k».proof.Proof.Gen.ODx.Frame
public import proofs.«01_k».proof.Proof.Gen.ODxIdeal.Frame
public import proofs.«01_k».proof.Proof.Gen.ODxIdeal.Value
public import proofs.«01_k».proof.Proof.Gen.ODxRefIdeal
public import proofs.«01_k».proof.Proof.Gen.ODxRefIdeal.Run
public import proofs.«01_k».proof.Proof.Gen.ODw.Frame
public import proofs.«01_k».proof.Proof.Gen.ODwIdeal.Frame
public import proofs.«01_k».proof.Proof.Gen.ODwIdeal.Value
public import proofs.«01_k».proof.Proof.Gen.ODwRefIdeal
public import proofs.«01_k».proof.Proof.Gen.ODwRefIdeal.Run
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.QUpDx.Frame
public import proofs.«01_k».proof.Proof.Gen.QUpDxIdeal.Frame
public import proofs.«01_k».proof.Proof.Gen.QUpDxIdeal.Value
public import proofs.«01_k».proof.Proof.Gen.QUpDxRefIdeal
public import proofs.«01_k».proof.Proof.Gen.QUpDxRefIdeal.Run
public import proofs.«01_k».proof.Proof.Gen.QUpDw.Frame
public import proofs.«01_k».proof.Proof.Gen.QUpDwIdeal.Frame
public import proofs.«01_k».proof.Proof.Gen.QUpDwIdeal.Value
public import proofs.«01_k».proof.Proof.Gen.QUpDwRefIdeal
public import proofs.«01_k».proof.Proof.Gen.QUpDwRefIdeal.Run
public import proofs.«01_k».proof.Proof.Gen.KvUpDx.Frame
public import proofs.«01_k».proof.Proof.Gen.KvUpDxIdeal.Frame
public import proofs.«01_k».proof.Proof.Gen.KvUpDxIdeal.Value
public import proofs.«01_k».proof.Proof.Gen.KvUpDxRefIdeal
public import proofs.«01_k».proof.Proof.Gen.KvUpDxRefIdeal.Run
public import proofs.«01_k».proof.Proof.Gen.KvUpDw.Frame
public import proofs.«01_k».proof.Proof.Gen.KvUpDwIdeal.Frame
public import proofs.«01_k».proof.Proof.Gen.KvUpDwIdeal.Value
public import proofs.«01_k».proof.Proof.Gen.KvUpDwRefIdeal
public import proofs.«01_k».proof.Proof.Gen.KvUpDwRefIdeal.Run
public import proofs.«01_k».proof.Proof.Gen.MixIn.Frame
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.QUp.Frame
public import proofs.«01_k».proof.Proof.Gen.QUpIdeal.Frame
public import proofs.«01_k».proof.Proof.Gen.QUpIdeal.Value
public import proofs.«01_k».proof.Proof.Gen.QUpRefIdeal
public import proofs.«01_k».proof.Proof.Gen.QUpRefIdeal.Run
public import proofs.«01_k».proof.Proof.Gen.KvUp.Frame
public import proofs.«01_k».proof.Proof.Gen.KvUpIdeal.Frame
public import proofs.«01_k».proof.Proof.Gen.KvUpIdeal.Value
public import proofs.«01_k».proof.Proof.Gen.KvUpRefIdeal
public import proofs.«01_k».proof.Proof.Gen.KvUpRefIdeal.Run
public import proofs.«01_k».proof.Proof.Gen.ORms.Frame
public import proofs.«01_k».proof.Proof.Gen.ORmsIdeal.Frame
public import proofs.«01_k».proof.Proof.Gen.ORmsIdeal.Value
public import proofs.«01_k».proof.Proof.Gen.ORmsRefIdeal
public import proofs.«01_k».proof.Proof.Gen.ORmsRefIdeal.Run
public import proofs.«01_k».proof.Proof.Gen.DownLoss.Frame
public import proofs.«01_k».proof.Proof.Gen.DownLossIdeal.Frame
public import proofs.«01_k».proof.Proof.Gen.DownLossIdeal.Value
public import proofs.«01_k».proof.Proof.Gen.DownLossRefIdeal
public import proofs.«01_k».proof.Proof.Gen.DownLossRefIdeal.Run
public import proofs.«01_k».proof.Proof.Gen.MemxBwd.Frame
public import proofs.«01_k».proof.Proof.Gen.MemxBwdIdeal.Frame
public import proofs.«01_k».proof.Proof.Gen.MemxBwdIdeal.Value
public import proofs.«01_k».proof.Proof.Gen.MemxBwdRefIdeal
public import proofs.«01_k».proof.Proof.Gen.MemxBwdRefIdeal.Run
public import proofs.«01_k».proof.Proof.Gen.MemkvBwd.Frame
public import proofs.«01_k».proof.Proof.Gen.MemkvBwdIdeal.Frame
public import proofs.«01_k».proof.Proof.Gen.MemkvBwdIdeal.Value
public import proofs.«01_k».proof.Proof.Gen.MemkvBwdRefIdeal
public import proofs.«01_k».proof.Proof.Gen.MemkvBwdRefIdeal.Run
public import proofs.«01_k».proof.Proof.Gen.MemKvDw.Frame
public import proofs.«01_k».proof.Proof.Gen.MemKvDwIdeal.Frame
public import proofs.«01_k».proof.Proof.Gen.MemKvDwIdeal.Value
public import proofs.«01_k».proof.Proof.Gen.MemKvDwRefIdeal
public import proofs.«01_k».proof.Proof.Gen.MemKvDwRefIdeal.Run
public import proofs.«01_k».proof.Proof.Gen.MemKvDx.Frame
public import proofs.«01_k».proof.Proof.Gen.MemKvDxIdeal.Frame
public import proofs.«01_k».proof.Proof.Gen.MemKvDxIdeal.Value
public import proofs.«01_k».proof.Proof.Gen.MemKvDxRefIdeal
public import proofs.«01_k».proof.Proof.Gen.MemKvDxRefIdeal.Run
public import proofs.«01_k».proof.Proof.Gen.MemGainBwd.Frame
public import proofs.«01_k».proof.Proof.Gen.MemGainBwdIdeal.Frame
public import proofs.«01_k».proof.Proof.Gen.MemGainBwdIdeal.Value
public import proofs.«01_k».proof.Proof.Gen.MemGainBwdRefIdeal
public import proofs.«01_k».proof.Proof.Gen.MemGainBwdRefIdeal.Run
public import proofs.«01_k».proof.Proof.Gen.MemNorm.Frame
public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemkvPrep.Frame
public import proofs.«01_k».proof.Proof.Gen.MemkvPrepIdeal.Frame
public import proofs.«01_k».proof.Proof.Gen.MemkvPrepIdeal.Value
public import proofs.«01_k».proof.Proof.Gen.MemkvPrepRefIdeal
public import proofs.«01_k».proof.Proof.Gen.MemkvPrepRefIdeal.Run
public import proofs.«01_k».proof.Proof.Gen.MemxFwd.Frame
public import proofs.«01_k».proof.Proof.Gen.MemxFwdIdeal.Frame
public import proofs.«01_k».proof.Proof.Gen.MemxFwdIdeal.Value
public import proofs.«01_k».proof.Proof.Gen.MemxFwdRefIdeal
public import proofs.«01_k».proof.Proof.Gen.MemxFwdRefIdeal.Run
public import proofs.«01_k».proof.Proof.Gen.LatFwd.Frame
public import proofs.«01_k».proof.Proof.Gen.LatFwdIdeal.Frame
public import proofs.«01_k».proof.Proof.Gen.LatFwdIdeal.Value
public import proofs.«01_k».proof.Proof.Gen.LatFwdRefIdeal
public import proofs.«01_k».proof.Proof.Gen.LatFwdRefIdeal.Run
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.SumSlots.Frame
public import proofs.«01_k».proof.Proof.Gen.SumSlotsIdeal.Frame
public import proofs.«01_k».proof.Proof.Gen.SumSlotsIdeal.Value
public import proofs.«01_k».proof.Proof.Gen.SumSlotsRefIdeal
public import proofs.«01_k».proof.Proof.Gen.SumSlotsRefIdeal.Run
public import proofs.«01_k».proof.Proof.Gen.AdamwGate.Frame
public import proofs.«01_k».proof.Proof.Gen.AdamwGateIdeal.Frame
public import proofs.«01_k».proof.Proof.Gen.AdamwGateIdeal.Value
public import proofs.«01_k».proof.Proof.Gen.AdamwGateRefIdeal
public import proofs.«01_k».proof.Proof.Gen.AdamwGateRefIdeal.Run
public import proofs.«01_k».proof.Proof.Gen.Pre_finite_reads
public import proofs.«01_k».proof.Proof.Gen.Pre_finite_keys
public import proofs.«01_k».proof.Proof.ConvPre
public import proofs.«01_k».proof.Proof.ConvMain
public import proofs.«01_k».proof.Proof.GateUp
public import proofs.«01_k».proof.Proof.GateDx
public import proofs.«01_k».proof.Proof.GateDw
public import proofs.«01_k».proof.Proof.DownDx
public import proofs.«01_k».proof.Proof.DownDw
public import proofs.«01_k».proof.Proof.UpDxRms
public import proofs.«01_k».proof.Proof.LatBwd
public import proofs.«01_k».proof.Proof.ODx
public import proofs.«01_k».proof.Proof.ODw
public import proofs.«01_k».proof.Proof.InDw
public import proofs.«01_k».proof.Proof.QUpDx
public import proofs.«01_k».proof.Proof.QUpDw
public import proofs.«01_k».proof.Proof.KvUpDx
public import proofs.«01_k».proof.Proof.KvUpDw
public import proofs.«01_k».proof.Proof.MixIn
public import proofs.«01_k».proof.Proof.QUp
public import proofs.«01_k».proof.Proof.KvUp
public import proofs.«01_k».proof.Proof.ORms
public import proofs.«01_k».proof.Proof.DownLoss
public import proofs.«01_k».proof.Proof.MemxBwd
public import proofs.«01_k».proof.Proof.MemkvBwd
public import proofs.«01_k».proof.Proof.MemKvDw
public import proofs.«01_k».proof.Proof.MemKvDx
public import proofs.«01_k».proof.Proof.MemGainBwd
public import proofs.«01_k».proof.Proof.MemNorm
public import proofs.«01_k».proof.Proof.MemKv
public import proofs.«01_k».proof.Proof.MemkvPrep
public import proofs.«01_k».proof.Proof.MemxFwd
public import proofs.«01_k».proof.Proof.LatFwd
public import proofs.«01_k».proof.Proof.ConvFwd
public import proofs.«01_k».proof.Proof.SumSlots
public import proofs.«01_k».proof.Proof.AdamwGate

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.GateUp.Gen.facts, Cert.GateUpIdeal.Gen.facts, Cert.GateUpRefIdeal.Gen.facts,
    Cert.GateDx.Gen.facts, Cert.GateDxIdeal.Gen.facts, Cert.GateDxRefIdeal.Gen.facts,
    Cert.GateDw.Gen.facts, Cert.GateDwIdeal.Gen.facts, Cert.GateDwRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDxRms.Gen.facts, Cert.UpDxRmsIdeal.Gen.facts, Cert.UpDxRmsRefIdeal.Gen.facts,
    Cert.LatBwd.Gen.facts, Cert.LatBwdIdeal.Gen.facts, Cert.LatBwdRefIdeal.Gen.facts,
    Cert.ODx.Gen.facts, Cert.ODxIdeal.Gen.facts, Cert.ODxRefIdeal.Gen.facts,
    Cert.ODw.Gen.facts, Cert.ODwIdeal.Gen.facts, Cert.ODwRefIdeal.Gen.facts,
    Cert.InDw.Gen.facts, Cert.InDwIdeal.Gen.facts, Cert.InDwRefIdeal.Gen.facts,
    Cert.QUpDx.Gen.facts, Cert.QUpDxIdeal.Gen.facts, Cert.QUpDxRefIdeal.Gen.facts,
    Cert.QUpDw.Gen.facts, Cert.QUpDwIdeal.Gen.facts, Cert.QUpDwRefIdeal.Gen.facts,
    Cert.KvUpDx.Gen.facts, Cert.KvUpDxIdeal.Gen.facts, Cert.KvUpDxRefIdeal.Gen.facts,
    Cert.KvUpDw.Gen.facts, Cert.KvUpDwIdeal.Gen.facts, Cert.KvUpDwRefIdeal.Gen.facts,
    Cert.MixIn.Gen.facts, Cert.MixInIdeal.Gen.facts, Cert.MixInRefIdeal.Gen.facts,
    Cert.QUp.Gen.facts, Cert.QUpIdeal.Gen.facts, Cert.QUpRefIdeal.Gen.facts,
    Cert.KvUp.Gen.facts, Cert.KvUpIdeal.Gen.facts, Cert.KvUpRefIdeal.Gen.facts,
    Cert.ORms.Gen.facts, Cert.ORmsIdeal.Gen.facts, Cert.ORmsRefIdeal.Gen.facts,
    Cert.DownLoss.Gen.facts, Cert.DownLossIdeal.Gen.facts, Cert.DownLossRefIdeal.Gen.facts,
    Cert.MemxBwd.Gen.facts, Cert.MemxBwdIdeal.Gen.facts, Cert.MemxBwdRefIdeal.Gen.facts,
    Cert.MemkvBwd.Gen.facts, Cert.MemkvBwdIdeal.Gen.facts, Cert.MemkvBwdRefIdeal.Gen.facts,
    Cert.MemKvDw.Gen.facts, Cert.MemKvDwIdeal.Gen.facts, Cert.MemKvDwRefIdeal.Gen.facts,
    Cert.MemKvDx.Gen.facts, Cert.MemKvDxIdeal.Gen.facts, Cert.MemKvDxRefIdeal.Gen.facts,
    Cert.MemGainBwd.Gen.facts, Cert.MemGainBwdIdeal.Gen.facts, Cert.MemGainBwdRefIdeal.Gen.facts,
    Cert.MemNorm.Gen.facts, Cert.MemNormIdeal.Gen.facts, Cert.MemNormRefIdeal.Gen.facts,
    Cert.MemKv.Gen.facts, Cert.MemKvIdeal.Gen.facts, Cert.MemKvRefIdeal.Gen.facts,
    Cert.MemkvPrep.Gen.facts, Cert.MemkvPrepIdeal.Gen.facts, Cert.MemkvPrepRefIdeal.Gen.facts,
    Cert.MemxFwd.Gen.facts, Cert.MemxFwdIdeal.Gen.facts, Cert.MemxFwdRefIdeal.Gen.facts,
    Cert.LatFwd.Gen.facts, Cert.LatFwdIdeal.Gen.facts, Cert.LatFwdRefIdeal.Gen.facts,
    Cert.ConvFwd.Gen.facts, Cert.ConvFwdIdeal.Gen.facts, Cert.ConvFwdRefIdeal.Gen.facts,
    Cert.SumSlots.Gen.facts, Cert.SumSlotsIdeal.Gen.facts, Cert.SumSlotsRefIdeal.Gen.facts,
    Cert.AdamwGate.Gen.facts, Cert.AdamwGateIdeal.Gen.facts, Cert.AdamwGateRefIdeal.Gen.facts,
    Cert.Pre_finite_up.facts, Cert.Pre_finite_reads.Gen.facts, Cert.Pre_finite_keys.Gen.facts,
    fun m ρ _ => Cert.Kernel.Gen.frame m ρ,
    fun m ρ _ => Cert.KernelIdeal.Gen.frame m ρ,
    fun m ρ _ => Cert.KernelIdeal.Gen.frame m ρ,
    Cert.ConvMain.frame_reference,
    fun m ρ _ => Cert.ConvMain.frame_reference m ρ trivial,
    fun m ρ _ => Cert.GateUp.Gen.frame m ρ, fun m ρ _ => Cert.GateUpIdeal.Gen.frame m ρ, Cert.GateUpRefIdeal.Val.frame,
    fun m ρ _ => Cert.GateDx.Gen.frame m ρ, fun m ρ _ => Cert.GateDxIdeal.Gen.frame m ρ, Cert.GateDxRefIdeal.Val.frame,
    fun m ρ _ => Cert.GateDw.Gen.frame m ρ, fun m ρ _ => Cert.GateDwIdeal.Gen.frame m ρ, Cert.GateDwRefIdeal.Val.frame,
    fun m ρ _ => Cert.DownDx.Gen.frame m ρ, fun m ρ _ => Cert.DownDxIdeal.Gen.frame m ρ, Cert.DownDxRefIdeal.Val.frame,
    fun m ρ _ => Cert.DownDw.Gen.frame m ρ, fun m ρ _ => Cert.DownDwIdeal.Gen.frame m ρ, Cert.DownDwRefIdeal.Val.frame,
    fun m ρ _ => Cert.UpDxRms.Gen.frame m ρ, fun m ρ _ => Cert.UpDxRmsIdeal.Gen.frame m ρ, Cert.UpDxRmsRefIdeal.Val.frame,
    fun m ρ _ => Cert.LatBwd.Gen.frame m ρ, fun m ρ _ => Cert.LatBwdIdeal.Gen.frame m ρ, Cert.LatBwdRefIdeal.Val.frame,
    fun m ρ _ => Cert.ODx.Gen.frame m ρ, fun m ρ _ => Cert.ODxIdeal.Gen.frame m ρ, Cert.ODxRefIdeal.Val.frame,
    fun m ρ _ => Cert.ODw.Gen.frame m ρ, fun m ρ _ => Cert.ODwIdeal.Gen.frame m ρ, Cert.ODwRefIdeal.Val.frame,
    fun m ρ _ => Cert.InDw.Gen.frame m ρ, fun m ρ _ => Cert.InDwIdeal.Gen.frame m ρ, Cert.InDwRefIdeal.Val.frame,
    fun m ρ _ => Cert.QUpDx.Gen.frame m ρ, fun m ρ _ => Cert.QUpDxIdeal.Gen.frame m ρ, Cert.QUpDxRefIdeal.Val.frame,
    fun m ρ _ => Cert.QUpDw.Gen.frame m ρ, fun m ρ _ => Cert.QUpDwIdeal.Gen.frame m ρ, Cert.QUpDwRefIdeal.Val.frame,
    fun m ρ _ => Cert.KvUpDx.Gen.frame m ρ, fun m ρ _ => Cert.KvUpDxIdeal.Gen.frame m ρ, Cert.KvUpDxRefIdeal.Val.frame,
    fun m ρ _ => Cert.KvUpDw.Gen.frame m ρ, fun m ρ _ => Cert.KvUpDwIdeal.Gen.frame m ρ, Cert.KvUpDwRefIdeal.Val.frame,
    fun m ρ _ => Cert.MixIn.Gen.frame m ρ, fun m ρ _ => Cert.MixInIdeal.Gen.frame m ρ, Cert.MixInRefIdeal.Val.frame,
    fun m ρ _ => Cert.QUp.Gen.frame m ρ, fun m ρ _ => Cert.QUpIdeal.Gen.frame m ρ, Cert.QUpRefIdeal.Val.frame,
    fun m ρ _ => Cert.KvUp.Gen.frame m ρ, fun m ρ _ => Cert.KvUpIdeal.Gen.frame m ρ, Cert.KvUpRefIdeal.Val.frame,
    fun m ρ _ => Cert.ORms.Gen.frame m ρ, fun m ρ _ => Cert.ORmsIdeal.Gen.frame m ρ, Cert.ORmsRefIdeal.Val.frame,
    fun m ρ _ => Cert.DownLoss.Gen.frame m ρ, fun m ρ _ => Cert.DownLossIdeal.Gen.frame m ρ, Cert.DownLossRefIdeal.Val.frame,
    fun m ρ _ => Cert.MemxBwd.Gen.frame m ρ, fun m ρ _ => Cert.MemxBwdIdeal.Gen.frame m ρ, fun m ρ _ => Cert.MemxBwdIdeal.Gen.frame m ρ,
    Cert.MemxBwdRefIdeal.Val.frame, fun m ρ _ => Cert.MemxBwdRefIdeal.Val.frame m ρ trivial,
    fun m ρ _ => Cert.MemkvBwd.Gen.frame m ρ, fun m ρ _ => Cert.MemkvBwdIdeal.Gen.frame m ρ, Cert.MemkvBwdRefIdeal.Val.frame,
    fun m ρ _ => Cert.MemKvDw.Gen.frame m ρ, fun m ρ _ => Cert.MemKvDwIdeal.Gen.frame m ρ, Cert.MemKvDwRefIdeal.Val.frame,
    fun m ρ _ => Cert.MemKvDx.Gen.frame m ρ, fun m ρ _ => Cert.MemKvDxIdeal.Gen.frame m ρ, Cert.MemKvDxRefIdeal.Val.frame,
    fun m ρ _ => Cert.MemGainBwd.Gen.frame m ρ, fun m ρ _ => Cert.MemGainBwdIdeal.Gen.frame m ρ, Cert.MemGainBwdRefIdeal.Val.frame,
    fun m ρ _ => Cert.MemNorm.Gen.frame m ρ, fun m ρ _ => Cert.MemNormIdeal.Gen.frame m ρ, Cert.MemNormRefIdeal.Val.frame,
    fun m ρ _ => Cert.MemKv.Gen.frame m ρ, fun m ρ _ => Cert.MemKvIdeal.Gen.frame m ρ, Cert.MemKvRefIdeal.Val.frame,
    fun m ρ _ => Cert.MemkvPrep.Gen.frame m ρ, fun m ρ _ => Cert.MemkvPrepIdeal.Gen.frame m ρ, Cert.MemkvPrepRefIdeal.Val.frame,
    fun m ρ _ => Cert.MemxFwd.Gen.frame m ρ, fun m ρ _ => Cert.MemxFwdIdeal.Gen.frame m ρ, fun m ρ _ => Cert.MemxFwdIdeal.Gen.frame m ρ,
    Cert.MemxFwdRefIdeal.Val.frame, fun m ρ _ => Cert.MemxFwdRefIdeal.Val.frame m ρ trivial,
    fun m ρ _ => Cert.LatFwd.Gen.frame m ρ, fun m ρ _ => Cert.LatFwdIdeal.Gen.frame m ρ, Cert.LatFwdRefIdeal.Val.frame,
    fun m ρ _ => Cert.ConvFwd.Gen.frame m ρ, fun m ρ _ => Cert.ConvFwdIdeal.Gen.frame m ρ, Cert.ConvFwdRefIdeal.Val.frame,
    fun m ρ _ => Cert.SumSlots.Gen.frame m ρ, fun m ρ _ => Cert.SumSlotsIdeal.Gen.frame m ρ, Cert.SumSlotsRefIdeal.Val.frame,
    fun m ρ _ => Cert.AdamwGate.Gen.frame m ρ, fun m ρ _ => Cert.AdamwGateIdeal.Gen.frame m ρ, Cert.AdamwGateRefIdeal.Val.frame,
    trivial, Cert.ConvMain.algebraic,
    trivial, Cert.GateUpMain.algebraic,
    trivial, Cert.GateDxMain.algebraic,
    trivial, Cert.GateDwMain.algebraic,
    trivial, Cert.DownDxMain.algebraic,
    trivial, Cert.DownDwMain.algebraic,
    trivial, Cert.UpDxRmsMain.algebraic,
    trivial, Cert.LatBwdMain.algebraic,
    trivial, Cert.ODxMain.algebraic,
    trivial, Cert.ODwMain.algebraic,
    trivial, Cert.InDwMain.algebraic,
    trivial, Cert.QUpDxMain.algebraic,
    trivial, Cert.QUpDwMain.algebraic,
    trivial, Cert.KvUpDxMain.algebraic,
    trivial, Cert.KvUpDwMain.algebraic,
    trivial, Cert.MixInMain.algebraic,
    trivial, Cert.QUpMain.algebraic,
    trivial, Cert.KvUpMain.algebraic,
    trivial, Cert.ORmsMain.algebraic,
    trivial, Cert.DownLossMain.algebraic,
    trivial, Cert.MemxBwdMain.algebraic,
    trivial, Cert.MemkvBwdMain.algebraic,
    trivial, Cert.MemKvDwMain.algebraic,
    trivial, Cert.MemKvDxMain.algebraic,
    trivial, Cert.MemGainBwdMain.algebraic,
    trivial, Cert.MemNormMain.algebraic,
    trivial, Cert.MemKvMain.algebraic,
    trivial, Cert.MemkvPrepMain.algebraic,
    trivial, Cert.MemxFwdMain.algebraic,
    trivial, Cert.LatFwdMain.algebraic,
    trivial, Cert.ConvFwdMain.algebraic,
    trivial, Cert.SumSlotsMain.algebraic,
    trivial, Cert.AdamwGateMain.algebraic⟩

end Cert.Proof

end
